-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DnHalves (m : (ℓ : Loc Cert.DnHalves.nD Cert.DnHalves.τ Cert.DnHalves.sig) → Buf (Elt Bits) ℓ) : Prop :=
  True

def Pre_DnHalvesIdeal (m : (ℓ : Loc Cert.DnHalvesIdeal.nD Cert.DnHalvesIdeal.τ Cert.DnHalvesIdeal.sig) → Buf (Elt Ideal) ℓ) : Prop :=
  True

def Pre_DnHalvesRefIdeal (m : (ℓ : Loc Cert.DnHalvesRefIdeal.nD Cert.DnHalvesRefIdeal.τ Cert.DnHalvesRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_QueryDx (m : (ℓ : Loc Cert.QueryDx.nD Cert.QueryDx.τ Cert.QueryDx.sig) → Buf (Elt Bits) ℓ) : Prop :=
  True

def Pre_QueryDxIdeal (m : (ℓ : Loc Cert.QueryDxIdeal.nD Cert.QueryDxIdeal.τ Cert.QueryDxIdeal.sig) → Buf (Elt Ideal) ℓ) : Prop :=
  True

def Pre_QueryDxRefIdeal (m : (ℓ : Loc Cert.QueryDxRefIdeal.nD Cert.QueryDxRefIdeal.τ Cert.QueryDxRefIdeal.sig) → Buf (Elt Ideal) ℓ) : Prop :=
  True

def Pre_OutSum (m : (ℓ : Loc Cert.OutSum.nD Cert.OutSum.τ Cert.OutSum.sig) → Buf (Elt Bits) ℓ) : Prop :=
  True

def Pre_OutSumIdeal (m : (ℓ : Loc Cert.OutSumIdeal.nD Cert.OutSumIdeal.τ Cert.OutSumIdeal.sig) → Buf (Elt Ideal) ℓ) : Prop :=
  True

def Pre_OutSumRefIdeal (m : (ℓ : Loc Cert.OutSumRefIdeal.nD Cert.OutSumRefIdeal.τ Cert.OutSumRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_FfnHalves (m : (ℓ : Loc Cert.FfnHalves.nD Cert.FfnHalves.τ Cert.FfnHalves.sig) → Buf (Elt Bits) ℓ) : Prop :=
  True

def Pre_FfnHalvesIdeal (m : (ℓ : Loc Cert.FfnHalvesIdeal.nD Cert.FfnHalvesIdeal.τ Cert.FfnHalvesIdeal.sig) → Buf (Elt Ideal) ℓ) : Prop :=
  True

def Pre_FfnHalvesRefIdeal (m : (ℓ : Loc Cert.FfnHalvesRefIdeal.nD Cert.FfnHalvesRefIdeal.τ Cert.FfnHalvesRefIdeal.sig) → Buf (Elt Ideal) ℓ) : Prop :=
  True

def Pre_DwMine [hPre_place_in_range : Cert.Pre_place_in_range.Facts] (m : (ℓ : Loc Cert.DwMine.nD Cert.DwMine.τ Cert.DwMine.sig) → Buf (Elt Bits) ℓ) : Prop :=
  ∀ c : Dev Cert.DwMine.nD,
    (Cert.Pre_place_in_range.fn (F := Bits) (m ((c.tc : Thread Cert.DwMine.nD Cert.DwMine.τ).loc Cert.DwMine.main_arg0)) (m ((c.tc : Thread Cert.DwMine.nD Cert.DwMine.τ).loc Cert.DwMine.main_arg1)) (m ((c.tc : Thread Cert.DwMine.nD Cert.DwMine.τ).loc Cert.DwMine.main_arg2))) = (fun _ => 1#1)

def Pre_DwMineIdeal [hPre_place_in_range : Cert.Pre_place_in_range.Facts] (m : (ℓ : Loc Cert.DwMineIdeal.nD Cert.DwMineIdeal.τ Cert.DwMineIdeal.sig) → Buf (Elt Ideal) ℓ) : Prop :=
  ∀ c : Dev Cert.DwMineIdeal.nD,
    (Cert.Pre_place_in_range.fn (F := Ideal) (m ((c.tc : Thread Cert.DwMineIdeal.nD Cert.DwMineIdeal.τ).loc Cert.DwMineIdeal.main_arg0)) (m ((c.tc : Thread Cert.DwMineIdeal.nD Cert.DwMineIdeal.τ).loc Cert.DwMineIdeal.main_arg1)) (m ((c.tc : Thread Cert.DwMineIdeal.nD Cert.DwMineIdeal.τ).loc Cert.DwMineIdeal.main_arg2))) = (fun _ => 1#1)

def Pre_DwMineRefIdeal (m : (ℓ : Loc Cert.DwMineRefIdeal.nD Cert.DwMineRefIdeal.τ Cert.DwMineRefIdeal.sig) → Buf (Elt Ideal) ℓ) : Prop :=
  True

def Pre_DwMineRefIdeal_place_in_range [hPre_place_in_range : Cert.Pre_place_in_range.Facts] (m : (ℓ : Loc Cert.DwMineRefIdeal.nD Cert.DwMineRefIdeal.τ Cert.DwMineRefIdeal.sig) → Buf (Elt Ideal) ℓ) : Prop :=
  ∀ c : Dev Cert.DwMineRefIdeal.nD,
    (Cert.Pre_place_in_range.fn (F := Ideal) (m ((c.tc : Thread Cert.DwMineRefIdeal.nD Cert.DwMineRefIdeal.τ).loc Cert.DwMineRefIdeal.main_arg0)) (m ((c.tc : Thread Cert.DwMineRefIdeal.nD Cert.DwMineRefIdeal.τ).loc Cert.DwMineRefIdeal.main_arg1)) (m ((c.tc : Thread Cert.DwMineRefIdeal.nD Cert.DwMineRefIdeal.τ).loc Cert.DwMineRefIdeal.main_arg2))) = (fun _ => 1#1)

def Pre_DwTheirs [hPre_place_in_range : Cert.Pre_place_in_range.Facts] (m : (ℓ : Loc Cert.DwTheirs.nD Cert.DwTheirs.τ Cert.DwTheirs.sig) → Buf (Elt Bits) ℓ) : Prop :=
  ∀ c : Dev Cert.DwTheirs.nD,
    (Cert.Pre_place_in_range.fn (F := Bits) (m ((c.tc : Thread Cert.DwTheirs.nD Cert.DwTheirs.τ).loc Cert.DwTheirs.main_arg0)) (m ((c.tc : Thread Cert.DwTheirs.nD Cert.DwTheirs.τ).loc Cert.DwTheirs.main_arg1)) (m ((c.tc : Thread Cert.DwTheirs.nD Cert.DwTheirs.τ).loc Cert.DwTheirs.main_arg2))) = (fun _ => 1#1)

def Pre_DwTheirsIdeal [hPre_place_in_range : Cert.Pre_place_in_range.Facts] (m : (ℓ : Loc Cert.DwTheirsIdeal.nD Cert.DwTheirsIdeal.τ Cert.DwTheirsIdeal.sig) → Buf (Elt Ideal) ℓ) : Prop :=
  ∀ c : Dev Cert.DwTheirsIdeal.nD,
    (Cert.Pre_place_in_range.fn (F := Ideal) (m ((c.tc : Thread Cert.DwTheirsIdeal.nD Cert.DwTheirsIdeal.τ).loc Cert.DwTheirsIdeal.main_arg0)) (m ((c.tc : Thread Cert.DwTheirsIdeal.nD Cert.DwTheirsIdeal.τ).loc Cert.DwTheirsIdeal.main_arg1)) (m ((c.tc : Thread Cert.DwTheirsIdeal.nD Cert.DwTheirsIdeal.τ).loc Cert.DwTheirsIdeal.main_arg2))) = (fun _ => 1#1)

def Pre_DwTheirsRefIdeal (m : (ℓ : Loc Cert.DwTheirsRefIdeal.nD Cert.DwTheirsRefIdeal.τ Cert.DwTheirsRefIdeal.sig) → Buf (Elt Ideal) ℓ) : Prop :=
  True

def Pre_DwTheirsRefIdeal_place_in_range [hPre_place_in_range : Cert.Pre_place_in_range.Facts] (m : (ℓ : Loc Cert.DwTheirsRefIdeal.nD Cert.DwTheirsRefIdeal.τ Cert.DwTheirsRefIdeal.sig) → Buf (Elt Ideal) ℓ) : Prop :=
  ∀ c : Dev Cert.DwTheirsRefIdeal.nD,
    (Cert.Pre_place_in_range.fn (F := Ideal) (m ((c.tc : Thread Cert.DwTheirsRefIdeal.nD Cert.DwTheirsRefIdeal.τ).loc Cert.DwTheirsRefIdeal.main_arg0)) (m ((c.tc : Thread Cert.DwTheirsRefIdeal.nD Cert.DwTheirsRefIdeal.τ).loc Cert.DwTheirsRefIdeal.main_arg1)) (m ((c.tc : Thread Cert.DwTheirsRefIdeal.nD Cert.DwTheirsRefIdeal.τ).loc Cert.DwTheirsRefIdeal.main_arg2))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_GainGrad (m : (ℓ : Loc Cert.GainGrad.nD Cert.GainGrad.τ Cert.GainGrad.sig) → Buf (Elt Bits) ℓ) : Prop :=
  True

def Pre_GainGradIdeal (m : (ℓ : Loc Cert.GainGradIdeal.nD Cert.GainGradIdeal.τ Cert.GainGradIdeal.sig) → Buf (Elt Ideal) ℓ) : Prop :=
  True

def Pre_GainGradRefIdeal (m : (ℓ : Loc Cert.GainGradRefIdeal.nD Cert.GainGradRefIdeal.τ Cert.GainGradRefIdeal.sig) → Buf (Elt Ideal) ℓ) : Prop :=
  True

def Pre_MemDw (m : (ℓ : Loc Cert.MemDw.nD Cert.MemDw.τ Cert.MemDw.sig) → Buf (Elt Bits) ℓ) : Prop :=
  True

def Pre_MemDwIdeal (m : (ℓ : Loc Cert.MemDwIdeal.nD Cert.MemDwIdeal.τ Cert.MemDwIdeal.sig) → Buf (Elt Ideal) ℓ) : Prop :=
  True

def Pre_MemDwRefIdeal (m : (ℓ : Loc Cert.MemDwRefIdeal.nD Cert.MemDwRefIdeal.τ Cert.MemDwRefIdeal.sig) → Buf (Elt Ideal) ℓ) : Prop :=
  True

def Pre_MemDx (m : (ℓ : Loc Cert.MemDx.nD Cert.MemDx.τ Cert.MemDx.sig) → Buf (Elt Bits) ℓ) : Prop :=
  True

def Pre_MemDxIdeal (m : (ℓ : Loc Cert.MemDxIdeal.nD Cert.MemDxIdeal.τ Cert.MemDxIdeal.sig) → Buf (Elt Ideal) ℓ) : Prop :=
  True

def Pre_MemDxRefIdeal (m : (ℓ : Loc Cert.MemDxRefIdeal.nD Cert.MemDxRefIdeal.τ Cert.MemDxRefIdeal.sig) → Buf (Elt Ideal) ℓ) : Prop :=
  True

def Pre_MemIn (m : (ℓ : Loc Cert.MemIn.nD Cert.MemIn.τ Cert.MemIn.sig) → Buf (Elt Bits) ℓ) : Prop :=
  True

def Pre_MemInIdeal (m : (ℓ : Loc Cert.MemInIdeal.nD Cert.MemInIdeal.τ Cert.MemInIdeal.sig) → Buf (Elt Ideal) ℓ) : Prop :=
  True

def Pre_MemInRefIdeal (m : (ℓ : Loc Cert.MemInRefIdeal.nD Cert.MemInRefIdeal.τ Cert.MemInRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DnHalves [hDnHalves : Cert.DnHalves.Facts] : Prop :=
  ∀ (m : (ℓ : Loc Cert.DnHalves.nD Cert.DnHalves.τ Cert.DnHalves.sig) → Buf (Elt Bits) ℓ) (g : Dev Cert.DnHalves.nD → PrngReg), Pre_DnHalves m →
    θ_run (Cert.DnHalves.defs (F := Bits)) (onTc (τ := Cert.DnHalves.τ) (Cert.DnHalves.main (F := Bits))) ⟨m, fun _ => 0, g⟩ (fun r => (∀ c : Dev Cert.DnHalves.nD,
      r.2.mem ((c.tc : Thread Cert.DnHalves.nD Cert.DnHalves.τ).loc Cert.DnHalves.main_arg0) = m ((c.tc : Thread Cert.DnHalves.nD Cert.DnHalves.τ).loc Cert.DnHalves.main_arg0)
      ∧ r.2.mem ((c.tc : Thread Cert.DnHalves.nD Cert.DnHalves.τ).loc Cert.DnHalves.main_arg1) = m ((c.tc : Thread Cert.DnHalves.nD Cert.DnHalves.τ).loc Cert.DnHalves.main_arg1)
      ∧ r.2.mem ((c.tc : Thread Cert.DnHalves.nD Cert.DnHalves.τ).loc Cert.DnHalves.main_arg2) = m ((c.tc : Thread Cert.DnHalves.nD Cert.DnHalves.τ).loc Cert.DnHalves.main_arg2))
      ∧ r.2.sem = fun _ => 0)

def quiescent_DnHalvesIdeal [hDnHalvesIdeal : Cert.DnHalvesIdeal.Facts] : Prop :=
  ∀ (m : (ℓ : Loc Cert.DnHalvesIdeal.nD Cert.DnHalvesIdeal.τ Cert.DnHalvesIdeal.sig) → Buf (Elt Ideal) ℓ) (g : Dev Cert.DnHalvesIdeal.nD → PrngReg), Pre_DnHalvesIdeal m →
    θ_run (Cert.DnHalvesIdeal.defs (F := Ideal)) (onTc (τ := Cert.DnHalvesIdeal.τ) (Cert.DnHalvesIdeal.main (F := Ideal))) ⟨m, fun _ => 0, g⟩ (fun r => (∀ c : Dev Cert.DnHalvesIdeal.nD,
      r.2.mem ((c.tc : Thread Cert.DnHalvesIdeal.nD Cert.DnHalvesIdeal.τ).loc Cert.DnHalvesIdeal.main_arg0) = m ((c.tc : Thread Cert.DnHalvesIdeal.nD Cert.DnHalvesIdeal.τ).loc Cert.DnHalvesIdeal.main_arg0)
      ∧ r.2.mem ((c.tc : Thread Cert.DnHalvesIdeal.nD Cert.DnHalvesIdeal.τ).loc Cert.DnHalvesIdeal.main_arg1) = m ((c.tc : Thread Cert.DnHalvesIdeal.nD Cert.DnHalvesIdeal.τ).loc Cert.DnHalvesIdeal.main_arg1)
      ∧ r.2.mem ((c.tc : Thread Cert.DnHalvesIdeal.nD Cert.DnHalvesIdeal.τ).loc Cert.DnHalvesIdeal.main_arg2) = m ((c.tc : Thread Cert.DnHalvesIdeal.nD Cert.DnHalvesIdeal.τ).loc Cert.DnHalvesIdeal.main_arg2))
      ∧ r.2.sem = fun _ => 0)

def quiescent_DnHalvesRefIdeal [hDnHalvesRefIdeal : Cert.DnHalvesRefIdeal.Facts] : Prop :=
  ∀ (m : (ℓ : Loc Cert.DnHalvesRefIdeal.nD Cert.DnHalvesRefIdeal.τ Cert.DnHalvesRefIdeal.sig) → Buf (Elt Ideal) ℓ) (g : Dev Cert.DnHalvesRefIdeal.nD → PrngReg), Pre_DnHalvesRefIdeal m →
    θ_run (Cert.DnHalvesRefIdeal.defs (F := Ideal)) (onTc (τ := Cert.DnHalvesRefIdeal.τ) (Cert.DnHalvesRefIdeal.main (F := Ideal))) ⟨m, fun _ => 0, g⟩ (fun r => (∀ c : Dev Cert.DnHalvesRefIdeal.nD,
      r.2.mem ((c.tc : Thread Cert.DnHalvesRefIdeal.nD Cert.DnHalvesRefIdeal.τ).loc Cert.DnHalvesRefIdeal.main_arg0) = m ((c.tc : Thread Cert.DnHalvesRefIdeal.nD Cert.DnHalvesRefIdeal.τ).loc Cert.DnHalvesRefIdeal.main_arg0)
      ∧ r.2.mem ((c.tc : Thread Cert.DnHalvesRefIdeal.nD Cert.DnHalvesRefIdeal.τ).loc Cert.DnHalvesRefIdeal.main_arg1) = m ((c.tc : Thread Cert.DnHalvesRefIdeal.nD Cert.DnHalvesRefIdeal.τ).loc Cert.DnHalvesRefIdeal.main_arg1)
      ∧ r.2.mem ((c.tc : Thread Cert.DnHalvesRefIdeal.nD Cert.DnHalvesRefIdeal.τ).loc Cert.DnHalvesRefIdeal.main_arg2) = m ((c.tc : Thread Cert.DnHalvesRefIdeal.nD Cert.DnHalvesRefIdeal.τ).loc Cert.DnHalvesRefIdeal.main_arg2))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2)
      ∧ r.2.mem ((c.tc : Thread Cert.MixDx.nD Cert.MixDx.τ).loc Cert.MixDx.main_arg3) = m ((c.tc : Thread Cert.MixDx.nD Cert.MixDx.τ).loc Cert.MixDx.main_arg3)
      ∧ r.2.mem ((c.tc : Thread Cert.MixDx.nD Cert.MixDx.τ).loc Cert.MixDx.main_arg4) = m ((c.tc : Thread Cert.MixDx.nD Cert.MixDx.τ).loc Cert.MixDx.main_arg4))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3)
      ∧ r.2.mem ((c.tc : Thread Cert.MixDxRefIdeal.nD Cert.MixDxRefIdeal.τ).loc Cert.MixDxRefIdeal.main_arg4) = m ((c.tc : Thread Cert.MixDxRefIdeal.nD Cert.MixDxRefIdeal.τ).loc Cert.MixDxRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_QueryDx [hQueryDx : Cert.QueryDx.Facts] : Prop :=
  ∀ (m : (ℓ : Loc Cert.QueryDx.nD Cert.QueryDx.τ Cert.QueryDx.sig) → Buf (Elt Bits) ℓ) (g : Dev Cert.QueryDx.nD → PrngReg), Pre_QueryDx m →
    θ_run (Cert.QueryDx.defs (F := Bits)) (onTc (τ := Cert.QueryDx.τ) (Cert.QueryDx.main (F := Bits))) ⟨m, fun _ => 0, g⟩ (fun r => (∀ c : Dev Cert.QueryDx.nD,
      r.2.mem ((c.tc : Thread Cert.QueryDx.nD Cert.QueryDx.τ).loc Cert.QueryDx.main_arg0) = m ((c.tc : Thread Cert.QueryDx.nD Cert.QueryDx.τ).loc Cert.QueryDx.main_arg0)
      ∧ r.2.mem ((c.tc : Thread Cert.QueryDx.nD Cert.QueryDx.τ).loc Cert.QueryDx.main_arg1) = m ((c.tc : Thread Cert.QueryDx.nD Cert.QueryDx.τ).loc Cert.QueryDx.main_arg1)
      ∧ r.2.mem ((c.tc : Thread Cert.QueryDx.nD Cert.QueryDx.τ).loc Cert.QueryDx.main_arg2) = m ((c.tc : Thread Cert.QueryDx.nD Cert.QueryDx.τ).loc Cert.QueryDx.main_arg2)
      ∧ r.2.mem ((c.tc : Thread Cert.QueryDx.nD Cert.QueryDx.τ).loc Cert.QueryDx.main_arg3) = m ((c.tc : Thread Cert.QueryDx.nD Cert.QueryDx.τ).loc Cert.QueryDx.main_arg3)
      ∧ r.2.mem ((c.tc : Thread Cert.QueryDx.nD Cert.QueryDx.τ).loc Cert.QueryDx.main_arg4) = m ((c.tc : Thread Cert.QueryDx.nD Cert.QueryDx.τ).loc Cert.QueryDx.main_arg4))
      ∧ r.2.sem = fun _ => 0)

def quiescent_QueryDxIdeal [hQueryDxIdeal : Cert.QueryDxIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg), Pre_QueryDxIdeal m →
    θ_run (Cert.QueryDxIdeal.defs (F := Ideal)) (onTc (τ := Cert.QueryDxIdeal.τ) (Cert.QueryDxIdeal.main (F := Ideal))) ⟨m, fun _ => 0, g⟩ (fun r => (∀ c : Dev Cert.QueryDxIdeal.nD,
      r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
      ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1)
      ∧ r.2.mem ((c.tc : Thread Cert.QueryDxIdeal.nD Cert.QueryDxIdeal.τ).loc Cert.QueryDxIdeal.main_arg2) = m ((c.tc : Thread Cert.QueryDxIdeal.nD Cert.QueryDxIdeal.τ).loc Cert.QueryDxIdeal.main_arg2)
      ∧ r.2.mem ((c.tc : Thread Cert.QueryDxIdeal.nD Cert.QueryDxIdeal.τ).loc Cert.QueryDxIdeal.main_arg3) = m ((c.tc : Thread Cert.QueryDxIdeal.nD Cert.QueryDxIdeal.τ).loc Cert.QueryDxIdeal.main_arg3)
      ∧ r.2.mem ((c.tc : Thread Cert.QueryDxIdeal.nD Cert.QueryDxIdeal.τ).loc Cert.QueryDxIdeal.main_arg4) = m ((c.tc : Thread Cert.QueryDxIdeal.nD Cert.QueryDxIdeal.τ).loc Cert.QueryDxIdeal.main_arg4))
      ∧ r.2.sem = fun _ => 0)

def quiescent_QueryDxRefIdeal [hQueryDxRefIdeal : Cert.QueryDxRefIdeal.Facts] : Prop :=
  ∀ (m : (ℓ : Loc Cert.QueryDxRefIdeal.nD Cert.QueryDxRefIdeal.τ Cert.QueryDxRefIdeal.sig) → Buf (Elt Ideal) ℓ) (g : Dev Cert.QueryDxRefIdeal.nD → PrngReg), Pre_QueryDxRefIdeal m →
    θ_run (Cert.QueryDxRefIdeal.defs (F := Ideal)) (onTc (τ := Cert.QueryDxRefIdeal.τ) (Cert.QueryDxRefIdeal.main (F := Ideal))) ⟨m, fun _ => 0, g⟩ (fun r => (∀ c : Dev Cert.QueryDxRefIdeal.nD,
      r.2.mem ((c.tc : Thread Cert.QueryDxRefIdeal.nD Cert.QueryDxRefIdeal.τ).loc Cert.QueryDxRefIdeal.main_arg0) = m ((c.tc : Thread Cert.QueryDxRefIdeal.nD Cert.QueryDxRefIdeal.τ).loc Cert.QueryDxRefIdeal.main_arg0)
      ∧ r.2.mem ((c.tc : Thread Cert.QueryDxRefIdeal.nD Cert.QueryDxRefIdeal.τ).loc Cert.QueryDxRefIdeal.main_arg1) = m ((c.tc : Thread Cert.QueryDxRefIdeal.nD Cert.QueryDxRefIdeal.τ).loc Cert.QueryDxRefIdeal.main_arg1)
      ∧ r.2.mem ((c.tc : Thread Cert.QueryDxRefIdeal.nD Cert.QueryDxRefIdeal.τ).loc Cert.QueryDxRefIdeal.main_arg2) = m ((c.tc : Thread Cert.QueryDxRefIdeal.nD Cert.QueryDxRefIdeal.τ).loc Cert.QueryDxRefIdeal.main_arg2)
      ∧ r.2.mem ((c.tc : Thread Cert.QueryDxRefIdeal.nD Cert.QueryDxRefIdeal.τ).loc Cert.QueryDxRefIdeal.main_arg3) = m ((c.tc : Thread Cert.QueryDxRefIdeal.nD Cert.QueryDxRefIdeal.τ).loc Cert.QueryDxRefIdeal.main_arg3)
      ∧ r.2.mem ((c.tc : Thread Cert.QueryDxRefIdeal.nD Cert.QueryDxRefIdeal.τ).loc Cert.QueryDxRefIdeal.main_arg4) = m ((c.tc : Thread Cert.QueryDxRefIdeal.nD Cert.QueryDxRefIdeal.τ).loc Cert.QueryDxRefIdeal.main_arg4))
      ∧ r.2.sem = fun _ => 0)

def quiescent_OutSum [hOutSum : Cert.OutSum.Facts] : Prop :=
  ∀ (m : (ℓ : Loc Cert.OutSum.nD Cert.OutSum.τ Cert.OutSum.sig) → Buf (Elt Bits) ℓ) (g : Dev Cert.OutSum.nD → PrngReg), Pre_OutSum m →
    θ_run (Cert.OutSum.defs (F := Bits)) (onTc (τ := Cert.OutSum.τ) (Cert.OutSum.main (F := Bits))) ⟨m, fun _ => 0, g⟩ (fun r => (∀ c : Dev Cert.OutSum.nD,
      r.2.mem ((c.tc : Thread Cert.OutSum.nD Cert.OutSum.τ).loc Cert.OutSum.main_arg0) = m ((c.tc : Thread Cert.OutSum.nD Cert.OutSum.τ).loc Cert.OutSum.main_arg0)
      ∧ r.2.mem ((c.tc : Thread Cert.OutSum.nD Cert.OutSum.τ).loc Cert.OutSum.main_arg1) = m ((c.tc : Thread Cert.OutSum.nD Cert.OutSum.τ).loc Cert.OutSum.main_arg1)
      ∧ r.2.mem ((c.tc : Thread Cert.OutSum.nD Cert.OutSum.τ).loc Cert.OutSum.main_arg2) = m ((c.tc : Thread Cert.OutSum.nD Cert.OutSum.τ).loc Cert.OutSum.main_arg2))
      ∧ r.2.sem = fun _ => 0)

def quiescent_OutSumIdeal [hOutSumIdeal : Cert.OutSumIdeal.Facts] : Prop :=
  ∀ (m : (ℓ : Loc Cert.OutSumIdeal.nD Cert.OutSumIdeal.τ Cert.OutSumIdeal.sig) → Buf (Elt Ideal) ℓ) (g : Dev Cert.OutSumIdeal.nD → PrngReg), Pre_OutSumIdeal m →
    θ_run (Cert.OutSumIdeal.defs (F := Ideal)) (onTc (τ := Cert.OutSumIdeal.τ) (Cert.OutSumIdeal.main (F := Ideal))) ⟨m, fun _ => 0, g⟩ (fun r => (∀ c : Dev Cert.OutSumIdeal.nD,
      r.2.mem ((c.tc : Thread Cert.OutSumIdeal.nD Cert.OutSumIdeal.τ).loc Cert.OutSumIdeal.main_arg0) = m ((c.tc : Thread Cert.OutSumIdeal.nD Cert.OutSumIdeal.τ).loc Cert.OutSumIdeal.main_arg0)
      ∧ r.2.mem ((c.tc : Thread Cert.OutSumIdeal.nD Cert.OutSumIdeal.τ).loc Cert.OutSumIdeal.main_arg1) = m ((c.tc : Thread Cert.OutSumIdeal.nD Cert.OutSumIdeal.τ).loc Cert.OutSumIdeal.main_arg1)
      ∧ r.2.mem ((c.tc : Thread Cert.OutSumIdeal.nD Cert.OutSumIdeal.τ).loc Cert.OutSumIdeal.main_arg2) = m ((c.tc : Thread Cert.OutSumIdeal.nD Cert.OutSumIdeal.τ).loc Cert.OutSumIdeal.main_arg2))
      ∧ r.2.sem = fun _ => 0)

def quiescent_OutSumRefIdeal [hOutSumRefIdeal : Cert.OutSumRefIdeal.Facts] : Prop :=
  ∀ (m : (ℓ : Loc Cert.OutSumRefIdeal.nD Cert.OutSumRefIdeal.τ Cert.OutSumRefIdeal.sig) → Buf (Elt Ideal) ℓ) (g : Dev Cert.OutSumRefIdeal.nD → PrngReg), Pre_OutSumRefIdeal m →
    θ_run (Cert.OutSumRefIdeal.defs (F := Ideal)) (onTc (τ := Cert.OutSumRefIdeal.τ) (Cert.OutSumRefIdeal.main (F := Ideal))) ⟨m, fun _ => 0, g⟩ (fun r => (∀ c : Dev Cert.OutSumRefIdeal.nD,
      r.2.mem ((c.tc : Thread Cert.OutSumRefIdeal.nD Cert.OutSumRefIdeal.τ).loc Cert.OutSumRefIdeal.main_arg0) = m ((c.tc : Thread Cert.OutSumRefIdeal.nD Cert.OutSumRefIdeal.τ).loc Cert.OutSumRefIdeal.main_arg0)
      ∧ r.2.mem ((c.tc : Thread Cert.OutSumRefIdeal.nD Cert.OutSumRefIdeal.τ).loc Cert.OutSumRefIdeal.main_arg1) = m ((c.tc : Thread Cert.OutSumRefIdeal.nD Cert.OutSumRefIdeal.τ).loc Cert.OutSumRefIdeal.main_arg1)
      ∧ r.2.mem ((c.tc : Thread Cert.OutSumRefIdeal.nD Cert.OutSumRefIdeal.τ).loc Cert.OutSumRefIdeal.main_arg2) = m ((c.tc : Thread Cert.OutSumRefIdeal.nD Cert.OutSumRefIdeal.τ).loc Cert.OutSumRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_FfnHalves [hFfnHalves : Cert.FfnHalves.Facts] : Prop :=
  ∀ (m : (ℓ : Loc Cert.FfnHalves.nD Cert.FfnHalves.τ Cert.FfnHalves.sig) → Buf (Elt Bits) ℓ) (g : Dev Cert.FfnHalves.nD → PrngReg), Pre_FfnHalves m →
    θ_run (Cert.FfnHalves.defs (F := Bits)) (onTc (τ := Cert.FfnHalves.τ) (Cert.FfnHalves.main (F := Bits))) ⟨m, fun _ => 0, g⟩ (fun r => (∀ c : Dev Cert.FfnHalves.nD,
      r.2.mem ((c.tc : Thread Cert.FfnHalves.nD Cert.FfnHalves.τ).loc Cert.FfnHalves.main_arg0) = m ((c.tc : Thread Cert.FfnHalves.nD Cert.FfnHalves.τ).loc Cert.FfnHalves.main_arg0)
      ∧ r.2.mem ((c.tc : Thread Cert.FfnHalves.nD Cert.FfnHalves.τ).loc Cert.FfnHalves.main_arg1) = m ((c.tc : Thread Cert.FfnHalves.nD Cert.FfnHalves.τ).loc Cert.FfnHalves.main_arg1)
      ∧ r.2.mem ((c.tc : Thread Cert.FfnHalves.nD Cert.FfnHalves.τ).loc Cert.FfnHalves.main_arg2) = m ((c.tc : Thread Cert.FfnHalves.nD Cert.FfnHalves.τ).loc Cert.FfnHalves.main_arg2))
      ∧ r.2.sem = fun _ => 0)

def quiescent_FfnHalvesIdeal [hFfnHalvesIdeal : Cert.FfnHalvesIdeal.Facts] : Prop :=
  ∀ (m : (ℓ : Loc Cert.FfnHalvesIdeal.nD Cert.FfnHalvesIdeal.τ Cert.FfnHalvesIdeal.sig) → Buf (Elt Ideal) ℓ) (g : Dev Cert.FfnHalvesIdeal.nD → PrngReg), Pre_FfnHalvesIdeal m →
    θ_run (Cert.FfnHalvesIdeal.defs (F := Ideal)) (onTc (τ := Cert.FfnHalvesIdeal.τ) (Cert.FfnHalvesIdeal.main (F := Ideal))) ⟨m, fun _ => 0, g⟩ (fun r => (∀ c : Dev Cert.FfnHalvesIdeal.nD,
      r.2.mem ((c.tc : Thread Cert.FfnHalvesIdeal.nD Cert.FfnHalvesIdeal.τ).loc Cert.FfnHalvesIdeal.main_arg0) = m ((c.tc : Thread Cert.FfnHalvesIdeal.nD Cert.FfnHalvesIdeal.τ).loc Cert.FfnHalvesIdeal.main_arg0)
      ∧ r.2.mem ((c.tc : Thread Cert.FfnHalvesIdeal.nD Cert.FfnHalvesIdeal.τ).loc Cert.FfnHalvesIdeal.main_arg1) = m ((c.tc : Thread Cert.FfnHalvesIdeal.nD Cert.FfnHalvesIdeal.τ).loc Cert.FfnHalvesIdeal.main_arg1)
      ∧ r.2.mem ((c.tc : Thread Cert.FfnHalvesIdeal.nD Cert.FfnHalvesIdeal.τ).loc Cert.FfnHalvesIdeal.main_arg2) = m ((c.tc : Thread Cert.FfnHalvesIdeal.nD Cert.FfnHalvesIdeal.τ).loc Cert.FfnHalvesIdeal.main_arg2))
      ∧ r.2.sem = fun _ => 0)

def quiescent_FfnHalvesRefIdeal [hFfnHalvesRefIdeal : Cert.FfnHalvesRefIdeal.Facts] : Prop :=
  ∀ (m : (ℓ : Loc Cert.FfnHalvesRefIdeal.nD Cert.FfnHalvesRefIdeal.τ Cert.FfnHalvesRefIdeal.sig) → Buf (Elt Ideal) ℓ) (g : Dev Cert.FfnHalvesRefIdeal.nD → PrngReg), Pre_FfnHalvesRefIdeal m →
    θ_run (Cert.FfnHalvesRefIdeal.defs (F := Ideal)) (onTc (τ := Cert.FfnHalvesRefIdeal.τ) (Cert.FfnHalvesRefIdeal.main (F := Ideal))) ⟨m, fun _ => 0, g⟩ (fun r => (∀ c : Dev Cert.FfnHalvesRefIdeal.nD,
      r.2.mem ((c.tc : Thread Cert.FfnHalvesRefIdeal.nD Cert.FfnHalvesRefIdeal.τ).loc Cert.FfnHalvesRefIdeal.main_arg0) = m ((c.tc : Thread Cert.FfnHalvesRefIdeal.nD Cert.FfnHalvesRefIdeal.τ).loc Cert.FfnHalvesRefIdeal.main_arg0)
      ∧ r.2.mem ((c.tc : Thread Cert.FfnHalvesRefIdeal.nD Cert.FfnHalvesRefIdeal.τ).loc Cert.FfnHalvesRefIdeal.main_arg1) = m ((c.tc : Thread Cert.FfnHalvesRefIdeal.nD Cert.FfnHalvesRefIdeal.τ).loc Cert.FfnHalvesRefIdeal.main_arg1)
      ∧ r.2.mem ((c.tc : Thread Cert.FfnHalvesRefIdeal.nD Cert.FfnHalvesRefIdeal.τ).loc Cert.FfnHalvesRefIdeal.main_arg2) = m ((c.tc : Thread Cert.FfnHalvesRefIdeal.nD Cert.FfnHalvesRefIdeal.τ).loc Cert.FfnHalvesRefIdeal.main_arg2))
      ∧ r.2.sem = fun _ => 0)

def quiescent_DwMine [hDwMine : Cert.DwMine.Facts] [hPre_place_in_range : Cert.Pre_place_in_range.Facts] : Prop :=
  ∀ (m : (ℓ : Loc Cert.DwMine.nD Cert.DwMine.τ Cert.DwMine.sig) → Buf (Elt Bits) ℓ) (g : Dev Cert.DwMine.nD → PrngReg), Pre_DwMine m →
    θ_run (Cert.DwMine.defs (F := Bits)) (onTc (τ := Cert.DwMine.τ) (Cert.DwMine.main (F := Bits))) ⟨m, fun _ => 0, g⟩ (fun r => (∀ c : Dev Cert.DwMine.nD,
      r.2.mem ((c.tc : Thread Cert.DwMine.nD Cert.DwMine.τ).loc Cert.DwMine.main_arg0) = m ((c.tc : Thread Cert.DwMine.nD Cert.DwMine.τ).loc Cert.DwMine.main_arg0)
      ∧ r.2.mem ((c.tc : Thread Cert.DwMine.nD Cert.DwMine.τ).loc Cert.DwMine.main_arg1) = m ((c.tc : Thread Cert.DwMine.nD Cert.DwMine.τ).loc Cert.DwMine.main_arg1)
      ∧ r.2.mem ((c.tc : Thread Cert.DwMine.nD Cert.DwMine.τ).loc Cert.DwMine.main_arg2) = m ((c.tc : Thread Cert.DwMine.nD Cert.DwMine.τ).loc Cert.DwMine.main_arg2))
      ∧ r.2.sem = fun _ => 0)

def quiescent_DwMineIdeal [hDwMineIdeal : Cert.DwMineIdeal.Facts] [hPre_place_in_range : Cert.Pre_place_in_range.Facts] : Prop :=
  ∀ (m : (ℓ : Loc Cert.DwMineIdeal.nD Cert.DwMineIdeal.τ Cert.DwMineIdeal.sig) → Buf (Elt Ideal) ℓ) (g : Dev Cert.DwMineIdeal.nD → PrngReg), Pre_DwMineIdeal m →
    θ_run (Cert.DwMineIdeal.defs (F := Ideal)) (onTc (τ := Cert.DwMineIdeal.τ) (Cert.DwMineIdeal.main (F := Ideal))) ⟨m, fun _ => 0, g⟩ (fun r => (∀ c : Dev Cert.DwMineIdeal.nD,
      r.2.mem ((c.tc : Thread Cert.DwMineIdeal.nD Cert.DwMineIdeal.τ).loc Cert.DwMineIdeal.main_arg0) = m ((c.tc : Thread Cert.DwMineIdeal.nD Cert.DwMineIdeal.τ).loc Cert.DwMineIdeal.main_arg0)
      ∧ r.2.mem ((c.tc : Thread Cert.DwMineIdeal.nD Cert.DwMineIdeal.τ).loc Cert.DwMineIdeal.main_arg1) = m ((c.tc : Thread Cert.DwMineIdeal.nD Cert.DwMineIdeal.τ).loc Cert.DwMineIdeal.main_arg1)
      ∧ r.2.mem ((c.tc : Thread Cert.DwMineIdeal.nD Cert.DwMineIdeal.τ).loc Cert.DwMineIdeal.main_arg2) = m ((c.tc : Thread Cert.DwMineIdeal.nD Cert.DwMineIdeal.τ).loc Cert.DwMineIdeal.main_arg2))
      ∧ r.2.sem = fun _ => 0)

def quiescent_DwMineRefIdeal [hDwMineRefIdeal : Cert.DwMineRefIdeal.Facts] : Prop :=
  ∀ (m : (ℓ : Loc Cert.DwMineRefIdeal.nD Cert.DwMineRefIdeal.τ Cert.DwMineRefIdeal.sig) → Buf (Elt Ideal) ℓ) (g : Dev Cert.DwMineRefIdeal.nD → PrngReg), Pre_DwMineRefIdeal m →
    θ_run (Cert.DwMineRefIdeal.defs (F := Ideal)) (onTc (τ := Cert.DwMineRefIdeal.τ) (Cert.DwMineRefIdeal.main (F := Ideal))) ⟨m, fun _ => 0, g⟩ (fun r => (∀ c : Dev Cert.DwMineRefIdeal.nD,
      r.2.mem ((c.tc : Thread Cert.DwMineRefIdeal.nD Cert.DwMineRefIdeal.τ).loc Cert.DwMineRefIdeal.main_arg0) = m ((c.tc : Thread Cert.DwMineRefIdeal.nD Cert.DwMineRefIdeal.τ).loc Cert.DwMineRefIdeal.main_arg0)
      ∧ r.2.mem ((c.tc : Thread Cert.DwMineRefIdeal.nD Cert.DwMineRefIdeal.τ).loc Cert.DwMineRefIdeal.main_arg1) = m ((c.tc : Thread Cert.DwMineRefIdeal.nD Cert.DwMineRefIdeal.τ).loc Cert.DwMineRefIdeal.main_arg1)
      ∧ r.2.mem ((c.tc : Thread Cert.DwMineRefIdeal.nD Cert.DwMineRefIdeal.τ).loc Cert.DwMineRefIdeal.main_arg2) = m ((c.tc : Thread Cert.DwMineRefIdeal.nD Cert.DwMineRefIdeal.τ).loc Cert.DwMineRefIdeal.main_arg2))
      ∧ r.2.sem = fun _ => 0)

def quiescent_DwMineRefIdeal_pre_place_in_range [hDwMineRefIdeal : Cert.DwMineRefIdeal.Facts] [hPre_place_in_range : Cert.Pre_place_in_range.Facts] : Prop :=
  ∀ (m : (ℓ : Loc Cert.DwMineRefIdeal.nD Cert.DwMineRefIdeal.τ Cert.DwMineRefIdeal.sig) → Buf (Elt Ideal) ℓ) (g : Dev Cert.DwMineRefIdeal.nD → PrngReg), Pre_DwMineRefIdeal_place_in_range m →
    θ_run (Cert.DwMineRefIdeal.defs (F := Ideal)) (onTc (τ := Cert.DwMineRefIdeal.τ) (Cert.DwMineRefIdeal.main (F := Ideal))) ⟨m, fun _ => 0, g⟩ (fun r => (∀ c : Dev Cert.DwMineRefIdeal.nD,
      r.2.mem ((c.tc : Thread Cert.DwMineRefIdeal.nD Cert.DwMineRefIdeal.τ).loc Cert.DwMineRefIdeal.main_arg0) = m ((c.tc : Thread Cert.DwMineRefIdeal.nD Cert.DwMineRefIdeal.τ).loc Cert.DwMineRefIdeal.main_arg0)
      ∧ r.2.mem ((c.tc : Thread Cert.DwMineRefIdeal.nD Cert.DwMineRefIdeal.τ).loc Cert.DwMineRefIdeal.main_arg1) = m ((c.tc : Thread Cert.DwMineRefIdeal.nD Cert.DwMineRefIdeal.τ).loc Cert.DwMineRefIdeal.main_arg1)
      ∧ r.2.mem ((c.tc : Thread Cert.DwMineRefIdeal.nD Cert.DwMineRefIdeal.τ).loc Cert.DwMineRefIdeal.main_arg2) = m ((c.tc : Thread Cert.DwMineRefIdeal.nD Cert.DwMineRefIdeal.τ).loc Cert.DwMineRefIdeal.main_arg2))
      ∧ r.2.sem = fun _ => 0)

def quiescent_DwTheirs [hDwTheirs : Cert.DwTheirs.Facts] [hPre_place_in_range : Cert.Pre_place_in_range.Facts] : Prop :=
  ∀ (m : (ℓ : Loc Cert.DwTheirs.nD Cert.DwTheirs.τ Cert.DwTheirs.sig) → Buf (Elt Bits) ℓ) (g : Dev Cert.DwTheirs.nD → PrngReg), Pre_DwTheirs m →
    θ_run (Cert.DwTheirs.defs (F := Bits)) (onTc (τ := Cert.DwTheirs.τ) (Cert.DwTheirs.main (F := Bits))) ⟨m, fun _ => 0, g⟩ (fun r => (∀ c : Dev Cert.DwTheirs.nD,
      r.2.mem ((c.tc : Thread Cert.DwTheirs.nD Cert.DwTheirs.τ).loc Cert.DwTheirs.main_arg0) = m ((c.tc : Thread Cert.DwTheirs.nD Cert.DwTheirs.τ).loc Cert.DwTheirs.main_arg0)
      ∧ r.2.mem ((c.tc : Thread Cert.DwTheirs.nD Cert.DwTheirs.τ).loc Cert.DwTheirs.main_arg1) = m ((c.tc : Thread Cert.DwTheirs.nD Cert.DwTheirs.τ).loc Cert.DwTheirs.main_arg1)
      ∧ r.2.mem ((c.tc : Thread Cert.DwTheirs.nD Cert.DwTheirs.τ).loc Cert.DwTheirs.main_arg2) = m ((c.tc : Thread Cert.DwTheirs.nD Cert.DwTheirs.τ).loc Cert.DwTheirs.main_arg2))
      ∧ r.2.sem = fun _ => 0)

def quiescent_DwTheirsIdeal [hDwTheirsIdeal : Cert.DwTheirsIdeal.Facts] [hPre_place_in_range : Cert.Pre_place_in_range.Facts] : Prop :=
  ∀ (m : (ℓ : Loc Cert.DwTheirsIdeal.nD Cert.DwTheirsIdeal.τ Cert.DwTheirsIdeal.sig) → Buf (Elt Ideal) ℓ) (g : Dev Cert.DwTheirsIdeal.nD → PrngReg), Pre_DwTheirsIdeal m →
    θ_run (Cert.DwTheirsIdeal.defs (F := Ideal)) (onTc (τ := Cert.DwTheirsIdeal.τ) (Cert.DwTheirsIdeal.main (F := Ideal))) ⟨m, fun _ => 0, g⟩ (fun r => (∀ c : Dev Cert.DwTheirsIdeal.nD,
      r.2.mem ((c.tc : Thread Cert.DwTheirsIdeal.nD Cert.DwTheirsIdeal.τ).loc Cert.DwTheirsIdeal.main_arg0) = m ((c.tc : Thread Cert.DwTheirsIdeal.nD Cert.DwTheirsIdeal.τ).loc Cert.DwTheirsIdeal.main_arg0)
      ∧ r.2.mem ((c.tc : Thread Cert.DwTheirsIdeal.nD Cert.DwTheirsIdeal.τ).loc Cert.DwTheirsIdeal.main_arg1) = m ((c.tc : Thread Cert.DwTheirsIdeal.nD Cert.DwTheirsIdeal.τ).loc Cert.DwTheirsIdeal.main_arg1)
      ∧ r.2.mem ((c.tc : Thread Cert.DwTheirsIdeal.nD Cert.DwTheirsIdeal.τ).loc Cert.DwTheirsIdeal.main_arg2) = m ((c.tc : Thread Cert.DwTheirsIdeal.nD Cert.DwTheirsIdeal.τ).loc Cert.DwTheirsIdeal.main_arg2))
      ∧ r.2.sem = fun _ => 0)

def quiescent_DwTheirsRefIdeal [hDwTheirsRefIdeal : Cert.DwTheirsRefIdeal.Facts] : Prop :=
  ∀ (m : (ℓ : Loc Cert.DwTheirsRefIdeal.nD Cert.DwTheirsRefIdeal.τ Cert.DwTheirsRefIdeal.sig) → Buf (Elt Ideal) ℓ) (g : Dev Cert.DwTheirsRefIdeal.nD → PrngReg), Pre_DwTheirsRefIdeal m →
    θ_run (Cert.DwTheirsRefIdeal.defs (F := Ideal)) (onTc (τ := Cert.DwTheirsRefIdeal.τ) (Cert.DwTheirsRefIdeal.main (F := Ideal))) ⟨m, fun _ => 0, g⟩ (fun r => (∀ c : Dev Cert.DwTheirsRefIdeal.nD,
      r.2.mem ((c.tc : Thread Cert.DwTheirsRefIdeal.nD Cert.DwTheirsRefIdeal.τ).loc Cert.DwTheirsRefIdeal.main_arg0) = m ((c.tc : Thread Cert.DwTheirsRefIdeal.nD Cert.DwTheirsRefIdeal.τ).loc Cert.DwTheirsRefIdeal.main_arg0)
      ∧ r.2.mem ((c.tc : Thread Cert.DwTheirsRefIdeal.nD Cert.DwTheirsRefIdeal.τ).loc Cert.DwTheirsRefIdeal.main_arg1) = m ((c.tc : Thread Cert.DwTheirsRefIdeal.nD Cert.DwTheirsRefIdeal.τ).loc Cert.DwTheirsRefIdeal.main_arg1)
      ∧ r.2.mem ((c.tc : Thread Cert.DwTheirsRefIdeal.nD Cert.DwTheirsRefIdeal.τ).loc Cert.DwTheirsRefIdeal.main_arg2) = m ((c.tc : Thread Cert.DwTheirsRefIdeal.nD Cert.DwTheirsRefIdeal.τ).loc Cert.DwTheirsRefIdeal.main_arg2))
      ∧ r.2.sem = fun _ => 0)

def quiescent_DwTheirsRefIdeal_pre_place_in_range [hDwTheirsRefIdeal : Cert.DwTheirsRefIdeal.Facts] [hPre_place_in_range : Cert.Pre_place_in_range.Facts] : Prop :=
  ∀ (m : (ℓ : Loc Cert.DwTheirsRefIdeal.nD Cert.DwTheirsRefIdeal.τ Cert.DwTheirsRefIdeal.sig) → Buf (Elt Ideal) ℓ) (g : Dev Cert.DwTheirsRefIdeal.nD → PrngReg), Pre_DwTheirsRefIdeal_place_in_range m →
    θ_run (Cert.DwTheirsRefIdeal.defs (F := Ideal)) (onTc (τ := Cert.DwTheirsRefIdeal.τ) (Cert.DwTheirsRefIdeal.main (F := Ideal))) ⟨m, fun _ => 0, g⟩ (fun r => (∀ c : Dev Cert.DwTheirsRefIdeal.nD,
      r.2.mem ((c.tc : Thread Cert.DwTheirsRefIdeal.nD Cert.DwTheirsRefIdeal.τ).loc Cert.DwTheirsRefIdeal.main_arg0) = m ((c.tc : Thread Cert.DwTheirsRefIdeal.nD Cert.DwTheirsRefIdeal.τ).loc Cert.DwTheirsRefIdeal.main_arg0)
      ∧ r.2.mem ((c.tc : Thread Cert.DwTheirsRefIdeal.nD Cert.DwTheirsRefIdeal.τ).loc Cert.DwTheirsRefIdeal.main_arg1) = m ((c.tc : Thread Cert.DwTheirsRefIdeal.nD Cert.DwTheirsRefIdeal.τ).loc Cert.DwTheirsRefIdeal.main_arg1)
      ∧ r.2.mem ((c.tc : Thread Cert.DwTheirsRefIdeal.nD Cert.DwTheirsRefIdeal.τ).loc Cert.DwTheirsRefIdeal.main_arg2) = m ((c.tc : Thread Cert.DwTheirsRefIdeal.nD Cert.DwTheirsRefIdeal.τ).loc Cert.DwTheirsRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_GainGrad [hGainGrad : Cert.GainGrad.Facts] : Prop :=
  ∀ (m : (ℓ : Loc Cert.GainGrad.nD Cert.GainGrad.τ Cert.GainGrad.sig) → Buf (Elt Bits) ℓ) (g : Dev Cert.GainGrad.nD → PrngReg), Pre_GainGrad m →
    θ_run (Cert.GainGrad.defs (F := Bits)) (onTc (τ := Cert.GainGrad.τ) (Cert.GainGrad.main (F := Bits))) ⟨m, fun _ => 0, g⟩ (fun r => (∀ c : Dev Cert.GainGrad.nD,
      r.2.mem ((c.tc : Thread Cert.GainGrad.nD Cert.GainGrad.τ).loc Cert.GainGrad.main_arg0) = m ((c.tc : Thread Cert.GainGrad.nD Cert.GainGrad.τ).loc Cert.GainGrad.main_arg0)
      ∧ r.2.mem ((c.tc : Thread Cert.GainGrad.nD Cert.GainGrad.τ).loc Cert.GainGrad.main_arg1) = m ((c.tc : Thread Cert.GainGrad.nD Cert.GainGrad.τ).loc Cert.GainGrad.main_arg1)
      ∧ r.2.mem ((c.tc : Thread Cert.GainGrad.nD Cert.GainGrad.τ).loc Cert.GainGrad.main_arg2) = m ((c.tc : Thread Cert.GainGrad.nD Cert.GainGrad.τ).loc Cert.GainGrad.main_arg2))
      ∧ r.2.sem = fun _ => 0)

def quiescent_GainGradIdeal [hGainGradIdeal : Cert.GainGradIdeal.Facts] : Prop :=
  ∀ (m : (ℓ : Loc Cert.GainGradIdeal.nD Cert.GainGradIdeal.τ Cert.GainGradIdeal.sig) → Buf (Elt Ideal) ℓ) (g : Dev Cert.GainGradIdeal.nD → PrngReg), Pre_GainGradIdeal m →
    θ_run (Cert.GainGradIdeal.defs (F := Ideal)) (onTc (τ := Cert.GainGradIdeal.τ) (Cert.GainGradIdeal.main (F := Ideal))) ⟨m, fun _ => 0, g⟩ (fun r => (∀ c : Dev Cert.GainGradIdeal.nD,
      r.2.mem ((c.tc : Thread Cert.GainGradIdeal.nD Cert.GainGradIdeal.τ).loc Cert.GainGradIdeal.main_arg0) = m ((c.tc : Thread Cert.GainGradIdeal.nD Cert.GainGradIdeal.τ).loc Cert.GainGradIdeal.main_arg0)
      ∧ r.2.mem ((c.tc : Thread Cert.GainGradIdeal.nD Cert.GainGradIdeal.τ).loc Cert.GainGradIdeal.main_arg1) = m ((c.tc : Thread Cert.GainGradIdeal.nD Cert.GainGradIdeal.τ).loc Cert.GainGradIdeal.main_arg1)
      ∧ r.2.mem ((c.tc : Thread Cert.GainGradIdeal.nD Cert.GainGradIdeal.τ).loc Cert.GainGradIdeal.main_arg2) = m ((c.tc : Thread Cert.GainGradIdeal.nD Cert.GainGradIdeal.τ).loc Cert.GainGradIdeal.main_arg2))
      ∧ r.2.sem = fun _ => 0)

def quiescent_GainGradRefIdeal [hGainGradRefIdeal : Cert.GainGradRefIdeal.Facts] : Prop :=
  ∀ (m : (ℓ : Loc Cert.GainGradRefIdeal.nD Cert.GainGradRefIdeal.τ Cert.GainGradRefIdeal.sig) → Buf (Elt Ideal) ℓ) (g : Dev Cert.GainGradRefIdeal.nD → PrngReg), Pre_GainGradRefIdeal m →
    θ_run (Cert.GainGradRefIdeal.defs (F := Ideal)) (onTc (τ := Cert.GainGradRefIdeal.τ) (Cert.GainGradRefIdeal.main (F := Ideal))) ⟨m, fun _ => 0, g⟩ (fun r => (∀ c : Dev Cert.GainGradRefIdeal.nD,
      r.2.mem ((c.tc : Thread Cert.GainGradRefIdeal.nD Cert.GainGradRefIdeal.τ).loc Cert.GainGradRefIdeal.main_arg0) = m ((c.tc : Thread Cert.GainGradRefIdeal.nD Cert.GainGradRefIdeal.τ).loc Cert.GainGradRefIdeal.main_arg0)
      ∧ r.2.mem ((c.tc : Thread Cert.GainGradRefIdeal.nD Cert.GainGradRefIdeal.τ).loc Cert.GainGradRefIdeal.main_arg1) = m ((c.tc : Thread Cert.GainGradRefIdeal.nD Cert.GainGradRefIdeal.τ).loc Cert.GainGradRefIdeal.main_arg1)
      ∧ r.2.mem ((c.tc : Thread Cert.GainGradRefIdeal.nD Cert.GainGradRefIdeal.τ).loc Cert.GainGradRefIdeal.main_arg2) = m ((c.tc : Thread Cert.GainGradRefIdeal.nD Cert.GainGradRefIdeal.τ).loc Cert.GainGradRefIdeal.main_arg2))
      ∧ r.2.sem = fun _ => 0)

def quiescent_MemDw [hMemDw : Cert.MemDw.Facts] : Prop :=
  ∀ (m : (ℓ : Loc Cert.MemDw.nD Cert.MemDw.τ Cert.MemDw.sig) → Buf (Elt Bits) ℓ) (g : Dev Cert.MemDw.nD → PrngReg), Pre_MemDw m →
    θ_run (Cert.MemDw.defs (F := Bits)) (onTc (τ := Cert.MemDw.τ) (Cert.MemDw.main (F := Bits))) ⟨m, fun _ => 0, g⟩ (fun r => (∀ c : Dev Cert.MemDw.nD,
      r.2.mem ((c.tc : Thread Cert.MemDw.nD Cert.MemDw.τ).loc Cert.MemDw.main_arg0) = m ((c.tc : Thread Cert.MemDw.nD Cert.MemDw.τ).loc Cert.MemDw.main_arg0)
      ∧ r.2.mem ((c.tc : Thread Cert.MemDw.nD Cert.MemDw.τ).loc Cert.MemDw.main_arg1) = m ((c.tc : Thread Cert.MemDw.nD Cert.MemDw.τ).loc Cert.MemDw.main_arg1))
      ∧ r.2.sem = fun _ => 0)

def quiescent_MemDwIdeal [hMemDwIdeal : Cert.MemDwIdeal.Facts] : Prop :=
  ∀ (m : (ℓ : Loc Cert.MemDwIdeal.nD Cert.MemDwIdeal.τ Cert.MemDwIdeal.sig) → Buf (Elt Ideal) ℓ) (g : Dev Cert.MemDwIdeal.nD → PrngReg), Pre_MemDwIdeal m →
    θ_run (Cert.MemDwIdeal.defs (F := Ideal)) (onTc (τ := Cert.MemDwIdeal.τ) (Cert.MemDwIdeal.main (F := Ideal))) ⟨m, fun _ => 0, g⟩ (fun r => (∀ c : Dev Cert.MemDwIdeal.nD,
      r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
      ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ r.2.sem = fun _ => 0)

def quiescent_MemDwRefIdeal [hMemDwRefIdeal : Cert.MemDwRefIdeal.Facts] : Prop :=
  ∀ (m : (ℓ : Loc Cert.MemDwRefIdeal.nD Cert.MemDwRefIdeal.τ Cert.MemDwRefIdeal.sig) → Buf (Elt Ideal) ℓ) (g : Dev Cert.MemDwRefIdeal.nD → PrngReg), Pre_MemDwRefIdeal m →
    θ_run (Cert.MemDwRefIdeal.defs (F := Ideal)) (onTc (τ := Cert.MemDwRefIdeal.τ) (Cert.MemDwRefIdeal.main (F := Ideal))) ⟨m, fun _ => 0, g⟩ (fun r => (∀ c : Dev Cert.MemDwRefIdeal.nD,
      r.2.mem ((c.tc : Thread Cert.MemDwRefIdeal.nD Cert.MemDwRefIdeal.τ).loc Cert.MemDwRefIdeal.main_arg0) = m ((c.tc : Thread Cert.MemDwRefIdeal.nD Cert.MemDwRefIdeal.τ).loc Cert.MemDwRefIdeal.main_arg0)
      ∧ r.2.mem ((c.tc : Thread Cert.MemDwRefIdeal.nD Cert.MemDwRefIdeal.τ).loc Cert.MemDwRefIdeal.main_arg1) = m ((c.tc : Thread Cert.MemDwRefIdeal.nD Cert.MemDwRefIdeal.τ).loc Cert.MemDwRefIdeal.main_arg1))
      ∧ r.2.sem = fun _ => 0)

def quiescent_MemDx [hMemDx : Cert.MemDx.Facts] : Prop :=
  ∀ (m : (ℓ : Loc Cert.MemDx.nD Cert.MemDx.τ Cert.MemDx.sig) → Buf (Elt Bits) ℓ) (g : Dev Cert.MemDx.nD → PrngReg), Pre_MemDx m →
    θ_run (Cert.MemDx.defs (F := Bits)) (onTc (τ := Cert.MemDx.τ) (Cert.MemDx.main (F := Bits))) ⟨m, fun _ => 0, g⟩ (fun r => (∀ c : Dev Cert.MemDx.nD,
      r.2.mem ((c.tc : Thread Cert.MemDx.nD Cert.MemDx.τ).loc Cert.MemDx.main_arg0) = m ((c.tc : Thread Cert.MemDx.nD Cert.MemDx.τ).loc Cert.MemDx.main_arg0)
      ∧ r.2.mem ((c.tc : Thread Cert.MemDx.nD Cert.MemDx.τ).loc Cert.MemDx.main_arg1) = m ((c.tc : Thread Cert.MemDx.nD Cert.MemDx.τ).loc Cert.MemDx.main_arg1))
      ∧ r.2.sem = fun _ => 0)

def quiescent_MemDxIdeal [hMemDxIdeal : Cert.MemDxIdeal.Facts] : Prop :=
  ∀ (m : (ℓ : Loc Cert.MemDxIdeal.nD Cert.MemDxIdeal.τ Cert.MemDxIdeal.sig) → Buf (Elt Ideal) ℓ) (g : Dev Cert.MemDxIdeal.nD → PrngReg), Pre_MemDxIdeal m →
    θ_run (Cert.MemDxIdeal.defs (F := Ideal)) (onTc (τ := Cert.MemDxIdeal.τ) (Cert.MemDxIdeal.main (F := Ideal))) ⟨m, fun _ => 0, g⟩ (fun r => (∀ c : Dev Cert.MemDxIdeal.nD,
      r.2.mem ((c.tc : Thread Cert.MemDxIdeal.nD Cert.MemDxIdeal.τ).loc Cert.MemDxIdeal.main_arg0) = m ((c.tc : Thread Cert.MemDxIdeal.nD Cert.MemDxIdeal.τ).loc Cert.MemDxIdeal.main_arg0)
      ∧ r.2.mem ((c.tc : Thread Cert.MemDxIdeal.nD Cert.MemDxIdeal.τ).loc Cert.MemDxIdeal.main_arg1) = m ((c.tc : Thread Cert.MemDxIdeal.nD Cert.MemDxIdeal.τ).loc Cert.MemDxIdeal.main_arg1))
      ∧ r.2.sem = fun _ => 0)

def quiescent_MemDxRefIdeal [hMemDxRefIdeal : Cert.MemDxRefIdeal.Facts] : Prop :=
  ∀ (m : (ℓ : Loc Cert.MemDxRefIdeal.nD Cert.MemDxRefIdeal.τ Cert.MemDxRefIdeal.sig) → Buf (Elt Ideal) ℓ) (g : Dev Cert.MemDxRefIdeal.nD → PrngReg), Pre_MemDxRefIdeal m →
    θ_run (Cert.MemDxRefIdeal.defs (F := Ideal)) (onTc (τ := Cert.MemDxRefIdeal.τ) (Cert.MemDxRefIdeal.main (F := Ideal))) ⟨m, fun _ => 0, g⟩ (fun r => (∀ c : Dev Cert.MemDxRefIdeal.nD,
      r.2.mem ((c.tc : Thread Cert.MemDxRefIdeal.nD Cert.MemDxRefIdeal.τ).loc Cert.MemDxRefIdeal.main_arg0) = m ((c.tc : Thread Cert.MemDxRefIdeal.nD Cert.MemDxRefIdeal.τ).loc Cert.MemDxRefIdeal.main_arg0)
      ∧ r.2.mem ((c.tc : Thread Cert.MemDxRefIdeal.nD Cert.MemDxRefIdeal.τ).loc Cert.MemDxRefIdeal.main_arg1) = m ((c.tc : Thread Cert.MemDxRefIdeal.nD Cert.MemDxRefIdeal.τ).loc Cert.MemDxRefIdeal.main_arg1))
      ∧ r.2.sem = fun _ => 0)

def quiescent_MemIn [hMemIn : Cert.MemIn.Facts] : Prop :=
  ∀ (m : (ℓ : Loc Cert.MemIn.nD Cert.MemIn.τ Cert.MemIn.sig) → Buf (Elt Bits) ℓ) (g : Dev Cert.MemIn.nD → PrngReg), Pre_MemIn m →
    θ_run (Cert.MemIn.defs (F := Bits)) (onTc (τ := Cert.MemIn.τ) (Cert.MemIn.main (F := Bits))) ⟨m, fun _ => 0, g⟩ (fun r => (∀ c : Dev Cert.MemIn.nD,
      r.2.mem ((c.tc : Thread Cert.MemIn.nD Cert.MemIn.τ).loc Cert.MemIn.main_arg0) = m ((c.tc : Thread Cert.MemIn.nD Cert.MemIn.τ).loc Cert.MemIn.main_arg0)
      ∧ r.2.mem ((c.tc : Thread Cert.MemIn.nD Cert.MemIn.τ).loc Cert.MemIn.main_arg1) = m ((c.tc : Thread Cert.MemIn.nD Cert.MemIn.τ).loc Cert.MemIn.main_arg1))
      ∧ r.2.sem = fun _ => 0)

def quiescent_MemInIdeal [hMemInIdeal : Cert.MemInIdeal.Facts] : Prop :=
  ∀ (m : (ℓ : Loc Cert.MemInIdeal.nD Cert.MemInIdeal.τ Cert.MemInIdeal.sig) → Buf (Elt Ideal) ℓ) (g : Dev Cert.MemInIdeal.nD → PrngReg), Pre_MemInIdeal m →
    θ_run (Cert.MemInIdeal.defs (F := Ideal)) (onTc (τ := Cert.MemInIdeal.τ) (Cert.MemInIdeal.main (F := Ideal))) ⟨m, fun _ => 0, g⟩ (fun r => (∀ c : Dev Cert.MemInIdeal.nD,
      r.2.mem ((c.tc : Thread Cert.MemInIdeal.nD Cert.MemInIdeal.τ).loc Cert.MemInIdeal.main_arg0) = m ((c.tc : Thread Cert.MemInIdeal.nD Cert.MemInIdeal.τ).loc Cert.MemInIdeal.main_arg0)
      ∧ r.2.mem ((c.tc : Thread Cert.MemInIdeal.nD Cert.MemInIdeal.τ).loc Cert.MemInIdeal.main_arg1) = m ((c.tc : Thread Cert.MemInIdeal.nD Cert.MemInIdeal.τ).loc Cert.MemInIdeal.main_arg1))
      ∧ r.2.sem = fun _ => 0)

def quiescent_MemInRefIdeal [hMemInRefIdeal : Cert.MemInRefIdeal.Facts] : Prop :=
  ∀ (m : (ℓ : Loc Cert.MemInRefIdeal.nD Cert.MemInRefIdeal.τ Cert.MemInRefIdeal.sig) → Buf (Elt Ideal) ℓ) (g : Dev Cert.MemInRefIdeal.nD → PrngReg), Pre_MemInRefIdeal m →
    θ_run (Cert.MemInRefIdeal.defs (F := Ideal)) (onTc (τ := Cert.MemInRefIdeal.τ) (Cert.MemInRefIdeal.main (F := Ideal))) ⟨m, fun _ => 0, g⟩ (fun r => (∀ c : Dev Cert.MemInRefIdeal.nD,
      r.2.mem ((c.tc : Thread Cert.MemInRefIdeal.nD Cert.MemInRefIdeal.τ).loc Cert.MemInRefIdeal.main_arg0) = m ((c.tc : Thread Cert.MemInRefIdeal.nD Cert.MemInRefIdeal.τ).loc Cert.MemInRefIdeal.main_arg0)
      ∧ r.2.mem ((c.tc : Thread Cert.MemInRefIdeal.nD Cert.MemInRefIdeal.τ).loc Cert.MemInRefIdeal.main_arg1) = m ((c.tc : Thread Cert.MemInRefIdeal.nD Cert.MemInRefIdeal.τ).loc Cert.MemInRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v21) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v8_0)) (v1 : (c : Dev Cert.NormIdeal.nD) → Buf (Elt Ideal) ((c.tc : Thread Cert.NormIdeal.nD Cert.NormIdeal.τ).loc Cert.NormIdeal.main_v8_1)) (v2 : (c : Dev Cert.NormIdeal.nD) → Buf (Elt Ideal) ((c.tc : Thread Cert.NormIdeal.nD Cert.NormIdeal.τ).loc Cert.NormIdeal.main_v8_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v8_0) = v0 c
          ∧ r.2.mem ((c.tc : Thread Cert.NormIdeal.nD Cert.NormIdeal.τ).loc Cert.NormIdeal.main_v8_1) = v1 c
          ∧ r.2.mem ((c.tc : Thread Cert.NormIdeal.nD Cert.NormIdeal.τ).loc Cert.NormIdeal.main_v8_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v52) = v0 c
          ∧ r.2.mem ((c.tc : Thread Cert.NormRefIdeal.nD Cert.NormRefIdeal.τ).loc Cert.NormRefIdeal.main_v54) = v1 c
          ∧ r.2.mem ((c.tc : Thread Cert.NormRefIdeal.nD Cert.NormRefIdeal.τ).loc Cert.NormRefIdeal.main_v51) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v16) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v10) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DnHalves_DnHalvesIdeal : Prop :=
  True

def algebraic_DnHalvesIdeal_DnHalvesRefIdeal [hDnHalvesIdeal : Cert.DnHalvesIdeal.Facts] [hDnHalvesRefIdeal : Cert.DnHalvesRefIdeal.Facts] : Prop :=
  ∀ (m : (ℓ : Loc Cert.DnHalvesIdeal.nD Cert.DnHalvesIdeal.τ Cert.DnHalvesIdeal.sig) → Buf (Elt Ideal) ℓ) (g : Dev Cert.DnHalvesIdeal.nD → PrngReg)
    (m' : (ℓ : Loc Cert.DnHalvesRefIdeal.nD Cert.DnHalvesRefIdeal.τ Cert.DnHalvesRefIdeal.sig) → Buf (Elt Ideal) ℓ) (g' : Dev Cert.DnHalvesRefIdeal.nD → PrngReg), Pre_DnHalvesIdeal m →
    (∀ c : Dev Cert.DnHalvesIdeal.nD,
      m' ((c.tc : Thread Cert.DnHalvesRefIdeal.nD Cert.DnHalvesRefIdeal.τ).loc Cert.DnHalvesRefIdeal.main_arg0) = m ((c.tc : Thread Cert.DnHalvesIdeal.nD Cert.DnHalvesIdeal.τ).loc Cert.DnHalvesIdeal.main_arg0)
      ∧ m' ((c.tc : Thread Cert.DnHalvesRefIdeal.nD Cert.DnHalvesRefIdeal.τ).loc Cert.DnHalvesRefIdeal.main_arg1) = m ((c.tc : Thread Cert.DnHalvesIdeal.nD Cert.DnHalvesIdeal.τ).loc Cert.DnHalvesIdeal.main_arg1)
      ∧ m' ((c.tc : Thread Cert.DnHalvesRefIdeal.nD Cert.DnHalvesRefIdeal.τ).loc Cert.DnHalvesRefIdeal.main_arg2) = m ((c.tc : Thread Cert.DnHalvesIdeal.nD Cert.DnHalvesIdeal.τ).loc Cert.DnHalvesIdeal.main_arg2)) →
    ∃ (v0 : (c : Dev Cert.DnHalvesIdeal.nD) → Buf (Elt Ideal) ((c.tc : Thread Cert.DnHalvesIdeal.nD Cert.DnHalvesIdeal.τ).loc Cert.DnHalvesIdeal.main_v0)),
      θ_run (Cert.DnHalvesIdeal.defs (F := Ideal)) (onTc (τ := Cert.DnHalvesIdeal.τ) (Cert.DnHalvesIdeal.main (F := Ideal))) ⟨m, fun _ => 0, g⟩ (fun r => ∀ c : Dev Cert.DnHalvesIdeal.nD,
          r.2.mem ((c.tc : Thread Cert.DnHalvesIdeal.nD Cert.DnHalvesIdeal.τ).loc Cert.DnHalvesIdeal.main_v0) = v0 c
          ∧ r.2.mem ((c.tc : Thread Cert.DnHalvesIdeal.nD Cert.DnHalvesIdeal.τ).loc Cert.DnHalvesIdeal.main_arg0) = m ((c.tc : Thread Cert.DnHalvesIdeal.nD Cert.DnHalvesIdeal.τ).loc Cert.DnHalvesIdeal.main_arg0)
          ∧ r.2.mem ((c.tc : Thread Cert.DnHalvesIdeal.nD Cert.DnHalvesIdeal.τ).loc Cert.DnHalvesIdeal.main_arg1) = m ((c.tc : Thread Cert.DnHalvesIdeal.nD Cert.DnHalvesIdeal.τ).loc Cert.DnHalvesIdeal.main_arg1)
          ∧ r.2.mem ((c.tc : Thread Cert.DnHalvesIdeal.nD Cert.DnHalvesIdeal.τ).loc Cert.DnHalvesIdeal.main_arg2) = m ((c.tc : Thread Cert.DnHalvesIdeal.nD Cert.DnHalvesIdeal.τ).loc Cert.DnHalvesIdeal.main_arg2))
      ∧ θ_run (Cert.DnHalvesRefIdeal.defs (F := Ideal)) (onTc (τ := Cert.DnHalvesRefIdeal.τ) (Cert.DnHalvesRefIdeal.main (F := Ideal))) ⟨m', fun _ => 0, g'⟩ (fun r => ∀ c : Dev Cert.DnHalvesRefIdeal.nD,
          r.2.mem ((c.tc : Thread Cert.DnHalvesRefIdeal.nD Cert.DnHalvesRefIdeal.τ).loc Cert.DnHalvesRefIdeal.main_v20) = v0 c
          ∧ r.2.mem ((c.tc : Thread Cert.DnHalvesRefIdeal.nD Cert.DnHalvesRefIdeal.τ).loc Cert.DnHalvesRefIdeal.main_arg0) = m' ((c.tc : Thread Cert.DnHalvesRefIdeal.nD Cert.DnHalvesRefIdeal.τ).loc Cert.DnHalvesRefIdeal.main_arg0)
          ∧ r.2.mem ((c.tc : Thread Cert.DnHalvesRefIdeal.nD Cert.DnHalvesRefIdeal.τ).loc Cert.DnHalvesRefIdeal.main_arg1) = m' ((c.tc : Thread Cert.DnHalvesRefIdeal.nD Cert.DnHalvesRefIdeal.τ).loc Cert.DnHalvesRefIdeal.main_arg1)
          ∧ r.2.mem ((c.tc : Thread Cert.DnHalvesRefIdeal.nD Cert.DnHalvesRefIdeal.τ).loc Cert.DnHalvesRefIdeal.main_arg2) = m' ((c.tc : Thread Cert.DnHalvesRefIdeal.nD Cert.DnHalvesRefIdeal.τ).loc Cert.DnHalvesRefIdeal.main_arg2))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0_0)) (v1 : (c : Dev Cert.GateFwdIdeal.nD) → Buf (Elt Ideal) ((c.tc : Thread Cert.GateFwdIdeal.nD Cert.GateFwdIdeal.τ).loc Cert.GateFwdIdeal.main_v0_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0_0) = v0 c
          ∧ r.2.mem ((c.tc : Thread Cert.GateFwdIdeal.nD Cert.GateFwdIdeal.τ).loc Cert.GateFwdIdeal.main_v0_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v8) = v0 c
          ∧ r.2.mem ((c.tc : Thread Cert.GateFwdRefIdeal.nD Cert.GateFwdRefIdeal.τ).loc Cert.GateFwdRefIdeal.main_v11) = v1 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v5) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v2_0)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v2_0) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v114) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v3) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v6) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)
      ∧ m' ((c.tc : Thread Cert.MixDxRefIdeal.nD Cert.MixDxRefIdeal.τ).loc Cert.MixDxRefIdeal.main_arg2) = m ((c.tc : Thread Cert.MixDxIdeal.nD Cert.MixDxIdeal.τ).loc Cert.MixDxIdeal.main_arg2)
      ∧ m' ((c.tc : Thread Cert.MixDxRefIdeal.nD Cert.MixDxRefIdeal.τ).loc Cert.MixDxRefIdeal.main_arg3) = m ((c.tc : Thread Cert.MixDxIdeal.nD Cert.MixDxIdeal.τ).loc Cert.MixDxIdeal.main_arg3)
      ∧ m' ((c.tc : Thread Cert.MixDxRefIdeal.nD Cert.MixDxRefIdeal.τ).loc Cert.MixDxRefIdeal.main_arg4) = m ((c.tc : Thread Cert.MixDxIdeal.nD Cert.MixDxIdeal.τ).loc Cert.MixDxIdeal.main_arg4)) →
    ∃ (v0 : (c : Dev Cert.MixDxIdeal.nD) → Buf (Elt Ideal) ((c.tc : Thread Cert.MixDxIdeal.nD Cert.MixDxIdeal.τ).loc Cert.MixDxIdeal.main_v8_0)) (v1 : (c : Dev Cert.MixDxIdeal.nD) → Buf (Elt Ideal) ((c.tc : Thread Cert.MixDxIdeal.nD Cert.MixDxIdeal.τ).loc Cert.MixDxIdeal.main_v8_1)) (v2 : (c : Dev Cert.MixDxIdeal.nD) → Buf (Elt Ideal) ((c.tc : Thread Cert.MixDxIdeal.nD Cert.MixDxIdeal.τ).loc Cert.MixDxIdeal.main_v8_2)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v8_0) = v0 c
          ∧ r.2.mem ((c.tc : Thread Cert.MixDxIdeal.nD Cert.MixDxIdeal.τ).loc Cert.MixDxIdeal.main_v8_1) = v1 c
          ∧ r.2.mem ((c.tc : Thread Cert.MixDxIdeal.nD Cert.MixDxIdeal.τ).loc Cert.MixDxIdeal.main_v8_2) = v2 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
          ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
          ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v42) = v0 c
          ∧ r.2.mem ((c.tc : Thread Cert.MixDxRefIdeal.nD Cert.MixDxRefIdeal.τ).loc Cert.MixDxRefIdeal.main_v44) = v1 c
          ∧ r.2.mem ((c.tc : Thread Cert.MixDxRefIdeal.nD Cert.MixDxRefIdeal.τ).loc Cert.MixDxRefIdeal.main_v41) = v2 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1)
          ∧ r.2.mem ((c.tc : Thread Cert.MixDxRefIdeal.nD Cert.MixDxRefIdeal.τ).loc Cert.MixDxRefIdeal.main_arg2) = m' ((c.tc : Thread Cert.MixDxRefIdeal.nD Cert.MixDxRefIdeal.τ).loc Cert.MixDxRefIdeal.main_arg2)
          ∧ r.2.mem ((c.tc : Thread Cert.MixDxRefIdeal.nD Cert.MixDxRefIdeal.τ).loc Cert.MixDxRefIdeal.main_arg3) = m' ((c.tc : Thread Cert.MixDxRefIdeal.nD Cert.MixDxRefIdeal.τ).loc Cert.MixDxRefIdeal.main_arg3)
          ∧ r.2.mem ((c.tc : Thread Cert.MixDxRefIdeal.nD Cert.MixDxRefIdeal.τ).loc Cert.MixDxRefIdeal.main_arg4) = m' ((c.tc : Thread Cert.MixDxRefIdeal.nD Cert.MixDxRefIdeal.τ).loc Cert.MixDxRefIdeal.main_arg4))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v3) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_QueryDx_QueryDxIdeal : Prop :=
  True

def algebraic_QueryDxIdeal_QueryDxRefIdeal [hQueryDxIdeal : Cert.QueryDxIdeal.Facts] [hQueryDxRefIdeal : Cert.QueryDxRefIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg)
    (m' : (ℓ : Loc Cert.QueryDxRefIdeal.nD Cert.QueryDxRefIdeal.τ Cert.QueryDxRefIdeal.sig) → Buf (Elt Ideal) ℓ) (g' : Dev Cert.QueryDxRefIdeal.nD → PrngReg), Pre_QueryDxIdeal m →
    (∀ c : Dev Cert.QueryDxIdeal.nD,
      m' ((c.tc : Thread Cert.QueryDxRefIdeal.nD Cert.QueryDxRefIdeal.τ).loc Cert.QueryDxRefIdeal.main_arg0) = m ((c.tc : Thread Cert.QueryDxIdeal.nD Cert.QueryDxIdeal.τ).loc Cert.QueryDxIdeal.main_arg0)
      ∧ m' ((c.tc : Thread Cert.QueryDxRefIdeal.nD Cert.QueryDxRefIdeal.τ).loc Cert.QueryDxRefIdeal.main_arg1) = m ((c.tc : Thread Cert.QueryDxIdeal.nD Cert.QueryDxIdeal.τ).loc Cert.QueryDxIdeal.main_arg1)
      ∧ m' ((c.tc : Thread Cert.QueryDxRefIdeal.nD Cert.QueryDxRefIdeal.τ).loc Cert.QueryDxRefIdeal.main_arg2) = m ((c.tc : Thread Cert.QueryDxIdeal.nD Cert.QueryDxIdeal.τ).loc Cert.QueryDxIdeal.main_arg2)
      ∧ m' ((c.tc : Thread Cert.QueryDxRefIdeal.nD Cert.QueryDxRefIdeal.τ).loc Cert.QueryDxRefIdeal.main_arg3) = m ((c.tc : Thread Cert.QueryDxIdeal.nD Cert.QueryDxIdeal.τ).loc Cert.QueryDxIdeal.main_arg3)
      ∧ m' ((c.tc : Thread Cert.QueryDxRefIdeal.nD Cert.QueryDxRefIdeal.τ).loc Cert.QueryDxRefIdeal.main_arg4) = m ((c.tc : Thread Cert.QueryDxIdeal.nD Cert.QueryDxIdeal.τ).loc Cert.QueryDxIdeal.main_arg4)) →
    ∃ (v0 : (c : Dev Cert.QueryDxIdeal.nD) → Buf (Elt Ideal) ((c.tc : Thread Cert.QueryDxIdeal.nD Cert.QueryDxIdeal.τ).loc Cert.QueryDxIdeal.main_v8_0)) (v1 : (c : Dev Cert.QueryDxIdeal.nD) → Buf (Elt Ideal) ((c.tc : Thread Cert.QueryDxIdeal.nD Cert.QueryDxIdeal.τ).loc Cert.QueryDxIdeal.main_v8_1)) (v2 : (c : Dev Cert.QueryDxIdeal.nD) → Buf (Elt Ideal) ((c.tc : Thread Cert.QueryDxIdeal.nD Cert.QueryDxIdeal.τ).loc Cert.QueryDxIdeal.main_v8_2)),
      θ_run (Cert.QueryDxIdeal.defs (F := Ideal)) (onTc (τ := Cert.QueryDxIdeal.τ) (Cert.QueryDxIdeal.main (F := Ideal))) ⟨m, fun _ => 0, g⟩ (fun r => ∀ c : Dev Cert.QueryDxIdeal.nD,
          r.2.mem ((c.tc : Thread Cert.QueryDxIdeal.nD Cert.QueryDxIdeal.τ).loc Cert.QueryDxIdeal.main_v8_0) = v0 c
          ∧ r.2.mem ((c.tc : Thread Cert.QueryDxIdeal.nD Cert.QueryDxIdeal.τ).loc Cert.QueryDxIdeal.main_v8_1) = v1 c
          ∧ r.2.mem ((c.tc : Thread Cert.QueryDxIdeal.nD Cert.QueryDxIdeal.τ).loc Cert.QueryDxIdeal.main_v8_2) = v2 c
          ∧ r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
          ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1)
          ∧ r.2.mem ((c.tc : Thread Cert.QueryDxIdeal.nD Cert.QueryDxIdeal.τ).loc Cert.QueryDxIdeal.main_arg2) = m ((c.tc : Thread Cert.QueryDxIdeal.nD Cert.QueryDxIdeal.τ).loc Cert.QueryDxIdeal.main_arg2)
          ∧ r.2.mem ((c.tc : Thread Cert.QueryDxIdeal.nD Cert.QueryDxIdeal.τ).loc Cert.QueryDxIdeal.main_arg3) = m ((c.tc : Thread Cert.QueryDxIdeal.nD Cert.QueryDxIdeal.τ).loc Cert.QueryDxIdeal.main_arg3)
          ∧ r.2.mem ((c.tc : Thread Cert.QueryDxIdeal.nD Cert.QueryDxIdeal.τ).loc Cert.QueryDxIdeal.main_arg4) = m ((c.tc : Thread Cert.QueryDxIdeal.nD Cert.QueryDxIdeal.τ).loc Cert.QueryDxIdeal.main_arg4))
      ∧ θ_run (Cert.QueryDxRefIdeal.defs (F := Ideal)) (onTc (τ := Cert.QueryDxRefIdeal.τ) (Cert.QueryDxRefIdeal.main (F := Ideal))) ⟨m', fun _ => 0, g'⟩ (fun r => ∀ c : Dev Cert.QueryDxRefIdeal.nD,
          r.2.mem ((c.tc : Thread Cert.QueryDxRefIdeal.nD Cert.QueryDxRefIdeal.τ).loc Cert.QueryDxRefIdeal.main_v42) = v0 c
          ∧ r.2.mem ((c.tc : Thread Cert.QueryDxRefIdeal.nD Cert.QueryDxRefIdeal.τ).loc Cert.QueryDxRefIdeal.main_v44) = v1 c
          ∧ r.2.mem ((c.tc : Thread Cert.QueryDxRefIdeal.nD Cert.QueryDxRefIdeal.τ).loc Cert.QueryDxRefIdeal.main_v41) = v2 c
          ∧ r.2.mem ((c.tc : Thread Cert.QueryDxRefIdeal.nD Cert.QueryDxRefIdeal.τ).loc Cert.QueryDxRefIdeal.main_arg0) = m' ((c.tc : Thread Cert.QueryDxRefIdeal.nD Cert.QueryDxRefIdeal.τ).loc Cert.QueryDxRefIdeal.main_arg0)
          ∧ r.2.mem ((c.tc : Thread Cert.QueryDxRefIdeal.nD Cert.QueryDxRefIdeal.τ).loc Cert.QueryDxRefIdeal.main_arg1) = m' ((c.tc : Thread Cert.QueryDxRefIdeal.nD Cert.QueryDxRefIdeal.τ).loc Cert.QueryDxRefIdeal.main_arg1)
          ∧ r.2.mem ((c.tc : Thread Cert.QueryDxRefIdeal.nD Cert.QueryDxRefIdeal.τ).loc Cert.QueryDxRefIdeal.main_arg2) = m' ((c.tc : Thread Cert.QueryDxRefIdeal.nD Cert.QueryDxRefIdeal.τ).loc Cert.QueryDxRefIdeal.main_arg2)
          ∧ r.2.mem ((c.tc : Thread Cert.QueryDxRefIdeal.nD Cert.QueryDxRefIdeal.τ).loc Cert.QueryDxRefIdeal.main_arg3) = m' ((c.tc : Thread Cert.QueryDxRefIdeal.nD Cert.QueryDxRefIdeal.τ).loc Cert.QueryDxRefIdeal.main_arg3)
          ∧ r.2.mem ((c.tc : Thread Cert.QueryDxRefIdeal.nD Cert.QueryDxRefIdeal.τ).loc Cert.QueryDxRefIdeal.main_arg4) = m' ((c.tc : Thread Cert.QueryDxRefIdeal.nD Cert.QueryDxRefIdeal.τ).loc Cert.QueryDxRefIdeal.main_arg4))

def preserves_OutSum_OutSumIdeal : Prop :=
  True

def algebraic_OutSumIdeal_OutSumRefIdeal [hOutSumIdeal : Cert.OutSumIdeal.Facts] [hOutSumRefIdeal : Cert.OutSumRefIdeal.Facts] : Prop :=
  ∀ (m : (ℓ : Loc Cert.OutSumIdeal.nD Cert.OutSumIdeal.τ Cert.OutSumIdeal.sig) → Buf (Elt Ideal) ℓ) (g : Dev Cert.OutSumIdeal.nD → PrngReg)
    (m' : (ℓ : Loc Cert.OutSumRefIdeal.nD Cert.OutSumRefIdeal.τ Cert.OutSumRefIdeal.sig) → Buf (Elt Ideal) ℓ) (g' : Dev Cert.OutSumRefIdeal.nD → PrngReg), Pre_OutSumIdeal m →
    (∀ c : Dev Cert.OutSumIdeal.nD,
      m' ((c.tc : Thread Cert.OutSumRefIdeal.nD Cert.OutSumRefIdeal.τ).loc Cert.OutSumRefIdeal.main_arg0) = m ((c.tc : Thread Cert.OutSumIdeal.nD Cert.OutSumIdeal.τ).loc Cert.OutSumIdeal.main_arg0)
      ∧ m' ((c.tc : Thread Cert.OutSumRefIdeal.nD Cert.OutSumRefIdeal.τ).loc Cert.OutSumRefIdeal.main_arg1) = m ((c.tc : Thread Cert.OutSumIdeal.nD Cert.OutSumIdeal.τ).loc Cert.OutSumIdeal.main_arg1)
      ∧ m' ((c.tc : Thread Cert.OutSumRefIdeal.nD Cert.OutSumRefIdeal.τ).loc Cert.OutSumRefIdeal.main_arg2) = m ((c.tc : Thread Cert.OutSumIdeal.nD Cert.OutSumIdeal.τ).loc Cert.OutSumIdeal.main_arg2)) →
    ∃ (v0 : (c : Dev Cert.OutSumIdeal.nD) → Buf (Elt Ideal) ((c.tc : Thread Cert.OutSumIdeal.nD Cert.OutSumIdeal.τ).loc Cert.OutSumIdeal.main_v0)),
      θ_run (Cert.OutSumIdeal.defs (F := Ideal)) (onTc (τ := Cert.OutSumIdeal.τ) (Cert.OutSumIdeal.main (F := Ideal))) ⟨m, fun _ => 0, g⟩ (fun r => ∀ c : Dev Cert.OutSumIdeal.nD,
          r.2.mem ((c.tc : Thread Cert.OutSumIdeal.nD Cert.OutSumIdeal.τ).loc Cert.OutSumIdeal.main_v0) = v0 c
          ∧ r.2.mem ((c.tc : Thread Cert.OutSumIdeal.nD Cert.OutSumIdeal.τ).loc Cert.OutSumIdeal.main_arg0) = m ((c.tc : Thread Cert.OutSumIdeal.nD Cert.OutSumIdeal.τ).loc Cert.OutSumIdeal.main_arg0)
          ∧ r.2.mem ((c.tc : Thread Cert.OutSumIdeal.nD Cert.OutSumIdeal.τ).loc Cert.OutSumIdeal.main_arg1) = m ((c.tc : Thread Cert.OutSumIdeal.nD Cert.OutSumIdeal.τ).loc Cert.OutSumIdeal.main_arg1)
          ∧ r.2.mem ((c.tc : Thread Cert.OutSumIdeal.nD Cert.OutSumIdeal.τ).loc Cert.OutSumIdeal.main_arg2) = m ((c.tc : Thread Cert.OutSumIdeal.nD Cert.OutSumIdeal.τ).loc Cert.OutSumIdeal.main_arg2))
      ∧ θ_run (Cert.OutSumRefIdeal.defs (F := Ideal)) (onTc (τ := Cert.OutSumRefIdeal.τ) (Cert.OutSumRefIdeal.main (F := Ideal))) ⟨m', fun _ => 0, g'⟩ (fun r => ∀ c : Dev Cert.OutSumRefIdeal.nD,
          r.2.mem ((c.tc : Thread Cert.OutSumRefIdeal.nD Cert.OutSumRefIdeal.τ).loc Cert.OutSumRefIdeal.main_v3) = v0 c
          ∧ r.2.mem ((c.tc : Thread Cert.OutSumRefIdeal.nD Cert.OutSumRefIdeal.τ).loc Cert.OutSumRefIdeal.main_arg0) = m' ((c.tc : Thread Cert.OutSumRefIdeal.nD Cert.OutSumRefIdeal.τ).loc Cert.OutSumRefIdeal.main_arg0)
          ∧ r.2.mem ((c.tc : Thread Cert.OutSumRefIdeal.nD Cert.OutSumRefIdeal.τ).loc Cert.OutSumRefIdeal.main_arg1) = m' ((c.tc : Thread Cert.OutSumRefIdeal.nD Cert.OutSumRefIdeal.τ).loc Cert.OutSumRefIdeal.main_arg1)
          ∧ r.2.mem ((c.tc : Thread Cert.OutSumRefIdeal.nD Cert.OutSumRefIdeal.τ).loc Cert.OutSumRefIdeal.main_arg2) = m' ((c.tc : Thread Cert.OutSumRefIdeal.nD Cert.OutSumRefIdeal.τ).loc Cert.OutSumRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_FfnHalves_FfnHalvesIdeal : Prop :=
  True

def algebraic_FfnHalvesIdeal_FfnHalvesRefIdeal [hFfnHalvesIdeal : Cert.FfnHalvesIdeal.Facts] [hFfnHalvesRefIdeal : Cert.FfnHalvesRefIdeal.Facts] : Prop :=
  ∀ (m : (ℓ : Loc Cert.FfnHalvesIdeal.nD Cert.FfnHalvesIdeal.τ Cert.FfnHalvesIdeal.sig) → Buf (Elt Ideal) ℓ) (g : Dev Cert.FfnHalvesIdeal.nD → PrngReg)
    (m' : (ℓ : Loc Cert.FfnHalvesRefIdeal.nD Cert.FfnHalvesRefIdeal.τ Cert.FfnHalvesRefIdeal.sig) → Buf (Elt Ideal) ℓ) (g' : Dev Cert.FfnHalvesRefIdeal.nD → PrngReg), Pre_FfnHalvesIdeal m →
    (∀ c : Dev Cert.FfnHalvesIdeal.nD,
      m' ((c.tc : Thread Cert.FfnHalvesRefIdeal.nD Cert.FfnHalvesRefIdeal.τ).loc Cert.FfnHalvesRefIdeal.main_arg0) = m ((c.tc : Thread Cert.FfnHalvesIdeal.nD Cert.FfnHalvesIdeal.τ).loc Cert.FfnHalvesIdeal.main_arg0)
      ∧ m' ((c.tc : Thread Cert.FfnHalvesRefIdeal.nD Cert.FfnHalvesRefIdeal.τ).loc Cert.FfnHalvesRefIdeal.main_arg1) = m ((c.tc : Thread Cert.FfnHalvesIdeal.nD Cert.FfnHalvesIdeal.τ).loc Cert.FfnHalvesIdeal.main_arg1)
      ∧ m' ((c.tc : Thread Cert.FfnHalvesRefIdeal.nD Cert.FfnHalvesRefIdeal.τ).loc Cert.FfnHalvesRefIdeal.main_arg2) = m ((c.tc : Thread Cert.FfnHalvesIdeal.nD Cert.FfnHalvesIdeal.τ).loc Cert.FfnHalvesIdeal.main_arg2)) →
    ∃ (v0 : (c : Dev Cert.FfnHalvesIdeal.nD) → Buf (Elt Ideal) ((c.tc : Thread Cert.FfnHalvesIdeal.nD Cert.FfnHalvesIdeal.τ).loc Cert.FfnHalvesIdeal.main_v1_0)) (v1 : (c : Dev Cert.FfnHalvesIdeal.nD) → Buf (Elt Ideal) ((c.tc : Thread Cert.FfnHalvesIdeal.nD Cert.FfnHalvesIdeal.τ).loc Cert.FfnHalvesIdeal.main_v1_1)),
      θ_run (Cert.FfnHalvesIdeal.defs (F := Ideal)) (onTc (τ := Cert.FfnHalvesIdeal.τ) (Cert.FfnHalvesIdeal.main (F := Ideal))) ⟨m, fun _ => 0, g⟩ (fun r => ∀ c : Dev Cert.FfnHalvesIdeal.nD,
          r.2.mem ((c.tc : Thread Cert.FfnHalvesIdeal.nD Cert.FfnHalvesIdeal.τ).loc Cert.FfnHalvesIdeal.main_v1_0) = v0 c
          ∧ r.2.mem ((c.tc : Thread Cert.FfnHalvesIdeal.nD Cert.FfnHalvesIdeal.τ).loc Cert.FfnHalvesIdeal.main_v1_1) = v1 c
          ∧ r.2.mem ((c.tc : Thread Cert.FfnHalvesIdeal.nD Cert.FfnHalvesIdeal.τ).loc Cert.FfnHalvesIdeal.main_arg0) = m ((c.tc : Thread Cert.FfnHalvesIdeal.nD Cert.FfnHalvesIdeal.τ).loc Cert.FfnHalvesIdeal.main_arg0)
          ∧ r.2.mem ((c.tc : Thread Cert.FfnHalvesIdeal.nD Cert.FfnHalvesIdeal.τ).loc Cert.FfnHalvesIdeal.main_arg1) = m ((c.tc : Thread Cert.FfnHalvesIdeal.nD Cert.FfnHalvesIdeal.τ).loc Cert.FfnHalvesIdeal.main_arg1)
          ∧ r.2.mem ((c.tc : Thread Cert.FfnHalvesIdeal.nD Cert.FfnHalvesIdeal.τ).loc Cert.FfnHalvesIdeal.main_arg2) = m ((c.tc : Thread Cert.FfnHalvesIdeal.nD Cert.FfnHalvesIdeal.τ).loc Cert.FfnHalvesIdeal.main_arg2))
      ∧ θ_run (Cert.FfnHalvesRefIdeal.defs (F := Ideal)) (onTc (τ := Cert.FfnHalvesRefIdeal.τ) (Cert.FfnHalvesRefIdeal.main (F := Ideal))) ⟨m', fun _ => 0, g'⟩ (fun r => ∀ c : Dev Cert.FfnHalvesRefIdeal.nD,
          r.2.mem ((c.tc : Thread Cert.FfnHalvesRefIdeal.nD Cert.FfnHalvesRefIdeal.τ).loc Cert.FfnHalvesRefIdeal.main_v14) = v0 c
          ∧ r.2.mem ((c.tc : Thread Cert.FfnHalvesRefIdeal.nD Cert.FfnHalvesRefIdeal.τ).loc Cert.FfnHalvesRefIdeal.main_v17) = v1 c
          ∧ r.2.mem ((c.tc : Thread Cert.FfnHalvesRefIdeal.nD Cert.FfnHalvesRefIdeal.τ).loc Cert.FfnHalvesRefIdeal.main_arg0) = m' ((c.tc : Thread Cert.FfnHalvesRefIdeal.nD Cert.FfnHalvesRefIdeal.τ).loc Cert.FfnHalvesRefIdeal.main_arg0)
          ∧ r.2.mem ((c.tc : Thread Cert.FfnHalvesRefIdeal.nD Cert.FfnHalvesRefIdeal.τ).loc Cert.FfnHalvesRefIdeal.main_arg1) = m' ((c.tc : Thread Cert.FfnHalvesRefIdeal.nD Cert.FfnHalvesRefIdeal.τ).loc Cert.FfnHalvesRefIdeal.main_arg1)
          ∧ r.2.mem ((c.tc : Thread Cert.FfnHalvesRefIdeal.nD Cert.FfnHalvesRefIdeal.τ).loc Cert.FfnHalvesRefIdeal.main_arg2) = m' ((c.tc : Thread Cert.FfnHalvesRefIdeal.nD Cert.FfnHalvesRefIdeal.τ).loc Cert.FfnHalvesRefIdeal.main_arg2))

def preserves_DwMine_DwMineIdeal : Prop :=
  True

def algebraic_DwMineIdeal_DwMineRefIdeal [hDwMineIdeal : Cert.DwMineIdeal.Facts] [hDwMineRefIdeal : Cert.DwMineRefIdeal.Facts] [hPre_place_in_range : Cert.Pre_place_in_range.Facts] : Prop :=
  ∀ (m : (ℓ : Loc Cert.DwMineIdeal.nD Cert.DwMineIdeal.τ Cert.DwMineIdeal.sig) → Buf (Elt Ideal) ℓ) (g : Dev Cert.DwMineIdeal.nD → PrngReg)
    (m' : (ℓ : Loc Cert.DwMineRefIdeal.nD Cert.DwMineRefIdeal.τ Cert.DwMineRefIdeal.sig) → Buf (Elt Ideal) ℓ) (g' : Dev Cert.DwMineRefIdeal.nD → PrngReg), Pre_DwMineIdeal m →
    (∀ c : Dev Cert.DwMineIdeal.nD,
      m' ((c.tc : Thread Cert.DwMineRefIdeal.nD Cert.DwMineRefIdeal.τ).loc Cert.DwMineRefIdeal.main_arg0) = m ((c.tc : Thread Cert.DwMineIdeal.nD Cert.DwMineIdeal.τ).loc Cert.DwMineIdeal.main_arg0)
      ∧ m' ((c.tc : Thread Cert.DwMineRefIdeal.nD Cert.DwMineRefIdeal.τ).loc Cert.DwMineRefIdeal.main_arg1) = m ((c.tc : Thread Cert.DwMineIdeal.nD Cert.DwMineIdeal.τ).loc Cert.DwMineIdeal.main_arg1)
      ∧ m' ((c.tc : Thread Cert.DwMineRefIdeal.nD Cert.DwMineRefIdeal.τ).loc Cert.DwMineRefIdeal.main_arg2) = m ((c.tc : Thread Cert.DwMineIdeal.nD Cert.DwMineIdeal.τ).loc Cert.DwMineIdeal.main_arg2)) →
    ∃ (v0 : (c : Dev Cert.DwMineIdeal.nD) → Buf (Elt Ideal) ((c.tc : Thread Cert.DwMineIdeal.nD Cert.DwMineIdeal.τ).loc Cert.DwMineIdeal.main_v0)),
      θ_run (Cert.DwMineIdeal.defs (F := Ideal)) (onTc (τ := Cert.DwMineIdeal.τ) (Cert.DwMineIdeal.main (F := Ideal))) ⟨m, fun _ => 0, g⟩ (fun r => ∀ c : Dev Cert.DwMineIdeal.nD,
          r.2.mem ((c.tc : Thread Cert.DwMineIdeal.nD Cert.DwMineIdeal.τ).loc Cert.DwMineIdeal.main_v0) = v0 c
          ∧ r.2.mem ((c.tc : Thread Cert.DwMineIdeal.nD Cert.DwMineIdeal.τ).loc Cert.DwMineIdeal.main_arg0) = m ((c.tc : Thread Cert.DwMineIdeal.nD Cert.DwMineIdeal.τ).loc Cert.DwMineIdeal.main_arg0)
          ∧ r.2.mem ((c.tc : Thread Cert.DwMineIdeal.nD Cert.DwMineIdeal.τ).loc Cert.DwMineIdeal.main_arg1) = m ((c.tc : Thread Cert.DwMineIdeal.nD Cert.DwMineIdeal.τ).loc Cert.DwMineIdeal.main_arg1)
          ∧ r.2.mem ((c.tc : Thread Cert.DwMineIdeal.nD Cert.DwMineIdeal.τ).loc Cert.DwMineIdeal.main_arg2) = m ((c.tc : Thread Cert.DwMineIdeal.nD Cert.DwMineIdeal.τ).loc Cert.DwMineIdeal.main_arg2))
      ∧ θ_run (Cert.DwMineRefIdeal.defs (F := Ideal)) (onTc (τ := Cert.DwMineRefIdeal.τ) (Cert.DwMineRefIdeal.main (F := Ideal))) ⟨m', fun _ => 0, g'⟩ (fun r => ∀ c : Dev Cert.DwMineRefIdeal.nD,
          r.2.mem ((c.tc : Thread Cert.DwMineRefIdeal.nD Cert.DwMineRefIdeal.τ).loc Cert.DwMineRefIdeal.main_v22) = v0 c
          ∧ r.2.mem ((c.tc : Thread Cert.DwMineRefIdeal.nD Cert.DwMineRefIdeal.τ).loc Cert.DwMineRefIdeal.main_arg0) = m' ((c.tc : Thread Cert.DwMineRefIdeal.nD Cert.DwMineRefIdeal.τ).loc Cert.DwMineRefIdeal.main_arg0)
          ∧ r.2.mem ((c.tc : Thread Cert.DwMineRefIdeal.nD Cert.DwMineRefIdeal.τ).loc Cert.DwMineRefIdeal.main_arg1) = m' ((c.tc : Thread Cert.DwMineRefIdeal.nD Cert.DwMineRefIdeal.τ).loc Cert.DwMineRefIdeal.main_arg1)
          ∧ r.2.mem ((c.tc : Thread Cert.DwMineRefIdeal.nD Cert.DwMineRefIdeal.τ).loc Cert.DwMineRefIdeal.main_arg2) = m' ((c.tc : Thread Cert.DwMineRefIdeal.nD Cert.DwMineRefIdeal.τ).loc Cert.DwMineRefIdeal.main_arg2))

def preserves_DwTheirs_DwTheirsIdeal : Prop :=
  True

def algebraic_DwTheirsIdeal_DwTheirsRefIdeal [hDwTheirsIdeal : Cert.DwTheirsIdeal.Facts] [hDwTheirsRefIdeal : Cert.DwTheirsRefIdeal.Facts] [hPre_place_in_range : Cert.Pre_place_in_range.Facts] : Prop :=
  ∀ (m : (ℓ : Loc Cert.DwTheirsIdeal.nD Cert.DwTheirsIdeal.τ Cert.DwTheirsIdeal.sig) → Buf (Elt Ideal) ℓ) (g : Dev Cert.DwTheirsIdeal.nD → PrngReg)
    (m' : (ℓ : Loc Cert.DwTheirsRefIdeal.nD Cert.DwTheirsRefIdeal.τ Cert.DwTheirsRefIdeal.sig) → Buf (Elt Ideal) ℓ) (g' : Dev Cert.DwTheirsRefIdeal.nD → PrngReg), Pre_DwTheirsIdeal m →
    (∀ c : Dev Cert.DwTheirsIdeal.nD,
      m' ((c.tc : Thread Cert.DwTheirsRefIdeal.nD Cert.DwTheirsRefIdeal.τ).loc Cert.DwTheirsRefIdeal.main_arg0) = m ((c.tc : Thread Cert.DwTheirsIdeal.nD Cert.DwTheirsIdeal.τ).loc Cert.DwTheirsIdeal.main_arg0)
      ∧ m' ((c.tc : Thread Cert.DwTheirsRefIdeal.nD Cert.DwTheirsRefIdeal.τ).loc Cert.DwTheirsRefIdeal.main_arg1) = m ((c.tc : Thread Cert.DwTheirsIdeal.nD Cert.DwTheirsIdeal.τ).loc Cert.DwTheirsIdeal.main_arg1)
      ∧ m' ((c.tc : Thread Cert.DwTheirsRefIdeal.nD Cert.DwTheirsRefIdeal.τ).loc Cert.DwTheirsRefIdeal.main_arg2) = m ((c.tc : Thread Cert.DwTheirsIdeal.nD Cert.DwTheirsIdeal.τ).loc Cert.DwTheirsIdeal.main_arg2)) →
    ∃ (v0 : (c : Dev Cert.DwTheirsIdeal.nD) → Buf (Elt Ideal) ((c.tc : Thread Cert.DwTheirsIdeal.nD Cert.DwTheirsIdeal.τ).loc Cert.DwTheirsIdeal.main_v0)),
      θ_run (Cert.DwTheirsIdeal.defs (F := Ideal)) (onTc (τ := Cert.DwTheirsIdeal.τ) (Cert.DwTheirsIdeal.main (F := Ideal))) ⟨m, fun _ => 0, g⟩ (fun r => ∀ c : Dev Cert.DwTheirsIdeal.nD,
          r.2.mem ((c.tc : Thread Cert.DwTheirsIdeal.nD Cert.DwTheirsIdeal.τ).loc Cert.DwTheirsIdeal.main_v0) = v0 c
          ∧ r.2.mem ((c.tc : Thread Cert.DwTheirsIdeal.nD Cert.DwTheirsIdeal.τ).loc Cert.DwTheirsIdeal.main_arg0) = m ((c.tc : Thread Cert.DwTheirsIdeal.nD Cert.DwTheirsIdeal.τ).loc Cert.DwTheirsIdeal.main_arg0)
          ∧ r.2.mem ((c.tc : Thread Cert.DwTheirsIdeal.nD Cert.DwTheirsIdeal.τ).loc Cert.DwTheirsIdeal.main_arg1) = m ((c.tc : Thread Cert.DwTheirsIdeal.nD Cert.DwTheirsIdeal.τ).loc Cert.DwTheirsIdeal.main_arg1)
          ∧ r.2.mem ((c.tc : Thread Cert.DwTheirsIdeal.nD Cert.DwTheirsIdeal.τ).loc Cert.DwTheirsIdeal.main_arg2) = m ((c.tc : Thread Cert.DwTheirsIdeal.nD Cert.DwTheirsIdeal.τ).loc Cert.DwTheirsIdeal.main_arg2))
      ∧ θ_run (Cert.DwTheirsRefIdeal.defs (F := Ideal)) (onTc (τ := Cert.DwTheirsRefIdeal.τ) (Cert.DwTheirsRefIdeal.main (F := Ideal))) ⟨m', fun _ => 0, g'⟩ (fun r => ∀ c : Dev Cert.DwTheirsRefIdeal.nD,
          r.2.mem ((c.tc : Thread Cert.DwTheirsRefIdeal.nD Cert.DwTheirsRefIdeal.τ).loc Cert.DwTheirsRefIdeal.main_v22) = v0 c
          ∧ r.2.mem ((c.tc : Thread Cert.DwTheirsRefIdeal.nD Cert.DwTheirsRefIdeal.τ).loc Cert.DwTheirsRefIdeal.main_arg0) = m' ((c.tc : Thread Cert.DwTheirsRefIdeal.nD Cert.DwTheirsRefIdeal.τ).loc Cert.DwTheirsRefIdeal.main_arg0)
          ∧ r.2.mem ((c.tc : Thread Cert.DwTheirsRefIdeal.nD Cert.DwTheirsRefIdeal.τ).loc Cert.DwTheirsRefIdeal.main_arg1) = m' ((c.tc : Thread Cert.DwTheirsRefIdeal.nD Cert.DwTheirsRefIdeal.τ).loc Cert.DwTheirsRefIdeal.main_arg1)
          ∧ r.2.mem ((c.tc : Thread Cert.DwTheirsRefIdeal.nD Cert.DwTheirsRefIdeal.τ).loc Cert.DwTheirsRefIdeal.main_arg2) = m' ((c.tc : Thread Cert.DwTheirsRefIdeal.nD Cert.DwTheirsRefIdeal.τ).loc Cert.DwTheirsRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v8_0)) (v1 : (c : Dev Cert.NormBwdIdeal.nD) → Buf (Elt Ideal) ((c.tc : Thread Cert.NormBwdIdeal.nD Cert.NormBwdIdeal.τ).loc Cert.NormBwdIdeal.main_v8_1)) (v2 : (c : Dev Cert.NormBwdIdeal.nD) → Buf (Elt Ideal) ((c.tc : Thread Cert.NormBwdIdeal.nD Cert.NormBwdIdeal.τ).loc Cert.NormBwdIdeal.main_v8_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v8_0) = v0 c
          ∧ r.2.mem ((c.tc : Thread Cert.NormBwdIdeal.nD Cert.NormBwdIdeal.τ).loc Cert.NormBwdIdeal.main_v8_1) = v1 c
          ∧ r.2.mem ((c.tc : Thread Cert.NormBwdIdeal.nD Cert.NormBwdIdeal.τ).loc Cert.NormBwdIdeal.main_v8_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v38) = v0 c
          ∧ r.2.mem ((c.tc : Thread Cert.NormBwdRefIdeal.nD Cert.NormBwdRefIdeal.τ).loc Cert.NormBwdRefIdeal.main_v40) = v1 c
          ∧ r.2.mem ((c.tc : Thread Cert.NormBwdRefIdeal.nD Cert.NormBwdRefIdeal.τ).loc Cert.NormBwdRefIdeal.main_v37) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_GainGrad_GainGradIdeal : Prop :=
  True

def algebraic_GainGradIdeal_GainGradRefIdeal [hGainGradIdeal : Cert.GainGradIdeal.Facts] [hGainGradRefIdeal : Cert.GainGradRefIdeal.Facts] : Prop :=
  ∀ (m : (ℓ : Loc Cert.GainGradIdeal.nD Cert.GainGradIdeal.τ Cert.GainGradIdeal.sig) → Buf (Elt Ideal) ℓ) (g : Dev Cert.GainGradIdeal.nD → PrngReg)
    (m' : (ℓ : Loc Cert.GainGradRefIdeal.nD Cert.GainGradRefIdeal.τ Cert.GainGradRefIdeal.sig) → Buf (Elt Ideal) ℓ) (g' : Dev Cert.GainGradRefIdeal.nD → PrngReg), Pre_GainGradIdeal m →
    (∀ c : Dev Cert.GainGradIdeal.nD,
      m' ((c.tc : Thread Cert.GainGradRefIdeal.nD Cert.GainGradRefIdeal.τ).loc Cert.GainGradRefIdeal.main_arg0) = m ((c.tc : Thread Cert.GainGradIdeal.nD Cert.GainGradIdeal.τ).loc Cert.GainGradIdeal.main_arg0)
      ∧ m' ((c.tc : Thread Cert.GainGradRefIdeal.nD Cert.GainGradRefIdeal.τ).loc Cert.GainGradRefIdeal.main_arg1) = m ((c.tc : Thread Cert.GainGradIdeal.nD Cert.GainGradIdeal.τ).loc Cert.GainGradIdeal.main_arg1)
      ∧ m' ((c.tc : Thread Cert.GainGradRefIdeal.nD Cert.GainGradRefIdeal.τ).loc Cert.GainGradRefIdeal.main_arg2) = m ((c.tc : Thread Cert.GainGradIdeal.nD Cert.GainGradIdeal.τ).loc Cert.GainGradIdeal.main_arg2)) →
    ∃ (v0 : (c : Dev Cert.GainGradIdeal.nD) → Buf (Elt Ideal) ((c.tc : Thread Cert.GainGradIdeal.nD Cert.GainGradIdeal.τ).loc Cert.GainGradIdeal.main_v8)),
      θ_run (Cert.GainGradIdeal.defs (F := Ideal)) (onTc (τ := Cert.GainGradIdeal.τ) (Cert.GainGradIdeal.main (F := Ideal))) ⟨m, fun _ => 0, g⟩ (fun r => ∀ c : Dev Cert.GainGradIdeal.nD,
          r.2.mem ((c.tc : Thread Cert.GainGradIdeal.nD Cert.GainGradIdeal.τ).loc Cert.GainGradIdeal.main_v8) = v0 c
          ∧ r.2.mem ((c.tc : Thread Cert.GainGradIdeal.nD Cert.GainGradIdeal.τ).loc Cert.GainGradIdeal.main_arg0) = m ((c.tc : Thread Cert.GainGradIdeal.nD Cert.GainGradIdeal.τ).loc Cert.GainGradIdeal.main_arg0)
          ∧ r.2.mem ((c.tc : Thread Cert.GainGradIdeal.nD Cert.GainGradIdeal.τ).loc Cert.GainGradIdeal.main_arg1) = m ((c.tc : Thread Cert.GainGradIdeal.nD Cert.GainGradIdeal.τ).loc Cert.GainGradIdeal.main_arg1)
          ∧ r.2.mem ((c.tc : Thread Cert.GainGradIdeal.nD Cert.GainGradIdeal.τ).loc Cert.GainGradIdeal.main_arg2) = m ((c.tc : Thread Cert.GainGradIdeal.nD Cert.GainGradIdeal.τ).loc Cert.GainGradIdeal.main_arg2))
      ∧ θ_run (Cert.GainGradRefIdeal.defs (F := Ideal)) (onTc (τ := Cert.GainGradRefIdeal.τ) (Cert.GainGradRefIdeal.main (F := Ideal))) ⟨m', fun _ => 0, g'⟩ (fun r => ∀ c : Dev Cert.GainGradRefIdeal.nD,
          r.2.mem ((c.tc : Thread Cert.GainGradRefIdeal.nD Cert.GainGradRefIdeal.τ).loc Cert.GainGradRefIdeal.main_v20) = v0 c
          ∧ r.2.mem ((c.tc : Thread Cert.GainGradRefIdeal.nD Cert.GainGradRefIdeal.τ).loc Cert.GainGradRefIdeal.main_arg0) = m' ((c.tc : Thread Cert.GainGradRefIdeal.nD Cert.GainGradRefIdeal.τ).loc Cert.GainGradRefIdeal.main_arg0)
          ∧ r.2.mem ((c.tc : Thread Cert.GainGradRefIdeal.nD Cert.GainGradRefIdeal.τ).loc Cert.GainGradRefIdeal.main_arg1) = m' ((c.tc : Thread Cert.GainGradRefIdeal.nD Cert.GainGradRefIdeal.τ).loc Cert.GainGradRefIdeal.main_arg1)
          ∧ r.2.mem ((c.tc : Thread Cert.GainGradRefIdeal.nD Cert.GainGradRefIdeal.τ).loc Cert.GainGradRefIdeal.main_arg2) = m' ((c.tc : Thread Cert.GainGradRefIdeal.nD Cert.GainGradRefIdeal.τ).loc Cert.GainGradRefIdeal.main_arg2))

def preserves_MemDw_MemDwIdeal : Prop :=
  True

def algebraic_MemDwIdeal_MemDwRefIdeal [hMemDwIdeal : Cert.MemDwIdeal.Facts] [hMemDwRefIdeal : Cert.MemDwRefIdeal.Facts] : Prop :=
  ∀ (m : (ℓ : Loc Cert.MemDwIdeal.nD Cert.MemDwIdeal.τ Cert.MemDwIdeal.sig) → Buf (Elt Ideal) ℓ) (g : Dev Cert.MemDwIdeal.nD → PrngReg)
    (m' : (ℓ : Loc Cert.MemDwRefIdeal.nD Cert.MemDwRefIdeal.τ Cert.MemDwRefIdeal.sig) → Buf (Elt Ideal) ℓ) (g' : Dev Cert.MemDwRefIdeal.nD → PrngReg), Pre_MemDwIdeal m →
    (∀ c : Dev Cert.MemDwIdeal.nD,
      m' ((c.tc : Thread Cert.MemDwRefIdeal.nD Cert.MemDwRefIdeal.τ).loc Cert.MemDwRefIdeal.main_arg0) = m ((c.tc : Thread Cert.MemDwIdeal.nD Cert.MemDwIdeal.τ).loc Cert.MemDwIdeal.main_arg0)
      ∧ m' ((c.tc : Thread Cert.MemDwRefIdeal.nD Cert.MemDwRefIdeal.τ).loc Cert.MemDwRefIdeal.main_arg1) = m ((c.tc : Thread Cert.MemDwIdeal.nD Cert.MemDwIdeal.τ).loc Cert.MemDwIdeal.main_arg1)) →
    ∃ (v0 : (c : Dev Cert.MemDwIdeal.nD) → Buf (Elt Ideal) ((c.tc : Thread Cert.MemDwIdeal.nD Cert.MemDwIdeal.τ).loc Cert.MemDwIdeal.main_v0)),
      θ_run (Cert.MemDwIdeal.defs (F := Ideal)) (onTc (τ := Cert.MemDwIdeal.τ) (Cert.MemDwIdeal.main (F := Ideal))) ⟨m, fun _ => 0, g⟩ (fun r => ∀ c : Dev Cert.MemDwIdeal.nD,
          r.2.mem ((c.tc : Thread Cert.MemDwIdeal.nD Cert.MemDwIdeal.τ).loc Cert.MemDwIdeal.main_v0) = v0 c
          ∧ r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
          ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ θ_run (Cert.MemDwRefIdeal.defs (F := Ideal)) (onTc (τ := Cert.MemDwRefIdeal.τ) (Cert.MemDwRefIdeal.main (F := Ideal))) ⟨m', fun _ => 0, g'⟩ (fun r => ∀ c : Dev Cert.MemDwRefIdeal.nD,
          r.2.mem ((c.tc : Thread Cert.MemDwRefIdeal.nD Cert.MemDwRefIdeal.τ).loc Cert.MemDwRefIdeal.main_v6) = v0 c
          ∧ r.2.mem ((c.tc : Thread Cert.MemDwRefIdeal.nD Cert.MemDwRefIdeal.τ).loc Cert.MemDwRefIdeal.main_arg0) = m' ((c.tc : Thread Cert.MemDwRefIdeal.nD Cert.MemDwRefIdeal.τ).loc Cert.MemDwRefIdeal.main_arg0)
          ∧ r.2.mem ((c.tc : Thread Cert.MemDwRefIdeal.nD Cert.MemDwRefIdeal.τ).loc Cert.MemDwRefIdeal.main_arg1) = m' ((c.tc : Thread Cert.MemDwRefIdeal.nD Cert.MemDwRefIdeal.τ).loc Cert.MemDwRefIdeal.main_arg1))

def preserves_MemDx_MemDxIdeal : Prop :=
  True

def algebraic_MemDxIdeal_MemDxRefIdeal [hMemDxIdeal : Cert.MemDxIdeal.Facts] [hMemDxRefIdeal : Cert.MemDxRefIdeal.Facts] : Prop :=
  ∀ (m : (ℓ : Loc Cert.MemDxIdeal.nD Cert.MemDxIdeal.τ Cert.MemDxIdeal.sig) → Buf (Elt Ideal) ℓ) (g : Dev Cert.MemDxIdeal.nD → PrngReg)
    (m' : (ℓ : Loc Cert.MemDxRefIdeal.nD Cert.MemDxRefIdeal.τ Cert.MemDxRefIdeal.sig) → Buf (Elt Ideal) ℓ) (g' : Dev Cert.MemDxRefIdeal.nD → PrngReg), Pre_MemDxIdeal m →
    (∀ c : Dev Cert.MemDxIdeal.nD,
      m' ((c.tc : Thread Cert.MemDxRefIdeal.nD Cert.MemDxRefIdeal.τ).loc Cert.MemDxRefIdeal.main_arg0) = m ((c.tc : Thread Cert.MemDxIdeal.nD Cert.MemDxIdeal.τ).loc Cert.MemDxIdeal.main_arg0)
      ∧ m' ((c.tc : Thread Cert.MemDxRefIdeal.nD Cert.MemDxRefIdeal.τ).loc Cert.MemDxRefIdeal.main_arg1) = m ((c.tc : Thread Cert.MemDxIdeal.nD Cert.MemDxIdeal.τ).loc Cert.MemDxIdeal.main_arg1)) →
    ∃ (v0 : (c : Dev Cert.MemDxIdeal.nD) → Buf (Elt Ideal) ((c.tc : Thread Cert.MemDxIdeal.nD Cert.MemDxIdeal.τ).loc Cert.MemDxIdeal.main_v0)),
      θ_run (Cert.MemDxIdeal.defs (F := Ideal)) (onTc (τ := Cert.MemDxIdeal.τ) (Cert.MemDxIdeal.main (F := Ideal))) ⟨m, fun _ => 0, g⟩ (fun r => ∀ c : Dev Cert.MemDxIdeal.nD,
          r.2.mem ((c.tc : Thread Cert.MemDxIdeal.nD Cert.MemDxIdeal.τ).loc Cert.MemDxIdeal.main_v0) = v0 c
          ∧ r.2.mem ((c.tc : Thread Cert.MemDxIdeal.nD Cert.MemDxIdeal.τ).loc Cert.MemDxIdeal.main_arg0) = m ((c.tc : Thread Cert.MemDxIdeal.nD Cert.MemDxIdeal.τ).loc Cert.MemDxIdeal.main_arg0)
          ∧ r.2.mem ((c.tc : Thread Cert.MemDxIdeal.nD Cert.MemDxIdeal.τ).loc Cert.MemDxIdeal.main_arg1) = m ((c.tc : Thread Cert.MemDxIdeal.nD Cert.MemDxIdeal.τ).loc Cert.MemDxIdeal.main_arg1))
      ∧ θ_run (Cert.MemDxRefIdeal.defs (F := Ideal)) (onTc (τ := Cert.MemDxRefIdeal.τ) (Cert.MemDxRefIdeal.main (F := Ideal))) ⟨m', fun _ => 0, g'⟩ (fun r => ∀ c : Dev Cert.MemDxRefIdeal.nD,
          r.2.mem ((c.tc : Thread Cert.MemDxRefIdeal.nD Cert.MemDxRefIdeal.τ).loc Cert.MemDxRefIdeal.main_v4) = v0 c
          ∧ r.2.mem ((c.tc : Thread Cert.MemDxRefIdeal.nD Cert.MemDxRefIdeal.τ).loc Cert.MemDxRefIdeal.main_arg0) = m' ((c.tc : Thread Cert.MemDxRefIdeal.nD Cert.MemDxRefIdeal.τ).loc Cert.MemDxRefIdeal.main_arg0)
          ∧ r.2.mem ((c.tc : Thread Cert.MemDxRefIdeal.nD Cert.MemDxRefIdeal.τ).loc Cert.MemDxRefIdeal.main_arg1) = m' ((c.tc : Thread Cert.MemDxRefIdeal.nD Cert.MemDxRefIdeal.τ).loc Cert.MemDxRefIdeal.main_arg1))

def preserves_MemIn_MemInIdeal : Prop :=
  True

def algebraic_MemInIdeal_MemInRefIdeal [hMemInIdeal : Cert.MemInIdeal.Facts] [hMemInRefIdeal : Cert.MemInRefIdeal.Facts] : Prop :=
  ∀ (m : (ℓ : Loc Cert.MemInIdeal.nD Cert.MemInIdeal.τ Cert.MemInIdeal.sig) → Buf (Elt Ideal) ℓ) (g : Dev Cert.MemInIdeal.nD → PrngReg)
    (m' : (ℓ : Loc Cert.MemInRefIdeal.nD Cert.MemInRefIdeal.τ Cert.MemInRefIdeal.sig) → Buf (Elt Ideal) ℓ) (g' : Dev Cert.MemInRefIdeal.nD → PrngReg), Pre_MemInIdeal m →
    (∀ c : Dev Cert.MemInIdeal.nD,
      m' ((c.tc : Thread Cert.MemInRefIdeal.nD Cert.MemInRefIdeal.τ).loc Cert.MemInRefIdeal.main_arg0) = m ((c.tc : Thread Cert.MemInIdeal.nD Cert.MemInIdeal.τ).loc Cert.MemInIdeal.main_arg0)
      ∧ m' ((c.tc : Thread Cert.MemInRefIdeal.nD Cert.MemInRefIdeal.τ).loc Cert.MemInRefIdeal.main_arg1) = m ((c.tc : Thread Cert.MemInIdeal.nD Cert.MemInIdeal.τ).loc Cert.MemInIdeal.main_arg1)) →
    ∃ (v0 : (c : Dev Cert.MemInIdeal.nD) → Buf (Elt Ideal) ((c.tc : Thread Cert.MemInIdeal.nD Cert.MemInIdeal.τ).loc Cert.MemInIdeal.main_v0)),
      θ_run (Cert.MemInIdeal.defs (F := Ideal)) (onTc (τ := Cert.MemInIdeal.τ) (Cert.MemInIdeal.main (F := Ideal))) ⟨m, fun _ => 0, g⟩ (fun r => ∀ c : Dev Cert.MemInIdeal.nD,
          r.2.mem ((c.tc : Thread Cert.MemInIdeal.nD Cert.MemInIdeal.τ).loc Cert.MemInIdeal.main_v0) = v0 c
          ∧ r.2.mem ((c.tc : Thread Cert.MemInIdeal.nD Cert.MemInIdeal.τ).loc Cert.MemInIdeal.main_arg0) = m ((c.tc : Thread Cert.MemInIdeal.nD Cert.MemInIdeal.τ).loc Cert.MemInIdeal.main_arg0)
          ∧ r.2.mem ((c.tc : Thread Cert.MemInIdeal.nD Cert.MemInIdeal.τ).loc Cert.MemInIdeal.main_arg1) = m ((c.tc : Thread Cert.MemInIdeal.nD Cert.MemInIdeal.τ).loc Cert.MemInIdeal.main_arg1))
      ∧ θ_run (Cert.MemInRefIdeal.defs (F := Ideal)) (onTc (τ := Cert.MemInRefIdeal.τ) (Cert.MemInRefIdeal.main (F := Ideal))) ⟨m', fun _ => 0, g'⟩ (fun r => ∀ c : Dev Cert.MemInRefIdeal.nD,
          r.2.mem ((c.tc : Thread Cert.MemInRefIdeal.nD Cert.MemInRefIdeal.τ).loc Cert.MemInRefIdeal.main_v3) = v0 c
          ∧ r.2.mem ((c.tc : Thread Cert.MemInRefIdeal.nD Cert.MemInRefIdeal.τ).loc Cert.MemInRefIdeal.main_arg0) = m' ((c.tc : Thread Cert.MemInRefIdeal.nD Cert.MemInRefIdeal.τ).loc Cert.MemInRefIdeal.main_arg0)
          ∧ r.2.mem ((c.tc : Thread Cert.MemInRefIdeal.nD Cert.MemInRefIdeal.τ).loc Cert.MemInRefIdeal.main_arg1) = m' ((c.tc : Thread Cert.MemInRefIdeal.nD Cert.MemInRefIdeal.τ).loc Cert.MemInRefIdeal.main_arg1))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)) →
    ∃ (v0 : (c : Dev Cert.MixFwdIdeal.nD) → Buf (Elt Ideal) ((c.tc : Thread Cert.MixFwdIdeal.nD Cert.MixFwdIdeal.τ).loc Cert.MixFwdIdeal.main_v2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v2) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v65) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0_0)) (v1 : (c : Dev Cert.NormFwdIdeal.nD) → Buf (Elt Ideal) ((c.tc : Thread Cert.NormFwdIdeal.nD Cert.NormFwdIdeal.τ).loc Cert.NormFwdIdeal.main_v0_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0_0) = v0 c
          ∧ r.2.mem ((c.tc : Thread Cert.NormFwdIdeal.nD Cert.NormFwdIdeal.τ).loc Cert.NormFwdIdeal.main_v0_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_v22) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0_0)) (v1 : (c : Dev Cert.MemNormIdeal.nD) → Buf (Elt Ideal) ((c.tc : Thread Cert.MemNormIdeal.nD Cert.MemNormIdeal.τ).loc Cert.MemNormIdeal.main_v0_1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0_0) = v0 c
          ∧ r.2.mem ((c.tc : Thread Cert.MemNormIdeal.nD Cert.MemNormIdeal.τ).loc Cert.MemNormIdeal.main_v0_1) = v1 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v14) = v0 c
          ∧ r.2.mem ((c.tc : Thread Cert.MemNormRefIdeal.nD Cert.MemNormRefIdeal.τ).loc Cert.MemNormRefIdeal.main_v22) = v1 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hNorm : Cert.Norm.Facts) (hNormIdeal : Cert.NormIdeal.Facts) (hNormRefIdeal : Cert.NormRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hDnHalves : Cert.DnHalves.Facts) (hDnHalvesIdeal : Cert.DnHalvesIdeal.Facts) (hDnHalvesRefIdeal : Cert.DnHalvesRefIdeal.Facts) (hGateFwd : Cert.GateFwd.Facts) (hGateFwdIdeal : Cert.GateFwdIdeal.Facts) (hGateFwdRefIdeal : Cert.GateFwdRefIdeal.Facts) (hFfnOut : Cert.FfnOut.Facts) (hFfnOutIdeal : Cert.FfnOutIdeal.Facts) (hFfnOutRefIdeal : Cert.FfnOutRefIdeal.Facts) (hMixer : Cert.Mixer.Facts) (hMixerIdeal : Cert.MixerIdeal.Facts) (hMixerRefIdeal : Cert.MixerRefIdeal.Facts) (hMixIn : Cert.MixIn.Facts) (hMixInIdeal : Cert.MixInIdeal.Facts) (hMixInRefIdeal : Cert.MixInRefIdeal.Facts) (hMixDw : Cert.MixDw.Facts) (hMixDwIdeal : Cert.MixDwIdeal.Facts) (hMixDwRefIdeal : Cert.MixDwRefIdeal.Facts) (hMixDx : Cert.MixDx.Facts) (hMixDxIdeal : Cert.MixDxIdeal.Facts) (hMixDxRefIdeal : Cert.MixDxRefIdeal.Facts) (hQuery : Cert.Query.Facts) (hQueryIdeal : Cert.QueryIdeal.Facts) (hQueryRefIdeal : Cert.QueryRefIdeal.Facts) (hQueryDx : Cert.QueryDx.Facts) (hQueryDxIdeal : Cert.QueryDxIdeal.Facts) (hQueryDxRefIdeal : Cert.QueryDxRefIdeal.Facts) (hOutSum : Cert.OutSum.Facts) (hOutSumIdeal : Cert.OutSumIdeal.Facts) (hOutSumRefIdeal : Cert.OutSumRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hFfnHalves : Cert.FfnHalves.Facts) (hFfnHalvesIdeal : Cert.FfnHalvesIdeal.Facts) (hFfnHalvesRefIdeal : Cert.FfnHalvesRefIdeal.Facts) (hDwMine : Cert.DwMine.Facts) (hDwMineIdeal : Cert.DwMineIdeal.Facts) (hDwMineRefIdeal : Cert.DwMineRefIdeal.Facts) (hDwTheirs : Cert.DwTheirs.Facts) (hDwTheirsIdeal : Cert.DwTheirsIdeal.Facts) (hDwTheirsRefIdeal : Cert.DwTheirsRefIdeal.Facts) (hNormBwd : Cert.NormBwd.Facts) (hNormBwdIdeal : Cert.NormBwdIdeal.Facts) (hNormBwdRefIdeal : Cert.NormBwdRefIdeal.Facts) (hGainGrad : Cert.GainGrad.Facts) (hGainGradIdeal : Cert.GainGradIdeal.Facts) (hGainGradRefIdeal : Cert.GainGradRefIdeal.Facts) (hMemDw : Cert.MemDw.Facts) (hMemDwIdeal : Cert.MemDwIdeal.Facts) (hMemDwRefIdeal : Cert.MemDwRefIdeal.Facts) (hMemDx : Cert.MemDx.Facts) (hMemDxIdeal : Cert.MemDxIdeal.Facts) (hMemDxRefIdeal : Cert.MemDxRefIdeal.Facts) (hMemIn : Cert.MemIn.Facts) (hMemInIdeal : Cert.MemInIdeal.Facts) (hMemInRefIdeal : Cert.MemInRefIdeal.Facts) (hAttnFwd : Cert.AttnFwd.Facts) (hAttnFwdIdeal : Cert.AttnFwdIdeal.Facts) (hAttnFwdRefIdeal : Cert.AttnFwdRefIdeal.Facts) (hMixFwd : Cert.MixFwd.Facts) (hMixFwdIdeal : Cert.MixFwdIdeal.Facts) (hMixFwdRefIdeal : Cert.MixFwdRefIdeal.Facts) (hNormFwd : Cert.NormFwd.Facts) (hNormFwdIdeal : Cert.NormFwdIdeal.Facts) (hNormFwdRefIdeal : Cert.NormFwdRefIdeal.Facts) (hMemNorm : Cert.MemNorm.Facts) (hMemNormIdeal : Cert.MemNormIdeal.Facts) (hMemNormRefIdeal : Cert.MemNormRefIdeal.Facts) (hPre_scores_finite : Cert.Pre_scores_finite.Facts) (hPre_gate_finite : Cert.Pre_gate_finite.Facts) (hPre_place_in_range : Cert.Pre_place_in_range.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Norm (hNorm := hNorm)
    ∧ quiescent_NormIdeal (hNormIdeal := hNormIdeal)
    ∧ quiescent_NormRefIdeal (hNormRefIdeal := hNormRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DnHalves (hDnHalves := hDnHalves)
    ∧ quiescent_DnHalvesIdeal (hDnHalvesIdeal := hDnHalvesIdeal)
    ∧ quiescent_DnHalvesRefIdeal (hDnHalvesRefIdeal := hDnHalvesRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Mixer (hMixer := hMixer)
    ∧ quiescent_MixerIdeal (hMixerIdeal := hMixerIdeal)
    ∧ quiescent_MixerRefIdeal (hMixerRefIdeal := hMixerRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_Query (hQuery := hQuery)
    ∧ quiescent_QueryIdeal (hQueryIdeal := hQueryIdeal)
    ∧ quiescent_QueryRefIdeal (hQueryRefIdeal := hQueryRefIdeal)
    ∧ quiescent_QueryDx (hQueryDx := hQueryDx)
    ∧ quiescent_QueryDxIdeal (hQueryDxIdeal := hQueryDxIdeal)
    ∧ quiescent_QueryDxRefIdeal (hQueryDxRefIdeal := hQueryDxRefIdeal)
    ∧ quiescent_OutSum (hOutSum := hOutSum)
    ∧ quiescent_OutSumIdeal (hOutSumIdeal := hOutSumIdeal)
    ∧ quiescent_OutSumRefIdeal (hOutSumRefIdeal := hOutSumRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_FfnHalves (hFfnHalves := hFfnHalves)
    ∧ quiescent_FfnHalvesIdeal (hFfnHalvesIdeal := hFfnHalvesIdeal)
    ∧ quiescent_FfnHalvesRefIdeal (hFfnHalvesRefIdeal := hFfnHalvesRefIdeal)
    ∧ quiescent_DwMine (hDwMine := hDwMine) (hPre_place_in_range := hPre_place_in_range)
    ∧ quiescent_DwMineIdeal (hDwMineIdeal := hDwMineIdeal) (hPre_place_in_range := hPre_place_in_range)
    ∧ quiescent_DwMineRefIdeal (hDwMineRefIdeal := hDwMineRefIdeal)
    ∧ quiescent_DwMineRefIdeal_pre_place_in_range (hDwMineRefIdeal := hDwMineRefIdeal) (hPre_place_in_range := hPre_place_in_range)
    ∧ quiescent_DwTheirs (hDwTheirs := hDwTheirs) (hPre_place_in_range := hPre_place_in_range)
    ∧ quiescent_DwTheirsIdeal (hDwTheirsIdeal := hDwTheirsIdeal) (hPre_place_in_range := hPre_place_in_range)
    ∧ quiescent_DwTheirsRefIdeal (hDwTheirsRefIdeal := hDwTheirsRefIdeal)
    ∧ quiescent_DwTheirsRefIdeal_pre_place_in_range (hDwTheirsRefIdeal := hDwTheirsRefIdeal) (hPre_place_in_range := hPre_place_in_range)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_GainGrad (hGainGrad := hGainGrad)
    ∧ quiescent_GainGradIdeal (hGainGradIdeal := hGainGradIdeal)
    ∧ quiescent_GainGradRefIdeal (hGainGradRefIdeal := hGainGradRefIdeal)
    ∧ quiescent_MemDw (hMemDw := hMemDw)
    ∧ quiescent_MemDwIdeal (hMemDwIdeal := hMemDwIdeal)
    ∧ quiescent_MemDwRefIdeal (hMemDwRefIdeal := hMemDwRefIdeal)
    ∧ quiescent_MemDx (hMemDx := hMemDx)
    ∧ quiescent_MemDxIdeal (hMemDxIdeal := hMemDxIdeal)
    ∧ quiescent_MemDxRefIdeal (hMemDxRefIdeal := hMemDxRefIdeal)
    ∧ quiescent_MemIn (hMemIn := hMemIn)
    ∧ quiescent_MemInIdeal (hMemInIdeal := hMemInIdeal)
    ∧ quiescent_MemInRefIdeal (hMemInRefIdeal := hMemInRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Norm_NormIdeal
    ∧ algebraic_NormIdeal_NormRefIdeal (hNormIdeal := hNormIdeal) (hNormRefIdeal := hNormRefIdeal)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_DnHalves_DnHalvesIdeal
    ∧ algebraic_DnHalvesIdeal_DnHalvesRefIdeal (hDnHalvesIdeal := hDnHalvesIdeal) (hDnHalvesRefIdeal := hDnHalvesRefIdeal)
    ∧ preserves_GateFwd_GateFwdIdeal
    ∧ algebraic_GateFwdIdeal_GateFwdRefIdeal (hGateFwdIdeal := hGateFwdIdeal) (hGateFwdRefIdeal := hGateFwdRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Mixer_MixerIdeal
    ∧ algebraic_MixerIdeal_MixerRefIdeal (hMixerIdeal := hMixerIdeal) (hMixerRefIdeal := hMixerRefIdeal)
    ∧ preserves_MixIn_MixInIdeal
    ∧ algebraic_MixInIdeal_MixInRefIdeal (hMixInIdeal := hMixInIdeal) (hMixInRefIdeal := hMixInRefIdeal)
    ∧ preserves_MixDw_MixDwIdeal
    ∧ algebraic_MixDwIdeal_MixDwRefIdeal (hMixDwIdeal := hMixDwIdeal) (hMixDwRefIdeal := hMixDwRefIdeal)
    ∧ preserves_MixDx_MixDxIdeal
    ∧ algebraic_MixDxIdeal_MixDxRefIdeal (hMixDxIdeal := hMixDxIdeal) (hMixDxRefIdeal := hMixDxRefIdeal)
    ∧ preserves_Query_QueryIdeal
    ∧ algebraic_QueryIdeal_QueryRefIdeal (hQueryIdeal := hQueryIdeal) (hQueryRefIdeal := hQueryRefIdeal)
    ∧ preserves_QueryDx_QueryDxIdeal
    ∧ algebraic_QueryDxIdeal_QueryDxRefIdeal (hQueryDxIdeal := hQueryDxIdeal) (hQueryDxRefIdeal := hQueryDxRefIdeal)
    ∧ preserves_OutSum_OutSumIdeal
    ∧ algebraic_OutSumIdeal_OutSumRefIdeal (hOutSumIdeal := hOutSumIdeal) (hOutSumRefIdeal := hOutSumRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_FfnHalves_FfnHalvesIdeal
    ∧ algebraic_FfnHalvesIdeal_FfnHalvesRefIdeal (hFfnHalvesIdeal := hFfnHalvesIdeal) (hFfnHalvesRefIdeal := hFfnHalvesRefIdeal)
    ∧ preserves_DwMine_DwMineIdeal
    ∧ algebraic_DwMineIdeal_DwMineRefIdeal (hDwMineIdeal := hDwMineIdeal) (hDwMineRefIdeal := hDwMineRefIdeal) (hPre_place_in_range := hPre_place_in_range)
    ∧ preserves_DwTheirs_DwTheirsIdeal
    ∧ algebraic_DwTheirsIdeal_DwTheirsRefIdeal (hDwTheirsIdeal := hDwTheirsIdeal) (hDwTheirsRefIdeal := hDwTheirsRefIdeal) (hPre_place_in_range := hPre_place_in_range)
    ∧ preserves_NormBwd_NormBwdIdeal
    ∧ algebraic_NormBwdIdeal_NormBwdRefIdeal (hNormBwdIdeal := hNormBwdIdeal) (hNormBwdRefIdeal := hNormBwdRefIdeal)
    ∧ preserves_GainGrad_GainGradIdeal
    ∧ algebraic_GainGradIdeal_GainGradRefIdeal (hGainGradIdeal := hGainGradIdeal) (hGainGradRefIdeal := hGainGradRefIdeal)
    ∧ preserves_MemDw_MemDwIdeal
    ∧ algebraic_MemDwIdeal_MemDwRefIdeal (hMemDwIdeal := hMemDwIdeal) (hMemDwRefIdeal := hMemDwRefIdeal)
    ∧ preserves_MemDx_MemDxIdeal
    ∧ algebraic_MemDxIdeal_MemDxRefIdeal (hMemDxIdeal := hMemDxIdeal) (hMemDxRefIdeal := hMemDxRefIdeal)
    ∧ preserves_MemIn_MemInIdeal
    ∧ algebraic_MemInIdeal_MemInRefIdeal (hMemInIdeal := hMemInIdeal) (hMemInRefIdeal := hMemInRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_MemNorm_MemNormIdeal
    ∧ algebraic_MemNormIdeal_MemNormRefIdeal (hMemNormIdeal := hMemNormIdeal) (hMemNormRefIdeal := hMemNormRefIdeal)
-- ==== Pre_gate_finite.lean ====
abbrev S4096x2048 : Shape := ⟨2, ![4096, 2048]⟩
abbrev S5632x2048 : Shape := ⟨2, ![5632, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S11264x2048 : Shape := ⟨2, ![11264, 2048]⟩
abbrev S20992x2048 : Shape := ⟨2, ![20992, 2048]⟩
abbrev S_ : Shape := ⟨0, ![]⟩

class Facts : Prop where
  slices_S2x4096x5632_S1x4096x5632_1_0_0 : S2x4096x5632.Slices ![1, 0, 0] S1x4096x5632
  shapeCasts_S1x4096x5632_S4096x5632 : S1x4096x5632.ShapeCasts S4096x5632
  shapeCasts_S4096x5632_S11264x2048 : S4096x5632.ShapeCasts S11264x2048
  concatenates_S4096x2048_S5632x2048_S11264x2048_S20992x2048_d0 : Shape.Concatenates [S4096x2048, S5632x2048, S11264x2048] S20992x2048 0
  bitsLt_bf16_f32 : FTy.bits .bf16 < FTy.bits .f32
  bcast_S_S20992x2048 : S_.BroadcastsInDim S20992x2048 (![] : Fin 0 → Fin S20992x2048.rank)

variable [Facts]

def fn {F : FTy → Type} [FloatOps F] (main_arg0 : FVec F S4096x2048 .bf16) (main_arg1 : FVec F S5632x2048 .bf16) (main_arg2 : FVec F S2x4096x5632 .bf16) : IVec S20992x2048 1 :=
  let main_v0 : FVec F S1x4096x5632 .bf16 := (extractStridedSlice S1x4096x5632 ![1, 0, 0] · slices_S2x4096x5632_S1x4096x5632_1_0_0) main_arg2
  let main_v1 : FVec F S4096x5632 .bf16 := shapeCast S4096x5632 main_v0 shapeCasts_S1x4096x5632_S4096x5632
  let main_v2 : FVec F S11264x2048 .bf16 := shapeCast S11264x2048 main_v1 shapeCasts_S4096x5632_S11264x2048
  let main_v3 : FVec F S20992x2048 .bf16 := concatenate S20992x2048 0 [⟨S4096x2048, main_arg0⟩, ⟨S5632x2048, main_arg1⟩, ⟨S11264x2048, main_v2⟩] concatenates_S4096x2048_S5632x2048_S11264x2048_S20992x2048_d0
  let main_v4 : FVec F S20992x2048 .f32 := (extf .f32 · bitsLt_bf16_f32) main_v3
  let main_v5 : FVec F S20992x2048 .f32 := Host.absf main_v4
  let main_cst : FVec F S_ .f32 := constant S_ .f32 0x7F800000#32
  let main_v6 : FVec F S20992x2048 .f32 := broadcastInDim S20992x2048 ![] bcast_S_S20992x2048 main_cst
  let main_v7 : IVec S20992x2048 1 := cmpf .olt main_v5 main_v6
  main_v7
-- ==== Pre_place_in_range.lean ====
abbrev S4096x2048 : Shape := ⟨2, ![4096, 2048]⟩
abbrev S2x4096x5632 : Shape := ⟨3, ![2, 4096, 5632]⟩
abbrev S2 : Shape := ⟨1, ![2]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S4096x2048 .bf16) (main_arg1 : FVec F S2x4096x5632 .bf16) (main_arg2 : IVec S2 32) : IVec S_ 1 :=
  let main_v0 : IVec S1 32 := (extractStridedSlice S1 ![1] · slices_S2_S1_1) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg2
  let main_v4 : IVec S_ 32 := shapeCast S_ main_v3 shapeCasts_S1_S_
  let main_c_0 : IVec S_ 32 := constantI S_ 32 1#32
  let main_v5 : IVec S_ 1 := cmpi .sle main_v4 main_c_0
  let main_v6 : IVec S_ 1 := andi main_v2 main_v5
  main_v6
-- ==== Pre_scores_finite.lean ====
abbrev S4096x2048 : Shape := ⟨2, ![4096, 2048]⟩
abbrev S256x2048 : Shape := ⟨2, ![256, 2048]⟩
abbrev S4352x2048 : Shape := ⟨2, ![4352, 2048]⟩
abbrev S_ : Shape := ⟨0, ![]⟩

class Facts : Prop where
  concatenates_S4096x2048_S256x2048_S4352x2048_d0 : Shape.Concatenates [S4096x2048, S256x2048] S4352x2048 0
  bitsLt_bf16_f32 : FTy.bits .bf16 < FTy.bits .f32
  bcast_S_S4352x2048 : S_.BroadcastsInDim S4352x2048 (![] : Fin 0 → Fin S4352x2048.rank)

variable [Facts]

def fn {F : FTy → Type} [FloatOps F] (main_arg0 : FVec F S4096x2048 .bf16) (main_arg1 : FVec F S256x2048 .bf16) (main_arg2 : FVec F S256x2048 .bf16) (main_arg3 : FVec F S4096x2048 .bf16) : IVec S4352x2048 1 :=
  let main_v0 : FVec F S4352x2048 .bf16 := (fun a b => concatenate S4352x2048 0 [⟨S4096x2048, a⟩, ⟨S256x2048, b⟩] concatenates_S4096x2048_S256x2048_S4352x2048_d0) main_arg0 main_arg1
  let main_v1 : FVec F S4352x2048 .f32 := (extf .f32 · bitsLt_bf16_f32) main_v0
  let main_v2 : FVec F S4352x2048 .f32 := Host.absf main_v1
  let main_cst : FVec F S_ .f32 := constant S_ .f32 0x7F800000#32
  let main_v3 : FVec F S4352x2048 .f32 := broadcastInDim S4352x2048 ![] bcast_S_S4352x2048 main_cst
  let main_v4 : IVec S4352x2048 1 := cmpf .olt main_v2 main_v3
  main_v4
-- ==== Kernel.lean ====
abbrev S4096x2048 : Shape := ⟨2, ![4096, 2048]⟩
abbrev S256x2048 : Shape := ⟨2, ![256, 2048]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .hbm, ⟨4, _⟩ => ⟨S4096x2048, .bf16⟩
  | .hbm, ⟨5, _⟩ => ⟨S256x2048, .f32⟩
  | .hbm, ⟨6, _⟩ => ⟨S256x2048, .f32⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S256x2048, .f32⟩
  | .local _ .vmem, ⟨9, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x2048 : Shape := ⟨2, ![4096, 2048]⟩
abbrev S256x2048 : Shape := ⟨2, ![256, 2048]⟩
abbrev S1x4096x4x512 : Shape := ⟨4, ![1, 4096, 4, 512]⟩
abbrev S1x256x4x512 : Shape := ⟨4, ![1, 256, 4, 512]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x512x4096 : Shape := ⟨4, ![1, 4, 512, 4096]⟩
abbrev S1x4x512x256 : Shape := ⟨4, ![1, 4, 512, 256]⟩
abbrev S4x4096 : Shape := ⟨2, ![4, 4096]⟩
abbrev S1x4x256x512 : Shape := ⟨4, ![1, 4, 256, 512]⟩
abbrev S1x4x4096x512 : Shape := ⟨4, ![1, 4, 4096, 512]⟩

abbrev nBuf : Space → Nat
  | .hbm => 87
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .hbm, ⟨4, _⟩ => ⟨S4096x2048, .f32⟩
  | .hbm, ⟨5, _⟩ => ⟨S256x2048, .f32⟩
  | .hbm, ⟨6, _⟩ => ⟨S256x2048, .f32⟩
  | .hbm, ⟨7, _⟩ => ⟨S4096x2048, .f32⟩
  | .hbm, ⟨8, _⟩ => ⟨S1x4096x4x512, .f32⟩
  | .hbm, ⟨9, _⟩ => ⟨S1x256x4x512, .f32⟩
  | .hbm, ⟨10, _⟩ => ⟨S1x256x4x512, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S1x4x4096x1, .f32⟩
  | .hbm, ⟨18, _⟩ => ⟨S1x4x4096x256, .f32⟩
  | .hbm, ⟨19, _⟩ => ⟨S1x4x4096x256, .i1⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S1x4x4096, .i1⟩
  | .hbm, ⟨32, _⟩ => ⟨S_, .f32⟩
  | .hbm, ⟨33, _⟩ => ⟨S1x4x4096, .f32⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S1x4x4096, .f32⟩
  | .hbm, ⟨39, _⟩ => ⟨S1x4x4096, .f32⟩
  | .hbm, ⟨40, _⟩ => ⟨S1x4x4096x1, .f32⟩
  | .hbm, ⟨41, _⟩ => ⟨S1x4x4096x256, .f32⟩
  | .hbm, ⟨42, _⟩ => ⟨S1x4x4096x256, .f32⟩
  | .hbm, ⟨43, _⟩ => ⟨S1x4x4096x256, .f32⟩
  | .hbm, ⟨44, _⟩ => ⟨S_, .f32⟩
  | .hbm, ⟨45, _⟩ => ⟨S1x4x4096, .f32⟩
  | .hbm, ⟨46, _⟩ => ⟨S1x4x4096x1, .f32⟩
  | .hbm, ⟨47, _⟩ => ⟨S1x4x4096x256, .f32⟩
  | .hbm, ⟨48, _⟩ => ⟨S1x4x4096x256, .f32⟩
  | .hbm, ⟨49, _⟩ => ⟨S1x4x4096x1, .f32⟩
  | .hbm, ⟨50, _⟩ => ⟨S_, .f32⟩
  | .hbm, ⟨51, _⟩ => ⟨S1x4x4096x1, .f32⟩
  | .hbm, ⟨52, _⟩ => ⟨S1x4x4096x1, .f32⟩
  | .hbm, ⟨53, _⟩ => ⟨S1x4x512x4096, .f32⟩
  | .hbm, ⟨54, _⟩ => ⟨S1x4096x4x512, .f32⟩
  | .hbm, ⟨55, _⟩ => ⟨S4096x2048, .f32⟩
  | .hbm, ⟨56, _⟩ => ⟨S1x4096x4x512, .f32⟩
  | .hbm, ⟨57, _⟩ => ⟨S1x4x512x4096, .f32⟩
  | .hbm, ⟨58, _⟩ => ⟨S1x4x4096x256, .f32⟩
  | .hbm, ⟨59, _⟩ => ⟨S1x4x512x256, .f32⟩
  | .hbm, ⟨60, _⟩ => ⟨S1x256x4x512, .f32⟩
  | .hbm, ⟨61, _⟩ => ⟨S1x4x4096x256, .f32⟩
  | .hbm, ⟨62, _⟩ => ⟨S1x4x4096x256, .f32⟩
  | .hbm, ⟨63, _⟩ => ⟨S1x4x4096x256, .f32⟩
  | .hbm, ⟨64, _⟩ => ⟨S_, .f32⟩
  | .hbm, ⟨65, _⟩ => ⟨S1x4x4096, .f32⟩
  | .hbm, ⟨66, _⟩ => ⟨S1x4x4096x1, .f32⟩
  | .hbm, ⟨67, _⟩ => ⟨S1x4x4096x1, .f32⟩
  | .hbm, ⟨68, _⟩ => ⟨S1x4x4096x256, .f32⟩
  | .hbm, ⟨69, _⟩ => ⟨S1x4x4096x256, .f32⟩
  | .hbm, ⟨70, _⟩ => ⟨S_, .f32⟩
  | .hbm, ⟨71, _⟩ => ⟨S4x4096, .f32⟩
  | .hbm, ⟨72, _⟩ => ⟨S1x4x4096, .f32⟩
  | .hbm, ⟨73, _⟩ => ⟨S1x4x4096x256, .f32⟩
  | .hbm, ⟨74, _⟩ => ⟨S1x4x4096x256, .f32⟩
  | .hbm, ⟨75, _⟩ => ⟨S1x4x4096x256, .f32⟩
  | .hbm, ⟨76, _⟩ => ⟨S_, .f32⟩
  | .hbm, ⟨77, _⟩ => ⟨S1x4x4096x256, .f32⟩
  | .hbm, ⟨78, _⟩ => ⟨S1x4x4096x256, .f32⟩
  | .hbm, ⟨79, _⟩ => ⟨S1x4x256x512, .f32⟩
  | .hbm, ⟨80, _⟩ => ⟨S1x256x4x512, .f32⟩
  | .hbm, ⟨81, _⟩ => ⟨S1x4x4096x512, .f32⟩
  | .hbm, ⟨82, _⟩ => ⟨S1x4096x4x512, .f32⟩
  | .hbm, ⟨83, _⟩ => ⟨S256x2048, .f32⟩
  | .hbm, ⟨84, _⟩ => ⟨S256x2048, .f32⟩
  | .hbm, ⟨85, _⟩ => ⟨S4096x2048, .f32⟩
  | .hbm, ⟨86, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Gate.lean ====
abbrev S4096x2048 : Shape := ⟨2, ![4096, 2048]⟩
abbrev S5632x2048 : Shape := ⟨2, ![5632, 2048]⟩
abbrev S2x4096x5632 : Shape := ⟨3, ![2, 4096, 5632]⟩
abbrev S1024x2048 : Shape := ⟨2, ![1024, 2048]⟩
abbrev S512x2048 : Shape := ⟨2, ![512, 2048]⟩
abbrev S2x1024x512 : Shape := ⟨3, ![2, 1024, 512]⟩
abbrev S256x2048 : Shape := ⟨2, ![256, 2048]⟩
abbrev S256x512 : Shape := ⟨2, ![256, 512]⟩
abbrev S1x256x512 : Shape := ⟨3, ![1, 256, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S2x4096x5632, .bf16⟩
  | .hbm, ⟨3, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateRefIdeal.lean ====
abbrev S4096x2048 : Shape := ⟨2, ![4096, 2048]⟩
abbrev S5632x2048 : Shape := ⟨2, ![5632, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S2x4096x5632, .bf16⟩
  | .hbm, ⟨3, _⟩ => ⟨S4096x2048, .f32⟩
  | .hbm, ⟨4, _⟩ => ⟨S5632x2048, .f32⟩
  | .hbm, ⟨5, _⟩ => ⟨S2x4096x5632, .f32⟩
  | .hbm, ⟨6, _⟩ => ⟨S1x4096x5632, .f32⟩
  | .hbm, ⟨7, _⟩ => ⟨S4096x5632, .f32⟩
  | .hbm, ⟨8, _⟩ => ⟨S1x4096x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S1x4096x5632, .f32⟩
  | .hbm, ⟨39, _⟩ => ⟨S1x4096x5632, .f32⟩
  | .hbm, ⟨40, _⟩ => ⟨S2x4096x5632, .f32⟩
  | .hbm, ⟨41, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== Norm.lean ====
abbrev S2x4096x5632 : Shape := ⟨3, ![2, 4096, 5632]⟩
abbrev S2048x11264 : Shape := ⟨2, ![2048, 11264]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S1x512x1408 : Shape := ⟨3, ![1, 512, 1408]⟩
abbrev S2048x1408 : Shape := ⟨2, ![2048, 1408]⟩
abbrev S512x2048 : Shape := ⟨2, ![512, 2048]⟩
abbrev S512x1 : Shape := ⟨2, ![512, 1]⟩
abbrev S512x1408 : Shape := ⟨2, ![512, 1408]⟩
abbrev S512 : Shape := ⟨1, ![512]⟩
abbrev S2048 : Shape := ⟨1, ![2048]⟩

abbrev nBuf : Space → Nat
  | .hbm => 19
  | .vmem => 17
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .bf16⟩
  | .hbm, ⟨18, _⟩ => ⟨S1x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S2048x1408, .bf16⟩
  | .local _ .vmem, ⟨3, _⟩ => ⟨S2048x1408, .bf16⟩
  | .local _ .vmem, ⟨4, _⟩ => ⟨S512x2048, .f32⟩
  | .local _ .vmem, ⟨5, _⟩ => ⟨S512x2048, .f32⟩
  | .local _ .vmem, ⟨6, _⟩ => ⟨S512x1, .f32⟩
  | .local _ .vmem, ⟨7, _⟩ => ⟨S512x1, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_28 : BitVec 32 := 0#32
  let v45 : BitVec 1 := Scalar.cmpi .eq arg0 c0_i32_28
  let v46 : BitVec 32 := Scalar.extui v45
  let c0_i32_29 : BitVec 32 := 0#32
  let v47 : BitVec 1 := Scalar.cmpi .ne v46 c0_i32_29
  v47

def k0_cond5 (i : grid0.Coords) : BitVec 1 :=
  let arg0 : BitVec 32 := BitVec.ofNat 32 (i 0).val
  let c0_i32_30 : BitVec 32 := 0#32
  let v48 : BitVec 1 := Scalar.cmpi .sgt arg0 c0_i32_30
  let v49 : BitVec 32 := Scalar.extui v48
  let c0_i32_31 : BitVec 32 := 0#32
  let v50 : BitVec 1 := Scalar.cmpi .ne v49 c0_i32_31
  v50

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== NormRefIdeal.lean ====
abbrev S2x4096x5632 : Shape := ⟨3, ![2, 4096, 5632]⟩
abbrev S2048x11264 : Shape := ⟨2, ![2048, 11264]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4096x11264 : Shape := ⟨2, ![4096, 11264]⟩
abbrev S4096x5632 : Shape := ⟨2, ![4096, 5632]⟩
abbrev S1x4096x5632 : Shape := ⟨3, ![1, 4096, 5632]⟩

abbrev nBuf : Space → Nat
  | .hbm => 69
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x11264, .f32⟩
  | .hbm, ⟨6, _⟩ => ⟨S2x4096x5632, .f32⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x11264, .f32⟩
  | .hbm, ⟨29, _⟩ => ⟨S4096x5632, .f32⟩
  | .hbm, ⟨30, _⟩ => ⟨S4096x5632, .f32⟩
  | .hbm, ⟨31, _⟩ => ⟨S1x4096x5632, .f32⟩
  | .hbm, ⟨32, _⟩ => ⟨S1x4096x5632, .f32⟩
  | .hbm, ⟨33, _⟩ => ⟨S2x4096x5632, .f32⟩
  | .hbm, ⟨34, _⟩ => ⟨S1x4096x5632, .f32⟩
  | .hbm, ⟨35, _⟩ => ⟨S4096x5632, .f32⟩
  | .hbm, ⟨36, _⟩ => ⟨S1x4096x5632, .f32⟩
  | .hbm, ⟨37, _⟩ => ⟨S4096x5632, .f32⟩
  | .hbm, ⟨38, _⟩ => ⟨S4096x11264, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S1x2048, .f32⟩
  | .hbm, ⟨66, _⟩ => ⟨S4096x2048, .f32⟩
  | .hbm, ⟨67, _⟩ => ⟨S4096x2048, .f32⟩
  | .hbm, ⟨68, _⟩ => ⟨S4096x2048, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== DwIn.lean ====
abbrev S4096x2048 : Shape := ⟨2, ![4096, 2048]⟩
abbrev S2x4096x5632 : Shape := ⟨3, ![2, 4096, 5632]⟩
abbrev S2048x11264 : Shape := ⟨2, ![2048, 11264]⟩
abbrev S4096x1024 : Shape := ⟨2, ![4096, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S11264x2048 : Shape := ⟨2, ![11264, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4096x2048, .f32⟩
  | .hbm, ⟨3, _⟩ => ⟨S2x4096x5632, .f32⟩
  | .hbm, ⟨4, _⟩ => ⟨S_, .f32⟩
  | .hbm, ⟨5, _⟩ => ⟨S2048x11264, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S1x4096x5632, .f32⟩
  | .hbm, ⟨10, _⟩ => ⟨S1x4096x5632, .f32⟩
  | .hbm, ⟨11, _⟩ => ⟨S2x4096x5632, .f32⟩
  | .hbm, ⟨12, _⟩ => ⟨S1x4096x5632, .f32⟩
  | .hbm, ⟨13, _⟩ => ⟨S4096x5632, .f32⟩
  | .hbm, ⟨14, _⟩ => ⟨S1x4096x5632, .f32⟩
  | .hbm, ⟨15, _⟩ => ⟨S4096x5632, .f32⟩
  | .hbm, ⟨16, _⟩ => ⟨S4096x11264, .f32⟩
  | .hbm, ⟨17, _⟩ => ⟨S11264x2048, .f32⟩
  | .hbm, ⟨18, _⟩ => ⟨S2048x11264, .f32⟩
  | .hbm, ⟨19, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== DwOut.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== DnHalves.lean ====
abbrev S2x4096x5632 : Shape := ⟨3, ![2, 4096, 5632]⟩
abbrev S2048x5632 : Shape := ⟨2, ![2048, 5632]⟩
abbrev S4096x2048 : Shape := ⟨2, ![4096, 2048]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2x4096x5632, .bf16⟩
  | .hbm, ⟨1, _⟩ => ⟨S2048x5632, .bf16⟩
  | .hbm, ⟨2, _⟩ => ⟨S2048x5632, .bf16⟩
  | .hbm, ⟨3, _⟩ => ⟨S4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DnHalvesRefIdeal.lean ====
abbrev S2x4096x5632 : Shape := ⟨3, ![2, 4096, 5632]⟩
abbrev S2048x5632 : Shape := ⟨2, ![2048, 5632]⟩
abbrev S2048x4x1408 : Shape := ⟨3, ![2048, 4, 1408]⟩
abbrev S2048x4x1x1408 : Shape := ⟨4, ![2048, 4, 1, 1408]⟩
abbrev S2048x4x2x1408 : Shape := ⟨4, ![2048, 4, 2, 1408]⟩
abbrev S2048x11264 : Shape := ⟨2, ![2048, 11264]⟩
abbrev S_ : Shape := ⟨0, ![]⟩
abbrev S4096x2048 : Shape := ⟨2, ![4096, 2048]⟩
abbrev S4096x11264 : Shape := ⟨2, ![4096, 11264]⟩
abbrev S4096x5632 : Shape := ⟨2, ![4096, 5632]⟩
abbrev S1x4096x5632 : Shape := ⟨3, ![1, 4096, 5632]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x5632, .bf16⟩
  | .hbm, ⟨2, _⟩ => ⟨S2048x5632, .bf16⟩
  | .hbm, ⟨3, _⟩ => ⟨S2x4096x5632, .f32⟩
  | .hbm, ⟨4, _⟩ => ⟨S2048x4x1408, .bf16⟩
  | .hbm, ⟨5, _⟩ => ⟨S2048x4x1408, .bf16⟩
  | .hbm, ⟨6, _⟩ => ⟨S2048x4x1x1408, .bf16⟩
  | .hbm, ⟨7, _⟩ => ⟨S2048x4x1x1408, .bf16⟩
  | .hbm, ⟨8, _⟩ => ⟨S2048x4x2x1408, .bf16⟩
  | .hbm, ⟨9, _⟩ => ⟨S2048x11264, .bf16⟩
  | .hbm, ⟨10, _⟩ => ⟨S2048x11264, .f32⟩
  | .hbm, ⟨11, _⟩ => ⟨S_, .f32⟩
  | .hbm, ⟨12, _⟩ => ⟨S4096x2048, .f32⟩
  | .hbm, ⟨13, _⟩ => ⟨S4096x11264, .f32⟩
  | .hbm, ⟨14, _⟩ => ⟨S4096x5632, .f32⟩
  | .hbm, ⟨15, _⟩ => ⟨S4096x5632, .f32⟩
  | .hbm, ⟨16, _⟩ => ⟨S1x4096x5632, .f32⟩
  | .hbm, ⟨17, _⟩ => ⟨S1x4096x5632, .f32⟩
  | .hbm, ⟨18, _⟩ => ⟨S2x4096x5632, .f32⟩
  | .hbm, ⟨19, _⟩ => ⟨S1x4096x5632, .f32⟩
  | .hbm, ⟨20, _⟩ => ⟨S4096x5632, .f32⟩
  | .hbm, ⟨21, _⟩ => ⟨S1x4096x5632, .f32⟩
  | .hbm, ⟨22, _⟩ => ⟨S4096x5632, .f32⟩
  | .hbm, ⟨23, _⟩ => ⟨S4096x11264, .f32⟩
  | .hbm, ⟨24, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== GateFwd.lean ====
abbrev S4096x2048 : Shape := ⟨2, ![4096, 2048]⟩
abbrev S2048x11264 : Shape := ⟨2, ![2048, 11264]⟩
abbrev S2x4096x5632 : Shape := ⟨3, ![2, 4096, 5632]⟩
abbrev S4096x5632 : Shape := ⟨2, ![4096, 5632]⟩
abbrev S1024x2048 : Shape := ⟨2, ![1024, 2048]⟩
abbrev S2048x512 : Shape := ⟨2, ![2048, 512]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S2x4096x5632, .bf16⟩
  | .hbm, ⟨3, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S1024x512, .bf16⟩
  | .local _ .vmem, ⟨9, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c11_i32 : BitVec 32 := 11#32
  let v2 : BitVec 32 := Scalar.addi v1 c11_i32
  let c0_i32_0 : BitVec 32 := 0#32
  let c0_i32_1 : BitVec 32 := 0#32
  ![c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![c0_i32_0.toNat, arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateFwdRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S1x4096x5632, .f32⟩
  | .hbm, ⟨8, _⟩ => ⟨S1x4096x5632, .f32⟩
  | .hbm, ⟨9, _⟩ => ⟨S2x4096x5632, .f32⟩
  | .hbm, ⟨10, _⟩ => ⟨S2x4096x5632, .bf16⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== FfnOut.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Mixer.lean ====
abbrev S4096x5120 : Shape := ⟨2, ![4096, 5120]⟩
abbrev S4096x2048 : Shape := ⟨2, ![4096, 2048]⟩
abbrev S3x1024 : Shape := ⟨2, ![3, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S8x1024 : Shape := ⟨2, ![8, 1024]⟩
abbrev S128x8 : Shape := ⟨2, ![128, 8]⟩
abbrev S256x5120 : Shape := ⟨2, ![256, 5120]⟩
abbrev S16x1024 : Shape := ⟨2, ![16, 1024]⟩
abbrev S256x2048 : Shape := ⟨2, ![256, 2048]⟩
abbrev S128x1024 : Shape := ⟨2, ![128, 1024]⟩
abbrev S256x1024 : Shape := ⟨2, ![256, 1024]⟩
abbrev S1024 : Shape := ⟨1, ![1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x128x128 : Shape := ⟨3, ![1, 128, 128]⟩
abbrev S128x128 : Shape := ⟨2, ![128, 128]⟩
abbrev S128x1 : Shape := ⟨2, ![128, 1]⟩
abbrev S128 : Shape := ⟨1, ![128]⟩

abbrev nBuf : Space → Nat
  | .hbm => 15
  | .vmem => 23
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .bf16⟩
  | .hbm, ⟨2, _⟩ => ⟨S3x1024, .f32⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S8x128, .f32⟩
  | .hbm, ⟨7, _⟩ => ⟨S_, .i32⟩
  | .hbm, ⟨8, _⟩ => ⟨S_, .f32⟩
  | .hbm, ⟨9, _⟩ => ⟨S8x1024, .f32⟩
  | .hbm, ⟨10, _⟩ => ⟨S128x8, .f32⟩
  | .hbm, ⟨11, _⟩ => ⟨S4096x5120, .bf16⟩
  | .hbm, ⟨12, _⟩ => ⟨S8x1024, .f32⟩
  | .hbm, ⟨13, _⟩ => ⟨S8x128x128, .f32⟩
  | .hbm, ⟨14, _⟩ => ⟨S128x8, .f32⟩
  | .local _ .vmem, ⟨0, _⟩ => ⟨S256x5120, .bf16⟩
  | .local _ .vmem, ⟨1, _⟩ => ⟨S256x5120, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S256x2048, .bf16⟩
  | .local _ .vmem, ⟨9, _⟩ => ⟨S256x2048, .bf16⟩
  | .local _ .vmem, ⟨10, _⟩ => ⟨S16x1024, .bf16⟩
  | .local _ .vmem, ⟨11, _⟩ => ⟨S16x1024, .bf16⟩
  | .local _ .vmem, ⟨12, _⟩ => ⟨S8x1024, .f32⟩
  | .local _ .vmem, ⟨13, _⟩ => ⟨S1x1024, .f32⟩
  | .local _ .vmem, ⟨14, _⟩ => ⟨S1x1024, .f32⟩
  | .local _ .vmem, ⟨15, _⟩ => ⟨S8x128x128, .f32⟩
  | .local _ .vmem, ⟨16, _⟩ => ⟨S128x8, .f32⟩
  | .local _ .vmem, ⟨17, _⟩ => ⟨S256x5120, .bf16⟩
  | .local _ .vmem, ⟨18, _⟩ => ⟨S256x5120, .bf16⟩
  | .local _ .vmem, ⟨19, _⟩ => ⟨S8x1024, .f32⟩
  | .local _ .vmem, ⟨20, _⟩ => ⟨S8x128x128, .f32⟩
  | .local _ .vmem, ⟨21, _⟩ => ⟨S128x8, .f32⟩
  | .local _ .vmem, ⟨22, _⟩ => ⟨S128x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_561 : BitVec 32 := 15#32
  let v1152 : BitVec 1 := Scalar.cmpi .eq arg0 c15_i32_561
  let v1153 : BitVec 32 := Scalar.extui v1152
  let c0_i32_562 : BitVec 32 := 0#32
  let v1154 : BitVec 1 := Scalar.cmpi .ne v1153 c0_i32_562
  v1154

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x5120 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixerRefIdeal.lean ====
abbrev S4096x5120 : Shape := ⟨2, ![4096, 5120]⟩
abbrev S4096x2048 : Shape := ⟨2, ![4096, 2048]⟩
abbrev S3x1024 : Shape := ⟨2, ![3, 1024]⟩
abbrev S1x1024 : Shape := ⟨2, ![1, 1024]⟩
abbrev S8x128x128 : Shape := ⟨3, ![8, 128, 128]⟩
abbrev S8x128 : Shape := ⟨2, ![8, 128]⟩
abbrev S1x4096x5120 : Shape := ⟨3, ![1, 4096, 5120]⟩
abbrev S1024 : Shape := ⟨1, ![1024]⟩
abbrev S1x4096x1024 : Shape := ⟨3, ![1, 4096, 1024]⟩
abbrev S_ : Shape := ⟨0, ![]⟩
abbrev S1x2x1024 : Shape := ⟨3, ![1, 2, 1024]⟩
abbrev S1x4098x1024 : Shape := ⟨3, ![1, 4098, 1024]⟩
abbrev S1x1x1024 : Shape := ⟨3, ![1, 1, 1024]⟩
abbrev S1x32x128x8x128 : Shape := ⟨5, ![1, 32, 128, 8, 128]⟩
abbrev S1x32x128x8 : Shape := ⟨4, ![1, 32, 128, 8]⟩
abbrev S1x32x128x8x1 : Shape := ⟨5, ![1, 32, 128, 8, 1]⟩
abbrev S1x1x1x8x128 : Shape := ⟨5, ![1, 1, 1, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x4096x2048 : Shape := ⟨3, ![1, 4096, 2048]⟩
abbrev S32x128x8 : Shape := ⟨3, ![32, 128, 8]⟩

abbrev nBuf : Space → Nat
  | .hbm => 144
  | .vmem => 0
  | .smem => 0
  | _ => 0

abbrev hbmTy0_0 (i : Nat) : BufTy := match i % 128 with
  | 0 => ⟨S4096x5120, .bf16⟩
  | 1 => ⟨S4096x2048, .bf16⟩
  | 2 => ⟨S3x1024, .f32⟩
  | 3 => ⟨S1x1024, .f32⟩
  | 4 => ⟨S1x1024, .f32⟩
  | 5 => ⟨S8x128x128, .f32⟩
  | 6 => ⟨S8x128, .f32⟩
  | 7 => ⟨S4096x5120, .f32⟩
  | 8 => ⟨S4096x2048, .f32⟩
  | 9 => ⟨S1x4096x5120, .f32⟩
  | 10 => ⟨S1024, .f32⟩
  | 11 => ⟨S1024, .f32⟩
  | 12 => ⟨S1x4096x1024, .f32⟩
  | 13 => ⟨S1x4096x1024, .f32⟩
  | 14 => ⟨S1x4096x1024, .f32⟩
  | 15 => ⟨S1x4096x1024, .f32⟩
  | 16 => ⟨S1x4096x1024, .f32⟩
  | 17 => ⟨S1x4096x1024, .f32⟩
  | 18 => ⟨S_, .f32⟩
  | 19 => ⟨S1x2x1024, .f32⟩
  | 20 => ⟨S1x4098x1024, .f32⟩
  | 21 => ⟨S_, .f32⟩
  | 22 => ⟨S1x2x1024, .f32⟩
  | 23 => ⟨S1x1024, .f32⟩
  | 24 => ⟨S1024, .f32⟩
  | 25 => ⟨S1x1x1024, .f32⟩
  | 26 => ⟨S1x4096x1024, .f32⟩
  | 27 => ⟨S1x4096x1024, .f32⟩
  | 28 => ⟨S1x1x1024, .f32⟩
  | 29 => ⟨S1x4096x1024, .f32⟩
  | 30 => ⟨S1x4096x1024, .f32⟩
  | 31 => ⟨S1x1024, .f32⟩
  | 32 => ⟨S1024, .f32⟩
  | 33 => ⟨S1x4096x1024, .f32⟩
  | 34 => ⟨S1x1x1024, .f32⟩
  | 35 => ⟨S1x4096x1024, .f32⟩
  | 36 => ⟨S1x4096x1024, .f32⟩
  | 37 => ⟨S1x4096x1024, .f32⟩
  | 38 => ⟨S1x1024, .f32⟩
  | 39 => ⟨S1024, .f32⟩
  | 40 => ⟨S1x4096x1024, .f32⟩
  | 41 => ⟨S1x1x1024, .f32⟩
  | 42 => ⟨S1x4096x1024, .f32⟩
  | 43 => ⟨S1x4096x1024, .f32⟩
  | 44 => ⟨S1x4096x1024, .f32⟩
  | 45 => ⟨S1x4096x1024, .f32⟩
  | 46 => ⟨S1x32x128x8x128, .f32⟩
  | 47 => ⟨S8x128, .f32⟩
  | 48 => ⟨S1x32x128x8x128, .f32⟩
  | 49 => ⟨S_, .f32⟩
  | 50 => ⟨S1x32x128x8, .f32⟩
  | 51 => ⟨S1x32x128x8x1, .f32⟩
  | 52 => ⟨S_, .f32⟩
  | 53 => ⟨S1x32x128x8x1, .f32⟩
  | 54 => ⟨S1x32x128x8x1, .f32⟩
  | 55 => ⟨S_, .f32⟩
  | 56 => ⟨S1x32x128x8x1, .f32⟩
  | 57 => ⟨S1x32x128x8x1, .f32⟩
  | 58 => ⟨S1x32x128x8x1, .f32⟩
  | 59 => ⟨S1x32x128x8x1, .f32⟩
  | 60 => ⟨S_, .f32⟩
  | 61 => ⟨S1x32x128x8x1, .f32⟩
  | 62 => ⟨S1x32x128x8x1, .f32⟩
  | 63 => ⟨S1x32x128x8x128, .f32⟩
  | 64 => ⟨S1x32x128x8x128, .f32⟩
  | 65 => ⟨S1x1x1x8x128, .f32⟩
  | 66 => ⟨S1x32x128x8x128, .f32⟩
  | 67 => ⟨S1x32x128x8x128, .f32⟩
  | 68 => ⟨S_, .i1⟩
  | 69 => ⟨S128x128, .i1⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .i1⟩
  | 77 => ⟨S128x128, .i1⟩
  | 78 => ⟨S128x128, .i1⟩
  | 79 => ⟨S1x128x128, .i1⟩
  | 80 => ⟨S_, .f32⟩
  | 81 => ⟨S8x128x128, .f32⟩
  | 82 => ⟨S8x128x128, .i1⟩
  | 83 => ⟨S8x128x128, .f32⟩
  | 84 => ⟨S8x1x32x128x128, .f32⟩
  | 85 => ⟨S1x32x128x8x128, .f32⟩
  | 86 => ⟨S128x8, .f32⟩
  | 87 => ⟨S1x1x128x8x1, .f32⟩
  | 88 => ⟨S1x32x128x8x128, .f32⟩
  | 89 => ⟨S1x32x128x8x128, .f32⟩
  | 90 => ⟨S1x4096x1024, .f32⟩
  | 91 => ⟨S1x4096x1024, .f32⟩
  | 92 => ⟨S1x4096x2048, .f32⟩
  | 93 => ⟨S1x4096x2048, .f32⟩
  | 94 => ⟨S1x4096x1024, .f32⟩
  | 95 => ⟨S1x4096x1024, .f32⟩
  | 96 => ⟨S1x4096x1024, .f32⟩
  | 97 => ⟨S1x4096x1024, .f32⟩
  | 98 => ⟨S1x32x128x8x128, .f32⟩
  | 99 => ⟨S8x1x32x128x128, .f32⟩
  | 100 => ⟨S8x1x32x128x128, .f32⟩
  | 101 => ⟨S1x32x128x8x128, .f32⟩
  | 102 => ⟨S1x32x128x8x128, .f32⟩
  | 103 => ⟨S1x32x128x8x128, .f32⟩
  | 104 => ⟨S1x32x128x8x128, .f32⟩
  | 105 => ⟨S_, .f32⟩
  | 106 => ⟨S1x32x128x8, .f32⟩
  | 107 => ⟨S1x32x128x8x1, .f32⟩
  | 108 => ⟨S1x32x128x8x128, .f32⟩
  | 109 => ⟨S1x32x128x8x128, .f32⟩
  | 110 => ⟨S1x32x128x8x1, .f32⟩
  | 111 => ⟨S_, .f32⟩
  | 112 => ⟨S1x32x128x8x1, .f32⟩
  | 113 => ⟨S1x32x128x8x1, .f32⟩
  | 114 => ⟨S_, .f32⟩
  | 115 => ⟨S32x128x8, .f32⟩
  | 116 => ⟨S1x32x128x8, .f32⟩
  | 117 => ⟨S1x32x128x8x128, .f32⟩
  | 118 => ⟨S1x32x128x8x128, .f32⟩
  | 119 => ⟨S1x32x128x8x128, .f32⟩
  | 120 => ⟨S1x32x128x8x128, .f32⟩
  | 121 => ⟨S1x32x128x8x128, .f32⟩
  | 122 => ⟨S1x4096x1024, .f32⟩
  | 123 => ⟨S1x4096x1024, .f32⟩
  | 124 => ⟨S1x4096x1024, .f32⟩
  | 125 => ⟨S1x4096x1024, .f32⟩
  | 126 => ⟨S1x4096x1024, .f32⟩
  | 127 => ⟨S_, .f32⟩
  | _ => ⟨S4096x5120, .bf16⟩

abbrev hbmTy0_1 (i : Nat) : BufTy := match i % 128 with
  | 0 => ⟨S1x4098x1024, .f32⟩
  | 1 => ⟨S1x4096x1024, .f32⟩
  | 2 => ⟨S1x4096x1024, .f32⟩
  | 3 => ⟨S_, .f32⟩
  | 4 => ⟨S1x4098x1024, .f32⟩
  | 5 => ⟨S1x4098x1024, .f32⟩
  | 6 => ⟨S1x4096x1024, .f32⟩
  | 7 => ⟨S1x4096x1024, .f32⟩
  | 8 => ⟨S1x2x1024, .f32⟩
  | 9 => ⟨S1x4096x1024, .f32⟩
  | 10 => ⟨S1x4096x1024, .f32⟩
  | 11 => ⟨S1x4096x1024, .f32⟩
  | 12 => ⟨S1x4096x1024, .f32⟩
  | 13 => ⟨S1x4096x5120, .f32⟩
  | 14 => ⟨S4096x5120, .f32⟩
  | 15 => ⟨S4096x5120, .bf16⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_1 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c : Ref sig .tc := ⟨.hbm, 68, rfl⟩
abbrev main_v55 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v56 : Ref sig .tc := ⟨.hbm, 78, rfl⟩
abbrev main_v57 : Ref sig .tc := ⟨.hbm, 79, rfl⟩
abbrev main_cst_5 : Ref sig .tc := ⟨.hbm, 80, rfl⟩
abbrev main_v58 : Ref sig .tc := ⟨.hbm, 81, rfl⟩
abbrev main_call1_v0 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_6 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_7 : Ref sig .tc := ⟨.hbm, 111, rfl⟩
abbrev main_v86 : Ref sig .tc := ⟨.hbm, 112, rfl⟩
abbrev main_v87 : Ref sig .tc := ⟨.hbm, 113, rfl⟩
abbrev main_cst_8 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_9 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_10 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩

abbrev nD : Nat := 1
abbrev τ : Topo := Topo.v7x

variable {F : FTy → Type} [FloatOps F]
-- ==== MixIn.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x2048, .f32⟩
  | .hbm, ⟨3, _⟩ => ⟨S2048x5120, .f32⟩
  | .hbm, ⟨4, _⟩ => ⟨S4096x5120, .f32⟩
  | .hbm, ⟨5, _⟩ => ⟨S4096x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixDw.lean ====
abbrev S4096x2048 : Shape := ⟨2, ![4096, 2048]⟩
abbrev S4096x5120 : Shape := ⟨2, ![4096, 5120]⟩
abbrev S2048x5120 : Shape := ⟨2, ![2048, 5120]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S2048x5120, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwRefIdeal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S4096x2048, .f32⟩
  | .hbm, ⟨3, _⟩ => ⟨S4096x5120, .f32⟩
  | .hbm, ⟨4, _⟩ => ⟨S_, .f32⟩
  | .hbm, ⟨5, _⟩ => ⟨S2048x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixDx.lean ====
abbrev S4096x5120 : Shape := ⟨2, ![4096, 5120]⟩
abbrev S2048x5120 : Shape := ⟨2, ![2048, 5120]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S512x1280 : Shape := ⟨2, ![512, 1280]⟩
abbrev S2048x1280 : Shape := ⟨2, ![2048, 1280]⟩
abbrev S512x2048 : Shape := ⟨2, ![512, 2048]⟩
abbrev S512x1 : Shape := ⟨2, ![512, 1]⟩
abbrev S512 : Shape := ⟨1, ![512]⟩
abbrev S2048 : Shape := ⟨1, ![2048]⟩

abbrev nBuf : Space → Nat
  | .hbm => 19
  | .vmem => 17
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .bf16⟩
  | .hbm, ⟨18, _⟩ => ⟨S1x2048, .f32⟩
  | .local _ .vmem, ⟨0, _⟩ => ⟨S512x1280, .bf16⟩
  | .local _ .vmem, ⟨1, _⟩ => ⟨S512x1280, .bf16⟩
  | .local _ .vmem, ⟨2, _⟩ => ⟨S2048x1280, .bf16⟩
  | .local _ .vmem, ⟨3, _⟩ => ⟨S2048x1280, .bf16⟩
  | .local _ .vmem, ⟨4, _⟩ => ⟨S512x2048, .f32⟩
  | .local _ .vmem, ⟨5, _⟩ => ⟨S512x2048, .f32⟩
  | .local _ .vmem, ⟨6, _⟩ => ⟨S512x1, .f32⟩
  | .local _ .vmem, ⟨7, _⟩ => ⟨S512x1, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_27 : BitVec 32 := 0#32
  let v44 : BitVec 1 := Scalar.cmpi .eq arg0 c0_i32_27
  let v45 : BitVec 32 := Scalar.extui v44
  let c0_i32_28 : BitVec 32 := 0#32
  let v46 : BitVec 1 := Scalar.cmpi .ne v45 c0_i32_28
  v46

def k0_cond5 (i : grid0.Coords) : BitVec 1 :=
  let arg0 : BitVec 32 := BitVec.ofNat 32 (i 0).val
  let c0_i32_29 : BitVec 32 := 0#32
  let v47 : BitVec 1 := Scalar.cmpi .sgt arg0 c0_i32_29
  let v48 : BitVec 32 := Scalar.extui v47
  let c0_i32_30 : BitVec 32 := 0#32
  let v49 : BitVec 1 := Scalar.cmpi .ne v48 c0_i32_30
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== MixDxRefIdeal.lean ====
abbrev S4096x5120 : Shape := ⟨2, ![4096, 5120]⟩
abbrev S2048x5120 : Shape := ⟨2, ![2048, 5120]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x5120, .f32⟩
  | .hbm, ⟨6, _⟩ => ⟨S4096x5120, .f32⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x5120, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S4096x2048, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Query.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QueryDx.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S2048x1024 : Shape := ⟨2, ![2048, 1024]⟩
abbrev S512x2048 : Shape := ⟨2, ![512, 2048]⟩
abbrev S512x1 : Shape := ⟨2, ![512, 1]⟩
abbrev S512 : Shape := ⟨1, ![512]⟩
abbrev S2048 : Shape := ⟨1, ![2048]⟩

abbrev nBuf : Space → Nat
  | .hbm => 19
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .bf16⟩
  | .hbm, ⟨18, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .f32⟩
  | .local _ .vmem, ⟨5, _⟩ => ⟨S512x2048, .f32⟩
  | .local _ .vmem, ⟨6, _⟩ => ⟨S512x1, .f32⟩
  | .local _ .vmem, ⟨7, _⟩ => ⟨S512x1, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32_3 : BitVec 32 := 1#32
  let v8 : BitVec 1 := Scalar.cmpi .eq arg1 c1_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_27 : BitVec 32 := 0#32
  let v44 : BitVec 1 := Scalar.cmpi .eq arg0 c0_i32_27
  let v45 : BitVec 32 := Scalar.extui v44
  let c0_i32_28 : BitVec 32 := 0#32
  let v46 : BitVec 1 := Scalar.cmpi .ne v45 c0_i32_28
  v46

def k0_cond5 (i : grid0.Coords) : BitVec 1 :=
  let arg0 : BitVec 32 := BitVec.ofNat 32 (i 0).val
  let c0_i32_29 : BitVec 32 := 0#32
  let v47 : BitVec 1 := Scalar.cmpi .sgt arg0 c0_i32_29
  let v48 : BitVec 32 := Scalar.extui v47
  let c0_i32_30 : BitVec 32 := 0#32
  let v49 : BitVec 1 := Scalar.cmpi .ne v48 c0_i32_30
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== QueryDxRefIdeal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== OutSum.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutSumRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnHalves.lean ====
abbrev S4096x2048 : Shape := ⟨2, ![4096, 2048]⟩
abbrev S2048x5632 : Shape := ⟨2, ![2048, 5632]⟩
abbrev S2x4096x5632 : Shape := ⟨3, ![2, 4096, 5632]⟩
abbrev S4096x5632 : Shape := ⟨2, ![4096, 5632]⟩
abbrev S512x2048 : Shape := ⟨2, ![512, 2048]⟩
abbrev S2048x1408 : Shape := ⟨2, ![2048, 1408]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 7
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S2x4096x5632, .bf16⟩
  | .hbm, ⟨4, _⟩ => ⟨S4096x5632, .bf16⟩
  | .hbm, ⟨5, _⟩ => ⟨S2x4096x5632, .bf16⟩
  | .hbm, ⟨6, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x2048, .bf16⟩
  | .local _ .vmem, ⟨11, _⟩ => ⟨S512x2048, .bf16⟩
  | .local _ .vmem, ⟨12, _⟩ => ⟨S2048x1408, .bf16⟩
  | .local _ .vmem, ⟨13, _⟩ => ⟨S2048x1408, .bf16⟩
  | .local _ .vmem, ⟨14, _⟩ => ⟨S2048x1408, .bf16⟩
  | .local _ .vmem, ⟨15, _⟩ => ⟨S2048x1408, .bf16⟩
  | .local _ .vmem, ⟨16, _⟩ => ⟨S2x512x1408, .bf16⟩
  | .local _ .vmem, ⟨17, _⟩ => ⟨S2x512x1408, .bf16⟩
  | .local _ .vmem, ⟨18, _⟩ => ⟨S512x1408, .bf16⟩
  | .local _ .vmem, ⟨19, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![c0_i32_0.toNat, arg1.toNat, v1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  ![arg1.toNat, v1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc1_transform_5 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![c0_i32.toNat, arg1.toNat, v1.toNat]

def cc1_transform_6 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  ![arg1.toNat, v1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== FfnHalvesRefIdeal.lean ====
abbrev S4096x2048 : Shape := ⟨2, ![4096, 2048]⟩
abbrev S2048x5632 : Shape := ⟨2, ![2048, 5632]⟩
abbrev S2048x4x1408 : Shape := ⟨3, ![2048, 4, 1408]⟩
abbrev S2048x4x1x1408 : Shape := ⟨4, ![2048, 4, 1, 1408]⟩
abbrev S2048x4x2x1408 : Shape := ⟨4, ![2048, 4, 2, 1408]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S2048x4x1408, .bf16⟩
  | .hbm, ⟨4, _⟩ => ⟨S2048x4x1408, .bf16⟩
  | .hbm, ⟨5, _⟩ => ⟨S2048x4x1x1408, .bf16⟩
  | .hbm, ⟨6, _⟩ => ⟨S2048x4x1x1408, .bf16⟩
  | .hbm, ⟨7, _⟩ => ⟨S2048x4x2x1408, .bf16⟩
  | .hbm, ⟨8, _⟩ => ⟨S2048x11264, .bf16⟩
  | .hbm, ⟨9, _⟩ => ⟨S2048x11264, .f32⟩
  | .hbm, ⟨10, _⟩ => ⟨S4096x2048, .f32⟩
  | .hbm, ⟨11, _⟩ => ⟨S4096x11264, .f32⟩
  | .hbm, ⟨12, _⟩ => ⟨S4096x5632, .f32⟩
  | .hbm, ⟨13, _⟩ => ⟨S4096x5632, .f32⟩
  | .hbm, ⟨14, _⟩ => ⟨S1x4096x5632, .f32⟩
  | .hbm, ⟨15, _⟩ => ⟨S1x4096x5632, .f32⟩
  | .hbm, ⟨16, _⟩ => ⟨S2x4096x5632, .f32⟩
  | .hbm, ⟨17, _⟩ => ⟨S2x4096x5632, .bf16⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S_, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== DwMine.lean ====
abbrev S4096x2048 : Shape := ⟨2, ![4096, 2048]⟩
abbrev S2x4096x5632 : Shape := ⟨3, ![2, 4096, 5632]⟩
abbrev S2 : Shape := ⟨1, ![2]⟩
abbrev S1024x11264 : Shape := ⟨2, ![1024, 11264]⟩
abbrev S4096x1024 : Shape := ⟨2, ![4096, 1024]⟩
abbrev S1 : Shape := ⟨1, ![1]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S1024x11264, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1024x512, .bf16⟩
  | .local _ .vmem, ⟨4, _⟩ => ⟨S1024x512, .bf16⟩
  | .local _ .smem, ⟨0, _⟩ => ⟨S2, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 22, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi arg0 v1
  let c0_i32 : BitVec 32 := 0#32
  ![arg2.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMineRefIdeal.lean ====
abbrev S4096x2048 : Shape := ⟨2, ![4096, 2048]⟩
abbrev S2x4096x5632 : Shape := ⟨3, ![2, 4096, 5632]⟩
abbrev S2 : Shape := ⟨1, ![2]⟩
abbrev S1 : Shape := ⟨1, ![1]⟩
abbrev S_ : Shape := ⟨0, ![]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S11264x2048 : Shape := ⟨2, ![11264, 2048]⟩
abbrev S1024x11264 : Shape := ⟨2, ![1024, 11264]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4096x2048, .f32⟩
  | .hbm, ⟨8, _⟩ => ⟨S2x4096x5632, .f32⟩
  | .hbm, ⟨9, _⟩ => ⟨S_, .f32⟩
  | .hbm, ⟨10, _⟩ => ⟨S2048x11264, .f32⟩
  | .hbm, ⟨11, _⟩ => ⟨S4096x11264, .f32⟩
  | .hbm, ⟨12, _⟩ => ⟨S4096x5632, .f32⟩
  | .hbm, ⟨13, _⟩ => ⟨S4096x5632, .f32⟩
  | .hbm, ⟨14, _⟩ => ⟨S1x4096x5632, .f32⟩
  | .hbm, ⟨15, _⟩ => ⟨S1x4096x5632, .f32⟩
  | .hbm, ⟨16, _⟩ => ⟨S2x4096x5632, .f32⟩
  | .hbm, ⟨17, _⟩ => ⟨S1x4096x5632, .f32⟩
  | .hbm, ⟨18, _⟩ => ⟨S4096x5632, .f32⟩
  | .hbm, ⟨19, _⟩ => ⟨S1x4096x5632, .f32⟩
  | .hbm, ⟨20, _⟩ => ⟨S4096x5632, .f32⟩
  | .hbm, ⟨21, _⟩ => ⟨S4096x11264, .f32⟩
  | .hbm, ⟨22, _⟩ => ⟨S11264x2048, .f32⟩
  | .hbm, ⟨23, _⟩ => ⟨S2048x11264, .f32⟩
  | .hbm, ⟨24, _⟩ => ⟨S2048x11264, .bf16⟩
  | .hbm, ⟨25, _⟩ => ⟨S1024x11264, .bf16⟩
  | .hbm, ⟨26, _⟩ => ⟨S1024x11264, .bf16⟩
  | .hbm, ⟨27, _⟩ => ⟨S1024x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== DwTheirs.lean ====
abbrev S4096x2048 : Shape := ⟨2, ![4096, 2048]⟩
abbrev S2x4096x5632 : Shape := ⟨3, ![2, 4096, 5632]⟩
abbrev S2 : Shape := ⟨1, ![2]⟩
abbrev S1024x11264 : Shape := ⟨2, ![1024, 11264]⟩
abbrev S4096x1024 : Shape := ⟨2, ![4096, 1024]⟩
abbrev S1 : Shape := ⟨1, ![1]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S1024x11264, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1024x512, .bf16⟩
  | .local _ .vmem, ⟨4, _⟩ => ⟨S1024x512, .bf16⟩
  | .local _ .smem, ⟨0, _⟩ => ⟨S2, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 22, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1 : Index := 1#32
  let v0 : BitVec 32 := pf.at 0 (Rect.unit (s := S2) ![1] S1.size inb_S2_S1_1) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi arg0 v2
  let c0_i32 : BitVec 32 := 0#32
  ![arg2.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwTheirsRefIdeal.lean ====
abbrev S4096x2048 : Shape := ⟨2, ![4096, 2048]⟩
abbrev S2x4096x5632 : Shape := ⟨3, ![2, 4096, 5632]⟩
abbrev S2 : Shape := ⟨1, ![2]⟩
abbrev S1 : Shape := ⟨1, ![1]⟩
abbrev S_ : Shape := ⟨0, ![]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S11264x2048 : Shape := ⟨2, ![11264, 2048]⟩
abbrev S1024x11264 : Shape := ⟨2, ![1024, 11264]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4096x2048, .f32⟩
  | .hbm, ⟨8, _⟩ => ⟨S2x4096x5632, .f32⟩
  | .hbm, ⟨9, _⟩ => ⟨S_, .f32⟩
  | .hbm, ⟨10, _⟩ => ⟨S2048x11264, .f32⟩
  | .hbm, ⟨11, _⟩ => ⟨S4096x11264, .f32⟩
  | .hbm, ⟨12, _⟩ => ⟨S4096x5632, .f32⟩
  | .hbm, ⟨13, _⟩ => ⟨S4096x5632, .f32⟩
  | .hbm, ⟨14, _⟩ => ⟨S1x4096x5632, .f32⟩
  | .hbm, ⟨15, _⟩ => ⟨S1x4096x5632, .f32⟩
  | .hbm, ⟨16, _⟩ => ⟨S2x4096x5632, .f32⟩
  | .hbm, ⟨17, _⟩ => ⟨S1x4096x5632, .f32⟩
  | .hbm, ⟨18, _⟩ => ⟨S4096x5632, .f32⟩
  | .hbm, ⟨19, _⟩ => ⟨S1x4096x5632, .f32⟩
  | .hbm, ⟨20, _⟩ => ⟨S4096x5632, .f32⟩
  | .hbm, ⟨21, _⟩ => ⟨S4096x11264, .f32⟩
  | .hbm, ⟨22, _⟩ => ⟨S11264x2048, .f32⟩
  | .hbm, ⟨23, _⟩ => ⟨S2048x11264, .f32⟩
  | .hbm, ⟨24, _⟩ => ⟨S2048x11264, .bf16⟩
  | .hbm, ⟨25, _⟩ => ⟨S1024x11264, .bf16⟩
  | .hbm, ⟨26, _⟩ => ⟨S1024x11264, .bf16⟩
  | .hbm, ⟨27, _⟩ => ⟨S1024x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S2048 : Shape := ⟨1, ![2048]⟩

abbrev nBuf : Space → Nat
  | .hbm => 18
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .bf16⟩
  | .hbm, ⟨17, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_17 : BitVec 32 := 0#32
  let v31 : BitVec 1 := Scalar.cmpi .ne v30 c0_i32_17
  v31

def k0_cond2 (i : grid0.Coords) : BitVec 1 :=
  let arg0 : BitVec 32 := BitVec.ofNat 32 (i 0).val
  let c0_i32_18 : BitVec 32 := 0#32
  let v32 : BitVec 1 := Scalar.cmpi .sgt arg0 c0_i32_18
  let v33 : BitVec 32 := Scalar.extui v32
  let c0_i32_19 : BitVec 32 := 0#32
  let v34 : BitVec 1 := Scalar.cmpi .ne v33 c0_i32_19
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormBwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== GainGrad.lean ====
abbrev S256x2048 : Shape := ⟨2, ![256, 2048]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S2048 : Shape := ⟨1, ![2048]⟩

abbrev nBuf : Space → Nat
  | .hbm => 15
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x1, .f32⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GainGradRefIdeal.lean ====
abbrev S256x2048 : Shape := ⟨2, ![256, 2048]⟩
abbrev S_ : Shape := ⟨0, ![]⟩
abbrev S1x2048 : Shape := ⟨2, ![1, 2048]⟩
abbrev S2048 : Shape := ⟨1, ![2048]⟩
abbrev S256 : Shape := ⟨1, ![256]⟩
abbrev S256x1 : Shape := ⟨2, ![256, 1]⟩

abbrev nBuf : Space → Nat
  | .hbm => 30
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S_, .f32⟩
  | .hbm, ⟨4, _⟩ => ⟨S1x2048, .f32⟩
  | .hbm, ⟨5, _⟩ => ⟨S2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S_, .f32⟩
  | .hbm, ⟨28, _⟩ => ⟨S2048, .f32⟩
  | .hbm, ⟨29, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== MemDw.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemDwRefIdeal.lean ====
abbrev S256x2048 : Shape := ⟨2, ![256, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S2048x2048, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemDx.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .local _ .vmem, ⟨0, _⟩ => ⟨S256x2048, .bf16⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemDxRefIdeal.lean ====
abbrev S256x2048 : Shape := ⟨2, ![256, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S_, .f32⟩
  | .hbm, ⟨5, _⟩ => ⟨S256x2048, .f32⟩
  | .hbm, ⟨6, _⟩ => ⟨S256x2048, .f32⟩
  | .hbm, ⟨7, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemIn.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemInRefIdeal.lean ====
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | .hbm, ⟨5, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttnFwd.lean ====
abbrev S4096x2048 : Shape := ⟨2, ![4096, 2048]⟩
abbrev S256x2048 : Shape := ⟨2, ![256, 2048]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .bf16⟩
  | .local _ .vmem, ⟨5, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S4096x2048 : Shape := ⟨2, ![4096, 2048]⟩
abbrev S256x2048 : Shape := ⟨2, ![256, 2048]⟩
abbrev S1x4096x4x512 : Shape := ⟨4, ![1, 4096, 4, 512]⟩
abbrev S1x256x4x512 : Shape := ⟨4, ![1, 256, 4, 512]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x512x4096 : Shape := ⟨4, ![1, 4, 512, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .f32⟩
  | .hbm, ⟨4, _⟩ => ⟨S256x2048, .f32⟩
  | .hbm, ⟨5, _⟩ => ⟨S256x2048, .f32⟩
  | .hbm, ⟨6, _⟩ => ⟨S1x4096x4x512, .f32⟩
  | .hbm, ⟨7, _⟩ => ⟨S1x256x4x512, .f32⟩
  | .hbm, ⟨8, _⟩ => ⟨S1x256x4x512, .f32⟩
  | .hbm, ⟨9, _⟩ => ⟨S1x4x4096x256, .f32⟩
  | .hbm, ⟨10, _⟩ => ⟨S_, .f32⟩
  | .hbm, ⟨11, _⟩ => ⟨S1x4x4096x256, .f32⟩
  | .hbm, ⟨12, _⟩ => ⟨S1x4x4096x256, .f32⟩
  | .hbm, ⟨13, _⟩ => ⟨S_, .f32⟩
  | .hbm, ⟨14, _⟩ => ⟨S1x4x4096, .f32⟩
  | .hbm, ⟨15, _⟩ => ⟨S_, .f32⟩
  | .hbm, ⟨16, _⟩ => ⟨S1x4x4096, .f32⟩
  | .hbm, ⟨17, _⟩ => ⟨S1x4x4096, .f32⟩
  | .hbm, ⟨18, _⟩ => ⟨S1x4x4096x1, .f32⟩
  | .hbm, ⟨19, _⟩ => ⟨S1x4x4096x256, .f32⟩
  | .hbm, ⟨20, _⟩ => ⟨S1x4x4096x256, .f32⟩
  | .hbm, ⟨21, _⟩ => ⟨S1x4x4096x256, .f32⟩
  | .hbm, ⟨22, _⟩ => ⟨S_, .f32⟩
  | .hbm, ⟨23, _⟩ => ⟨S1x4x4096, .f32⟩
  | .hbm, ⟨24, _⟩ => ⟨S1x4x4096x1, .f32⟩
  | .hbm, ⟨25, _⟩ => ⟨S1x4x4096x256, .f32⟩
  | .hbm, ⟨26, _⟩ => ⟨S1x4x4096x256, .f32⟩
  | .hbm, ⟨27, _⟩ => ⟨S1x4x512x4096, .f32⟩
  | .hbm, ⟨28, _⟩ => ⟨S1x4096x4x512, .f32⟩
  | .hbm, ⟨29, _⟩ => ⟨S4096x2048, .f32⟩
  | .hbm, ⟨30, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== MixFwd.lean ====
abbrev S4096x5120 : Shape := ⟨2, ![4096, 5120]⟩
abbrev S3x1024 : Shape := ⟨2, ![3, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S8x1024 : Shape := ⟨2, ![8, 1024]⟩
abbrev S128x8 : Shape := ⟨2, ![128, 8]⟩
abbrev S4096x2048 : Shape := ⟨2, ![4096, 2048]⟩
abbrev S256x5120 : Shape := ⟨2, ![256, 5120]⟩
abbrev S16x1024 : Shape := ⟨2, ![16, 1024]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x128x128 : Shape := ⟨3, ![1, 128, 128]⟩
abbrev S128x128 : Shape := ⟨2, ![128, 128]⟩
abbrev S128x1 : Shape := ⟨2, ![128, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x5120, .bf16⟩
  | .hbm, ⟨1, _⟩ => ⟨S3x1024, .f32⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S128x8, .f32⟩
  | .hbm, ⟨10, _⟩ => ⟨S4096x2048, .bf16⟩
  | .local _ .vmem, ⟨0, _⟩ => ⟨S256x5120, .bf16⟩
  | .local _ .vmem, ⟨1, _⟩ => ⟨S256x5120, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S8x1024, .f32⟩
  | .local _ .vmem, ⟨7, _⟩ => ⟨S1x1024, .f32⟩
  | .local _ .vmem, ⟨8, _⟩ => ⟨S1x1024, .f32⟩
  | .local _ .vmem, ⟨9, _⟩ => ⟨S8x128x128, .f32⟩
  | .local _ .vmem, ⟨10, _⟩ => ⟨S128x8, .f32⟩
  | .local _ .vmem, ⟨11, _⟩ => ⟨S256x2048, .bf16⟩
  | .local _ .vmem, ⟨12, _⟩ => ⟨S256x2048, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixFwdRefIdeal.lean ====
abbrev S4096x5120 : Shape := ⟨2, ![4096, 5120]⟩
abbrev S3x1024 : Shape := ⟨2, ![3, 1024]⟩
abbrev S1x1024 : Shape := ⟨2, ![1, 1024]⟩
abbrev S8x128x128 : Shape := ⟨3, ![8, 128, 128]⟩
abbrev S8x128 : Shape := ⟨2, ![8, 128]⟩
abbrev S1x4096x5120 : Shape := ⟨3, ![1, 4096, 5120]⟩
abbrev S1024 : Shape := ⟨1, ![1024]⟩
abbrev S1x4096x1024 : Shape := ⟨3, ![1, 4096, 1024]⟩
abbrev S_ : Shape := ⟨0, ![]⟩
abbrev S1x2x1024 : Shape := ⟨3, ![1, 2, 1024]⟩
abbrev S1x4098x1024 : Shape := ⟨3, ![1, 4098, 1024]⟩
abbrev S1x1x1024 : Shape := ⟨3, ![1, 1, 1024]⟩
abbrev S1x32x128x8x128 : Shape := ⟨5, ![1, 32, 128, 8, 128]⟩
abbrev S1x32x128x8 : Shape := ⟨4, ![1, 32, 128, 8]⟩
abbrev S1x32x128x8x1 : Shape := ⟨5, ![1, 32, 128, 8, 1]⟩
abbrev S1x1x1x8x128 : Shape := ⟨5, ![1, 1, 1, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x4096x2048 : Shape := ⟨3, ![1, 4096, 2048]⟩
abbrev S4096x2048 : Shape := ⟨2, ![4096, 2048]⟩

abbrev nBuf : Space → Nat
  | .hbm => 87
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S3x1024, .f32⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S4096x5120, .f32⟩
  | .hbm, ⟨7, _⟩ => ⟨S1x4096x5120, .f32⟩
  | .hbm, ⟨8, _⟩ => ⟨S1024, .f32⟩
  | .hbm, ⟨9, _⟩ => ⟨S1024, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S_, .f32⟩
  | .hbm, ⟨17, _⟩ => ⟨S1x2x1024, .f32⟩
  | .hbm, ⟨18, _⟩ => ⟨S1x4098x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1x1024, .f32⟩
  | .hbm, ⟨28, _⟩ => ⟨S1024, .f32⟩
  | .hbm, ⟨29, _⟩ => ⟨S1x4096x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x1024, .f32⟩
  | .hbm, ⟨35, _⟩ => ⟨S1024, .f32⟩
  | .hbm, ⟨36, _⟩ => ⟨S1x4096x1024, .f32⟩
  | .hbm, ⟨37, _⟩ => ⟨S1x1x1024, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x32x128x8x128, .f32⟩
  | .hbm, ⟨43, _⟩ => ⟨S8x128, .f32⟩
  | .hbm, ⟨44, _⟩ => ⟨S1x32x128x8x128, .f32⟩
  | .hbm, ⟨45, _⟩ => ⟨S_, .f32⟩
  | .hbm, ⟨46, _⟩ => ⟨S1x32x128x8, .f32⟩
  | .hbm, ⟨47, _⟩ => ⟨S1x32x128x8x1, .f32⟩
  | .hbm, ⟨48, _⟩ => ⟨S_, .f32⟩
  | .hbm, ⟨49, _⟩ => ⟨S1x32x128x8x1, .f32⟩
  | .hbm, ⟨50, _⟩ => ⟨S1x32x128x8x1, .f32⟩
  | .hbm, ⟨51, _⟩ => ⟨S_, .f32⟩
  | .hbm, ⟨52, _⟩ => ⟨S1x32x128x8x1, .f32⟩
  | .hbm, ⟨53, _⟩ => ⟨S1x32x128x8x1, .f32⟩
  | .hbm, ⟨54, _⟩ => ⟨S1x32x128x8x1, .f32⟩
  | .hbm, ⟨55, _⟩ => ⟨S1x32x128x8x128, .f32⟩
  | .hbm, ⟨56, _⟩ => ⟨S1x32x128x8x128, .f32⟩
  | .hbm, ⟨57, _⟩ => ⟨S1x1x1x8x128, .f32⟩
  | .hbm, ⟨58, _⟩ => ⟨S1x32x128x8x128, .f32⟩
  | .hbm, ⟨59, _⟩ => ⟨S1x32x128x8x128, .f32⟩
  | .hbm, ⟨60, _⟩ => ⟨S_, .i1⟩
  | .hbm, ⟨61, _⟩ => ⟨S128x128, .i1⟩
  | .hbm, ⟨62, _⟩ => ⟨S128x128, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S128x128, .i32⟩
  | .hbm, ⟨67, _⟩ => ⟨S128x128, .i1⟩
  | .hbm, ⟨68, _⟩ => ⟨S_, .i1⟩
  | .hbm, ⟨69, _⟩ => ⟨S128x128, .i1⟩
  | .hbm, ⟨70, _⟩ => ⟨S128x128, .i1⟩
  | .hbm, ⟨71, _⟩ => ⟨S1x128x128, .i1⟩
  | .hbm, ⟨72, _⟩ => ⟨S_, .f32⟩
  | .hbm, ⟨73, _⟩ => ⟨S8x128x128, .f32⟩
  | .hbm, ⟨74, _⟩ => ⟨S8x128x128, .i1⟩
  | .hbm, ⟨75, _⟩ => ⟨S8x128x128, .f32⟩
  | .hbm, ⟨76, _⟩ => ⟨S8x1x32x128x128, .f32⟩
  | .hbm, ⟨77, _⟩ => ⟨S1x32x128x8x128, .f32⟩
  | .hbm, ⟨78, _⟩ => ⟨S128x8, .f32⟩
  | .hbm, ⟨79, _⟩ => ⟨S1x1x128x8x1, .f32⟩
  | .hbm, ⟨80, _⟩ => ⟨S1x32x128x8x128, .f32⟩
  | .hbm, ⟨81, _⟩ => ⟨S1x32x128x8x128, .f32⟩
  | .hbm, ⟨82, _⟩ => ⟨S1x4096x1024, .f32⟩
  | .hbm, ⟨83, _⟩ => ⟨S1x4096x1024, .f32⟩
  | .hbm, ⟨84, _⟩ => ⟨S1x4096x2048, .f32⟩
  | .hbm, ⟨85, _⟩ => ⟨S4096x2048, .f32⟩
  | .hbm, ⟨86, _⟩ => ⟨S4096x2048, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_0 : Ref sig .tc := ⟨.hbm, 45, rfl⟩
abbrev main_v38 : Ref sig .tc := ⟨.hbm, 46, rfl⟩
abbrev main_v39 : Ref sig .tc := ⟨.hbm, 47, rfl⟩
abbrev main_cst_1 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_c : Ref sig .tc := ⟨.hbm, 60, rfl⟩
abbrev main_v50 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_0 : Ref sig .tc := ⟨.hbm, 68, rfl⟩
abbrev main_call0_v5 : Ref sig .tc := ⟨.hbm, 69, rfl⟩
abbrev main_v51 : Ref sig .tc := ⟨.hbm, 70, rfl⟩
abbrev main_v52 : Ref sig .tc := ⟨.hbm, 71, rfl⟩
abbrev main_cst_3 : Ref sig .tc := ⟨.hbm, 72, rfl⟩
abbrev main_v53 : Ref sig .tc := ⟨.hbm, 73, rfl⟩
abbrev main_call1_v0 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== NormFwd.lean ====
abbrev S4096x2048 : Shape := ⟨2, ![4096, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== MemNorm.lean ====
abbrev S256x2048 : Shape := ⟨2, ![256, 2048]⟩
abbrev S1x2048 : Shape := ⟨2, ![1, 2048]⟩
abbrev S256x1 : Shape := ⟨2, ![256, 1]⟩
abbrev S256 : Shape := ⟨1, ![256]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .hbm, ⟨3, _⟩ => ⟨S256x1, .f32⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | .local _ .vmem, ⟨3, _⟩ => ⟨S256x1, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== MemNormRefIdeal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 31
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .bf16⟩
  | .hbm, ⟨20, _⟩ => ⟨S256x2048, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x1, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Attn.Head.lean ====
/-
  ONE HEAD'S ARITHMETIC, READ AT AN INDEX. What the kernel's body computes for one head from the head's columns of the
  four operands: the probabilities, the gradient of the scores, and the three products, each as sums of extended reals.
-/
module

public import proofs.«01_k».proof.Proof.Gen.KernelIdeal.Skeleton
public import Idealize.ShloMosaic.Lib.Pointwise

@[expose] public section

noncomputable section

namespace Cert.Attn

open Idealize.ShloMosaic Cert.KernelIdeal Cert.KernelIdeal.Gen

/-- The scores' scale, the printed constant. -/
def scale : EReal := Ideal.ofBits .f32 0x3D3504F3#32

/-- The greatest entry of a row of scores. -/
def top (x : Fin 256 → EReal) : EReal := Finset.univ.fold max (Ideal.ofBits .f32 0xFF800000#32) x
/-- A row's exponentials, shifted by the row's greatest entry. -/
def ex (x : Fin 256 → EReal) (m : Fin 256) : EReal := Ideal.exp (x m - top x)
/-- The sum of a row's shifted exponentials. -/
def zz (x : Fin 256 → EReal) : EReal := ∑ k, ex x k
/-- A row's softmax. -/
def pr (x : Fin 256 → EReal) (m : Fin 256) : EReal := Ideal.div (ex x m) (zz x)
/-- The gradient of a row of unscaled scores, from the probabilities and their gradient. -/
def dsc (p dp : Fin 256 → EReal) (m : Fin 256) : EReal := p m * (dp m - ∑ k, dp k * p k) * scale

theorem pay3_apply (q : Vec Ideal S512x512 .bf16) (k : Vec Ideal S256x512 .bf16) (r : Fin 512) (m : Fin 256) :
    k0_pay3 q k (ix2 r m) = pr (fun m => (∑ d : Fin 512, q (ix2 r d) * k (ix2 m d)) * scale) m := by
  pointwise [k0_pay3]
  rfl

theorem pay4_apply (q o : Vec Ideal S512x512 .bf16) (k v : Vec Ideal S256x512 .bf16) (r : Fin 512) (m : Fin 256) :
    k0_pay4 q o k v (ix2 r m)
      = dsc (fun m => k0_pay3 q k (ix2 r m)) (fun m => ∑ d : Fin 512, o (ix2 r d) * v (ix2 m d)) m := by
  pointwise [k0_pay4]
  rfl

theorem pay5_apply (q o : Vec Ideal S512x512 .bf16) (k v k' : Vec Ideal S256x512 .bf16) (r : Fin 512) (d : Fin 512) :
    k0_pay5 q o k v k' (ix2 r d) = ∑ m : Fin 256, k0_pay4 q o k v (ix2 r m) * k' (ix2 m d) := by
  pointwise [k0_pay5]

theorem pay6_apply (q : Vec Ideal S512x512 .bf16) (ds : FVec Ideal S512x256 .bf16) (w : Vec Ideal S256x512 .f32) (m : Fin 256) (d : Fin 512) :
    k0_pay6 q ds w (ix2 m d) = w (ix2 m d) + ∑ r : Fin 512, ds (ix2 r m) * q (ix2 r d) := by
  pointwise [k0_pay6]

theorem pay7_apply (o : Vec Ideal S512x512 .bf16) (p : FVec Ideal S512x256 .f32) (w : Vec Ideal S256x512 .f32) (m : Fin 256) (d : Fin 512) :
    k0_pay7 o p w (ix2 m d) = w (ix2 m d) + ∑ r : Fin 512, p (ix2 r m) * o (ix2 r d) := by
  pointwise [k0_pay7]

end Cert.Attn
-- ==== Proof.Attn.Block.lean ====
/-
  WHAT ONE GRID POINT LEAVES IN THE THREE OUTPUT BLOCKS. The body's stores of the four heads are pieces of one array
  each: the query gradient of the point's 512 rows, and the running key and value gradients with the point's products
  added. The first point's running gradients start from zero, every other point's from what the point before left.
-/
module

public import proofs.«01_k».proof.Proof.Attn.Head
public import proofs.«01_k».proof.Proof.Gen.KernelIdeal.Value
public import Idealize.ShloMosaic.Lib.Pipeline.ReadBack

@[expose] public section

set_option maxRecDepth 16384

noncomputable section

namespace Cert.Attn

open Idealize.ShloMosaic Idealize.ShloMosaic.Tactic Cert.KernelIdeal Cert.KernelIdeal.Gen Idealize.SL.Sem

/-- Column `d` of head `h`. -/
def col (h : Fin 4) (d : Fin 512) : Fin 2048 := ⟨512 * h.val + d.val, by omega⟩
/-- The head a column belongs to. -/
def head (d : Fin 2048) : Fin 4 := ⟨d.val / 512, by omega⟩

theorem head_col (h : Fin 4) (d : Fin 512) : head (col h d) = h := by
  apply Fin.ext; show (512 * h.val + d.val) / 512 = h.val; omega

/-- Row `r` of the block's scores at head `h`. -/
def score (x0 : Vec Ideal S512x2048 .bf16) (x1 : Vec Ideal S256x2048 .bf16) (h : Fin 4) (r : Fin 512) (m : Fin 256) : EReal :=
  (∑ d : Fin 512, x0 (ix2 r (col h d)) * x1 (ix2 m (col h d))) * scale
/-- Row `r` of the block's probability gradients at head `h`. -/
def dprob (x2 : Vec Ideal S256x2048 .bf16) (x3 : Vec Ideal S512x2048 .bf16) (h : Fin 4) (r : Fin 512) (m : Fin 256) : EReal :=
  ∑ d : Fin 512, x3 (ix2 r (col h d)) * x2 (ix2 m (col h d))
/-- Row `r` of the block's score gradients at head `h`. -/
def dscore (x0 : Vec Ideal S512x2048 .bf16) (x1 x2 : Vec Ideal S256x2048 .bf16) (x3 : Vec Ideal S512x2048 .bf16) (h : Fin 4) (r : Fin 512) :
    Fin 256 → EReal := dsc (pr (score x0 x1 h r)) (dprob x2 x3 h r)

/-- The query gradient of the block. -/
def dqBlock (x0 : Vec Ideal S512x2048 .bf16) (x1 x2 : Vec Ideal S256x2048 .bf16) (x3 : Vec Ideal S512x2048 .bf16) : Vec Ideal S512x2048 .bf16 :=
  fun y => ∑ m : Fin 256, dscore x0 x1 x2 x3 (head (y 1)) (y 0) m * x1 (ix2 m (y 1))
/-- The key gradient after the block's rows are added to `w`. -/
def dkBlock (x0 : Vec Ideal S512x2048 .bf16) (x1 x2 : Vec Ideal S256x2048 .bf16) (x3 : Vec Ideal S512x2048 .bf16) (w : Vec Ideal S256x2048 .f32) :
    Vec Ideal S256x2048 .f32 :=
  fun y => w y + ∑ r : Fin 512, dscore x0 x1 x2 x3 (head (y 1)) r (y 0) * x0 (ix2 r (y 1))
/-- The value gradient after the block's rows are added to `w`. -/
def dvBlock (x0 : Vec Ideal S512x2048 .bf16) (x1 : Vec Ideal S256x2048 .bf16) (x3 : Vec Ideal S512x2048 .bf16) (w : Vec Ideal S256x2048 .f32) :
    Vec Ideal S256x2048 .f32 :=
  fun y => w y + ∑ r : Fin 512, pr (score x0 x1 (head (y 1)) r) (y 0) * x3 (ix2 r (y 1))

/-- A load of head `h`'s columns of a `512 × 2048` buffer, at an index. -/
theorem ldRow {e : EltTy} (X : Vec Ideal S512x2048 e) (h : Fin 4) {o : Nat} (ho : o = 512 * h.val)
    (i : ∀ a, (![0, o] : Fin 2 → Nat) a + S512x512.size a ≤ S512x2048.size a) (r : Fin 512) (d : Fin 512) :
    View.ld (Val := Elt Ideal) X (Rect.unit (s := S512x2048) ![0, o] S512x512.size i) (ix2 r d) = X (ix2 r (col h d)) := by
  subst ho
  refine congrArg X (funext fun a => Fin.ext ?_)
  match a with
  | ⟨0, _⟩ => show 0 + 1 * r.val = r.val; omega
  | ⟨1, _⟩ => show 512 * h.val + 1 * d.val = 512 * h.val + d.val; omega

/-- A load of head `h`'s columns of a `256 × 2048` buffer, at an index. -/
theorem ldMem {e : EltTy} (X : Vec Ideal S256x2048 e) (h : Fin 4) {o : Nat} (ho : o = 512 * h.val)
    (i : ∀ a, (![0, o] : Fin 2 → Nat) a + S256x512.size a ≤ S256x2048.size a) (m : Fin 256) (d : Fin 512) :
    View.ld (Val := Elt Ideal) X (Rect.unit (s := S256x2048) ![0, o] S256x512.size i) (ix2 m d) = X (ix2 m (col h d)) := by
  subst ho
  refine congrArg X (funext fun a => Fin.ext ?_)
  match a with
  | ⟨0, _⟩ => show 0 + 1 * m.val = m.val; omega
  | ⟨1, _⟩ => show 512 * h.val + 1 * d.val = 512 * h.val + d.val; omega

section Pieces

variable (x0 : Vec Ideal S512x2048 .bf16) (x1 x2 : Vec Ideal S256x2048 .bf16) (x3 : Vec Ideal S512x2048 .bf16) (w : Vec Ideal S256x2048 .f32)
  (h : Fin 4) {o : Nat} (ho : o = 512 * h.val)
  (i : ∀ a, (![0, o] : Fin 2 → Nat) a + S512x512.size a ≤ S512x2048.size a)
  (i' : ∀ a, (![0, o] : Fin 2 → Nat) a + S256x512.size a ≤ S256x2048.size a)

/-- Head `h`'s columns of a block of rows, loaded. -/
abbrev rows (X : Vec Ideal S512x2048 .bf16) (i : ∀ a, (![0, o] : Fin 2 → Nat) a + S512x512.size a ≤ S512x2048.size a) : Vec Ideal S512x512 .bf16 :=
  View.ld (Val := Elt Ideal) X (Rect.unit (s := S512x2048) ![0, o] S512x512.size i)
/-- Head `h`'s columns of the memory's keys or values, loaded. -/
abbrev mems {e : EltTy} (X : Vec Ideal S256x2048 e) (i' : ∀ a, (![0, o] : Fin 2 → Nat) a + S256x512.size a ≤ S256x2048.size a) : Vec Ideal S256x512 e :=
  View.ld (Val := Elt Ideal) X (Rect.unit (s := S256x2048) ![0, o] S256x512.size i')

include ho in
theorem pr_piece (r : Fin 512) (m : Fin 256) : k0_pay3 (rows x0 i) (mems x1 i') (ix2 r m) = pr (score x0 x1 h r) m := by
  rw [pay3_apply]
  simp only [ldRow x0 h ho, ldMem x1 h ho]
  rfl

include ho in
theorem ds_piece (r : Fin 512) (m : Fin 256) :
    k0_pay4 (rows x0 i) (rows x3 i) (mems x1 i') (mems x2 i') (ix2 r m) = dscore x0 x1 x2 x3 h r m := by
  rw [pay4_apply]
  simp only [pr_piece x0 x1 h ho, ldRow x3 h ho, ldMem x2 h ho]
  rfl

include ho in
theorem dq_piece (x : (Rect.unit (s := S512x2048) ![0, o] S512x512.size i).shape.Idx) :
    k0_pay5 (rows x0 i) (rows x3 i) (mems x1 i') (mems x2 i') (mems x1 i') x
      = dqBlock x0 x1 x2 x3 ((Rect.unit (s := S512x2048) ![0, o] S512x512.size i).emb x) := by
  obtain ⟨r, d, rfl⟩ : ∃ (r : Fin 512) (d : Fin 512), x = ix2 r d := ⟨x 0, x 1, by funext a; match a with | ⟨0, _⟩ => rfl | ⟨1, _⟩ => rfl⟩
  have e : (Rect.unit (s := S512x2048) ![0, o] S512x512.size i).emb (ix2 r d) = ix2 r (col h d) := by
    subst ho; funext a; apply Fin.ext
    match a with
    | ⟨0, _⟩ => show 0 + 1 * r.val = r.val; omega
    | ⟨1, _⟩ => show 512 * h.val + 1 * d.val = 512 * h.val + d.val; omega
  refine (pay5_apply _ _ _ _ _ r d).trans ?_
  rw [e]
  simp only [ds_piece x0 x1 x2 x3 h ho, ldMem x1 h ho]
  show _ = ∑ m : Fin 256, dscore x0 x1 x2 x3 (head (col h d)) r m * x1 (ix2 m (col h d))
  rw [head_col]

include ho in
theorem dk_piece (x : (Rect.unit (s := S256x2048) ![0, o] S256x512.size i').shape.Idx) :
    k0_pay6 (rows x0 i) (k0_pay4 (rows x0 i) (rows x3 i) (mems x1 i') (mems x2 i')) (mems w i') x
      = dkBlock x0 x1 x2 x3 w ((Rect.unit (s := S256x2048) ![0, o] S256x512.size i').emb x) := by
  obtain ⟨r, d, rfl⟩ : ∃ (r : Fin 256) (d : Fin 512), x = ix2 r d := ⟨x 0, x 1, by funext a; match a with | ⟨0, _⟩ => rfl | ⟨1, _⟩ => rfl⟩
  have e : (Rect.unit (s := S256x2048) ![0, o] S256x512.size i').emb (ix2 r d) = ix2 r (col h d) := by
    subst ho; funext a; apply Fin.ext
    match a with
    | ⟨0, _⟩ => show 0 + 1 * r.val = r.val; omega
    | ⟨1, _⟩ => show 512 * h.val + 1 * d.val = 512 * h.val + d.val; omega
  refine (pay6_apply _ _ _ r d).trans ?_
  rw [e]
  simp only [ds_piece x0 x1 x2 x3 h ho, ldMem w h ho, ldRow x0 h ho]
  show _ = w _ + ∑ k : Fin 512, dscore x0 x1 x2 x3 (head (col h d)) k r * x0 (ix2 k (col h d))
  rw [head_col]

include ho in
theorem dv_piece (x : (Rect.unit (s := S256x2048) ![0, o] S256x512.size i').shape.Idx) :
    k0_pay7 (rows x3 i) (k0_pay3 (rows x0 i) (mems x1 i')) (mems w i') x
      = dvBlock x0 x1 x3 w ((Rect.unit (s := S256x2048) ![0, o] S256x512.size i').emb x) := by
  obtain ⟨r, d, rfl⟩ : ∃ (r : Fin 256) (d : Fin 512), x = ix2 r d := ⟨x 0, x 1, by funext a; match a with | ⟨0, _⟩ => rfl | ⟨1, _⟩ => rfl⟩
  have e : (Rect.unit (s := S256x2048) ![0, o] S256x512.size i').emb (ix2 r d) = ix2 r (col h d) := by
    subst ho; funext a; apply Fin.ext
    match a with
    | ⟨0, _⟩ => show 0 + 1 * r.val = r.val; omega
    | ⟨1, _⟩ => show 512 * h.val + 1 * d.val = 512 * h.val + d.val; omega
  refine (pay7_apply _ _ _ r d).trans ?_
  rw [e]
  simp only [pr_piece x0 x1 h ho, ldMem w h ho, ldRow x3 h ho]
  show _ = w _ + ∑ k : Fin 512, pr (score x0 x1 (head (col h d)) k) r * x3 (ix2 k (col h d))
  rw [head_col]

end Pieces

theorem fill_dk : (k0_pay1 : FVec Ideal S256x2048 .f32) = fun _ => 0 := by
  funext y; pointwise [k0_pay1]
theorem fill_dv : (k0_pay2 : FVec Ideal S256x2048 .f32) = fun _ => 0 := by
  funext y; pointwise [k0_pay2]

theorem outA4 (c : Dev nD) (i : grid0.Coords) (arg1 : Memref sig .tc .vmem S512x2048 .bf16) (harg1 : arg1.IsWhole) (arg2 : Memref sig .tc .vmem S256x2048 .bf16) (harg2 : arg2.IsWhole) (arg3 : Memref sig .tc .vmem S256x2048 .bf16) (harg3 : arg3.IsWhole)
    (arg4 : Memref sig .tc .vmem S512x2048 .bf16) (harg4 : arg4.IsWhole) (arg5 : Memref sig .tc .vmem S512x2048 .bf16) (harg5 : arg5.IsWhole) (arg6 : Memref sig .tc .vmem S256x2048 .f32) (harg6 : arg6.IsWhole) (arg7 : Memref sig .tc .vmem S256x2048 .f32) (harg7 : arg7.IsWhole)
    (hc0 : cond0_0 i) (x0 : Vec Ideal S512x2048 .bf16) (x1 x2 : Vec Ideal S256x2048 .bf16) (x3 : Vec Ideal S512x2048 .bf16) :
    out0_A_4 c i arg1 harg1 arg2 harg2 arg3 harg3 arg4 harg4 arg5 harg5 arg6 harg6 arg7 harg7 hc0 x0 x1 x2 x3 = dqBlock x0 x1 x2 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  sl_unfold_words
  dsimp only
  simp only [View.readAt_eq_ld, harg1.read_unread, harg2.read_unread, harg3.read_unread, harg4.read_unread]
  funext y
  refine View.canon_apply_of_pieces (dqBlock x0 x1 x2 x3) _ (View.PiecesOf.mem ?_) y ?_
  · exact And.intro (fun x => dq_piece x0 x1 x2 x3 3 rfl _ _ x) <| And.intro (fun x => dq_piece x0 x1 x2 x3 2 rfl _ _ x) <| And.intro (fun x => dq_piece x0 x1 x2 x3 1 rfl _ _ x) <| And.intro (fun x => dq_piece x0 x1 x2 x3 0 rfl _ _ x) <| trivial
  · exact View.cover_of_tiledL _ ![512, 512] (by sl_kernel_rfl) y

theorem outA5 (c : Dev nD) (i : grid0.Coords) (arg1 : Memref sig .tc .vmem S512x2048 .bf16) (harg1 : arg1.IsWhole) (arg2 : Memref sig .tc .vmem S256x2048 .bf16) (harg2 : arg2.IsWhole) (arg3 : Memref sig .tc .vmem S256x2048 .bf16) (harg3 : arg3.IsWhole)
    (arg4 : Memref sig .tc .vmem S512x2048 .bf16) (harg4 : arg4.IsWhole) (arg5 : Memref sig .tc .vmem S512x2048 .bf16) (harg5 : arg5.IsWhole) (arg6 : Memref sig .tc .vmem S256x2048 .f32) (harg6 : arg6.IsWhole) (arg7 : Memref sig .tc .vmem S256x2048 .f32) (harg7 : arg7.IsWhole)
    (hc0 : cond0_0 i) (x0 : Vec Ideal S512x2048 .bf16) (x1 x2 : Vec Ideal S256x2048 .bf16) (x3 : Vec Ideal S512x2048 .bf16) :
    out0_A_5 c i arg1 harg1 arg2 harg2 arg3 harg3 arg4 harg4 arg5 harg5 arg6 harg6 arg7 harg7 hc0 x0 x1 x2 x3 = dkBlock x0 x1 x2 x3 (fun _ => 0) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  sl_unfold_words
  dsimp only
  simp only [View.readAt_eq_ld, harg1.read_unread, harg2.read_unread, harg3.read_unread, harg4.read_unread]
  simp (discharger := decide) only [View.readCov_skip, View.readCov_fill, fill_dk, fill_dv]
  funext y
  refine View.canon_append_of_piecesOf (dkBlock x0 x1 x2 x3 (fun _ => 0)) [_] [_, _, _, _] ?_ y ?_
  · exact And.intro (fun x => dk_piece x0 x1 x2 x3 (fun _ => 0) 3 rfl _ _ x) <| And.intro (fun x => dk_piece x0 x1 x2 x3 (fun _ => 0) 2 rfl _ _ x) <| And.intro (fun x => dk_piece x0 x1 x2 x3 (fun _ => 0) 1 rfl _ _ x) <| And.intro (fun x => dk_piece x0 x1 x2 x3 (fun _ => 0) 0 rfl _ _ x) <| trivial
  · exact View.cover_of_tiledL _ ![256, 512] (by sl_kernel_rfl) y

theorem outA6 (c : Dev nD) (i : grid0.Coords) (arg1 : Memref sig .tc .vmem S512x2048 .bf16) (harg1 : arg1.IsWhole) (arg2 : Memref sig .tc .vmem S256x2048 .bf16) (harg2 : arg2.IsWhole) (arg3 : Memref sig .tc .vmem S256x2048 .bf16) (harg3 : arg3.IsWhole)
    (arg4 : Memref sig .tc .vmem S512x2048 .bf16) (harg4 : arg4.IsWhole) (arg5 : Memref sig .tc .vmem S512x2048 .bf16) (harg5 : arg5.IsWhole) (arg6 : Memref sig .tc .vmem S256x2048 .f32) (harg6 : arg6.IsWhole) (arg7 : Memref sig .tc .vmem S256x2048 .f32) (harg7 : arg7.IsWhole)
    (hc0 : cond0_0 i) (x0 : Vec Ideal S512x2048 .bf16) (x1 x2 : Vec Ideal S256x2048 .bf16) (x3 : Vec Ideal S512x2048 .bf16) :
    out0_A_6 c i arg1 harg1 arg2 harg2 arg3 harg3 arg4 harg4 arg5 harg5 arg6 harg6 arg7 harg7 hc0 x0 x1 x2 x3 = dvBlock x0 x1 x3 (fun _ => 0) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  sl_unfold_words
  dsimp only
  simp only [View.readAt_eq_ld, harg1.read_unread, harg2.read_unread, harg3.read_unread, harg4.read_unread]
  simp (discharger := decide) only [View.readCov_skip, View.readCov_fill, fill_dk, fill_dv]
  funext y
  refine View.canon_append_of_piecesOf (dvBlock x0 x1 x3 (fun _ => 0)) [_] [_, _, _, _] ?_ y ?_
  · exact And.intro (fun x => dv_piece x0 x1 x3 (fun _ => 0) 3 rfl _ _ x) <| And.intro (fun x => dv_piece x0 x1 x3 (fun _ => 0) 2 rfl _ _ x) <| And.intro (fun x => dv_piece x0 x1 x3 (fun _ => 0) 1 rfl _ _ x) <| And.intro (fun x => dv_piece x0 x1 x3 (fun _ => 0) 0 rfl _ _ x) <| trivial
  · exact View.cover_of_tiledL _ ![256, 512] (by sl_kernel_rfl) y

theorem outB4 (c : Dev nD) (i : grid0.Coords) (arg1 : Memref sig .tc .vmem S512x2048 .bf16) (harg1 : arg1.IsWhole) (arg2 : Memref sig .tc .vmem S256x2048 .bf16) (harg2 : arg2.IsWhole) (arg3 : Memref sig .tc .vmem S256x2048 .bf16) (harg3 : arg3.IsWhole)
    (arg4 : Memref sig .tc .vmem S512x2048 .bf16) (harg4 : arg4.IsWhole) (arg5 : Memref sig .tc .vmem S512x2048 .bf16) (harg5 : arg5.IsWhole) (arg6 : Memref sig .tc .vmem S256x2048 .f32) (harg6 : arg6.IsWhole) (arg7 : Memref sig .tc .vmem S256x2048 .f32) (harg7 : arg7.IsWhole)
    (hc0 : ¬cond0_0 i) (x0 : Vec Ideal S512x2048 .bf16) (x1 x2 : Vec Ideal S256x2048 .bf16) (x3 : Vec Ideal S512x2048 .bf16) (xo5 xo6 : Vec Ideal S256x2048 .f32) :
    out0_B_4 c i arg1 harg1 arg2 harg2 arg3 harg3 arg4 harg4 arg5 harg5 arg6 harg6 arg7 harg7 hc0 x0 x1 x2 x3 xo5 xo6 = dqBlock x0 x1 x2 x3 := by
  unfold out0_B_4
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B
  sl_unfold_words
  dsimp only
  simp only [View.readAt_eq_ld, harg1.read_unread, harg2.read_unread, harg3.read_unread, harg4.read_unread, harg6.read_unread, harg7.read_unread]
  funext y
  refine View.canon_apply_of_pieces (dqBlock x0 x1 x2 x3) _ (View.PiecesOf.mem ?_) y ?_
  · exact And.intro (fun x => dq_piece x0 x1 x2 x3 3 rfl _ _ x) <| And.intro (fun x => dq_piece x0 x1 x2 x3 2 rfl _ _ x) <| And.intro (fun x => dq_piece x0 x1 x2 x3 1 rfl _ _ x) <| And.intro (fun x => dq_piece x0 x1 x2 x3 0 rfl _ _ x) <| trivial
  · exact View.cover_of_tiledL _ ![512, 512] (by sl_kernel_rfl) y

theorem outB5 (c : Dev nD) (i : grid0.Coords) (arg1 : Memref sig .tc .vmem S512x2048 .bf16) (harg1 : arg1.IsWhole) (arg2 : Memref sig .tc .vmem S256x2048 .bf16) (harg2 : arg2.IsWhole) (arg3 : Memref sig .tc .vmem S256x2048 .bf16) (harg3 : arg3.IsWhole)
    (arg4 : Memref sig .tc .vmem S512x2048 .bf16) (harg4 : arg4.IsWhole) (arg5 : Memref sig .tc .vmem S512x2048 .bf16) (harg5 : arg5.IsWhole) (arg6 : Memref sig .tc .vmem S256x2048 .f32) (harg6 : arg6.IsWhole) (arg7 : Memref sig .tc .vmem S256x2048 .f32) (harg7 : arg7.IsWhole)
    (hc0 : ¬cond0_0 i) (x0 : Vec Ideal S512x2048 .bf16) (x1 x2 : Vec Ideal S256x2048 .bf16) (x3 : Vec Ideal S512x2048 .bf16) (xo5 xo6 : Vec Ideal S256x2048 .f32) :
    out0_B_5 c i arg1 harg1 arg2 harg2 arg3 harg3 arg4 harg4 arg5 harg5 arg6 harg6 arg7 harg7 hc0 x0 x1 x2 x3 xo5 xo6 = dkBlock x0 x1 x2 x3 xo5 := by
  unfold out0_B_5
  rw [View.read_writes_eq_canon _ _ _ (cover0_B_5 c i arg1 harg1 arg2 harg2 arg3 harg3 arg4 harg4 arg5 harg5 arg6 harg6 arg7 harg7 hc0 x0 x1 x2 x3 xo5 xo6)]
  unfold kernelRun0_B
  sl_unfold_words
  dsimp only
  simp only [View.readAt_eq_ld, harg1.read_unread, harg2.read_unread, harg3.read_unread, harg4.read_unread, harg6.read_unread, harg7.read_unread]
  funext y
  refine View.canon_apply_of_pieces (dkBlock x0 x1 x2 x3 xo5) _ (View.PiecesOf.mem ?_) y ?_
  · exact And.intro (fun x => dk_piece x0 x1 x2 x3 xo5 3 rfl _ _ x) <| And.intro (fun x => dk_piece x0 x1 x2 x3 xo5 2 rfl _ _ x) <| And.intro (fun x => dk_piece x0 x1 x2 x3 xo5 1 rfl _ _ x) <| And.intro (fun x => dk_piece x0 x1 x2 x3 xo5 0 rfl _ _ x) <| trivial
  · exact View.cover_of_tiledL _ ![256, 512] (by sl_kernel_rfl) y

theorem outB6 (c : Dev nD) (i : grid0.Coords) (arg1 : Memref sig .tc .vmem S512x2048 .bf16) (harg1 : arg1.IsWhole) (arg2 : Memref sig .tc .vmem S256x2048 .bf16) (harg2 : arg2.IsWhole) (arg3 : Memref sig .tc .vmem S256x2048 .bf16) (harg3 : arg3.IsWhole)
    (arg4 : Memref sig .tc .vmem S512x2048 .bf16) (harg4 : arg4.IsWhole) (arg5 : Memref sig .tc .vmem S512x2048 .bf16) (harg5 : arg5.IsWhole) (arg6 : Memref sig .tc .vmem S256x2048 .f32) (harg6 : arg6.IsWhole) (arg7 : Memref sig .tc .vmem S256x2048 .f32) (harg7 : arg7.IsWhole)
    (hc0 : ¬cond0_0 i) (x0 : Vec Ideal S512x2048 .bf16) (x1 x2 : Vec Ideal S256x2048 .bf16) (x3 : Vec Ideal S512x2048 .bf16) (xo5 xo6 : Vec Ideal S256x2048 .f32) :
    out0_B_6 c i arg1 harg1 arg2 harg2 arg3 harg3 arg4 harg4 arg5 harg5 arg6 harg6 arg7 harg7 hc0 x0 x1 x2 x3 xo5 xo6 = dvBlock x0 x1 x3 xo6 := by
  unfold out0_B_6
  rw [View.read_writes_eq_canon _ _ _ (cover0_B_6 c i arg1 harg1 arg2 harg2 arg3 harg3 arg4 harg4 arg5 harg5 arg6 harg6 arg7 harg7 hc0 x0 x1 x2 x3 xo5 xo6)]
  unfold kernelRun0_B
  sl_unfold_words
  dsimp only
  simp only [View.readAt_eq_ld, harg1.read_unread, harg2.read_unread, harg3.read_unread, harg4.read_unread, harg6.read_unread, harg7.read_unread]
  funext y
  refine View.canon_apply_of_pieces (dvBlock x0 x1 x3 xo6) _ (View.PiecesOf.mem ?_) y ?_
  · exact And.intro (fun x => dv_piece x0 x1 x3 xo6 3 rfl _ _ x) <| And.intro (fun x => dv_piece x0 x1 x3 xo6 2 rfl _ _ x) <| And.intro (fun x => dv_piece x0 x1 x3 xo6 1 rfl _ _ x) <| And.intro (fun x => dv_piece x0 x1 x3 xo6 0 rfl _ _ x) <| trivial
  · exact View.cover_of_tiledL _ ![256, 512] (by sl_kernel_rfl) y

end Cert.Attn
-- ==== Proof.Attn.Array.lean ====
/-
  THE THREE RESULT ARRAYS OF THE KERNEL'S RUN. The query gradient is written block by block; the key and value
  gradients are the products summed over the eight blocks of rows, one after the other, and written back at the end.
-/
module

public import proofs.«01_k».proof.Proof.Attn.Block

@[expose] public section

set_option maxRecDepth 16384

noncomputable section

namespace Cert.Attn

open Idealize.ShloMosaic Idealize.ShloMosaic.TcCoe Cert.KernelIdeal Cert.KernelIdeal.Gen Idealize.SL.Sem
open Idealize.ShloMosaic.Pipeline (Dat Cfg Window BodyObligation cellOf)

abbrev Rows := Vec Ideal S4096x2048 .bf16
abbrev Mems := Vec Ideal S256x2048 .bf16

/-- Row `r` of block `t` (the blocks numbered without a bound: the row is taken within the array). -/
def rowAt (t : Nat) (r : Fin 512) : Fin 4096 := ⟨(512 * t + r.val) % 4096, Nat.mod_lt _ (by decide)⟩
/-- Block `t` of the rows. -/
def blk (X : Rows) (t : Nat) : Vec Ideal S512x2048 .bf16 := fun y => X (ix2 (rowAt t (y 0)) (y 1))

/-- The scores of row `r` at head `h`. -/
def scoreF (q : Rows) (k : Mems) (h : Fin 4) (r : Fin 4096) (m : Fin 256) : EReal :=
  (∑ d : Fin 512, q (ix2 r (col h d)) * k (ix2 m (col h d))) * scale
/-- The gradients of the probabilities of row `r` at head `h`. -/
def dprobF (v : Mems) (o : Rows) (h : Fin 4) (r : Fin 4096) (m : Fin 256) : EReal :=
  ∑ d : Fin 512, o (ix2 r (col h d)) * v (ix2 m (col h d))
/-- The gradients of the scores of row `r` at head `h`. -/
def dscoreF (q : Rows) (k v : Mems) (o : Rows) (h : Fin 4) (r : Fin 4096) : Fin 256 → EReal :=
  dsc (pr (scoreF q k h r)) (dprobF v o h r)

/-- The query gradient. -/
def dqF (q : Rows) (k v : Mems) (o : Rows) : Rows :=
  fun y => ∑ m : Fin 256, dscoreF q k v o (head (y 1)) (y 0) m * k (ix2 m (y 1))
/-- Block `t`'s part of the key gradient. -/
def dkPart (q : Rows) (k v : Mems) (o : Rows) (y : S256x2048.Idx) (t : Nat) : EReal :=
  ∑ r : Fin 512, dscoreF q k v o (head (y 1)) (rowAt t r) (y 0) * q (ix2 (rowAt t r) (y 1))
/-- Block `t`'s part of the value gradient. -/
def dvPart (q : Rows) (k : Mems) (o : Rows) (y : S256x2048.Idx) (t : Nat) : EReal :=
  ∑ r : Fin 512, pr (scoreF q k (head (y 1)) (rowAt t r)) (y 0) * o (ix2 (rowAt t r) (y 1))
/-- The key gradient after the first `n` blocks. -/
def dkSum (q : Rows) (k v : Mems) (o : Rows) (n : Nat) : Vec Ideal S256x2048 .f32 := fun y => ∑ t ∈ Finset.range n, dkPart q k v o y t
/-- The value gradient after the first `n` blocks. -/
def dvSum (q : Rows) (k : Mems) (o : Rows) (n : Nat) : Vec Ideal S256x2048 .f32 := fun y => ∑ t ∈ Finset.range n, dvPart q k o y t

theorem dkBlock_sum (q : Rows) (k v : Mems) (o : Rows) (n : Nat) :
    dkBlock (blk q n) k v (blk o n) (dkSum q k v o n) = dkSum q k v o (n + 1) := by
  funext y
  show _ = ∑ t ∈ Finset.range (n + 1), dkPart q k v o y t
  rw [Finset.sum_range_succ]
  rfl

theorem dvBlock_sum (q : Rows) (k : Mems) (o : Rows) (n : Nat) :
    dvBlock (blk q n) k (blk o n) (dvSum q k o n) = dvSum q k o (n + 1) := by
  funext y
  show _ = ∑ t ∈ Finset.range (n + 1), dvPart q k o y t
  rw [Finset.sum_range_succ]
  rfl

theorem rowAt_lt {t : Nat} (ht : t < 8) (r : Fin 512) : (rowAt t r).val = 512 * t + r.val := by
  show (512 * t + r.val) % 4096 = _; omega

variable (m : (ℓ : Loc nD τ sig) → Buf (Elt Ideal) ℓ) (ρ : Dev nD → PrngReg)

abbrev aq (c : Dev nD) : Rows := m ((c : Thread nD τ).loc main_arg0)
abbrev ak (c : Dev nD) : Mems := m ((c : Thread nD τ).loc main_arg1)
abbrev av (c : Dev nD) : Mems := m ((c : Thread nD τ).loc main_arg2)
abbrev ao (c : Dev nD) : Rows := m ((c : Thread nD τ).loc main_arg3)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem lt_N (t : Fin cfg0.N) : t.val < 8 := by have := t.isLt; have hN : cfg0.N = 8 := N_0; omega

theorem iblk0 (c : Dev nD) (t : Fin cfg0.N) : (iblk m c 0 t : Vec Ideal S512x2048 .bf16) = blk (aq m c) t.val := by
  have ht := lt_N t
  funext j
  unfold iblk
  rw [View.read_apply]
  show V m c main_arg0 _ = m ((c : Thread nD τ).loc main_arg0) _
  unfold V
  congr 1
  funext a
  apply Fin.ext
  have hj : (j 0).val < 512 := (j 0).isLt
  match a with
  | ⟨0, _⟩ => show win0_0.index t 0 * 512 + 1 * (j 0).val = (512 * t.val + (j 0).val) % 4096; rw [(index0 t).1]; omega
  | ⟨1, _⟩ => show win0_0.index t 1 * 2048 + 1 * (j 1).val = (j 1).val; rw [(index0 t).2]; omega

theorem iblk1 (c : Dev nD) (t : Fin cfg0.N) : (iblk m c 1 t : Vec Ideal S256x2048 .bf16) = ak m c := by
  funext j
  unfold iblk
  rw [View.read_apply]
  show V m c main_arg1 _ = m ((c : Thread nD τ).loc main_arg1) _
  unfold V
  congr 1
  funext a
  apply Fin.ext
  match a with
  | ⟨0, _⟩ => show win0_1.index t 0 * 256 + 1 * (j 0).val = (j 0).val; rw [(index1 t).1]; omega
  | ⟨1, _⟩ => show win0_1.index t 1 * 2048 + 1 * (j 1).val = (j 1).val; rw [(index1 t).2]; omega

theorem iblk2 (c : Dev nD) (t : Fin cfg0.N) : (iblk m c 2 t : Vec Ideal S256x2048 .bf16) = av m c := by
  funext j
  unfold iblk
  rw [View.read_apply]
  show V m c main_arg2 _ = m ((c : Thread nD τ).loc main_arg2) _
  unfold V
  congr 1
  funext a
  apply Fin.ext
  match a with
  | ⟨0, _⟩ => show win0_2.index t 0 * 256 + 1 * (j 0).val = (j 0).val; rw [(index2 t).1]; omega
  | ⟨1, _⟩ => show win0_2.index t 1 * 2048 + 1 * (j 1).val = (j 1).val; rw [(index2 t).2]; omega

theorem iblk3 (c : Dev nD) (t : Fin cfg0.N) : (iblk m c 3 t : Vec Ideal S512x2048 .bf16) = blk (ao m c) t.val := by
  have ht := lt_N t
  funext j
  unfold iblk
  rw [View.read_apply]
  show V m c main_arg3 _ = m ((c : Thread nD τ).loc main_arg3) _
  unfold V
  congr 1
  funext a
  apply Fin.ext
  have hj : (j 0).val < 512 := (j 0).isLt
  match a with
  | ⟨0, _⟩ => show win0_3.index t 0 * 512 + 1 * (j 0).val = (512 * t.val + (j 0).val) % 4096; rw [(index3 t).1]; omega
  | ⟨1, _⟩ => show win0_3.index t 1 * 2048 + 1 * (j 1).val = (j 1).val; rw [(index3 t).2]; omega

/-- What the three output blocks hold after point `n`. -/
theorem outs_eq (c : Dev nD) : ∀ (n : ℕ) (h : n < cfg0.N), outsAt0 m c n h
    = (dqBlock (blk (aq m c) n) (ak m c) (av m c) (blk (ao m c) n), dkSum (aq m c) (ak m c) (av m c) (ao m c) (n + 1),
        dvSum (aq m c) (ak m c) (ao m c) (n + 1))
  | 0, h => by
    rw [outsAt0_A m c ⟨0, h⟩ rfl, outA4, outA5, outA6, iblk0, iblk1, iblk2, iblk3, ← dkBlock_sum, ← dvBlock_sum]
    rfl
  | n + 1, h => by
    have hN : cfg0.N = 8 := N_0
    have hB : ¬(⟨n + 1, h⟩ : Fin cfg0.N).val % 8 = 0 := by dsimp only; omega
    rw [outsAt0_B m c ⟨n + 1, h⟩ hB, outB4, outB5, outB6, iblk0, iblk1, iblk2, iblk3]
    show (_, dkBlock _ _ _ _ (outsAt0 m c n _).2.1, dvBlock _ _ _ (outsAt0 m c n _).2.2) = _
    rw [outs_eq c n, dkBlock_sum, dvBlock_sum]

theorem final4 (c : Dev nD) : (dats m 0 c).arrAt 4 cfg0.N = dqF (aq m c) (ak m c) (av m c) (ao m c) := by
  refine (dats m 0 c).arrAt_eq_of_cover 4 (dqF (aq m c) (ak m c) (av m c) (ao m c)) (fun t _ => ?_) fun (i : S4096x2048.Idx) => ?_
  · have ht := lt_N t
    rw [Value.flushed4, outs_eq]
    funext j
    rw [View.read_apply]
    show dqF _ _ _ _ (ix2 (rowAt t.val (j 0)) (j 1)) = dqF _ _ _ _ _
    congr 1
    funext a
    apply Fin.ext
    have hj : (j 0).val < 512 := (j 0).isLt
    match a with
    | ⟨0, _⟩ => show (512 * t.val + (j 0).val) % 4096 = win0_4.index t 0 * 512 + 1 * (j 0).val; rw [(index4 t).1]; omega
    | ⟨1, _⟩ => show (j 1).val = win0_4.index t 1 * 2048 + 1 * (j 1).val; rw [(index4 t).2]; omega
  · have h0 : (i 0 : Nat) < 4096 := (i 0).isLt
    have h1 : (i 1 : Nat) < 2048 := (i 1).isLt
    have hN : cfg0.N = 8 := N_0
    obtain ⟨t, ht⟩ : ∃ t : Fin cfg0.N, t.val = (i 0 : Nat) / 512 := ⟨⟨(i 0 : Nat) / 512, by omega⟩, rfl⟩
    refine ⟨t, flush0_4 t, ?_⟩
    show i ∈ ((View.whole main_v0_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [(index4 t).1]; omega
    | ⟨1, _⟩ => show win0_4.index t 1 * 2048 ≤ (i 1 : Nat) ∧ (i 1 : Nat) < win0_4.index t 1 * 2048 + 2048
                rw [(index4 t).2]; omega

theorem final5 (c : Dev nD) : (dats m 0 c).arrAt 5 cfg0.N = dkSum (aq m c) (ak m c) (av m c) (ao m c) 8 := by
  have hN : cfg0.N = 8 := N_0
  refine (dats m 0 c).arrAt_eq_of_cover 5 (dkSum (aq m c) (ak m c) (av m c) (ao m c) 8) (fun t hf => ?_) fun (i : S256x2048.Idx) => ?_
  · have h7 : t.val = 7 := by have := (flush0_5 t).mp hf; have := lt_N t; omega
    rw [Value.flushed5, outs_eq, h7]
    funext j
    rw [View.read_apply]
    show dkSum _ _ _ _ 8 _ = dkSum _ _ _ _ 8 _
    congr 1
    funext a
    apply Fin.ext
    match a with
    | ⟨0, _⟩ => show (j 0).val = win0_5.index t 0 * 256 + 1 * (j 0).val; rw [(index5 t).1]; omega
    | ⟨1, _⟩ => show (j 1).val = win0_5.index t 1 * 2048 + 1 * (j 1).val; rw [(index5 t).2]; omega
  · have h0 : (i 0 : Nat) < 256 := (i 0).isLt
    have h1 : (i 1 : Nat) < 2048 := (i 1).isLt
    obtain ⟨t, ht⟩ : ∃ t : Fin cfg0.N, t.val = 7 := ⟨⟨7, by omega⟩, rfl⟩
    refine ⟨t, (flush0_5 t).mpr (by omega), ?_⟩
    show i ∈ ((View.whole main_v0_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [(index5 t).1]; omega
    | ⟨1, _⟩ => show win0_5.index t 1 * 2048 ≤ (i 1 : Nat) ∧ (i 1 : Nat) < win0_5.index t 1 * 2048 + 2048
                rw [(index5 t).2]; omega

theorem final6 (c : Dev nD) : (dats m 0 c).arrAt 6 cfg0.N = dvSum (aq m c) (ak m c) (ao m c) 8 := by
  have hN : cfg0.N = 8 := N_0
  refine (dats m 0 c).arrAt_eq_of_cover 6 (dvSum (aq m c) (ak m c) (ao m c) 8) (fun t hf => ?_) fun (i : S256x2048.Idx) => ?_
  · have h7 : t.val = 7 := by have := (flush0_6 t).mp hf; have := lt_N t; omega
    rw [Value.flushed6, outs_eq, h7]
    funext j
    rw [View.read_apply]
    show dvSum _ _ _ 8 _ = dvSum _ _ _ 8 _
    congr 1
    funext a
    apply Fin.ext
    match a with
    | ⟨0, _⟩ => show (j 0).val = win0_6.index t 0 * 256 + 1 * (j 0).val; rw [(index6 t).1]; omega
    | ⟨1, _⟩ => show (j 1).val = win0_6.index t 1 * 2048 + 1 * (j 1).val; rw [(index6 t).2]; omega
  · have h0 : (i 0 : Nat) < 256 := (i 0).isLt
    have h1 : (i 1 : Nat) < 2048 := (i 1).isLt
    obtain ⟨t, ht⟩ : ∃ t : Fin cfg0.N, t.val = 7 := ⟨⟨7, by omega⟩, rfl⟩
    refine ⟨t, (flush0_6 t).mpr (by omega), ?_⟩
    show i ∈ ((View.whole main_v0_2).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256
                rw [(index6 t).1]; omega
    | ⟨1, _⟩ => show win0_6.index t 1 * 2048 ≤ (i 1 : Nat) ∧ (i 1 : Nat) < win0_6.index t 1 * 2048 + 2048
                rw [(index6 t).2]; omega

end Cert.Attn
-- ==== Proof.Attn.Ref.lean ====
/-
  THE REFERENCE, READ AT AN INDEX. The stages the three results depend on, down to the softmax of each row of scores and
  the gradient of the scores as the reference writes it.
-/
module

public import proofs.«01_k».proof.Proof.Attn.Array
public import proofs.«01_k».proof.Proof.Gen.ReferenceIdeal.Read

@[expose] public section

set_option maxRecDepth 16384

noncomputable section

namespace Cert.Attn

open Idealize.ShloMosaic Cert.ReferenceIdeal Cert.ReferenceIdeal.Read Cert.ReferenceIdeal.Gen

variable (q : Rows) (k v : Mems) (o : Rows)

theorem col_eq (h : Fin 4) (d : Fin 512) (lt : h.val * 512 + d.val < 2048) : (⟨h.val * 512 + d.val, lt⟩ : Fin 2048) = col h d :=
  Fin.ext (by show h.val * 512 + d.val = 512 * h.val + d.val; omega)

theorem col_split (c : Fin 2048) (lh : c.val / 512 < 4) (ld : c.val % 512 < 512) : col ⟨c.val / 512, lh⟩ ⟨c.val % 512, ld⟩ = c :=
  Fin.ext (by show 512 * (c.val / 512) + c.val % 512 = c.val; omega)

theorem v4_at (r : Fin 4096) (h : Fin 4) (d : Fin 512) : val_main_v4 (F := Ideal) q (ix4 0 r h d) = q (ix2 r (col h d)) := by
  pointwise [val_main_v4, val_main_v0]
  rw [col_eq]

theorem v5_at (m : Fin 256) (h : Fin 4) (d : Fin 512) : val_main_v5 (F := Ideal) k (ix4 0 m h d) = k (ix2 m (col h d)) := by
  pointwise [val_main_v5, val_main_v1]
  rw [col_eq]

theorem v6_at (m : Fin 256) (h : Fin 4) (d : Fin 512) : val_main_v6 (F := Ideal) v (ix4 0 m h d) = v (ix2 m (col h d)) := by
  pointwise [val_main_v6, val_main_v2]
  rw [col_eq]

theorem v9_at (h : Fin 4) (r : Fin 4096) (m : Fin 256) : val_main_v9 (F := Ideal) q k (ix4 0 h r m) = scoreF q k h r m := by
  pointwise [val_main_v9, val_main_v8, val_main_v7]
  simp only [v4_at, v5_at]
  rfl

theorem neg_inf : Ideal.ofBits .f32 0xFF800000#32 = (⊥ : EReal) := by simp [Ideal.ofBits, Ideal.ieee]

theorem v10_at (h : Fin 4) (r : Fin 4096) : val_main_v10 (F := Ideal) q k (ix3 0 h r) = top (scoreF q k h r) := by
  pointwise [val_main_v10]
  simp only [v9_at, val_main_cst_0_apply]
  rfl

theorem v17_at (h : Fin 4) (r : Fin 4096) : val_main_v17 (F := Ideal) q k (ix3 0 h r) = top (scoreF q k h r) := by
  rw [val_main_v17_apply, v10_at, val_main_v16_apply, val_main_cst_2_apply]
  exact (congrArg (max · _) neg_inf).trans (max_eq_right bot_le)

theorem v30_at (h : Fin 4) (r : Fin 4096) (m : Fin 256) : val_main_v30 (F := Ideal) q k (ix4 0 h r m) = ex (scoreF q k h r) m := by
  pointwise [val_main_v30, val_main_v29, val_main_v28, val_main_v27]
  simp only [v9_at, v17_at]
  rfl

theorem v31_at (h : Fin 4) (r : Fin 4096) : val_main_v31 (F := Ideal) q k (ix3 0 h r) = zz (scoreF q k h r) := by
  pointwise [val_main_v31]
  simp only [v30_at, val_main_cst_8_apply]
  exact (congrArg (· + _) Ideal.ofBits_zero_f32).trans (zero_add _)

theorem v32_at (h : Fin 4) (r : Fin 4096) : val_main_v32 (F := Ideal) q k (ix4 0 h r 0) = zz (scoreF q k h r) := by
  pointwise [val_main_v32]
  exact v31_at q k h r

theorem v34_at (h : Fin 4) (r : Fin 4096) (m : Fin 256) : val_main_v34 (F := Ideal) q k (ix4 0 h r m) = pr (scoreF q k h r) m := by
  pointwise [val_main_v34, val_main_v33]
  simp only [v30_at, v32_at]
  rfl

theorem v43_at (h : Fin 4) (r : Fin 4096) (m : Fin 256) : val_main_v43 (F := Ideal) v o (ix4 0 h r m) = dprobF v o h r m := by
  pointwise [val_main_v43, val_main_v42, val_main_v41, val_main_v3]
  simp only [v6_at, col_eq]
  rfl

/-- The gradient of a score as the reference writes it: the quotient's two derivatives, then the exponential's, then the scale. -/
def refDs (x dp : Fin 256 → EReal) (m : Fin 256) : EReal :=
  (Ideal.div (dp m) (zz x) + -(∑ j, dp j * Ideal.div 1 (zz x * zz x) * ex x j)) * ex x m * scale

theorem v49_at (h : Fin 4) (r : Fin 4096) : val_main_v49 (F := Ideal) q k v o (ix3 0 h r)
    = ∑ j, dprobF v o h r j * Ideal.div 1 (zz (scoreF q k h r) * zz (scoreF q k h r)) * ex (scoreF q k h r) j := by
  pointwise [val_main_v49, val_main_v48, val_main_v47, val_main_v46, val_main_v37, val_main_v36, val_main_v35]
  simp only [v30_at, v43_at, v32_at, val_main_cst_10_apply, val_main_cst_9_apply]
  rw [show (FloatOps.ofBits .f32 0x00000000#32 : Ideal .f32) = 0 from Ideal.ofBits_zero_f32,
    show (FloatOps.ofBits .f32 0x3F800000#32 : Ideal .f32) = 1 from Ideal.ofBits_one_f32]
  exact zero_add _

theorem v54_at (h : Fin 4) (r : Fin 4096) : val_main_v54 (F := Ideal) q k v o (ix2 h r) = -val_main_v49 (F := Ideal) q k v o (ix3 0 h r) := by
  have e : val_main_v51 (F := Ideal) q k v o (ix4 0 h r 0) = -val_main_v49 (F := Ideal) q k v o (ix3 0 h r) := by
    pointwise [val_main_v51, val_main_v50]
  have e' : val_main_v54 (F := Ideal) q k v o (ix2 h r)
      = val_main_cst_11 (F := Ideal) (Shape.Idx.first h_S_) + ∑ i ∈ Finset.univ.filter (fun i => reducesTo_S1x4x4096x1_S4x4096_d0_3.drop i = ix2 h r), val_main_v51 (F := Ideal) q k v o i := rfl
  rw [e', Finset.sum_eq_single (ix4 0 h r 0), e, val_main_cst_11_apply]
  · exact (congrArg (· + _) Ideal.ofBits_zero_f32).trans (zero_add _)
  · intro i hi hne
    exfalso
    apply hne
    have hi := (Finset.mem_filter.mp hi).2
    have h1 : (i 1).val = h.val := congrArg Fin.val (congrFun hi 0)
    have h2 : (i 2).val = r.val := congrArg Fin.val (congrFun hi 1)
    funext a
    match a with
    | ⟨0, _⟩ => exact Subsingleton.elim (α := Fin 1) _ _
    | ⟨1, _⟩ => exact Fin.ext h1
    | ⟨2, _⟩ => exact Fin.ext h2
    | ⟨3, _⟩ => exact Subsingleton.elim (α := Fin 1) _ _
  · intro hn
    exfalso
    apply hn
    refine Finset.mem_filter.mpr ⟨Finset.mem_univ _, ?_⟩
    funext b
    match b with
    | ⟨0, _⟩ => rfl
    | ⟨1, _⟩ => rfl

theorem v60_at (h : Fin 4) (r : Fin 4096) (m : Fin 256) : val_main_v60 (F := Ideal) q k v o (ix4 0 h r m) = refDs (scoreF q k h r) (dprobF v o h r) m := by
  pointwise [val_main_v60, val_main_v59, val_main_v58, val_main_v57, val_main_v56, val_main_v55, val_main_v53, val_main_v52]
  simp only [v43_at, v32_at, v54_at, v49_at, v30_at]
  rfl

theorem v65_at (m : Fin 256) (c : Fin 2048) : val_main_v65 (F := Ideal) q k o (ix2 m c)
    = ∑ r : Fin 4096, pr (scoreF q k (head c) r) m * o (ix2 r c) := by
  pointwise [val_main_v65, val_main_v45, val_main_v44, val_main_v42, val_main_v41, val_main_v3]
  simp only [v34_at]
  exact Finset.sum_congr rfl fun r _ => mul_comm _ _

theorem v66_at (m : Fin 256) (c : Fin 2048) : val_main_v66 (F := Ideal) q k v o (ix2 m c)
    = ∑ r : Fin 4096, refDs (scoreF q k (head c) r) (dprobF v o (head c) r) m * q (ix2 r c) := by
  pointwise [val_main_v66, val_main_v62, val_main_v61]
  simp only [v60_at, v4_at, col_split]
  rfl

theorem v68_at (r : Fin 4096) (c : Fin 2048) : val_main_v68 (F := Ideal) q k v o (ix2 r c)
    = ∑ m : Fin 256, refDs (scoreF q k (head c) r) (dprobF v o (head c) r) m * k (ix2 m c) := by
  pointwise [val_main_v68, val_main_v67, val_main_v64, val_main_v63]
  simp only [v60_at, v5_at, col_split]
  rfl

end Cert.Attn
-- ==== Proof.Common.Ereal.lean ====
/-
  SUMS OF EXTENDED REALS. A nonnegative finite factor moves through any sum; sums of finite numbers are finite; an index
  range split into equal tiles.
-/
module

public import Idealize.ShloMosaic.Lib.ValueIdx
public import Idealize.ShloMosaic.PureOps.Ideal.Laws

@[expose] public section

noncomputable section

namespace Cert.Ereal

open Idealize.ShloMosaic

theorem sum_mul_real {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of finite numbers is finite. -/
theorem sum_real {ι : Type*} (s : Finset ι) {f g : ι → EReal} (hf : ∀ i, ∃ a : ℝ, f i = (a : EReal)) (hg : ∀ i, ∃ a : ℝ, g i = (a : EReal)) :
    ∃ a : ℝ, ∑ i ∈ s, f i * g i = (a : EReal) := by
  choose a ha using hf
  choose b hb using hg
  refine ⟨∑ i ∈ s, a i * b i, ?_⟩
  rw [coe_sum]
  exact Finset.sum_congr rfl fun i _ => by rw [ha, hb, EReal.coe_mul]

theorem real_of_abs_lt {x : EReal} (h : max x (-x) < ⊤) : ∃ a : ℝ, x = (a : EReal) := by
  induction x using EReal.rec with
  | bot => simp at h
  | coe a => exact ⟨a, rfl⟩
  | top => simp at h

theorem real_of_bit {x : EReal} (h : BitVec.ofBool (decide (max x (-x) < Ideal.ofBits .f32 0x7F800000#32)) = 1#1) : ∃ a : ℝ, x = (a : EReal) := by
  have hi : Ideal.ofBits .f32 0x7F800000#32 = (⊤ : EReal) := by simp [Ideal.ofBits, Ideal.ieee]
  rw [hi] at h
  refine real_of_abs_lt ?_
  by_contra hn
  rw [decide_eq_false hn] at h
  exact absurd h (by decide)

/-- One half, as printed at either width. -/
theorem half_f32 : Ideal.ofBits .f32 0x3F000000#32 = ((1 / 2 : ℝ) : EReal) := by
  simp [Ideal.ofBits, Ideal.ieee]; rw [← EReal.coe_mul]; norm_num
theorem half_bf16 : Ideal.ofBits .bf16 0x3F00#16 = ((1 / 2 : ℝ) : EReal) := by
  simp [Ideal.ofBits, Ideal.ieee]; rw [← EReal.coe_mul]; norm_num

theorem half_nonneg : (0 : EReal) ≤ ((1 / 2 : ℝ) : EReal) := EReal.coe_nonneg.mpr (by norm_num)

/-- Half of a sum of products, the half taken to the first factors. -/
theorem sum_half {ι : Type*} (s : Finset ι) (f g : ι → EReal) :
    (∑ i ∈ s, f i * g i) * ((1 / 2 : ℝ) : EReal) = ∑ i ∈ s, ((1 / 2 : ℝ) : EReal) * f i * g i := by
  rw [sum_mul_real s _ half_nonneg (EReal.coe_ne_top _)]
  exact Finset.sum_congr rfl fun i _ => by rw [mul_comm, mul_assoc]

/-- The logistic function as a shifted hyperbolic tangent. -/
theorem logistic_tanh (x : EReal) :
    ((1 / 2 : ℝ) : EReal) * Ideal.tanh (((1 / 2 : ℝ) : EReal) * x) + ((1 / 2 : ℝ) : EReal) = Ideal.div 1 (1 + Ideal.exp (-x)) := by
  induction x using EReal.rec with
  | bot =>
    rw [EReal.coe_mul_bot_of_pos (by norm_num : (0:ℝ) < 1 / 2), Ideal.tanh_bot, EReal.neg_bot, Ideal.exp_top,
      EReal.add_top_of_ne_bot (by decide), Ideal.div, if_neg (by decide), EReal.inv_top, mul_zero, ← EReal.coe_one, ← EReal.coe_neg, ← EReal.coe_mul, ← EReal.coe_add]
    norm_num
  | top =>
    rw [EReal.coe_mul_top_of_pos (by norm_num : (0:ℝ) < 1 / 2), Ideal.tanh_top, EReal.neg_top, Ideal.exp_bot, add_zero, Ideal.div, if_neg one_ne_zero, ← EReal.coe_one,
      ← EReal.coe_inv, ← EReal.coe_mul, ← EReal.coe_mul, ← EReal.coe_add]
    norm_num
  | coe a =>
    have hp : (0:ℝ) < 1 + Real.exp (-a) := by positivity
    have hne : (1 + Real.exp (-a)) ≠ 0 := hp.ne'
    rw [← EReal.coe_mul, Ideal.tanh_coe, ← EReal.coe_mul, ← EReal.coe_add, ← EReal.coe_neg, Ideal.exp_coe, ← EReal.coe_one, ← EReal.coe_add,
      Ideal.div_coe hne, ← EReal.coe_mul]
    congr 1
    rw [Real.tanh_eq_sinh_div_cosh, Real.sinh_eq, Real.cosh_eq]
    have e1 : Real.exp (1 / 2 * a) ≠ 0 := (Real.exp_pos _).ne'
    have e2 : Real.exp (-(1 / 2 * a)) = (Real.exp (1 / 2 * a))⁻¹ := Real.exp_neg _
    have e3 : Real.exp (-a) = (Real.exp (1 / 2 * a))⁻¹ * (Real.exp (1 / 2 * a))⁻¹ := by
      rw [← Real.exp_neg, ← Real.exp_add]; congr 1; ring
    rw [e3] at hne ⊢
    rw [e2]
    have hq : (0:ℝ) < Real.exp (1 / 2 * a) := Real.exp_pos _
    generalize Real.exp (1 / 2 * a) = t at *
    have h4 : t + t⁻¹ ≠ 0 := by positivity
    have h5 : t * t + 1 ≠ 0 := by positivity
    field_simp
    ring

end Cert.Ereal
-- ==== Proof.Attn.Eq.lean ====
/-
  THE TWO GRADIENTS ARE ONE. For a row of real scores the reference's chain through the softmax's quotient and exponential
  is the kernel's `p * (dp - sum (dp * p))`, whatever `dp` holds; and the reference's sum over all rows is the kernel's sum
  over the row blocks.
-/
module

public import proofs.«01_k».proof.Proof.Attn.Ref
public import proofs.«01_k».proof.Proof.Common.Ereal
public import proofs.«01_k».proof.Pre_scores_finite

@[expose] public section

set_option maxRecDepth 16384

noncomputable section

namespace Cert.Attn

open Idealize.ShloMosaic Cert.Ereal

section Row

variable {x : Fin 256 → EReal} {y : Fin 256 → ℝ} (hx : ∀ m, x m = (y m : EReal))
include hx

theorem top_real : ∃ t : ℝ, top x = (t : EReal) := by
  have e : top x = Finset.univ.sup x := by
    unfold top
    rw [neg_inf]
    rfl
  obtain ⟨j, -, hj⟩ := Finset.exists_mem_eq_sup Finset.univ ⟨0, Finset.mem_univ _⟩ x
  exact ⟨y j, by rw [e, hj, hx]⟩

theorem ex_real : ∃ w : Fin 256 → ℝ, (∀ m, 0 < w m) ∧ ∀ m, ex x m = (w m : EReal) := by
  obtain ⟨t, ht⟩ := top_real hx
  refine ⟨fun m => Real.exp (y m - t), fun m => Real.exp_pos _, fun m => ?_⟩
  unfold ex
  rw [hx, ht, ← EReal.coe_sub]
  rfl

theorem refDs_eq (dp : Fin 256 → EReal) (m : Fin 256) : refDs x dp m = dsc (pr x) dp m := by
  obtain ⟨w, hw, he⟩ := ex_real hx
  have hz : zz x = ((∑ j, w j : ℝ) : EReal) := by
    unfold zz
    rw [Finset.sum_congr rfl fun j _ => he j]
    push_cast
    rfl
  have hpos : 0 < ∑ j, w j := Finset.sum_pos (fun j _ => hw j) ⟨0, Finset.mem_univ _⟩
  generalize (∑ j, w j : ℝ) = Z at hz hpos
  have hne := hpos.ne'
  have h0 : (0 : EReal) ≤ ((1 / Z : ℝ) : EReal) := by exact_mod_cast (one_div_pos.mpr hpos).le
  have hp : ∀ j, pr x j = ((w j * (1 / Z) : ℝ) : EReal) := fun j => by
    unfold pr
    rw [hz, Ideal.div_coe hne, he, EReal.coe_mul]
  have hs : ∀ j, dp j * Ideal.div 1 (zz x * zz x) * ex x j = dp j * pr x j * ((1 / Z : ℝ) : EReal) := fun j => by
    rw [hz, ← EReal.coe_mul, Ideal.div_coe (mul_ne_zero hne hne), one_mul, he, hp, mul_assoc, mul_assoc, ← EReal.coe_mul, ← EReal.coe_mul]
    congr 2
    field_simp
  unfold refDs dsc
  rw [Finset.sum_congr rfl fun j _ => hs j, ← sum_mul_real _ _ h0 (EReal.coe_ne_top _), hz, Ideal.div_coe hne, ← EReal.neg_mul,
    ← EReal.right_distrib_of_nonneg_of_ne_top h0 (EReal.coe_ne_top _), hp, he, EReal.coe_mul, sub_eq_add_neg]
  ac_rfl

end Row

variable {q : Rows} {k : Mems} (v : Mems) (o : Rows)

theorem score_real (hq : ∀ i, ∃ a : ℝ, q i = (a : EReal)) (hk : ∀ i, ∃ a : ℝ, k i = (a : EReal)) (h : Fin 4) (r : Fin 4096) :
    ∃ y : Fin 256 → ℝ, ∀ m, scoreF q k h r m = (y m : EReal) := by
  choose a ha using hq
  choose b hb using hk
  have hs : ∃ s : ℝ, scale = (s : EReal) := by
    unfold scale
    exact ⟨_, by simp [Ideal.ofBits, Ideal.ieee]; rfl⟩
  obtain ⟨s, hs⟩ := hs
  refine ⟨fun m => (∑ d : Fin 512, a (ix2 r (col h d)) * b (ix2 m (col h d))) * s, fun m => ?_⟩
  unfold scoreF
  rw [hs, EReal.coe_mul, coe_sum]
  exact congrArg (· * _) (Finset.sum_congr rfl fun d _ => by rw [ha, hb, EReal.coe_mul])

theorem rows_split (f : Fin 4096 → EReal) : ∑ r, f r = ∑ t ∈ Finset.range 8, ∑ r : Fin 512, f (rowAt t r) := by
  rw [Fin.sum_univ_tiles 8 512 rfl, Finset.sum_range]
  refine Finset.sum_congr rfl fun t _ => Finset.sum_congr rfl fun r _ => congrArg f (Fin.ext ?_)
  rw [rowAt_lt t.isLt]
  show t.val * 512 + r.val = 512 * t.val + r.val
  omega

theorem pre_q [Cert.Pre_scores_finite.Facts] (h : Cert.Pre_scores_finite.fn (F := Ideal) q k v o = fun _ => 1#1) (i : Cert.KernelIdeal.S4096x2048.Idx) :
    ∃ a : ℝ, q i = (a : EReal) := by
  have e := congrFun h (ix2 ⟨(i 0).val, by have : (i 0).val < 4096 := (i 0).isLt; omega⟩ (i 1))
  revert e
  pointwise [Cert.Pre_scores_finite.fn]
  exact fun e => real_of_bit e

theorem pre_k [Cert.Pre_scores_finite.Facts] (h : Cert.Pre_scores_finite.fn (F := Ideal) q k v o = fun _ => 1#1) (i : Cert.KernelIdeal.S256x2048.Idx) :
    ∃ a : ℝ, k i = (a : EReal) := by
  have e := congrFun h (ix2 ⟨4096 + (i 0).val, by have : (i 0).val < 256 := (i 0).isLt; omega⟩ (i 1))
  revert e
  pointwise [Cert.Pre_scores_finite.fn]
  exact fun e => real_of_bit e

theorem v68_eq [Cert.Pre_scores_finite.Facts] (h : Cert.Pre_scores_finite.fn (F := Ideal) q k v o = fun _ => 1#1) :
    Cert.ReferenceIdeal.Read.val_main_v68 (F := Ideal) q k v o = dqF q k v o := by
  funext y
  obtain ⟨r, c, rfl⟩ : ∃ r c, y = ix2 r c := ⟨y 0, y 1, by funext a; match a with | ⟨0, _⟩ => rfl | ⟨1, _⟩ => rfl⟩
  rw [v68_at]
  refine Finset.sum_congr rfl fun m _ => ?_
  obtain ⟨x, hx⟩ := score_real (pre_q v o h) (pre_k v o h) (head c) r
  rw [refDs_eq hx]
  rfl

theorem v66_eq [Cert.Pre_scores_finite.Facts] (h : Cert.Pre_scores_finite.fn (F := Ideal) q k v o = fun _ => 1#1) :
    Cert.ReferenceIdeal.Read.val_main_v66 (F := Ideal) q k v o = dkSum q k v o 8 := by
  funext y
  obtain ⟨m, c, rfl⟩ : ∃ r c, y = ix2 r c := ⟨y 0, y 1, by funext a; match a with | ⟨0, _⟩ => rfl | ⟨1, _⟩ => rfl⟩
  rw [v66_at]
  refine (rows_split _).trans (Finset.sum_congr rfl fun t _ => Finset.sum_congr rfl fun r _ => ?_)
  obtain ⟨x, hx⟩ := score_real (pre_q v o h) (pre_k v o h) (head c) (rowAt t r)
  rw [refDs_eq hx]
  rfl

theorem v65_eq : Cert.ReferenceIdeal.Read.val_main_v65 (F := Ideal) q k o = dvSum q k o 8 := by
  funext y
  obtain ⟨m, c, rfl⟩ : ∃ r c, y = ix2 r c := ⟨y 0, y 1, by funext a; match a with | ⟨0, _⟩ => rfl | ⟨1, _⟩ => rfl⟩
  rw [v65_at]
  exact rows_split _

end Cert.Attn
-- ==== Proof.Attn.Claim.lean ====
/-
  THE ATTENTION'S GRADIENT: what is claimed of the call, put together. From equal arguments, with `q` and `k` finite, the
  call and the reference leave equal results.
-/
module

public import proofs.«01_k».proof.Defs
public import proofs.«01_k».proof.Proof.Attn.Eq
public import proofs.«01_k».proof.Proof.Gen.ReferenceIdeal.Run

@[expose] public section

set_option maxRecDepth 16384

noncomputable section

namespace Cert.Attn

open Idealize.ShloMosaic Idealize.SL.Sem

theorem preFacts : Cert.Pre_scores_finite.Facts where
  concatenates_S4096x2048_S256x2048_S4352x2048_d0 := by decide
  bitsLt_bf16_f32 := by decide
  bcast_S_S4352x2048 := by decide

theorem algebraic : Cert.algebraic_KernelIdeal_ReferenceIdeal_pre_scores_finite (hPre_scores_finite := preFacts) := by
  haveI := preFacts
  intro m g m' g' hpre hargs
  refine ⟨fun c => dqF (aq m c) (ak m c) (av m c) (ao m c), fun c => dkSum (aq m c) (ak m c) (av m c) (ao m c) 8,
    fun c => dvSum (aq m c) (ak m c) (ao m c) 8, ?_, ?_⟩
  · refine (θ_run _ _ _).mono (fun r h c => ?_) (Cert.KernelIdeal.Value.run_blocks m g)
    obtain ⟨h4, h5, h6, ha⟩ := h c
    exact ⟨h4.trans (final4 m c), h5.trans (final5 m c), h6.trans (final6 m c), ha⟩
  · refine (θ_run _ _ _).mono (fun r h c => ?_) (Cert.ReferenceIdeal.Value.run m' g')
    obtain ⟨h68, h66, h65, ha⟩ := h c
    obtain ⟨e0, e1, e2, e3⟩ := hargs c
    have hp := hpre c
    refine ⟨h68.trans ?_, h66.trans ?_, h65.trans ?_, ha⟩
    · rw [Cert.ReferenceIdeal.Read.val_main_v68_eq, e0, e1, e2, e3]
      exact v68_eq _ _ hp
    · rw [Cert.ReferenceIdeal.Read.val_main_v66_eq, e0, e1, e2, e3]
      exact v66_eq _ _ hp
    · rw [Cert.ReferenceIdeal.Read.val_main_v65_eq, e0, e1, e3]
      exact v65_eq _

/-- The reference runs, leaves its arguments, and declares no semaphore. -/
theorem frame_ref : Cert.quiescent_ReferenceIdeal := fun m g _ =>
  (θ_run _ _ _).mono (fun r h => ⟨fun c => (h c).2.2.2, sem_eq_zero_of_no_sems (by decide) r.2⟩) (Cert.ReferenceIdeal.Value.run m g)

end Cert.Attn
-- ==== Proof.Gate.Cell.lean ====
/-
  ONE SUB-BLOCK OF THE GATE'S GRADIENT, READ AT AN INDEX. The kernel forms, for 256 rows at a time, the gradient `da` of
  the gated activation as half a product, and from it, the gate `g` and the up-projection `u`, the two gradients.
-/
module

public import proofs.«01_k».proof.Proof.Gen.GateIdeal.Value
public import Idealize.ShloMosaic.Lib.Pointwise
public import Idealize.ShloMosaic.Lib.Pipeline.ReadBack

@[expose] public section

set_option maxRecDepth 16384

noncomputable section

namespace Cert.GateGrad

open Idealize.ShloMosaic Idealize.ShloMosaic.Tactic Cert.GateIdeal Cert.GateIdeal.Gen Idealize.SL.Sem

/-- One half, as printed beside the gate's own arithmetic. -/
def half : EReal := Ideal.ofBits .bf16 0x3F00#16
/-- One half, as printed beside the product. -/
def halfw : EReal := Ideal.ofBits .f32 0x3F000000#32

/-- The logistic function as the kernel writes it. -/
def sg (g : EReal) : EReal := half * Ideal.tanh (half * g) + half
/-- The gate's gradient as the kernel writes it. -/
def gateOf (da g u : EReal) : EReal := da * (u * (sg g + g * sg g * (1 - sg g)))
/-- The up-projection's gradient as the kernel writes it. -/
def upOf (da g : EReal) : EReal := da * (g * sg g)

theorem pay6_apply (x : Vec Ideal S256x2048 .bf16) (w : Vec Ideal S512x2048 .bf16) (r : Fin 256) (c : Fin 512) :
    k0_pay6 x w (ix2 r c) = (∑ d : Fin 2048, x (ix2 r d) * w (ix2 c d)) * halfw := by
  pointwise [k0_pay6]
  rfl

theorem pay10_apply (x : Vec Ideal S256x2048 .bf16) (w : Vec Ideal S512x2048 .bf16) (g u : Vec Ideal S1x256x512 .bf16) (r : Fin 256) (c : Fin 512) :
    k0_pay10 x w g u (ix3 0 r c) = gateOf (k0_pay6 x w (ix2 r c)) (g (ix3 0 r c)) (u (ix3 0 r c)) := by
  pointwise [k0_pay10, k0_pay9, k0_pay8, k0_pay7]
  rfl

theorem pay11_apply (x : Vec Ideal S256x2048 .bf16) (w : Vec Ideal S512x2048 .bf16) (g : Vec Ideal S1x256x512 .bf16) (r : Fin 256) (c : Fin 512) :
    k0_pay11 x w g (ix3 0 r c) = upOf (k0_pay6 x w (ix2 r c)) (g (ix3 0 r c)) := by
  pointwise [k0_pay11, k0_pay9, k0_pay8, k0_pay7]
  rfl

/-- Row `256 s + r` of a block of 1024 rows. -/
def rowIn (s : Fin 4) (r : Fin 256) : Fin 1024 := ⟨256 * s.val + r.val, by omega⟩

/-- The activation's gradient in one block: half the product of its rows with the weight's. -/
def daBlock (x : Vec Ideal S1024x2048 .bf16) (w : Vec Ideal S512x2048 .bf16) (r : Fin 1024) (c : Fin 512) : EReal :=
  (∑ d : Fin 2048, x (ix2 r d) * w (ix2 c d)) * halfw

/-- The two gradients of one block: the gate's first, then the up-projection's. -/
def block (x : Vec Ideal S1024x2048 .bf16) (w : Vec Ideal S512x2048 .bf16) (gu : Vec Ideal S2x1024x512 .bf16) : Vec Ideal S2x1024x512 .bf16 :=
  fun y => if (y 0).val = 0 then gateOf (daBlock x w (y 1) (y 2)) (gu (ix3 0 (y 1) (y 2))) (gu (ix3 1 (y 1) (y 2)))
    else upOf (daBlock x w (y 1) (y 2)) (gu (ix3 0 (y 1) (y 2)))

section Pieces

variable (x : Vec Ideal S1024x2048 .bf16) (w : Vec Ideal S512x2048 .bf16) (gu : Vec Ideal S2x1024x512 .bf16) (s : Fin 4) {o : Nat} (ho : o = 256 * s.val)
  (i : ∀ a, (![o, 0] : Fin 2 → Nat) a + S256x2048.size a ≤ S1024x2048.size a)
  (iw : ∀ a, (![0, 0] : Fin 2 → Nat) a + S512x2048.size a ≤ S512x2048.size a)
  (i0 : ∀ a, (![0, o, 0] : Fin 3 → Nat) a + S1x256x512.size a ≤ S2x1024x512.size a)
  (i1 : ∀ a, (![1, o, 0] : Fin 3 → Nat) a + S1x256x512.size a ≤ S2x1024x512.size a)

/-- A sub-block's rows of the incoming gradient, loaded. -/
abbrev ldX : Vec Ideal S256x2048 .bf16 := View.ld (Val := Elt Ideal) x (Rect.unit (s := S1024x2048) ![o, 0] S256x2048.size i)
/-- The weight's block, loaded whole. -/
abbrev ldW : Vec Ideal S512x2048 .bf16 := View.ld (Val := Elt Ideal) w (Rect.unit (s := S512x2048) ![0, 0] S512x2048.size iw)
/-- A sub-block of the gate or of the up-projection, loaded. -/
abbrev ldG {p : Nat} (ip : ∀ a, (![p, o, 0] : Fin 3 → Nat) a + S1x256x512.size a ≤ S2x1024x512.size a) : Vec Ideal S1x256x512 .bf16 :=
  View.ld (Val := Elt Ideal) gu (Rect.unit (s := S2x1024x512) ![p, o, 0] S1x256x512.size ip)

include ho in
theorem emb_at (p : Fin 2) {n : Nat} (hn : n = p.val) (ip : ∀ a, (![n, o, 0] : Fin 3 → Nat) a + S1x256x512.size a ≤ S2x1024x512.size a) (r : Fin 256) (c : Fin 512) :
    (Rect.unit (s := S2x1024x512) ![n, o, 0] S1x256x512.size ip).emb (ix3 0 r c) = ix3 p (rowIn s r) c := by
  subst ho hn; funext a; apply Fin.ext
  match a with
  | ⟨0, _⟩ => show p.val + 1 * 0 = p.val; omega
  | ⟨1, _⟩ => show 256 * s.val + 1 * r.val = 256 * s.val + r.val; omega
  | ⟨2, _⟩ => show 0 + 1 * c.val = c.val; omega

include ho in
theorem da_piece (r : Fin 256) (c : Fin 512) : k0_pay6 (ldX x i) (ldW w iw) (ix2 r c) = daBlock x w (rowIn s r) c := by
  rw [pay6_apply]
  refine congrArg (· * halfw) (Finset.sum_congr rfl fun d _ => congrArg₂ (· * ·) (congrArg x ?_) (congrArg w ?_))
  · subst ho; funext a; apply Fin.ext
    match a with
    | ⟨0, _⟩ => show 256 * s.val + 1 * r.val = 256 * s.val + r.val; omega
    | ⟨1, _⟩ => show 0 + 1 * d.val = d.val; omega
  · funext a; apply Fin.ext
    match a with
    | ⟨0, _⟩ => show 0 + 1 * c.val = c.val; omega
    | ⟨1, _⟩ => show 0 + 1 * d.val = d.val; omega

theorem idx_eq (y : S1x256x512.Idx) : ∃ (r : Fin 256) (c : Fin 512), y = ix3 0 r c :=
  ⟨y 1, y 2, by funext a; match a with | ⟨0, _⟩ => exact Subsingleton.elim (α := Fin 1) _ _ | ⟨1, _⟩ => rfl | ⟨2, _⟩ => rfl⟩

include ho in
theorem gate_piece (y : (Rect.unit (s := S2x1024x512) ![0, o, 0] S1x256x512.size i0).shape.Idx) :
    k0_pay10 (ldX x i) (ldW w iw) (ldG gu i0) (ldG gu i1) y = block x w gu ((Rect.unit (s := S2x1024x512) ![0, o, 0] S1x256x512.size i0).emb y) := by
  obtain ⟨r, c, rfl⟩ := idx_eq y
  have e : ldG gu i0 (ix3 0 r c) = gu (ix3 0 (rowIn s r) c) := congrArg gu (emb_at s ho 0 rfl i0 r c)
  have e' : ldG gu i1 (ix3 0 r c) = gu (ix3 1 (rowIn s r) c) := congrArg gu (emb_at s ho 1 rfl i1 r c)
  refine (pay10_apply _ _ _ _ r c).trans ?_
  rw [da_piece x w s ho, e, e']
  exact (congrArg (block x w gu) (emb_at s ho 0 rfl i0 r c)).symm

include ho in
theorem up_piece (y : (Rect.unit (s := S2x1024x512) ![1, o, 0] S1x256x512.size i1).shape.Idx) :
    k0_pay11 (ldX x i) (ldW w iw) (ldG gu i0) y = block x w gu ((Rect.unit (s := S2x1024x512) ![1, o, 0] S1x256x512.size i1).emb y) := by
  obtain ⟨r, c, rfl⟩ := idx_eq y
  have e : ldG gu i0 (ix3 0 r c) = gu (ix3 0 (rowIn s r) c) := congrArg gu (emb_at s ho 0 rfl i0 r c)
  refine (pay11_apply _ _ _ r c).trans ?_
  rw [da_piece x w s ho, e]
  exact (congrArg (block x w gu) (emb_at s ho 1 rfl i1 r c)).symm

end Pieces

/-- What one grid point stores, as one function of its blocks. -/
theorem out_eq (x : Vec Ideal S1024x2048 .bf16) (w : Vec Ideal S512x2048 .bf16) (gu : Vec Ideal S2x1024x512 .bf16) :
    out0_3 x w gu = block x w gu := by
  unfold out0_3 k0_pay26 k0_pay27
  funext y
  refine View.canon_apply_of_pieces (block x w gu) _ (View.PiecesOf.mem ?_) y (cover0_3 _ _ _ _ _ _ _ _ y)
  exact And.intro (fun z => up_piece x w gu 3 rfl _ _ _ inb_S2x1024x512_S1x256x512_1_768_0 z) <| And.intro (fun z => gate_piece x w gu 3 rfl _ _ _ _ z)
    <| And.intro (fun z => up_piece x w gu 2 rfl _ _ _ inb_S2x1024x512_S1x256x512_1_512_0 z) <| And.intro (fun z => gate_piece x w gu 2 rfl _ _ _ _ z)
    <| And.intro (fun z => up_piece x w gu 1 rfl _ _ _ inb_S2x1024x512_S1x256x512_1_256_0 z) <| And.intro (fun z => gate_piece x w gu 1 rfl _ _ _ _ z)
    <| And.intro (fun z => up_piece x w gu 0 rfl _ _ _ inb_S2x1024x512_S1x256x512_1_0_0 z) <| And.intro (fun z => gate_piece x w gu 0 rfl _ _ _ _ z) <| trivial

end Cert.GateGrad
-- ==== Proof.Gate.Array.lean ====
/-
  THE GATE'S GRADIENT AS ONE ARRAY. The 44 grid points write 11 column blocks of 4 row blocks each, and every block is a
  block of one array.
-/
module

public import proofs.«01_k».proof.Proof.Gate.Cell

@[expose] public section

set_option maxRecDepth 16384

noncomputable section

namespace Cert.GateGrad

open Idealize.ShloMosaic Idealize.ShloMosaic.TcCoe Cert.GateIdeal Cert.GateIdeal.Gen Idealize.SL.Sem
open Idealize.ShloMosaic.Pipeline (Dat Cfg Window)

abbrev Grad := Vec Ideal S4096x2048 .bf16
abbrev Weight := Vec Ideal S5632x2048 .bf16
abbrev Pair := Vec Ideal S2x4096x5632 .bf16

/-- The gradient of the gated activation: half the product of the incoming gradient with the weight. -/
def da (x : Grad) (w : Weight) (r : Fin 4096) (c : Fin 5632) : EReal := (∑ d : Fin 2048, x (ix2 r d) * w (ix2 c d)) * halfw

/-- The two gradients: the gate's first, then the up-projection's. -/
def both (x : Grad) (w : Weight) (gu : Pair) : Pair :=
  fun y => if (y 0).val = 0 then gateOf (da x w (y 1) (y 2)) (gu (ix3 0 (y 1) (y 2))) (gu (ix3 1 (y 1) (y 2)))
    else upOf (da x w (y 1) (y 2)) (gu (ix3 0 (y 1) (y 2)))

variable (m : (ℓ : Loc nD τ sig) → Buf (Elt Ideal) ℓ)

abbrev ax (c : Dev nD) : Grad := m ((c : Thread nD τ).loc main_arg0)
abbrev aw (c : Dev nD) : Weight := m ((c : Thread nD τ).loc main_arg1)
abbrev ag (c : Dev nD) : Pair := m ((c : Thread nD τ).loc main_arg2)

theorem index0 : ∀ t : Fin cfg0.N, win0_0.index t 0 = t.val % 4 ∧ win0_0.index t 1 = 0 :=
  (by decide +kernel : ∀ t : Fin grid0.N, win0_0.index t 0 = t.val % 4 ∧ win0_0.index t 1 = 0)
theorem index1 : ∀ t : Fin cfg0.N, win0_1.index t 0 = t.val / 4 ∧ win0_1.index t 1 = 0 :=
  (by decide +kernel : ∀ t : Fin grid0.N, win0_1.index t 0 = t.val / 4 ∧ win0_1.index t 1 = 0)
theorem index2 : ∀ t : Fin cfg0.N, win0_2.index t 0 = 0 ∧ win0_2.index t 1 = t.val % 4 ∧ win0_2.index t 2 = t.val / 4 :=
  (by decide +kernel : ∀ t : Fin grid0.N, win0_2.index t 0 = 0 ∧ win0_2.index t 1 = t.val % 4 ∧ win0_2.index t 2 = t.val / 4)
theorem index3 : ∀ t : Fin cfg0.N, win0_3.index t 0 = 0 ∧ win0_3.index t 1 = t.val % 4 ∧ win0_3.index t 2 = t.val / 4 :=
  (by decide +kernel : ∀ t : Fin grid0.N, win0_3.index t 0 = 0 ∧ win0_3.index t 1 = t.val % 4 ∧ win0_3.index t 2 = t.val / 4)

theorem lt_N (t : Fin cfg0.N) : t.val < 44 := by have := t.isLt; have hN : cfg0.N = 44 := N_0; omega

/-- Row `r` of point `t`'s block. -/
def rowAt (t : Fin cfg0.N) (r : Fin 1024) : Fin 4096 := ⟨t.val % 4 * 1024 + r.val, by omega⟩
/-- Column `c` of point `t`'s block. -/
def colAt (t : Fin cfg0.N) (c : Fin 512) : Fin 5632 := ⟨t.val / 4 * 512 + c.val, by have := lt_N t; omega⟩

theorem iblk0 (c : Dev nD) (t : Fin cfg0.N) : (iblk m c 0 t : Vec Ideal S1024x2048 .bf16) = fun j => ax m c (ix2 (rowAt t (j 0)) (j 1)) := by
  funext j
  unfold iblk
  rw [View.read_apply]
  show V m c main_arg0 _ = m ((c : Thread nD τ).loc main_arg0) _
  unfold V
  congr 1
  funext a
  apply Fin.ext
  match a with
  | ⟨0, _⟩ => show win0_0.index t 0 * 1024 + 1 * (j 0).val = t.val % 4 * 1024 + (j 0).val; rw [(index0 t).1]; omega
  | ⟨1, _⟩ => show win0_0.index t 1 * 2048 + 1 * (j 1).val = (j 1).val; rw [(index0 t).2]; omega

theorem iblk1 (c : Dev nD) (t : Fin cfg0.N) : (iblk m c 1 t : Vec Ideal S512x2048 .bf16) = fun j => aw m c (ix2 (colAt t (j 0)) (j 1)) := by
  funext j
  unfold iblk
  rw [View.read_apply]
  show V m c main_arg1 _ = m ((c : Thread nD τ).loc main_arg1) _
  unfold V
  congr 1
  funext a
  apply Fin.ext
  match a with
  | ⟨0, _⟩ => show win0_1.index t 0 * 512 + 1 * (j 0).val = t.val / 4 * 512 + (j 0).val; rw [(index1 t).1]; omega
  | ⟨1, _⟩ => show win0_1.index t 1 * 2048 + 1 * (j 1).val = (j 1).val; rw [(index1 t).2]; omega

theorem iblk2 (c : Dev nD) (t : Fin cfg0.N) : (iblk m c 2 t : Vec Ideal S2x1024x512 .bf16) = fun j => ag m c (ix3 (j 0) (rowAt t (j 1)) (colAt t (j 2))) := by
  funext j
  unfold iblk
  rw [View.read_apply]
  show V m c main_arg2 _ = m ((c : Thread nD τ).loc main_arg2) _
  unfold V
  congr 1
  funext a
  apply Fin.ext
  match a with
  | ⟨0, _⟩ => show win0_2.index t 0 * 2 + 1 * (j 0).val = (j 0).val; rw [(index2 t).1]; omega
  | ⟨1, _⟩ => show win0_2.index t 1 * 1024 + 1 * (j 1).val = t.val % 4 * 1024 + (j 1).val; rw [(index2 t).2.1]; omega
  | ⟨2, _⟩ => show win0_2.index t 2 * 512 + 1 * (j 2).val = t.val / 4 * 512 + (j 2).val; rw [(index2 t).2.2]; omega

theorem final3 (c : Dev nD) : (dats m 0 c).arrAt 3 cfg0.N = both (ax m c) (aw m c) (ag m c) := by
  refine (dats m 0 c).arrAt_eq_of_cover 3 (both (ax m c) (aw m c) (ag m c)) (fun t _ => ?_) fun (i : S2x4096x5632.Idx) => ?_
  · rw [Value.flushed3, out_eq, iblk0, iblk1, iblk2]
    funext j
    rw [View.read_apply]
    show both _ _ _ (ix3 (j 0) (rowAt t (j 1)) (colAt t (j 2))) = both _ _ _ _
    congr 1
    funext a
    apply Fin.ext
    match a with
    | ⟨0, _⟩ => show (j 0).val = win0_3.index t 0 * 2 + 1 * (j 0).val; rw [(index3 t).1]; omega
    | ⟨1, _⟩ => show t.val % 4 * 1024 + (j 1).val = win0_3.index t 1 * 1024 + 1 * (j 1).val; rw [(index3 t).2.1]; omega
    | ⟨2, _⟩ => show t.val / 4 * 512 + (j 2).val = win0_3.index t 2 * 512 + 1 * (j 2).val; rw [(index3 t).2.2]; omega
  · have h0 : (i 0 : Nat) < 2 := (i 0).isLt
    have h1 : (i 1 : Nat) < 4096 := (i 1).isLt
    have h2 : (i 2 : Nat) < 5632 := (i 2).isLt
    have hN : cfg0.N = 44 := N_0
    obtain ⟨t, ht⟩ : ∃ t : Fin cfg0.N, t.val = (i 2 : Nat) / 512 * 4 + (i 1 : Nat) / 1024 := ⟨⟨(i 2 : Nat) / 512 * 4 + (i 1 : Nat) / 1024, by omega⟩, rfl⟩
    refine ⟨t, flush0_3 t, ?_⟩
    show i ∈ ((View.whole main_v0).slice (win0_3.rect t)).set
    rw [View.set_slice_whole, Rect.mem_set_unit]
    intro a
    match a with
    | ⟨0, _⟩ => show win0_3.index t 0 * 2 ≤ (i 0 : Nat) ∧ (i 0 : Nat) < win0_3.index t 0 * 2 + 2
                rw [(index3 t).1]; omega
    | ⟨1, _⟩ => show win0_3.index t 1 * 1024 ≤ (i 1 : Nat) ∧ (i 1 : Nat) < win0_3.index t 1 * 1024 + 1024
                rw [(index3 t).2.1]; omega
    | ⟨2, _⟩ => show win0_3.index t 2 * 512 ≤ (i 2 : Nat) ∧ (i 2 : Nat) < win0_3.index t 2 * 512 + 512
                rw [(index3 t).2.2]; omega

end Cert.GateGrad
-- ==== Proof.Gate.Ref.lean ====
/-
  THE GATE'S GRADIENT IN THE REFERENCE, read at an index, and its equality with the kernel's where no entry of the incoming
  gradient, of the weight or of the up-projection is an infinity.
-/
module

public import proofs.«01_k».proof.Proof.Gate.Array
public import proofs.«01_k».proof.Proof.Gen.GateRefIdeal.Read
public import proofs.«01_k».proof.Proof.Common.Ereal
public import proofs.«01_k».proof.Pre_gate_finite

@[expose] public section

set_option maxRecDepth 16384

noncomputable section

namespace Cert.GateGrad

open Idealize.ShloMosaic Cert.GateRefIdeal Cert.GateRefIdeal.Read Cert.GateRefIdeal.Gen Cert.Ereal

variable (x : Grad) (w : Weight) (gu : Pair)

/-- The logistic function as the reference writes it. -/
def logi (g : EReal) : EReal := Ideal.div 1 (1 + Ideal.exp (-g))

theorem sg_eq (g : EReal) : sg g = logi g := by
  unfold sg half logi
  rw [half_bf16]
  exact logistic_tanh g

theorem v4_at (r : Fin 4096) (c : Fin 5632) : val_main_v4 (F := Ideal) gu (ix2 r c) = gu (ix3 0 r c) := by
  pointwise [val_main_v4, val_main_v3, val_main_v2]

theorem v6_at (r : Fin 4096) (c : Fin 5632) : val_main_v6 (F := Ideal) gu (ix2 r c) = gu (ix3 1 r c) := by
  pointwise [val_main_v6, val_main_v5, val_main_v2]

theorem v14_at (r : Fin 4096) (c : Fin 5632) : val_main_v14 (F := Ideal) x w (ix2 r c) = da x w r c := by
  pointwise [val_main_v14, val_main_v13, val_main_v12, val_main_v1, val_main_v0]
  unfold da halfw
  rw [half_f32, sum_half]
  refine Finset.sum_congr rfl fun d _ => ?_
  rw [show val_main_cst_0 (F := Ideal) _ = ((1 / 2 : ℝ) : EReal) from (val_main_cst_0_apply _).trans half_f32]

theorem sig_at (r : Fin 4096) (c : Fin 5632) : val_main_v7_2 (F := Ideal) gu (ix2 r c) = logi (gu (ix3 0 r c)) := by
  pointwise [val_main_v7_2, val_main_call0_v4, val_main_call0_v3, val_main_call0_v2, val_main_call0_v1, val_main_call0_v0]
  rw [v4_at]
  simp only [val_main_call0_cst_apply, val_main_call0_cst_0_apply]
  rw [show (FloatOps.ofBits .f32 0x3F800000#32 : Ideal .f32) = 1 from Ideal.ofBits_one_f32]
  rfl

theorem v15_at (r : Fin 4096) (c : Fin 5632) : val_main_v15 (F := Ideal) x w gu (ix2 r c)
    = gu (ix3 0 r c) * logi (gu (ix3 0 r c)) * da x w r c := by
  pointwise [val_main_v15, val_main_v7_0]
  rw [v4_at, sig_at, v14_at]

theorem v17_at (r : Fin 4096) (c : Fin 5632) : val_main_v17 (F := Ideal) x w gu (ix2 r c)
    = da x w r c * gu (ix3 1 r c) * logi (gu (ix3 0 r c))
      + gu (ix3 0 r c) * (da x w r c * gu (ix3 1 r c)) * (logi (gu (ix3 0 r c)) * (1 - logi (gu (ix3 0 r c)))) := by
  pointwise [val_main_v17, val_main_call1_v1, val_main_call1_v2, val_main_call1_v0, val_main_v16, val_main_v7_1, val_main_call0_v7, val_main_call0_v6]
  rw [v4_at, sig_at, v14_at, v6_at]
  simp only [val_main_call0_cst_1_apply]
  rw [show (FloatOps.ofBits .f32 0x3F800000#32 : Ideal .f32) = 1 from Ideal.ofBits_one_f32]

theorem logi_real (g : EReal) : ∃ s : ℝ, logi g = (s : EReal) := by
  unfold logi
  rw [show Ideal.div 1 (1 + Ideal.exp (-g)) = Ideal.logistic g from rfl]
  induction g using EReal.rec with
  | bot => exact ⟨0, by rw [Ideal.logistic_bot, EReal.coe_zero]⟩
  | top => exact ⟨1, by rw [Ideal.logistic_top, EReal.coe_one]⟩
  | coe a => exact ⟨_, Ideal.logistic_coe a⟩

/-- The two gradients of the gate agree, whatever the gate, when the other factors are numbers. -/
theorem gate_eq (g : EReal) (d u : ℝ) :
    gateOf (d : EReal) g (u : EReal) = (d : EReal) * u * logi g + g * ((d : EReal) * u) * (logi g * (1 - logi g)) := by
  unfold gateOf
  rw [sg_eq]
  induction g using EReal.rec with
  | bot =>
    rw [show logi ⊥ = 0 from Ideal.logistic_bot]
    simp
  | top =>
    rw [show logi ⊤ = 1 from Ideal.logistic_top, show (1 : EReal) - 1 = 0 from by rw [← EReal.coe_one, ← EReal.coe_sub, sub_self, EReal.coe_zero]]
    simp
  | coe a =>
    obtain ⟨s, hs⟩ := logi_real (a : EReal)
    rw [hs, ← EReal.coe_one]
    simp only [← EReal.coe_mul, ← EReal.coe_sub, ← EReal.coe_add]
    congr 1
    ring

section Finite

variable [Cert.Pre_gate_finite.Facts] {x w gu} (h : Cert.Pre_gate_finite.fn (F := Ideal) x w gu = fun _ => 1#1)
include h

theorem pre_x (r : Fin 4096) (c : Fin 2048) : ∃ a : ℝ, x (ix2 r c) = (a : EReal) := by
  have e := congrFun h (ix2 ⟨r.val, by omega⟩ c)
  revert e
  pointwise [Cert.Pre_gate_finite.fn]
  exact fun e => real_of_bit e

theorem pre_w (r : Fin 5632) (c : Fin 2048) : ∃ a : ℝ, w (ix2 r c) = (a : EReal) := by
  have e := congrFun h (ix2 ⟨4096 + r.val, by omega⟩ c)
  revert e
  pointwise [Cert.Pre_gate_finite.fn]
  exact fun e => real_of_bit e

theorem pre_u (r : Fin 4096) (c : Fin 5632) : ∃ a : ℝ, gu (ix3 1 r c) = (a : EReal) := by
  have e := congrFun h (ix2 ⟨9728 + (r.val * 5632 + c.val) / 2048, by omega⟩ ⟨(r.val * 5632 + c.val) % 2048, by omega⟩)
  revert e
  pointwise [Cert.Pre_gate_finite.fn]
  rw [dif_neg (by omega), dif_neg (by omega)]
  exact fun e => real_of_bit e

theorem da_real (r : Fin 4096) (c : Fin 5632) : ∃ a : ℝ, da x w r c = (a : EReal) := by
  obtain ⟨a, ha⟩ := sum_real Finset.univ (fun d => pre_x h r d) (fun d => pre_w h c d)
  exact ⟨a * (1 / 2), by unfold da halfw; rw [half_f32, EReal.coe_mul]; exact congrArg (· * _) ha⟩

theorem v21_eq : val_main_v21 (F := Ideal) x w gu = both x w gu := by
  funext y
  obtain ⟨p, r, c, rfl⟩ : ∃ p r c, y = ix3 p r c := ⟨y 0, y 1, y 2, by funext a; match a with | ⟨0, _⟩ => rfl | ⟨1, _⟩ => rfl | ⟨2, _⟩ => rfl⟩
  obtain ⟨d, hd⟩ := da_real h r c
  obtain ⟨u, hu⟩ := pre_u h r c
  match p with
  | ⟨0, _⟩ =>
    pointwise [val_main_v21, val_main_v20, val_main_v18]
    rw [v17_at, hd, hu, ← gate_eq, ← hd, ← hu]
    rfl
  | ⟨1, _⟩ =>
    pointwise [val_main_v21, val_main_v20, val_main_v19]
    rw [v15_at, ← sg_eq, mul_comm]
    rfl

end Finite

end Cert.GateGrad
-- ==== Proof.Gate.Claim.lean ====
/-
  THE GATE'S GRADIENT: what is claimed of the call, put together.
-/
module

public import proofs.«01_k».proof.Defs
public import proofs.«01_k».proof.Proof.Gate.Ref
public import proofs.«01_k».proof.Proof.Gen.GateRefIdeal.Run

@[expose] public section

set_option maxRecDepth 16384

noncomputable section

namespace Cert.GateGrad

open Idealize.ShloMosaic Idealize.SL.Sem

theorem preFacts : Cert.Pre_gate_finite.Facts where
  slices_S2x4096x5632_S1x4096x5632_1_0_0 := by decide
  shapeCasts_S1x4096x5632_S4096x5632 := by decide
  shapeCasts_S4096x5632_S11264x2048 := by decide
  concatenates_S4096x2048_S5632x2048_S11264x2048_S20992x2048_d0 := by decide
  bitsLt_bf16_f32 := by decide
  bcast_S_S20992x2048 := by decide

theorem algebraic : Cert.algebraic_GateIdeal_GateRefIdeal_pre_gate_finite (hPre_gate_finite := preFacts) := by
  haveI := preFacts
  intro m g m' g' hpre hargs
  refine ⟨fun c => both (ax m c) (aw m c) (ag m c), ?_, ?_⟩
  · refine (θ_run _ _ _).mono (fun r h c => ?_) (Cert.GateIdeal.Value.run_blocks m g)
    obtain ⟨h3, ha⟩ := h c
    exact ⟨h3.trans (final3 m c), ha⟩
  · refine (θ_run _ _ _).mono (fun r h c => ?_) (Cert.GateRefIdeal.Value.run m' g')
    obtain ⟨h21, ha⟩ := h c
    obtain ⟨e0, e1, e2⟩ := hargs c
    have hp := hpre c
    refine ⟨h21.trans ?_, ha⟩
    rw [Cert.GateRefIdeal.Read.val_main_v21_eq, e0, e1, e2]
    exact v21_eq hp

/-- The reference runs, leaves its arguments, and declares no semaphore. -/
theorem frame_ref : Cert.quiescent_GateRefIdeal := fun m g _ =>
  (θ_run _ _ _).mono (fun r h => ⟨fun c => (h c).2, sem_eq_zero_of_no_sems (by decide) r.2⟩) (Cert.GateRefIdeal.Value.run m g)

end Cert.GateGrad
-- ==== Proof.Gate.Forward.lean ====
/-
  THE GATED FEED-FORWARD'S FIRST PRODUCT: the gate and the up-projection of the normalised rows, and the gated activation
  `silu(gate) * up`. 44 grid points write 11 column blocks of 4 row blocks each, every sum whole.
-/
module

public import proofs.«01_k».proof.Defs
public import proofs.«01_k».proof.Proof.Gen.GateFwdIdeal.Value
public import proofs.«01_k».proof.Proof.Gen.GateFwdRefIdeal.Run
public import proofs.«01_k».proof.Proof.Gen.GateFwdRefIdeal.Read
public import Idealize.ShloMosaic.Lib.Pointwise
public import Idealize.ShloMosaic.Lib.Pipeline.ReadBack

@[expose] public section

set_option maxRecDepth 16384

noncomputable section

namespace Cert.GateForward

open Idealize.ShloMosaic Idealize.ShloMosaic.TcCoe Idealize.ShloMosaic.Tactic Cert.GateFwdIdeal Cert.GateFwdIdeal.Gen Idealize.SL.Sem
open Idealize.ShloMosaic.Pipeline (Dat Cfg Window)

abbrev Rows := Vec Ideal S4096x2048 .bf16
abbrev Weight := Vec Ideal S2048x11264 .bf16
abbrev Pair := Vec Ideal S2x4096x5632 .bf16
abbrev Act := Vec Ideal S4096x5632 .bf16

/-- One entry of the rows' product with the weight. -/
def prod (n : Rows) (w : Weight) (r : Fin 4096) (c : Fin 11264) : EReal := ∑ k : Fin 2048, n (ix2 r k) * w (ix2 k c)
/-- Column `c` of half `p` of the weight's 11264 columns. -/
def colOf (p : Fin 2) (c : Fin 5632) : Fin 11264 := ⟨p.val * 5632 + c.val, by omega⟩
/-- The gate and the up-projection. -/
def pair (n : Rows) (w : Weight) : Pair := fun y => prod n w (y 1) (colOf (y 0) (y 2))
/-- The gated activation of one entry. -/
def gated (g u : EReal) : EReal := g * Ideal.logistic g * u
/-- The gated activation. -/
def act (n : Rows) (w : Weight) : Act := fun y => gated (prod n w (y 0) (colOf 0 (y 1))) (prod n w (y 0) (colOf 1 (y 1)))

section Block

variable (n : Vec Ideal S1024x2048 .bf16) (wg wu : Vec Ideal S2048x512 .bf16)

/-- One entry of a block's product. -/
def bprod (w : Vec Ideal S2048x512 .bf16) (i : Fin 1024) (j : Fin 512) : EReal := ∑ k : Fin 2048, n (ix2 i k) * w (ix2 k j)

theorem pay1_apply (i : Fin 1024) (j : Fin 512) : k0_pay1 n wg (ix2 i j) = bprod n wg i j := by
  pointwise [k0_pay1]
  rfl
theorem pay3_apply (i : Fin 1024) (j : Fin 512) : k0_pay3 n wg (ix3 0 i j) = bprod n wg i j := by
  pointwise [k0_pay3]
  exact pay1_apply n wg i j
theorem pay4_apply (i : Fin 1024) (j : Fin 512) : k0_pay4 n wu (ix3 0 i j) = bprod n wu i j := pay3_apply n wu i j
theorem pay5_apply (i : Fin 1024) (j : Fin 512) : k0_pay5 n wg wu (ix2 i j) = gated (bprod n wg i j) (bprod n wu i j) := by
  refine (show k0_pay5 n wg wu (ix2 i j) = gated (k0_pay1 n wg (ix2 i j)) (k0_pay1 n wu (ix2 i j)) from rfl).trans ?_
  rw [pay1_apply, pay1_apply]

/-- The two blocks one above the other. -/
def pairBlock : Vec Ideal S2x1024x512 .bf16 := fun y => bprod n (if (y 0).val = 0 then wg else wu) (y 1) (y 2)
/-- The gated activation of one block. -/
def actBlock : Vec Ideal S1024x512 .bf16 := fun y => gated (bprod n wg (y 0) (y 1)) (bprod n wu (y 0) (y 1))

theorem piece (p : Fin 2) {o : Nat} (ho : o = p.val) (v : Vec Ideal S1x1024x512 .bf16) (hv : ∀ i j, v (ix3 0 i j) = bprod n (if p.val = 0 then wg else wu) i j)
    (ip : ∀ a, (![o, 0, 0] : Fin 3 → Nat) a + S1x1024x512.size a ≤ S2x1024x512.size a)
    (z : (Rect.unit (s := S2x1024x512) ![o, 0, 0] S1x1024x512.size ip).shape.Idx) :
    v z = pairBlock n wg wu ((Rect.unit (s := S2x1024x512) ![o, 0, 0] S1x1024x512.size ip).emb z) := by
  subst ho
  obtain ⟨i, j, rfl⟩ : ∃ (i : Fin 1024) (j : Fin 512), z = ix3 0 i j :=
    ⟨z 1, z 2, by funext a; match a with | ⟨0, _⟩ => exact Subsingleton.elim (α := Fin 1) _ _ | ⟨1, _⟩ => rfl | ⟨2, _⟩ => rfl⟩
  refine (hv i j).trans (congrArg (pairBlock n wg wu) (?_ : ix3 p i j = _))
  funext a; apply Fin.ext
  match a with
  | ⟨0, _⟩ => show p.val = p.val + 1 * 0; omega
  | ⟨1, _⟩ => show i.val = 0 + 1 * i.val; omega
  | ⟨2, _⟩ => show j.val = 0 + 1 * j.val; omega

theorem out3_eq : out0_3 n wg wu = pairBlock n wg wu := by
  unfold out0_3
  rw [View.ld_unit_lit _ _ (by decide), View.ld_unit_lit _ _ (by decide), View.ld_unit_lit _ _ (by decide)]
  funext y
  refine View.canon_apply_of_pieces (pairBlock n wg wu) _ (View.PiecesOf.mem ?_) y (cover0_3 _ _ y)
  exact And.intro (fun z => piece n wg wu 1 rfl _ (pay4_apply n wu) inb_S2x1024x512_S1x1024x512_1_0_0 z)
    <| And.intro (fun z => piece n wg wu 0 rfl _ (pay3_apply n wg) inb_S2x1024x512_S1x1024x512_0_0_0 z) <| trivial

theorem out4_eq : out0_4 n wg wu = actBlock n wg wu := by
  unfold out0_4
  rw [View.canon_cons_unit_lit _ _ _ (by decide), View.ld_unit_lit _ _ (by decide), View.ld_unit_lit _ _ (by decide), View.ld_unit_lit _ _ (by decide)]
  funext y
  obtain ⟨i, j, rfl⟩ : ∃ i j, y = ix2 i j := ⟨y 0, y 1, by funext b; match b with | ⟨0, _⟩ => rfl | ⟨1, _⟩ => rfl⟩
  exact pay5_apply n wg wu i j

end Block

variable (m : (ℓ : Loc nD τ sig) → Buf (Elt Ideal) ℓ)

abbrev an (c : Dev nD) : Rows := m ((c : Thread nD τ).loc main_arg0)
abbrev aw (c : Dev nD) : Weight := m ((c : Thread nD τ).loc main_arg1)

theorem index : ∀ t : Fin cfg0.N, (win0_0.index t 0 = t.val % 4 ∧ win0_0.index t 1 = 0) ∧ (win0_1.index t 0 = 0 ∧ win0_1.index t 1 = t.val / 4)
    ∧ (win0_2.index t 0 = 0 ∧ win0_2.index t 1 = t.val / 4 + 11) :=
  (by decide +kernel : ∀ t : Fin grid0.N, (win0_0.index t 0 = t.val % 4 ∧ win0_0.index t 1 = 0) ∧ (win0_1.index t 0 = 0 ∧ win0_1.index t 1 = t.val / 4)
    ∧ (win0_2.index t 0 = 0 ∧ win0_2.index t 1 = t.val / 4 + 11))
theorem index3 : ∀ t : Fin cfg0.N, win0_3.index t 0 = 0 ∧ win0_3.index t 1 = t.val % 4 ∧ win0_3.index t 2 = t.val / 4 :=
  (by decide +kernel : ∀ t : Fin grid0.N, win0_3.index t 0 = 0 ∧ win0_3.index t 1 = t.val % 4 ∧ win0_3.index t 2 = t.val / 4)
theorem index4 : ∀ t : Fin cfg0.N, win0_4.index t 0 = t.val % 4 ∧ win0_4.index t 1 = t.val / 4 :=
  (by decide +kernel : ∀ t : Fin grid0.N, win0_4.index t 0 = t.val % 4 ∧ win0_4.index t 1 = t.val / 4)

theorem lt_N (t : Fin cfg0.N) : t.val < 44 := by have := t.isLt; have hN : cfg0.N = 44 := N_0; omega

/-- Row `r` of point `t`'s block. -/
def rowAt (t : Fin cfg0.N) (r : Fin 1024) : Fin 4096 := ⟨t.val % 4 * 1024 + r.val, by omega⟩
/-- Column `c` of point `t`'s block. -/
def colAt (t : Fin cfg0.N) (c : Fin 512) : Fin 5632 := ⟨t.val / 4 * 512 + c.val, by have := lt_N t; omega⟩

theorem iblk0 (c : Dev nD) (t : Fin cfg0.N) : (iblk m c 0 t : Vec Ideal S1024x2048 .bf16) = fun j => an m c (ix2 (rowAt t (j 0)) (j 1)) := by
  funext j
  unfold iblk
  rw [View.read_apply]
  show V m c main_arg0 _ = m ((c : Thread nD τ).loc main_arg0) _
  unfold V
  congr 1
  funext a
  apply Fin.ext
  match a with
  | ⟨0, _⟩ => show win0_0.index t 0 * 1024 + 1 * (j 0).val = t.val % 4 * 1024 + (j 0).val; rw [(index t).1.1]; omega
  | ⟨1, _⟩ => show win0_0.index t 1 * 2048 + 1 * (j 1).val = (j 1).val; rw [(index t).1.2]; omega

theorem iblk1 (c : Dev nD) (t : Fin cfg0.N) : (iblk m c 1 t : Vec Ideal S2048x512 .bf16) = fun j => aw m c (ix2 (j 0) (colOf 0 (colAt t (j 1)))) := by
  funext j
  unfold iblk
  rw [View.read_apply]
  show V m c main_arg1 _ = m ((c : Thread nD τ).loc main_arg1) _
  unfold V
  congr 1
  funext a
  apply Fin.ext
  match a with
  | ⟨0, _⟩ => show win0_1.index t 0 * 2048 + 1 * (j 0).val = (j 0).val; rw [(index t).2.1.1]; omega
  | ⟨1, _⟩ => show win0_1.index t 1 * 512 + 1 * (j 1).val = 0 * 5632 + (t.val / 4 * 512 + (j 1).val); rw [(index t).2.1.2]; omega

theorem iblk2 (c : Dev nD) (t : Fin cfg0.N) : (iblk m c 2 t : Vec Ideal S2048x512 .bf16) = fun j => aw m c (ix2 (j 0) (colOf 1 (colAt t (j 1)))) := by
  funext j
  unfold iblk
  rw [View.read_apply]
  show V m c main_arg1 _ = m ((c : Thread nD τ).loc main_arg1) _
  unfold V
  congr 1
  funext a
  apply Fin.ext
  match a with
  | ⟨0, _⟩ => show win0_2.index t 0 * 2048 + 1 * (j 0).val = (j 0).val; rw [(index t).2.2.1]; omega
  | ⟨1, _⟩ => show win0_2.index t 1 * 512 + 1 * (j 1).val = 1 * 5632 + (t.val / 4 * 512 + (j 1).val); rw [(index t).2.2.2]; omega

theorem final3 (c : Dev nD) : (dats m 0 c).arrAt 3 cfg0.N = pair (an m c) (aw m c) := by
  refine (dats m 0 c).arrAt_eq_of_cover 3 (pair (an m c) (aw m c)) (fun t _ => ?_) fun (i : S2x4096x5632.Idx) => ?_
  · rw [Value.flushed3, out3_eq, iblk0, iblk1, iblk2]
    funext (j : S2x1024x512.Idx)
    rw [View.read_apply]
    obtain ⟨p, i, k, rfl⟩ : ∃ p i k, j = ix3 p i k := ⟨j 0, j 1, j 2, by funext a; match a with | ⟨0, _⟩ => rfl | ⟨1, _⟩ => rfl | ⟨2, _⟩ => rfl⟩
    refine (?_ : pairBlock _ _ _ (ix3 p i k) = pair (an m c) (aw m c) (ix3 p (rowAt t i) (colAt t k))).trans (congrArg (pair (an m c) (aw m c)) ?_)
    · match p with
      | ⟨0, _⟩ => rfl
      | ⟨1, _⟩ => rfl
    · funext a
      apply Fin.ext
      match a with
      | ⟨0, _⟩ => show p.val = win0_3.index t 0 * 2 + 1 * p.val; rw [(index3 t).1]; omega
      | ⟨1, _⟩ => show t.val % 4 * 1024 + i.val = win0_3.index t 1 * 1024 + 1 * i.val; rw [(index3 t).2.1]; omega
      | ⟨2, _⟩ => show t.val / 4 * 512 + k.val = win0_3.index t 2 * 512 + 1 * k.val; rw [(index3 t).2.2]; omega
  · have h0 : (i 0 : Nat) < 2 := (i 0).isLt
    have h1 : (i 1 : Nat) < 4096 := (i 1).isLt
    have h2 : (i 2 : Nat) < 5632 := (i 2).isLt
    have hN : cfg0.N = 44 := N_0
    obtain ⟨t, ht⟩ : ∃ t : Fin cfg0.N, t.val = (i 2 : Nat) / 512 * 4 + (i 1 : Nat) / 1024 := ⟨⟨(i 2 : Nat) / 512 * 4 + (i 1 : Nat) / 1024, by omega⟩, rfl⟩
    refine ⟨t, flush0_3 t, ?_⟩
    show i ∈ ((View.whole main_v0_0).slice (win0_3.rect t)).set
    rw [View.set_slice_whole, Rect.mem_set_unit]
    intro a
    match a with
    | ⟨0, _⟩ => show win0_3.index t 0 * 2 ≤ (i 0 : Nat) ∧ (i 0 : Nat) < win0_3.index t 0 * 2 + 2
                rw [(index3 t).1]; omega
    | ⟨1, _⟩ => show win0_3.index t 1 * 1024 ≤ (i 1 : Nat) ∧ (i 1 : Nat) < win0_3.index t 1 * 1024 + 1024
                rw [(index3 t).2.1]; omega
    | ⟨2, _⟩ => show win0_3.index t 2 * 512 ≤ (i 2 : Nat) ∧ (i 2 : Nat) < win0_3.index t 2 * 512 + 512
                rw [(index3 t).2.2]; omega

theorem final4 (c : Dev nD) : (dats m 0 c).arrAt 4 cfg0.N = act (an m c) (aw m c) := by
  refine (dats m 0 c).arrAt_eq_of_cover 4 (act (an m c) (aw m c)) (fun t _ => ?_) fun (i : S4096x5632.Idx) => ?_
  · rw [Value.flushed4, out4_eq, iblk0, iblk1, iblk2]
    funext (j : S1024x512.Idx)
    rw [View.read_apply]
    show act (an m c) (aw m c) (ix2 (rowAt t (j 0)) (colAt t (j 1))) = act (an m c) (aw m c) _
    congr 1
    funext a
    apply Fin.ext
    match a with
    | ⟨0, _⟩ => show t.val % 4 * 1024 + (j 0).val = win0_4.index t 0 * 1024 + 1 * (j 0).val; rw [(index4 t).1]; omega
    | ⟨1, _⟩ => show t.val / 4 * 512 + (j 1).val = win0_4.index t 1 * 512 + 1 * (j 1).val; rw [(index4 t).2]; omega
  · have h0 : (i 0 : Nat) < 4096 := (i 0).isLt
    have h1 : (i 1 : Nat) < 5632 := (i 1).isLt
    have hN : cfg0.N = 44 := N_0
    obtain ⟨t, ht⟩ : ∃ t : Fin cfg0.N, t.val = (i 1 : Nat) / 512 * 4 + (i 0 : Nat) / 1024 := ⟨⟨(i 1 : Nat) / 512 * 4 + (i 0 : Nat) / 1024, by omega⟩, rfl⟩
    refine ⟨t, flush0_4 t, ?_⟩
    show i ∈ ((View.whole main_v0_1).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024
                rw [(index4 t).1]; omega
    | ⟨1, _⟩ => show win0_4.index t 1 * 512 ≤ (i 1 : Nat) ∧ (i 1 : Nat) < win0_4.index t 1 * 512 + 512
                rw [(index4 t).2]; omega

section Reference

open Cert.GateFwdRefIdeal Cert.GateFwdRefIdeal.Read

variable (n : Rows) (w : Weight)

theorem v2_at (r : Fin 4096) (c : Fin 11264) : val_main_v2 (F := Ideal) n w (ix2 r c) = prod n w r c := by
  pointwise [val_main_v2, val_main_v1, val_main_v0]
  rfl

theorem v3_at (r : Fin 4096) (c : Fin 5632) : val_main_v3 (F := Ideal) n w (ix2 r c) = prod n w r (colOf 0 c) := by
  pointwise [val_main_v3]
  exact (v2_at n w r _).trans (congrArg (prod n w r) (Fin.ext (show _ = 0 * 5632 + c.val by simp)))

theorem v4_at (r : Fin 4096) (c : Fin 5632) : val_main_v4 (F := Ideal) n w (ix2 r c) = prod n w r (colOf 1 c) := by
  pointwise [val_main_v4]
  exact (v2_at n w r _).trans (congrArg (prod n w r) (Fin.ext (show _ = 1 * 5632 + c.val by simp)))

theorem ref8_eq : val_main_v8 (F := Ideal) n w = pair n w := by
  funext y
  obtain ⟨p, r, c, rfl⟩ : ∃ p r c, y = ix3 p r c := ⟨y 0, y 1, y 2, by funext b; match b with | ⟨0, _⟩ => rfl | ⟨1, _⟩ => rfl | ⟨2, _⟩ => rfl⟩
  match p with
  | ⟨0, _⟩ =>
    pointwise [val_main_v8, val_main_v7, val_main_v5]
    exact v3_at n w r c
  | ⟨1, _⟩ =>
    pointwise [val_main_v8, val_main_v7, val_main_v6]
    exact v4_at n w r c

theorem ref11_eq : val_main_v11 (F := Ideal) n w = act n w := by
  funext y
  obtain ⟨r, c, rfl⟩ : ∃ r c, y = ix2 r c := ⟨y 0, y 1, by funext b; match b with | ⟨0, _⟩ => rfl | ⟨1, _⟩ => rfl⟩
  pointwise [val_main_v11, val_main_v10, val_main_v9, val_main_call0_v5, val_main_call0_v4, val_main_call0_v3, val_main_call0_v2, val_main_call0_v1, val_main_call0_v0]
  simp only [val_main_call0_cst_apply, val_main_call0_cst_0_apply, v3_at, v4_at]
  rw [show (FloatOps.ofBits .f32 0x3F800000#32 : Ideal .f32) = 1 from Ideal.ofBits_one_f32]
  rfl

end Reference

theorem algebraic : Cert.algebraic_GateFwdIdeal_GateFwdRefIdeal := by
  intro m g m' g' _ hargs
  refine ⟨fun c => pair (an m c) (aw m c), fun c => act (an m c) (aw m c), ?_, ?_⟩
  · refine (θ_run _ _ _).mono (fun r h c => ?_) (Cert.GateFwdIdeal.Value.run_blocks m g)
    obtain ⟨h3, h4, hk⟩ := h c
    exact ⟨h3.trans (final3 m c), h4.trans (final4 m c), hk⟩
  · refine (θ_run _ _ _).mono (fun r h c => ?_) (Cert.GateFwdRefIdeal.Value.run m' g')
    obtain ⟨h8, h11, hk⟩ := h c
    obtain ⟨e0, e1⟩ := hargs c
    refine ⟨h8.trans ?_, h11.trans ?_, hk⟩
    · rw [Cert.GateFwdRefIdeal.Read.val_main_v8_eq, e0, e1]
      exact ref8_eq _ _
    · rw [Cert.GateFwdRefIdeal.Read.val_main_v11_eq, e0, e1]
      exact ref11_eq _ _

/-- The reference runs, leaves its arguments, and declares no semaphore. -/
theorem frame_ref : Cert.quiescent_GateFwdRefIdeal := fun m g _ =>
  (θ_run _ _ _).mono (fun r h => ⟨fun c => (h c).2.2, sem_eq_zero_of_no_sems (by decide) r.2⟩) (Cert.GateFwdRefIdeal.Value.run m g)

end Cert.GateForward
-- ==== Proof.Norm.Block.lean ====
/-
  ONE GRID POINT OF THE GRADIENT THROUGH THE NORM. A point adds one column block's part of the gradient of the normalised
  rows to the sum; the last point of a run takes the finished sum through the norm's backward formula, adds the gradient
  that comes beside it, and adds up the gain's gradient over its rows.
-/
module

public import proofs.«01_k».proof.Proof.Gen.NormIdeal.Value
public import Idealize.ShloMosaic.Lib.Pointwise
public import Idealize.ShloMosaic.Lib.Pipeline.ReadBack

@[expose] public section

set_option maxRecDepth 16384

noncomputable section

namespace Cert.NormGrad

open Idealize.ShloMosaic Idealize.ShloMosaic.Tactic Cert.NormIdeal Cert.NormIdeal.Gen Idealize.SL.Sem

/-- One column block's part of the gradient of the normalised rows. -/
def part (g : Vec Ideal S1x512x1408 .bf16) (w : Vec Ideal S2048x1408 .bf16) : Vec Ideal S512x2048 .f32 :=
  fun y => ∑ e : Fin 1408, g (ix3 0 (y 0) e) * w (ix2 (y 1) e)

/-- The printed divisor, 2048. -/
def width : EReal := Ideal.ofBits .f32 0x45000000#32

/-- The norm's backward formula at one entry: `d` the gradient of the row, `x` the row, `r` its scale, `g` the gain. -/
def through (d x g : Fin 2048 → EReal) (r : EReal) (j : Fin 2048) : EReal :=
  r * (d j * g j - x j * r * Ideal.div (∑ k : Fin 2048, d k * g k * (x k * r)) width)

/-- The rows' gradient at the last point of a run. -/
def rows (dn x : Vec Ideal S512x2048 .f32) (r : Vec Ideal S512x1 .f32) (g : Vec Ideal S1x2048 .f32) (dh : Vec Ideal S512x2048 .f32) : Vec Ideal S512x2048 .f32 :=
  fun y => dh y + through (fun k => dn (ix2 (y 0) k)) (fun k => x (ix2 (y 0) k)) (fun k => g (ix2 0 k)) (r (ix2 (y 0) 0)) (y 1)

/-- The gain's gradient over one block of rows. -/
def gain (dn x : Vec Ideal S512x2048 .f32) (r : Vec Ideal S512x1 .f32) : Vec Ideal S1x2048 .f32 :=
  fun y => ∑ a : Fin 512, dn (ix2 a (y 1)) * (x (ix2 a (y 1)) * r (ix2 a 0))

theorem two {m n : Nat} (y : (⟨2, ![m, n]⟩ : Shape).Idx) : ∃ a b, y = ix2 a b := ⟨y 0, y 1, by funext b; match b with | ⟨0, _⟩ => rfl | ⟨1, _⟩ => rfl⟩

theorem pay1_eq (g : Vec Ideal S1x512x1408 .bf16) (w : Vec Ideal S2048x1408 .bf16) : k0_pay1 g w = part g w := by
  funext y
  obtain ⟨a, b, rfl⟩ := two y
  pointwise [k0_pay1]
  rfl

theorem pay5_eq (acc : Vec Ideal S512x2048 .f32) (g : Vec Ideal S1x512x1408 .bf16) (w : Vec Ideal S2048x1408 .bf16) : k0_pay5 acc g w = fun y => acc y + part g w y := by
  funext y
  obtain ⟨a, b, rfl⟩ := two y
  pointwise [k0_pay5]
  rfl

theorem pay2_eq (acc : Vec Ideal S512x2048 .f32) (g : Vec Ideal S1x512x1408 .bf16) (w : Vec Ideal S2048x1408 .bf16) : k0_pay2 acc g w = fun y => acc y + part g w y := by
  rw [← pay5_eq]
  funext y
  obtain ⟨a, b, rfl⟩ := two y
  pointwise [k0_pay2, k0_pay5]

theorem pay6_at (x : Vec Ideal S512x2048 .f32) (r : Vec Ideal S512x1 .f32) (a : Fin 512) (b : Fin 2048) : k0_pay6 x r (ix2 a b) = x (ix2 a b) * r (ix2 a 0) := by
  pointwise [k0_pay6]

variable (acc : Vec Ideal S512x2048 .f32) (u : Vec Ideal S1x512x1408 .bf16) (w : Vec Ideal S2048x1408 .bf16) (x : Vec Ideal S512x2048 .f32) (r : Vec Ideal S512x1 .f32) (g : Vec Ideal S1x2048 .f32) (dh : Vec Ideal S512x2048 .f32)

theorem pay7_eq : k0_pay7 acc u w x r g dh r = rows (fun y => acc y + part u w y) x r g dh := by
  rw [← pay5_eq]
  funext y
  obtain ⟨a, b, rfl⟩ := two y
  pointwise [k0_pay7]
  simp only [pay6_at]
  rfl

theorem pay8_eq : k0_pay8 acc u w x r g dh r = rows (fun y => acc y + part u w y) x r g dh := by
  rw [← pay7_eq]
  funext y
  obtain ⟨a, b, rfl⟩ := two y
  pointwise [k0_pay8]

theorem pay3_eq : k0_pay3 (k0_pay9 acc u w x r) = gain (fun y => acc y + part u w y) x r := by
  rw [← pay5_eq]
  funext y
  obtain ⟨a, b, rfl⟩ := two y
  pointwise [k0_pay3, k0_pay9]
  simp only [pay6_at]
  rfl

theorem pay4_eq (prev : Vec Ideal S1x2048 .f32) : k0_pay4 (k0_pay9 acc u w x r) prev = fun y => prev y + gain (fun y => acc y + part u w y) x r y := by
  rw [← pay3_eq]
  funext y
  obtain ⟨a, b, rfl⟩ := two y
  pointwise [k0_pay4]

variable (c : Dev nD) (i : grid0.Coords) (arg2 : Memref sig .tc .vmem S1x512x1408 .bf16) (harg2 : arg2.IsWhole) (arg3 : Memref sig .tc .vmem S2048x1408 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S512x2048 .f32) (harg11 : arg11.IsWhole)
  (x0 : Vec Ideal S1x512x1408 .bf16) (x1 : Vec Ideal S2048x1408 .bf16) (x2 : Vec Ideal S512x2048 .f32) (x3 : Vec Ideal S512x1 .f32) (x4 : Vec Ideal S1x2048 .f32) (x5 : Vec Ideal S512x2048 .f32)

/-- The first point of a run leaves its own part in the sum. -/
theorem soutA (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 arg11 harg11 hc0 hc1 hc2 x0 x1 x2 x3 x4 x5 = part x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4 x5)]
  unfold kernelRun0_A
  sl_unfold_words
  dsimp only
  simp only [View.readAt_eq_ld, harg2.read_unread, harg3.read_unread]
  rw [View.canon_cons_unit_lit _ _ _ (by decide), View.ld_unit_lit _ _ (by decide), View.ld_unit_lit _ _ (by decide)]
  exact pay1_eq x0 x1

/-- A point within a run adds its part to the sum. -/
theorem soutB (hc0 : ¬cond0_0 i) (hc1 : cond0_1 i) (hc2 : ¬cond0_2 i) (xs : Vec Ideal S512x2048 .f32) :
    sout0_B_0 c i arg2 harg2 arg3 harg3 arg4 harg4 arg5 harg5 arg6 harg6 arg7 harg7 arg8 harg8 arg9 harg9 arg10 harg10 arg11 harg11 hc0 hc1 hc2 x0 x1 x2 x3 x4 x5 xs = fun y => xs y + part x0 x1 y := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 hc2 x0 x1 x2 x3 x4 x5 xs)]
  unfold kernelRun0_B
  sl_unfold_words
  dsimp only
  simp only [View.readAt_eq_ld, harg11.read_unread, harg2.read_unread, harg3.read_unread]
  rw [View.canon_cons_unit_lit _ _ _ (by decide), View.ld_unit_lit _ _ (by decide), View.ld_unit_lit _ _ (by decide), View.ld_unit_lit _ _ (by decide)]
  exact pay2_eq xs x0 x1

/-- The last point of a run stores its rows' gradient (the first run, whole width). -/
theorem outC6 (hc0 : ¬cond0_0 i) (hc1 : ¬cond0_1 i) (hc2 : cond0_2 i) (hc3 : cond0_3 i) (hc4 : ¬cond0_4 i) (xs : Vec Ideal S512x2048 .f32) :
    out0_C_6 c i arg2 harg2 arg3 harg3 arg4 harg4 arg5 harg5 arg6 harg6 arg7 harg7 arg8 harg8 arg9 harg9 arg10 harg10 arg11 harg11 hc0 hc1 hc2 hc3 hc4 x0 x1 x2 x3 x4 x5 xs = rows (fun y => xs y + part x0 x1 y) x2 x3 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 hc2 hc3 hc4 x0 x1 x2 x3 x4 x5 xs)]
  unfold kernelRun0_C
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay7_eq xs x0 x1 x2 x3 x4 x5

/-- The last point of a run stores its rows' gradient (the first run, half width). -/
theorem outC7 (hc0 : ¬cond0_0 i) (hc1 : ¬cond0_1 i) (hc2 : cond0_2 i) (hc3 : cond0_3 i) (hc4 : ¬cond0_4 i) (xs : Vec Ideal S512x2048 .f32) :
    out0_C_7 c i arg2 harg2 arg3 harg3 arg4 harg4 arg5 harg5 arg6 harg6 arg7 harg7 arg8 harg8 arg9 harg9 arg10 harg10 arg11 harg11 hc0 hc1 hc2 hc3 hc4 x0 x1 x2 x3 x4 x5 xs = rows (fun y => xs y + part x0 x1 y) x2 x3 x4 x5 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 hc2 hc3 hc4 x0 x1 x2 x3 x4 x5 xs)]
  unfold kernelRun0_C
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay8_eq xs x0 x1 x2 x3 x4 x5

/-- The last point of a run stores its rows' gradient (a later run, whole width). -/
theorem outD6 (hc0 : ¬cond0_0 i) (hc1 : ¬cond0_1 i) (hc2 : cond0_2 i) (hc3 : ¬cond0_3 i) (hc4 : cond0_4 i) (xo : Vec Ideal S1x2048 .f32) (xs : Vec Ideal S512x2048 .f32) :
    out0_D_6 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs = rows (fun y => xs y + part x0 x1 y) x2 x3 x4 x5 := by
  unfold out0_D_6
  rw [View.read_writes_eq_canon _ _ _ (cover0_D_6 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs)]
  unfold kernelRun0_D
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay7_eq xs x0 x1 x2 x3 x4 x5

/-- The last point of a run stores its rows' gradient (a later run, half width). -/
theorem outD7 (hc0 : ¬cond0_0 i) (hc1 : ¬cond0_1 i) (hc2 : cond0_2 i) (hc3 : ¬cond0_3 i) (hc4 : cond0_4 i) (xo : Vec Ideal S1x2048 .f32) (xs : Vec Ideal S512x2048 .f32) :
    out0_D_7 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs = rows (fun y => xs y + part x0 x1 y) x2 x3 x4 x5 := by
  unfold out0_D_7
  rw [View.read_writes_eq_canon _ _ _ (cover0_D_7 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs)]
  unfold kernelRun0_D
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay8_eq xs x0 x1 x2 x3 x4 x5

/-- The first run starts the gain's gradient. -/
theorem outC8 (hc0 : ¬cond0_0 i) (hc1 : ¬cond0_1 i) (hc2 : cond0_2 i) (hc3 : cond0_3 i) (hc4 : ¬cond0_4 i) (xs : Vec Ideal S512x2048 .f32) :
    out0_C_8 c i arg2 harg2 arg3 harg3 arg4 harg4 arg5 harg5 arg6 harg6 arg7 harg7 arg8 harg8 arg9 harg9 arg10 harg10 arg11 harg11 hc0 hc1 hc2 hc3 hc4 x0 x1 x2 x3 x4 x5 xs = gain (fun y => xs y + part x0 x1 y) x2 x3 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 hc2 hc3 hc4 x0 x1 x2 x3 x4 x5 xs)]
  unfold kernelRun0_C
  sl_unfold_words
  dsimp only
  simp only [View.readAt_eq_ld, harg11.read_unread, harg2.read_unread, harg3.read_unread, harg4.read_unread, harg5.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]
  exact pay3_eq xs x0 x1 x2 x3

/-- A later run adds to the gain's gradient. -/
theorem outD8 (hc0 : ¬cond0_0 i) (hc1 : ¬cond0_1 i) (hc2 : cond0_2 i) (hc3 : ¬cond0_3 i) (hc4 : cond0_4 i) (xo : Vec Ideal S1x2048 .f32) (xs : Vec Ideal S512x2048 .f32) :
    out0_D_8 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs = fun y => xo y + gain (fun y => xs y + part x0 x1 y) x2 x3 y := by
  unfold out0_D_8
  rw [View.read_writes_eq_canon _ _ _ (cover0_D_8 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs)]
  unfold kernelRun0_D
  sl_unfold_words
  dsimp only
  simp only [View.readAt_eq_ld, harg11.read_unread, harg2.read_unread, harg3.read_unread, harg4.read_unread, harg5.read_unread, harg10.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay4_eq xs x0 x1 x2 x3 xo

end Cert.NormGrad
-- ==== Proof.DnHalves.Block.lean ====
/-
  ONE GRID POINT OF THE PRODUCT OVER COLUMN BLOCKS HELD IN TWO HALVES. Of the weight's eight column blocks the even ones
  come from the left half and the odd ones from the right; a point adds one block's part of the product to the sum.
-/
module

public import proofs.«01_k».proof.Proof.Gen.DnHalvesIdeal.Value
public import Idealize.ShloMosaic.Lib.Pointwise
public import Idealize.ShloMosaic.Lib.Pipeline.ReadBack

@[expose] public section

set_option maxRecDepth 16384

noncomputable section

namespace Cert.DnFromHalves

open Idealize.ShloMosaic Idealize.ShloMosaic.Tactic Cert.DnHalvesIdeal Cert.DnHalvesIdeal.Gen Idealize.SL.Sem

/-- The half a column block comes from: the right one for odd blocks. -/
def side (k : Nat) (l r : Vec Ideal S1024x1408 .bf16) : Vec Ideal S1024x1408 .bf16 := if k % 2 = 1 then r else l

/-- One block's part of the product. -/
def part (k : Nat) (g : Vec Ideal S1x1024x1408 .bf16) (l r : Vec Ideal S1024x1408 .bf16) : Vec Ideal S1024x1024 .f32 :=
  fun y => ∑ e : Fin 1408, g (ix3 0 (y 0) e) * side k l r (ix2 (y 1) e)

/-- The printed test whether a block number is odd. -/
def odd (n : BitVec 32) : BitVec 1 :=
  have two : BitVec 32 := Scalar.select (Scalar.cmpi .eq 2#32 0#32) 1#32 2#32
  have rest : BitVec 32 := Scalar.remsi n two
  Scalar.cmpi .eq (Scalar.select (Scalar.andi (Scalar.xori (Scalar.cmpi .slt rest 0#32) (Scalar.cmpi .slt two 0#32)) (Scalar.cmpi .ne rest 0#32)) (Scalar.addi rest two) rest) 1#32

theorem odd_eq : ∀ k : Fin 8, odd (BitVec.ofNat 32 k.val) = if k.val % 2 = 1 then 1 else 0 := by decide

theorem select_odd (k : Fin 8) (l r : Vec Ideal S1024x1408 .bf16) (y : S1024x1408.Idx) : Scalar.select (odd (BitVec.ofNat 32 k.val)) (r y) (l y) = side k.val l r y := by
  rw [odd_eq]
  unfold side Scalar.select
  by_cases h : k.val % 2 = 1
  · rw [if_pos h, if_pos h, if_pos rfl]
  · rw [if_neg h, if_neg h, if_neg (by decide)]

theorem pay1_eq (i : grid0.Coords) (g : Vec Ideal S1x1024x1408 .bf16) (l r : Vec Ideal S1024x1408 .bf16) : k0_pay1 i g r l = part (i 2).val g l r := by
  funext y
  obtain ⟨a, b, rfl⟩ : ∃ a b, y = ix2 a b := ⟨y 0, y 1, by funext b; match b with | ⟨0, _⟩ => rfl | ⟨1, _⟩ => rfl⟩
  pointwise [k0_pay1]
  exact Finset.sum_congr rfl fun e _ => congrArg (g (ix3 0 a e) * ·) (select_odd (i 2) l r (ix2 b e))

theorem pay3_eq (i : grid0.Coords) (acc : Vec Ideal S1024x1024 .f32) (g : Vec Ideal S1x1024x1408 .bf16) (l r : Vec Ideal S1024x1408 .bf16) :
    k0_pay3 i acc g r l = fun y => acc y + part (i 2).val g l r y := by
  funext y
  obtain ⟨a, b, rfl⟩ : ∃ a b, y = ix2 a b := ⟨y 0, y 1, by funext b; match b with | ⟨0, _⟩ => rfl | ⟨1, _⟩ => rfl⟩
  pointwise [k0_pay3]
  exact congrArg (acc (ix2 a b) + ·) (Finset.sum_congr rfl fun e _ => congrArg (g (ix3 0 a e) * ·) (select_odd (i 2) l r (ix2 b e)))

theorem pay2_eq (i : grid0.Coords) (acc : Vec Ideal S1024x1024 .f32) (g : Vec Ideal S1x1024x1408 .bf16) (l r : Vec Ideal S1024x1408 .bf16) :
    k0_pay2 i acc g r l = fun y => acc y + part (i 2).val g l r y := by
  rw [← pay3_eq]
  funext y
  obtain ⟨a, b, rfl⟩ : ∃ a b, y = ix2 a b := ⟨y 0, y 1, by funext b; match b with | ⟨0, _⟩ => rfl | ⟨1, _⟩ => rfl⟩
  pointwise [k0_pay2, k0_pay3]

variable (c : Dev nD) (i : grid0.Coords) (arg3 : Memref sig .tc .vmem S1x1024x1408 .bf16) (harg3 : arg3.IsWhole) (arg4 : Memref sig .tc .vmem S1024x1408 .bf16) (harg4 : arg4.IsWhole) (arg5 : Memref sig .tc .vmem S1024x1408 .bf16) (harg5 : arg5.IsWhole)
  (arg6 : Memref sig .tc .vmem S1024x1024 .f32) (harg6 : arg6.IsWhole) (arg7 : Memref sig .tc .vmem S1024x1024 .f32) (harg7 : arg7.IsWhole)

/-- The first point of a run leaves its own part in the sum. -/
theorem soutA (hc0 : cond0_0 i) (hc1 : ¬cond0_1 i) (hc2 : ¬cond0_2 i) (x0 : Vec Ideal S1x1024x1408 .bf16) (x1 x2 : Vec Ideal S1024x1408 .bf16) :
    sout0_A_0 c i arg3 harg3 arg4 harg4 arg5 harg5 arg6 harg6 arg7 harg7 hc0 hc1 hc2 x0 x1 x2 = part (i 2).val x0 x1 x2 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  sl_unfold_words
  dsimp only
  simp only [View.readAt_eq_ld, harg3.read_unread, harg4.read_unread, harg5.read_unread]
  rw [View.canon_cons_unit_lit _ _ _ (by decide), View.ld_unit_lit _ _ (by decide), View.ld_unit_lit _ _ (by decide), View.ld_unit_lit _ _ (by decide)]
  exact pay1_eq i x0 x1 x2

/-- A point within a run adds its part to the sum. -/
theorem soutB (hc0 : ¬cond0_0 i) (hc1 : cond0_1 i) (hc2 : ¬cond0_2 i) (x0 : Vec Ideal S1x1024x1408 .bf16) (x1 x2 : Vec Ideal S1024x1408 .bf16) (xs : Vec Ideal S1024x1024 .f32) :
    sout0_B_0 c i arg3 harg3 arg4 harg4 arg5 harg5 arg6 harg6 arg7 harg7 hc0 hc1 hc2 x0 x1 x2 xs = fun y => xs y + part (i 2).val x0 x1 x2 y := by
  unfold sout0_B_0
  rw [View.read_writes_eq_canon _ _ _ (scover0_B_0 c i arg3 harg3 arg4 harg4 arg5 harg5 arg6 harg6 arg7 harg7 hc0 hc1 hc2 x0 x1 x2 xs)]
  unfold kernelRun0_B
  sl_unfold_words
  dsimp only
  simp only [View.readAt_eq_ld, harg3.read_unread, harg4.read_unread, harg5.read_unread, harg7.read_unread]
  rw [View.canon_cons_unit_lit _ _ _ (by decide), View.ld_unit_lit _ _ (by decide), View.ld_unit_lit _ _ (by decide), View.ld_unit_lit _ _ (by decide), View.ld_unit_lit _ _ (by decide)]
  exact pay2_eq i xs x0 x1 x2

/-- The last point of a run stores the sum with its own part added. -/
theorem outC (hc0 : ¬cond0_0 i) (hc1 : ¬cond0_1 i) (hc2 : cond0_2 i) (x0 : Vec Ideal S1x1024x1408 .bf16) (x1 x2 : Vec Ideal S1024x1408 .bf16) (xs : Vec Ideal S1024x1024 .f32) :
    out0_C_3 c i arg3 harg3 arg4 harg4 arg5 harg5 arg6 harg6 arg7 harg7 hc0 hc1 hc2 x0 x1 x2 xs = fun y => xs y + part (i 2).val x0 x1 x2 y := by
  unfold out0_C_3
  rw [View.read_writes_eq_canon _ _ _ (cover0_C_3 c i arg3 harg3 arg4 harg4 arg5 harg5 arg6 harg6 arg7 harg7 hc0 hc1 hc2 x0 x1 x2 xs)]
  unfold kernelRun0_C
  sl_unfold_words
  dsimp only
  simp only [View.readAt_eq_ld, harg3.read_unread, harg4.read_unread, harg5.read_unread, harg7.read_unread]
  rw [View.canon_cons_unit_lit _ _ _ (by decide), View.ld_unit_lit _ _ (by decide), View.ld_unit_lit _ _ (by decide), View.ld_unit_lit _ _ (by decide), View.ld_unit_lit _ _ (by decide)]
  exact pay3_eq i xs x0 x1 x2

end Cert.DnFromHalves
-- ==== Proof.DnHalves.Array.lean ====
/-
  THE PRODUCT AS ONE ARRAY, AND AS THE REFERENCE'S. The gradient of the normalised rows is the two gradients side by side
  times the weight, whose columns are woven from its two halves. 64 grid points form 8 blocks of it, each a sum of eight
  parts; the reference forms it as one product with the weight put together first.
-/
module

public import proofs.«01_k».proof.Defs
public import proofs.«01_k».proof.Proof.DnHalves.Block
public import proofs.«01_k».proof.Proof.Gen.DnHalvesRefIdeal.Run
public import proofs.«01_k».proof.Proof.Gen.DnHalvesRefIdeal.Read

@[expose] public section

set_option maxRecDepth 16384

noncomputable section

namespace Cert.DnFromHalves

open Idealize.ShloMosaic Idealize.ShloMosaic.TcCoe Idealize.ShloMosaic.Tactic Cert.DnHalvesIdeal Cert.DnHalvesIdeal.Gen Idealize.SL.Sem
open Idealize.ShloMosaic.Pipeline (Dat Cfg Window)

abbrev Pair := Vec Ideal S2x4096x5632 .bf16
abbrev Half := Vec Ideal S2048x5632 .bf16
abbrev Res := Vec Ideal S4096x2048 .f32

/-- The two gradients side by side: column `c` of 11264. -/
def beside (g : Pair) (r : Fin 4096) (c : Fin 11264) : EReal := g (ix3 ⟨c.val / 5632, by omega⟩ r ⟨c.val % 5632, by omega⟩)
/-- The weight woven from its halves: column `c` of 11264. -/
def woven (l r : Half) (d : Fin 2048) (c : Fin 11264) : EReal := (if c.val / 1408 % 2 = 1 then r else l) (ix2 d ⟨c.val / 2816 * 1408 + c.val % 1408, by omega⟩)

/-- The gradient of the normalised rows. -/
def dn (g : Pair) (l r : Half) : Res := fun y => ∑ c : Fin 11264, beside g (y 0) c * woven l r (y 1) c

/-- Column `e` of column block `k` (the blocks numbered without a bound: the column is taken within the array). -/
def colAt (k : Nat) (e : Fin 1408) : Fin 11264 := ⟨(k * 1408 + e.val) % 11264, Nat.mod_lt _ (by decide)⟩
/-- Row `a` of point `t`'s block. -/
def rowAt (t : Nat) (a : Fin 1024) : Fin 4096 := ⟨t / 8 % 4 * 1024 + a.val, by omega⟩
/-- Column `b` of point `t`'s block of the result. -/
def outAt (t : Nat) (b : Fin 1024) : Fin 2048 := ⟨t / 32 % 2 * 1024 + b.val, by omega⟩

/-- Column block `k`'s part of one entry. -/
def cell (g : Pair) (l r : Half) (a : Fin 4096) (b : Fin 2048) (k : Nat) : EReal := ∑ e : Fin 1408, beside g a (colAt k e) * woven l r b (colAt k e)
/-- The sum over the first column blocks up to point `t`'s own. -/
def upTo (g : Pair) (l r : Half) (t : Nat) : Vec Ideal S1024x1024 .f32 :=
  fun y => ∑ k ∈ Finset.range (t % 8 + 1), cell g l r (rowAt t (y 0)) (outAt t (y 1)) k

theorem dn_eq_cells (g : Pair) (l r : Half) (a : Fin 4096) (b : Fin 2048) : ∑ k ∈ Finset.range 8, cell g l r a b k = dn g l r (ix2 a b) := by
  rw [Finset.sum_range]
  refine Eq.trans ?_ (Fin.sum_univ_tiles 8 1408 (by decide) fun c => beside g a c * woven l r b c).symm
  refine Finset.sum_congr rfl fun k _ => Finset.sum_congr rfl fun e _ => ?_
  have h : colAt k.val e = ⟨k.val * 1408 + e.val, by omega⟩ := Fin.ext (show (k.val * 1408 + e.val) % 11264 = k.val * 1408 + e.val by omega)
  rw [h]

variable (m : (ℓ : Loc nD τ sig) → Buf (Elt Ideal) ℓ)

abbrev ag (c : Dev nD) : Pair := m ((c : Thread nD τ).loc main_arg0)
abbrev al (c : Dev nD) : Half := m ((c : Thread nD τ).loc main_arg1)
abbrev ar (c : Dev nD) : Half := m ((c : Thread nD τ).loc main_arg2)

theorem index0 : ∀ t : Fin cfg0.N, win0_0.index t 0 = t.val % 8 / 4 ∧ win0_0.index t 1 = t.val / 8 % 4 ∧ win0_0.index t 2 = t.val % 8 % 4 :=
  (by decide +kernel : ∀ t : Fin grid0.N, win0_0.index t 0 = t.val % 8 / 4 ∧ win0_0.index t 1 = t.val / 8 % 4 ∧ win0_0.index t 2 = t.val % 8 % 4)
theorem index : ∀ t : Fin cfg0.N, (win0_1.index t 0 = t.val / 32 % 2 ∧ win0_1.index t 1 = t.val % 8 / 2) ∧ (win0_2.index t 0 = t.val / 32 % 2 ∧ win0_2.index t 1 = t.val % 8 / 2)
    ∧ win0_3.index t 0 = t.val / 8 % 4 ∧ win0_3.index t 1 = t.val / 32 % 2 :=
  (by decide +kernel : ∀ t : Fin grid0.N, (win0_1.index t 0 = t.val / 32 % 2 ∧ win0_1.index t 1 = t.val % 8 / 2) ∧ (win0_2.index t 0 = t.val / 32 % 2 ∧ win0_2.index t 1 = t.val % 8 / 2)
    ∧ win0_3.index t 0 = t.val / 8 % 4 ∧ win0_3.index t 1 = t.val / 32 % 2)
theorem coord : ∀ t : Fin cfg0.N, (grid0.coords t 2).val = t.val % 8 := (by decide +kernel : ∀ t : Fin grid0.N, (grid0.coords t 2).val = t.val % 8)

theorem lt_N (t : Fin cfg0.N) : t.val < 64 := by have := t.isLt; have hN : cfg0.N = 64 := N_0; omega

theorem iblk0 (c : Dev nD) (t : Fin cfg0.N) : (iblk m c 0 t : Vec Ideal S1x1024x1408 .bf16) = fun j => beside (ag m c) (rowAt t.val (j 1)) (colAt (t.val % 8) (j 2)) := by
  funext j
  unfold iblk
  rw [View.read_apply]
  show V m c main_arg0 _ = m ((c : Thread nD τ).loc main_arg0) _
  unfold V
  congr 1
  funext a
  apply Fin.ext
  have h0 : (j 0 : Nat) < 1 := (j 0).isLt
  have h2 : (j 2 : Nat) < 1408 := (j 2).isLt
  match a with
  | ⟨0, _⟩ => show win0_0.index t 0 * 1 + 1 * (j 0).val = (t.val % 8 * 1408 + (j 2).val) % 11264 / 5632; rw [(index0 t).1]; omega
  | ⟨1, _⟩ => show win0_0.index t 1 * 1024 + 1 * (j 1).val = t.val / 8 % 4 * 1024 + (j 1).val; rw [(index0 t).2.1]; omega
  | ⟨2, _⟩ => show win0_0.index t 2 * 1408 + 1 * (j 2).val = (t.val % 8 * 1408 + (j 2).val) % 11264 % 5632; rw [(index0 t).2.2]; omega

/-- Where a half's block lies in the half. -/
def halfAt (t : Nat) (e : Fin 1408) : Fin 5632 := ⟨t % 8 / 2 * 1408 + e.val, by omega⟩

theorem iblk1 (c : Dev nD) (t : Fin cfg0.N) : (iblk m c 1 t : Vec Ideal S1024x1408 .bf16) = fun j => al m c (ix2 (outAt t.val (j 0)) (halfAt t.val (j 1))) := by
  funext j
  unfold iblk
  rw [View.read_apply]
  show V m c main_arg1 _ = m ((c : Thread nD τ).loc main_arg1) _
  unfold V
  congr 1
  funext a
  apply Fin.ext
  match a with
  | ⟨0, _⟩ => show win0_1.index t 0 * 1024 + 1 * (j 0).val = t.val / 32 % 2 * 1024 + (j 0).val; rw [(index t).1.1]; omega
  | ⟨1, _⟩ => show win0_1.index t 1 * 1408 + 1 * (j 1).val = t.val % 8 / 2 * 1408 + (j 1).val; rw [(index t).1.2]; omega

theorem iblk2 (c : Dev nD) (t : Fin cfg0.N) : (iblk m c 2 t : Vec Ideal S1024x1408 .bf16) = fun j => ar m c (ix2 (outAt t.val (j 0)) (halfAt t.val (j 1))) := by
  funext j
  unfold iblk
  rw [View.read_apply]
  show V m c main_arg2 _ = m ((c : Thread nD τ).loc main_arg2) _
  unfold V
  congr 1
  funext a
  apply Fin.ext
  match a with
  | ⟨0, _⟩ => show win0_2.index t 0 * 1024 + 1 * (j 0).val = t.val / 32 % 2 * 1024 + (j 0).val; rw [(index t).2.1.1]; omega
  | ⟨1, _⟩ => show win0_2.index t 1 * 1408 + 1 * (j 1).val = t.val % 8 / 2 * 1408 + (j 1).val; rw [(index t).2.1.2]; omega

/-- The half a point reads from is the woven weight's columns. -/
theorem side_eq (l r : Half) (t : Nat) (b : Fin 1024) (e : Fin 1408) :
    side (t % 8) (fun j => l (ix2 (outAt t (j 0)) (halfAt t (j 1)))) (fun j => r (ix2 (outAt t (j 0)) (halfAt t (j 1)))) (ix2 b e) = woven l r (outAt t b) (colAt (t % 8) e) := by
  have hc : (colAt (t % 8) e).val = t % 8 * 1408 + e.val := show (t % 8 * 1408 + e.val) % 11264 = t % 8 * 1408 + e.val by omega
  have hh : halfAt t e = ⟨(colAt (t % 8) e).val / 2816 * 1408 + (colAt (t % 8) e).val % 1408, by omega⟩ :=
    Fin.ext (show t % 8 / 2 * 1408 + e.val = (colAt (t % 8) e).val / 2816 * 1408 + (colAt (t % 8) e).val % 1408 by rw [hc]; omega)
  have hs : t % 8 % 2 = (colAt (t % 8) e).val / 1408 % 2 := by rw [hc]; omega
  unfold side woven
  rw [← hs, ← hh]
  by_cases h : t % 8 % 2 = 1
  · rw [if_pos h, if_pos h]
    rfl
  · rw [if_neg h, if_neg h]
    rfl

/-- A point's part of the product is its column block's. -/
theorem part_eq (c : Dev nD) (t : Fin cfg0.N) : part (grid0.coords t 2).val (iblk m c 0 t) (iblk m c 1 t) (iblk m c 2 t)
    = fun y => cell (ag m c) (al m c) (ar m c) (rowAt t.val (y 0)) (outAt t.val (y 1)) (t.val % 8) := by
  rw [coord, iblk0, iblk1, iblk2]
  funext y
  exact Finset.sum_congr rfl fun e _ => congrArg _ (side_eq _ _ _ _ _)

theorem upTo_step (g : Pair) (l r : Half) (n : Nat) (h : (n + 1) % 8 ≠ 0) :
    (fun y => upTo g l r n y + cell g l r (rowAt (n + 1) (y 0)) (outAt (n + 1) (y 1)) ((n + 1) % 8)) = upTo g l r (n + 1) := by
  have e8 : (n + 1) % 8 = n % 8 + 1 := by omega
  have e3 : (n + 1) / 8 = n / 8 := by omega
  have e5 : (n + 1) / 32 = n / 32 := by omega
  funext y
  unfold upTo rowAt outAt
  simp only [e8, e3, e5]
  rw [Finset.sum_range_succ _ (n % 8 + 1)]

/-- What the running sum holds after point `n`, and the result's block at the last point of a run. -/
theorem outs_eq (c : Dev nD) : ∀ (n : ℕ) (h : n < cfg0.N), (n % 8 ≠ 7 → (outsAt0 m c n h).2 = upTo (ag m c) (al m c) (ar m c) n)
    ∧ (n % 8 = 7 → (outsAt0 m c n h).1 = upTo (ag m c) (al m c) (ar m c) n) := by
  intro n
  induction n with
  | zero =>
    intro h
    refine ⟨fun _ => ?_, fun h7 => absurd h7 (by decide)⟩
    rw [outsAt0_A m c ⟨0, h⟩ rfl (by dsimp only; omega) (by dsimp only; omega)]
    dsimp only
    rw [soutA, part_eq]
    funext y
    exact (Finset.sum_range_one _).symm
  | succ n ih =>
    intro h
    by_cases h0 : (n + 1) % 8 = 0
    · refine ⟨fun _ => ?_, fun h7 => by omega⟩
      rw [outsAt0_A m c ⟨n + 1, h⟩ h0 (by dsimp only; omega) (by dsimp only; omega)]
      dsimp only
      rw [soutA, part_eq]
      funext y
      show cell _ _ _ _ _ ((n + 1) % 8) = ∑ k ∈ Finset.range ((n + 1) % 8 + 1), _
      rw [h0]
      exact (Finset.sum_range_one _).symm
    · have hs := (ih (by omega)).1 (by omega)
      refine ⟨fun h7 => ?_, fun h7 => ?_⟩
      · rw [outsAt0_B m c ⟨n + 1, h⟩ h0 (by dsimp only; omega) h7]
        dsimp only
        rw [soutB, part_eq]
        show (fun y => (outsAt0 m c n _).2 y + _) = _
        rw [hs]
        exact upTo_step _ _ _ n h0
      · rw [outsAt0_C m c ⟨n + 1, h⟩ h0 (by dsimp only; omega) h7]
        dsimp only
        rw [outC, part_eq]
        show (fun y => (outsAt0 m c n _).2 y + _) = _
        rw [hs]
        exact upTo_step _ _ _ n h0

theorem final3 (c : Dev nD) : (dats m 0 c).arrAt 3 cfg0.N = dn (ag m c) (al m c) (ar m c) := by
  refine (dats m 0 c).arrAt_eq_of_cover 3 (dn (ag m c) (al m c) (ar m c)) (fun t hf => ?_) fun (i : S4096x2048.Idx) => ?_
  · have h7 : t.val % 8 = 7 := (flush0_3 t).mp hf
    rw [Value.flushed3, (outs_eq m c t.val t.isLt).2 h7]
    funext j
    rw [View.read_apply]
    show (∑ k ∈ Finset.range (t.val % 8 + 1), cell _ _ _ (rowAt t.val (j 0)) (outAt t.val (j 1)) k) = dn _ _ _ _
    rw [h7, dn_eq_cells]
    congr 1
    funext a
    apply Fin.ext
    match a with
    | ⟨0, _⟩ => show t.val / 8 % 4 * 1024 + (j 0).val = win0_3.index t 0 * 1024 + 1 * (j 0).val; rw [(index t).2.2.1]; omega
    | ⟨1, _⟩ => show t.val / 32 % 2 * 1024 + (j 1).val = win0_3.index t 1 * 1024 + 1 * (j 1).val; rw [(index t).2.2.2]; omega
  · have h0 : (i 0 : Nat) < 4096 := (i 0).isLt
    have h1 : (i 1 : Nat) < 2048 := (i 1).isLt
    have hN : cfg0.N = 64 := N_0
    obtain ⟨t, ht⟩ : ∃ t : Fin cfg0.N, t.val = (i 1 : Nat) / 1024 * 32 + (i 0 : Nat) / 1024 * 8 + 7 := ⟨⟨(i 1 : Nat) / 1024 * 32 + (i 0 : Nat) / 1024 * 8 + 7, by omega⟩, rfl⟩
    refine ⟨t, (flush0_3 t).mpr (by omega), ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [(index t).2.2.1]; omega
    | ⟨1, _⟩ => show win0_3.index t 1 * 1024 ≤ (i 1 : Nat) ∧ (i 1 : Nat) < win0_3.index t 1 * 1024 + 1024
                rw [(index t).2.2.2]; omega

section Reference

open Cert.DnHalvesRefIdeal Cert.DnHalvesRefIdeal.Read

theorem v16_at (g : Pair) (r : Fin 4096) (c : Fin 5632) : val_main_v16 (F := Ideal) g (ix2 r c) = g (ix3 0 r c) := by
  pointwise [val_main_v16, val_main_v15, val_main_v0]
theorem v18_at (g : Pair) (r : Fin 4096) (c : Fin 5632) : val_main_v18 (F := Ideal) g (ix2 r c) = g (ix3 1 r c) := by
  pointwise [val_main_v18, val_main_v17, val_main_v0]

theorem v19_at (g : Pair) (r : Fin 4096) (c : Fin 11264) : val_main_v19 (F := Ideal) g (ix2 r c) = beside g r c := by
  pointwise [val_main_v19]
  unfold beside
  split
  next h =>
    rw [v16_at]
    congr 1
    funext a
    apply Fin.ext
    match a with
    | ⟨0, _⟩ => show 0 = c.val / 5632; omega
    | ⟨1, _⟩ => rfl
    | ⟨2, _⟩ => show c.val = c.val % 5632; omega
  next h =>
    rw [v18_at]
    congr 1
    funext a
    apply Fin.ext
    match a with
    | ⟨0, _⟩ => show 1 = c.val / 5632; omega
    | ⟨1, _⟩ => rfl
    | ⟨2, _⟩ => show c.val - 5632 = c.val % 5632; omega

theorem v7_at (l r : Half) (d : Fin 2048) (c : Fin 11264) : val_main_v7 (F := Ideal) l r (ix2 d c) = woven l r d c := by
  pointwise [val_main_v7, val_main_v6, val_main_v5, val_main_v4, val_main_v3, val_main_v2, val_main_v1]
  unfold woven
  by_cases h : c.val / 1408 % 2 = 1
  · rw [if_pos h, dif_neg (by omega)]
  · rw [if_neg h, dif_pos (by omega)]

theorem ref_eq (g : Pair) (l r : Half) : val_main_v20 (F := Ideal) g l r = dn g l r := by
  funext y
  obtain ⟨i, j, rfl⟩ : ∃ i j, y = ix2 i j := ⟨y 0, y 1, by funext b; match b with | ⟨0, _⟩ => rfl | ⟨1, _⟩ => rfl⟩
  pointwise [val_main_v20]
  show _ = ∑ c : Fin 11264, beside g i c * woven l r j c
  exact Finset.sum_congr rfl fun c _ => by rw [v19_at, v7_at]

end Reference

theorem algebraic : Cert.algebraic_DnHalvesIdeal_DnHalvesRefIdeal := by
  intro m g m' g' _ hargs
  refine ⟨fun c => dn (ag m c) (al m c) (ar m c), ?_, ?_⟩
  · refine (θ_run _ _ _).mono (fun r h c => ?_) (Cert.DnHalvesIdeal.Value.run_blocks m g)
    obtain ⟨h3, hk⟩ := h c
    exact ⟨h3.trans (final3 m c), hk⟩
  · refine (θ_run _ _ _).mono (fun r h c => ?_) (Cert.DnHalvesRefIdeal.Value.run m' g')
    obtain ⟨h20, hk⟩ := h c
    obtain ⟨e0, e1, e2⟩ := hargs c
    refine ⟨h20.trans ?_, hk⟩
    rw [Cert.DnHalvesRefIdeal.Read.val_main_v20_eq, e0, e1, e2]
    exact ref_eq _ _ _

/-- The reference runs, leaves its arguments, and declares no semaphore. -/
theorem frame_ref : Cert.quiescent_DnHalvesRefIdeal := fun m g _ =>
  (θ_run _ _ _).mono (fun r h => ⟨fun c => (h c).2, sem_eq_zero_of_no_sems (by decide) r.2⟩) (Cert.DnHalvesRefIdeal.Value.run m g)

end Cert.DnFromHalves
-- ==== Proof.Norm.Array.lean ====
/-
  THE GRADIENT THROUGH THE NORM AS WHOLE ARRAYS. 64 grid points: 8 blocks of rows, each a sum of eight column blocks'
  parts. The rows' gradient is written once per block of rows; the gain's gradient is added up over the blocks and
  written back at the very end. The rows' scale is computed before the kernel by the reference's own lines.
-/
module

public import proofs.«01_k».proof.Defs
public import proofs.«01_k».proof.Proof.Norm.Block
public import proofs.«01_k».proof.Proof.DnHalves.Array
public import proofs.«01_k».proof.Proof.Gen.NormRefIdeal.Run
public import proofs.«01_k».proof.Proof.Gen.NormRefIdeal.Read

@[expose] public section

set_option maxRecDepth 16384

noncomputable section

namespace Cert.NormGrad

open Idealize.ShloMosaic Idealize.ShloMosaic.TcCoe Idealize.ShloMosaic.Tactic Cert.NormIdeal Cert.NormIdeal.Gen Idealize.SL.Sem
open Idealize.ShloMosaic.Pipeline (Dat Cfg Window)
open Cert.DnFromHalves (beside colAt)

abbrev Pair := Vec Ideal S2x4096x5632 .bf16
abbrev Weight := Vec Ideal S2048x11264 .bf16
abbrev Rows := Vec Ideal S4096x2048 .f32
abbrev Gain := Vec Ideal S1x2048 .f32

/-- The gradient of the normalised rows. -/
def dn (u : Pair) (w : Weight) (a : Fin 4096) (b : Fin 2048) : EReal := ∑ c : Fin 11264, beside u a c * w (ix2 b c)
/-- A row's mean square with the small constant added. -/
def meanSq (x : Rows) (a : Fin 4096) : EReal := Ideal.div (∑ k : Fin 2048, x (ix2 a k) * x (ix2 a k)) width + Ideal.ofBits .f32 0x358637BD#32
/-- A row's scale. -/
def scale (x : Rows) (a : Fin 4096) : EReal := Ideal.rsqrt (meanSq x a)

/-- The rows' gradient. -/
def allRows (u : Pair) (w : Weight) (x : Rows) (g : Gain) (dh : Rows) : Rows :=
  fun y => dh y + through (dn u w (y 0)) (fun k => x (ix2 (y 0) k)) (fun k => g (ix2 0 k)) (scale x (y 0)) (y 1)
/-- One row's term of the gain's gradient. -/
def gainRow (u : Pair) (w : Weight) (x : Rows) (b : Fin 2048) (a : Fin 4096) : EReal := dn u w a b * (x (ix2 a b) * scale x a)
/-- The gain's gradient. -/
def allGain (u : Pair) (w : Weight) (x : Rows) : Gain := fun y => ∑ a : Fin 4096, gainRow u w x (y 1) a

/-- Row `a` of row block `i` (the blocks numbered without a bound: the row is taken within the array). -/
def rowAt (i : Nat) (a : Fin 512) : Fin 4096 := ⟨(i * 512 + a.val) % 4096, Nat.mod_lt _ (by decide)⟩

/-- Column block `k`'s part of one entry. -/
def cell (u : Pair) (w : Weight) (a : Fin 4096) (b : Fin 2048) (k : Nat) : EReal := ∑ e : Fin 1408, beside u a (colAt k e) * w (ix2 b (colAt k e))
/-- The sum over the first column blocks up to point `t`'s own. -/
def upTo (u : Pair) (w : Weight) (t : Nat) : Vec Ideal S512x2048 .f32 := fun y => ∑ k ∈ Finset.range (t % 8 + 1), cell u w (rowAt (t / 8) (y 0)) (y 1) k
/-- The finished sum over one block of rows. -/
def full (u : Pair) (w : Weight) (i : Nat) : Vec Ideal S512x2048 .f32 := fun y => dn u w (rowAt i (y 0)) (y 1)
/-- One block of the rows' gradient. -/
def blockRows (u : Pair) (w : Weight) (x : Rows) (g : Gain) (dh : Rows) (i : Nat) : Vec Ideal S512x2048 .f32 := fun y => allRows u w x g dh (ix2 (rowAt i (y 0)) (y 1))
/-- The gain's gradient over the first `n` blocks of rows. -/
def gainUpTo (u : Pair) (w : Weight) (x : Rows) (n : Nat) : Gain := fun y => ∑ i ∈ Finset.range n, ∑ a : Fin 512, gainRow u w x (y 1) (rowAt i a)

theorem upTo_full (u : Pair) (w : Weight) (t : Nat) (h : t % 8 = 7) : upTo u w t = full u w (t / 8) := by
  funext y
  unfold upTo full
  rw [h, Finset.sum_range]
  refine Eq.trans ?_ (Fin.sum_univ_tiles 8 1408 (by decide) fun c => beside u (rowAt (t / 8) (y 0)) c * w (ix2 (y 1) c)).symm
  refine Finset.sum_congr rfl fun k _ => Finset.sum_congr rfl fun e _ => ?_
  have h : colAt k.val e = ⟨k.val * 1408 + e.val, by omega⟩ := Fin.ext (show (k.val * 1408 + e.val) % 11264 = k.val * 1408 + e.val by omega)
  rw [h]

theorem gain_full (u : Pair) (w : Weight) (x : Rows) : gainUpTo u w x 8 = allGain u w x := by
  funext y
  unfold gainUpTo allGain
  rw [Finset.sum_range]
  refine Eq.trans ?_ (Fin.sum_univ_tiles 8 512 (by decide) fun a => gainRow u w x (y 1) a).symm
  refine Finset.sum_congr rfl fun i _ => Finset.sum_congr rfl fun a _ => ?_
  have h : rowAt i.val a = ⟨i.val * 512 + a.val, by omega⟩ := Fin.ext (show (i.val * 512 + a.val) % 4096 = i.val * 512 + a.val by omega)
  rw [h]

theorem upTo_step (u : Pair) (w : Weight) (n : Nat) (h : (n + 1) % 8 ≠ 0) :
    (fun y => upTo u w n y + cell u w (rowAt ((n + 1) / 8) (y 0)) (y 1) ((n + 1) % 8)) = upTo u w (n + 1) := by
  have e8 : (n + 1) % 8 = n % 8 + 1 := by omega
  have e3 : (n + 1) / 8 = n / 8 := by omega
  funext y
  unfold upTo
  simp only [e8, e3]
  rw [Finset.sum_range_succ _ (n % 8 + 1)]

section Reference

open Cert.NormRefIdeal Cert.NormRefIdeal.Read

theorem v4_at (x : Rows) (a : Fin 4096) : val_main_v4 (F := Ideal) x (ix1 a) = ∑ k : Fin 2048, x (ix2 a k) * x (ix2 a k) := by
  pointwise [val_main_v4, val_main_v3, val_main_cst]
theorem v9_at (x : Rows) (a : Fin 4096) : val_main_v9 (F := Ideal) x (ix2 a 0) = meanSq x a := by
  pointwise [val_main_v9, val_main_v7, val_main_v5, val_main_v6, val_main_v8, val_main_cst_0, val_main_cst_1]
  rw [v4_at]
  rfl
theorem v10_at (x : Rows) (a : Fin 4096) : val_main_v10 (F := Ideal) x (ix2 a 0) = scale x a := by
  pointwise [val_main_v10]
  rw [v9_at]
  rfl

end Reference

variable (m : (ℓ : Loc nD τ sig) → Buf (Elt Ideal) ℓ)

abbrev au (c : Dev nD) : Pair := m ((c : Thread nD τ).loc main_arg0)
abbrev aw (c : Dev nD) : Weight := m ((c : Thread nD τ).loc main_arg1)
abbrev ax (c : Dev nD) : Rows := m ((c : Thread nD τ).loc main_arg2)
abbrev ag (c : Dev nD) : Gain := m ((c : Thread nD τ).loc main_arg3)
abbrev ah (c : Dev nD) : Rows := m ((c : Thread nD τ).loc main_arg4)

/-- The rows' scale is computed before the kernel as the reference computes it. -/
theorem scale_host (c : Dev nD) : V m c main_v7 = Cert.NormRefIdeal.Read.val_main_v10 (F := Ideal) (ax m c) := by
  show StableHlo.after hostOps0 _ (Proc.devRef .tc main_v7) = _
  unfold hostOps0
  after_results_simp
  rfl

theorem index0 : ∀ t : Fin cfg0.N, win0_0.index t 0 = t.val % 8 / 4 ∧ win0_0.index t 1 = t.val / 8 ∧ win0_0.index t 2 = t.val % 8 % 4 :=
  (by decide +kernel : ∀ t : Fin grid0.N, win0_0.index t 0 = t.val % 8 / 4 ∧ win0_0.index t 1 = t.val / 8 ∧ win0_0.index t 2 = t.val % 8 % 4)
theorem index : ∀ t : Fin cfg0.N, (win0_1.index t 0 = 0 ∧ win0_1.index t 1 = t.val % 8) ∧ (win0_2.index t 0 = t.val / 8 ∧ win0_2.index t 1 = 0)
    ∧ (win0_3.index t 0 = t.val / 8 ∧ win0_3.index t 1 = 0) ∧ (win0_4.index t 0 = 0 ∧ win0_4.index t 1 = 0) ∧ (win0_5.index t 0 = t.val / 8 ∧ win0_5.index t 1 = 0)
    ∧ (win0_6.index t 0 = t.val / 8 ∧ win0_6.index t 1 = 0) ∧ (win0_7.index t 0 = t.val / 8 ∧ win0_7.index t 1 = 0) ∧ (win0_8.index t 0 = 0 ∧ win0_8.index t 1 = 0) :=
  (by decide +kernel : ∀ t : Fin grid0.N, (win0_1.index t 0 = 0 ∧ win0_1.index t 1 = t.val % 8) ∧ (win0_2.index t 0 = t.val / 8 ∧ win0_2.index t 1 = 0)
    ∧ (win0_3.index t 0 = t.val / 8 ∧ win0_3.index t 1 = 0) ∧ (win0_4.index t 0 = 0 ∧ win0_4.index t 1 = 0) ∧ (win0_5.index t 0 = t.val / 8 ∧ win0_5.index t 1 = 0)
    ∧ (win0_6.index t 0 = t.val / 8 ∧ win0_6.index t 1 = 0) ∧ (win0_7.index t 0 = t.val / 8 ∧ win0_7.index t 1 = 0) ∧ (win0_8.index t 0 = 0 ∧ win0_8.index t 1 = 0))

theorem lt_N (t : Fin cfg0.N) : t.val < 64 := by have := t.isLt; have hN : cfg0.N = 64 := N_0; omega

theorem iblk0 (c : Dev nD) (t : Fin cfg0.N) : (iblk m c 0 t : Vec Ideal S1x512x1408 .bf16) = fun j => beside (au m c) (rowAt (t.val / 8) (j 1)) (colAt (t.val % 8) (j 2)) := by
  funext j
  unfold iblk
  rw [View.read_apply]
  show V m c main_arg0 _ = m ((c : Thread nD τ).loc main_arg0) _
  rw [V_main_arg0]
  congr 1
  funext a
  apply Fin.ext
  have ht := lt_N t
  have h0 : (j 0 : Nat) < 1 := (j 0).isLt
  have h1 : (j 1 : Nat) < 512 := (j 1).isLt
  have h2 : (j 2 : Nat) < 1408 := (j 2).isLt
  match a with
  | ⟨0, _⟩ => show win0_0.index t 0 * 1 + 1 * (j 0).val = (t.val % 8 * 1408 + (j 2).val) % 11264 / 5632; rw [(index0 t).1]; omega
  | ⟨1, _⟩ => show win0_0.index t 1 * 512 + 1 * (j 1).val = (t.val / 8 * 512 + (j 1).val) % 4096; rw [(index0 t).2.1]; omega
  | ⟨2, _⟩ => show win0_0.index t 2 * 1408 + 1 * (j 2).val = (t.val % 8 * 1408 + (j 2).val) % 11264 % 5632; rw [(index0 t).2.2]; omega

theorem iblk1 (c : Dev nD) (t : Fin cfg0.N) : (iblk m c 1 t : Vec Ideal S2048x1408 .bf16) = fun j => aw m c (ix2 (j 0) (colAt (t.val % 8) (j 1))) := by
  funext j
  unfold iblk
  rw [View.read_apply]
  show V m c main_arg1 _ = m ((c : Thread nD τ).loc main_arg1) _
  rw [V_main_arg1]
  congr 1
  funext a
  apply Fin.ext
  have h1 : (j 1 : Nat) < 1408 := (j 1).isLt
  match a with
  | ⟨0, _⟩ => show win0_1.index t 0 * 2048 + 1 * (j 0).val = (j 0).val; rw [(index t).1.1]; omega
  | ⟨1, _⟩ => show win0_1.index t 1 * 1408 + 1 * (j 1).val = (t.val % 8 * 1408 + (j 1).val) % 11264; rw [(index t).1.2]; omega

theorem iblk2 (c : Dev nD) (t : Fin cfg0.N) : (iblk m c 2 t : Vec Ideal S512x2048 .f32) = fun j => ax m c (ix2 (rowAt (t.val / 8) (j 0)) (j 1)) := by
  funext j
  unfold iblk
  rw [View.read_apply]
  show V m c main_arg2 _ = m ((c : Thread nD τ).loc main_arg2) _
  rw [V_main_arg2]
  congr 1
  funext a
  apply Fin.ext
  have ht := lt_N t
  have h0 : (j 0 : Nat) < 512 := (j 0).isLt
  match a with
  | ⟨0, _⟩ => show win0_2.index t 0 * 512 + 1 * (j 0).val = (t.val / 8 * 512 + (j 0).val) % 4096; rw [(index t).2.1.1]; omega
  | ⟨1, _⟩ => show win0_2.index t 1 * 2048 + 1 * (j 1).val = (j 1).val; rw [(index t).2.1.2]; omega

theorem iblk3 (c : Dev nD) (t : Fin cfg0.N) : (iblk m c 3 t : Vec Ideal S512x1 .f32) = fun j => scale (ax m c) (rowAt (t.val / 8) (j 0)) := by
  funext j
  unfold iblk
  rw [View.read_apply, ← v10_at, ← scale_host m c]
  show V m c main_v7 _ = V m c main_v7 _
  congr 1
  funext a
  apply Fin.ext
  have ht := lt_N t
  have h0 : (j 0 : Nat) < 512 := (j 0).isLt
  have h1 : (j 1 : Nat) < 1 := (j 1).isLt
  match a with
  | ⟨0, _⟩ => show win0_3.index t 0 * 512 + 1 * (j 0).val = (t.val / 8 * 512 + (j 0).val) % 4096; rw [(index t).2.2.1.1]; omega
  | ⟨1, _⟩ => show win0_3.index t 1 * 1 + 1 * (j 1).val = 0; rw [(index t).2.2.1.2]; omega

theorem iblk4 (c : Dev nD) (t : Fin cfg0.N) : (iblk m c 4 t : Vec Ideal S1x2048 .f32) = ag m c := by
  funext j
  unfold iblk
  rw [View.read_apply]
  show V m c main_arg3 _ = m ((c : Thread nD τ).loc main_arg3) _
  rw [V_main_arg3]
  congr 1
  funext a
  apply Fin.ext
  match a with
  | ⟨0, _⟩ => show win0_4.index t 0 * 1 + 1 * (j 0).val = (j 0).val; rw [(index t).2.2.2.1.1]; omega
  | ⟨1, _⟩ => show win0_4.index t 1 * 2048 + 1 * (j 1).val = (j 1).val; rw [(index t).2.2.2.1.2]; omega

theorem iblk5 (c : Dev nD) (t : Fin cfg0.N) : (iblk m c 5 t : Vec Ideal S512x2048 .f32) = fun j => ah m c (ix2 (rowAt (t.val / 8) (j 0)) (j 1)) := by
  funext j
  unfold iblk
  rw [View.read_apply]
  show V m c main_arg4 _ = m ((c : Thread nD τ).loc main_arg4) _
  rw [V_main_arg4]
  congr 1
  funext a
  apply Fin.ext
  have ht := lt_N t
  have h0 : (j 0 : Nat) < 512 := (j 0).isLt
  match a with
  | ⟨0, _⟩ => show win0_5.index t 0 * 512 + 1 * (j 0).val = (t.val / 8 * 512 + (j 0).val) % 4096; rw [(index t).2.2.2.2.1.1]; omega
  | ⟨1, _⟩ => show win0_5.index t 1 * 2048 + 1 * (j 1).val = (j 1).val; rw [(index t).2.2.2.2.1.2]; omega

/-- A point's part of the product is its column block's. -/
theorem part_eq (c : Dev nD) (t : Fin cfg0.N) : part (iblk m c 0 t) (iblk m c 1 t) = fun y => cell (au m c) (aw m c) (rowAt (t.val / 8) (y 0)) (y 1) (t.val % 8) := by
  rw [iblk0, iblk1]
  rfl

/-- The rows' gradient at the last point of a run is its block of the whole. -/
theorem rows_eq (c : Dev nD) (t : Fin cfg0.N) : rows (full (au m c) (aw m c) (t.val / 8)) (iblk m c 2 t) (iblk m c 3 t) (iblk m c 4 t) (iblk m c 5 t)
    = blockRows (au m c) (aw m c) (ax m c) (ag m c) (ah m c) (t.val / 8) := by
  rw [iblk2, iblk3, iblk4, iblk5]
  rfl

theorem gain_eq (c : Dev nD) (t : Fin cfg0.N) : gain (full (au m c) (aw m c) (t.val / 8)) (iblk m c 2 t) (iblk m c 3 t)
    = fun y => ∑ a : Fin 512, gainRow (au m c) (aw m c) (ax m c) (y 1) (rowAt (t.val / 8) a) := by
  rw [iblk2, iblk3]
  rfl

/-- The finished sum at the last point of a run. -/
theorem sum_eq (c : Dev nD) (n : Nat) (h : n + 1 < cfg0.N) (h7 : (n + 1) % 8 = 7) :
    (fun y => upTo (au m c) (aw m c) n y + part (iblk m c 0 ⟨n + 1, h⟩) (iblk m c 1 ⟨n + 1, h⟩) y) = full (au m c) (aw m c) ((n + 1) / 8) := by
  rw [part_eq, ← upTo_full _ _ _ h7]
  exact upTo_step _ _ n (by omega)

theorem gain_first (c : Dev nD) (n : Nat) (h : n + 1 < cfg0.N) (h7 : n + 1 = 7) :
    gain (full (au m c) (aw m c) ((n + 1) / 8)) (iblk m c 2 ⟨n + 1, h⟩) (iblk m c 3 ⟨n + 1, h⟩) = gainUpTo (au m c) (aw m c) (ax m c) ((n + 1 + 1) / 8) := by
  refine (gain_eq m c ⟨n + 1, h⟩).trans ?_
  have e : (n + 1) / 8 = 0 := by omega
  have e' : (n + 1 + 1) / 8 = 1 := by omega
  funext y
  unfold gainUpTo
  dsimp only
  rw [e, e', Finset.sum_range_one]

theorem gain_next (c : Dev nD) (n : Nat) (h : n + 1 < cfg0.N) (h7 : (n + 1) % 8 = 7) :
    (fun y => gainUpTo (au m c) (aw m c) (ax m c) ((n + 1) / 8) y + gain (full (au m c) (aw m c) ((n + 1) / 8)) (iblk m c 2 ⟨n + 1, h⟩) (iblk m c 3 ⟨n + 1, h⟩) y)
    = gainUpTo (au m c) (aw m c) (ax m c) ((n + 1 + 1) / 8) := by
  have e' : (n + 1 + 1) / 8 = (n + 1) / 8 + 1 := by omega
  have hg := gain_eq m c ⟨n + 1, h⟩
  dsimp only at hg
  rw [hg, e']
  funext y
  unfold gainUpTo
  rw [Finset.sum_range_succ _ ((n + 1) / 8)]

/-- What the sum and the three results hold after point `n`. -/
def Holds (c : Dev nD) (n : ℕ) (h : n < cfg0.N) : Prop :=
  (n % 8 ≠ 7 → (outsAt0 m c n h).2.2.2 = upTo (au m c) (aw m c) n)
  ∧ (n % 8 = 7 → (outsAt0 m c n h).1 = blockRows (au m c) (aw m c) (ax m c) (ag m c) (ah m c) (n / 8)
      ∧ (outsAt0 m c n h).2.1 = blockRows (au m c) (aw m c) (ax m c) (ag m c) (ah m c) (n / 8))
  ∧ (7 ≤ n → (outsAt0 m c n h).2.2.1 = gainUpTo (au m c) (aw m c) (ax m c) ((n + 1) / 8))

theorem holds_first (c : Dev nD) (n : ℕ) (h : n < cfg0.N) (h0 : n % 8 = 0)
    (prev : 7 ≤ n → (outsAt0 m c (n - 1) (Nat.lt_of_le_of_lt (Nat.sub_le _ _) h)).2.2.1 = gainUpTo (au m c) (aw m c) (ax m c) (n / 8)) : Holds m c n h := by
  have e := outsAt0_A m c ⟨n, h⟩ h0 (by dsimp only; omega) (by dsimp only; omega)
  dsimp only at e
  refine ⟨fun _ => ?_, fun h7 => by omega, fun h7 => ?_⟩
  · rw [e]
    dsimp only
    rw [soutA, part_eq]
    funext y
    unfold upTo
    dsimp only
    rw [h0]
    exact (Finset.sum_range_one _).symm
  · rw [e]
    dsimp only
    unfold out0_A_8
    rw [prev h7, show (n + 1) / 8 = n / 8 by omega]

theorem holds_within (c : Dev nD) (n : ℕ) (h : n + 1 < cfg0.N) (h1 : 1 ≤ (n + 1) % 8 ∧ (n + 1) % 8 ≤ 6) (ih : Holds m c n (by omega)) : Holds m c (n + 1) h := by
  have e := outsAt0_B m c ⟨n + 1, h⟩ (by dsimp only; omega) h1 (by dsimp only; omega)
  dsimp only at e
  refine ⟨fun _ => ?_, fun h7 => by omega, fun h7 => ?_⟩
  · rw [e]
    dsimp only
    rw [soutB, part_eq]
    show (fun y => (outsAt0 m c n _).2.2.2 y + _) = _
    rw [ih.1 (by omega)]
    exact upTo_step _ _ n (by omega)
  · rw [e]
    dsimp only
    unfold out0_B_8
    show (outsAt0 m c n _).2.2.1 = _
    rw [ih.2.2 (by omega), show (n + 1 + 1) / 8 = (n + 1) / 8 by omega]

theorem holds_last (c : Dev nD) (n : ℕ) (h : n + 1 < cfg0.N) (h7 : (n + 1) % 8 = 7) (ih : Holds m c n (by omega)) : Holds m c (n + 1) h := by
  have hs := ih.1 (by omega)
  have hr := rows_eq m c ⟨n + 1, h⟩
  dsimp only at hr
  by_cases h8 : n + 1 < 8
  · have e := outsAt0_C m c ⟨n + 1, h⟩ (by dsimp only; omega) (by dsimp only; omega) h7 h8 (by dsimp only; omega)
    dsimp only at e
    refine ⟨fun hn => absurd h7 hn, fun _ => ⟨?_, ?_⟩, fun _ => ?_⟩
    · rw [e]
      dsimp only
      rw [outC6]
      show rows (fun y => (outsAt0 m c n _).2.2.2 y + _) _ _ _ _ = _
      rw [hs, sum_eq m c n h h7]
      exact hr
    · rw [e]
      dsimp only
      rw [outC7]
      show rows (fun y => (outsAt0 m c n _).2.2.2 y + _) _ _ _ _ = _
      rw [hs, sum_eq m c n h h7]
      exact hr
    · rw [e]
      dsimp only
      rw [outC8]
      show gain (fun y => (outsAt0 m c n _).2.2.2 y + _) _ _ = _
      rw [hs, sum_eq m c n h h7]
      exact gain_first m c n h (by omega)
  · have e := outsAt0_D m c ⟨n + 1, h⟩ (by dsimp only; omega) (by dsimp only; omega) h7 h8 (by dsimp only; omega)
    dsimp only at e
    refine ⟨fun hn => absurd h7 hn, fun _ => ⟨?_, ?_⟩, fun _ => ?_⟩
    · rw [e]
      dsimp only
      rw [outD6]
      show rows (fun y => (outsAt0 m c n _).2.2.2 y + _) _ _ _ _ = _
      rw [hs, sum_eq m c n h h7]
      exact hr
    · rw [e]
      dsimp only
      rw [outD7]
      show rows (fun y => (outsAt0 m c n _).2.2.2 y + _) _ _ _ _ = _
      rw [hs, sum_eq m c n h h7]
      exact hr
    · rw [e]
      dsimp only
      rw [outD8]
      show (fun y => (outsAt0 m c n _).2.2.1 y + gain (fun y => (outsAt0 m c n _).2.2.2 y + _) _ _ y) = _
      rw [hs, sum_eq m c n h h7, ih.2.2 (by omega)]
      exact gain_next m c n h h7

theorem holds (c : Dev nD) : ∀ (n : ℕ) (h : n < cfg0.N), Holds m c n h := by
  intro n
  induction n with
  | zero => exact fun h => holds_first m c 0 h rfl fun h7 => absurd h7 (by decide)
  | succ n ih =>
    intro h
    have ih := ih (by omega)
    by_cases h0 : (n + 1) % 8 = 0
    · exact holds_first m c (n + 1) h h0 fun _ => ih.2.2 (by omega)
    · by_cases h7 : (n + 1) % 8 = 7
      · exact holds_last m c n h h7 ih
      · exact holds_within m c n h (by omega) ih

theorem final6 (c : Dev nD) : (dats m 0 c).arrAt 6 cfg0.N = allRows (au m c) (aw m c) (ax m c) (ag m c) (ah m c) := by
  refine (dats m 0 c).arrAt_eq_of_cover 6 (allRows (au m c) (aw m c) (ax m c) (ag m c) (ah m c)) (fun t hf => ?_) fun (i : S4096x2048.Idx) => ?_
  · rw [Value.flushed6, ((holds m c t.val t.isLt).2.1 ((flush0_6 t).mp hf)).1]
    funext j
    rw [View.read_apply]
    show allRows _ _ _ _ _ _ = allRows _ _ _ _ _ _
    congr 1
    funext a
    apply Fin.ext
    have ht := lt_N t
    have h0 : (j 0 : Nat) < 512 := (j 0).isLt
    match a with
    | ⟨0, _⟩ => show (t.val / 8 * 512 + (j 0).val) % 4096 = win0_6.index t 0 * 512 + 1 * (j 0).val; rw [(index t).2.2.2.2.2.1.1]; omega
    | ⟨1, _⟩ => show (j 1).val = win0_6.index t 1 * 2048 + 1 * (j 1).val; rw [(index t).2.2.2.2.2.1.2]; omega
  · have h0 : (i 0 : Nat) < 4096 := (i 0).isLt
    have h1 : (i 1 : Nat) < 2048 := (i 1).isLt
    have hN : cfg0.N = 64 := N_0
    obtain ⟨t, ht⟩ : ∃ t : Fin cfg0.N, t.val = (i 0 : Nat) / 512 * 8 + 7 := ⟨⟨(i 0 : Nat) / 512 * 8 + 7, by omega⟩, rfl⟩
    refine ⟨t, (flush0_6 t).mpr (by omega), ?_⟩
    show i ∈ ((View.whole main_v8_0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [(index t).2.2.2.2.2.1.1]; omega
    | ⟨1, _⟩ => show win0_6.index t 1 * 2048 ≤ (i 1 : Nat) ∧ (i 1 : Nat) < win0_6.index t 1 * 2048 + 2048
                rw [(index t).2.2.2.2.2.1.2]; omega

theorem final7 (c : Dev nD) : (dats m 0 c).arrAt 7 cfg0.N = allRows (au m c) (aw m c) (ax m c) (ag m c) (ah m c) := by
  refine (dats m 0 c).arrAt_eq_of_cover 7 (allRows (au m c) (aw m c) (ax m c) (ag m c) (ah m c)) (fun t hf => ?_) fun (i : S4096x2048.Idx) => ?_
  · rw [Value.flushed7, ((holds m c t.val t.isLt).2.1 ((flush0_7 t).mp hf)).2]
    funext j
    rw [View.read_apply]
    show allRows _ _ _ _ _ _ = allRows _ _ _ _ _ _
    congr 1
    funext a
    apply Fin.ext
    have ht := lt_N t
    have h0 : (j 0 : Nat) < 512 := (j 0).isLt
    match a with
    | ⟨0, _⟩ => show (t.val / 8 * 512 + (j 0).val) % 4096 = win0_7.index t 0 * 512 + 1 * (j 0).val; rw [(index t).2.2.2.2.2.2.1.1]; omega
    | ⟨1, _⟩ => show (j 1).val = win0_7.index t 1 * 2048 + 1 * (j 1).val; rw [(index t).2.2.2.2.2.2.1.2]; omega
  · have h0 : (i 0 : Nat) < 4096 := (i 0).isLt
    have h1 : (i 1 : Nat) < 2048 := (i 1).isLt
    have hN : cfg0.N = 64 := N_0
    obtain ⟨t, ht⟩ : ∃ t : Fin cfg0.N, t.val = (i 0 : Nat) / 512 * 8 + 7 := ⟨⟨(i 0 : Nat) / 512 * 8 + 7, by omega⟩, rfl⟩
    refine ⟨t, (flush0_7 t).mpr (by omega), ?_⟩
    show i ∈ ((View.whole main_v8_1).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512
                rw [(index t).2.2.2.2.2.2.1.1]; omega
    | ⟨1, _⟩ => show win0_7.index t 1 * 2048 ≤ (i 1 : Nat) ∧ (i 1 : Nat) < win0_7.index t 1 * 2048 + 2048
                rw [(index t).2.2.2.2.2.2.1.2]; omega

theorem final8 (c : Dev nD) : (dats m 0 c).arrAt 8 cfg0.N = allGain (au m c) (aw m c) (ax m c) := by
  refine (dats m 0 c).arrAt_eq_of_cover 8 (allGain (au m c) (aw m c) (ax m c)) (fun t hf => ?_) fun (i : S1x2048.Idx) => ?_
  · have ht := lt_N t
    have h63 : t.val = 63 := by have := (flush0_8 t).mp hf; omega
    rw [Value.flushed8, (holds m c t.val t.isLt).2.2 (by omega), show (t.val + 1) / 8 = 8 by omega, gain_full]
    funext j
    rw [View.read_apply]
    show allGain _ _ _ j = allGain _ _ _ _
    congr 1
    funext a
    apply Fin.ext
    match a with
    | ⟨0, _⟩ => show (j 0).val = win0_8.index t 0 * 1 + 1 * (j 0).val; rw [(index t).2.2.2.2.2.2.2.1]; omega
    | ⟨1, _⟩ => show (j 1).val = win0_8.index t 1 * 2048 + 1 * (j 1).val; rw [(index t).2.2.2.2.2.2.2.2]; omega
  · have h0 : (i 0 : Nat) < 1 := (i 0).isLt
    have h1 : (i 1 : Nat) < 2048 := (i 1).isLt
    have hN : cfg0.N = 64 := N_0
    obtain ⟨t, ht⟩ : ∃ t : Fin cfg0.N, t.val = 63 := ⟨⟨63, by omega⟩, rfl⟩
    refine ⟨t, (flush0_8 t).mpr (by omega), ?_⟩
    show i ∈ ((View.whole main_v8_2).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                rw [(index t).2.2.2.2.2.2.2.1]; omega
    | ⟨1, _⟩ => show win0_8.index t 1 * 2048 ≤ (i 1 : Nat) ∧ (i 1 : Nat) < win0_8.index t 1 * 2048 + 2048
                rw [(index t).2.2.2.2.2.2.2.2]; omega

end Cert.NormGrad
-- ==== Proof.Norm.Algebra.lean ====
/-
  THE NORM'S BACKWARD FORMULA TWICE. The kernel scales the gradient less its projection on the normalised row; the
  reference adds two equal corrections, each with half the cube of the scale. The two agree for every extended real: a
  row's mean square is never negative, so the scale is a positive number, or zero where the mean square is infinite.
-/
module

public import proofs.«01_k».proof.Proof.Common.Ereal

@[expose] public section

noncomputable section

namespace Cert.NormGrad

open Idealize.ShloMosaic

theorem width_eq : Ideal.ofBits .f32 0x45000000#32 = ((2048 : ℝ) : EReal) := by
  simp [Ideal.ofBits, Ideal.ieee]; rw [← EReal.coe_mul]; norm_num

theorem minus_half : Ideal.ofBits .f32 0xBF000000#32 = ((-(1 / 2) : ℝ) : EReal) := by
  simp [Ideal.ofBits, Ideal.ieee]; rw [← EReal.coe_mul]; norm_num

theorem small_pos : (0 : EReal) < Ideal.ofBits .f32 0x358637BD#32 := by
  have h : ∃ e : ℝ, 0 < e ∧ Ideal.ofBits .f32 0x358637BD#32 = (e : EReal) := by
    refine ⟨8796093 * 2 ^ (-43 : ℤ), by positivity, ?_⟩
    simp [Ideal.ofBits, Ideal.ieee]
  obtain ⟨e, he, h⟩ := h
  rw [h]
  exact EReal.coe_pos.mpr he

theorem square_nonneg (x : EReal) : 0 ≤ x * x := by
  induction x using EReal.rec with
  | bot => simp
  | coe a => rw [← EReal.coe_mul]; exact EReal.coe_nonneg.mpr (mul_self_nonneg a)
  | top => simp

/-- A mean of squares with the small constant added is positive. -/
theorem meanSq_pos_of {ι : Type*} (s : Finset ι) (x : ι → EReal) {W : EReal} {n : ℝ} (hn : 0 < n) (hW : W = (n : EReal)) :
    0 < Ideal.div (∑ k ∈ s, x k * x k) W + Ideal.ofBits .f32 0x358637BD#32 := by
  refine lt_of_lt_of_le small_pos ?_
  rw [hW, Ideal.div_coe hn.ne']
  exact le_add_of_nonneg_left (mul_nonneg (Finset.sum_nonneg fun k _ => square_nonneg _) (EReal.coe_nonneg.mpr (one_div_pos.mpr hn).le))

theorem meanSq_pos {ι : Type*} (s : Finset ι) (x : ι → EReal) : 0 < Ideal.div (∑ k ∈ s, x k * x k) (Ideal.ofBits .f32 0x45000000#32) + Ideal.ofBits .f32 0x358637BD#32 :=
  meanSq_pos_of s x (by norm_num) width_eq

/-- A factor moves out of the projection. -/
theorem project {ι : Type*} (s : Finset ι) (d x : ι → EReal) {r : EReal} (h0 : 0 ≤ r) (ht : r ≠ ⊤) : ∑ k ∈ s, d k * (x k * r) = (∑ k ∈ s, x k * d k) * r := by
  rw [Cert.Ereal.sum_mul_real s _ h0 ht]
  exact Finset.sum_congr rfl fun k _ => by rw [← mul_assoc, mul_comm (d k)]

/-- The formula at one entry: `v` the mean square, `d` the gradient, `x` the entry, `S` the projection. -/
theorem formula_of {ι : Type*} (s : Finset ι) (v d x : EReal) (ds xs : ι → EReal) (hv : 0 < v) {W : EReal} {n : ℝ} (hn : 0 < n) (hW : W = (n : EReal)) :
    Ideal.rsqrt v * (d - x * Ideal.rsqrt v * Ideal.div (∑ k ∈ s, ds k * (xs k * Ideal.rsqrt v)) W)
    = d * Ideal.rsqrt v + x * Ideal.div ((∑ k ∈ s, xs k * ds k) * (Ideal.ofBits .f32 0xBF000000#32 * Ideal.div (Ideal.rsqrt v) v)) W
      + Ideal.div ((∑ k ∈ s, xs k * ds k) * (Ideal.ofBits .f32 0xBF000000#32 * Ideal.div (Ideal.rsqrt v) v)) W * x := by
  rw [hW, minus_half, Ideal.div_coe hn.ne', Ideal.div_coe hn.ne']
  induction v using EReal.rec with
  | bot => exact absurd hv (by simp)
  | top =>
    rw [Ideal.rsqrt_top, Ideal.div, if_neg (by decide), zero_mul]
    simp
  | coe a =>
    have ha : 0 < a := EReal.coe_pos.mp hv
    have hq : 0 < (√a)⁻¹ := inv_pos.mpr (Real.sqrt_pos.mpr ha)
    have hr : Ideal.rsqrt (a : EReal) = (((√a)⁻¹ : ℝ) : EReal) := by rw [Ideal.rsqrt_coe, if_neg (not_lt.mpr ha.le), if_neg ha.ne']
    have h1 : (1 / a : ℝ) = (√a)⁻¹ * (√a)⁻¹ := by rw [← mul_inv, Real.mul_self_sqrt ha.le, one_div]
    rw [hr, Ideal.div_coe ha.ne', h1]
    generalize (√a)⁻¹ = r at hq
    rw [project s ds xs (EReal.coe_nonneg.mpr hq.le) (EReal.coe_ne_top r)]
    generalize ∑ k ∈ s, xs k * ds k = S
    rw [sub_eq_add_neg, EReal.left_distrib_of_nonneg_of_ne_top (EReal.coe_nonneg.mpr hq.le) (EReal.coe_ne_top r), add_assoc, mul_comm (r : EReal) d]
    congr 1
    have hm : -(x * (r : EReal) * (S * (r : EReal) * ((1 / n : ℝ) : EReal))) = x * S * ((-(r * r / n) : ℝ) : EReal) := by
      rw [show -(x * (r : EReal) * (S * (r : EReal) * ((1 / n : ℝ) : EReal))) = ((-1 : ℝ) : EReal) * (x * (r : EReal) * (S * (r : EReal) * ((1 / n : ℝ) : EReal))) by
        rw [EReal.coe_neg, EReal.coe_one, neg_one_mul]]
      rw [show ((-1 : ℝ) : EReal) * (x * (r : EReal) * (S * (r : EReal) * ((1 / n : ℝ) : EReal))) = x * S * (((-1 : ℝ) : EReal) * (r : EReal) * (r : EReal) * ((1 / n : ℝ) : EReal)) by ac_rfl]
      rw [← EReal.coe_mul, ← EReal.coe_mul, ← EReal.coe_mul]
      congr 2
      ring
    have hy : x * (S * (((-(1 / 2) : ℝ) : EReal) * ((r : EReal) * ((r * r : ℝ) : EReal))) * ((1 / n : ℝ) : EReal)) = x * S * ((-(r * r * r / (2 * n)) : ℝ) : EReal) := by
      rw [show x * (S * (((-(1 / 2) : ℝ) : EReal) * ((r : EReal) * ((r * r : ℝ) : EReal))) * ((1 / n : ℝ) : EReal))
        = x * S * (((-(1 / 2) : ℝ) : EReal) * ((r : EReal) * ((r * r : ℝ) : EReal)) * ((1 / n : ℝ) : EReal)) by ac_rfl]
      rw [← EReal.coe_mul, ← EReal.coe_mul, ← EReal.coe_mul]
      congr 2
      ring
    rw [hm, mul_comm _ x, hy]
    rw [show ∀ y : EReal, y + y = y * ((2 : ℝ) : EReal) from fun y => by
      rw [show ((2 : ℝ) : EReal) = 1 + 1 by rw [← EReal.coe_one, ← EReal.coe_add]; norm_num, EReal.left_distrib_of_nonneg zero_le_one zero_le_one, mul_one]]
    rw [show (r : EReal) * (x * S * ((-(r * r / n) : ℝ) : EReal)) = x * S * ((r : EReal) * ((-(r * r / n) : ℝ) : EReal)) by ac_rfl, mul_assoc (x * S)]
    rw [← EReal.coe_mul, ← EReal.coe_mul]
    congr 2
    ring

theorem formula {ι : Type*} (s : Finset ι) (v d x : EReal) (ds xs : ι → EReal) (hv : 0 < v) :
    Ideal.rsqrt v * (d - x * Ideal.rsqrt v * Ideal.div (∑ k ∈ s, ds k * (xs k * Ideal.rsqrt v)) (Ideal.ofBits .f32 0x45000000#32))
    = d * Ideal.rsqrt v + x * Ideal.div ((∑ k ∈ s, xs k * ds k) * (Ideal.ofBits .f32 0xBF000000#32 * Ideal.div (Ideal.rsqrt v) v)) (Ideal.ofBits .f32 0x45000000#32)
      + Ideal.div ((∑ k ∈ s, xs k * ds k) * (Ideal.ofBits .f32 0xBF000000#32 * Ideal.div (Ideal.rsqrt v) v)) (Ideal.ofBits .f32 0x45000000#32) * x :=
  formula_of s v d x ds xs hv (by norm_num) width_eq

end Cert.NormGrad
-- ==== Proof.Norm.Claim.lean ====
/-
  THE CLAIM. The kernel's rows' gradient and gain's gradient are the reference's, for all inputs.
-/
module

public import proofs.«01_k».proof.Proof.Norm.Array
public import proofs.«01_k».proof.Proof.Norm.Algebra

@[expose] public section

set_option maxRecDepth 16384

noncomputable section

namespace Cert.NormGrad

open Idealize.ShloMosaic Idealize.ShloMosaic.TcCoe Idealize.ShloMosaic.Tactic Idealize.SL.Sem
open Cert.DnFromHalves (beside)

section Reference

open Cert.NormRefIdeal Cert.NormRefIdeal.Read

variable (u : Pair) (w : Weight) (x : Rows) (g : Gain) (dh : Rows)

theorem v26_at (r : Fin 4096) (c : Fin 5632) : val_main_v26 (F := Ideal) u (ix2 r c) = u (ix3 0 r c) := by
  pointwise [val_main_v26, val_main_v25, val_main_v1]
theorem v28_at (r : Fin 4096) (c : Fin 5632) : val_main_v28 (F := Ideal) u (ix2 r c) = u (ix3 1 r c) := by
  pointwise [val_main_v28, val_main_v27, val_main_v1]

theorem v29_at (r : Fin 4096) (c : Fin 11264) : val_main_v29 (F := Ideal) u (ix2 r c) = beside u r c := by
  pointwise [val_main_v29]
  unfold beside
  split
  next h =>
    rw [v26_at]
    congr 1
    funext a
    apply Fin.ext
    match a with
    | ⟨0, _⟩ => show 0 = c.val / 5632; omega
    | ⟨1, _⟩ => rfl
    | ⟨2, _⟩ => show c.val = c.val % 5632; omega
  next h =>
    rw [v28_at]
    congr 1
    funext a
    apply Fin.ext
    match a with
    | ⟨0, _⟩ => show 1 = c.val / 5632; omega
    | ⟨1, _⟩ => rfl
    | ⟨2, _⟩ => show c.val - 5632 = c.val % 5632; omega

theorem v30_at (a : Fin 4096) (b : Fin 2048) : val_main_v30 (F := Ideal) u w (ix2 a b) = dn u w a b := by
  pointwise [val_main_v30, val_main_v0]
  simp only [v29_at]
  rfl

theorem v35_at (a : Fin 4096) (b : Fin 2048) : val_main_v35 (F := Ideal) u w g (ix2 a b) = dn u w a b * g (ix2 0 b) := by
  pointwise [val_main_v35, val_main_v34, val_main_v16, val_main_v2]
  rw [v30_at]

theorem v39_at (a : Fin 4096) : val_main_v39 (F := Ideal) u w x g (ix2 a 0) = ∑ k : Fin 2048, x (ix2 a k) * (dn u w a k * g (ix2 0 k)) := by
  pointwise [val_main_v39, val_main_v38, val_main_v37, val_main_cst_5]
  simp only [v35_at]

theorem v13_at (a : Fin 4096) : val_main_v13 (F := Ideal) x (ix2 a 0) = Ideal.ofBits .f32 0xBF000000#32 * Ideal.div (scale x a) (meanSq x a) := by
  pointwise [val_main_v13, val_main_v12, val_main_cst_2, val_main_v11]
  rw [v10_at, v9_at]

theorem v44_at (a : Fin 4096) : val_main_v44 (F := Ideal) u w x g (ix2 a 0)
    = Ideal.div ((∑ k : Fin 2048, x (ix2 a k) * (dn u w a k * g (ix2 0 k))) * (Ideal.ofBits .f32 0xBF000000#32 * Ideal.div (scale x a) (meanSq x a))) width := by
  pointwise [val_main_v44, val_main_v42, val_main_v43, val_main_cst_6]
  rw [v39_at, v13_at]
  rfl

theorem v45_at (a : Fin 4096) : val_main_v45 (F := Ideal) u w x g (ix1 a) = val_main_v44 (F := Ideal) u w x g (ix2 a 0) := by
  pointwise [val_main_v45, val_main_cst_7]
  exact Fin.sum_univ_one fun k => val_main_v44 (F := Ideal) u w x g (ix2 a k)

theorem v50_at (a : Fin 4096) (b : Fin 2048) : val_main_v50 (F := Ideal) u w x g (ix2 a b)
    = through (dn u w a) (fun k => x (ix2 a k)) (fun k => g (ix2 0 k)) (scale x a) b := by
  pointwise [val_main_v50, val_main_v48, val_main_v41, val_main_v47, val_main_v49, val_main_v46, val_main_v40]
  rw [v35_at, v45_at, v44_at, v10_at]
  exact (formula Finset.univ (meanSq x a) _ _ (fun k => dn u w a k * g (ix2 0 k)) (fun k => x (ix2 a k)) (meanSq_pos _ _)).symm

theorem ref_rows : val_main_v52 (F := Ideal) u w x g dh = allRows u w x g dh := by
  funext y
  obtain ⟨a, b, rfl⟩ := two y
  pointwise [val_main_v52]
  rw [v50_at]
  rfl

theorem ref_rows_half : val_main_v54 (F := Ideal) u w x g dh = allRows u w x g dh := by
  rw [← ref_rows]
  funext y
  obtain ⟨a, b, rfl⟩ := two y
  pointwise [val_main_v54, val_main_v53, val_main_v52]

theorem v31_at (a : Fin 4096) (b : Fin 2048) : val_main_v31 (F := Ideal) u w x (ix2 a b) = gainRow u w x b a := by
  pointwise [val_main_v31, val_main_v15, val_main_v14]
  rw [v30_at, v10_at, mul_comm]
  rfl

theorem ref_gain : val_main_v51 (F := Ideal) u w x = allGain u w x := by
  funext y
  obtain ⟨a, b, rfl⟩ := two y
  pointwise [val_main_v51, val_main_v36, val_main_v33, val_main_v32, val_main_cst_3, val_main_cst_4]
  simp only [v31_at]
  exact Fin.sum_univ_one fun _ => ∑ r : Fin 4096, gainRow u w x b r

end Reference

theorem algebraic : Cert.algebraic_NormIdeal_NormRefIdeal := by
  intro m g m' g' _ hargs
  refine ⟨fun c => allRows (au m c) (aw m c) (ax m c) (ag m c) (ah m c), fun c => allRows (au m c) (aw m c) (ax m c) (ag m c) (ah m c), fun c => allGain (au m c) (aw m c) (ax m c), ?_, ?_⟩
  · refine (θ_run _ _ _).mono (fun r h c => ?_) (Cert.NormIdeal.Value.run_blocks m g)
    obtain ⟨h6, h7, h8, hk⟩ := h c
    exact ⟨h6.trans (final6 m c), h7.trans (final7 m c), h8.trans (final8 m c), hk⟩
  · refine (θ_run _ _ _).mono (fun r h c => ?_) (Cert.NormRefIdeal.Value.run m' g')
    obtain ⟨h52, h54, h51, hk⟩ := h c
    obtain ⟨e0, e1, e2, e3, e4⟩ := hargs c
    refine ⟨h52.trans ?_, h54.trans ?_, h51.trans ?_, hk⟩
    · rw [Cert.NormRefIdeal.Read.val_main_v52_eq, e0, e1, e2, e3, e4]
      exact ref_rows _ _ _ _ _
    · rw [Cert.NormRefIdeal.Read.val_main_v54_eq, e0, e1, e2, e3, e4]
      exact ref_rows_half _ _ _ _ _
    · rw [Cert.NormRefIdeal.Read.val_main_v51_eq, e0, e1, e2]
      exact ref_gain _ _ _

/-- The reference runs, leaves its arguments, and declares no semaphore. -/
theorem frame_ref : Cert.quiescent_NormRefIdeal := fun m g _ =>
  (θ_run _ _ _).mono (fun r h => ⟨fun c => (h c).2.2.2, sem_eq_zero_of_no_sems (by decide) r.2⟩) (Cert.NormRefIdeal.Value.run m g)

end Cert.NormGrad
-- ==== Proof.Product.DwIn.lean ====
/-
  THE GRADIENT OF THE FEED-FORWARD'S FIRST WEIGHT, from the normalised rows `n` and the two gradients (gate's and
  up-projection's) it is given: `n` transposed times the two side by side. 44 grid points write 2 row blocks of 22 column
  blocks each, every sum whole.
-/
module

public import proofs.«01_k».proof.Defs
public import proofs.«01_k».proof.Proof.Gen.DwInIdeal.Value
public import proofs.«01_k».proof.Proof.Gen.DwInRefIdeal.Run
public import proofs.«01_k».proof.Proof.Gen.DwInRefIdeal.Read
public import Idealize.ShloMosaic.Lib.Pointwise
public import Idealize.ShloMosaic.Lib.Pipeline.ReadBack

@[expose] public section

set_option maxRecDepth 16384

noncomputable section

namespace Cert.DwInGrad

open Idealize.ShloMosaic Idealize.ShloMosaic.TcCoe Idealize.ShloMosaic.Tactic Cert.DwInIdeal Cert.DwInIdeal.Gen Idealize.SL.Sem
open Idealize.ShloMosaic.Pipeline (Dat Cfg Window)

abbrev Rows := Vec Ideal S4096x2048 .bf16
abbrev Pair := Vec Ideal S2x4096x5632 .bf16
abbrev Res := Vec Ideal S2048x11264 .bf16

/-- The two halves side by side: column `c` of 11264. -/
def beside (g : Pair) (r : Fin 4096) (c : Fin 11264) : EReal := g (ix3 ⟨c.val / 5632, by omega⟩ r ⟨c.val % 5632, by omega⟩)

/-- The weight's gradient. -/
def dw (n : Rows) (g : Pair) : Res := fun y => ∑ r : Fin 4096, n (ix2 r (y 0)) * beside g r (y 1)

theorem pay1_apply (n : Vec Ideal S4096x1024 .bf16) (g : Vec Ideal S1x4096x512 .bf16) (i : Fin 1024) (j : Fin 512) :
    k0_pay1 n g (ix2 i j) = ∑ r : Fin 4096, n (ix2 r i) * g (ix3 0 r j) := by
  pointwise [k0_pay1]

theorem out_eq (n : Vec Ideal S4096x1024 .bf16) (g : Vec Ideal S1x4096x512 .bf16) : out0_2 n g = k0_pay1 n g := by
  unfold out0_2
  rw [View.canon_cons_unit_lit _ _ _ (by decide), View.ld_unit_lit _ _ (by decide), View.ld_unit_lit _ _ (by decide)]

variable (m : (ℓ : Loc nD τ sig) → Buf (Elt Ideal) ℓ)

abbrev an (c : Dev nD) : Rows := m ((c : Thread nD τ).loc main_arg0)
abbrev ag (c : Dev nD) : Pair := m ((c : Thread nD τ).loc main_arg1)

theorem index : ∀ t : Fin cfg0.N, (win0_0.index t 0 = 0 ∧ win0_0.index t 1 = t.val / 22)
    ∧ (win0_1.index t 0 = t.val % 22 / 11 ∧ win0_1.index t 1 = 0 ∧ win0_1.index t 2 = t.val % 22 % 11)
    ∧ win0_2.index t 0 = t.val / 22 ∧ win0_2.index t 1 = t.val % 22 :=
  (by decide +kernel : ∀ t : Fin grid0.N, (win0_0.index t 0 = 0 ∧ win0_0.index t 1 = t.val / 22)
    ∧ (win0_1.index t 0 = t.val % 22 / 11 ∧ win0_1.index t 1 = 0 ∧ win0_1.index t 2 = t.val % 22 % 11)
    ∧ win0_2.index t 0 = t.val / 22 ∧ win0_2.index t 1 = t.val % 22)

theorem lt_N (t : Fin cfg0.N) : t.val < 44 := by have := t.isLt; have hN : cfg0.N = 44 := N_0; omega

/-- Row `i` of point `t`'s block of the result. -/
def rowAt (t : Fin cfg0.N) (i : Fin 1024) : Fin 2048 := ⟨t.val / 22 * 1024 + i.val, by have := lt_N t; omega⟩
/-- Column `j` of point `t`'s block of the result. -/
def colAt (t : Fin cfg0.N) (j : Fin 512) : Fin 11264 := ⟨t.val % 22 * 512 + j.val, by omega⟩

theorem iblk0 (c : Dev nD) (t : Fin cfg0.N) : (iblk m c 0 t : Vec Ideal S4096x1024 .bf16) = fun j => an m c (ix2 (j 0) (rowAt t (j 1))) := by
  funext j
  unfold iblk
  rw [View.read_apply]
  show V m c main_arg0 _ = m ((c : Thread nD τ).loc main_arg0) _
  unfold V
  congr 1
  funext a
  apply Fin.ext
  match a with
  | ⟨0, _⟩ => show win0_0.index t 0 * 4096 + 1 * (j 0).val = (j 0).val; rw [(index t).1.1]; omega
  | ⟨1, _⟩ => show win0_0.index t 1 * 1024 + 1 * (j 1).val = t.val / 22 * 1024 + (j 1).val; rw [(index t).1.2]; omega

theorem iblk1 (c : Dev nD) (t : Fin cfg0.N) : (iblk m c 1 t : Vec Ideal S1x4096x512 .bf16) = fun j => beside (ag m c) (j 1) (colAt t (j 2)) := by
  funext j
  unfold iblk
  rw [View.read_apply]
  show V m c main_arg1 _ = m ((c : Thread nD τ).loc main_arg1) _
  unfold V
  congr 1
  funext a
  apply Fin.ext
  have h0 : (j 0 : Nat) < 1 := (j 0).isLt
  have h2 : (j 2 : Nat) < 512 := (j 2).isLt
  match a with
  | ⟨0, _⟩ => show win0_1.index t 0 * 1 + 1 * (j 0).val = (t.val % 22 * 512 + (j 2).val) / 5632; rw [(index t).2.1.1]; omega
  | ⟨1, _⟩ => show win0_1.index t 1 * 4096 + 1 * (j 1).val = (j 1).val; rw [(index t).2.1.2.1]; omega
  | ⟨2, _⟩ => show win0_1.index t 2 * 512 + 1 * (j 2).val = (t.val % 22 * 512 + (j 2).val) % 5632; rw [(index t).2.1.2.2]; omega

theorem final2 (c : Dev nD) : (dats m 0 c).arrAt 2 cfg0.N = dw (an m c) (ag m c) := by
  refine (dats m 0 c).arrAt_eq_of_cover 2 (dw (an m c) (ag m c)) (fun t _ => ?_) fun (i : S2048x11264.Idx) => ?_
  · rw [Value.flushed2, out_eq, iblk0, iblk1]
    funext (j : S1024x512.Idx)
    rw [View.read_apply]
    refine (congrArg (k0_pay1 _ _) (show j = ix2 (j 0) (j 1) from by funext a; match a with | ⟨0, _⟩ => rfl | ⟨1, _⟩ => rfl)).trans ((pay1_apply _ _ _ _).trans ?_)
    show dw _ _ (ix2 (rowAt t (j 0)) (colAt t (j 1))) = dw _ _ _
    congr 1
    funext a
    apply Fin.ext
    match a with
    | ⟨0, _⟩ => show t.val / 22 * 1024 + (j 0).val = win0_2.index t 0 * 1024 + 1 * (j 0).val; rw [(index t).2.2.1]; omega
    | ⟨1, _⟩ => show t.val % 22 * 512 + (j 1).val = win0_2.index t 1 * 512 + 1 * (j 1).val; rw [(index t).2.2.2]; omega
  · have h0 : (i 0 : Nat) < 2048 := (i 0).isLt
    have h1 : (i 1 : Nat) < 11264 := (i 1).isLt
    have hN : cfg0.N = 44 := N_0
    obtain ⟨t, ht⟩ : ∃ t : Fin cfg0.N, t.val = (i 0 : Nat) / 1024 * 22 + (i 1 : Nat) / 512 := ⟨⟨(i 0 : Nat) / 1024 * 22 + (i 1 : Nat) / 512, by omega⟩, rfl⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index t).2.2.1]; omega
    | ⟨1, _⟩ => show win0_2.index t 1 * 512 ≤ (i 1 : Nat) ∧ (i 1 : Nat) < win0_2.index t 1 * 512 + 512
                rw [(index t).2.2.2]; omega

section Reference

open Cert.DwInRefIdeal Cert.DwInRefIdeal.Read

/-- The gate's half. -/
theorem v10_at (g : Pair) (r : Fin 4096) (c : Fin 5632) : val_main_v10 (F := Ideal) g (ix2 r c) = g (ix3 0 r c) := by
  pointwise [val_main_v10, val_main_v9, val_main_v1]

/-- The up-projection's half. -/
theorem v12_at (g : Pair) (r : Fin 4096) (c : Fin 5632) : val_main_v12 (F := Ideal) g (ix2 r c) = g (ix3 1 r c) := by
  pointwise [val_main_v12, val_main_v11, val_main_v1]

theorem v13_at (g : Pair) (r : Fin 4096) (c : Fin 11264) : val_main_v13 (F := Ideal) g (ix2 r c) = beside g r c := by
  pointwise [val_main_v13]
  unfold beside
  split
  next h =>
    rw [v10_at]
    congr 1
    funext a
    apply Fin.ext
    match a with
    | ⟨0, _⟩ => show 0 = c.val / 5632; omega
    | ⟨1, _⟩ => rfl
    | ⟨2, _⟩ => show c.val = c.val % 5632; omega
  next h =>
    rw [v12_at]
    congr 1
    funext a
    apply Fin.ext
    match a with
    | ⟨0, _⟩ => show 1 = c.val / 5632; omega
    | ⟨1, _⟩ => rfl
    | ⟨2, _⟩ => show c.val - 5632 = c.val % 5632; omega

theorem ref_eq (n : Rows) (g : Pair) : val_main_v16 (F := Ideal) n g = dw n g := by
  funext y
  obtain ⟨i, j, rfl⟩ : ∃ i j, y = ix2 i j := ⟨y 0, y 1, by funext b; match b with | ⟨0, _⟩ => rfl | ⟨1, _⟩ => rfl⟩
  pointwise [val_main_v16, val_main_v15, val_main_v14, val_main_v0]
  show _ = ∑ r : Fin 4096, n (ix2 r i) * beside g r j
  exact Finset.sum_congr rfl fun r _ => by rw [v13_at, mul_comm]

end Reference

theorem algebraic : Cert.algebraic_DwInIdeal_DwInRefIdeal := by
  intro m g m' g' _ hargs
  refine ⟨fun c => dw (an m c) (ag m c), ?_, ?_⟩
  · refine (θ_run _ _ _).mono (fun r h c => ?_) (Cert.DwInIdeal.Value.run_blocks m g)
    obtain ⟨h2, hk⟩ := h c
    exact ⟨h2.trans (final2 m c), hk⟩
  · refine (θ_run _ _ _).mono (fun r h c => ?_) (Cert.DwInRefIdeal.Value.run m' g')
    obtain ⟨h16, hk⟩ := h c
    obtain ⟨e0, e1⟩ := hargs c
    refine ⟨h16.trans ?_, hk⟩
    rw [Cert.DwInRefIdeal.Read.val_main_v16_eq, e0, e1]
    exact ref_eq _ _

/-- The reference runs, leaves its arguments, and declares no semaphore. -/
theorem frame_ref : Cert.quiescent_DwInRefIdeal := fun m g _ =>
  (θ_run _ _ _).mono (fun r h => ⟨fun c => (h c).2, sem_eq_zero_of_no_sems (by decide) r.2⟩) (Cert.DwInRefIdeal.Value.run m g)

end Cert.DwInGrad
-- ==== Proof.Product.DwOut.lean ====
/-
  THE GRADIENT OF THE FEED-FORWARD'S SECOND WEIGHT, from the activations `a` and the incoming gradient `h` it is given:
  half of `a` transposed times `h`. 22 grid points write 11 row blocks of 2 column blocks each, every sum whole.
-/
module

public import proofs.«01_k».proof.Defs
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Common.Ereal
public import Idealize.ShloMosaic.Lib.Pointwise
public import Idealize.ShloMosaic.Lib.Pipeline.ReadBack

@[expose] public section

set_option maxRecDepth 16384

noncomputable section

namespace Cert.DwOutGrad

open Idealize.ShloMosaic Idealize.ShloMosaic.TcCoe Idealize.ShloMosaic.Tactic Cert.DwOutIdeal Cert.DwOutIdeal.Gen Idealize.SL.Sem Cert.Ereal
open Idealize.ShloMosaic.Pipeline (Dat Cfg Window)

abbrev Act := Vec Ideal S4096x5632 .bf16
abbrev Grad := Vec Ideal S4096x2048 .bf16
abbrev Res := Vec Ideal S5632x2048 .bf16

/-- The weight's gradient: every entry half a sum over the 4096 rows. -/
def dw (a : Act) (h : Grad) : Res := fun y => (∑ r : Fin 4096, a (ix2 r (y 0)) * h (ix2 r (y 1))) * Ideal.ofBits .f32 0x3F000000#32

theorem pay1_apply (a : Vec Ideal S4096x512 .bf16) (h : Vec Ideal S4096x1024 .bf16) (i : Fin 512) (j : Fin 1024) :
    k0_pay1 a h (ix2 i j) = (∑ r : Fin 4096, a (ix2 r i) * h (ix2 r j)) * Ideal.ofBits .f32 0x3F000000#32 := by
  pointwise [k0_pay1]

theorem out_eq (a : Vec Ideal S4096x512 .bf16) (h : Vec Ideal S4096x1024 .bf16) : out0_2 a h = k0_pay1 a h := by
  unfold out0_2
  rw [View.canon_cons_unit_lit _ _ _ (by decide), View.ld_unit_lit _ _ (by decide), View.ld_unit_lit _ _ (by decide)]

variable (m : (ℓ : Loc nD τ sig) → Buf (Elt Ideal) ℓ)

abbrev aa (c : Dev nD) : Act := m ((c : Thread nD τ).loc main_arg0)
abbrev ah (c : Dev nD) : Grad := m ((c : Thread nD τ).loc main_arg1)

theorem index : ∀ t : Fin cfg0.N, (win0_0.index t 0 = 0 ∧ win0_0.index t 1 = t.val % 11) ∧ (win0_1.index t 0 = 0 ∧ win0_1.index t 1 = t.val / 11)
    ∧ (win0_2.index t 0 = t.val % 11 ∧ win0_2.index t 1 = t.val / 11) :=
  (by decide +kernel : ∀ t : Fin grid0.N, (win0_0.index t 0 = 0 ∧ win0_0.index t 1 = t.val % 11) ∧ (win0_1.index t 0 = 0 ∧ win0_1.index t 1 = t.val / 11)
    ∧ (win0_2.index t 0 = t.val % 11 ∧ win0_2.index t 1 = t.val / 11))

theorem lt_N (t : Fin cfg0.N) : t.val < 22 := by have := t.isLt; have hN : cfg0.N = 22 := N_0; omega

/-- Row `i` of point `t`'s block of the result. -/
def rowAt (t : Fin cfg0.N) (i : Fin 512) : Fin 5632 := ⟨t.val % 11 * 512 + i.val, by omega⟩
/-- Column `j` of point `t`'s block of the result. -/
def colAt (t : Fin cfg0.N) (j : Fin 1024) : Fin 2048 := ⟨t.val / 11 * 1024 + j.val, by have := lt_N t; omega⟩

theorem iblk0 (c : Dev nD) (t : Fin cfg0.N) : (iblk m c 0 t : Vec Ideal S4096x512 .bf16) = fun j => aa m c (ix2 (j 0) (rowAt t (j 1))) := by
  funext j
  unfold iblk
  rw [View.read_apply]
  show V m c main_arg0 _ = m ((c : Thread nD τ).loc main_arg0) _
  unfold V
  congr 1
  funext a
  apply Fin.ext
  match a with
  | ⟨0, _⟩ => show win0_0.index t 0 * 4096 + 1 * (j 0).val = (j 0).val; rw [(index t).1.1]; omega
  | ⟨1, _⟩ => show win0_0.index t 1 * 512 + 1 * (j 1).val = t.val % 11 * 512 + (j 1).val; rw [(index t).1.2]; omega

theorem iblk1 (c : Dev nD) (t : Fin cfg0.N) : (iblk m c 1 t : Vec Ideal S4096x1024 .bf16) = fun j => ah m c (ix2 (j 0) (colAt t (j 1))) := by
  funext j
  unfold iblk
  rw [View.read_apply]
  show V m c main_arg1 _ = m ((c : Thread nD τ).loc main_arg1) _
  unfold V
  congr 1
  funext a
  apply Fin.ext
  match a with
  | ⟨0, _⟩ => show win0_1.index t 0 * 4096 + 1 * (j 0).val = (j 0).val; rw [(index t).2.1.1]; omega
  | ⟨1, _⟩ => show win0_1.index t 1 * 1024 + 1 * (j 1).val = t.val / 11 * 1024 + (j 1).val; rw [(index t).2.1.2]; omega

theorem final2 (c : Dev nD) : (dats m 0 c).arrAt 2 cfg0.N = dw (aa m c) (ah m c) := by
  refine (dats m 0 c).arrAt_eq_of_cover 2 (dw (aa m c) (ah m c)) (fun t _ => ?_) fun (i : S5632x2048.Idx) => ?_
  · rw [Value.flushed2, out_eq, iblk0, iblk1]
    funext (j : S512x1024.Idx)
    rw [View.read_apply]
    refine (congrArg (k0_pay1 _ _) (show j = ix2 (j 0) (j 1) from by funext a; match a with | ⟨0, _⟩ => rfl | ⟨1, _⟩ => rfl)).trans ((pay1_apply _ _ _ _).trans ?_)
    show dw _ _ (ix2 (rowAt t (j 0)) (colAt t (j 1))) = dw _ _ _
    congr 1
    funext a
    apply Fin.ext
    match a with
    | ⟨0, _⟩ => show t.val % 11 * 512 + (j 0).val = win0_2.index t 0 * 512 + 1 * (j 0).val; rw [(index t).2.2.1]; omega
    | ⟨1, _⟩ => show t.val / 11 * 1024 + (j 1).val = win0_2.index t 1 * 1024 + 1 * (j 1).val; rw [(index t).2.2.2]; omega
  · have h0 : (i 0 : Nat) < 5632 := (i 0).isLt
    have h1 : (i 1 : Nat) < 2048 := (i 1).isLt
    have hN : cfg0.N = 22 := N_0
    obtain ⟨t, ht⟩ : ∃ t : Fin cfg0.N, t.val = (i 1 : Nat) / 1024 * 11 + (i 0 : Nat) / 512 := ⟨⟨(i 1 : Nat) / 1024 * 11 + (i 0 : Nat) / 512, by omega⟩, rfl⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512
                rw [(index t).2.2.1]; omega
    | ⟨1, _⟩ => show win0_2.index t 1 * 1024 ≤ (i 1 : Nat) ∧ (i 1 : Nat) < win0_2.index t 1 * 1024 + 1024
                rw [(index t).2.2.2]; omega

section Reference

open Cert.DwOutRefIdeal Cert.DwOutRefIdeal.Read

theorem ref_eq (a : Act) (h : Grad) : val_main_v10 (F := Ideal) a h = dw a h := by
  funext y
  obtain ⟨i, j, rfl⟩ : ∃ i j, y = ix2 i j := ⟨y 0, y 1, by funext b; match b with | ⟨0, _⟩ => rfl | ⟨1, _⟩ => rfl⟩
  pointwise [val_main_v10, val_main_v9, val_main_v8, val_main_v7, val_main_v6, val_main_v1, val_main_v0]
  show _ = (∑ r : Fin 4096, a (ix2 r i) * h (ix2 r j)) * Ideal.ofBits .f32 0x3F000000#32
  rw [half_f32, Finset.sum_congr rfl fun r _ => mul_comm (a (ix2 r i)) _, sum_half]
  refine Finset.sum_congr rfl fun r _ => ?_
  rw [show val_main_cst_1 (F := Ideal) _ = ((1 / 2 : ℝ) : EReal) from (val_main_cst_1_apply _).trans half_f32]

end Reference

theorem algebraic : Cert.algebraic_DwOutIdeal_DwOutRefIdeal := by
  intro m g m' g' _ hargs
  refine ⟨fun c => dw (aa m c) (ah m c), ?_, ?_⟩
  · refine (θ_run _ _ _).mono (fun r h c => ?_) (Cert.DwOutIdeal.Value.run_blocks m g)
    obtain ⟨h2, hk⟩ := h c
    exact ⟨h2.trans (final2 m c), hk⟩
  · refine (θ_run _ _ _).mono (fun r h c => ?_) (Cert.DwOutRefIdeal.Value.run m' g')
    obtain ⟨h10, hk⟩ := h c
    obtain ⟨e0, e1⟩ := hargs c
    refine ⟨h10.trans ?_, hk⟩
    rw [Cert.DwOutRefIdeal.Read.val_main_v10_eq, e0, e1]
    exact ref_eq _ _

/-- The reference runs, leaves its arguments, and declares no semaphore. -/
theorem frame_ref : Cert.quiescent_DwOutRefIdeal := fun m g _ =>
  (θ_run _ _ _).mono (fun r h => ⟨fun c => (h c).2, sem_eq_zero_of_no_sems (by decide) r.2⟩) (Cert.DwOutRefIdeal.Value.run m g)

end Cert.DwOutGrad
-- ==== Proof.Product.FfnOut.lean ====
/-
  THE FEED-FORWARD'S SECOND PRODUCT with its residual: `x` plus half of `a` times the weight. 16 grid points write 8 row
  blocks of 2 column blocks each, every sum whole.
-/
module

public import proofs.«01_k».proof.Defs
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Pointwise
public import Idealize.ShloMosaic.Lib.Pipeline.ReadBack

@[expose] public section

set_option maxRecDepth 16384

noncomputable section

namespace Cert.FfnSum

open Idealize.ShloMosaic Idealize.ShloMosaic.TcCoe Idealize.ShloMosaic.Tactic Cert.FfnOutIdeal Cert.FfnOutIdeal.Gen Idealize.SL.Sem
open Idealize.ShloMosaic.Pipeline (Dat Cfg Window)

abbrev Act := Vec Ideal S4096x5632 .bf16
abbrev Weight := Vec Ideal S5632x2048 .bf16
abbrev Stream := Vec Ideal S4096x2048 .f32

/-- The stream after the feed-forward. -/
def added (a : Act) (w : Weight) (x : Stream) : Stream :=
  fun y => x y + Ideal.ofBits .f32 0x3F000000#32 * ∑ k : Fin 5632, a (ix2 (y 0) k) * w (ix2 k (y 1))

theorem pay1_apply (a : Vec Ideal S512x5632 .bf16) (w : Vec Ideal S5632x1024 .bf16) (x : Vec Ideal S512x1024 .f32) (i : Fin 512) (j : Fin 1024) :
    k0_pay1 a w x (ix2 i j) = x (ix2 i j) + Ideal.ofBits .f32 0x3F000000#32 * ∑ k : Fin 5632, a (ix2 i k) * w (ix2 k j) := by
  pointwise [k0_pay1]

theorem out_eq (a : Vec Ideal S512x5632 .bf16) (w : Vec Ideal S5632x1024 .bf16) (x : Vec Ideal S512x1024 .f32) : out0_3 a w x = k0_pay1 a w x := by
  unfold out0_3
  rw [View.canon_cons_unit_lit _ _ _ (by decide), View.ld_unit_lit _ _ (by decide), View.ld_unit_lit _ _ (by decide), View.ld_unit_lit _ _ (by decide)]

variable (m : (ℓ : Loc nD τ sig) → Buf (Elt Ideal) ℓ)

abbrev aa (c : Dev nD) : Act := m ((c : Thread nD τ).loc main_arg0)
abbrev aw (c : Dev nD) : Weight := m ((c : Thread nD τ).loc main_arg1)
abbrev ax (c : Dev nD) : Stream := m ((c : Thread nD τ).loc main_arg2)

theorem index : ∀ t : Fin cfg0.N, (win0_0.index t 0 = t.val % 8 ∧ win0_0.index t 1 = 0) ∧ (win0_1.index t 0 = 0 ∧ win0_1.index t 1 = t.val / 8)
    ∧ (win0_2.index t 0 = t.val % 8 ∧ win0_2.index t 1 = t.val / 8) ∧ win0_3.index t 0 = t.val % 8 ∧ win0_3.index t 1 = t.val / 8 :=
  (by decide +kernel : ∀ t : Fin grid0.N, (win0_0.index t 0 = t.val % 8 ∧ win0_0.index t 1 = 0) ∧ (win0_1.index t 0 = 0 ∧ win0_1.index t 1 = t.val / 8)
    ∧ (win0_2.index t 0 = t.val % 8 ∧ win0_2.index t 1 = t.val / 8) ∧ win0_3.index t 0 = t.val % 8 ∧ win0_3.index t 1 = t.val / 8)

theorem lt_N (t : Fin cfg0.N) : t.val < 16 := by have := t.isLt; have hN : cfg0.N = 16 := N_0; omega

/-- Row `i` of point `t`'s block of the result. -/
def rowAt (t : Fin cfg0.N) (i : Fin 512) : Fin 4096 := ⟨t.val % 8 * 512 + i.val, by omega⟩
/-- Column `j` of point `t`'s block of the result. -/
def colAt (t : Fin cfg0.N) (j : Fin 1024) : Fin 2048 := ⟨t.val / 8 * 1024 + j.val, by have := lt_N t; omega⟩

theorem iblk0 (c : Dev nD) (t : Fin cfg0.N) : (iblk m c 0 t : Vec Ideal S512x5632 .bf16) = fun j => aa m c (ix2 (rowAt t (j 0)) (j 1)) := by
  funext j
  unfold iblk
  rw [View.read_apply]
  show V m c main_arg0 _ = m ((c : Thread nD τ).loc main_arg0) _
  unfold V
  congr 1
  funext a
  apply Fin.ext
  match a with
  | ⟨0, _⟩ => show win0_0.index t 0 * 512 + 1 * (j 0).val = t.val % 8 * 512 + (j 0).val; rw [(index t).1.1]; omega
  | ⟨1, _⟩ => show win0_0.index t 1 * 5632 + 1 * (j 1).val = (j 1).val; rw [(index t).1.2]; omega

theorem iblk1 (c : Dev nD) (t : Fin cfg0.N) : (iblk m c 1 t : Vec Ideal S5632x1024 .bf16) = fun j => aw m c (ix2 (j 0) (colAt t (j 1))) := by
  funext j
  unfold iblk
  rw [View.read_apply]
  show V m c main_arg1 _ = m ((c : Thread nD τ).loc main_arg1) _
  unfold V
  congr 1
  funext a
  apply Fin.ext
  match a with
  | ⟨0, _⟩ => show win0_1.index t 0 * 5632 + 1 * (j 0).val = (j 0).val; rw [(index t).2.1.1]; omega
  | ⟨1, _⟩ => show win0_1.index t 1 * 1024 + 1 * (j 1).val = t.val / 8 * 1024 + (j 1).val; rw [(index t).2.1.2]; omega

theorem iblk2 (c : Dev nD) (t : Fin cfg0.N) : (iblk m c 2 t : Vec Ideal S512x1024 .f32) = fun j => ax m c (ix2 (rowAt t (j 0)) (colAt t (j 1))) := by
  funext j
  unfold iblk
  rw [View.read_apply]
  show V m c main_arg2 _ = m ((c : Thread nD τ).loc main_arg2) _
  unfold V
  congr 1
  funext a
  apply Fin.ext
  match a with
  | ⟨0, _⟩ => show win0_2.index t 0 * 512 + 1 * (j 0).val = t.val % 8 * 512 + (j 0).val; rw [(index t).2.2.1.1]; omega
  | ⟨1, _⟩ => show win0_2.index t 1 * 1024 + 1 * (j 1).val = t.val / 8 * 1024 + (j 1).val; rw [(index t).2.2.1.2]; omega

theorem final3 (c : Dev nD) : (dats m 0 c).arrAt 3 cfg0.N = added (aa m c) (aw m c) (ax m c) := by
  refine (dats m 0 c).arrAt_eq_of_cover 3 (added (aa m c) (aw m c) (ax m c)) (fun t _ => ?_) fun (i : S4096x2048.Idx) => ?_
  · rw [Value.flushed3, out_eq, iblk0, iblk1, iblk2]
    funext (j : S512x1024.Idx)
    rw [View.read_apply]
    refine (congrArg (k0_pay1 _ _ _) (show j = ix2 (j 0) (j 1) from by funext a; match a with | ⟨0, _⟩ => rfl | ⟨1, _⟩ => rfl)).trans ((pay1_apply _ _ _ _ _).trans ?_)
    show added _ _ _ (ix2 (rowAt t (j 0)) (colAt t (j 1))) = added _ _ _ _
    congr 1
    funext a
    apply Fin.ext
    match a with
    | ⟨0, _⟩ => show t.val % 8 * 512 + (j 0).val = win0_3.index t 0 * 512 + 1 * (j 0).val; rw [(index t).2.2.2.1]; omega
    | ⟨1, _⟩ => show t.val / 8 * 1024 + (j 1).val = win0_3.index t 1 * 1024 + 1 * (j 1).val; rw [(index t).2.2.2.2]; omega
  · have h0 : (i 0 : Nat) < 4096 := (i 0).isLt
    have h1 : (i 1 : Nat) < 2048 := (i 1).isLt
    have hN : cfg0.N = 16 := N_0
    obtain ⟨t, ht⟩ : ∃ t : Fin cfg0.N, t.val = (i 1 : Nat) / 1024 * 8 + (i 0 : Nat) / 512 := ⟨⟨(i 1 : Nat) / 1024 * 8 + (i 0 : Nat) / 512, by omega⟩, rfl⟩
    refine ⟨t, flush0_3 t, ?_⟩
    show i ∈ ((View.whole main_v0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [(index t).2.2.2.1]; omega
    | ⟨1, _⟩ => show win0_3.index t 1 * 1024 ≤ (i 1 : Nat) ∧ (i 1 : Nat) < win0_3.index t 1 * 1024 + 1024
                rw [(index t).2.2.2.2]; omega

section Reference

open Cert.FfnOutRefIdeal Cert.FfnOutRefIdeal.Read

theorem ref_eq (a : Act) (w : Weight) (x : Stream) : val_main_v5 (F := Ideal) a w x = added a w x := by
  funext y
  obtain ⟨i, j, rfl⟩ : ∃ i j, y = ix2 i j := ⟨y 0, y 1, by funext b; match b with | ⟨0, _⟩ => rfl | ⟨1, _⟩ => rfl⟩
  pointwise [val_main_v5, val_main_v4, val_main_v3, val_main_v2, val_main_v1, val_main_v0]
  rfl

end Reference

theorem algebraic : Cert.algebraic_FfnOutIdeal_FfnOutRefIdeal := by
  intro m g m' g' _ hargs
  refine ⟨fun c => added (aa m c) (aw m c) (ax m c), ?_, ?_⟩
  · refine (θ_run _ _ _).mono (fun r h c => ?_) (Cert.FfnOutIdeal.Value.run_blocks m g)
    obtain ⟨h3, hk⟩ := h c
    exact ⟨h3.trans (final3 m c), hk⟩
  · refine (θ_run _ _ _).mono (fun r h c => ?_) (Cert.FfnOutRefIdeal.Value.run m' g')
    obtain ⟨h5, hk⟩ := h c
    obtain ⟨e0, e1, e2⟩ := hargs c
    refine ⟨h5.trans ?_, hk⟩
    rw [Cert.FfnOutRefIdeal.Read.val_main_v5_eq, e0, e1, e2]
    exact ref_eq _ _ _

/-- The reference runs, leaves its arguments, and declares no semaphore. -/
theorem frame_ref : Cert.quiescent_FfnOutRefIdeal := fun m g _ =>
  (θ_run _ _ _).mono (fun r h => ⟨fun c => (h c).2, sem_eq_zero_of_no_sems (by decide) r.2⟩) (Cert.FfnOutRefIdeal.Value.run m g)

end Cert.FfnSum
-- ==== Proof.Mixer.Spec.lean ====
/-
  THE MIXER'S GRADIENT, WRITTEN OUT. What `dz` holds at every row and column, from the mixer's input `z`, the gradient `dy`
  of its result, and the weights. A row is a position of the sequence; the columns of `z` are the convolution's gate
  (0–1023), its two factors (1024–2047 and 2048–3071), the spatial gate's multiplier (3072–4095) and its values (4096–5119).
  Positions come in 32 groups of 128, and the values' columns in 8 heads of 128.
-/
module

public import proofs.«01_k».proof.Proof.Gen.MixerIdeal.Skeleton
public import Idealize.ShloMosaic.Lib.Pointwise

@[expose] public section

set_option maxRecDepth 16384

noncomputable section

namespace Cert.MixerGrad

open Cert.MixerIdeal Idealize.ShloMosaic

/-- 128, the width of a head. -/
abbrev width : EReal := Ideal.ofBits .f32 0x43000000#32
/-- The small term under the root. -/
abbrev small : EReal := Ideal.ofBits .f32 0x358637BD#32

/-- Row `k` of group `N`. -/
def row (N : Fin 32) (k : Fin 128) : Fin 4096 := ⟨128 * N.val + k.val, by omega⟩
/-- Column `d` of head `h`. -/
def col (h : Fin 8) (d : Fin 128) : Fin 1024 := ⟨128 * h.val + d.val, by omega⟩

/-- The reciprocal root mean square of a head's values. -/
def root (v : Fin 128 → EReal) : EReal := Ideal.rsqrt (Ideal.div (∑ d, v d * v d) width + small)
/-- The gradient of a normalised head, projected back: `x` the normalised values, `g` the gradient that reaches them. -/
def back (r : EReal) (g x : Fin 128 → EReal) (d : Fin 128) : EReal := r * (g d - x d * Ideal.div (∑ e, g e * x e) width)

section

variable (z : Vec Ideal S4096x5120 .bf16) (dy : Vec Ideal S4096x2048 .bf16) (taps : Vec Ideal S3x1024 .f32) (cb g : Vec Ideal S1x1024 .f32)
  (w : Vec Ideal S8x128x128 .f32) (b : Vec Ideal S8x128 .f32)

/-- The convolution's input. -/
def cin (R : Fin 4096) (q : Fin 1024) : EReal := z (ix2 R ⟨1024 + q.val, by omega⟩) * z (ix2 R ⟨2048 + q.val, by omega⟩)
/-- The convolution's input `k` positions before. -/
def before (k : Nat) (R : Fin 4096) (q : Fin 1024) : EReal := if R.val < k then 0 else cin z ⟨R.val - k, by omega⟩ q
/-- The gradient of the convolution's gate. -/
def dGate (R : Fin 4096) (q : Fin 1024) : EReal :=
  dy (ix2 R ⟨q.val, by omega⟩)
    * (((cb (ix2 0 q) + taps (ix2 2 q) * cin z R q) + taps (ix2 1 q) * before z 1 R q) + taps (ix2 0 q) * before z 2 R q)
/-- The gradient of the convolution's result. -/
def dConv (R : Fin 4096) (q : Fin 1024) : EReal := dy (ix2 R ⟨q.val, by omega⟩) * z (ix2 R ⟨q.val, by omega⟩)
/-- The gradient of the convolution's result `k` positions later. -/
def later (k : Nat) (R : Fin 4096) (q : Fin 1024) : EReal := if h : R.val + k < 4096 then dConv z dy ⟨R.val + k, h⟩ q else 0
/-- The gradient of the convolution's input. -/
def dCin (R : Fin 4096) (q : Fin 1024) : EReal :=
  (taps (ix2 2 q) * dConv z dy R q + taps (ix2 1 q) * later z dy 1 R q) + taps (ix2 0 q) * later z dy 2 R q

/-- The values of head `h` at row `k` of group `N`. -/
def val (N : Fin 32) (h : Fin 8) (k : Fin 128) (d : Fin 128) : EReal := z (ix2 (row N k) ⟨4096 + (col h d).val, by omega⟩)
/-- Their normalisation. -/
def nrm (N : Fin 32) (h : Fin 8) (k : Fin 128) (d : Fin 128) : EReal := val z N h k d * root (val z N h k)
/-- The spatial weights, kept from the diagonal down. -/
def tri (h : Fin 8) (i j : Fin 128) : EReal := if j.val ≤ i.val then w (ix3 h i j) else 0
/-- The gradient of the gated part of the result. -/
def dOut (N : Fin 32) (h : Fin 8) (k : Fin 128) (d : Fin 128) : EReal := dy (ix2 (row N k) ⟨1024 + (col h d).val, by omega⟩)
/-- The gradient of the multiplier. -/
def dMul (N : Fin 32) (h : Fin 8) (k : Fin 128) (d : Fin 128) : EReal :=
  dOut dy N h k d * ((∑ j, tri w h k j * (nrm z N h j d * g (ix2 0 (col h d)))) + b (ix2 h k))
/-- The gradient of the normalised values. -/
def dNrm (N : Fin 32) (h : Fin 8) (k : Fin 128) (d : Fin 128) : EReal :=
  (∑ j, tri w h j k * (dOut dy N h j d * z (ix2 (row N j) ⟨3072 + (col h d).val, by omega⟩))) * g (ix2 0 (col h d))
/-- The gradient of the values. -/
def dVal (N : Fin 32) (h : Fin 8) (k : Fin 128) (d : Fin 128) : EReal :=
  back (root (val z N h k)) (dNrm z dy g w N h k) (nrm z N h k) d

/-- The gradient of `z`. -/
def dzAll : Vec Ideal S4096x5120 .bf16 := fun y =>
  if h1 : (y 1).val < 1024 then dGate z dy taps cb (y 0) ⟨(y 1).val, h1⟩
  else if h2 : (y 1).val < 2048 then dCin z dy taps (y 0) ⟨(y 1).val - 1024, by omega⟩ * z (ix2 (y 0) ⟨(y 1).val + 1024, by omega⟩)
  else if h3 : (y 1).val < 3072 then dCin z dy taps (y 0) ⟨(y 1).val - 2048, by omega⟩ * z (ix2 (y 0) ⟨(y 1).val - 1024, by omega⟩)
  else
    have hr : (y 0).val < 4096 := (y 0).isLt
    have hc : (y 1).val < 5120 := (y 1).isLt
    if h4 : (y 1).val < 4096 then
      dMul z dy g w b ⟨(y 0).val / 128, by omega⟩ ⟨((y 1).val - 3072) / 128, by omega⟩ ⟨(y 0).val % 128, by omega⟩ ⟨((y 1).val - 3072) % 128, by omega⟩
    else
      dVal z dy g w ⟨(y 0).val / 128, by omega⟩ ⟨((y 1).val - 4096) / 128, by omega⟩ ⟨(y 0).val % 128, by omega⟩ ⟨((y 1).val - 4096) % 128, by omega⟩

theorem dzAll_gate (R : Fin 4096) (q : Fin 1024) : dzAll z dy taps cb g w b (ix2 R ⟨q.val, by omega⟩) = dGate z dy taps cb R q :=
  dif_pos q.isLt

theorem dzAll_first (R : Fin 4096) (q : Fin 1024) :
    dzAll z dy taps cb g w b (ix2 R ⟨1024 + q.val, by omega⟩) = dCin z dy taps R q * z (ix2 R ⟨2048 + q.val, by omega⟩) := by
  refine (dif_neg (show ¬ 1024 + q.val < 1024 by omega)).trans ((dif_pos (show 1024 + q.val < 2048 by omega)).trans ?_)
  congr 1
  · congr 1; exact Fin.ext (show 1024 + q.val - 1024 = q.val by omega)
  · congr 2; exact Fin.ext (show 1024 + q.val + 1024 = 2048 + q.val by omega)

theorem dzAll_second (R : Fin 4096) (q : Fin 1024) :
    dzAll z dy taps cb g w b (ix2 R ⟨2048 + q.val, by omega⟩) = dCin z dy taps R q * z (ix2 R ⟨1024 + q.val, by omega⟩) := by
  refine (dif_neg (show ¬ 2048 + q.val < 1024 by omega)).trans ((dif_neg (show ¬ 2048 + q.val < 2048 by omega)).trans
    ((dif_pos (show 2048 + q.val < 3072 by omega)).trans ?_))
  congr 1
  · congr 1; exact Fin.ext (show 2048 + q.val - 2048 = q.val by omega)
  · congr 2; exact Fin.ext (show 2048 + q.val - 1024 = 1024 + q.val by omega)

theorem dzAll_mul (N : Fin 32) (h : Fin 8) (k d : Fin 128) :
    dzAll z dy taps cb g w b (ix2 (row N k) ⟨3072 + (col h d).val, by omega⟩) = dMul z dy g w b N h k d := by
  have hc : (col h d).val = 128 * h.val + d.val := rfl
  refine (dif_neg (show ¬ 3072 + (col h d).val < 1024 by omega)).trans ((dif_neg (show ¬ 3072 + (col h d).val < 2048 by omega)).trans
    ((dif_neg (show ¬ 3072 + (col h d).val < 3072 by omega)).trans ((dif_pos (show 3072 + (col h d).val < 4096 by omega)).trans ?_)))
  congr 1
  · exact Fin.ext (show (128 * N.val + k.val) / 128 = N.val by omega)
  · exact Fin.ext (show (3072 + (col h d).val - 3072) / 128 = h.val by omega)
  · exact Fin.ext (show (128 * N.val + k.val) % 128 = k.val by omega)
  · exact Fin.ext (show (3072 + (col h d).val - 3072) % 128 = d.val by omega)

theorem dzAll_val (N : Fin 32) (h : Fin 8) (k d : Fin 128) :
    dzAll z dy taps cb g w b (ix2 (row N k) ⟨4096 + (col h d).val, by omega⟩) = dVal z dy g w N h k d := by
  have hc : (col h d).val = 128 * h.val + d.val := rfl
  have e : ((ix2 (row N k) (⟨4096 + (col h d).val, by omega⟩ : Fin 5120) : S4096x5120.Idx) 1).val = 4096 + (col h d).val := rfl
  unfold dzAll
  rw [dif_neg (by rw [e]; omega), dif_neg (by rw [e]; omega), dif_neg (by rw [e]; omega), dif_neg (by rw [e]; omega)]
  have e0 : ((ix2 (row N k) (⟨4096 + (col h d).val, by omega⟩ : Fin 5120) : S4096x5120.Idx) 0).val = 128 * N.val + k.val := rfl
  exact congr (congr (congr (congrArg (dVal z dy g w) (Fin.ext (by show _ / 128 = _; rw [e0]; omega))) (Fin.ext (by show (_ - 4096) / 128 = _; rw [e]; omega)))
    (Fin.ext (by show _ % 128 = _; rw [e0]; omega))) (Fin.ext (by show (_ - 4096) % 128 = _; rw [e]; omega))

end

end Cert.MixerGrad
-- ==== Proof.Mixer.Cell.lean ====
/-
  THE BODY'S STORES, READ AT AN INDEX. The five kinds of store into the block of `dz`, each from the blocks that it reads.
-/
module

public import proofs.«01_k».proof.Proof.Mixer.Spec

@[expose] public section

set_option maxRecDepth 16384

noncomputable section

namespace Cert.MixerGrad

open Cert.MixerIdeal Cert.MixerIdeal.Gen Idealize.ShloMosaic Idealize.ShloMosaic.Tactic

/-- A choice by a row's number. -/
theorem select_row (r : Fin 256) (k : Nat) (hk : k < 256) (a b : EReal) :
    Scalar.select (IntOp.cmpi CmpIPredicate.eq (BitVec.ofNat 32 r.val) (BitVec.ofNat 32 k)) a b = if r.val = k then a else b := by
  have : (IntOp.cmpi CmpIPredicate.eq (BitVec.ofNat 32 r.val) (BitVec.ofNat 32 k)) = if r.val = k then 1#1 else 0#1 := by
    unfold IntOp.cmpi
    by_cases h : r.val = k
    · subst h; simp
    · have : BitVec.ofNat 32 r.val ≠ BitVec.ofNat 32 k := fun e => h (by
        have := congrArg BitVec.toNat e
        simp only [BitVec.toNat_ofNat] at this
        omega)
      rw [beq_eq_false_iff_ne.mpr this, if_neg h]; rfl
  rw [this]
  by_cases h : r.val = k
  · simp only [h, if_true]; rfl
  · simp only [h, if_false]; rfl

/-- A choice by the order of two numbers below 128. -/
theorem select_le (i j : Fin 128) (a b : EReal) :
    Scalar.select (IntOp.cmpi CmpIPredicate.sge (BitVec.ofNat 32 i.val) (BitVec.ofNat 32 j.val)) a b = if j.val ≤ i.val then a else b := by
  have : (IntOp.cmpi CmpIPredicate.sge (BitVec.ofNat 32 i.val) (BitVec.ofNat 32 j.val)) = if j.val ≤ i.val then 1#1 else 0#1 := by
    revert i j; decide +kernel
  rw [this]
  by_cases h : j.val ≤ i.val
  · simp only [h, if_true]; rfl
  · simp only [h, if_false]; rfl

/-- One or zero, as a number. -/
abbrev num (b : BitVec 1) : EReal := (((Scalar.extui b : BitVec 32).toInt : ℝ) : EReal)
/-- Whether the point is not the first. -/
abbrev notFirst (i : grid0.Coords) : BitVec 1 := Scalar.cmpi CmpIPredicate.sgt (BitVec.ofNat 32 (i 0).val) 0#32
/-- Whether the point is not the last. -/
abbrev notLast (i : grid0.Coords) : BitVec 1 := Scalar.cmpi CmpIPredicate.slt (BitVec.ofNat 32 (i 0).val) 15#32

section Conv

variable (i : grid0.Coords) (gb gc hc dyc : Vec Ideal S256x1024 .bf16) (hg hh nd ng : Vec Ideal S16x1024 .bf16) (w0 w1 w2 cb : Vec Ideal S1x1024 .f32)
  (r : Fin 256) (q : Fin 1024)

theorem prev1 : k0_pay28 i gc hc hg hh (ix2 r q) = if r.val = 0 then hg (ix2 15 q) * hh (ix2 15 q) * num (notFirst i)
      else gc (ix2 ⟨(r.val + 256 - 1) % 256, Nat.mod_lt _ (by decide)⟩ q) * hc (ix2 ⟨(r.val + 256 - 1) % 256, Nat.mod_lt _ (by decide)⟩ q) := by
  pointwise [k0_pay28, k0_pay27, k0_pay26, k0_pay25, k0_pay24]
  exact select_row r 0 (by decide) _ _

theorem prev2 : k0_pay29 i gc hc hg hh (ix2 r q) = if r.val = 0 then hg (ix2 14 q) * hh (ix2 14 q) * num (notFirst i)
      else if r.val = 1 then hg (ix2 15 q) * hh (ix2 15 q) * num (notFirst i)
      else gc (ix2 ⟨(r.val + 256 - 2) % 256, Nat.mod_lt _ (by decide)⟩ q) * hc (ix2 ⟨(r.val + 256 - 2) % 256, Nat.mod_lt _ (by decide)⟩ q) := by
  pointwise [k0_pay29, k0_pay27, k0_pay26, k0_pay25, k0_pay24]
  refine (select_row r 0 (by decide) _ _).trans ?_
  rw [show ∀ a b : EReal, Scalar.select (IntOp.cmpi CmpIPredicate.eq (BitVec.ofNat 32 r.val) 1#32) a b = _ from select_row r 1 (by decide)]

theorem gate_cell (a a1 a2 : FVec Ideal S256x1024 .f32) :
    k0_pay34 a a1 a2 w0 w1 w2 cb dyc (ix2 r q)
      = dyc (ix2 r q) * (((cb (ix2 0 q) + w2 (ix2 0 q) * a (ix2 r q)) + w1 (ix2 0 q) * a1 (ix2 r q)) + w0 (ix2 0 q) * a2 (ix2 r q)) := by
  pointwise [k0_pay34, k0_pay33, k0_pay32, k0_pay31, k0_pay30]

theorem in_cell : k0_pay26 gc hc (ix2 r q) = gc (ix2 r q) * hc (ix2 r q) := by
  pointwise [k0_pay26, k0_pay25, k0_pay24]

/-- The gradient of the convolution's input, from its blocks. -/
def dcin : FVec Ideal S256x1024 .f32 :=
  k0_pay40 (k0_pay30 w0) (k0_pay31 w1) (k0_pay32 w2) (k0_pay35 gb dyc) (k0_pay36 (BitVec.ofNat 32 (i 0).val) nd ng)
    (iota Kind.tc S256x1024 32 [0] iota_S256x1024_d0_w32) k0_pay37 (k0_pay38 gb dyc) (k0_pay39 (BitVec.ofNat 32 (i 0).val) nd ng)

theorem dcin_cell : dcin i gb dyc nd ng w0 w1 w2 (ix2 r q) =
    (w2 (ix2 0 q) * (dyc (ix2 r q) * gb (ix2 r q))
      + w1 (ix2 0 q) * (if r.val = 255 then nd (ix2 0 q) * ng (ix2 0 q) * num (notLast i)
          else dyc (ix2 ⟨(r.val + 256 - 255) % 256, Nat.mod_lt _ (by decide)⟩ q) * gb (ix2 ⟨(r.val + 256 - 255) % 256, Nat.mod_lt _ (by decide)⟩ q)))
      + w0 (ix2 0 q) * (if r.val = 255 then nd (ix2 1 q) * ng (ix2 1 q) * num (notLast i)
          else if r.val = 254 then nd (ix2 0 q) * ng (ix2 0 q) * num (notLast i)
          else dyc (ix2 ⟨(r.val + 256 - 254) % 256, Nat.mod_lt _ (by decide)⟩ q) * gb (ix2 ⟨(r.val + 256 - 254) % 256, Nat.mod_lt _ (by decide)⟩ q)) := by
  pointwise [dcin, k0_pay40, k0_pay39, k0_pay38, k0_pay37, k0_pay36, k0_pay35, k0_pay33, k0_pay32, k0_pay31, k0_pay30]
  rw [show ∀ a b : EReal, Scalar.select (IntOp.cmpi CmpIPredicate.eq (BitVec.ofNat 32 r.val) 254#32) a b = _ from select_row r 254 (by decide)]
  simp only [show ∀ a b : EReal, Scalar.select (IntOp.cmpi CmpIPredicate.eq (BitVec.ofNat 32 r.val) 255#32) a b = _ from select_row r 255 (by decide)]

theorem first_cell : k0_pay41 (k0_pay25 hc) (k0_pay30 w0) (k0_pay31 w1) (k0_pay32 w2) (k0_pay35 gb dyc) (k0_pay36 (BitVec.ofNat 32 (i 0).val) nd ng)
    (iota Kind.tc S256x1024 32 [0] iota_S256x1024_d0_w32) k0_pay37 (k0_pay38 gb dyc) (k0_pay39 (BitVec.ofNat 32 (i 0).val) nd ng) (ix2 r q)
      = dcin i gb dyc nd ng w0 w1 w2 (ix2 r q) * hc (ix2 r q) := by
  unfold dcin
  pointwise [k0_pay41, k0_pay25]

theorem second_cell : k0_pay42 (k0_pay24 gc) (k0_pay30 w0) (k0_pay31 w1) (k0_pay32 w2) (k0_pay35 gb dyc) (k0_pay36 (BitVec.ofNat 32 (i 0).val) nd ng)
    (iota Kind.tc S256x1024 32 [0] iota_S256x1024_d0_w32) k0_pay37 (k0_pay38 gb dyc) (k0_pay39 (BitVec.ofNat 32 (i 0).val) nd ng) (ix2 r q)
      = dcin i gb dyc nd ng w0 w1 w2 (ix2 r q) * gc (ix2 r q) := by
  unfold dcin
  pointwise [k0_pay42, k0_pay24]

end Conv

section Head

variable (vg : Vec Ideal S256x128 .bf16) (g : Vec Ideal S1x128 .f32) (w : Vec Ideal S1x128x128 .f32) (b : Vec Ideal S128x1 .f32)
  (dyg ug : Vec Ideal S128x128 .bf16) (k d : Fin 128)

/-- Row `k` of half `n` of a block. -/
def half (n : Fin 2) (k : Fin 128) : Fin 256 := ⟨128 * n.val + k.val, by omega⟩
/-- The normalised values of the block's head. -/
def nrmB (r : Fin 256) (d : Fin 128) : EReal := vg (ix2 r d) * root (fun e => vg (ix2 r e))
/-- The head's weights, kept from the diagonal down. -/
def triB (i j : Fin 128) : EReal := if j.val ≤ i.val then w (ix3 0 i j) else 0
/-- The multiplier's gradient in half `n` of the block. -/
def mulB (n : Fin 2) (k d : Fin 128) : EReal :=
  dyg (ix2 k d) * ((∑ j, triB w k j * (nrmB vg (half n j) d * g (ix2 0 d))) + b (ix2 k 0))
/-- The gradient of the normalised values of a half. -/
def dNrmB (k d : Fin 128) : EReal := (∑ j, triB w j k * (dyg (ix2 j d) * ug (ix2 j d))) * g (ix2 0 d)
/-- The values' gradient in half `n` of the block. -/
def valB (n : Fin 2) (k d : Fin 128) : EReal :=
  back (root (fun e => vg (ix2 (half n k) e))) (dNrmB g w dyg ug k) (nrmB vg (half n k)) d

theorem tri_cell (i j : Fin 128) : k0_pay53 (k0_pay51 w) k0_pay52 (ix2 i j) = triB w i j := by
  pointwise [k0_pay53, k0_pay51, k0_pay52]
  exact select_le i j _ _

theorem root_cell (r : Fin 256) : k0_pay48 vg (ix2 r 0) = root (fun e => vg (ix2 r e)) := by
  pointwise [k0_pay48, k0_pay47]
  rfl

theorem nrm_cell (r : Fin 256) : k0_pay49 vg (ix2 r d) = nrmB vg r d := by
  unfold nrmB; rw [← root_cell]
  pointwise [k0_pay49, k0_pay47]

theorem scaled_cell (r : Fin 256) : k0_pay50 vg g (ix2 r d) = nrmB vg r d * g (ix2 0 d) := by
  rw [← nrm_cell]
  pointwise [k0_pay50]

theorem mul_cell0 : k0_pay57 (k0_pay50 vg g) (k0_pay51 w) k0_pay52 b dyg (ix2 k d) = mulB vg g w b dyg 0 k d := by
  pointwise [k0_pay57, k0_pay55]
  refine congrArg (dyg (ix2 k d) * ·) (congrArg (· + b (ix2 k 0)) (Finset.sum_congr rfl fun x _ => ?_))
  refine congr (congrArg _ (tri_cell w k x)) ((congrArg (fun r : Fin 256 => k0_pay50 vg g (ix2 r d)) (Fin.ext ?_)).trans (scaled_cell vg g d (half 0 x)))
  show x.val = 128 * 0 + x.val; omega

theorem mul_cell1 : k0_pay67 (k0_pay50 vg g) (k0_pay53 (k0_pay51 w) k0_pay52) b dyg (ix2 k d) = mulB vg g w b dyg 1 k d := by
  pointwise [k0_pay67, k0_pay65]
  refine congrArg (dyg (ix2 k d) * ·) (congrArg (· + b (ix2 k 0)) (Finset.sum_congr rfl fun x _ => ?_))
  exact congr (congrArg _ (tri_cell w k x)) (scaled_cell vg g d (half 1 x))

theorem dNrm_cell0 : k0_pay59 (k0_pay51 w) k0_pay52 dyg ug (ix2 k d) = ∑ j, triB w j k * (dyg (ix2 j d) * ug (ix2 j d)) := by
  simp only [← tri_cell]
  pointwise [k0_pay59, k0_pay58, k0_pay56, k0_pay55]

theorem dNrm_cell1 : k0_pay69 (k0_pay53 (k0_pay51 w) k0_pay52) dyg ug (ix2 k d) = ∑ j, triB w j k * (dyg (ix2 j d) * ug (ix2 j d)) := by
  simp only [← tri_cell]
  pointwise [k0_pay69, k0_pay68, k0_pay66, k0_pay65]

theorem val_cell0 : k0_pay64 (k0_pay48 vg) g (k0_pay59 (k0_pay51 w) k0_pay52 dyg ug) (k0_pay62 (k0_pay49 vg)) (ix2 k d) = valB vg g w dyg ug 0 k d := by
  unfold valB back dNrmB
  simp only [← dNrm_cell0, ← nrm_cell, ← root_cell]
  pointwise [k0_pay64, k0_pay62]
  have e : (⟨k.val, by omega⟩ : Fin 256) = half 0 k := Fin.ext (show k.val = 128 * 0 + k.val by omega)
  simp only [e]

theorem val_cell1 : k0_pay75 (k0_pay48 vg) (k0_pay49 vg) g (k0_pay69 (k0_pay53 (k0_pay51 w) k0_pay52) dyg ug) (ix2 k d) = valB vg g w dyg ug 1 k d := by
  unfold valB back dNrmB
  simp only [← dNrm_cell1, ← nrm_cell, ← root_cell]
  pointwise [k0_pay75, k0_pay74]
  rfl

end Head

end Cert.MixerGrad
-- ==== Proof.Mixer.Run.lean ====
/-
  ONE RUN OF THE MIXER'S GRADIENT AT A GRID POINT. On staging buffers that hold the point's input blocks, the body runs to
  its end, leaves the inputs as they were, and fills the block of `dz` by the stores `(run …).1`; of the four buffers that it
  accumulates in, nothing is said. The run is the same whether or not the point is the first or the last.
-/
module

public import proofs.«01_k».proof.Proof.Gen.MixerIdeal.Frame
public import proofs.«01_k».proof.Proof.Gen.MixerIdeal.Skeleton

@[expose] public section

set_option maxRecDepth 16384

noncomputable section

namespace Cert.MixerGrad

open Cert.MixerIdeal Cert.MixerIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is the first. -/
abbrev isFirst (i : grid0.Coords) : Prop := (Scalar.cmpi .ne (Scalar.extui (Scalar.cmpi .eq (BitVec.ofNat 32 (i 0).val) 0#32)) 0#32) = 1#1
/-- The point is the last. -/
abbrev isLast (i : grid0.Coords) : Prop := k0_cond2 i = 1#1

set_option maxHeartbeats 8000000 in
/-- The stores into the block of `dz`, and the run that makes them. -/
noncomputable def run (c : Dev nD) (i : grid0.Coords) (arg1 : Memref sig .tc .vmem S256x5120 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S256x2048 .bf16) (harg5 : arg5.IsWhole) (arg6 : Memref sig .tc .vmem S16x1024 .bf16) (harg6 : arg6.IsWhole) (arg7 : Memref sig .tc .vmem S8x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S8x128x128 .f32) (harg10 : arg10.IsWhole) (arg11 : Memref sig .tc .vmem S128x8 .f32) (harg11 : arg11.IsWhole) (arg12 : Memref sig .tc .vmem S256x5120 .bf16) (harg12 : arg12.IsWhole) (arg13 : Memref sig .tc .vmem S8x1024 .f32) (harg13 : arg13.IsWhole) (arg14 : Memref sig .tc .vmem S8x128x128 .f32) (harg14 : arg14.IsWhole) (arg15 : Memref sig .tc .vmem S128x8 .f32) (harg15 : arg15.IsWhole) (arg16 : Memref sig .tc .vmem S128x1024 .f32) (harg16 : arg16.IsWhole)
    (x0 : Vec F S256x5120 .bf16) (x1 : Vec F S16x1024 .bf16) (x2 : Vec F S16x1024 .bf16) (x3 : Vec F S16x1024 .bf16) (x4 : Vec F S256x2048 .bf16) (x5 : Vec F S16x1024 .bf16) (x6 : Vec F S8x1024 .f32) (x7 : Vec F S1x1024 .f32) (x8 : Vec F S1x1024 .f32) (x9 : Vec F S8x128x128 .f32) (x10 : Vec F S128x8 .f32) :
    { L : List (View.Piece (Elt F) S256x5120 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_mixer_bwd_eq_skeleton]; unfold cc0_mixer_bwd_skel
    simp only [k0_part34_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    by_cases h0 : isFirst i
    all_goals by_cases h1 : isLast i
    all_goals
      sl_exec (disch := first | sl_exact h0 | sl_exact h1)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; iexact H11
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      iexists _, _; isplitr; swap; · iexact H15
      ipureintro; rfl

end Cert.MixerGrad
-- ==== Proof.Mixer.Frame.lean ====
/-
  THE RUN OF THE MIXER'S GRADIENT OVER THE GRID. What every point leaves in the block of `dz` is the pieces its run stores
  there; of the three results that are summed over the points, and of the scratch, nothing is said. So the kernel's run
  ends with its arguments unchanged and with `dz` holding every point's block.
-/
module

public import proofs.«01_k».proof.Proof.Mixer.Run
public import Idealize.ShloMosaic.Lib.Claim

@[expose] public section

set_option maxRecDepth 16384

noncomputable section

namespace Cert.MixerGrad

open Cert.MixerIdeal Cert.MixerIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The staging buffers at a point, and the scratch. -/
abbrev ms0 (t : Fin cfg0.N) : Memref sig .tc .vmem S256x5120 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2048 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8x128x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x8 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x5120 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S8x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S8x128x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x8 .f32 := win0_14.stage (cfg0.slots t 14)
abbrev hs14 (t : Fin cfg0.N) : (ms14 t).IsWhole := hstage0_14 ((cfg0.slots t 14).cast nbuf0_14)
abbrev scM : Memref sig .tc .vmem S128x1024 .f32 := Memref.whole cc0_scratch0

theorem scratch_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The stores of point `t` into the block of `dz`. -/
def pieces (c : Dev nD) (t : Fin cfg0.N) : List (View.Piece (Elt F) S256x5120 .bf16) :=
  (run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)).1

/-- What point `t` leaves in the block of `dz`. -/
def dz (c : Dev nD) (t : Fin cfg0.N) : Vec F S256x5120 .bf16 := View.canon (pieces m c t)

/-- Of two lists that agree, either covers what the other covers. -/
theorem covered_ite (p : Prop) (d : Decidable p) (a b : List (View.Piece (Elt F) S256x5120 .bf16)) (h : a = b)
    (y : S256x5120.Idx) (hy : ∃ q ∈ b, y ∈ q.1.set) : ∃ q ∈ (if p then a else b), y ∈ q.1.set := by
  rw [h, ite_self]; exact hy

/-- The pieces fill the block. -/
theorem cover (c : Dev nD) (t : Fin cfg0.N) (y : S256x5120.Idx) : ∃ p ∈ pieces m c t, y ∈ p.1.set := by
  unfold pieces run
  dsimp only
  refine covered_ite _ _ _ _ rfl y ?_
  exact View.cover_of_tiledBy _ ![128, 128] (by sl_kernel_rfl) y

/-- The results summed over the points, of which nothing is said. -/
def forgets : Fin 15 → Bool := fun w => w.val == 12 || w.val == 13 || w.val == 14

/-- What each window's buffer holds after a point, and what is kept between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dz m c t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = dz m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare d)
    ∗ (∃ d, owns (c : Thread nD τ) (ms13 t) fullShare d)
    ∗ (∃ d, owns (c : Thread nD τ) (ms14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms12 t) fullShare d)
    ∗ (∃ d, owns (c : Thread nD τ) (ms13 t) fullShare d)
    ∗ (∃ d, owns (c : Thread nD τ) (ms14 t) fullShare d))

theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (grid0.coords t) = false from rfl, after8]
theorem leaves9 (c : Dev nD) (t : Fin cfg0.N) : (dats m 0 c).leavesExact 9 t = owns (c : Thread nD τ) (ms9 t) fullShare (iblk m c 9 t) := by
  unfold Dat.leavesExact; rw [show cfg0.idle 9 (grid0.coords t) = false from rfl, after9]
theorem leaves10 (c : Dev nD) (t : Fin cfg0.N) : (dats m 0 c).leavesExact 10 t = owns (c : Thread nD τ) (ms10 t) fullShare (iblk m c 10 t) := by
  unfold Dat.leavesExact; rw [show cfg0.idle 10 (grid0.coords t) = false from rfl, after10]
theorem leaves11 (c : Dev nD) (t : Fin cfg0.N) : (dats m 0 c).leavesExact 11 t = owns (c : Thread nD τ) (ms11 t) fullShare (dz m c t) := by
  unfold Dat.leavesExact; rw [show cfg0.idle 11 (grid0.coords t) = false from rfl, after11]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, leaves0, leaves1, leaves2, leaves3, leaves4, leaves5, leaves6, leaves7, leaves8, leaves9, leaves10, leaves11]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, scratch_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [HS]; · iexact HS
  iintro ⟨H0, H1, H2, H3, H4, H5, H6, H7, H8, H9, H10, ⟨%e, H11⟩, H12, H13, H14, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_eq_canon _ _ _ (cover m c t)
  isplitl [H12]; · iexact H12
  isplitl [H13]; · iexact H13
  iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The run, with the counters at zero at the end. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

/-- The arguments are kept and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 3 rfl).trans ((A_eq m c 3).trans (V_main_arg0 m c)),
      (Pipeline.RDat.FramePost.arr_in h.1 c 5 rfl).trans ((A_eq m c 5).trans (V_main_arg1 m c)),
      ((h.1 c).2 main_arg2 (Pipeline.mem_restRefs_of main_arg2 (by decide) (by decide))).trans (V_main_arg2 m c),
      (Pipeline.RDat.FramePost.arr_in h.1 c 7 rfl).trans ((A_eq m c 7).trans (V_main_arg3 m c)),
      (Pipeline.RDat.FramePost.arr_in h.1 c 8 rfl).trans ((A_eq m c 8).trans (V_main_arg4 m c)),
      (Pipeline.RDat.FramePost.arr_in h.1 c 9 rfl).trans ((A_eq m c 9).trans (V_main_arg5 m c)),
      ((h.1 c).2 main_arg6 (Pipeline.mem_restRefs_of main_arg6 (by decide) (by decide))).trans (V_main_arg6 m c)⟩, h.2⟩) (run_main m ρ)

/-- The run leaves `dz` as its blocks, and keeps the arguments. -/
theorem run_blocks : θ_run defs (onTc (τ := τ) (main (F := F))) ⟨m, fun _ => 0, ρ⟩ (fun r => ∀ c : Dev nD,
      r.2.mem ((c.tc : Thread nD τ).loc main_v2_0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((dats m 0 c).toRForget_arrAt_iff (show forgets 11 = false from rfl) _ _).mp ((h.1 c).1 11), h.2.1 c⟩)
    (θ_run_and ((θ_run defs _ _).mono (fun _ h => h.1) (run_main m ρ)) (frame m ρ))

end Cert.MixerGrad
-- ==== Proof.Mixer.Block.lean ====
/-
  WHAT ONE GRID POINT LEAVES IN THE BLOCK OF `dz`. From blocks that are parts of the arrays, every store of the body is the
  part of the mixer's gradient that lies at its place; so the block is.
-/
module

public import proofs.«01_k».proof.Proof.Mixer.Cell
public import proofs.«01_k».proof.Proof.Mixer.Frame
public import Idealize.ShloMosaic.Lib.Pipeline.ReadBack

@[expose] public section

set_option maxRecDepth 16384

noncomputable section

namespace Cert.MixerGrad

open Cert.MixerIdeal Cert.MixerIdeal.Gen Idealize.ShloMosaic Idealize.ShloMosaic.Tactic

theorem point_lt (i : grid0.Coords) : (i 0).val < 16 := (i 0).isLt

/-- Row `r` of point `i`'s block. -/
def rowAt (i : grid0.Coords) (r : Fin 256) : Fin 4096 := ⟨256 * (i 0).val + r.val, by have := point_lt i; omega⟩

/-- The blocks that point `i` reads are its parts of the arrays. -/
structure Parts (i : grid0.Coords) (z : Vec Ideal S4096x5120 .bf16) (dy : Vec Ideal S4096x2048 .bf16) (taps : Vec Ideal S3x1024 .f32)
    (b : Vec Ideal S8x128 .f32) (x0 : Vec Ideal S256x5120 .bf16) (x1 x2 x3 : Vec Ideal S16x1024 .bf16) (x4 : Vec Ideal S256x2048 .bf16)
    (x5 : Vec Ideal S16x1024 .bf16) (x6 : Vec Ideal S8x1024 .f32) (x10 : Vec Ideal S128x8 .f32) : Prop where
  h0 : ∀ r c, x0 (ix2 r c) = z (ix2 (rowAt i r) c)
  h1 : 0 < (i 0).val → ∀ (k : Fin 16) (q : Fin 1024),
    x1 (ix2 k q) = z (ix2 ⟨256 * (i 0).val + k.val - 16, by have := point_lt i; omega⟩ ⟨1024 + q.val, by omega⟩)
  h2 : 0 < (i 0).val → ∀ (k : Fin 16) (q : Fin 1024),
    x2 (ix2 k q) = z (ix2 ⟨256 * (i 0).val + k.val - 16, by have := point_lt i; omega⟩ ⟨2048 + q.val, by omega⟩)
  h3 : ∀ (h : (i 0).val < 15) (k : Fin 16) (q : Fin 1024),
    x3 (ix2 k q) = z (ix2 ⟨256 * (i 0).val + 256 + k.val, by omega⟩ ⟨q.val, by omega⟩)
  h4 : ∀ r c, x4 (ix2 r c) = dy (ix2 (rowAt i r) c)
  h5 : ∀ (h : (i 0).val < 15) (k : Fin 16) (q : Fin 1024),
    x5 (ix2 k q) = dy (ix2 ⟨256 * (i 0).val + 256 + k.val, by omega⟩ ⟨q.val, by omega⟩)
  h6 : ∀ (k : Fin 3) (q : Fin 1024), x6 (ix2 ⟨k.val, by omega⟩ q) = taps (ix2 k q)
  h10 : ∀ (k : Fin 128) (h : Fin 8), x10 (ix2 k h) = b (ix2 h k)

theorem num_notFirst (i : grid0.Coords) : num (notFirst i) = if 0 < (i 0).val then 1 else 0 := by
  have e : ∀ k : Fin 16, (Scalar.extui (Scalar.cmpi CmpIPredicate.sgt (BitVec.ofNat 32 k.val) 0#32) : BitVec 32).toInt = if 0 < k.val then 1 else 0 := by
    decide +kernel
  have := e ⟨(i 0).val, point_lt i⟩
  unfold num notFirst
  rw [this]
  split <;> simp

theorem num_notLast (i : grid0.Coords) : num (notLast i) = if (i 0).val < 15 then 1 else 0 := by
  have e : ∀ k : Fin 16, (Scalar.extui (Scalar.cmpi CmpIPredicate.slt (BitVec.ofNat 32 k.val) 15#32) : BitVec 32).toInt = if k.val < 15 then 1 else 0 := by
    decide +kernel
  have := e ⟨(i 0).val, point_lt i⟩
  unfold num notLast
  rw [this]
  split <;> simp

/-- An index of two axes by its coordinates. -/
theorem ix2_mk {n p : Nat} {r r' : Fin n} {c c' : Fin p} (hr : r.val = r'.val) (hc : c.val = c'.val) :
    (ix2 r c : (⟨2, ![n, p]⟩ : Shape).Idx) = ix2 r' c' := by
  rw [Fin.ext hr, Fin.ext hc]

/-- A load of a part of an array of two axes, at an index. -/
theorem ld2 {n p n' p' : Nat} {e : EltTy} (X : Vec Ideal ⟨2, ![n, p]⟩ e) {o o' : Nat}
    (i : ∀ a, (![o, o'] : Fin 2 → Nat) a + (![n', p'] : Fin 2 → Nat) a ≤ (⟨2, ![n, p]⟩ : Shape).size a) (r : Fin n') (d : Fin p')
    (r' : Fin n) (d' : Fin p) (hr : r'.val = o + r.val) (hd : d'.val = o' + d.val) :
    View.ld (Val := Elt Ideal) X (Rect.unit (s := ⟨2, ![n, p]⟩) ![o, o'] ![n', p'] i) (ix2 r d) = X (ix2 r' d') := by
  refine congrArg X (funext fun a => Fin.ext ?_)
  match a with
  | ⟨0, _⟩ => show o + 1 * r.val = r'.val; omega
  | ⟨1, _⟩ => show o' + 1 * d.val = d'.val; omega

section Pieces

/-- The group of rows that half `n` of point `i`'s block is. -/
def group (i : grid0.Coords) (n : Fin 2) : Fin 32 := ⟨2 * (i 0).val + n.val, by have := point_lt i; omega⟩

theorem rowAt_val (i : grid0.Coords) (r : Fin 256) : (rowAt i r).val = 256 * (i 0).val + r.val := rfl

variable {i : grid0.Coords} {z : Vec Ideal S4096x5120 .bf16} {dy : Vec Ideal S4096x2048 .bf16} {taps : Vec Ideal S3x1024 .f32}
  {b : Vec Ideal S8x128 .f32} {x0 : Vec Ideal S256x5120 .bf16} {x1 x2 x3 : Vec Ideal S16x1024 .bf16} {x4 : Vec Ideal S256x2048 .bf16}
  {x5 : Vec Ideal S16x1024 .bf16} {x6 : Vec Ideal S8x1024 .f32} {x10 : Vec Ideal S128x8 .f32}
  (H : Parts i z dy taps b x0 x1 x2 x3 x4 x5 x6 x10) (x7 x8 : Vec Ideal S1x1024 .f32) (x9 : Vec Ideal S8x128x128 .f32)

/-! The blocks' parts that the convolution reads. -/
abbrev gb (x0 : Vec Ideal S256x5120 .bf16) : Vec Ideal S256x1024 .bf16 := View.ld (Val := Elt Ideal) x0 (Rect.unit (s := S256x5120) ![0, 0] ![256, 1024] inb_S256x5120_S256x1024_0_0)
abbrev gc (x0 : Vec Ideal S256x5120 .bf16) : Vec Ideal S256x1024 .bf16 := View.ld (Val := Elt Ideal) x0 (Rect.unit (s := S256x5120) ![0, 1024] ![256, 1024] inb_S256x5120_S256x1024_0_1024)
abbrev hc (x0 : Vec Ideal S256x5120 .bf16) : Vec Ideal S256x1024 .bf16 := View.ld (Val := Elt Ideal) x0 (Rect.unit (s := S256x5120) ![0, 2048] ![256, 1024] inb_S256x5120_S256x1024_0_2048)
abbrev dyc (x4 : Vec Ideal S256x2048 .bf16) : Vec Ideal S256x1024 .bf16 := View.ld (Val := Elt Ideal) x4 (Rect.unit (s := S256x2048) ![0, 0] ![256, 1024] inb_S256x2048_S256x1024_0_0)
abbrev halo (x : Vec Ideal S16x1024 .bf16) : Vec Ideal S16x1024 .bf16 := View.ld (Val := Elt Ideal) x (Rect.unit (s := S16x1024) ![0, 0] ![16, 1024] inb_S16x1024_S16x1024_0_0)
abbrev tap0 (x6 : Vec Ideal S8x1024 .f32) : Vec Ideal S1x1024 .f32 := View.ld (Val := Elt Ideal) x6 (Rect.unit (s := S8x1024) ![0, 0] ![1, 1024] inb_S8x1024_S1x1024_0_0)
abbrev tap1 (x6 : Vec Ideal S8x1024 .f32) : Vec Ideal S1x1024 .f32 := View.ld (Val := Elt Ideal) x6 (Rect.unit (s := S8x1024) ![1, 0] ![1, 1024] inb_S8x1024_S1x1024_1_0)
abbrev tap2 (x6 : Vec Ideal S8x1024 .f32) : Vec Ideal S1x1024 .f32 := View.ld (Val := Elt Ideal) x6 (Rect.unit (s := S8x1024) ![2, 0] ![1, 1024] inb_S8x1024_S1x1024_2_0)
abbrev bias (x7 : Vec Ideal S1x1024 .f32) : Vec Ideal S1x1024 .f32 := View.ld (Val := Elt Ideal) x7 (Rect.unit (s := S1x1024) ![0, 0] ![1, 1024] inb_S1x1024_S1x1024_0_0)

include H in
theorem gb_at (r : Fin 256) (q : Fin 1024) : gb x0 (ix2 r q) = z (ix2 (rowAt i r) ⟨q.val, by omega⟩) :=
  (ld2 x0 _ r q r ⟨q.val, by omega⟩ (by omega) (by show q.val = 0 + q.val; omega)).trans (H.h0 _ _)
include H in
theorem gc_at (r : Fin 256) (q : Fin 1024) : gc x0 (ix2 r q) = z (ix2 (rowAt i r) ⟨1024 + q.val, by omega⟩) :=
  (ld2 x0 _ r q r ⟨1024 + q.val, by omega⟩ (by omega) rfl).trans (H.h0 _ _)
include H in
theorem hc_at (r : Fin 256) (q : Fin 1024) : hc x0 (ix2 r q) = z (ix2 (rowAt i r) ⟨2048 + q.val, by omega⟩) :=
  (ld2 x0 _ r q r ⟨2048 + q.val, by omega⟩ (by omega) rfl).trans (H.h0 _ _)
include H in
theorem dyc_at (r : Fin 256) (q : Fin 1024) : dyc x4 (ix2 r q) = dy (ix2 (rowAt i r) ⟨q.val, by omega⟩) :=
  (ld2 x4 _ r q r ⟨q.val, by omega⟩ (by omega) (by show q.val = 0 + q.val; omega)).trans (H.h4 _ _)
theorem halo_at (x : Vec Ideal S16x1024 .bf16) (k : Fin 16) (q : Fin 1024) : halo x (ix2 k q) = x (ix2 k q) :=
  ld2 x _ k q k q (by omega) (by omega)
include H in
theorem tap0_at (q : Fin 1024) : tap0 x6 (ix2 0 q) = taps (ix2 0 q) :=
  (ld2 x6 _ (0 : Fin 1) q (0 : Fin 8) q rfl (by omega)).trans (H.h6 0 q)
include H in
theorem tap1_at (q : Fin 1024) : tap1 x6 (ix2 0 q) = taps (ix2 1 q) :=
  (ld2 x6 _ (0 : Fin 1) q (1 : Fin 8) q rfl (by omega)).trans (H.h6 1 q)
include H in
theorem tap2_at (q : Fin 1024) : tap2 x6 (ix2 0 q) = taps (ix2 2 q) :=
  (ld2 x6 _ (0 : Fin 1) q (2 : Fin 8) q rfl (by omega)).trans (H.h6 2 q)
theorem bias_at (q : Fin 1024) : bias x7 (ix2 0 q) = x7 (ix2 0 q) :=
  ld2 x7 _ (0 : Fin 1) q (0 : Fin 1) q rfl (by omega)

include H in
theorem in_at (r : Fin 256) (q : Fin 1024) : k0_pay26 (gc x0) (hc x0) (ix2 r q) = cin z (rowAt i r) q := by
  rw [in_cell, gc_at H, hc_at H]; rfl

include H in
/-- The rows before the block, zero before the first. -/
theorem halo_prev (k : Fin 16) (j : Nat) (hj : j + k.val = 16) (q : Fin 1024) (r : Fin 256) (n : Nat) (hn : n = j + r.val) (hk : r.val < n) :
    halo x1 (ix2 k q) * halo x2 (ix2 k q) * num (notFirst i) = before z n (rowAt i r) q := by
  have hi := point_lt i
  rw [halo_at, halo_at, num_notFirst]
  unfold before
  by_cases h : 0 < (i 0).val
  · rw [if_pos h, if_neg (show ¬ (rowAt i r).val < n by rw [rowAt_val]; omega), mul_one, H.h1 h, H.h2 h]
    unfold cin
    congr 1 <;> refine congrArg z (ix2_mk ?_ rfl) <;> (show 256 * (i 0).val + k.val - 16 = 256 * (i 0).val + r.val - n; omega)
  · rw [if_neg h, if_pos (show (rowAt i r).val < n by rw [rowAt_val]; omega), mul_zero]

include H in
/-- The rows before, within the block. -/
theorem in_prev (n : Nat) (hn : n ≤ 2) (r : Fin 256) (q : Fin 1024) (hr : n ≤ r.val) :
    gc x0 (ix2 ⟨(r.val + 256 - n) % 256, Nat.mod_lt _ (by decide)⟩ q) * hc x0 (ix2 ⟨(r.val + 256 - n) % 256, Nat.mod_lt _ (by decide)⟩ q)
      = before z n (rowAt i r) q := by
  rw [gc_at H, hc_at H]
  unfold before
  rw [if_neg (show ¬ (rowAt i r).val < n by rw [rowAt_val]; omega)]
  unfold cin
  congr 1 <;> refine congrArg z (ix2_mk ?_ rfl) <;>
    (show 256 * (i 0).val + (r.val + 256 - n) % 256 = 256 * (i 0).val + r.val - n; omega)

include H in
theorem prev1_at (r : Fin 256) (q : Fin 1024) : k0_pay28 i (gc x0) (hc x0) (halo x1) (halo x2) (ix2 r q) = before z 1 (rowAt i r) q := by
  rw [prev1]
  split
  · next h => exact halo_prev H 15 1 rfl q r 1 (by omega) (by omega)
  · next h => exact in_prev H 1 (by omega) r q (by omega)

include H in
theorem prev2_at (r : Fin 256) (q : Fin 1024) : k0_pay29 i (gc x0) (hc x0) (halo x1) (halo x2) (ix2 r q) = before z 2 (rowAt i r) q := by
  rw [prev2]
  split
  · next h => exact halo_prev H 14 2 rfl q r 2 (by omega) (by omega)
  split
  · next h => exact halo_prev H 15 1 rfl q r 2 (by omega) (by omega)
  · next h => exact in_prev H 2 (by omega) r q (by omega)

include H in
theorem conv_at (r : Fin 256) (q : Fin 1024) : dyc x4 (ix2 r q) * gb x0 (ix2 r q) = dConv z dy (rowAt i r) q := by
  rw [dyc_at H, gb_at H]; rfl

include H in
/-- The rows after the block, zero after the last. -/
theorem halo_next (k : Fin 16) (q : Fin 1024) (r : Fin 256) (n : Nat) (hn : r.val + n = 256 + k.val) :
    halo x5 (ix2 k q) * halo x3 (ix2 k q) * num (notLast i) = later z dy n (rowAt i r) q := by
  have hi := point_lt i
  rw [halo_at, halo_at, num_notLast]
  unfold later
  by_cases h : (i 0).val < 15
  · rw [if_pos h, dif_pos (show (rowAt i r).val + n < 4096 by rw [rowAt_val]; omega), mul_one, H.h3 h, H.h5 h]
    unfold dConv
    congr 1
    · refine congrArg dy (ix2_mk ?_ rfl)
      show 256 * (i 0).val + 256 + k.val = 256 * (i 0).val + r.val + n; omega
    · refine congrArg z (ix2_mk ?_ rfl)
      show 256 * (i 0).val + 256 + k.val = 256 * (i 0).val + r.val + n; omega
  · rw [if_neg h, dif_neg (show ¬ (rowAt i r).val + n < 4096 by rw [rowAt_val]; omega), mul_zero]

include H in
/-- The rows after, within the block. -/
theorem conv_next (n k : Nat) (hk : k + n = 256) (r : Fin 256) (q : Fin 1024) (hr : r.val + n < 256) :
    dyc x4 (ix2 ⟨(r.val + 256 - k) % 256, Nat.mod_lt _ (by decide)⟩ q) * gb x0 (ix2 ⟨(r.val + 256 - k) % 256, Nat.mod_lt _ (by decide)⟩ q)
      = later z dy n (rowAt i r) q := by
  have hi := point_lt i
  rw [conv_at H]
  unfold later
  rw [dif_pos (show (rowAt i r).val + n < 4096 by rw [rowAt_val]; omega)]
  refine congrArg (dConv z dy · q) (Fin.ext ?_)
  show 256 * (i 0).val + (r.val + 256 - k) % 256 = 256 * (i 0).val + r.val + n; omega

include H in
theorem dcin_at (r : Fin 256) (q : Fin 1024) :
    dcin i (gb x0) (dyc x4) (halo x5) (halo x3) (tap0 x6) (tap1 x6) (tap2 x6) (ix2 r q) = dCin z dy taps (rowAt i r) q := by
  rw [dcin_cell, tap0_at H, tap1_at H, tap2_at H, conv_at H]
  unfold dCin
  congr 2
  · congr 1
    split
    · next h => exact halo_next H 0 q r 1 (by show r.val + 1 = 256 + 0; omega)
    · next h => exact conv_next H 1 255 rfl r q (by omega)
  · split
    · next h => exact halo_next H 1 q r 2 (by show r.val + 2 = 256 + 1; omega)
    split
    · next h => exact halo_next H 0 q r 2 (by show r.val + 2 = 256 + 0; omega)
    · next h => exact conv_next H 2 254 rfl r q (by omega)

/-- The part of the whole gradient that point `i` fills. -/
def dzPart (i : grid0.Coords) (z : Vec Ideal S4096x5120 .bf16) (dy : Vec Ideal S4096x2048 .bf16) (taps : Vec Ideal S3x1024 .f32)
    (b : Vec Ideal S8x128 .f32) (x7 x8 : Vec Ideal S1x1024 .f32) (x9 : Vec Ideal S8x128x128 .f32) : Vec Ideal S256x5120 .bf16 :=
  fun y => dzAll z dy taps x7 x8 x9 b (ix2 (rowAt i (y 0)) (y 1))

/-- Where a store of two axes puts an index. -/
theorem emb2 {n p n' p' : Nat} {o o' : Nat}
    (i : ∀ a, (![o, o'] : Fin 2 → Nat) a + (![n', p'] : Fin 2 → Nat) a ≤ (⟨2, ![n, p]⟩ : Shape).size a) (r : Fin n') (d : Fin p')
    (r' : Fin n) (d' : Fin p) (hr : r'.val = o + r.val) (hd : d'.val = o' + d.val) :
    (Rect.unit (s := ⟨2, ![n, p]⟩) ![o, o'] ![n', p'] i).emb (ix2 r d) = ix2 r' d' := by
  funext a; apply Fin.ext
  match a with
  | ⟨0, _⟩ => show o + 1 * r.val = r'.val; omega
  | ⟨1, _⟩ => show o' + 1 * d.val = d'.val; omega

theorem idx2 {n p : Nat} (x : (⟨2, ![n, p]⟩ : Shape).Idx) : ∃ (r : Fin n) (d : Fin p), x = ix2 r d :=
  ⟨x 0, x 1, by funext a; match a with | ⟨0, _⟩ => rfl | ⟨1, _⟩ => rfl⟩

include H in
theorem gate_piece (x : (Rect.unit (s := S256x5120) ![0, 0] ![256, 1024] inb_S256x5120_S256x1024_0_0).shape.Idx) :
    k0_pay34 (k0_pay26 (gc x0) (hc x0)) (k0_pay28 i (gc x0) (hc x0) (halo x1) (halo x2)) (k0_pay29 i (gc x0) (hc x0) (halo x1) (halo x2))
        (tap0 x6) (tap1 x6) (tap2 x6) (bias x7) (dyc x4) x
      = dzPart i z dy taps b x7 x8 x9 ((Rect.unit (s := S256x5120) ![0, 0] ![256, 1024] inb_S256x5120_S256x1024_0_0).emb x) := by
  obtain ⟨r, q, rfl⟩ : ∃ (r : Fin 256) (q : Fin 1024), x = ix2 r q := idx2 x
  refine (gate_cell _ _ _ _ _ r q _ _ _).trans ?_
  rw [emb2 _ r q r (⟨q.val, by omega⟩ : Fin 5120) (by omega) (by show q.val = 0 + q.val; omega)]
  refine Eq.trans ?_ (dzAll_gate z dy taps x7 x8 x9 b (rowAt i r) q).symm
  rw [in_at H, prev1_at H, prev2_at H, tap0_at H, tap1_at H, tap2_at H, bias_at, dyc_at H]
  rfl

include H in
theorem first_piece (x : (Rect.unit (s := S256x5120) ![0, 1024] ![256, 1024] inb_S256x5120_S256x1024_0_1024).shape.Idx) :
    k0_pay41 (k0_pay25 (hc x0)) (k0_pay30 (tap0 x6)) (k0_pay31 (tap1 x6)) (k0_pay32 (tap2 x6)) (k0_pay35 (gb x0) (dyc x4))
        (k0_pay36 (BitVec.ofNat 32 (i 0).val) (halo x5) (halo x3)) (iota Kind.tc S256x1024 32 [0] iota_S256x1024_d0_w32) k0_pay37
        (k0_pay38 (gb x0) (dyc x4)) (k0_pay39 (BitVec.ofNat 32 (i 0).val) (halo x5) (halo x3)) x
      = dzPart i z dy taps b x7 x8 x9 ((Rect.unit (s := S256x5120) ![0, 1024] ![256, 1024] inb_S256x5120_S256x1024_0_1024).emb x) := by
  obtain ⟨r, q, rfl⟩ : ∃ (r : Fin 256) (q : Fin 1024), x = ix2 r q := idx2 x
  refine (first_cell i _ _ _ _ _ _ _ _ r q).trans ?_
  rw [emb2 _ r q r (⟨1024 + q.val, by omega⟩ : Fin 5120) (by omega) rfl]
  refine Eq.trans ?_ (dzAll_first z dy taps x7 x8 x9 b (rowAt i r) q).symm
  rw [dcin_at H, hc_at H]

include H in
theorem second_piece (x : (Rect.unit (s := S256x5120) ![0, 2048] ![256, 1024] inb_S256x5120_S256x1024_0_2048).shape.Idx) :
    k0_pay42 (k0_pay24 (gc x0)) (k0_pay30 (tap0 x6)) (k0_pay31 (tap1 x6)) (k0_pay32 (tap2 x6)) (k0_pay35 (gb x0) (dyc x4))
        (k0_pay36 (BitVec.ofNat 32 (i 0).val) (halo x5) (halo x3)) (iota Kind.tc S256x1024 32 [0] iota_S256x1024_d0_w32) k0_pay37
        (k0_pay38 (gb x0) (dyc x4)) (k0_pay39 (BitVec.ofNat 32 (i 0).val) (halo x5) (halo x3)) x
      = dzPart i z dy taps b x7 x8 x9 ((Rect.unit (s := S256x5120) ![0, 2048] ![256, 1024] inb_S256x5120_S256x1024_0_2048).emb x) := by
  obtain ⟨r, q, rfl⟩ : ∃ (r : Fin 256) (q : Fin 1024), x = ix2 r q := idx2 x
  refine (second_cell i _ _ _ _ _ _ _ _ r q).trans ?_
  rw [emb2 _ r q r (⟨2048 + q.val, by omega⟩ : Fin 5120) (by omega) rfl]
  refine Eq.trans ?_ (dzAll_second z dy taps x7 x8 x9 b (rowAt i r) q).symm
  rw [dcin_at H, gc_at H]

/-! Head `h`'s parts of the blocks: its values, its scale, its weights, its bias, and in half `n` its rows of `dy` and of
the multiplier. -/
section Heads

variable (h : Fin 8) (n : Fin 2) {ov og ow ob oy ou on : Nat} (hv : ov = 4096 + 128 * h.val) (hg : og = 128 * h.val) (hw : ow = h.val)
  (hb : ob = h.val) (hy : oy = 1024 + 128 * h.val) (hu : ou = 3072 + 128 * h.val) (hn : on = 128 * n.val)
  (iv : ∀ a, (![0, ov] : Fin 2 → Nat) a + (![256, 128] : Fin 2 → Nat) a ≤ S256x5120.size a)
  (ig : ∀ a, (![0, og] : Fin 2 → Nat) a + (![1, 128] : Fin 2 → Nat) a ≤ S1x1024.size a)
  (iw : ∀ a, (![ow, 0, 0] : Fin 3 → Nat) a + (![1, 128, 128] : Fin 3 → Nat) a ≤ S8x128x128.size a)
  (ib : ∀ a, (![0, ob] : Fin 2 → Nat) a + (![128, 1] : Fin 2 → Nat) a ≤ S128x8.size a)
  (iy : ∀ a, (![on, oy] : Fin 2 → Nat) a + (![128, 128] : Fin 2 → Nat) a ≤ S256x2048.size a)
  (iu : ∀ a, (![on, ou] : Fin 2 → Nat) a + (![128, 128] : Fin 2 → Nat) a ≤ S256x5120.size a)

abbrev vals (x0 : Vec Ideal S256x5120 .bf16) (iv : ∀ a, (![0, ov] : Fin 2 → Nat) a + (![256, 128] : Fin 2 → Nat) a ≤ S256x5120.size a) : Vec Ideal S256x128 .bf16 :=
  View.ld (Val := Elt Ideal) x0 (Rect.unit (s := S256x5120) ![0, ov] ![256, 128] iv)
abbrev scales (x8 : Vec Ideal S1x1024 .f32) (ig : ∀ a, (![0, og] : Fin 2 → Nat) a + (![1, 128] : Fin 2 → Nat) a ≤ S1x1024.size a) : Vec Ideal S1x128 .f32 :=
  View.ld (Val := Elt Ideal) x8 (Rect.unit (s := S1x1024) ![0, og] ![1, 128] ig)
abbrev weights (x9 : Vec Ideal S8x128x128 .f32) (iw : ∀ a, (![ow, 0, 0] : Fin 3 → Nat) a + (![1, 128, 128] : Fin 3 → Nat) a ≤ S8x128x128.size a) : Vec Ideal S1x128x128 .f32 :=
  View.ld (Val := Elt Ideal) x9 (Rect.unit (s := S8x128x128) ![ow, 0, 0] ![1, 128, 128] iw)
abbrev biases (x10 : Vec Ideal S128x8 .f32) (ib : ∀ a, (![0, ob] : Fin 2 → Nat) a + (![128, 1] : Fin 2 → Nat) a ≤ S128x8.size a) : Vec Ideal S128x1 .f32 :=
  View.ld (Val := Elt Ideal) x10 (Rect.unit (s := S128x8) ![0, ob] ![128, 1] ib)
abbrev outs (x4 : Vec Ideal S256x2048 .bf16) (iy : ∀ a, (![on, oy] : Fin 2 → Nat) a + (![128, 128] : Fin 2 → Nat) a ≤ S256x2048.size a) : Vec Ideal S128x128 .bf16 :=
  View.ld (Val := Elt Ideal) x4 (Rect.unit (s := S256x2048) ![on, oy] ![128, 128] iy)
abbrev muls (x0 : Vec Ideal S256x5120 .bf16) (iu : ∀ a, (![on, ou] : Fin 2 → Nat) a + (![128, 128] : Fin 2 → Nat) a ≤ S256x5120.size a) : Vec Ideal S128x128 .bf16 :=
  View.ld (Val := Elt Ideal) x0 (Rect.unit (s := S256x5120) ![on, ou] ![128, 128] iu)

theorem rowAt_half (k : Fin 128) : rowAt i (half n k) = row (group i n) k :=
  Fin.ext (show 256 * (i 0).val + (128 * n.val + k.val) = 128 * (2 * (i 0).val + n.val) + k.val by omega)

include H hv in
theorem vals_at (k d : Fin 128) : vals x0 iv (ix2 (half n k) d) = val z (group i n) h k d := by
  refine (ld2 x0 iv (half n k) d (half n k) ⟨4096 + (col h d).val, by omega⟩ (by omega)
    (by show 4096 + (128 * h.val + d.val) = ov + d.val; omega)).trans ?_
  rw [H.h0, rowAt_half]; rfl
include hg in
theorem scales_at (d : Fin 128) : scales x8 ig (ix2 0 d) = x8 (ix2 0 (col h d)) :=
  ld2 x8 ig (0 : Fin 1) d (0 : Fin 1) (col h d) rfl (by show 128 * h.val + d.val = og + d.val; omega)
include hw in
theorem weights_at (j k : Fin 128) : weights x9 iw (ix3 0 j k) = x9 (ix3 h j k) := by
  refine congrArg x9 (funext fun a => Fin.ext ?_)
  match a with
  | ⟨0, _⟩ => show ow + 1 * 0 = h.val; omega
  | ⟨1, _⟩ => show 0 + 1 * j.val = j.val; omega
  | ⟨2, _⟩ => show 0 + 1 * k.val = k.val; omega
include H hb in
theorem biases_at (k : Fin 128) : biases x10 ib (ix2 k 0) = b (ix2 h k) :=
  (ld2 x10 ib k (0 : Fin 1) k h (by omega) (by show h.val = ob + 0; omega)).trans (H.h10 k h)
include H hy hn in
theorem outs_at (k d : Fin 128) : outs x4 iy (ix2 k d) = dOut dy (group i n) h k d := by
  refine (ld2 x4 iy k d (half n k) ⟨1024 + (col h d).val, by omega⟩ (by show 128 * n.val + k.val = on + k.val; omega)
    (by show 1024 + (128 * h.val + d.val) = oy + d.val; omega)).trans ?_
  rw [H.h4, rowAt_half]; rfl
include H hu hn in
theorem muls_at (k d : Fin 128) : muls x0 iu (ix2 k d)
      = z (ix2 (row (group i n) k) ⟨3072 + (col h d).val, Nat.lt_of_lt_of_le (Nat.add_lt_add_left (col h d).isLt 3072) (by decide)⟩) := by
  refine (ld2 x0 iu k d (half n k) ⟨3072 + (col h d).val, by omega⟩ (by show 128 * n.val + k.val = on + k.val; omega)
    (by show 3072 + (128 * h.val + d.val) = ou + d.val; omega)).trans ?_
  rw [H.h0, rowAt_half]

include hw in
theorem tri_at (j k : Fin 128) : triB (weights x9 iw) j k = tri x9 h j k := by
  unfold triB tri; rw [weights_at x9 h hw]

include H hv in
theorem nrm_at (k d : Fin 128) : nrmB (vals x0 iv) (half n k) d = nrm z (group i n) h k d := by
  unfold nrmB nrm
  simp only [vals_at H h n hv]

include H hv hg hw hb hy hn in
theorem mul_at (k d : Fin 128) :
    mulB (vals x0 iv) (scales x8 ig) (weights x9 iw) (biases x10 ib) (outs x4 iy) n k d = dMul z dy x8 x9 b (group i n) h k d := by
  unfold mulB dMul
  simp only [tri_at x9 h hw, nrm_at H h n hv, scales_at x8 h hg, biases_at H h hb, outs_at H h n hy hn]

include H hv hg hw hy hu hn in
theorem val_at (k d : Fin 128) :
    valB (vals x0 iv) (scales x8 ig) (weights x9 iw) (outs x4 iy) (muls x0 iu) n k d = dVal z dy x8 x9 (group i n) h k d := by
  unfold valB dVal
  have e1 : dNrmB (scales x8 ig) (weights x9 iw) (outs x4 iy) (muls x0 iu) k = dNrm z dy x8 x9 (group i n) h k := by
    funext d
    unfold dNrmB dNrm
    simp only [tri_at x9 h hw, scales_at x8 h hg, outs_at H h n hy hn]
    exact congrArg (· * x8 (ix2 0 (col h d))) (Finset.sum_congr rfl fun j _ =>
      congrArg (tri x9 h j k * ·) (congrArg (dOut dy (group i n) h j d * ·) (muls_at H h n hu hn iu j d)))
  have e2 : nrmB (vals x0 iv) (half n k) = nrm z (group i n) h k := funext fun d => nrm_at H h n hv iv k d
  have e3 : (fun e => vals x0 iv (ix2 (half n k) e)) = val z (group i n) h k := funext fun d => vals_at H h n hv iv k d
  rw [e1, e2, e3]

include hu hn in
theorem mul_place (k d : Fin 128) : dzPart i z dy taps b x7 x8 x9 ((Rect.unit (s := S256x5120) ![on, ou] ![128, 128] iu).emb (ix2 k d))
    = dMul z dy x8 x9 b (group i n) h k d := by
  rw [emb2 iu k d (half n k) (⟨3072 + (col h d).val, by omega⟩ : Fin 5120) (by show 128 * n.val + k.val = on + k.val; omega)
    (by show 3072 + (128 * h.val + d.val) = ou + d.val; omega)]
  show dzAll z dy taps x7 x8 x9 b (ix2 (rowAt i (half n k)) ⟨3072 + (col h d).val, by omega⟩) = _
  rw [rowAt_half, dzAll_mul]

include hv hn in
theorem val_place (io : ∀ a, (![on, ov] : Fin 2 → Nat) a + (![128, 128] : Fin 2 → Nat) a ≤ S256x5120.size a) (k d : Fin 128) :
    dzPart i z dy taps b x7 x8 x9 ((Rect.unit (s := S256x5120) ![on, ov] ![128, 128] io).emb (ix2 k d))
      = dVal z dy x8 x9 (group i n) h k d := by
  rw [emb2 io k d (half n k) (⟨4096 + (col h d).val, by omega⟩ : Fin 5120) (by show 128 * n.val + k.val = on + k.val; omega)
    (by show 4096 + (128 * h.val + d.val) = ov + d.val; omega)]
  show dzAll z dy taps x7 x8 x9 b (ix2 (rowAt i (half n k)) ⟨4096 + (col h d).val, by omega⟩) = _
  rw [rowAt_half, dzAll_val]

end Heads

section Stores

variable (h : Fin 8) {ov og ow ob oy ou : Nat} (hv : ov = 4096 + 128 * h.val) (hg : og = 128 * h.val) (hw : ow = h.val)
  (hb : ob = h.val) (hy : oy = 1024 + 128 * h.val) (hu : ou = 3072 + 128 * h.val)
  (iv : ∀ a, (![0, ov] : Fin 2 → Nat) a + (![256, 128] : Fin 2 → Nat) a ≤ S256x5120.size a)
  (ig : ∀ a, (![0, og] : Fin 2 → Nat) a + (![1, 128] : Fin 2 → Nat) a ≤ S1x1024.size a)
  (iw : ∀ a, (![ow, 0, 0] : Fin 3 → Nat) a + (![1, 128, 128] : Fin 3 → Nat) a ≤ S8x128x128.size a)
  (ib : ∀ a, (![0, ob] : Fin 2 → Nat) a + (![128, 1] : Fin 2 → Nat) a ≤ S128x8.size a)

section First

variable (iy : ∀ a, (![0, oy] : Fin 2 → Nat) a + (![128, 128] : Fin 2 → Nat) a ≤ S256x2048.size a)
  (iu : ∀ a, (![0, ou] : Fin 2 → Nat) a + (![128, 128] : Fin 2 → Nat) a ≤ S256x5120.size a)
  (io : ∀ a, (![0, ov] : Fin 2 → Nat) a + (![128, 128] : Fin 2 → Nat) a ≤ S256x5120.size a)

include H hv hg hw hb hy hu in
theorem mul_piece0 (x : (Rect.unit (s := S256x5120) ![0, ou] ![128, 128] iu).shape.Idx) :
    k0_pay57 (k0_pay50 (vals x0 iv) (scales x8 ig)) (k0_pay51 (weights x9 iw)) k0_pay52 (biases x10 ib) (outs x4 iy) x
      = dzPart i z dy taps b x7 x8 x9 ((Rect.unit (s := S256x5120) ![0, ou] ![128, 128] iu).emb x) := by
  obtain ⟨k, d, rfl⟩ : ∃ (k d : Fin 128), x = ix2 k d := idx2 x
  exact (mul_cell0 _ _ _ _ _ k d).trans ((mul_at H x8 x9 h 0 hv hg hw hb hy rfl iv ig iw ib iy k d).trans (mul_place x7 x8 x9 h 0 hu rfl iu k d).symm)

include H hv hg hw hy hu in
theorem val_piece0 (x : (Rect.unit (s := S256x5120) ![0, ov] ![128, 128] io).shape.Idx) :
    k0_pay64 (k0_pay48 (vals x0 iv)) (scales x8 ig) (k0_pay59 (k0_pay51 (weights x9 iw)) k0_pay52 (outs x4 iy) (muls x0 iu))
        (k0_pay62 (k0_pay49 (vals x0 iv))) x
      = dzPart i z dy taps b x7 x8 x9 ((Rect.unit (s := S256x5120) ![0, ov] ![128, 128] io).emb x) := by
  obtain ⟨k, d, rfl⟩ : ∃ (k d : Fin 128), x = ix2 k d := idx2 x
  exact (val_cell0 _ _ _ _ _ k d).trans ((val_at H x8 x9 h 0 hv hg hw hy hu rfl iv ig iw iy iu k d).trans (val_place x7 x8 x9 h 0 hv rfl io k d).symm)

end First

section Second

variable (iy : ∀ a, (![128, oy] : Fin 2 → Nat) a + (![128, 128] : Fin 2 → Nat) a ≤ S256x2048.size a)
  (iu : ∀ a, (![128, ou] : Fin 2 → Nat) a + (![128, 128] : Fin 2 → Nat) a ≤ S256x5120.size a)
  (io : ∀ a, (![128, ov] : Fin 2 → Nat) a + (![128, 128] : Fin 2 → Nat) a ≤ S256x5120.size a)

include H hv hg hw hb hy hu in
theorem mul_piece1 (x : (Rect.unit (s := S256x5120) ![128, ou] ![128, 128] iu).shape.Idx) :
    k0_pay67 (k0_pay50 (vals x0 iv) (scales x8 ig)) (k0_pay53 (k0_pay51 (weights x9 iw)) k0_pay52) (biases x10 ib) (outs x4 iy) x
      = dzPart i z dy taps b x7 x8 x9 ((Rect.unit (s := S256x5120) ![128, ou] ![128, 128] iu).emb x) := by
  obtain ⟨k, d, rfl⟩ : ∃ (k d : Fin 128), x = ix2 k d := idx2 x
  exact (mul_cell1 _ _ _ _ _ k d).trans ((mul_at H x8 x9 h 1 hv hg hw hb hy rfl iv ig iw ib iy k d).trans (mul_place x7 x8 x9 h 1 hu rfl iu k d).symm)

include H hv hg hw hy hu in
theorem val_piece1 (x : (Rect.unit (s := S256x5120) ![128, ov] ![128, 128] io).shape.Idx) :
    k0_pay75 (k0_pay48 (vals x0 iv)) (k0_pay49 (vals x0 iv)) (scales x8 ig)
        (k0_pay69 (k0_pay53 (k0_pay51 (weights x9 iw)) k0_pay52) (outs x4 iy) (muls x0 iu)) x
      = dzPart i z dy taps b x7 x8 x9 ((Rect.unit (s := S256x5120) ![128, ov] ![128, 128] io).emb x) := by
  obtain ⟨k, d, rfl⟩ : ∃ (k d : Fin 128), x = ix2 k d := idx2 x
  exact (val_cell1 _ _ _ _ _ k d).trans ((val_at H x8 x9 h 1 hv hg hw hy hu rfl iv ig iw iy iu k d).trans (val_place x7 x8 x9 h 1 hv rfl io k d).symm)

end Second

include H in
/-- Head `h`'s four stores. -/
theorem head_pieces
    (iv : ∀ a, (![0, ov] : Fin 2 → Nat) a + (![256, 128] : Fin 2 → Nat) a ≤ S256x5120.size a)
    (ig : ∀ a, (![0, og] : Fin 2 → Nat) a + (![1, 128] : Fin 2 → Nat) a ≤ S1x1024.size a)
    (iw : ∀ a, (![ow, 0, 0] : Fin 3 → Nat) a + (![1, 128, 128] : Fin 3 → Nat) a ≤ S8x128x128.size a)
    (ib : ∀ a, (![0, ob] : Fin 2 → Nat) a + (![128, 1] : Fin 2 → Nat) a ≤ S128x8.size a)
    (iy : ∀ a, (![0, oy] : Fin 2 → Nat) a + (![128, 128] : Fin 2 → Nat) a ≤ S256x2048.size a)
    (iu : ∀ a, (![0, ou] : Fin 2 → Nat) a + (![128, 128] : Fin 2 → Nat) a ≤ S256x5120.size a)
    (io : ∀ a, (![0, ov] : Fin 2 → Nat) a + (![128, 128] : Fin 2 → Nat) a ≤ S256x5120.size a)
    (jy : ∀ a, (![128, oy] : Fin 2 → Nat) a + (![128, 128] : Fin 2 → Nat) a ≤ S256x2048.size a)
    (ju : ∀ a, (![128, ou] : Fin 2 → Nat) a + (![128, 128] : Fin 2 → Nat) a ≤ S256x5120.size a)
    (jo : ∀ a, (![128, ov] : Fin 2 → Nat) a + (![128, 128] : Fin 2 → Nat) a ≤ S256x5120.size a)
    (hv : ov = 4096 + 128 * h.val) (hg : og = 128 * h.val) (hw : ow = h.val) (hb : ob = h.val) (hy : oy = 1024 + 128 * h.val)
    (hu : ou = 3072 + 128 * h.val) {T : Prop} (rest : T) :
    (∀ x, k0_pay75 (k0_pay48 (vals x0 iv)) (k0_pay49 (vals x0 iv)) (scales x8 ig)
          (k0_pay69 (k0_pay53 (k0_pay51 (weights x9 iw)) k0_pay52) (outs x4 jy) (muls x0 ju)) x
        = dzPart i z dy taps b x7 x8 x9 ((Rect.unit (s := S256x5120) ![128, ov] ![128, 128] jo).emb x))
    ∧ (∀ x, k0_pay67 (k0_pay50 (vals x0 iv) (scales x8 ig)) (k0_pay53 (k0_pay51 (weights x9 iw)) k0_pay52) (biases x10 ib) (outs x4 jy) x
        = dzPart i z dy taps b x7 x8 x9 ((Rect.unit (s := S256x5120) ![128, ou] ![128, 128] ju).emb x))
    ∧ (∀ x, k0_pay64 (k0_pay48 (vals x0 iv)) (scales x8 ig) (k0_pay59 (k0_pay51 (weights x9 iw)) k0_pay52 (outs x4 iy) (muls x0 iu))
          (k0_pay62 (k0_pay49 (vals x0 iv))) x
        = dzPart i z dy taps b x7 x8 x9 ((Rect.unit (s := S256x5120) ![0, ov] ![128, 128] io).emb x))
    ∧ (∀ x, k0_pay57 (k0_pay50 (vals x0 iv) (scales x8 ig)) (k0_pay51 (weights x9 iw)) k0_pay52 (biases x10 ib) (outs x4 iy) x
        = dzPart i z dy taps b x7 x8 x9 ((Rect.unit (s := S256x5120) ![0, ou] ![128, 128] iu).emb x))
    ∧ T :=
  ⟨val_piece1 H x7 x8 x9 h hv hg hw hy hu iv ig iw jy ju jo, mul_piece1 H x7 x8 x9 h hv hg hw hb hy hu iv ig iw ib jy ju,
    val_piece0 H x7 x8 x9 h hv hg hw hy hu iv ig iw iy iu io, mul_piece0 H x7 x8 x9 h hv hg hw hb hy hu iv ig iw ib iy iu, rest⟩

end Stores

end Pieces

end Cert.MixerGrad
-- ==== Proof.Mixer.Store.lean ====
/-
  THE BLOCK OF `dz` AFTER A POINT. Every piece that the run stores is the gradient's part at its place, so the block is the
  gradient's part that belongs to the point.
-/
module

public import proofs.«01_k».proof.Proof.Mixer.Block

@[expose] public section

set_option maxRecDepth 16384

noncomputable section

namespace Cert.MixerGrad

open Cert.MixerIdeal Cert.MixerIdeal.Gen Idealize.ShloMosaic Idealize.ShloMosaic.Tactic

variable (m : (ℓ : Loc nD τ sig) → Buf (Elt Ideal) ℓ)

/-- What two lists that agree put together. -/
theorem canon_ite (p : Prop) (d : Decidable p) (a b : List (View.Piece (Elt Ideal) S256x5120 .bf16)) (h : a = b) :
    View.canon (if p then a else b) = View.canon b := by
  rw [h, ite_self]

set_option maxHeartbeats 4000000 in
theorem dz_eq (c : Dev nD) (t : Fin cfg0.N) (z : Vec Ideal S4096x5120 .bf16) (dy : Vec Ideal S4096x2048 .bf16) (taps : Vec Ideal S3x1024 .f32)
    (b : Vec Ideal S8x128 .f32)
    (H : Parts (grid0.coords t) z dy taps b (iblk m c 0 t) (iblk m c 1 t) (iblk m c 2 t) (iblk m c 3 t) (iblk m c 4 t) (iblk m c 5 t) (iblk m c 6 t) (iblk m c 10 t)) :
    dz m c t = dzPart (grid0.coords t) z dy taps b (iblk m c 7 t) (iblk m c 8 t) (iblk m c 9 t) := by
  unfold dz pieces run
  sl_unfold_words
  dsimp only
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (hs9 t).read_unread, (hs10 t).read_unread]
  funext y
  refine (congrFun (canon_ite _ _ _ _ rfl) y).trans ?_
  refine View.canon_apply_of_pieces (dzPart (grid0.coords t) z dy taps b (iblk m c 7 t) (iblk m c 8 t) (iblk m c 9 t)) _ (View.PiecesOf.mem ?_) y ?_
  · exact head_pieces H _ _ _ 7 inb_S256x5120_S256x128_0_4992 inb_S1x1024_S1x128_0_896 inb_S8x128x128_S1x128x128_7_0_0 inb_S128x8_S128x1_0_7
      inb_S256x2048_S128x128_0_1920 inb_S256x5120_S128x128_0_3968 inb_S256x5120_S128x128_0_4992 inb_S256x2048_S128x128_128_1920
      inb_S256x5120_S128x128_128_3968 inb_S256x5120_S128x128_128_4992 rfl rfl rfl rfl rfl rfl <|
    head_pieces H _ _ _ 6 inb_S256x5120_S256x128_0_4864 inb_S1x1024_S1x128_0_768 inb_S8x128x128_S1x128x128_6_0_0 inb_S128x8_S128x1_0_6
      inb_S256x2048_S128x128_0_1792 inb_S256x5120_S128x128_0_3840 inb_S256x5120_S128x128_0_4864 inb_S256x2048_S128x128_128_1792
      inb_S256x5120_S128x128_128_3840 inb_S256x5120_S128x128_128_4864 rfl rfl rfl rfl rfl rfl <|
    head_pieces H _ _ _ 5 inb_S256x5120_S256x128_0_4736 inb_S1x1024_S1x128_0_640 inb_S8x128x128_S1x128x128_5_0_0 inb_S128x8_S128x1_0_5
      inb_S256x2048_S128x128_0_1664 inb_S256x5120_S128x128_0_3712 inb_S256x5120_S128x128_0_4736 inb_S256x2048_S128x128_128_1664
      inb_S256x5120_S128x128_128_3712 inb_S256x5120_S128x128_128_4736 rfl rfl rfl rfl rfl rfl <|
    head_pieces H _ _ _ 4 inb_S256x5120_S256x128_0_4608 inb_S1x1024_S1x128_0_512 inb_S8x128x128_S1x128x128_4_0_0 inb_S128x8_S128x1_0_4
      inb_S256x2048_S128x128_0_1536 inb_S256x5120_S128x128_0_3584 inb_S256x5120_S128x128_0_4608 inb_S256x2048_S128x128_128_1536
      inb_S256x5120_S128x128_128_3584 inb_S256x5120_S128x128_128_4608 rfl rfl rfl rfl rfl rfl <|
    head_pieces H _ _ _ 3 inb_S256x5120_S256x128_0_4480 inb_S1x1024_S1x128_0_384 inb_S8x128x128_S1x128x128_3_0_0 inb_S128x8_S128x1_0_3
      inb_S256x2048_S128x128_0_1408 inb_S256x5120_S128x128_0_3456 inb_S256x5120_S128x128_0_4480 inb_S256x2048_S128x128_128_1408
      inb_S256x5120_S128x128_128_3456 inb_S256x5120_S128x128_128_4480 rfl rfl rfl rfl rfl rfl <|
    head_pieces H _ _ _ 2 inb_S256x5120_S256x128_0_4352 inb_S1x1024_S1x128_0_256 inb_S8x128x128_S1x128x128_2_0_0 inb_S128x8_S128x1_0_2
      inb_S256x2048_S128x128_0_1280 inb_S256x5120_S128x128_0_3328 inb_S256x5120_S128x128_0_4352 inb_S256x2048_S128x128_128_1280
      inb_S256x5120_S128x128_128_3328 inb_S256x5120_S128x128_128_4352 rfl rfl rfl rfl rfl rfl <|
    head_pieces H _ _ _ 1 inb_S256x5120_S256x128_0_4224 inb_S1x1024_S1x128_0_128 inb_S8x128x128_S1x128x128_1_0_0 inb_S128x8_S128x1_0_1
      inb_S256x2048_S128x128_0_1152 inb_S256x5120_S128x128_0_3200 inb_S256x5120_S128x128_0_4224 inb_S256x2048_S128x128_128_1152
      inb_S256x5120_S128x128_128_3200 inb_S256x5120_S128x128_128_4224 rfl rfl rfl rfl rfl rfl <|
    head_pieces H _ _ _ 0 inb_S256x5120_S256x128_0_4096 inb_S1x1024_S1x128_0_0 inb_S8x128x128_S1x128x128_0_0_0 inb_S128x8_S128x1_0_0
      inb_S256x2048_S128x128_0_1024 inb_S256x5120_S128x128_0_3072 inb_S256x5120_S128x128_0_4096 inb_S256x2048_S128x128_128_1024
      inb_S256x5120_S128x128_128_3072 inb_S256x5120_S128x128_128_4096 rfl rfl rfl rfl rfl rfl <|
    And.intro (fun x => second_piece H _ _ _ x) <| And.intro (fun x => first_piece H _ _ _ x) <| And.intro (fun x => gate_piece H _ _ _ x) <| trivial
  · exact View.cover_of_tiledBy _ ![128, 128] (by sl_kernel_rfl) y

end Cert.MixerGrad
-- ==== Proof.Mixer.Array.lean ====
/-
  THE MIXER'S GRADIENT AS A WHOLE ARRAY. 16 grid points, each a block of 256 rows of `z` and `dy` with sixteen rows of the
  blocks before and behind; each writes its own rows of `dz`.
-/
module

public import proofs.«01_k».proof.Proof.Mixer.Store
public import proofs.«01_k».proof.Proof.Mixer.Frame
public import Idealize.ShloMosaic.Lib.KernelVsHost

@[expose] public section

set_option maxRecDepth 16384

noncomputable section

namespace Cert.MixerGrad

open Idealize.ShloMosaic Idealize.ShloMosaic.TcCoe Idealize.ShloMosaic.Tactic Cert.MixerIdeal Cert.MixerIdeal.Gen Idealize.SL.Sem
open Idealize.ShloMosaic.Pipeline (Dat Cfg Window)

variable (m : (ℓ : Loc nD τ sig) → Buf (Elt Ideal) ℓ)

abbrev az (c : Dev nD) : Vec Ideal S4096x5120 .bf16 := m ((c : Thread nD τ).loc main_arg0)
abbrev ady (c : Dev nD) : Vec Ideal S4096x2048 .bf16 := m ((c : Thread nD τ).loc main_arg1)
abbrev at' (c : Dev nD) : Vec Ideal S3x1024 .f32 := m ((c : Thread nD τ).loc main_arg2)
abbrev acb (c : Dev nD) : Vec Ideal S1x1024 .f32 := m ((c : Thread nD τ).loc main_arg3)
abbrev ag (c : Dev nD) : Vec Ideal S1x1024 .f32 := m ((c : Thread nD τ).loc main_arg4)
abbrev aw (c : Dev nD) : Vec Ideal S8x128x128 .f32 := m ((c : Thread nD τ).loc main_arg5)
abbrev ab (c : Dev nD) : Vec Ideal S8x128 .f32 := m ((c : Thread nD τ).loc main_arg6)

theorem point : ∀ t : Fin cfg0.N, (grid0.coords t 0).val = t.val :=
  (by decide +kernel : ∀ t : Fin grid0.N, (grid0.coords t 0).val = t.val)
theorem lt_N (t : Fin cfg0.N) : t.val < 16 := by have := t.isLt; have hN : cfg0.N = 16 := N_0; omega
theorem place0 : ∀ t : Fin cfg0.N, win0_0.index t 0 = t.val ∧ win0_0.index t 1 = 0 :=
  (by decide +kernel : ∀ t : Fin grid0.N, win0_0.index t 0 = t.val ∧ win0_0.index t 1 = 0)
theorem place1 : ∀ t : Fin cfg0.N, win0_1.index t 0 = 16 * t.val - 1 ∧ win0_1.index t 1 = 1 :=
  (by decide +kernel : ∀ t : Fin grid0.N, win0_1.index t 0 = 16 * t.val - 1 ∧ win0_1.index t 1 = 1)
theorem place2 : ∀ t : Fin cfg0.N, win0_2.index t 0 = 16 * t.val - 1 ∧ win0_2.index t 1 = 2 :=
  (by decide +kernel : ∀ t : Fin grid0.N, win0_2.index t 0 = 16 * t.val - 1 ∧ win0_2.index t 1 = 2)
theorem place3 : ∀ t : Fin cfg0.N, (t.val < 15 → win0_3.index t 0 = 16 * (t.val + 1)) ∧ win0_3.index t 1 = 0 :=
  (by decide +kernel : ∀ t : Fin grid0.N, (t.val < 15 → win0_3.index t 0 = 16 * (t.val + 1)) ∧ win0_3.index t 1 = 0)
theorem place4 : ∀ t : Fin cfg0.N, win0_4.index t 0 = t.val ∧ win0_4.index t 1 = 0 :=
  (by decide +kernel : ∀ t : Fin grid0.N, win0_4.index t 0 = t.val ∧ win0_4.index t 1 = 0)
theorem place5 : ∀ t : Fin cfg0.N, (t.val < 15 → win0_5.index t 0 = 16 * (t.val + 1)) ∧ win0_5.index t 1 = 0 :=
  (by decide +kernel : ∀ t : Fin grid0.N, (t.val < 15 → win0_5.index t 0 = 16 * (t.val + 1)) ∧ win0_5.index t 1 = 0)
theorem place6 : ∀ t : Fin cfg0.N, win0_6.index t 0 = 0 ∧ win0_6.index t 1 = 0 :=
  (by decide +kernel : ∀ t : Fin grid0.N, win0_6.index t 0 = 0 ∧ win0_6.index t 1 = 0)
theorem place7 : ∀ t : Fin cfg0.N, win0_7.index t 0 = 0 ∧ win0_7.index t 1 = 0 :=
  (by decide +kernel : ∀ t : Fin grid0.N, win0_7.index t 0 = 0 ∧ win0_7.index t 1 = 0)
theorem place8 : ∀ t : Fin cfg0.N, win0_8.index t 0 = 0 ∧ win0_8.index t 1 = 0 :=
  (by decide +kernel : ∀ t : Fin grid0.N, win0_8.index t 0 = 0 ∧ win0_8.index t 1 = 0)
theorem place9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)
theorem place10 : ∀ t : Fin cfg0.N, win0_10.index t 0 = 0 ∧ win0_10.index t 1 = 0 :=
  (by decide +kernel : ∀ t : Fin grid0.N, win0_10.index t 0 = 0 ∧ win0_10.index t 1 = 0)
theorem place11 : ∀ t : Fin cfg0.N, win0_11.index t 0 = t.val ∧ win0_11.index t 1 = 0 :=
  (by decide +kernel : ∀ t : Fin grid0.N, win0_11.index t 0 = t.val ∧ win0_11.index t 1 = 0)

theorem taps_host (c : Dev nD) : V m c main_v0
    = (pad S8x1024 ![0, 0] ![5, 0] ![0, 0] (at' m c) (sitofp (F := Ideal) .f32 (constantI S_ 32 0#32)) pads_S3x1024_S8x1024_050_000 h_S_ : Vec Ideal S8x1024 .f32) := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append]
  after_results_simp
  rfl
theorem bias_host (c : Dev nD) : V m c main_v1 = (transpose S128x8 [1, 0] (ab m c) transposes_S8x128_S128x8_1_0 : Vec Ideal S128x8 .f32) := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results_simp

theorem iblk0 (c : Dev nD) (t : Fin cfg0.N) (r : Fin 256) (q : Fin 5120) :
    (iblk m c 0 t : Vec Ideal S256x5120 .bf16) (ix2 r q) = az m c (ix2 (rowAt (grid0.coords t) r) q) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 256 + 1 * r.val = 256 * (grid0.coords t 0).val + r.val; rw [(place0 t).1, point t]; omega
  | ⟨1, _⟩ => show win0_0.index t 1 * 5120 + 1 * q.val = q.val; rw [(place0 t).2]; omega

theorem iblk1 (c : Dev nD) (t : Fin cfg0.N) (h : 0 < (grid0.coords t 0).val) (k : Fin 16) (q : Fin 1024) : (iblk m c 1 t : Vec Ideal S16x1024 .bf16) (ix2 k q)
    = az m c (ix2 ⟨256 * (grid0.coords t 0).val + k.val - 16, by have := point_lt (grid0.coords t); omega⟩ ⟨1024 + q.val, by omega⟩) := by
  unfold iblk
  rw [View.read_apply]
  show V m c main_arg0 _ = m ((c : Thread nD τ).loc main_arg0) _
  rw [V_main_arg0]
  congr 1
  funext a
  apply Fin.ext
  rw [point t] at h
  match a with
  | ⟨0, _⟩ => show win0_1.index t 0 * 16 + 1 * k.val = 256 * (grid0.coords t 0).val + k.val - 16; rw [(place1 t).1, point t]; omega
  | ⟨1, _⟩ => show win0_1.index t 1 * 1024 + 1 * q.val = 1024 + q.val; rw [(place1 t).2]; omega

theorem iblk2 (c : Dev nD) (t : Fin cfg0.N) (h : 0 < (grid0.coords t 0).val) (k : Fin 16) (q : Fin 1024) : (iblk m c 2 t : Vec Ideal S16x1024 .bf16) (ix2 k q)
    = az m c (ix2 ⟨256 * (grid0.coords t 0).val + k.val - 16, by have := point_lt (grid0.coords t); omega⟩ ⟨2048 + q.val, by omega⟩) := by
  unfold iblk
  rw [View.read_apply]
  show V m c main_arg0 _ = m ((c : Thread nD τ).loc main_arg0) _
  rw [V_main_arg0]
  congr 1
  funext a
  apply Fin.ext
  rw [point t] at h
  match a with
  | ⟨0, _⟩ => show win0_2.index t 0 * 16 + 1 * k.val = 256 * (grid0.coords t 0).val + k.val - 16; rw [(place2 t).1, point t]; omega
  | ⟨1, _⟩ => show win0_2.index t 1 * 1024 + 1 * q.val = 2048 + q.val; rw [(place2 t).2]; omega

theorem iblk3 (c : Dev nD) (t : Fin cfg0.N) (h : (grid0.coords t 0).val < 15) (k : Fin 16) (q : Fin 1024) : (iblk m c 3 t : Vec Ideal S16x1024 .bf16) (ix2 k q)
    = az m c (ix2 ⟨256 * (grid0.coords t 0).val + 256 + k.val, by omega⟩ ⟨q.val, by omega⟩) := by
  unfold iblk
  rw [View.read_apply]
  show V m c main_arg0 _ = m ((c : Thread nD τ).loc main_arg0) _
  rw [V_main_arg0]
  congr 1
  funext a
  apply Fin.ext
  rw [point t] at h
  match a with
  | ⟨0, _⟩ => show win0_3.index t 0 * 16 + 1 * k.val = 256 * (grid0.coords t 0).val + 256 + k.val; rw [(place3 t).1 h, point t]; omega
  | ⟨1, _⟩ => show win0_3.index t 1 * 1024 + 1 * q.val = q.val; rw [(place3 t).2]; omega

theorem iblk4 (c : Dev nD) (t : Fin cfg0.N) (r : Fin 256) (q : Fin 2048) :
    (iblk m c 4 t : Vec Ideal S256x2048 .bf16) (ix2 r q) = ady m c (ix2 (rowAt (grid0.coords t) r) q) := by
  unfold iblk
  rw [View.read_apply]
  show V m c main_arg1 _ = m ((c : Thread nD τ).loc main_arg1) _
  rw [V_main_arg1]
  congr 1
  funext a
  apply Fin.ext
  match a with
  | ⟨0, _⟩ => show win0_4.index t 0 * 256 + 1 * r.val = 256 * (grid0.coords t 0).val + r.val; rw [(place4 t).1, point t]; omega
  | ⟨1, _⟩ => show win0_4.index t 1 * 2048 + 1 * q.val = q.val; rw [(place4 t).2]; omega

theorem iblk5 (c : Dev nD) (t : Fin cfg0.N) (h : (grid0.coords t 0).val < 15) (k : Fin 16) (q : Fin 1024) : (iblk m c 5 t : Vec Ideal S16x1024 .bf16) (ix2 k q)
    = ady m c (ix2 ⟨256 * (grid0.coords t 0).val + 256 + k.val, by omega⟩ ⟨q.val, by omega⟩) := by
  unfold iblk
  rw [View.read_apply]
  show V m c main_arg1 _ = m ((c : Thread nD τ).loc main_arg1) _
  rw [V_main_arg1]
  congr 1
  funext a
  apply Fin.ext
  rw [point t] at h
  match a with
  | ⟨0, _⟩ => show win0_5.index t 0 * 16 + 1 * k.val = 256 * (grid0.coords t 0).val + 256 + k.val; rw [(place5 t).1 h, point t]; omega
  | ⟨1, _⟩ => show win0_5.index t 1 * 1024 + 1 * q.val = q.val; rw [(place5 t).2]; omega

/-- The padded taps' first three rows are the taps. -/
theorem iblk6 (c : Dev nD) (t : Fin cfg0.N) (k : Fin 3) (q : Fin 1024) :
    (iblk m c 6 t : Vec Ideal S8x1024 .f32) (ix2 ⟨k.val, by omega⟩ q) = at' m c (ix2 k q) := by
  unfold iblk
  rw [View.read_apply]
  show V m c main_v0 _ = _
  rw [taps_host]
  refine pad_apply_of_inside ![0, 0] ![5, 0] ![0, 0] (at' m c) _ _ _ _ (ix2 k q) fun a => ?_
  match a with
  | ⟨0, _⟩ => show win0_6.index t 0 * 8 + 1 * k.val = 0 + k.val * (0 + 1); rw [(place6 t).1]; omega
  | ⟨1, _⟩ => show win0_6.index t 1 * 1024 + 1 * q.val = 0 + q.val * (0 + 1); rw [(place6 t).2]; omega

theorem iblk7 (c : Dev nD) (t : Fin cfg0.N) : (iblk m c 7 t : Vec Ideal S1x1024 .f32) = acb m c := by
  funext j
  unfold iblk
  rw [View.read_apply]
  show V m c main_arg3 _ = m ((c : Thread nD τ).loc main_arg3) _
  rw [V_main_arg3]
  congr 1
  funext a
  apply Fin.ext
  match a with
  | ⟨0, _⟩ => show win0_7.index t 0 * 1 + 1 * (j 0).val = (j 0).val; rw [(place7 t).1]; omega
  | ⟨1, _⟩ => show win0_7.index t 1 * 1024 + 1 * (j 1).val = (j 1).val; rw [(place7 t).2]; omega

theorem iblk8 (c : Dev nD) (t : Fin cfg0.N) : (iblk m c 8 t : Vec Ideal S1x1024 .f32) = ag m c := by
  funext j
  unfold iblk
  rw [View.read_apply]
  show V m c main_arg4 _ = m ((c : Thread nD τ).loc main_arg4) _
  rw [V_main_arg4]
  congr 1
  funext a
  apply Fin.ext
  match a with
  | ⟨0, _⟩ => show win0_8.index t 0 * 1 + 1 * (j 0).val = (j 0).val; rw [(place8 t).1]; omega
  | ⟨1, _⟩ => show win0_8.index t 1 * 1024 + 1 * (j 1).val = (j 1).val; rw [(place8 t).2]; omega

theorem iblk9 (c : Dev nD) (t : Fin cfg0.N) : (iblk m c 9 t : Vec Ideal S8x128x128 .f32) = aw m c := by
  funext j
  unfold iblk
  rw [View.read_apply]
  show V m c main_arg5 _ = m ((c : Thread nD τ).loc main_arg5) _
  rw [V_main_arg5]
  congr 1
  funext a
  apply Fin.ext
  match a with
  | ⟨0, _⟩ => show win0_9.index t 0 * 8 + 1 * (j 0).val = (j 0).val; rw [(place9 t).1]; omega
  | ⟨1, _⟩ => show win0_9.index t 1 * 128 + 1 * (j 1).val = (j 1).val; rw [(place9 t).2.1]; omega
  | ⟨2, _⟩ => show win0_9.index t 2 * 128 + 1 * (j 2).val = (j 2).val; rw [(place9 t).2.2]; omega

theorem iblk10 (c : Dev nD) (t : Fin cfg0.N) (k : Fin 128) (h : Fin 8) : (iblk m c 10 t : Vec Ideal S128x8 .f32) (ix2 k h) = ab m c (ix2 h k) := by
  have e : (transpose S128x8 [1, 0] (ab m c) transposes_S8x128_S128x8_1_0 : Vec Ideal S128x8 .f32) (ix2 k h) = ab m c (ix2 h k) := by pointwise []
  rw [← e, ← bias_host]
  unfold iblk
  rw [View.read_apply]
  show V m c main_v1 _ = V m c main_v1 _
  congr 1
  funext a
  apply Fin.ext
  match a with
  | ⟨0, _⟩ => show win0_10.index t 0 * 128 + 1 * k.val = k.val; rw [(place10 t).1]; omega
  | ⟨1, _⟩ => show win0_10.index t 1 * 8 + 1 * h.val = h.val; rw [(place10 t).2]; omega

theorem parts (c : Dev nD) (t : Fin cfg0.N) : Parts (grid0.coords t) (az m c) (ady m c) (at' m c) (ab m c) (iblk m c 0 t) (iblk m c 1 t) (iblk m c 2 t)
    (iblk m c 3 t) (iblk m c 4 t) (iblk m c 5 t) (iblk m c 6 t) (iblk m c 10 t) where
  h0 := iblk0 m c t
  h1 := iblk1 m c t
  h2 := iblk2 m c t
  h3 := iblk3 m c t
  h4 := iblk4 m c t
  h5 := iblk5 m c t
  h6 := iblk6 m c t
  h10 := iblk10 m c t

theorem flushed11 (c : Dev nD) (t : Fin cfg0.N) : (dats m 0 c).flushed 11 t
    = (cfg0.win 11).cut (grid0.coords t) (dzPart (grid0.coords t) (az m c) (ady m c) (at' m c) (ab m c) (acb m c) (ag m c) (aw m c)) := by
  show (cfg0.win 11).cut (grid0.coords t) ((dats m 0 c).after 11 t) = _
  rw [after11, dz_eq m c t _ _ _ _ (parts m c t), iblk7, iblk8, iblk9]

theorem final (c : Dev nD) : (dats m 0 c).arrAt 11 cfg0.N = dzAll (az m c) (ady m c) (at' m c) (acb m c) (ag m c) (aw m c) (ab m c) := by
  refine (dats m 0 c).arrAt_eq_of_cover 11 (dzAll (az m c) (ady m c) (at' m c) (acb m c) (ag m c) (aw m c) (ab m c)) (fun t _ => ?_) fun (i : S4096x5120.Idx) => ?_
  · rw [flushed11]
    funext j
    rw [View.read_apply]
    show dzAll _ _ _ _ _ _ _ (ix2 (rowAt (grid0.coords t) (j 0)) (j 1)) = dzAll _ _ _ _ _ _ _ _
    congr 1
    funext a
    apply Fin.ext
    match a with
    | ⟨0, _⟩ => show 256 * (grid0.coords t 0).val + (j 0).val = win0_11.index t 0 * 256 + 1 * (j 0).val; rw [(place11 t).1, point t]; omega
    | ⟨1, _⟩ => show (j 1).val = win0_11.index t 1 * 5120 + 1 * (j 1).val; rw [(place11 t).2]; omega
  · have h0 : (i 0 : Nat) < 4096 := (i 0).isLt
    have h1 : (i 1 : Nat) < 5120 := (i 1).isLt
    have hN : cfg0.N = 16 := N_0
    obtain ⟨t, ht⟩ : ∃ t : Fin cfg0.N, t.val = (i 0 : Nat) / 256 := ⟨⟨(i 0 : Nat) / 256, by omega⟩, rfl⟩
    refine ⟨t, flush0_11 t, ?_⟩
    show i ∈ ((View.whole main_v2_0).slice (win0_11.rect t)).set
    rw [View.set_slice_whole, Rect.mem_set_unit]
    intro a
    match a with
    | ⟨0, _⟩ => show win0_11.index t 0 * 256 ≤ (i 0 : Nat) ∧ (i 0 : Nat) < win0_11.index t 0 * 256 + 256
                rw [(place11 t).1]; omega
    | ⟨1, _⟩ => show win0_11.index t 1 * 5120 ≤ (i 1 : Nat) ∧ (i 1 : Nat) < win0_11.index t 1 * 5120 + 5120
                rw [(place11 t).2]; omega

end Cert.MixerGrad
-- ==== Proof.Mixer.Stages.lean ====
/-
  THE REFERENCE'S STEPS, in the reference's order and under the reference's numbers.
-/
module

public import proofs.«01_k».proof.Proof.Gen.MixerRefIdeal.Run
public import Idealize.ShloMosaic.Lib.Pointwise

@[expose] public section

set_option maxRecDepth 16384

noncomputable section

namespace Cert.MixerGrad.Ref

open Cert.MixerRefIdeal Cert.MixerRefIdeal.Gen Idealize.ShloMosaic Idealize.ShloMosaic.TcCoe

def v0 (z : FVec Ideal S4096x5120 .bf16) : FVec Ideal S4096x5120 .f32 := extf .f32 z bitsLt_bf16_f32
def v1 (dy : FVec Ideal S4096x2048 .bf16) : FVec Ideal S4096x2048 .f32 := extf .f32 dy bitsLt_bf16_f32
def v2 (z : FVec Ideal S4096x5120 .bf16) : FVec Ideal S1x4096x5120 .f32 := broadcastInDim S1x4096x5120 ![1, 2] bcast_S4096x5120_S1x4096x5120_1_2 (v0 z)
def v3 (cb : FVec Ideal S1x1024 .f32) : FVec Ideal S1024 .f32 := shapeCast _ cb shapeCasts_S1x1024_S1024
def v4 (g : FVec Ideal S1x1024 .f32) : FVec Ideal S1024 .f32 := shapeCast _ g shapeCasts_S1x1024_S1024
def v5 (z : FVec Ideal S4096x5120 .bf16) : FVec Ideal S1x4096x1024 .f32 := extractStridedSlice S1x4096x1024 ![0, 0, 0] (v2 z) slices_S1x4096x5120_S1x4096x1024_0_0_0
def v6 (z : FVec Ideal S4096x5120 .bf16) : FVec Ideal S1x4096x1024 .f32 := extractStridedSlice S1x4096x1024 ![0, 0, 1024] (v2 z) slices_S1x4096x5120_S1x4096x1024_0_0_1024
def v7 (z : FVec Ideal S4096x5120 .bf16) : FVec Ideal S1x4096x1024 .f32 := extractStridedSlice S1x4096x1024 ![0, 0, 2048] (v2 z) slices_S1x4096x5120_S1x4096x1024_0_0_2048
def v8 (z : FVec Ideal S4096x5120 .bf16) : FVec Ideal S1x4096x1024 .f32 := extractStridedSlice S1x4096x1024 ![0, 0, 3072] (v2 z) slices_S1x4096x5120_S1x4096x1024_0_0_3072
def v9 (z : FVec Ideal S4096x5120 .bf16) : FVec Ideal S1x4096x1024 .f32 := extractStridedSlice S1x4096x1024 ![0, 0, 4096] (v2 z) slices_S1x4096x5120_S1x4096x1024_0_0_4096
def v10 (z : FVec Ideal S4096x5120 .bf16) : FVec Ideal S1x4096x1024 .f32 := mulf (v6 z) (v7 z)
def cst : FVec Ideal S_ .f32 := constant S_ .f32 0x00000000#32
def v11 : FVec Ideal S1x2x1024 .f32 := broadcastInDim S1x2x1024 ![] bcast_S_S1x2x1024 cst
def v12 (z : FVec Ideal S4096x5120 .bf16) : FVec Ideal S1x4098x1024 .f32 := concatenate S1x4098x1024 1 [⟨S1x2x1024, v11⟩, ⟨S1x4096x1024, (v10 z)⟩] concatenates_S1x2x1024_S1x4096x1024_S1x4098x1024_d1
def v14 (taps : FVec Ideal S3x1024 .f32) : FVec Ideal S1x1024 .f32 := extractStridedSlice S1x1024 ![2, 0] taps slices_S3x1024_S1x1024_2_0
def v15 (taps : FVec Ideal S3x1024 .f32) : FVec Ideal S1024 .f32 := shapeCast _ (v14 taps) shapeCasts_S1x1024_S1024
def v16 (taps : FVec Ideal S3x1024 .f32) : FVec Ideal S1x1x1024 .f32 := broadcastInDim S1x1x1024 ![2] bcast_S1024_S1x1x1024_2 (v15 taps)
def v17 (taps : FVec Ideal S3x1024 .f32) : FVec Ideal S1x4096x1024 .f32 := broadcastInDim S1x4096x1024 ![0, 1, 2] bcast_S1x1x1024_S1x4096x1024_0_1_2 (v16 taps)
def v18 (z : FVec Ideal S4096x5120 .bf16) (taps : FVec Ideal S3x1024 .f32) : FVec Ideal S1x4096x1024 .f32 := mulf (v17 taps) (v10 z)
def v19 (cb : FVec Ideal S1x1024 .f32) : FVec Ideal S1x1x1024 .f32 := broadcastInDim S1x1x1024 ![2] bcast_S1024_S1x1x1024_2 (v3 cb)
def v20 (cb : FVec Ideal S1x1024 .f32) : FVec Ideal S1x4096x1024 .f32 := broadcastInDim S1x4096x1024 ![0, 1, 2] bcast_S1x1x1024_S1x4096x1024_0_1_2 (v19 cb)
def v21 (z : FVec Ideal S4096x5120 .bf16) (taps : FVec Ideal S3x1024 .f32) (cb : FVec Ideal S1x1024 .f32) : FVec Ideal S1x4096x1024 .f32 := addf (v20 cb) (v18 z taps)
def v22 (taps : FVec Ideal S3x1024 .f32) : FVec Ideal S1x1024 .f32 := extractStridedSlice S1x1024 ![0, 0] taps slices_S3x1024_S1x1024_0_0
def v23 (taps : FVec Ideal S3x1024 .f32) : FVec Ideal S1024 .f32 := shapeCast _ (v22 taps) shapeCasts_S1x1024_S1024
def v24 (z : FVec Ideal S4096x5120 .bf16) : FVec Ideal S1x4096x1024 .f32 := extractStridedSlice S1x4096x1024 ![0, 0, 0] (v12 z) slices_S1x4098x1024_S1x4096x1024_0_0_0
def v25 (taps : FVec Ideal S3x1024 .f32) : FVec Ideal S1x1x1024 .f32 := broadcastInDim S1x1x1024 ![2] bcast_S1024_S1x1x1024_2 (v23 taps)
def v26 (taps : FVec Ideal S3x1024 .f32) : FVec Ideal S1x4096x1024 .f32 := broadcastInDim S1x4096x1024 ![0, 1, 2] bcast_S1x1x1024_S1x4096x1024_0_1_2 (v25 taps)
def v27 (z : FVec Ideal S4096x5120 .bf16) (taps : FVec Ideal S3x1024 .f32) : FVec Ideal S1x4096x1024 .f32 := mulf (v26 taps) (v24 z)
def v28 (z : FVec Ideal S4096x5120 .bf16) (taps : FVec Ideal S3x1024 .f32) (cb : FVec Ideal S1x1024 .f32) : FVec Ideal S1x4096x1024 .f32 := addf (v21 z taps cb) (v27 z taps)
def v29 (taps : FVec Ideal S3x1024 .f32) : FVec Ideal S1x1024 .f32 := extractStridedSlice S1x1024 ![1, 0] taps slices_S3x1024_S1x1024_1_0
def v30 (taps : FVec Ideal S3x1024 .f32) : FVec Ideal S1024 .f32 := shapeCast _ (v29 taps) shapeCasts_S1x1024_S1024
def v31 (z : FVec Ideal S4096x5120 .bf16) : FVec Ideal S1x4096x1024 .f32 := extractStridedSlice S1x4096x1024 ![0, 1, 0] (v12 z) slices_S1x4098x1024_S1x4096x1024_0_1_0
def v32 (taps : FVec Ideal S3x1024 .f32) : FVec Ideal S1x1x1024 .f32 := broadcastInDim S1x1x1024 ![2] bcast_S1024_S1x1x1024_2 (v30 taps)
def v33 (taps : FVec Ideal S3x1024 .f32) : FVec Ideal S1x4096x1024 .f32 := broadcastInDim S1x4096x1024 ![0, 1, 2] bcast_S1x1x1024_S1x4096x1024_0_1_2 (v32 taps)
def v34 (z : FVec Ideal S4096x5120 .bf16) (taps : FVec Ideal S3x1024 .f32) : FVec Ideal S1x4096x1024 .f32 := mulf (v33 taps) (v31 z)
def v35 (z : FVec Ideal S4096x5120 .bf16) (taps : FVec Ideal S3x1024 .f32) (cb : FVec Ideal S1x1024 .f32) : FVec Ideal S1x4096x1024 .f32 := addf (v28 z taps cb) (v34 z taps)
def v37 (z : FVec Ideal S4096x5120 .bf16) : FVec Ideal S1x32x128x8x128 .f32 := shapeCast _ (v9 z) shapeCasts_S1x4096x1024_S1x32x128x8x128
def v38 (g : FVec Ideal S1x1024 .f32) : FVec Ideal S8x128 .f32 := shapeCast _ (v4 g) shapeCasts_S1024_S8x128
def v39 (z : FVec Ideal S4096x5120 .bf16) : FVec Ideal S1x32x128x8x128 .f32 := mulf (v37 z) (v37 z)
def cst_1 : FVec Ideal S_ .f32 := constant S_ .f32 0x00000000#32
def v40 (z : FVec Ideal S4096x5120 .bf16) : FVec Ideal S1x32x128x8 .f32 := Host.reduceAdd (v39 z) cst_1 reducesTo_S1x32x128x8x128_S1x32x128x8_d4 h_S_
def v41 (z : FVec Ideal S4096x5120 .bf16) : FVec Ideal S1x32x128x8x1 .f32 := broadcastInDim S1x32x128x8x1 ![0, 1, 2, 3] bcast_S1x32x128x8_S1x32x128x8x1_0_1_2_3 (v40 z)
def cst_2 : FVec Ideal S_ .f32 := constant S_ .f32 0x43000000#32
def v42 : FVec Ideal S1x32x128x8x1 .f32 := broadcastInDim S1x32x128x8x1 ![] bcast_S_S1x32x128x8x1 cst_2
def v43 (z : FVec Ideal S4096x5120 .bf16) : FVec Ideal S1x32x128x8x1 .f32 := Host.divf (v41 z) v42
def cst_3 : FVec Ideal S_ .f32 := constant S_ .f32 0x358637BD#32
def v44 : FVec Ideal S1x32x128x8x1 .f32 := broadcastInDim S1x32x128x8x1 ![] bcast_S_S1x32x128x8x1 cst_3
def v45 (z : FVec Ideal S4096x5120 .bf16) : FVec Ideal S1x32x128x8x1 .f32 := addf (v43 z) v44
def v46 (z : FVec Ideal S4096x5120 .bf16) : FVec Ideal S1x32x128x8x1 .f32 := Host.rsqrt (v45 z)
def v47 (z : FVec Ideal S4096x5120 .bf16) : FVec Ideal S1x32x128x8x1 .f32 := Host.divf (v46 z) (v45 z)
def cst_4 : FVec Ideal S_ .f32 := constant S_ .f32 0xBF000000#32
def v48 : FVec Ideal S1x32x128x8x1 .f32 := broadcastInDim S1x32x128x8x1 ![] bcast_S_S1x32x128x8x1 cst_4
def v49 (z : FVec Ideal S4096x5120 .bf16) : FVec Ideal S1x32x128x8x1 .f32 := mulf v48 (v47 z)
def v50 (z : FVec Ideal S4096x5120 .bf16) : FVec Ideal S1x32x128x8x128 .f32 := broadcastInDim S1x32x128x8x128 ![0, 1, 2, 3, 4] bcast_S1x32x128x8x1_S1x32x128x8x128_0_1_2_3_4 (v46 z)
def v51 (z : FVec Ideal S4096x5120 .bf16) : FVec Ideal S1x32x128x8x128 .f32 := mulf (v37 z) (v50 z)
def v52 (g : FVec Ideal S1x1024 .f32) : FVec Ideal S1x1x1x8x128 .f32 := broadcastInDim S1x1x1x8x128 ![3, 4] bcast_S8x128_S1x1x1x8x128_3_4 (v38 g)
def v53 (g : FVec Ideal S1x1024 .f32) : FVec Ideal S1x32x128x8x128 .f32 := broadcastInDim S1x32x128x8x128 ![0, 1, 2, 3, 4] bcast_S1x1x1x8x128_S1x32x128x8x128_0_1_2_3_4 (v52 g)
def v54 (z : FVec Ideal S4096x5120 .bf16) (g : FVec Ideal S1x1024 .f32) : FVec Ideal S1x32x128x8x128 .f32 := mulf (v51 z) (v53 g)
def kept : Vec Ideal S_ .i1 := constantI S_ 1 1#1
def v55 : Vec Ideal S128x128 .i1 := broadcastInDim S128x128 ![] bcast_S_S128x128 kept
def tri_v0 : Vec Ideal S128x128 .i32 := (iotaInDim S128x128 32 0)
def tri_c : Vec Ideal S_ .i32 := (constantI S_ 32 0#32)
def tri_v1 : Vec Ideal S128x128 .i32 := broadcastInDim S128x128 ![] bcast_S_S128x128 tri_c
def tri_v2 : Vec Ideal S128x128 .i32 := addi tri_v0 tri_v1
def tri_v3 : Vec Ideal S128x128 .i32 := (iotaInDim S128x128 32 1)
def tri_v4 : Vec Ideal S128x128 .i1 := (cmpi .sge) tri_v2 tri_v3
def tri_c_0 : Vec Ideal S_ .i1 := (constantI S_ 1 0#1)
def tri_v5 : Vec Ideal S128x128 .i1 := broadcastInDim S128x128 ![] bcast_S_S128x128 tri_c_0
def v56 : Vec Ideal S128x128 .i1 := select tri_v4 v55 tri_v5
def v57 : Vec Ideal S1x128x128 .i1 := broadcastInDim S1x128x128 ![1, 2] bcast_S128x128_S1x128x128_1_2 v56
def cst_5 : FVec Ideal S_ .f32 := constant S_ .f32 0x00000000#32
def v58 : FVec Ideal S8x128x128 .f32 := broadcastInDim S8x128x128 ![] bcast_S_S8x128x128 cst_5
def sel_v0 : Vec Ideal S8x128x128 .i1 := broadcastInDim S8x128x128 ![0, 1, 2] bcast_S1x128x128_S8x128x128_0_1_2 v57
def v59 (w : FVec Ideal S8x128x128 .f32) : FVec Ideal S8x128x128 .f32 := select sel_v0 w v58
def v60 (z : FVec Ideal S4096x5120 .bf16) (g : FVec Ideal S1x1024 .f32) (w : FVec Ideal S8x128x128 .f32) : FVec Ideal S8x1x32x128x128 .f32 := Host.dotGeneral dot_S1x32x128x8x128_S8x128x128_S8x1x32x128x128_2_2_014_1_3_0 none (v54 z g) (v59 w)
def v61 (z : FVec Ideal S4096x5120 .bf16) (g : FVec Ideal S1x1024 .f32) (w : FVec Ideal S8x128x128 .f32) : FVec Ideal S1x32x128x8x128 .f32 := transpose S1x32x128x8x128 [1, 2, 4, 0, 3] (v60 z g w) transposes_S8x1x32x128x128_S1x32x128x8x128_1_2_4_0_3
def v62 (b : FVec Ideal S8x128 .f32) : FVec Ideal S128x8 .f32 := transpose S128x8 [1, 0] b transposes_S8x128_S128x8_1_0
def v63 (b : FVec Ideal S8x128 .f32) : FVec Ideal S1x1x128x8x1 .f32 := broadcastInDim S1x1x128x8x1 ![2, 3] bcast_S128x8_S1x1x128x8x1_2_3 (v62 b)
def v64 (b : FVec Ideal S8x128 .f32) : FVec Ideal S1x32x128x8x128 .f32 := broadcastInDim S1x32x128x8x128 ![0, 1, 2, 3, 4] bcast_S1x1x128x8x1_S1x32x128x8x128_0_1_2_3_4 (v63 b)
def v65 (z : FVec Ideal S4096x5120 .bf16) (g : FVec Ideal S1x1024 .f32) (w : FVec Ideal S8x128x128 .f32) (b : FVec Ideal S8x128 .f32) : FVec Ideal S1x32x128x8x128 .f32 := addf (v61 z g w) (v64 b)
def v66 (z : FVec Ideal S4096x5120 .bf16) (g : FVec Ideal S1x1024 .f32) (w : FVec Ideal S8x128x128 .f32) (b : FVec Ideal S8x128 .f32) : FVec Ideal S1x4096x1024 .f32 := shapeCast _ (v65 z g w b) shapeCasts_S1x32x128x8x128_S1x4096x1024
def v69 (dy : FVec Ideal S4096x2048 .bf16) : FVec Ideal S1x4096x2048 .f32 := broadcastInDim S1x4096x2048 ![1, 2] bcast_S4096x2048_S1x4096x2048_1_2 (v1 dy)
def v70 (dy : FVec Ideal S4096x2048 .bf16) : FVec Ideal S1x4096x1024 .f32 := extractStridedSlice S1x4096x1024 ![0, 0, 0] (v69 dy) slices_S1x4096x2048_S1x4096x1024_0_0_0
def v71 (dy : FVec Ideal S4096x2048 .bf16) : FVec Ideal S1x4096x1024 .f32 := extractStridedSlice S1x4096x1024 ![0, 0, 1024] (v69 dy) slices_S1x4096x2048_S1x4096x1024_0_0_1024
def v72 (z : FVec Ideal S4096x5120 .bf16) (dy : FVec Ideal S4096x2048 .bf16) : FVec Ideal S1x4096x1024 .f32 := mulf (v8 z) (v71 dy)
def v73 (z : FVec Ideal S4096x5120 .bf16) (dy : FVec Ideal S4096x2048 .bf16) (g : FVec Ideal S1x1024 .f32) (w : FVec Ideal S8x128x128 .f32) (b : FVec Ideal S8x128 .f32) : FVec Ideal S1x4096x1024 .f32 := mulf (v71 dy) (v66 z g w b)
def v74 (z : FVec Ideal S4096x5120 .bf16) (dy : FVec Ideal S4096x2048 .bf16) : FVec Ideal S1x32x128x8x128 .f32 := shapeCast _ (v72 z dy) shapeCasts_S1x4096x1024_S1x32x128x8x128
def v75 (z : FVec Ideal S4096x5120 .bf16) (dy : FVec Ideal S4096x2048 .bf16) : FVec Ideal S8x1x32x128x128 .f32 := transpose S8x1x32x128x128 [3, 0, 1, 4, 2] (v74 z dy) transposes_S1x32x128x8x128_S8x1x32x128x128_3_0_1_4_2
def v76 (z : FVec Ideal S4096x5120 .bf16) (dy : FVec Ideal S4096x2048 .bf16) (w : FVec Ideal S8x128x128 .f32) : FVec Ideal S8x1x32x128x128 .f32 := Host.dotGeneral dot_S8x1x32x128x128_S8x128x128_S8x1x32x128x128_4_1_123_2_0_0 none (v75 z dy) (v59 w)
def v77 (z : FVec Ideal S4096x5120 .bf16) (dy : FVec Ideal S4096x2048 .bf16) (w : FVec Ideal S8x128x128 .f32) : FVec Ideal S1x32x128x8x128 .f32 := transpose S1x32x128x8x128 [1, 2, 4, 0, 3] (v76 z dy w) transposes_S8x1x32x128x128_S1x32x128x8x128_1_2_4_0_3
def v78 (g : FVec Ideal S1x1024 .f32) : FVec Ideal S1x32x128x8x128 .f32 := broadcastInDim S1x32x128x8x128 ![0, 1, 2, 3, 4] bcast_S1x1x1x8x128_S1x32x128x8x128_0_1_2_3_4 (v52 g)
def v79 (z : FVec Ideal S4096x5120 .bf16) (dy : FVec Ideal S4096x2048 .bf16) (g : FVec Ideal S1x1024 .f32) (w : FVec Ideal S8x128x128 .f32) : FVec Ideal S1x32x128x8x128 .f32 := mulf (v77 z dy w) (v78 g)
def v80 (z : FVec Ideal S4096x5120 .bf16) (dy : FVec Ideal S4096x2048 .bf16) (g : FVec Ideal S1x1024 .f32) (w : FVec Ideal S8x128x128 .f32) : FVec Ideal S1x32x128x8x128 .f32 := mulf (v37 z) (v79 z dy g w)
def cst_6 : FVec Ideal S_ .f32 := constant S_ .f32 0x00000000#32
def v81 (z : FVec Ideal S4096x5120 .bf16) (dy : FVec Ideal S4096x2048 .bf16) (g : FVec Ideal S1x1024 .f32) (w : FVec Ideal S8x128x128 .f32) : FVec Ideal S1x32x128x8 .f32 := Host.reduceAdd (v80 z dy g w) cst_6 reducesTo_S1x32x128x8x128_S1x32x128x8_d4 h_S_
def v82 (z : FVec Ideal S4096x5120 .bf16) (dy : FVec Ideal S4096x2048 .bf16) (g : FVec Ideal S1x1024 .f32) (w : FVec Ideal S8x128x128 .f32) : FVec Ideal S1x32x128x8x1 .f32 := shapeCast _ (v81 z dy g w) shapeCasts_S1x32x128x8_S1x32x128x8x1
def v83 (z : FVec Ideal S4096x5120 .bf16) : FVec Ideal S1x32x128x8x128 .f32 := broadcastInDim S1x32x128x8x128 ![0, 1, 2, 3, 4] bcast_S1x32x128x8x1_S1x32x128x8x128_0_1_2_3_4 (v46 z)
def v84 (z : FVec Ideal S4096x5120 .bf16) (dy : FVec Ideal S4096x2048 .bf16) (g : FVec Ideal S1x1024 .f32) (w : FVec Ideal S8x128x128 .f32) : FVec Ideal S1x32x128x8x128 .f32 := mulf (v79 z dy g w) (v83 z)
def v85 (z : FVec Ideal S4096x5120 .bf16) (dy : FVec Ideal S4096x2048 .bf16) (g : FVec Ideal S1x1024 .f32) (w : FVec Ideal S8x128x128 .f32) : FVec Ideal S1x32x128x8x1 .f32 := mulf (v82 z dy g w) (v49 z)
def cst_7 : FVec Ideal S_ .f32 := constant S_ .f32 0x43000000#32
def v86 : FVec Ideal S1x32x128x8x1 .f32 := broadcastInDim S1x32x128x8x1 ![] bcast_S_S1x32x128x8x1 cst_7
def v87 (z : FVec Ideal S4096x5120 .bf16) (dy : FVec Ideal S4096x2048 .bf16) (g : FVec Ideal S1x1024 .f32) (w : FVec Ideal S8x128x128 .f32) : FVec Ideal S1x32x128x8x1 .f32 := Host.divf (v85 z dy g w) v86
def cst_8 : FVec Ideal S_ .f32 := constant S_ .f32 0x00000000#32
def v88 (z : FVec Ideal S4096x5120 .bf16) (dy : FVec Ideal S4096x2048 .bf16) (g : FVec Ideal S1x1024 .f32) (w : FVec Ideal S8x128x128 .f32) : FVec Ideal S32x128x8 .f32 := Host.reduceAdd (v87 z dy g w) cst_8 reducesTo_S1x32x128x8x1_S32x128x8_d0_4 h_S_
def v89 (z : FVec Ideal S4096x5120 .bf16) (dy : FVec Ideal S4096x2048 .bf16) (g : FVec Ideal S1x1024 .f32) (w : FVec Ideal S8x128x128 .f32) : FVec Ideal S1x32x128x8 .f32 := broadcastInDim S1x32x128x8 ![1, 2, 3] bcast_S32x128x8_S1x32x128x8_1_2_3 (v88 z dy g w)
def v90 (z : FVec Ideal S4096x5120 .bf16) (dy : FVec Ideal S4096x2048 .bf16) (g : FVec Ideal S1x1024 .f32) (w : FVec Ideal S8x128x128 .f32) : FVec Ideal S1x32x128x8x128 .f32 := broadcastInDim S1x32x128x8x128 ![0, 1, 2, 3] bcast_S1x32x128x8_S1x32x128x8x128_0_1_2_3 (v89 z dy g w)
def v91 (z : FVec Ideal S4096x5120 .bf16) (dy : FVec Ideal S4096x2048 .bf16) (g : FVec Ideal S1x1024 .f32) (w : FVec Ideal S8x128x128 .f32) : FVec Ideal S1x32x128x8x128 .f32 := mulf (v37 z) (v90 z dy g w)
def v92 (z : FVec Ideal S4096x5120 .bf16) (dy : FVec Ideal S4096x2048 .bf16) (g : FVec Ideal S1x1024 .f32) (w : FVec Ideal S8x128x128 .f32) : FVec Ideal S1x32x128x8x128 .f32 := addf (v84 z dy g w) (v91 z dy g w)
def v93 (z : FVec Ideal S4096x5120 .bf16) (dy : FVec Ideal S4096x2048 .bf16) (g : FVec Ideal S1x1024 .f32) (w : FVec Ideal S8x128x128 .f32) : FVec Ideal S1x32x128x8x128 .f32 := mulf (v90 z dy g w) (v37 z)
def v94 (z : FVec Ideal S4096x5120 .bf16) (dy : FVec Ideal S4096x2048 .bf16) (g : FVec Ideal S1x1024 .f32) (w : FVec Ideal S8x128x128 .f32) : FVec Ideal S1x32x128x8x128 .f32 := addf (v92 z dy g w) (v93 z dy g w)
def v95 (z : FVec Ideal S4096x5120 .bf16) (dy : FVec Ideal S4096x2048 .bf16) (g : FVec Ideal S1x1024 .f32) (w : FVec Ideal S8x128x128 .f32) : FVec Ideal S1x4096x1024 .f32 := shapeCast _ (v94 z dy g w) shapeCasts_S1x32x128x8x128_S1x4096x1024
def v96 (z : FVec Ideal S4096x5120 .bf16) (dy : FVec Ideal S4096x2048 .bf16) : FVec Ideal S1x4096x1024 .f32 := mulf (v5 z) (v70 dy)
def v97 (z : FVec Ideal S4096x5120 .bf16) (dy : FVec Ideal S4096x2048 .bf16) (taps : FVec Ideal S3x1024 .f32) (cb : FVec Ideal S1x1024 .f32) : FVec Ideal S1x4096x1024 .f32 := mulf (v70 dy) (v35 z taps cb)
def v98 (taps : FVec Ideal S3x1024 .f32) : FVec Ideal S1x4096x1024 .f32 := broadcastInDim S1x4096x1024 ![0, 1, 2] bcast_S1x1x1024_S1x4096x1024_0_1_2 (v32 taps)
def v99 (z : FVec Ideal S4096x5120 .bf16) (dy : FVec Ideal S4096x2048 .bf16) (taps : FVec Ideal S3x1024 .f32) : FVec Ideal S1x4096x1024 .f32 := mulf (v98 taps) (v96 z dy)
def cst_9 : FVec Ideal S_ .f32 := constant S_ .f32 0x00000000#32
def v100 (z : FVec Ideal S4096x5120 .bf16) (dy : FVec Ideal S4096x2048 .bf16) (taps : FVec Ideal S3x1024 .f32) : FVec Ideal S1x4098x1024 .f32 := pad S1x4098x1024 ![0, 1, 0] ![0, 1, 0] ![0, 0, 0] (v99 z dy taps) cst_9 pads_S1x4096x1024_S1x4098x1024_000_110_000 h_S_
def v101 (taps : FVec Ideal S3x1024 .f32) : FVec Ideal S1x4096x1024 .f32 := broadcastInDim S1x4096x1024 ![0, 1, 2] bcast_S1x1x1024_S1x4096x1024_0_1_2 (v25 taps)
def v102 (z : FVec Ideal S4096x5120 .bf16) (dy : FVec Ideal S4096x2048 .bf16) (taps : FVec Ideal S3x1024 .f32) : FVec Ideal S1x4096x1024 .f32 := mulf (v101 taps) (v96 z dy)
def cst_10 : FVec Ideal S_ .f32 := constant S_ .f32 0x00000000#32
def v103 (z : FVec Ideal S4096x5120 .bf16) (dy : FVec Ideal S4096x2048 .bf16) (taps : FVec Ideal S3x1024 .f32) : FVec Ideal S1x4098x1024 .f32 := pad S1x4098x1024 ![0, 0, 0] ![0, 2, 0] ![0, 0, 0] (v102 z dy taps) cst_10 pads_S1x4096x1024_S1x4098x1024_000_020_000 h_S_
def v104 (z : FVec Ideal S4096x5120 .bf16) (dy : FVec Ideal S4096x2048 .bf16) (taps : FVec Ideal S3x1024 .f32) : FVec Ideal S1x4098x1024 .f32 := addf (v100 z dy taps) (v103 z dy taps)
def v105 (taps : FVec Ideal S3x1024 .f32) : FVec Ideal S1x4096x1024 .f32 := broadcastInDim S1x4096x1024 ![0, 1, 2] bcast_S1x1x1024_S1x4096x1024_0_1_2 (v16 taps)
def v106 (z : FVec Ideal S4096x5120 .bf16) (dy : FVec Ideal S4096x2048 .bf16) (taps : FVec Ideal S3x1024 .f32) : FVec Ideal S1x4096x1024 .f32 := mulf (v105 taps) (v96 z dy)
def v108 (z : FVec Ideal S4096x5120 .bf16) (dy : FVec Ideal S4096x2048 .bf16) (taps : FVec Ideal S3x1024 .f32) : FVec Ideal S1x4096x1024 .f32 := extractStridedSlice S1x4096x1024 ![0, 2, 0] (v104 z dy taps) slices_S1x4098x1024_S1x4096x1024_0_2_0
def v109 (z : FVec Ideal S4096x5120 .bf16) (dy : FVec Ideal S4096x2048 .bf16) (taps : FVec Ideal S3x1024 .f32) : FVec Ideal S1x4096x1024 .f32 := addf (v106 z dy taps) (v108 z dy taps)
def v110 (z : FVec Ideal S4096x5120 .bf16) (dy : FVec Ideal S4096x2048 .bf16) (taps : FVec Ideal S3x1024 .f32) : FVec Ideal S1x4096x1024 .f32 := mulf (v6 z) (v109 z dy taps)
def v111 (z : FVec Ideal S4096x5120 .bf16) (dy : FVec Ideal S4096x2048 .bf16) (taps : FVec Ideal S3x1024 .f32) : FVec Ideal S1x4096x1024 .f32 := mulf (v109 z dy taps) (v7 z)
def v112 (z : FVec Ideal S4096x5120 .bf16) (dy : FVec Ideal S4096x2048 .bf16) (taps : FVec Ideal S3x1024 .f32) (cb : FVec Ideal S1x1024 .f32) (g : FVec Ideal S1x1024 .f32) (w : FVec Ideal S8x128x128 .f32) (b : FVec Ideal S8x128 .f32) : FVec Ideal S1x4096x5120 .f32 := concatenate S1x4096x5120 2 [⟨S1x4096x1024, (v97 z dy taps cb)⟩, ⟨S1x4096x1024, (v111 z dy taps)⟩, ⟨S1x4096x1024, (v110 z dy taps)⟩, ⟨S1x4096x1024, (v73 z dy g w b)⟩, ⟨S1x4096x1024, (v95 z dy g w)⟩] concatenates_S1x4096x1024_S1x4096x1024_S1x4096x1024_S1x4096x1024_S1x4096x1024_S1x4096x5120_d2
def v113 (z : FVec Ideal S4096x5120 .bf16) (dy : FVec Ideal S4096x2048 .bf16) (taps : FVec Ideal S3x1024 .f32) (cb : FVec Ideal S1x1024 .f32) (g : FVec Ideal S1x1024 .f32) (w : FVec Ideal S8x128x128 .f32) (b : FVec Ideal S8x128 .f32) : FVec Ideal S4096x5120 .f32 := shapeCast _ (v112 z dy taps cb g w b) shapeCasts_S1x4096x5120_S4096x5120
def v114 (z : FVec Ideal S4096x5120 .bf16) (dy : FVec Ideal S4096x2048 .bf16) (taps : FVec Ideal S3x1024 .f32) (cb : FVec Ideal S1x1024 .f32) (g : FVec Ideal S1x1024 .f32) (w : FVec Ideal S8x128x128 .f32) (b : FVec Ideal S8x128 .f32) : FVec Ideal S4096x5120 .bf16 := truncf .bf16 (v113 z dy taps cb g w b) bitsLt_bf16_f32

/-- The reference's result is its last step. -/
theorem result (m : (ℓ : Loc nD τ sig) → Buf (Elt Ideal) ℓ) (c : Dev nD) : Cert.MixerRefIdeal.Value.res_main_v114 m c
    = v114 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold Cert.MixerRefIdeal.Value.res_main_v114
  unfold v114 v113 v112 v111 v110 v109 v108 v106 v105 v104 v103 cst_10 v102 v101 v100 cst_9 v99 v98 v97 v96 v95 v94 v93 v92 v91 v90 v89 v88 cst_8 v87 v86 cst_7 v85 v84 v83 v82 v81 cst_6 v80 v79 v78 v77 v76 v75 v74 v73 v72 v71 v70 v69 v66 v65 v64 v63 v62 v61 v60 v59 sel_v0 v58 cst_5 v57 v56 tri_v5 tri_c_0 tri_v4 tri_v3 tri_v2 tri_v1 tri_c tri_v0 v55 kept v54 v53 v52 v51 v50 v49 v48 cst_4 v47 v46 v45 v44 cst_3 v43 v42 cst_2 v41 v40 cst_1 v39 v38 v37 v35 v34 v33 v32 v31 v30 v29 v28 v27 v26 v25 v24 v23 v22 v21 v20 v19 v18 v17 v16 v15 v14 v12 v11 cst v10 v9 v8 v7 v6 v5 v4 v3 v2 v1 v0
  rfl

end Cert.MixerGrad.Ref
-- ==== Proof.Mixer.RefConv.lean ====
/-
  THE REFERENCE'S CONVOLUTION HALF, entry by entry: the gradients of the gate and of the two factors under the taps, as its
  lines give them, are the ones written out.
-/
module

public import proofs.«01_k».proof.Proof.Mixer.Spec
public import proofs.«01_k».proof.Proof.Mixer.Stages
public import proofs.«01_k».proof.Proof.Norm.Algebra
public import Idealize.ShloMosaic.Lib.KernelVsHost

@[expose] public section

set_option maxRecDepth 16384

noncomputable section

namespace Cert.MixerGrad.Ref

open Cert.MixerRefIdeal Cert.MixerRefIdeal.Gen Idealize.ShloMosaic Idealize.ShloMosaic.TcCoe Idealize.ShloMosaic.Tactic

variable (z : Vec Ideal S4096x5120 .bf16) (dy : Vec Ideal S4096x2048 .bf16) (taps : Vec Ideal S3x1024 .f32) (cb g : Vec Ideal S1x1024 .f32)
  (w : Vec Ideal S8x128x128 .f32) (b : Vec Ideal S8x128 .f32)

/-! The convolution. -/

theorem v10_at (R : Fin 4096) (q : Fin 1024) : v10 z (ix3 0 R q) = cin z R q := by
  pointwise [v10, v6, v7, v2, v0]
  rfl
theorem v96_at (R : Fin 4096) (q : Fin 1024) : v96 z dy (ix3 0 R q) = dConv z dy R q := by
  pointwise [v96, v5, v70, v2, v0, v69, v1]
  exact mul_comm _ _
theorem v24_at (R : Fin 4096) (q : Fin 1024) : v24 z (ix3 0 R q) = before z 2 R q := by
  pointwise [v24, v12, v11, cst]
  unfold before
  by_cases h : R.val < 2
  · rw [if_pos h, dif_pos h]
  · rw [if_neg h, dif_neg h, v10_at]
theorem v31_at (R : Fin 4096) (q : Fin 1024) : v31 z (ix3 0 R q) = before z 1 R q := by
  pointwise [v31, v12, v11, cst]
  unfold before
  by_cases h : R.val < 1
  · rw [if_pos h, dif_pos (by omega)]
  · rw [if_neg h, dif_neg (by omega), v10_at]
    congr 1
    exact Fin.ext (by dsimp only; omega)
theorem v35_at (R : Fin 4096) (q : Fin 1024) : v35 z taps cb (ix3 0 R q)
    = ((cb (ix2 0 q) + taps (ix2 2 q) * cin z R q) + taps (ix2 1 q) * before z 1 R q) + taps (ix2 0 q) * before z 2 R q := by
  pointwise [v35, v34, v33, v32, v30, v29, v28, v27, v26, v25, v23, v22, v21, v20, v19, v3, v18, v17, v16, v15, v14]
  rw [v10_at, v24_at, v31_at]
  exact add_right_comm _ _ _
theorem v97_at (R : Fin 4096) (q : Fin 1024) : v97 z dy taps cb (ix3 0 R q) = dGate z dy taps cb R q := by
  pointwise [v97, v70, v69, v1]
  rw [v35_at]
  rfl
theorem v108_at (R : Fin 4096) (q : Fin 1024) : v108 z dy taps (ix3 0 R q)
    = taps (ix2 1 q) * later z dy 1 R q + taps (ix2 0 q) * later z dy 2 R q := by
  pointwise [v108, v104, v100, v103, v99, v98, v32, v30, v29, v102, v101, v25, v23, v22, cst_9, cst_10]
  unfold later
  refine congrArg₂ (· + ·) ?_ ?_
  · by_cases h : R.val + 1 < 4096
    · rw [dif_pos h, dif_pos (by omega), v96_at]
      exact congrArg (fun r => taps (ix2 1 q) * dConv z dy r q) (Fin.ext (show 2 + R.val - 1 = R.val + 1 by omega))
    · rw [dif_neg h, dif_neg (by omega), mul_zero]
  · by_cases h : R.val + 2 < 4096
    · rw [dif_pos h, dif_pos (by omega), v96_at]
      exact congrArg (fun r => taps (ix2 0 q) * dConv z dy r q) (Fin.ext (show 2 + R.val = R.val + 2 by omega))
    · rw [dif_neg h, dif_neg (by omega), mul_zero]
theorem v109_at (R : Fin 4096) (q : Fin 1024) : v109 z dy taps (ix3 0 R q) = dCin z dy taps R q := by
  pointwise [v109, v106, v105, v16, v15, v14]
  rw [v108_at, v96_at, ← add_assoc]
  rfl
theorem v111_at (R : Fin 4096) (q : Fin 1024) : v111 z dy taps (ix3 0 R q) = dCin z dy taps R q * z (ix2 R ⟨2048 + q.val, by omega⟩) := by
  pointwise [v111, v7, v2, v0]
  rw [v109_at]
theorem v110_at (R : Fin 4096) (q : Fin 1024) : v110 z dy taps (ix3 0 R q) = dCin z dy taps R q * z (ix2 R ⟨1024 + q.val, by omega⟩) := by
  pointwise [v110, v6, v2, v0]
  rw [v109_at]
  exact mul_comm _ _

end Cert.MixerGrad.Ref
-- ==== Proof.Mixer.RefGate.lean ====
/-
  THE REFERENCE'S GATING HALF, entry by entry: the gradients of the multiplier `u` and of the value `v` as its lines give
  them, row `k` of chunk `N`, entry `d` of head `h`, are the ones written out.
-/
module

public import proofs.«01_k».proof.Proof.Mixer.Spec
public import proofs.«01_k».proof.Proof.Mixer.Stages
public import proofs.«01_k».proof.Proof.Norm.Algebra
public import Idealize.ShloMosaic.Lib.KernelVsHost

@[expose] public section

set_option maxRecDepth 16384

noncomputable section

namespace Cert.MixerGrad.Ref

open Cert.MixerRefIdeal Cert.MixerRefIdeal.Gen Idealize.ShloMosaic Idealize.ShloMosaic.TcCoe Idealize.ShloMosaic.Tactic

variable (z : Vec Ideal S4096x5120 .bf16) (dy : Vec Ideal S4096x2048 .bf16) (taps : Vec Ideal S3x1024 .f32) (cb g : Vec Ideal S1x1024 .f32)
  (w : Vec Ideal S8x128x128 .f32) (b : Vec Ideal S8x128 .f32)

/-! The spatial gate. -/

/-- Two entries of a matrix at the same place. -/
theorem same {n k : Nat} {x : (⟨2, ![n, k]⟩ : Shape).Idx → EReal} {a a' : Fin n} {c c' : Fin k} (h : a.val = a'.val) (h' : c.val = c'.val) :
    x (ix2 a c) = x (ix2 a' c') := by
  rw [Fin.ext h, Fin.ext h']

/-- A row of a group and a column of a head, read back from the row and the column. -/
theorem split (x : Vec Ideal S1x32x128x8x128 .f32) (N : Fin 32) (k : Fin 128) (h : Fin 8) (d : Fin 128) :
    x (ix5 0 ⟨(row N k).val / 128, by have := (row N k).isLt; omega⟩ ⟨(row N k).val % 128, by omega⟩ ⟨(col h d).val / 128, by have := (col h d).isLt; omega⟩
      ⟨(col h d).val % 128, by omega⟩) = x (ix5 0 N k h d) := by
  have hr : (row N k).val = 128 * N.val + k.val := rfl
  have hc : (col h d).val = 128 * h.val + d.val := rfl
  congr 1
  refine congr (congr (congr (congrArg (ix5 (0 : Fin 1)) ?_) ?_) ?_) ?_ <;> exact Fin.ext (by dsimp only; omega)

theorem v37_at (N : Fin 32) (k : Fin 128) (h : Fin 8) (d : Fin 128) : v37 z (ix5 0 N k h d) = val z N h k d := by
  pointwise [v37, v9, v2, v0]
  exact same (show N.val * 128 + k.val = 128 * N.val + k.val by omega) (show 4096 + (h.val * 128 + d.val) = 4096 + (128 * h.val + d.val) by omega)
theorem v45_at (N : Fin 32) (k : Fin 128) (h : Fin 8) : v45 z (ix5 0 N k h 0) = Ideal.div (∑ d, val z N h k d * val z N h k d) width + small := by
  pointwise [v45, v44, v43, v42, v41, cst_3, cst_2, v40, v39, cst_1]
  simp only [v37_at]
theorem v54_at (N : Fin 32) (k : Fin 128) (h : Fin 8) (d : Fin 128) : v54 z g (ix5 0 N k h d) = nrm z N h k d * g (ix2 0 (col h d)) := by
  pointwise [v54, v53, v52, v51, v50, v46, v38, v4]
  rw [v37_at, v45_at]
  exact congrArg (nrm z N h k d * ·) (same rfl (show h.val * 128 + d.val = 128 * h.val + d.val by omega))
theorem below (k j : Fin 128) : (IntOp.cmpi .sge (IntOp.addi (BitVec.ofNat 32 k.val) 0#32) (BitVec.ofNat 32 j.val) = 1#1) ↔ j.val ≤ k.val := by
  revert k j
  decide +kernel
theorem v59_at (k j : Fin 128) (h : Fin 8) : v59 w (ix3 h k j) = tri w h k j := by
  pointwise [v59, sel_v0, v58, v57, v56, tri_v4, v55, tri_v5, tri_v2, tri_v3, tri_v0, tri_v1, tri_c, tri_c_0, kept, cst_5]
  unfold tri Scalar.select
  by_cases e : j.val ≤ k.val
  · rw [if_pos e]
    exact (if_pos (if_pos ((below k j).mpr e))).trans rfl
  · rw [if_neg e]
    exact if_neg (fun p => absurd ((if_neg fun q => e ((below k j).mp q)).symm.trans p) (by decide))
theorem v66_at (N : Fin 32) (h : Fin 8) (k d : Fin 128) : v66 z g w b (ix3 0 (row N k) (col h d))
    = (∑ j, tri w h k j * (nrm z N h j d * g (ix2 0 (col h d)))) + b (ix2 h k) := by
  pointwise [v66]
  refine (split (v65 z g w b) N k h d).trans ?_
  pointwise [v65, v64, v63, v62, v61, v60]
  refine congrArg (· + b (ix2 h k)) (Finset.sum_congr rfl fun j _ => ?_)
  rw [v54_at, v59_at]
  exact mul_comm _ _
theorem v73_at (N : Fin 32) (h : Fin 8) (k d : Fin 128) : v73 z dy g w b (ix3 0 (row N k) (col h d)) = dMul z dy g w b N h k d := by
  pointwise [v73, v71, v69, v1]
  rw [v66_at]
  rfl
theorem v79_at (N : Fin 32) (h : Fin 8) (k d : Fin 128) : v79 z dy g w (ix5 0 N k h d) = dNrm z dy g w N h k d := by
  pointwise [v79, v78, v52, v38, v4, v77, v76, v75, v74, v72, v71, v69, v1, v8, v2, v0]
  simp only [v59_at]
  unfold dNrm dOut
  refine congrArg₂ (· * ·) (Finset.sum_congr rfl fun j _ => ?_) (same rfl (show h.val * 128 + d.val = 128 * h.val + d.val by omega))
  rw [mul_comm]
  refine congrArg (tri w h j k * ·) ((mul_comm _ _).trans (congrArg₂ (· * ·) (same ?_ ?_) (same ?_ ?_)))
  · show N.val * 128 + j.val = 128 * N.val + j.val; omega
  · show 1024 + (h.val * 128 + d.val) = 1024 + (128 * h.val + d.val); omega
  · show N.val * 128 + j.val = 128 * N.val + j.val; omega
  · show 3072 + (h.val * 128 + d.val) = 3072 + (128 * h.val + d.val); omega

/-- A sum over two axes of one entry each is the entry. -/
theorem sum_unit (x : S1x32x128x8x1.Idx → EReal) (N : Fin 32) (k : Fin 128) (h : Fin 8) :
    Ideal.hostReduceAdd reducesTo_S1x32x128x8x1_S32x128x8_d0_4 x 0 (ix3 N k h) = x (ix5 0 N k h 0) := by
  have e (i : S1x32x128x8x1.Idx) : reducesTo_S1x32x128x8x1_S32x128x8_d0_4.drop i = ix3 N k h ↔ i = ix5 0 N k h 0 := by
    constructor
    · intro p
      have p0 : i 1 = N := congrFun p 0
      have p1 : i 2 = k := congrFun p 1
      have p2 : i 3 = h := congrFun p 2
      have q0 : i 0 = (0 : Fin 1) := Subsingleton.elim (α := Fin 1) _ _
      have q1 : i 4 = (0 : Fin 1) := Subsingleton.elim (α := Fin 1) _ _
      refine (ValueIdx.eq_ix5 i).trans ?_
      rw [p0, p1, p2, q0, q1]
      rfl
    · intro p
      rw [p]
      funext a
      match a with
      | ⟨0, _⟩ => rfl
      | ⟨1, _⟩ => rfl
      | ⟨2, _⟩ => rfl
  unfold Ideal.hostReduceAdd
  rw [zero_add, Finset.filter_congr (fun i _ => e i), Finset.sum_filter, Finset.sum_ite_eq' Finset.univ, if_pos (Finset.mem_univ _)]

theorem v90_at (N : Fin 32) (h : Fin 8) (k d : Fin 128) : v90 z dy g w (ix5 0 N k h d)
    = Ideal.div ((∑ e, val z N h k e * dNrm z dy g w N h k e) * (Ideal.ofBits .f32 0xBF000000#32
        * Ideal.div (root (val z N h k)) (Ideal.div (∑ d, val z N h k d * val z N h k d) width + small))) width := by
  pointwise [v90, v89, v88, cst_8]
  refine (sum_unit (v87 z dy g w) N k h).trans ?_
  pointwise [v87, v86, v85, v82, v81, v80, v49, v48, v47, v46, cst_7, cst_6, cst_4]
  simp only [v37_at, v45_at, v79_at]
  rfl
theorem width_eq : width = ((128 : ℝ) : EReal) := by
  simp [Ideal.ofBits, Ideal.ieee]; rw [← EReal.coe_mul]; norm_num
theorem v95_at (N : Fin 32) (h : Fin 8) (k d : Fin 128) : v95 z dy g w (ix3 0 (row N k) (col h d)) = dVal z dy g w N h k d := by
  pointwise [v95]
  refine (split (v94 z dy g w) N k h d).trans ?_
  pointwise [v94, v93, v92, v91, v84, v83, v46]
  rw [v90_at, v79_at, v37_at, v45_at]
  exact (Cert.NormGrad.formula_of Finset.univ _ _ _ _ _ (Cert.NormGrad.meanSq_pos_of Finset.univ (val z N h k) (by norm_num) width_eq) (by norm_num) width_eq).symm

end Cert.MixerGrad.Ref
-- ==== Proof.Mixer.Ref.lean ====
/-
  THE REFERENCE'S GRADIENT IS THE ONE WRITTEN OUT: its five groups of columns side by side.
-/
module

public import proofs.«01_k».proof.Proof.Mixer.RefConv
public import proofs.«01_k».proof.Proof.Mixer.RefGate

@[expose] public section

set_option maxRecDepth 16384

noncomputable section

namespace Cert.MixerGrad.Ref

open Cert.MixerRefIdeal Cert.MixerRefIdeal.Gen Idealize.ShloMosaic Idealize.ShloMosaic.TcCoe Idealize.ShloMosaic.Tactic

variable (z : Vec Ideal S4096x5120 .bf16) (dy : Vec Ideal S4096x2048 .bf16) (taps : Vec Ideal S3x1024 .f32) (cb g : Vec Ideal S1x1024 .f32)
  (w : Vec Ideal S8x128x128 .f32) (b : Vec Ideal S8x128 .f32)

/-- The columns side by side. -/
theorem v114_at (R : Fin 4096) (q : Fin 5120) : v114 z dy taps cb g w b (ix2 R q)
    = if h : q.val < 1024 then v97 z dy taps cb (ix3 0 R ⟨q.val, h⟩)
      else if h : q.val - 1024 < 1024 then v111 z dy taps (ix3 0 R ⟨q.val - 1024, h⟩)
      else if h : q.val - 1024 - 1024 < 1024 then v110 z dy taps (ix3 0 R ⟨q.val - 1024 - 1024, h⟩)
      else if h : q.val - 1024 - 1024 - 1024 < 1024 then v73 z dy g w b (ix3 0 R ⟨q.val - 1024 - 1024 - 1024, h⟩)
      else v95 z dy g w (ix3 0 R ⟨q.val - 1024 - 1024 - 1024 - 1024, by omega⟩) := by
  pointwise [v114, v113, v112]

theorem rowOf (R : Fin 4096) : R = row ⟨R.val / 128, by omega⟩ ⟨R.val % 128, by omega⟩ :=
  Fin.ext (show R.val = 128 * (R.val / 128) + R.val % 128 by omega)
theorem colOf (q : Fin 1024) : q = col ⟨q.val / 128, by omega⟩ ⟨q.val % 128, by omega⟩ :=
  Fin.ext (show q.val = 128 * (q.val / 128) + q.val % 128 by omega)

theorem result_at (R : Fin 4096) (q : Fin 5120) : v114 z dy taps cb g w b (ix2 R q) = dzAll z dy taps cb g w b (ix2 R q) := by
  rw [v114_at]
  by_cases h1 : q.val < 1024
  · rw [dif_pos h1, v97_at]
    exact (dzAll_gate z dy taps cb g w b R ⟨q.val, h1⟩).symm
  rw [dif_neg h1]
  by_cases h2 : q.val - 1024 < 1024
  · rw [dif_pos h2, v111_at]
    refine (dzAll_first z dy taps cb g w b R ⟨q.val - 1024, h2⟩).symm.trans (congrArg (fun k => dzAll z dy taps cb g w b (ix2 R k)) (Fin.ext ?_))
    show 1024 + (q.val - 1024) = q.val
    omega
  rw [dif_neg h2]
  by_cases h3 : q.val - 1024 - 1024 < 1024
  · rw [dif_pos h3, v110_at]
    refine (dzAll_second z dy taps cb g w b R ⟨q.val - 1024 - 1024, h3⟩).symm.trans (congrArg (fun k => dzAll z dy taps cb g w b (ix2 R k)) (Fin.ext ?_))
    show 2048 + (q.val - 1024 - 1024) = q.val
    omega
  rw [dif_neg h3]
  by_cases h4 : q.val - 1024 - 1024 - 1024 < 1024
  · rw [dif_pos h4, rowOf R, colOf ⟨_, h4⟩, v73_at]
    refine (dzAll_mul z dy taps cb g w b _ _ _ _).symm.trans (congrArg (fun k => dzAll z dy taps cb g w b (ix2 (row _ _) k)) (Fin.ext ?_))
    show 3072 + (128 * ((q.val - 1024 - 1024 - 1024) / 128) + (q.val - 1024 - 1024 - 1024) % 128) = q.val
    omega
  · rw [dif_neg h4, rowOf R, colOf ⟨q.val - 1024 - 1024 - 1024 - 1024, by omega⟩, v95_at]
    refine (dzAll_val z dy taps cb g w b _ _ _ _).symm.trans (congrArg (fun k => dzAll z dy taps cb g w b (ix2 (row _ _) k)) (Fin.ext ?_))
    show 4096 + (128 * ((q.val - 1024 - 1024 - 1024 - 1024) / 128) + (q.val - 1024 - 1024 - 1024 - 1024) % 128) = q.val
    omega

theorem result_eq : v114 z dy taps cb g w b = dzAll z dy taps cb g w b := by
  funext y
  rw [show y = ix2 (y 0) (y 1) from ValueIdx.eq_ix2 y]
  exact result_at z dy taps cb g w b (y 0) (y 1)

end Cert.MixerGrad.Ref
-- ==== Proof.Mixer.Claim.lean ====
/-
  THE MIXER'S GRADIENT OF `z`: the kernel's blocks and the reference's transpose of the forward lines are the same array.
-/
module

public import proofs.«01_k».proof.Defs
public import proofs.«01_k».proof.Proof.Mixer.Array
public import proofs.«01_k».proof.Proof.Mixer.Ref
public import proofs.«01_k».proof.Proof.Gen.Mixer.Launch

@[expose] public section

set_option maxRecDepth 16384

noncomputable section

namespace Cert.MixerGrad

open Idealize.ShloMosaic Idealize.ShloMosaic.TcCoe

theorem algebraic : Cert.algebraic_MixerIdeal_MixerRefIdeal := by
  intro m g m' g' _ hargs
  refine ⟨fun c => dzAll (az m c) (ady m c) (at' m c) (acb m c) (ag m c) (aw m c) (ab m c), ?_, ?_⟩
  · refine (θ_run _ _ _).mono (fun r h c => ?_) (run_blocks m g)
    obtain ⟨hz, hk⟩ := h c
    exact ⟨hz.trans (final m c), hk⟩
  · refine (θ_run _ _ _).mono (fun r h c => ?_) (Cert.MixerRefIdeal.Value.run m' g')
    obtain ⟨hz, hk⟩ := h c
    obtain ⟨e0, e1, e2, e3, e4, e5, e6⟩ := hargs c
    refine ⟨hz.trans ?_, hk⟩
    rw [Ref.result m' c, e0, e1, e2, e3, e4, e5, e6]
    exact Ref.result_eq _ _ _ _ _ _ _

/-- The reference runs, leaves its arguments, and declares no semaphore. -/
theorem frame_ref : Cert.quiescent_MixerRefIdeal := fun m g _ =>
  (θ_run _ _ _).mono (fun r h => ⟨fun c => (h c).2, sem_eq_zero_of_no_sems (by decide) r.2⟩) (Cert.MixerRefIdeal.Value.run m g)

/-! The kernel over words and its idealization are one text, so the run of the one is the run of the other. -/

theorem words_body : Cert.Mixer.defs₀ (F := Bits) = Cert.MixerIdeal.defs₀ := by
  unfold Cert.Mixer.defs₀ Cert.MixerIdeal.defs₀
  refine congrArg Defs.onTc ?_
  funext l
  fin_cases l
  rfl

theorem words_defs : Cert.Mixer.defs (F := Bits) = Cert.MixerIdeal.defs := by
  unfold Cert.Mixer.defs Cert.MixerIdeal.defs
  rw [words_body]
  rfl

theorem frame_word : Cert.quiescent_Mixer := fun m ρ _ => by
  rw [words_defs]
  exact (θ_run Cert.MixerIdeal.defs _ _).mono (fun _ h => h) (frame (F := Bits) m ρ)

end Cert.MixerGrad
-- ==== Proof.Common.Blocks.lean ====
/-
  PRODUCTS OF MATRICES over the extended reals: rows by columns, columns by columns, rows by rows.
-/
module

public import Idealize.ShloMosaic.Lib.Pointwise
public import Idealize.ShloMosaic.PureOps.Ideal.Laws

@[expose] public section

noncomputable section

namespace Cert.Blocks

open Idealize.ShloMosaic

/-- An array of extended reals of two axes. -/
abbrev Mat (m n : Nat) := (⟨2, ![m, n]⟩ : Shape).Idx → EReal

/-- Rows of `a` by columns of `w`. -/
def nn {m k n : Nat} (a : Mat m k) (w : Mat k n) : Mat m n := fun y => ∑ c : Fin k, a (ix2 (y 0) c) * w (ix2 c (y 1))
/-- Columns of `a` by columns of `b`. -/
def tn {k m n : Nat} (a : Mat k m) (b : Mat k n) : Mat m n := fun y => ∑ c : Fin k, a (ix2 c (y 0)) * b (ix2 c (y 1))
/-- Rows of `a` by rows of `w`. -/
def nt {m k n : Nat} (a : Mat m k) (w : Mat n k) : Mat m n := fun y => ∑ c : Fin k, a (ix2 (y 0) c) * w (ix2 (y 1) c)

end Cert.Blocks
-- ==== Proof.Product.MixIn.lean ====
/-
  THE MIXER'S INPUT PRODUCT: rows of the normalised stream by columns of the weight. Every grid point
  writes one block, its sums whole.
-/
module

public import proofs.«01_k».proof.Defs
public import proofs.«01_k».proof.Proof.Gen.MixInIdeal.Value
public import proofs.«01_k».proof.Proof.Gen.MixInRefIdeal.Run
public import proofs.«01_k».proof.Proof.Gen.MixInRefIdeal.Read
public import proofs.«01_k».proof.Proof.Common.Blocks
public import Idealize.ShloMosaic.Lib.Pointwise
public import Idealize.ShloMosaic.Lib.Pipeline.ValueKit

@[expose] public section

set_option maxRecDepth 16384

noncomputable section

namespace Cert.MixInput

open Idealize.ShloMosaic Idealize.ShloMosaic.TcCoe Idealize.ShloMosaic.Tactic Cert.MixInIdeal Cert.MixInIdeal.Gen Idealize.SL.Sem Cert.Blocks

theorem pay1_at (a : Vec Ideal S1024x2048 .bf16) (w : Vec Ideal S2048x1024 .bf16) (i j : Fin 1024) :
    k0_pay1 a w (ix2 i j) = ∑ k : Fin 2048, a (ix2 i k) * w (ix2 k j) := by
  pointwise [k0_pay1]

variable (m : (ℓ : Loc nD τ sig) → Buf (Elt Ideal) ℓ)

abbrev an (c : Dev nD) : Vec Ideal S4096x2048 .bf16 := m ((c : Thread nD τ).loc main_arg0)
abbrev aw (c : Dev nD) : Vec Ideal S2048x5120 .bf16 := m ((c : Thread nD τ).loc main_arg1)

theorem index : ∀ t : Fin cfg0.N, win0_0.index t = ![t.val % 4, 0] ∧ win0_1.index t = ![0, t.val / 4] ∧ win0_2.index t = ![t.val % 4, t.val / 4] :=
  (by decide +kernel : ∀ t : Fin grid0.N, win0_0.index t = ![t.val % 4, 0] ∧ win0_1.index t = ![0, t.val / 4] ∧ win0_2.index t = ![t.val % 4, t.val / 4])

theorem final (c : Dev nD) : (dats m 0 c).arrAt 2 cfg0.N = nn (an m c) (aw m c) := by
  refine (dats m 0 c).arrAt_eq_of_covers 2 _ (by decide +kernel) fun t hf y => ?_
  blk_simp
  rw [after0_2]
  frame_out
  refine (congrArg (k0_pay1 _ _) (eq_ix2 y)).trans ((pay1_at _ _ _ _).trans ?_)
  refine Finset.sum_congr rfl fun k _ => congrArg₂ (· * ·) ?_ ?_
  · blk_ext [iblk, V, (index t).1, (index t).2.2]
  · blk_ext [iblk, V, (index t).2.1, (index t).2.2]

theorem ref_eq (n : Vec Ideal S4096x2048 .bf16) (w : Vec Ideal S2048x5120 .bf16) : Cert.MixInRefIdeal.Read.val_main_v3 (F := Ideal) n w = nn n w := by
  funext y
  rw [show y = ix2 (y 0) (y 1) from eq_ix2 y]
  pointwise [Cert.MixInRefIdeal.Read.val_main_v3, Cert.MixInRefIdeal.Read.val_main_v2, Cert.MixInRefIdeal.Read.val_main_v1, Cert.MixInRefIdeal.Read.val_main_v0]
  rfl

theorem algebraic : Cert.algebraic_MixInIdeal_MixInRefIdeal := by
  pair_intro
  · run_from Cert.MixInIdeal.Value.run_blocks m g
  · run_from Cert.MixInRefIdeal.Value.run m' g'
    rw [final m c, Cert.MixInRefIdeal.Read.val_main_v3_eq]
    exact ref_eq _ _

/-- The reference runs, leaves its arguments, and declares no semaphore. -/
theorem frame_ref : Cert.quiescent_MixInRefIdeal := fun m g _ =>
  (θ_run _ _ _).mono (fun r h => ⟨fun c => (h c).2, sem_eq_zero_of_no_sems (by decide) r.2⟩) (Cert.MixInRefIdeal.Value.run m g)

end Cert.MixInput
-- ==== Proof.Product.MixDw.lean ====
/-
  THE GRADIENT OF THE MIXER'S INPUT WEIGHT: columns of the layer's input by columns of the output's gradient. Every grid
  point writes one block, its sums whole.
-/
module

public import proofs.«01_k».proof.Defs
public import proofs.«01_k».proof.Proof.Gen.MixDwIdeal.Value
public import proofs.«01_k».proof.Proof.Gen.MixDwRefIdeal.Run
public import proofs.«01_k».proof.Proof.Gen.MixDwRefIdeal.Read
public import proofs.«01_k».proof.Proof.Common.Blocks
public import Idealize.ShloMosaic.Lib.Pointwise
public import Idealize.ShloMosaic.Lib.Pipeline.ValueKit

@[expose] public section

set_option maxRecDepth 16384

noncomputable section

namespace Cert.MixInGrad

open Idealize.ShloMosaic Idealize.ShloMosaic.TcCoe Idealize.ShloMosaic.Tactic Cert.MixDwIdeal Cert.MixDwIdeal.Gen Idealize.SL.Sem Cert.Blocks

theorem pay1_at (a : Vec Ideal S4096x1024 .bf16) (b : Vec Ideal S4096x1024 .bf16) (i j : Fin 1024) :
    k0_pay1 a b (ix2 i j) = ∑ k : Fin 4096, a (ix2 k i) * b (ix2 k j) := by
  pointwise [k0_pay1]

variable (m : (ℓ : Loc nD τ sig) → Buf (Elt Ideal) ℓ)

abbrev an (c : Dev nD) : Vec Ideal S4096x2048 .bf16 := m ((c : Thread nD τ).loc main_arg0)
abbrev ad (c : Dev nD) : Vec Ideal S4096x5120 .bf16 := m ((c : Thread nD τ).loc main_arg1)

theorem index : ∀ t : Fin cfg0.N, win0_0.index t = ![0, t.val % 2] ∧ win0_1.index t = ![0, t.val / 2] ∧ win0_2.index t = ![t.val % 2, t.val / 2] :=
  (by decide +kernel : ∀ t : Fin grid0.N, win0_0.index t = ![0, t.val % 2] ∧ win0_1.index t = ![0, t.val / 2] ∧ win0_2.index t = ![t.val % 2, t.val / 2])

theorem final (c : Dev nD) : (dats m 0 c).arrAt 2 cfg0.N = tn (an m c) (ad m c) := by
  refine (dats m 0 c).arrAt_eq_of_covers 2 _ (by decide +kernel) fun t hf y => ?_
  blk_simp
  rw [after0_2]
  frame_out
  refine (congrArg (k0_pay1 _ _) (eq_ix2 y)).trans ((pay1_at _ _ _ _).trans ?_)
  refine Finset.sum_congr rfl fun k _ => congrArg₂ (· * ·) ?_ ?_
  · blk_ext [iblk, V, (index t).1, (index t).2.2]
  · blk_ext [iblk, V, (index t).2.1, (index t).2.2]

theorem ref_eq (n : Vec Ideal S4096x2048 .bf16) (d : Vec Ideal S4096x5120 .bf16) : Cert.MixDwRefIdeal.Read.val_main_v6 (F := Ideal) n d = tn n d := by
  funext y
  rw [show y = ix2 (y 0) (y 1) from eq_ix2 y]
  pointwise [Cert.MixDwRefIdeal.Read.val_main_v6, Cert.MixDwRefIdeal.Read.val_main_v5, Cert.MixDwRefIdeal.Read.val_main_v4, Cert.MixDwRefIdeal.Read.val_main_v1, Cert.MixDwRefIdeal.Read.val_main_v0]
  exact Finset.sum_congr rfl fun _ _ => mul_comm _ _

theorem algebraic : Cert.algebraic_MixDwIdeal_MixDwRefIdeal := by
  pair_intro
  · run_from Cert.MixDwIdeal.Value.run_blocks m g
  · run_from Cert.MixDwRefIdeal.Value.run m' g'
    rw [final m c, Cert.MixDwRefIdeal.Read.val_main_v6_eq]
    exact ref_eq _ _

/-- The reference runs, leaves its arguments, and declares no semaphore. -/
theorem frame_ref : Cert.quiescent_MixDwRefIdeal := fun m g _ =>
  (θ_run _ _ _).mono (fun r h => ⟨fun c => (h c).2, sem_eq_zero_of_no_sems (by decide) r.2⟩) (Cert.MixDwRefIdeal.Value.run m g)

end Cert.MixInGrad
-- ==== Proof.Product.OutDw.lean ====
/-
  THE GRADIENT OF A SQUARE WEIGHT: columns of the layer's input by columns of the output's gradient. Every grid
  point writes one block, its sums whole.
-/
module

public import proofs.«01_k».proof.Defs
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Common.Blocks
public import Idealize.ShloMosaic.Lib.Pointwise
public import Idealize.ShloMosaic.Lib.Pipeline.ValueKit

@[expose] public section

set_option maxRecDepth 16384

noncomputable section

namespace Cert.SquareGrad

open Idealize.ShloMosaic Idealize.ShloMosaic.TcCoe Idealize.ShloMosaic.Tactic Cert.OutDwIdeal Cert.OutDwIdeal.Gen Idealize.SL.Sem Cert.Blocks

theorem pay1_at (a : Vec Ideal S4096x1024 .bf16) (b : Vec Ideal S4096x1024 .bf16) (i j : Fin 1024) :
    k0_pay1 a b (ix2 i j) = ∑ k : Fin 4096, a (ix2 k i) * b (ix2 k j) := by
  pointwise [k0_pay1]

variable (m : (ℓ : Loc nD τ sig) → Buf (Elt Ideal) ℓ)

abbrev an (c : Dev nD) : Vec Ideal S4096x2048 .bf16 := m ((c : Thread nD τ).loc main_arg0)
abbrev ad (c : Dev nD) : Vec Ideal S4096x2048 .bf16 := m ((c : Thread nD τ).loc main_arg1)

theorem index : ∀ t : Fin cfg0.N, win0_0.index t = ![0, t.val % 2] ∧ win0_1.index t = ![0, t.val / 2] ∧ win0_2.index t = ![t.val % 2, t.val / 2] :=
  (by decide +kernel : ∀ t : Fin grid0.N, win0_0.index t = ![0, t.val % 2] ∧ win0_1.index t = ![0, t.val / 2] ∧ win0_2.index t = ![t.val % 2, t.val / 2])

theorem final (c : Dev nD) : (dats m 0 c).arrAt 2 cfg0.N = tn (an m c) (ad m c) := by
  refine (dats m 0 c).arrAt_eq_of_covers 2 _ (by decide +kernel) fun t hf y => ?_
  blk_simp
  rw [after0_2]
  frame_out
  refine (congrArg (k0_pay1 _ _) (eq_ix2 y)).trans ((pay1_at _ _ _ _).trans ?_)
  refine Finset.sum_congr rfl fun k _ => congrArg₂ (· * ·) ?_ ?_
  · blk_ext [iblk, V, (index t).1, (index t).2.2]
  · blk_ext [iblk, V, (index t).2.1, (index t).2.2]

theorem ref_eq (n : Vec Ideal S4096x2048 .bf16) (d : Vec Ideal S4096x2048 .bf16) : Cert.OutDwRefIdeal.Read.val_main_v6 (F := Ideal) n d = tn n d := by
  funext y
  rw [show y = ix2 (y 0) (y 1) from eq_ix2 y]
  pointwise [Cert.OutDwRefIdeal.Read.val_main_v6, Cert.OutDwRefIdeal.Read.val_main_v5, Cert.OutDwRefIdeal.Read.val_main_v4, Cert.OutDwRefIdeal.Read.val_main_v1, Cert.OutDwRefIdeal.Read.val_main_v0]
  exact Finset.sum_congr rfl fun _ _ => mul_comm _ _

theorem algebraic : Cert.algebraic_OutDwIdeal_OutDwRefIdeal := by
  pair_intro
  · run_from Cert.OutDwIdeal.Value.run_blocks m g
  · run_from Cert.OutDwRefIdeal.Value.run m' g'
    rw [final m c, Cert.OutDwRefIdeal.Read.val_main_v6_eq]
    exact ref_eq _ _

/-- The reference runs, leaves its arguments, and declares no semaphore. -/
theorem frame_ref : Cert.quiescent_OutDwRefIdeal := fun m g _ =>
  (θ_run _ _ _).mono (fun r h => ⟨fun c => (h c).2, sem_eq_zero_of_no_sems (by decide) r.2⟩) (Cert.OutDwRefIdeal.Value.run m g)

end Cert.SquareGrad
-- ==== Proof.Product.OutDx.lean ====
/-
  THE GRADIENT OF THE INPUT OF A SQUARE LAYER: rows of the output's gradient by rows of the weight. Every grid point
  writes one block, its sums whole.
-/
module

public import proofs.«01_k».proof.Defs
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Common.Blocks
public import Idealize.ShloMosaic.Lib.Pointwise
public import Idealize.ShloMosaic.Lib.Pipeline.ValueKit

@[expose] public section

set_option maxRecDepth 16384

noncomputable section

namespace Cert.SquareBack

open Idealize.ShloMosaic Idealize.ShloMosaic.TcCoe Idealize.ShloMosaic.Tactic Cert.OutDxIdeal Cert.OutDxIdeal.Gen Idealize.SL.Sem Cert.Blocks

theorem pay1_at (h : Vec Ideal S1024x2048 .bf16) (w : Vec Ideal S1024x2048 .bf16) (i j : Fin 1024) :
    k0_pay1 h w (ix2 i j) = ∑ k : Fin 2048, h (ix2 i k) * w (ix2 j k) := by
  pointwise [k0_pay1]

variable (m : (ℓ : Loc nD τ sig) → Buf (Elt Ideal) ℓ)

abbrev ah (c : Dev nD) : Vec Ideal S4096x2048 .bf16 := m ((c : Thread nD τ).loc main_arg0)
abbrev aw (c : Dev nD) : Vec Ideal S2048x2048 .bf16 := m ((c : Thread nD τ).loc main_arg1)

theorem index : ∀ t : Fin cfg0.N, win0_0.index t = ![t.val % 4, 0] ∧ win0_1.index t = ![t.val / 4, 0] ∧ win0_2.index t = ![t.val % 4, t.val / 4] :=
  (by decide +kernel : ∀ t : Fin grid0.N, win0_0.index t = ![t.val % 4, 0] ∧ win0_1.index t = ![t.val / 4, 0] ∧ win0_2.index t = ![t.val % 4, t.val / 4])

theorem final (c : Dev nD) : (dats m 0 c).arrAt 2 cfg0.N = nt (ah m c) (aw m c) := by
  refine (dats m 0 c).arrAt_eq_of_covers 2 _ (by decide +kernel) fun t hf y => ?_
  blk_simp
  rw [after0_2]
  frame_out
  refine (congrArg (k0_pay1 _ _) (eq_ix2 y)).trans ((pay1_at _ _ _ _).trans ?_)
  refine Finset.sum_congr rfl fun k _ => congrArg₂ (· * ·) ?_ ?_
  · blk_ext [iblk, V, (index t).1, (index t).2.2]
  · blk_ext [iblk, V, (index t).2.1, (index t).2.2]

theorem ref_eq (h : Vec Ideal S4096x2048 .bf16) (w : Vec Ideal S2048x2048 .bf16) : Cert.OutDxRefIdeal.Read.val_main_v5 (F := Ideal) h w = nt h w := by
  funext y
  rw [show y = ix2 (y 0) (y 1) from eq_ix2 y]
  pointwise [Cert.OutDxRefIdeal.Read.val_main_v5, Cert.OutDxRefIdeal.Read.val_main_v4, Cert.OutDxRefIdeal.Read.val_main_v1, Cert.OutDxRefIdeal.Read.val_main_v0]
  rfl

theorem algebraic : Cert.algebraic_OutDxIdeal_OutDxRefIdeal := by
  pair_intro
  · run_from Cert.OutDxIdeal.Value.run_blocks m g
  · run_from Cert.OutDxRefIdeal.Value.run m' g'
    rw [final m c, Cert.OutDxRefIdeal.Read.val_main_v5_eq]
    exact ref_eq _ _

/-- The reference runs, leaves its arguments, and declares no semaphore. -/
theorem frame_ref : Cert.quiescent_OutDxRefIdeal := fun m g _ =>
  (θ_run _ _ _).mono (fun r h => ⟨fun c => (h c).2, sem_eq_zero_of_no_sems (by decide) r.2⟩) (Cert.OutDxRefIdeal.Value.run m g)

end Cert.SquareBack
-- ==== Proof.Product.OutSum.lean ====
/-
  THE RESIDUAL SUM OF A SQUARE LAYER: the stream plus rows of the layer's input by columns of the weight. Every grid
  point writes one block, its sums whole.
-/
module

public import proofs.«01_k».proof.Defs
public import proofs.«01_k».proof.Proof.Gen.OutSumIdeal.Value
public import proofs.«01_k».proof.Proof.Gen.OutSumRefIdeal.Run
public import proofs.«01_k».proof.Proof.Gen.OutSumRefIdeal.Read
public import proofs.«01_k».proof.Proof.Common.Blocks
public import Idealize.ShloMosaic.Lib.Pointwise
public import Idealize.ShloMosaic.Lib.Pipeline.ValueKit

@[expose] public section

set_option maxRecDepth 16384

noncomputable section

namespace Cert.SquareSum

open Idealize.ShloMosaic Idealize.ShloMosaic.TcCoe Idealize.ShloMosaic.Tactic Cert.OutSumIdeal Cert.OutSumIdeal.Gen Idealize.SL.Sem Cert.Blocks

theorem pay1_at (a : Vec Ideal S1024x2048 .bf16) (w : Vec Ideal S2048x1024 .bf16) (x : Vec Ideal S1024x1024 .f32) (i j : Fin 1024) :
    k0_pay1 a w x (ix2 i j) = x (ix2 i j) + ∑ k : Fin 2048, a (ix2 i k) * w (ix2 k j) := by
  pointwise [k0_pay1]

variable (m : (ℓ : Loc nD τ sig) → Buf (Elt Ideal) ℓ)

abbrev an (c : Dev nD) : Vec Ideal S4096x2048 .bf16 := m ((c : Thread nD τ).loc main_arg0)
abbrev aw (c : Dev nD) : Vec Ideal S2048x2048 .bf16 := m ((c : Thread nD τ).loc main_arg1)
abbrev ax (c : Dev nD) : Vec Ideal S4096x2048 .f32 := m ((c : Thread nD τ).loc main_arg2)

/-- The stream plus the product. -/
def sum (a : Mat 4096 2048) (w : Mat 2048 2048) (x : Mat 4096 2048) : Mat 4096 2048 := fun y => x y + nn a w y

theorem index : ∀ t : Fin cfg0.N, win0_0.index t = ![t.val % 4, 0] ∧ win0_1.index t = ![0, t.val / 4] ∧ win0_2.index t = ![t.val % 4, t.val / 4] ∧ win0_3.index t = ![t.val % 4, t.val / 4] :=
  (by decide +kernel : ∀ t : Fin grid0.N, win0_0.index t = ![t.val % 4, 0] ∧ win0_1.index t = ![0, t.val / 4] ∧ win0_2.index t = ![t.val % 4, t.val / 4] ∧ win0_3.index t = ![t.val % 4, t.val / 4])

theorem final (c : Dev nD) : (dats m 0 c).arrAt 3 cfg0.N = sum (an m c) (aw m c) (ax m c) := by
  refine (dats m 0 c).arrAt_eq_of_covers 3 _ (by decide +kernel) fun t hf y => ?_
  blk_simp
  rw [after0_3]
  frame_out
  refine (congrArg (k0_pay1 _ _ _) (eq_ix2 y)).trans ((pay1_at _ _ _ _ _).trans ?_)
  refine congrArg₂ (· + ·) ?_ (Finset.sum_congr rfl fun k _ => congrArg₂ (· * ·) ?_ ?_)
  · blk_ext [iblk, V, (index t).2.2.1, (index t).2.2.2]
  · blk_ext [iblk, V, (index t).1, (index t).2.2.2]
  · blk_ext [iblk, V, (index t).2.1, (index t).2.2.2]

theorem ref_eq (n : Vec Ideal S4096x2048 .bf16) (w : Vec Ideal S2048x2048 .bf16) (x : Vec Ideal S4096x2048 .f32) : Cert.OutSumRefIdeal.Read.val_main_v3 (F := Ideal) n w x = sum n w x := by
  funext y
  rw [show y = ix2 (y 0) (y 1) from eq_ix2 y]
  pointwise [Cert.OutSumRefIdeal.Read.val_main_v3, Cert.OutSumRefIdeal.Read.val_main_v2, Cert.OutSumRefIdeal.Read.val_main_v1, Cert.OutSumRefIdeal.Read.val_main_v0]
  rfl

theorem algebraic : Cert.algebraic_OutSumIdeal_OutSumRefIdeal := by
  pair_intro
  · run_from Cert.OutSumIdeal.Value.run_blocks m g
  · run_from Cert.OutSumRefIdeal.Value.run m' g'
    rw [final m c, Cert.OutSumRefIdeal.Read.val_main_v3_eq]
    exact ref_eq _ _ _

/-- The reference runs, leaves its arguments, and declares no semaphore. -/
theorem frame_ref : Cert.quiescent_OutSumRefIdeal := fun m g _ =>
  (θ_run _ _ _).mono (fun r h => ⟨fun c => (h c).2, sem_eq_zero_of_no_sems (by decide) r.2⟩) (Cert.OutSumRefIdeal.Value.run m g)

end Cert.SquareSum
-- ==== Proof.Product.Query.lean ====
/-
  THE QUERIES: rows of the normalised stream by columns of the weight. Every grid point writes one block, its sums whole.
-/
module

public import proofs.«01_k».proof.Defs
public import proofs.«01_k».proof.Proof.Gen.QueryIdeal.Value
public import proofs.«01_k».proof.Proof.Gen.QueryRefIdeal.Run
public import proofs.«01_k».proof.Proof.Gen.QueryRefIdeal.Read
public import proofs.«01_k».proof.Proof.Common.Blocks
public import Idealize.ShloMosaic.Lib.Pointwise
public import Idealize.ShloMosaic.Lib.Pipeline.ValueKit

@[expose] public section

set_option maxRecDepth 16384

noncomputable section

namespace Cert.QueryInput

open Idealize.ShloMosaic Idealize.ShloMosaic.TcCoe Idealize.ShloMosaic.Tactic Cert.QueryIdeal Cert.QueryIdeal.Gen Idealize.SL.Sem Cert.Blocks

theorem pay1_at (a : Vec Ideal S1024x2048 .bf16) (w : Vec Ideal S2048x1024 .bf16) (i j : Fin 1024) :
    k0_pay1 a w (ix2 i j) = ∑ k : Fin 2048, a (ix2 i k) * w (ix2 k j) := by
  pointwise [k0_pay1]

variable (m : (ℓ : Loc nD τ sig) → Buf (Elt Ideal) ℓ)

abbrev an (c : Dev nD) : Vec Ideal S4096x2048 .bf16 := m ((c : Thread nD τ).loc main_arg0)
abbrev aw (c : Dev nD) : Vec Ideal S2048x2048 .bf16 := m ((c : Thread nD τ).loc main_arg1)

theorem index : ∀ t : Fin cfg0.N, win0_0.index t = ![t.val % 4, 0] ∧ win0_1.index t = ![0, t.val / 4] ∧ win0_2.index t = ![t.val % 4, t.val / 4] :=
  (by decide +kernel : ∀ t : Fin grid0.N, win0_0.index t = ![t.val % 4, 0] ∧ win0_1.index t = ![0, t.val / 4] ∧ win0_2.index t = ![t.val % 4, t.val / 4])

theorem final (c : Dev nD) : (dats m 0 c).arrAt 2 cfg0.N = nn (an m c) (aw m c) := by
  refine (dats m 0 c).arrAt_eq_of_covers 2 _ (by decide +kernel) fun t hf y => ?_
  blk_simp
  rw [after0_2]
  frame_out
  refine (congrArg (k0_pay1 _ _) (eq_ix2 y)).trans ((pay1_at _ _ _ _).trans ?_)
  refine Finset.sum_congr rfl fun k _ => congrArg₂ (· * ·) ?_ ?_
  · blk_ext [iblk, V, (index t).1, (index t).2.2]
  · blk_ext [iblk, V, (index t).2.1, (index t).2.2]

theorem ref_eq (n : Vec Ideal S4096x2048 .bf16) (w : Vec Ideal S2048x2048 .bf16) : Cert.QueryRefIdeal.Read.val_main_v3 (F := Ideal) n w = nn n w := by
  funext y
  rw [show y = ix2 (y 0) (y 1) from eq_ix2 y]
  pointwise [Cert.QueryRefIdeal.Read.val_main_v3, Cert.QueryRefIdeal.Read.val_main_v2, Cert.QueryRefIdeal.Read.val_main_v1, Cert.QueryRefIdeal.Read.val_main_v0]
  rfl

theorem algebraic : Cert.algebraic_QueryIdeal_QueryRefIdeal := by
  pair_intro
  · run_from Cert.QueryIdeal.Value.run_blocks m g
  · run_from Cert.QueryRefIdeal.Value.run m' g'
    rw [final m c, Cert.QueryRefIdeal.Read.val_main_v3_eq]
    exact ref_eq _ _

/-- The reference runs, leaves its arguments, and declares no semaphore. -/
theorem frame_ref : Cert.quiescent_QueryRefIdeal := fun m g _ =>
  (θ_run _ _ _).mono (fun r h => ⟨fun c => (h c).2, sem_eq_zero_of_no_sems (by decide) r.2⟩) (Cert.QueryRefIdeal.Value.run m g)

end Cert.QueryInput
-- ==== Proof.Gate.Halves.lean ====
/-
  THE GATED FEED-FORWARD'S FIRST PRODUCT FROM THE TWO HALVES OF ITS WEIGHT. The first phase writes the even column blocks
  of the results from the one half, the second phase the odd column blocks from the other; each phase has 16 grid points,
  every sum whole. The reference puts the two halves' columns together, block by block of 1408, and takes one product.
-/
module

public import proofs.«01_k».proof.Defs
public import proofs.«01_k».proof.Proof.Gen.FfnHalvesIdeal.Frame
public import proofs.«01_k».proof.Proof.Gen.FfnHalvesRefIdeal.Run
public import proofs.«01_k».proof.Proof.Gen.FfnHalvesRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnTwoHalves

open Idealize.ShloMosaic Idealize.ShloMosaic.TcCoe Idealize.ShloMosaic.Tactic Cert.FfnHalvesIdeal Cert.FfnHalvesIdeal.Gen Idealize.SL.Sem
open Idealize.ShloMosaic.Pipeline (Dat Cfg Window)

abbrev Rows := Vec Ideal S4096x2048 .bf16
abbrev Half := Vec Ideal S2048x5632 .bf16
abbrev Pair := Vec Ideal S2x4096x5632 .bf16
abbrev Act := Vec Ideal S4096x5632 .bf16

/-- The column, within its half, of column `c` of the whole weight: the halves take turns every 1408 columns. -/
def inHalf (c : Fin 11264) : Fin 5632 := ⟨c.val / 2816 * 1408 + c.val % 1408, by omega⟩
/-- Entry `(k, c)` of the whole weight. -/
def weight (wl wr : Half) (k : Fin 2048) (c : Fin 11264) : EReal :=
  if c.val / 1408 % 2 = 0 then wl (ix2 k (inHalf c)) else wr (ix2 k (inHalf c))
/-- One entry of the rows' product with the whole weight. -/
def prod (n : Rows) (wl wr : Half) (r : Fin 4096) (c : Fin 11264) : EReal := ∑ k : Fin 2048, n (ix2 r k) * weight wl wr k c
/-- Column `c` of the gate (`p = 0`) or of the up-projection (`p = 1`). -/
def colOf (p : Fin 2) (c : Fin 5632) : Fin 11264 := ⟨p.val * 5632 + c.val, by omega⟩
/-- The gate and the up-projection. -/
def pair (n : Rows) (wl wr : Half) : Pair := fun y => prod n wl wr (y 1) (colOf (y 0) (y 2))
/-- The gated activation of one entry. -/
def gated (g u : EReal) : EReal := g * Ideal.logistic g * u
/-- The gated activation. -/
def act (n : Rows) (wl wr : Half) : Act := fun y => gated (prod n wl wr (y 0) (colOf 0 (y 1))) (prod n wl wr (y 0) (colOf 1 (y 1)))

theorem act_at (n : Rows) (wl wr : Half) (r : Fin 4096) (c : Fin 5632) :
    act n wl wr (ix2 r c) = gated (prod n wl wr r (colOf 0 c)) (prod n wl wr r (colOf 1 c)) := rfl
theorem weight_left (wl wr : Half) (k : Fin 2048) (c : Fin 11264) (h : c.val / 1408 % 2 = 0) : weight wl wr k c = wl (ix2 k (inHalf c)) := if_pos h
theorem weight_right (wl wr : Half) (k : Fin 2048) (c : Fin 11264) (h : ¬c.val / 1408 % 2 = 0) : weight wl wr k c = wr (ix2 k (inHalf c)) := if_neg h

section Block

variable (n : Vec Ideal S512x2048 .bf16) (wg wu : Vec Ideal S2048x1408 .bf16)

/-- One entry of a block's product. -/
def bprod (w : Vec Ideal S2048x1408 .bf16) (i : Fin 512) (j : Fin 1408) : EReal := ∑ k : Fin 2048, n (ix2 i k) * w (ix2 k j)

theorem pay1_apply (i : Fin 512) (j : Fin 1408) : k0_pay1 n wg (ix2 i j) = bprod n wg i j := by
  pointwise [k0_pay1]
  rfl
theorem pay3_apply (i : Fin 512) (j : Fin 1408) : k0_pay3 n wg (ix3 0 i j) = bprod n wg i j := by
  pointwise [k0_pay3]
  exact pay1_apply n wg i j
theorem pay4_apply (i : Fin 512) (j : Fin 1408) : k0_pay4 n wu (ix3 0 i j) = bprod n wu i j := pay3_apply n wu i j
theorem pay5_apply (i : Fin 512) (j : Fin 1408) : k0_pay5 n wg wu (ix2 i j) = gated (bprod n wg i j) (bprod n wu i j) := by
  refine (show k0_pay5 n wg wu (ix2 i j) = gated (k0_pay1 n wg (ix2 i j)) (k0_pay1 n wu (ix2 i j)) from rfl).trans ?_
  rw [pay1_apply, pay1_apply]

/-- The two blocks one above the other. -/
def pairBlock : Vec Ideal S2x512x1408 .bf16 := fun y => bprod n (if (y 0).val = 0 then wg else wu) (y 1) (y 2)
/-- The gated activation of one block. -/
def actBlock : Vec Ideal S512x1408 .bf16 := fun y => gated (bprod n wg (y 0) (y 1)) (bprod n wu (y 0) (y 1))

theorem piece (p : Fin 2) {o : Nat} (ho : o = p.val) (v : Vec Ideal S1x512x1408 .bf16) (hv : ∀ i j, v (ix3 0 i j) = bprod n (if p.val = 0 then wg else wu) i j)
    (ip : ∀ a, (![o, 0, 0] : Fin 3 → Nat) a + S1x512x1408.size a ≤ S2x512x1408.size a)
    (z : (Rect.unit (s := S2x512x1408) ![o, 0, 0] S1x512x1408.size ip).shape.Idx) :
    v z = pairBlock n wg wu ((Rect.unit (s := S2x512x1408) ![o, 0, 0] S1x512x1408.size ip).emb z) := by
  subst ho
  obtain ⟨i, j, rfl⟩ : ∃ (i : Fin 512) (j : Fin 1408), z = ix3 0 i j :=
    ⟨z 1, z 2, by funext a; match a with | ⟨0, _⟩ => exact Subsingleton.elim (α := Fin 1) _ _ | ⟨1, _⟩ => rfl | ⟨2, _⟩ => rfl⟩
  refine (hv i j).trans (congrArg (pairBlock n wg wu) (?_ : ix3 p i j = _))
  funext a; apply Fin.ext
  match a with
  | ⟨0, _⟩ => show p.val = p.val + 1 * 0; omega
  | ⟨1, _⟩ => show i.val = 0 + 1 * i.val; omega
  | ⟨2, _⟩ => show j.val = 0 + 1 * j.val; omega

theorem pieces_eq (y : S2x512x1408.Idx) : View.canon [⟨r0_3, k0_pay4 n wu⟩, ⟨r0_2, k0_pay3 n wg⟩] y = pairBlock n wg wu y := by
  refine View.canon_apply_of_pieces (pairBlock n wg wu) _ (View.PiecesOf.mem ?_) y (cover0_3 _ _ y)
  exact And.intro (fun z => piece n wg wu 1 rfl _ (pay4_apply n wu) inb_S2x512x1408_S1x512x1408_1_0_0 z)
    <| And.intro (fun z => piece n wg wu 0 rfl _ (pay3_apply n wg) inb_S2x512x1408_S1x512x1408_0_0_0 z) <| trivial

theorem actBlock_eq : k0_pay5 n wg wu = actBlock n wg wu := by
  funext y
  exact (congrArg (k0_pay5 n wg wu) (eq_ix2 y)).trans (pay5_apply n wg wu (y 0) (y 1))

/-- What a point of the first phase leaves in the pair's block. -/
theorem out3_eq : out0_3 n wg wu = pairBlock n wg wu := by
  unfold out0_3
  rw [View.ld_unit_lit _ _ (by decide), View.ld_unit_lit _ _ (by decide), View.ld_unit_lit _ _ (by decide)]
  funext y
  exact pieces_eq n wg wu y

/-- What a point of the first phase leaves in the activation's block. -/
theorem out4_eq : out0_4 n wg wu = actBlock n wg wu := by
  unfold out0_4
  rw [View.canon_cons_unit_lit _ _ _ (by decide), View.ld_unit_lit _ _ (by decide), View.ld_unit_lit _ _ (by decide), View.ld_unit_lit _ _ (by decide)]
  exact actBlock_eq n wg wu

variable (c : Dev nD) (i : grid1.Coords) (arg2 : Memref sig .tc .vmem S512x2048 .bf16) (harg2 : arg2.IsWhole) (arg3 : Memref sig .tc .vmem S2048x1408 .bf16) (harg3 : arg3.IsWhole) (arg4 : Memref sig .tc .vmem S2048x1408 .bf16) (harg4 : arg4.IsWhole) (arg7 : Memref sig .tc .vmem S2x512x1408 .bf16) (harg7 : arg7.IsWhole) (arg8 : Memref sig .tc .vmem S512x1408 .bf16) (harg8 : arg8.IsWhole)

/-- What a point of the second phase leaves in the pair's block. -/
theorem second3_eq : out1_A_3 c i arg2 harg2 arg3 harg3 arg4 harg4 arg7 harg7 arg8 harg8 n wg wu = pairBlock n wg wu := by
  unfold out1_A_3
  rw [View.read_writes_eq_canon _ _ _ (cover1_A_3 c i arg2 harg2 arg3 harg3 arg4 harg4 arg7 harg7 arg8 harg8 n wg wu)]
  unfold kernelRun1_A
  sl_unfold_words
  dsimp only
  simp only [View.readAt_eq_ld, harg2.read_unread, harg3.read_unread, harg4.read_unread]
  rw [View.ld_unit_lit _ _ (by decide), View.ld_unit_lit _ _ (by decide), View.ld_unit_lit _ _ (by decide)]
  funext y
  exact pieces_eq n wg wu y

/-- What a point of the second phase leaves in the activation's block. -/
theorem second4_eq : out1_A_4 c i arg2 harg2 arg3 harg3 arg4 harg4 arg7 harg7 arg8 harg8 n wg wu = actBlock n wg wu := by
  unfold out1_A_4
  rw [View.read_writes_eq_canon _ _ _ (cover1_A_4 c i arg2 harg2 arg3 harg3 arg4 harg4 arg7 harg7 arg8 harg8 n wg wu)]
  unfold kernelRun1_A
  sl_unfold_words
  dsimp only
  simp only [View.readAt_eq_ld, harg2.read_unread, harg3.read_unread, harg4.read_unread]
  rw [View.canon_cons_unit_lit _ _ _ (by decide), View.ld_unit_lit _ _ (by decide), View.ld_unit_lit _ _ (by decide), View.ld_unit_lit _ _ (by decide)]
  exact actBlock_eq n wg wu

end Block

section Phases

variable (n : Rows) (wl wr : Half)

theorem lt_N0 (t : Fin cfg0.N) : t.val < 16 := by have := t.isLt; have hN : cfg0.N = 16 := N_0; omega
theorem lt_N1 (t : Fin cfg1.N) : t.val < 16 := by have := t.isLt; have hN : cfg1.N = 16 := N_1; omega

theorem index0 : ∀ t : Fin cfg0.N, win0_0.index t = ![t.val % 8, 0] ∧ win0_1.index t = ![0, t.val / 8] ∧ win0_2.index t = ![0, t.val / 8 + 2]
    ∧ win0_3.index t = ![0, t.val % 8, 2 * (t.val / 8)] ∧ win0_4.index t = ![t.val % 8, 2 * (t.val / 8)] :=
  (by decide +kernel : ∀ t : Fin grid0.N, win0_0.index t = ![t.val % 8, 0] ∧ win0_1.index t = ![0, t.val / 8] ∧ win0_2.index t = ![0, t.val / 8 + 2]
    ∧ win0_3.index t = ![0, t.val % 8, 2 * (t.val / 8)] ∧ win0_4.index t = ![t.val % 8, 2 * (t.val / 8)])
theorem index1 : ∀ t : Fin cfg1.N, win1_0.index t = ![t.val % 8, 0] ∧ win1_1.index t = ![0, t.val / 8] ∧ win1_2.index t = ![0, t.val / 8 + 2]
    ∧ win1_3.index t = ![0, t.val % 8, 2 * (t.val / 8) + 1] ∧ win1_4.index t = ![t.val % 8, 2 * (t.val / 8) + 1] :=
  (by decide +kernel : ∀ t : Fin grid1.N, win1_0.index t = ![t.val % 8, 0] ∧ win1_1.index t = ![0, t.val / 8] ∧ win1_2.index t = ![0, t.val / 8 + 2]
    ∧ win1_3.index t = ![0, t.val % 8, 2 * (t.val / 8) + 1] ∧ win1_4.index t = ![t.val % 8, 2 * (t.val / 8) + 1])

/-- Row `i` of point `t`'s row block. -/
def rowAt (t : Nat) (i : Fin 512) : Fin 4096 := ⟨t % 8 * 512 + i.val, by omega⟩
/-- Column `j` of point `t`'s column block, in phase `h`. -/
def colAt (t : Nat) (ht : t < 16) (h : Fin 2) (j : Fin 1408) : Fin 5632 := ⟨(2 * (t / 8) + h.val) * 1408 + j.val, by omega⟩
/-- The column of the phase's half that feeds column `j` of the gate's (`p = 0`) or the up-projection's (`p = 1`) block. -/
def fromAt (t : Nat) (ht : t < 16) (p : Fin 2) (j : Fin 1408) : Fin 5632 := ⟨(t / 8 + 2 * p.val) * 1408 + j.val, by omega⟩

theorem inHalf_colAt (t : Nat) (ht : t < 16) (h p : Fin 2) (j : Fin 1408) : inHalf (colOf p (colAt t ht h j)) = fromAt t ht p j :=
  Fin.ext (show (p.val * 5632 + ((2 * (t / 8) + h.val) * 1408 + j.val)) / 2816 * 1408 + (p.val * 5632 + ((2 * (t / 8) + h.val) * 1408 + j.val)) % 1408
    = (t / 8 + 2 * p.val) * 1408 + j.val by omega)

/-- A point's product with the first half's columns is the whole product's entry, in the first phase's columns. -/
theorem prod_even (t : Nat) (ht : t < 16) (p : Fin 2) (b : Vec Ideal S512x2048 .bf16) (w : Vec Ideal S2048x1408 .bf16) (i : Fin 512) (j : Fin 1408)
    (hb : ∀ k, b (ix2 i k) = n (ix2 (rowAt t i) k)) (hw : ∀ k, w (ix2 k j) = wl (ix2 k (fromAt t ht p j))) :
    bprod b w i j = prod n wl wr (rowAt t i) (colOf p (colAt t ht 0 j)) := by
  refine Finset.sum_congr rfl fun k _ => congrArg₂ (· * ·) (hb k) ?_
  rw [hw k, weight_left _ _ _ _ (show (p.val * 5632 + ((2 * (t / 8) + 0) * 1408 + j.val)) / 1408 % 2 = 0 by omega), inHalf_colAt]

/-- The same with the second half's columns, in the second phase's. -/
theorem prod_odd (t : Nat) (ht : t < 16) (p : Fin 2) (b : Vec Ideal S512x2048 .bf16) (w : Vec Ideal S2048x1408 .bf16) (i : Fin 512) (j : Fin 1408)
    (hb : ∀ k, b (ix2 i k) = n (ix2 (rowAt t i) k)) (hw : ∀ k, w (ix2 k j) = wr (ix2 k (fromAt t ht p j))) :
    bprod b w i j = prod n wl wr (rowAt t i) (colOf p (colAt t ht 1 j)) := by
  refine Finset.sum_congr rfl fun k _ => congrArg₂ (· * ·) (hb k) ?_
  rw [hw k, weight_right _ _ _ _ (show ¬(p.val * 5632 + ((2 * (t / 8) + 1) * 1408 + j.val)) / 1408 % 2 = 0 by omega), inHalf_colAt]

end Phases

variable (m : (ℓ : Loc nD τ sig) → Buf (Elt Ideal) ℓ) (ρ : Dev nD → PrngReg)

abbrev an (c : Dev nD) : Rows := m ((c : Thread nD τ).loc main_arg0)
abbrev al (c : Dev nD) : Half := m ((c : Thread nD τ).loc main_arg1)
abbrev ar (c : Dev nD) : Half := m ((c : Thread nD τ).loc main_arg2)

section First

variable (c : Dev nD) (t : Fin cfg0.N)

theorem first_n (i : Fin 512) (k : Fin 2048) : (iblk0 (V0 m ρ) c 0 t : Vec Ideal S512x2048 .bf16) (ix2 i k) = an m c (ix2 (rowAt t.val i) k) := by
  show _ = (V0 m ρ c main_arg0 : Rows) _
  unfold rowAt
  blk_ext [iblk0, (index0 t).1]
theorem first_g (k : Fin 2048) (j : Fin 1408) : (iblk0 (V0 m ρ) c 1 t : Vec Ideal S2048x1408 .bf16) (ix2 k j) = al m c (ix2 k (fromAt t.val (lt_N0 t) 0 j)) := by
  show _ = (V0 m ρ c main_arg1 : Half) _
  unfold fromAt
  blk_ext [iblk0, (index0 t).2.1]
theorem first_u (k : Fin 2048) (j : Fin 1408) : (iblk0 (V0 m ρ) c 2 t : Vec Ideal S2048x1408 .bf16) (ix2 k j) = al m c (ix2 k (fromAt t.val (lt_N0 t) 1 j)) := by
  show _ = (V0 m ρ c main_arg1 : Half) _
  unfold fromAt
  blk_ext [iblk0, (index0 t).2.2.1]

theorem first_block (p : Fin 2) (i : Fin 512) (j : Fin 1408) :
    bprod (iblk0 (V0 m ρ) c 0 t) (if p.val = 0 then (iblk0 (V0 m ρ) c 1 t : Vec Ideal S2048x1408 .bf16) else (iblk0 (V0 m ρ) c 2 t : Vec Ideal S2048x1408 .bf16)) i j
      = prod (an m c) (al m c) (ar m c) (rowAt t.val i) (colOf p (colAt t.val (lt_N0 t) 0 j)) :=
  prod_even _ _ _ _ _ _ _ _ _ _ (first_n m ρ c t i) fun k => by
    match p with
    | ⟨0, _⟩ => exact first_g m ρ c t k j
    | ⟨1, _⟩ => exact first_u m ρ c t k j

theorem first_act (i : Fin 512) (j : Fin 1408) :
    actBlock (iblk0 (V0 m ρ) c 0 t) (iblk0 (V0 m ρ) c 1 t) (iblk0 (V0 m ρ) c 2 t) (ix2 i j)
      = act (an m c) (al m c) (ar m c) (ix2 (rowAt t.val i) (colAt t.val (lt_N0 t) 0 j)) := by
  rw [act_at]
  exact congrArg₂ gated (prod_even _ _ _ _ _ 0 _ _ _ _ (first_n m ρ c t i) fun k => first_g m ρ c t k j)
    (prod_even _ _ _ _ _ 1 _ _ _ _ (first_n m ρ c t i) fun k => first_u m ρ c t k j)

/-- The first phase writes the even column blocks of the pair. -/
theorem first3 (i : S2x4096x5632.Idx) (h : (i 2).val / 1408 % 2 = 0) :
    (dat0 (V0 m ρ) c).arrAt 3 cfg0.N i = pair (an m c) (al m c) (ar m c) i := by
  refine ((dat0 (V0 m ρ) c).arrAt_apply_of_coversWhere 3 (pair (an m c) (al m c) (ar m c)) (P := fun i : S2x4096x5632.Idx => (i 2).val / 1408 % 2 = 0)
    (fun β => β (2 : Fin _) % 2 = 0) (by decide +kernel) (fun t hf y => ?_) (fun j => Iff.rfl) i).trans (if_pos h)
  blk_simp
  rw [after0_3, out3_eq]
  refine (first_block m ρ c t (y 0) (y 1) (y 2)).trans (congrArg (pair (an m c) (al m c) (ar m c)) (?_ : ix3 (y 0) (rowAt t.val (y 1)) (colAt t.val (lt_N0 t) 0 (y 2)) = _))
  unfold rowAt colAt
  blk_ext [(index0 t).2.2.2.1]

/-- The first phase writes the even column blocks of the activation. -/
theorem first4 (i : S4096x5632.Idx) (h : (i 1).val / 1408 % 2 = 0) :
    (dat0 (V0 m ρ) c).arrAt 4 cfg0.N i = act (an m c) (al m c) (ar m c) i := by
  refine ((dat0 (V0 m ρ) c).arrAt_apply_of_coversWhere 4 (act (an m c) (al m c) (ar m c)) (P := fun i : S4096x5632.Idx => (i 1).val / 1408 % 2 = 0)
    (fun β => β (1 : Fin _) % 2 = 0) (by decide +kernel) (fun t hf y => ?_) (fun j => Iff.rfl) i).trans (if_pos h)
  blk_simp
  rw [after0_4, out4_eq]
  refine (congrArg (actBlock _ _ _) (eq_ix2 y)).trans <| (first_act m ρ c t (y 0) (y 1)).trans
    (congrArg (act (an m c) (al m c) (ar m c)) (?_ : ix2 (rowAt t.val (y 0)) (colAt t.val (lt_N0 t) 0 (y 1)) = _))
  unfold rowAt colAt
  blk_ext [(index0 t).2.2.2.2]

end First

section Second

variable (c : Dev nD) (t : Fin cfg1.N)

theorem second_n (i : Fin 512) (k : Fin 2048) : (iblk1 (V2 m ρ) c 0 t : Vec Ideal S512x2048 .bf16) (ix2 i k) = an m c (ix2 (rowAt t.val i) k) := by
  refine Eq.trans ?_ (congrFun (W2_args m ρ c main_arg0 (by decide)) _)
  show _ = (V2 m ρ c main_arg0 : Rows) _
  unfold rowAt
  blk_ext [iblk1, (index1 t).1]
theorem second_g (k : Fin 2048) (j : Fin 1408) : (iblk1 (V2 m ρ) c 1 t : Vec Ideal S2048x1408 .bf16) (ix2 k j) = ar m c (ix2 k (fromAt t.val (lt_N1 t) 0 j)) := by
  refine Eq.trans ?_ (congrFun (W2_args m ρ c main_arg2 (by decide)) _)
  show _ = (V2 m ρ c main_arg2 : Half) _
  unfold fromAt
  blk_ext [iblk1, (index1 t).2.1]
theorem second_u (k : Fin 2048) (j : Fin 1408) : (iblk1 (V2 m ρ) c 2 t : Vec Ideal S2048x1408 .bf16) (ix2 k j) = ar m c (ix2 k (fromAt t.val (lt_N1 t) 1 j)) := by
  refine Eq.trans ?_ (congrFun (W2_args m ρ c main_arg2 (by decide)) _)
  show _ = (V2 m ρ c main_arg2 : Half) _
  unfold fromAt
  blk_ext [iblk1, (index1 t).2.2.1]

theorem second_block (p : Fin 2) (i : Fin 512) (j : Fin 1408) :
    bprod (iblk1 (V2 m ρ) c 0 t) (if p.val = 0 then (iblk1 (V2 m ρ) c 1 t : Vec Ideal S2048x1408 .bf16) else (iblk1 (V2 m ρ) c 2 t : Vec Ideal S2048x1408 .bf16)) i j
      = prod (an m c) (al m c) (ar m c) (rowAt t.val i) (colOf p (colAt t.val (lt_N1 t) 1 j)) :=
  prod_odd _ _ _ _ _ _ _ _ _ _ (second_n m ρ c t i) fun k => by
    match p with
    | ⟨0, _⟩ => exact second_g m ρ c t k j
    | ⟨1, _⟩ => exact second_u m ρ c t k j

theorem second_act (i : Fin 512) (j : Fin 1408) :
    actBlock (iblk1 (V2 m ρ) c 0 t) (iblk1 (V2 m ρ) c 1 t) (iblk1 (V2 m ρ) c 2 t) (ix2 i j)
      = act (an m c) (al m c) (ar m c) (ix2 (rowAt t.val i) (colAt t.val (lt_N1 t) 1 j)) := by
  rw [act_at]
  exact congrArg₂ gated (prod_odd _ _ _ _ _ 0 _ _ _ _ (second_n m ρ c t i) fun k => second_g m ρ c t k j)
    (prod_odd _ _ _ _ _ 1 _ _ _ _ (second_n m ρ c t i) fun k => second_u m ρ c t k j)

/-- The second phase starts from the pair the first phase left. -/
theorem entry3 : (V2 m ρ c main_v1_0 : Pair) = (dat0 (V0 m ρ) c).arrAt 3 cfg0.N := by
  refine Eq.trans ?_ (W1_arr m ρ c 3)
  show StableHlo.after hostOps1 (W1 m ρ c) _ = _
  after_results_simp
  rfl
/-- The second phase starts from the activation the first phase left. -/
theorem entry4 : (V2 m ρ c main_v1_1 : Act) = (dat0 (V0 m ρ) c).arrAt 4 cfg0.N := by
  refine Eq.trans ?_ (W1_arr m ρ c 4)
  show StableHlo.after hostOps1 (W1 m ρ c) _ = _
  after_results_simp
  rfl

/-- After the second phase the pair is whole. -/
theorem final3 : (dat1 (V2 m ρ) c).arrAt 3 cfg1.N = pair (an m c) (al m c) (ar m c) := by
  refine (dat1 (V2 m ρ) c).arrAt_eq_of_coversWhere_of_agree 3 (pair (an m c) (al m c) (ar m c)) (fun β => β (2 : Fin _) % 2 = 1) (by decide +kernel) (fun t hf y => ?_) fun (j : S2x4096x5632.Idx) hj => ?_
  · blk_simp
    rw [after1_3]
    unfold outsAt1
    rw [second3_eq]
    refine (second_block m ρ c t (y 0) (y 1) (y 2)).trans (congrArg (pair (an m c) (al m c) (ar m c)) (?_ : ix3 (y 0) (rowAt t.val (y 1)) (colAt t.val (lt_N1 t) 1 (y 2)) = _))
    unfold rowAt colAt
    blk_ext [(index1 t).2.2.2.1]
  · refine (congrFun (entry3 m ρ c) j).trans (first3 m ρ c j ?_)
    have h : ¬(j 2).val / 1408 % 2 = 1 := hj
    omega

/-- After the second phase the activation is whole. -/
theorem final4 : (dat1 (V2 m ρ) c).arrAt 4 cfg1.N = act (an m c) (al m c) (ar m c) := by
  refine (dat1 (V2 m ρ) c).arrAt_eq_of_coversWhere_of_agree 4 (act (an m c) (al m c) (ar m c)) (fun β => β (1 : Fin _) % 2 = 1) (by decide +kernel) (fun t hf y => ?_) fun (j : S4096x5632.Idx) hj => ?_
  · blk_simp
    rw [after1_4]
    unfold outsAt1
    rw [second4_eq]
    refine (congrArg (actBlock _ _ _) (eq_ix2 y)).trans <| (second_act m ρ c t (y 0) (y 1)).trans
      (congrArg (act (an m c) (al m c) (ar m c)) (?_ : ix2 (rowAt t.val (y 0)) (colAt t.val (lt_N1 t) 1 (y 1)) = _))
    unfold rowAt colAt
    blk_ext [(index1 t).2.2.2.2]
  · refine (congrFun (entry4 m ρ c) j).trans (first4 m ρ c j ?_)
    have h : ¬(j 1).val / 1408 % 2 = 1 := hj
    omega

end Second

section Run

open Idealize.SL Idealize.SL.RA Idealize.SL.BI Idealize.SL.ProofMode Idealize.ShloMosaic.Rounds
open scoped Idealize.SL.BI
open Idealize.SL.BI.BIBase Idealize.SL.BI.Laws

local notation "𝕄" => MT nD τ sig Unit (Elt Ideal) ℕ (UR sig nD τ) ℕ

/-- The whole run: it ends with the two results as the second phase leaves them and the arguments unchanged. -/
theorem run : θ_run defs (onTc (τ := τ) (main (F := Ideal))) ⟨m, fun _ => 0, ρ⟩ (fun r => ∀ c : Dev nD,
      r.2.mem ((c.tc : Thread nD τ).loc main_v1_0) = pair (an m c) (al m c) (ar m c)
      ∧ r.2.mem ((c.tc : Thread nD τ).loc main_v1_1) = act (an m c) (al m c) (ar m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v1_0 (by decide))).trans ((W3_arr m ρ c 3).trans (final3 m ρ c)),
       (h c _ (mem_uc main_v1_1 (by decide))).trans ((W3_arr m ρ c 4).trans (final4 m ρ c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Run

section Reference

open Cert.FfnHalvesRefIdeal Cert.FfnHalvesRefIdeal.Read

variable (n : Rows) (wl wr : Half)

/-- Column `e` of block `b` of a half. -/
def blockCol (b : Fin 4) (e : Fin 1408) : Fin 5632 := ⟨b.val * 1408 + e.val, by omega⟩

theorem v0_at (k : Fin 2048) (b : Fin 4) (e : Fin 1408) : val_main_v0 (F := Ideal) wl (ix3 k b e) = wl (ix2 k (blockCol b e)) := by
  refine (val_main_v0_apply _ _).trans (congrArg wl ?_)
  funext a; apply Fin.ext
  match a with
  | ⟨0, _⟩ => show ((k.val * 4 + b.val) * 1408 + e.val) / 5632 = k.val; omega
  | ⟨1, _⟩ => show ((k.val * 4 + b.val) * 1408 + e.val) % 5632 = b.val * 1408 + e.val; omega

theorem v4_left (k : Fin 2048) (b : Fin 4) (e : Fin 1408) : val_main_v4 (F := Ideal) wl wr (ix4 k b 0 e) = wl (ix2 k (blockCol b e)) := by
  pointwise [val_main_v4, val_main_v2]
  exact v0_at wl k b e
theorem v4_right (k : Fin 2048) (b : Fin 4) (e : Fin 1408) : val_main_v4 (F := Ideal) wl wr (ix4 k b 1 e) = wr (ix2 k (blockCol b e)) := by
  pointwise [val_main_v4, val_main_v3]
  exact v0_at wr k b e

/-- The reference's weight, put together from the halves. -/
theorem v5_at (k : Fin 2048) (c : Fin 11264) : val_main_v5 (F := Ideal) wl wr (ix2 k c) = weight wl wr k c := by
  have e : ∀ h : Fin 2, c.val / 1408 % 2 = h.val →
      idx_main_v5 (ix2 k c) = ix4 k ⟨c.val / 2816, by omega⟩ h ⟨c.val % 1408, by omega⟩ := fun h hc => by
    funext a; apply Fin.ext
    match a with
    | ⟨0, _⟩ => show (k.val * 11264 + c.val) / 11264 = k.val; omega
    | ⟨1, _⟩ => show (k.val * 11264 + c.val) / 2816 % 4 = c.val / 2816; omega
    | ⟨2, _⟩ => show (k.val * 11264 + c.val) / 1408 % 2 = h.val; omega
    | ⟨3, _⟩ => show (k.val * 11264 + c.val) % 1408 = c.val % 1408; omega
  refine (val_main_v5_apply _ _ _).trans ?_
  by_cases hc : c.val / 1408 % 2 = 0
  · rw [weight_left _ _ _ _ hc, e 0 hc, v4_left]
    rfl
  · rw [weight_right _ _ _ _ hc, e 1 (show c.val / 1408 % 2 = 1 by omega), v4_right]
    rfl

theorem v8_at (r : Fin 4096) (c : Fin 11264) : val_main_v8 (F := Ideal) n wl wr (ix2 r c) = prod n wl wr r c := by
  pointwise [val_main_v8, val_main_v7, val_main_v6]
  exact Finset.sum_congr rfl fun k _ => congrArg (n (ix2 r k) * ·) (v5_at wl wr k c)

theorem v9_at (r : Fin 4096) (c : Fin 5632) : val_main_v9 (F := Ideal) n wl wr (ix2 r c) = prod n wl wr r (colOf 0 c) := by
  pointwise [val_main_v9]
  exact (v8_at n wl wr r _).trans (congrArg (prod n wl wr r) (Fin.ext (show _ = 0 * 5632 + c.val by simp)))

theorem v10_at (r : Fin 4096) (c : Fin 5632) : val_main_v10 (F := Ideal) n wl wr (ix2 r c) = prod n wl wr r (colOf 1 c) := by
  pointwise [val_main_v10]
  exact (v8_at n wl wr r _).trans (congrArg (prod n wl wr r) (Fin.ext (show _ = 1 * 5632 + c.val by simp)))

theorem ref14_eq : val_main_v14 (F := Ideal) n wl wr = pair n wl wr := by
  funext y
  obtain ⟨p, r, c, rfl⟩ : ∃ p r c, y = ix3 p r c := ⟨y 0, y 1, y 2, by funext b; match b with | ⟨0, _⟩ => rfl | ⟨1, _⟩ => rfl | ⟨2, _⟩ => rfl⟩
  match p with
  | ⟨0, _⟩ =>
    pointwise [val_main_v14, val_main_v13, val_main_v11]
    exact v9_at n wl wr r c
  | ⟨1, _⟩ =>
    pointwise [val_main_v14, val_main_v13, val_main_v12]
    exact v10_at n wl wr r c

theorem ref17_eq : val_main_v17 (F := Ideal) n wl wr = act n wl wr := by
  funext y
  obtain ⟨r, c, rfl⟩ : ∃ r c, y = ix2 r c := ⟨y 0, y 1, eq_ix2 y⟩
  pointwise [val_main_v17, val_main_v16, val_main_v15, val_main_call0_v5, val_main_call0_v4, val_main_call0_v3, val_main_call0_v2, val_main_call0_v1, val_main_call0_v0]
  simp only [val_main_call0_cst_apply, val_main_call0_cst_0_apply, v9_at, v10_at]
  rw [show (FloatOps.ofBits .f32 0x3F800000#32 : Ideal .f32) = 1 from Ideal.ofBits_one_f32]
  rfl

end Reference

theorem algebraic : Cert.algebraic_FfnHalvesIdeal_FfnHalvesRefIdeal := by
  intro m g m' g' _ hargs
  refine ⟨fun c => pair (an m c) (al m c) (ar m c), fun c => act (an m c) (al m c) (ar m c), run m g, ?_⟩
  refine (θ_run _ _ _).mono (fun r h c => ?_) (Cert.FfnHalvesRefIdeal.Value.run m' g')
  obtain ⟨h14, h17, hk⟩ := h c
  obtain ⟨e0, e1, e2⟩ := hargs c
  refine ⟨h14.trans ?_, h17.trans ?_, hk⟩
  · rw [Cert.FfnHalvesRefIdeal.Read.val_main_v14_eq, e0, e1, e2]
    exact ref14_eq _ _ _
  · rw [Cert.FfnHalvesRefIdeal.Read.val_main_v17_eq, e0, e1, e2]
    exact ref17_eq _ _ _

/-- The reference runs, leaves its arguments, and declares no semaphore. -/
theorem frame_ref : Cert.quiescent_FfnHalvesRefIdeal := fun m g _ =>
  (θ_run _ _ _).mono (fun r h => ⟨fun c => (h c).2.2, sem_eq_zero_of_no_sems (by decide) r.2⟩) (Cert.FfnHalvesRefIdeal.Value.run m g)

end Cert.FfnTwoHalves
-- ==== Proof.Product.Half.lean ====
/- One half of the rows of the weight's gradient.

   Two chips share the gradient of the feed-forward weight: each computes the 1024 rows it keeps and the 1024 rows it
   sends. Which half is which is told by the second word of a table of two integers. Here: what the precondition says of
   that word, what either half is, and what one block of either product holds. -/
module

public import proofs.«01_k».proof.Proof.Product.DwIn
public import proofs.«01_k».proof.Pre_place_in_range

@[expose] public section

set_option maxRecDepth 100000

noncomputable section

namespace Cert.HalfGrad

open Idealize.ShloMosaic Idealize.ShloMosaic.TcCoe Idealize.ShloMosaic.Tactic Cert.DwInIdeal Cert.DwInGrad

theorem preFacts : Cert.Pre_place_in_range.Facts where
  slices_S2_S1_1 := by decide
  shapeCasts_S1_S_ := by decide

abbrev HalfRows : Shape := ⟨2, ![1024, 11264]⟩
abbrev Two : Shape := ⟨1, ![2]⟩

/-- The word that tells the two chips apart. -/
abbrev word {F : FTy → Type} (p : Vec F Two .i32) : BitVec 32 := p (ix1 1)

/-- The word is zero or one. -/
abbrev InRange {F : FTy → Type} (p : Vec F Two .i32) : Prop := word (F := F) p = 0#32 ∨ word (F := F) p = 1#32

/-- A word between zero and one, as signed numbers, is zero or one. -/
theorem zero_or_one (w : BitVec 32) (h : IntOp.andi (IntOp.cmpi .sge w 0#32) (IntOp.cmpi .sle w 1#32) = 1#1) : w = 0#32 ∨ w = 1#32 := by
  have both : ∀ a b : Bool, IntOp.andi (BitVec.ofBool a) (BitVec.ofBool b) = 1#1 → a = true ∧ b = true := by decide
  replace h := both _ _ h
  simp only [BitVec.sle_eq_decide, decide_eq_true_eq] at h
  rw [show (0#32 : BitVec 32).toInt = 0 from rfl, show (1#32 : BitVec 32).toInt = 1 from rfl] at h
  rcases (by omega : w.toInt = 0 ∨ w.toInt = 1) with e | e
  · exact .inl (BitVec.eq_of_toInt_eq e)
  · exact .inr (BitVec.eq_of_toInt_eq e)

/-- The word, as a slice of the table cast to a scalar reads it. -/
theorem word_read (p : IVec Two 32) (hs : Two.Slices ![1] ⟨1, ![1]⟩) (hc : (⟨1, ![1]⟩ : Shape).ShapeCasts ⟨0, ![]⟩) (i : (⟨0, ![]⟩ : Shape).Idx) :
    shapeCast (⟨0, ![]⟩ : Shape) (extractStridedSlice (⟨1, ![1]⟩ : Shape) ![1] p hs) hc i = p (ix1 1) := by
  pointwise []

/-- The precondition: the word is zero or one. -/
theorem word_of_pre [Cert.Pre_place_in_range.Facts] {F : FTy → Type} [FloatOps F] (n : FVec F S4096x2048 .bf16) (g : FVec F S2x4096x5632 .bf16) (p : IVec Two 32)
    (h : Cert.Pre_place_in_range.fn n g p = fun _ => 1#1) : InRange (F := F) p := by
  have e := congrFun h fun a => a.elim0
  exact zero_or_one (p (ix1 1)) (by rw [← word_read p (preFacts.slices_S2_S1_1) preFacts.shapeCasts_S1_S_ fun a => a.elim0]; exact e)

/-- The half of the rows a chip keeps. -/
def kept (w : BitVec 32) : Fin 2 := if w = 0#32 then 0 else 1
/-- The half of the rows a chip sends. -/
def sent (w : BitVec 32) : Fin 2 := if w = 1#32 then 0 else 1

/-- The rows of half `h`. -/
def rowOf (h : Fin 2) (i : Fin 1024) : Fin 2048 := ⟨h.val * 1024 + i.val, by omega⟩

/-- Half `h` of the weight's gradient. -/
def half (h : Fin 2) (n : Rows) (g : Pair) : Vec Ideal HalfRows .bf16 := fun y => dw n g (ix2 (rowOf h (y 0)) (y 1))

/-- Column `j` of block `t`. -/
def col (t : Fin 22) (j : Fin 512) : Fin 11264 := ⟨t.val * 512 + j.val, by omega⟩

/-- One block of half `h`, from half `h` of the rows' columns and the block's columns of the pair. -/
theorem block_at (h : Fin 2) (n : Rows) (g : Pair) (t : Fin 22) (a : Vec Ideal S4096x1024 .bf16) (b : Vec Ideal S1x4096x512 .bf16)
    (ha : ∀ r i, a (ix2 r i) = n (ix2 r (rowOf h i))) (hb : ∀ r j, b (ix3 0 r j) = beside g r (col t j)) (i : Fin 1024) (j : Fin 512) :
    Cert.DwInIdeal.Gen.k0_pay1 a b (ix2 i j) = half h n g (ix2 i (col t j)) :=
  (pay1_apply a b i j).trans (Finset.sum_congr rfl fun r _ => congrArg₂ (· * ·) (ha r i) (hb r j))

/-- A block index that is one half of the columns names a block inside the array, which starts and ends at whole words. -/
theorem inside {ι : Type} (f : ι → Fin 2 → Nat) (h : Fin 2) (hf : ∀ i, f i = ![0, h.val]) (i : ι) :
    ∃ hb : (∀ a, (f i a + 1) * S4096x1024.size a ≤ S4096x2048.size a),
      EltTy.bits .bf16 = 32 ∨ (Rect.block (s := S4096x2048) S4096x1024.size (f i) hb).WholeWords (EltTy.packing .bf16) := by
  rw [hf i]
  exact ⟨(by decide : ∀ (h : Fin 2) a, ((![0, h.val] : Fin 2 → Nat) a + 1) * S4096x1024.size a ≤ S4096x2048.size a) h,
    .inr (Affine.block_words_dvd (of_decide_eq_true rfl) (by decide))⟩

end Cert.HalfGrad
-- ==== Proof.Product.Kept.lean ====
/-
  THE HALF OF THE WEIGHT'S GRADIENT A CHIP KEEPS. 22 grid points write one column block each; every point reads the half
  of the rows' columns the table's second word names, and its block of the pair.
-/
module

public import proofs.«01_k».proof.Defs
public import proofs.«01_k».proof.Proof.Product.Half
public import proofs.«01_k».proof.Proof.Gen.DwMine.Frame
public import proofs.«01_k».proof.Proof.Gen.DwMineIdeal.Frame
public import proofs.«01_k».proof.Proof.Gen.DwMineRefIdeal.Run
public import proofs.«01_k».proof.Proof.Gen.DwMineRefIdeal.Read
public import Idealize.ShloMosaic.Lib.Pointwise
public import Idealize.ShloMosaic.Lib.Pipeline.ValueKit
public import Idealize.ShloMosaic.Lib.Pipeline.ReadBack

@[expose] public section

set_option maxRecDepth 100000

noncomputable section

namespace Cert.KeptHalf

open Idealize.ShloMosaic Idealize.ShloMosaic.TcCoe Idealize.ShloMosaic.Tactic Cert.DwMineIdeal Cert.DwMineIdeal.Gen Idealize.SL.Sem Cert.HalfGrad
open Cert.DwInGrad (Rows Pair beside dw)

section Block

variable (c : Dev nD) (i : grid0.Coords) (arg4 : Memref sig .tc .vmem S4096x1024 .bf16) (harg4 : arg4.IsWhole)
  (arg5 : Memref sig .tc .vmem S1x4096x512 .bf16) (harg5 : arg5.IsWhole) (arg6 : Memref sig .tc .vmem S1024x512 .bf16) (harg6 : arg6.IsWhole)
  (a : Vec Ideal S4096x1024 .bf16) (b : Vec Ideal S1x4096x512 .bf16) (p : TbBuf0 (F := Ideal) c tbM0_0)

/-- What a point leaves in its block of the result. -/
theorem out_eq : out0_A_2 c i arg4 harg4 arg5 harg5 arg6 harg6 a b p = k0_pay1 a b := by
  unfold out0_A_2
  rw [View.read_writes_eq_canon _ _ _ (cover0_A_2 c i arg4 harg4 arg5 harg5 arg6 harg6 a b p)]
  unfold kernelRun0_A
  sl_unfold_words
  dsimp only
  simp only [View.readAt_eq_ld, harg4.read_unread, harg5.read_unread]
  rw [View.canon_cons_unit_lit _ _ _ (by decide), View.ld_unit_lit _ _ (by decide), View.ld_unit_lit _ _ (by decide)]

end Block

section Table

variable {F : FTy → Type} [FloatOps F]

/-- The block of the rows' columns every point reads: the half the word names. -/
theorem table_index (q : pre0.Contents (Elt F)) (hw : InRange (F := F) (q 0)) (i : grid0.Coords) :
    cc0_transform_0 inb_S2_S1_1 numel1_S1 q i = ![0, (kept (word (F := F) (q 0))).val] := by
  have e : q.at 0 (Rect.unit (s := S2) ![1] S1.size inb_S2_S1_1) numel1_S1 = word (F := F) (q 0) := by
    refine congrArg (q 0) ?_
    funext a
    match a with
    | ⟨0, _⟩ => rfl
  unfold cc0_transform_0
  dsimp only
  rw [e]
  rcases hw with h | h <;> rw [h] <;> revert i <;> decide +kernel

theorem ok_of_word (q : pre0.Contents (Elt F)) (hw : InRange (F := F) (q 0)) : ok0 q :=
  fun i => inside _ _ (table_index q hw) i

end Table

variable (m : (ℓ : Loc nD τ sig) → Buf (Elt Ideal) ℓ)

abbrev an (c : Dev nD) : Rows := m ((c : Thread nD τ).loc main_arg0)
abbrev ag (c : Dev nD) : Pair := m ((c : Thread nD τ).loc main_arg1)
abbrev ap (c : Dev nD) : Vec Ideal S2 .i32 := m ((c : Thread nD τ).loc main_arg2)

theorem ok (hw : InRange (F := Ideal) (ap m 0)) : Ok m := ok_of_word (tbl m) hw

/-- The pipeline at the table the launch finds. -/
abbrev cfg (hw : InRange (F := Ideal) (ap m 0)) := cfgM m (ok m hw)

theorem index0 (hw : InRange (F := Ideal) (ap m 0)) (t : Fin grid0.N) : cc0_transform_0 inb_S2_S1_1 numel1_S1 (tbl m) (grid0.coords t) = ![0, (kept (word (F := Ideal) (ap m 0))).val] := table_index (tbl m) hw _
theorem index1 : ∀ t : Fin grid0.N, cc0_transform_1 (grid0.coords t) = ![t.val / 11, 0, t.val % 11] := by decide +kernel
theorem index2 : ∀ t : Fin grid0.N, cc0_transform_2 (grid0.coords t) = ![0, t.val] := by decide +kernel

/-- The column block of a grid point. -/
def place (t : Fin grid0.N) : Fin 22 := t.cast (by decide)

variable (hw : InRange (F := Ideal) (ap m 0))

/-- A table of zeros. -/
def zeros : pre0.Contents (Elt Ideal) := fun | ⟨0, _⟩ => (fun _ => 0#32 : Vec Ideal S2 .i32)

theorem covers : ((cfg m hw).win 2).Covers :=
  (by decide +kernel : ((cfg0 (F := Ideal) ⟨zeros, ok_of_word zeros (Or.inl rfl)⟩).win 2).Covers)

theorem after_eq (c : Dev nD) (t : Fin (cfg m hw).N) :
    outsAt0 m (ok m hw) c t = k0_pay1 (F := Ideal) (iblk m (ok m hw) c 0 t) (iblk m (ok m hw) c 1 t) := out_eq _ _ _ _ _ _ _ _ _ _ _

theorem rows_at (c : Dev nD) (t : Fin grid0.N) (r : Fin 4096) (i : Fin 1024) :
    (iblk m (ok m hw) c 0 t : Vec Ideal S4096x1024 .bf16) (ix2 r i) = an m c (ix2 r (rowOf (kept (word (F := Ideal) (ap m 0))) i)) := by
  refine (View.read_apply _ _).trans (congrArg (an m c) ?_)
  funext a
  apply Fin.ext
  match a with
  | ⟨0, _⟩ => show cc0_transform_0 inb_S2_S1_1 numel1_S1 (tbl m) (grid0.coords t) 0 * 4096 + 1 * r.val = r.val
              rw [index0 m hw t]; show 0 * 4096 + 1 * r.val = r.val; omega
  | ⟨1, _⟩ => show cc0_transform_0 inb_S2_S1_1 numel1_S1 (tbl m) (grid0.coords t) 1 * 1024 + 1 * i.val = _ * 1024 + i.val
              rw [index0 m hw t, one_mul]; rfl

theorem pair_at (c : Dev nD) (t : Fin grid0.N) (r : Fin 4096) (j : Fin 512) :
    (iblk m (ok m hw) c 1 t : Vec Ideal S1x4096x512 .bf16) (ix3 0 r j) = beside (ag m c) r (col (place t) j) := by
  refine (View.read_apply _ _).trans (congrArg (ag m c) ?_)
  funext a
  apply Fin.ext
  have hj := j.isLt
  match a with
  | ⟨0, _⟩ => show cc0_transform_1 (grid0.coords t) 0 * 1 + 1 * 0 = (t.val * 512 + j.val) / 5632; rw [index1]; show t.val / 11 * 1 + 1 * 0 = _; omega
  | ⟨1, _⟩ => show cc0_transform_1 (grid0.coords t) 1 * 4096 + 1 * r.val = r.val; rw [index1]; show 0 * 4096 + 1 * r.val = r.val; omega
  | ⟨2, _⟩ => show cc0_transform_1 (grid0.coords t) 2 * 512 + 1 * j.val = (t.val * 512 + j.val) % 5632; rw [index1]; show t.val % 11 * 512 + 1 * j.val = _; omega

theorem result_at (t : Fin grid0.N) (y : S1024x512.Idx) : ((((cfg m hw).win 2).blk t).view.emb y : S1024x11264.Idx) = ix2 (y 0) (col (place t) (y 1)) := by
  funext a
  apply Fin.ext
  match a with
  | ⟨0, _⟩ => show cc0_transform_2 (grid0.coords t) 0 * 1024 + 1 * (y 0).val = (y 0).val; rw [index2]; show 0 * 1024 + 1 * (y 0).val = (y 0).val; omega
  | ⟨1, _⟩ => show cc0_transform_2 (grid0.coords t) 1 * 512 + 1 * (y 1).val = t.val * 512 + (y 1).val; rw [index2]; show t.val * 512 + 1 * (y 1).val = t.val * 512 + (y 1).val; omega

theorem left_at (c : Dev nD) (t : Fin grid0.N) (y : S1024x512.Idx) :
    k0_pay1 (F := Ideal) (iblk m (ok m hw) c 0 t) (iblk m (ok m hw) c 1 t) y
      = half (kept (word (F := Ideal) (ap m 0))) (an m c) (ag m c) (ix2 (y 0) (col (place t) (y 1))) :=
  (congrArg (k0_pay1 _ _) (eq_ix2 y)).trans (block_at _ _ _ (place t) _ _ (rows_at m hw c t) (pair_at m hw c t) (y 0) (y 1))

theorem point_at (c : Dev nD) (t : Fin (cfg m hw).N) (y : S1024x512.Idx) :
    (dats m (ok m hw) 0 c).after 2 t y = half (kept (word (F := Ideal) (ap m 0))) (an m c) (ag m c) ((((cfg m hw).win 2).blk t).view.emb y) := by
  rw [after0_2, after_eq]
  exact (left_at m hw c t y).trans (congrArg (half _ _ _) (result_at m hw t y).symm)

theorem final (c : Dev nD) : (dats m (ok m hw) 0 c).arrAt 2 (cfg m hw).N = half (kept (word (F := Ideal) (ap m 0))) (an m c) (ag m c) := by
  refine (dats m (ok m hw) 0 c).arrAt_eq_of_covers 2 _ (covers m hw) fun t hf y => eq_of_heq ((cast_heq _ _).trans (heq_of_eq ?_))
  exact point_at m hw c t y

section Reference

open Cert.DwMineRefIdeal.Read

/-- The whole gradient. -/
theorem whole_eq (n : Rows) (g : Pair) : val_main_v19 (F := Ideal) n g = dw n g := Cert.DwInGrad.ref_eq n g

/-- The two halves of its rows, one of them chosen by a bit. -/
theorem chosen (b : BitVec 1) (n : Rows) (g : Pair) :
    select (fun _ => b) (val_main_v20 (F := Ideal) n g) (val_main_v21 (F := Ideal) n g) = half (if b = 1#1 then 0 else 1) n g := by
  funext y
  rcases (by decide : ∀ b : BitVec 1, b = 1#1 ∨ b = 0#1) b with h | h <;> rw [h]
  · refine (val_main_v20_apply n g y).trans ((congrFun (whole_eq n g) _).trans (congrArg (dw n g) ?_))
    funext a
    apply Fin.ext
    match a with
    | ⟨0, _⟩ => show (y 0).val = 0 * 1024 + (y 0).val; omega
    | ⟨1, _⟩ => rfl
  · refine (val_main_v21_apply n g y).trans ((congrFun (whole_eq n g) _).trans (congrArg (dw n g) ?_))
    funext a
    apply Fin.ext
    match a with
    | ⟨0, _⟩ => show 1024 + (y 0).val = 1 * 1024 + (y 0).val; omega
    | ⟨1, _⟩ => rfl

theorem select_eq (n : Rows) (g : Pair) (p : Vec Ideal S2 .i32) (hw : InRange (F := Ideal) p) :
    val_main_v22 (F := Ideal) n g p = half (kept (word (F := Ideal) p)) n g := by
  have e : val_main_v2 (F := Ideal) p = fun _ => IntOp.cmpi .eq (word (F := Ideal) p) 0#32 :=
    funext fun i => congrArg (IntOp.cmpi .eq · 0#32) (word_read p _ _ i)
  unfold val_main_v22
  rw [e]
  refine (chosen _ n g).trans ?_
  rcases hw with h | h <;> rw [h] <;> rfl

end Reference

theorem algebraic : Cert.algebraic_DwMineIdeal_DwMineRefIdeal (hPre_place_in_range := preFacts) := by
  haveI := preFacts
  intro m g m' g' hpre hargs
  have hw := word_of_pre _ _ _ (hpre 0)
  refine ⟨fun c => half (kept (word (F := Ideal) (ap m 0))) (an m c) (ag m c), ?_, ?_⟩
  · refine (θ_run _ _ _).mono (fun r h c => ?_) (run_main m g (ok m hw))
    exact ⟨((h c).1 2).trans (final m hw c), ((h c).1 0).trans (((dats m (ok m hw) 0 c).arrAt_in 0 rfl _).trans (A_eq m (ok m hw) c 0)),
      ((h c).1 1).trans (((dats m (ok m hw) 0 c).arrAt_in 1 rfl _).trans (A_eq m (ok m hw) c 1)),
      (h c).2 main_arg2 (by decide : main_arg2 ∈ Pipeline.restRefs sig spec0)⟩
  · refine (θ_run _ _ _).mono (fun r h c => ?_) (Cert.DwMineRefIdeal.Value.run m' g')
    obtain ⟨h22, hk⟩ := h c
    obtain ⟨e0, e1, e2⟩ := hargs c
    obtain rfl : c = 0 := Subsingleton.elim _ _
    refine ⟨h22.trans ?_, hk⟩
    rw [Cert.DwMineRefIdeal.Read.val_main_v22_eq, e0, e1, e2]
    exact select_eq _ _ _ hw

/-- The kernel runs and leaves its arguments, on words. -/
theorem frame_word : Cert.quiescent_DwMine (hPre_place_in_range := preFacts) := fun m g hpre =>
  haveI := preFacts
  Cert.DwMine.Gen.frame m g (ok_of_word (F := Bits) _ (word_of_pre _ _ _ (hpre 0)))

/-- The kernel runs and leaves its arguments, on the extended reals. -/
theorem frame_ideal : Cert.quiescent_DwMineIdeal (hPre_place_in_range := preFacts) := fun m g hpre =>
  haveI := preFacts
  Cert.DwMineIdeal.Gen.frame m g (ok_of_word (F := Ideal) _ (word_of_pre _ _ _ (hpre 0)))

/-- The reference runs, leaves its arguments, and declares no semaphore. -/
theorem frame_ref : Cert.quiescent_DwMineRefIdeal := fun m g _ =>
  (θ_run _ _ _).mono (fun r h => ⟨fun c => (h c).2, sem_eq_zero_of_no_sems (by decide) r.2⟩) (Cert.DwMineRefIdeal.Value.run m g)

end Cert.KeptHalf
-- ==== Proof.Product.Sent.lean ====
/-
  THE HALF OF THE WEIGHT'S GRADIENT A CHIP SENDS. As the half it keeps (`Kept`), with the other half of the rows' columns
  read; the blocks of the pair and of the result, and the reference's two halves, are the same.
-/
module

public import proofs.«01_k».proof.Defs
public import proofs.«01_k».proof.Proof.Product.Kept
public import proofs.«01_k».proof.Proof.Gen.DwTheirs.Frame
public import proofs.«01_k».proof.Proof.Gen.DwTheirsIdeal.Frame
public import proofs.«01_k».proof.Proof.Gen.DwTheirsRefIdeal.Run
public import proofs.«01_k».proof.Proof.Gen.DwTheirsRefIdeal.Read
public import Idealize.ShloMosaic.Lib.Pointwise
public import Idealize.ShloMosaic.Lib.Pipeline.ValueKit
public import Idealize.ShloMosaic.Lib.Pipeline.ReadBack

@[expose] public section

set_option maxRecDepth 100000

noncomputable section

namespace Cert.SentHalf

open Idealize.ShloMosaic Idealize.ShloMosaic.TcCoe Idealize.ShloMosaic.Tactic Cert.DwTheirsIdeal Cert.DwTheirsIdeal.Gen Idealize.SL.Sem Cert.HalfGrad
open Cert.DwInGrad (Rows Pair beside)

section Block

variable (c : Dev nD) (i : grid0.Coords) (arg4 : Memref sig .tc .vmem S4096x1024 .bf16) (harg4 : arg4.IsWhole)
  (arg5 : Memref sig .tc .vmem S1x4096x512 .bf16) (harg5 : arg5.IsWhole) (arg6 : Memref sig .tc .vmem S1024x512 .bf16) (harg6 : arg6.IsWhole)
  (a : Vec Ideal S4096x1024 .bf16) (b : Vec Ideal S1x4096x512 .bf16) (p : TbBuf0 (F := Ideal) c tbM0_0)

/-- What a point leaves in its block of the result. -/
theorem out_eq : out0_A_2 c i arg4 harg4 arg5 harg5 arg6 harg6 a b p = k0_pay1 a b := by
  unfold out0_A_2
  rw [View.read_writes_eq_canon _ _ _ (cover0_A_2 c i arg4 harg4 arg5 harg5 arg6 harg6 a b p)]
  unfold kernelRun0_A
  sl_unfold_words
  dsimp only
  simp only [View.readAt_eq_ld, harg4.read_unread, harg5.read_unread]
  rw [View.canon_cons_unit_lit _ _ _ (by decide), View.ld_unit_lit _ _ (by decide), View.ld_unit_lit _ _ (by decide)]

end Block

section Table

variable {F : FTy → Type} [FloatOps F]

/-- The block of the rows' columns every point reads: the half the word does not name. -/
theorem table_index (q : pre0.Contents (Elt F)) (hw : InRange (F := F) (q 0)) (i : grid0.Coords) :
    cc0_transform_0 inb_S2_S1_1 numel1_S1 q i = ![0, (sent (word (F := F) (q 0))).val] := by
  have e : q.at 0 (Rect.unit (s := S2) ![1] S1.size inb_S2_S1_1) numel1_S1 = word (F := F) (q 0) := by
    refine congrArg (q 0) ?_
    funext a
    match a with
    | ⟨0, _⟩ => rfl
  unfold cc0_transform_0
  dsimp only
  rw [e]
  rcases hw with h | h <;> rw [h] <;> revert i <;> decide +kernel

theorem ok_of_word (q : pre0.Contents (Elt F)) (hw : InRange (F := F) (q 0)) : ok0 q :=
  fun i => inside _ _ (table_index q hw) i

end Table

variable (m : (ℓ : Loc nD τ sig) → Buf (Elt Ideal) ℓ)

abbrev an (c : Dev nD) : Rows := m ((c : Thread nD τ).loc main_arg0)
abbrev ag (c : Dev nD) : Pair := m ((c : Thread nD τ).loc main_arg1)
abbrev ap (c : Dev nD) : Vec Ideal S2 .i32 := m ((c : Thread nD τ).loc main_arg2)

theorem ok (hw : InRange (F := Ideal) (ap m 0)) : Ok m := ok_of_word (tbl m) hw

/-- The pipeline at the table the launch finds. -/
abbrev cfg (hw : InRange (F := Ideal) (ap m 0)) := cfgM m (ok m hw)

theorem index0 (hw : InRange (F := Ideal) (ap m 0)) (t : Fin grid0.N) : cc0_transform_0 inb_S2_S1_1 numel1_S1 (tbl m) (grid0.coords t) = ![0, (sent (word (F := Ideal) (ap m 0))).val] := table_index (tbl m) hw _
theorem index1 (t : Fin grid0.N) : cc0_transform_1 (grid0.coords t) = ![t.val / 11, 0, t.val % 11] := KeptHalf.index1 t
theorem index2 (t : Fin grid0.N) : cc0_transform_2 (grid0.coords t) = ![0, t.val] := KeptHalf.index2 t

variable (hw : InRange (F := Ideal) (ap m 0))

/-- A table of zeros. -/
def zeros : pre0.Contents (Elt Ideal) := fun | ⟨0, _⟩ => (fun _ => 0#32 : Vec Ideal S2 .i32)

theorem covers : ((cfg m hw).win 2).Covers :=
  (by decide +kernel : ((cfg0 (F := Ideal) ⟨zeros, ok_of_word zeros (Or.inl rfl)⟩).win 2).Covers)

theorem after_eq (c : Dev nD) (t : Fin (cfg m hw).N) :
    outsAt0 m (ok m hw) c t = k0_pay1 (F := Ideal) (iblk m (ok m hw) c 0 t) (iblk m (ok m hw) c 1 t) := out_eq _ _ _ _ _ _ _ _ _ _ _

theorem rows_at (c : Dev nD) (t : Fin grid0.N) (r : Fin 4096) (i : Fin 1024) :
    (iblk m (ok m hw) c 0 t : Vec Ideal S4096x1024 .bf16) (ix2 r i) = an m c (ix2 r (rowOf (sent (word (F := Ideal) (ap m 0))) i)) := by
  refine (View.read_apply _ _).trans (congrArg (an m c) ?_)
  funext a
  apply Fin.ext
  match a with
  | ⟨0, _⟩ => show cc0_transform_0 inb_S2_S1_1 numel1_S1 (tbl m) (grid0.coords t) 0 * 4096 + 1 * r.val = r.val
              rw [index0 m hw t]; show 0 * 4096 + 1 * r.val = r.val; omega
  | ⟨1, _⟩ => show cc0_transform_0 inb_S2_S1_1 numel1_S1 (tbl m) (grid0.coords t) 1 * 1024 + 1 * i.val = _ * 1024 + i.val
              rw [index0 m hw t, one_mul]; rfl

theorem pair_at (c : Dev nD) (t : Fin grid0.N) (r : Fin 4096) (j : Fin 512) :
    (iblk m (ok m hw) c 1 t : Vec Ideal S1x4096x512 .bf16) (ix3 0 r j) = beside (ag m c) r (col (KeptHalf.place t) j) := by
  refine (View.read_apply _ _).trans (congrArg (ag m c) ?_)
  funext a
  apply Fin.ext
  have hj := j.isLt
  match a with
  | ⟨0, _⟩ => show cc0_transform_1 (grid0.coords t) 0 * 1 + 1 * 0 = (t.val * 512 + j.val) / 5632; rw [index1]; show t.val / 11 * 1 + 1 * 0 = _; omega
  | ⟨1, _⟩ => show cc0_transform_1 (grid0.coords t) 1 * 4096 + 1 * r.val = r.val; rw [index1]; show 0 * 4096 + 1 * r.val = r.val; omega
  | ⟨2, _⟩ => show cc0_transform_1 (grid0.coords t) 2 * 512 + 1 * j.val = (t.val * 512 + j.val) % 5632; rw [index1]; show t.val % 11 * 512 + 1 * j.val = _; omega

theorem result_at (t : Fin grid0.N) (y : S1024x512.Idx) : ((((cfg m hw).win 2).blk t).view.emb y : S1024x11264.Idx) = ix2 (y 0) (col (KeptHalf.place t) (y 1)) := by
  funext a
  apply Fin.ext
  match a with
  | ⟨0, _⟩ => show cc0_transform_2 (grid0.coords t) 0 * 1024 + 1 * (y 0).val = (y 0).val; rw [index2]; show 0 * 1024 + 1 * (y 0).val = (y 0).val; omega
  | ⟨1, _⟩ => show cc0_transform_2 (grid0.coords t) 1 * 512 + 1 * (y 1).val = t.val * 512 + (y 1).val; rw [index2]; show t.val * 512 + 1 * (y 1).val = t.val * 512 + (y 1).val; omega

theorem left_at (c : Dev nD) (t : Fin grid0.N) (y : S1024x512.Idx) :
    k0_pay1 (F := Ideal) (iblk m (ok m hw) c 0 t) (iblk m (ok m hw) c 1 t) y
      = half (sent (word (F := Ideal) (ap m 0))) (an m c) (ag m c) (ix2 (y 0) (col (KeptHalf.place t) (y 1))) :=
  (congrArg (k0_pay1 _ _) (eq_ix2 y)).trans (block_at _ _ _ (KeptHalf.place t) _ _ (rows_at m hw c t) (pair_at m hw c t) (y 0) (y 1))

theorem point_at (c : Dev nD) (t : Fin (cfg m hw).N) (y : S1024x512.Idx) :
    (dats m (ok m hw) 0 c).after 2 t y = half (sent (word (F := Ideal) (ap m 0))) (an m c) (ag m c) ((((cfg m hw).win 2).blk t).view.emb y) := by
  rw [after0_2, after_eq]
  exact (left_at m hw c t y).trans (congrArg (half _ _ _) (result_at m hw t y).symm)

theorem final (c : Dev nD) : (dats m (ok m hw) 0 c).arrAt 2 (cfg m hw).N = half (sent (word (F := Ideal) (ap m 0))) (an m c) (ag m c) := by
  refine (dats m (ok m hw) 0 c).arrAt_eq_of_covers 2 _ (covers m hw) fun t hf y => eq_of_heq ((cast_heq _ _).trans (heq_of_eq ?_))
  exact point_at m hw c t y

section Reference

open Cert.DwTheirsRefIdeal.Read

theorem select_eq (n : Rows) (g : Pair) (p : Vec Ideal S2 .i32) (hw : InRange (F := Ideal) p) :
    val_main_v22 (F := Ideal) n g p = half (sent (word (F := Ideal) p)) n g := by
  have e : val_main_v2 (F := Ideal) p = fun _ => IntOp.cmpi .eq (word (F := Ideal) p) 1#32 :=
    funext fun i => congrArg (IntOp.cmpi .eq · 1#32) (word_read p _ _ i)
  unfold val_main_v22
  rw [e]
  refine (KeptHalf.chosen _ n g).trans ?_
  rcases hw with h | h <;> rw [h] <;> rfl

end Reference

theorem algebraic : Cert.algebraic_DwTheirsIdeal_DwTheirsRefIdeal (hPre_place_in_range := preFacts) := by
  haveI := preFacts
  intro m g m' g' hpre hargs
  have hw := word_of_pre _ _ _ (hpre 0)
  refine ⟨fun c => half (sent (word (F := Ideal) (ap m 0))) (an m c) (ag m c), ?_, ?_⟩
  · refine (θ_run _ _ _).mono (fun r h c => ?_) (run_main m g (ok m hw))
    exact ⟨((h c).1 2).trans (final m hw c), ((h c).1 0).trans (((dats m (ok m hw) 0 c).arrAt_in 0 rfl _).trans (A_eq m (ok m hw) c 0)),
      ((h c).1 1).trans (((dats m (ok m hw) 0 c).arrAt_in 1 rfl _).trans (A_eq m (ok m hw) c 1)),
      (h c).2 main_arg2 (by decide : main_arg2 ∈ Pipeline.restRefs sig spec0)⟩
  · refine (θ_run _ _ _).mono (fun r h c => ?_) (Cert.DwTheirsRefIdeal.Value.run m' g')
    obtain ⟨h22, hk⟩ := h c
    obtain ⟨e0, e1, e2⟩ := hargs c
    obtain rfl : c = 0 := Subsingleton.elim _ _
    refine ⟨h22.trans ?_, hk⟩
    rw [Cert.DwTheirsRefIdeal.Read.val_main_v22_eq, e0, e1, e2]
    exact select_eq _ _ _ hw

/-- The kernel runs and leaves its arguments, on words. -/
theorem frame_word : Cert.quiescent_DwTheirs (hPre_place_in_range := preFacts) := fun m g hpre =>
  haveI := preFacts
  Cert.DwTheirs.Gen.frame m g (ok_of_word (F := Bits) _ (word_of_pre _ _ _ (hpre 0)))

/-- The kernel runs and leaves its arguments, on the extended reals. -/
theorem frame_ideal : Cert.quiescent_DwTheirsIdeal (hPre_place_in_range := preFacts) := fun m g hpre =>
  haveI := preFacts
  Cert.DwTheirsIdeal.Gen.frame m g (ok_of_word (F := Ideal) _ (word_of_pre _ _ _ (hpre 0)))

/-- The reference runs, leaves its arguments, and declares no semaphore. -/
theorem frame_ref : Cert.quiescent_DwTheirsRefIdeal := fun m g _ =>
  (θ_run _ _ _).mono (fun r h => ⟨fun c => (h c).2, sem_eq_zero_of_no_sems (by decide) r.2⟩) (Cert.DwTheirsRefIdeal.Value.run m g)

end Cert.SentHalf
-- ==== Proof.Norm.Shared.lean ====
/-
  THE GRADIENT THROUGH A NORM FROM ANY GRADIENT OF THE NORMALISED ROWS. The gradient of the normalised rows is a sum of
  `s` column blocks' parts, added up over `s` points in a row; the last of them takes the finished sum through the norm and
  adds up the gain's gradient. What the points leave, from what each of them does.
-/
module

public import proofs.«01_k».proof.Proof.Norm.Array
public import proofs.«01_k».proof.Proof.Norm.Algebra
public import proofs.«01_k».proof.Proof.Common.Blocks

@[expose] public section

noncomputable section

namespace Cert.NormSums

open Idealize.ShloMosaic
open Cert.NormGrad (Rows Gain scale meanSq through width rows gain rowAt formula meanSq_pos)

abbrev Block := Vec Ideal Cert.NormIdeal.S512x2048 .f32
abbrev Half := Vec Ideal Cert.NormIdeal.S512x2048 .bf16

variable (d : Fin 4096 → Fin 2048 → EReal) (x : Rows) (g : Gain) (dh : Rows)

/-- The rows' gradient. -/
def allRows : Rows := fun y => dh y + through (d (y 0)) (fun k => x (ix2 (y 0) k)) (fun k => g (ix2 0 k)) (scale x (y 0)) (y 1)
/-- One row's term of the gain's gradient. -/
def gainRow (b : Fin 2048) (a : Fin 4096) : EReal := d a b * (x (ix2 a b) * scale x a)
/-- The gain's gradient. -/
def allGain : Gain := fun y => ∑ a : Fin 4096, gainRow d x (y 1) a
/-- The finished sum over one block of rows. -/
def full (i : Nat) : Block := fun y => d (rowAt i (y 0)) (y 1)
/-- One block of the rows' gradient. -/
def blockRows (i : Nat) : Block := fun y => allRows d x g dh (ix2 (rowAt i (y 0)) (y 1))
/-- The gain's gradient over the first `n` blocks of rows. -/
def gainUpTo (n : Nat) : Gain := fun y => ∑ i ∈ Finset.range n, ∑ a : Fin 512, gainRow d x (y 1) (rowAt i a)

/-- A row block's rows. -/
def xAt (i : Nat) : Block := fun j => x (ix2 (rowAt i (j 0)) (j 1))
/-- A row block's scales. -/
def scaleAt (i : Nat) : Vec Ideal Cert.NormIdeal.S512x1 .f32 := fun j => scale x (rowAt i (j 0))

theorem rows_full (i : Nat) : rows (full d i) (xAt x i) (scaleAt x i) g (xAt dh i) = blockRows d x g dh i := rfl
theorem gain_block (i : Nat) : gain (full d i) (xAt x i) (scaleAt x i) = fun y => ∑ a : Fin 512, gainRow d x (y 1) (rowAt i a) := rfl

theorem gain_full : gainUpTo d x 8 = allGain d x := by
  funext y
  unfold gainUpTo allGain
  rw [Finset.sum_range]
  refine Eq.trans ?_ (Fin.sum_univ_tiles 8 512 (by decide) fun a => gainRow d x (y 1) a).symm
  refine Finset.sum_congr rfl fun i _ => Finset.sum_congr rfl fun a _ => ?_
  have h : rowAt i.val a = ⟨i.val * 512 + a.val, by omega⟩ := Fin.ext (show (i.val * 512 + a.val) % 4096 = i.val * 512 + a.val by omega)
  rw [h]

/-- The reference's form of one entry of the norm's gradient is the kernel's. -/
theorem entry (a : Fin 4096) (b : Fin 2048) :
    d a b * g (ix2 0 b) * scale x a
      + x (ix2 a b) * Ideal.div ((∑ k : Fin 2048, x (ix2 a k) * (d a k * g (ix2 0 k))) * (Ideal.ofBits .f32 0xBF000000#32 * Ideal.div (scale x a) (meanSq x a))) width
      + Ideal.div ((∑ k : Fin 2048, x (ix2 a k) * (d a k * g (ix2 0 k))) * (Ideal.ofBits .f32 0xBF000000#32 * Ideal.div (scale x a) (meanSq x a))) width * x (ix2 a b)
    = through (d a) (fun k => x (ix2 a k)) (fun k => g (ix2 0 k)) (scale x a) b :=
  (formula Finset.univ (meanSq x a) _ _ (fun k => d a k * g (ix2 0 k)) (fun k => x (ix2 a k)) (meanSq_pos _ _)).symm

/-- Within a run the row block stays and the column block moves on. -/
theorem within {s n : Nat} (hs : 0 < s) (h : (n + 1) % s ≠ 0) : n / s = (n + 1) / s ∧ (n + 1) % s = n % s + 1 := by
  have e := Nat.div_add_mod (n + 1) s
  have hl := Nat.mod_lt (n + 1) hs
  have hn : n = ((n + 1) % s - 1) + s * ((n + 1) / s) := by omega
  have h1 : n / s = (n + 1) / s := by
    rw [hn, Nat.add_mul_div_left _ _ hs, Nat.div_eq_of_lt (by omega), Nat.zero_add, ← hn]
  have h2 : n % s = (n + 1) % s - 1 := by
    conv_lhs => rw [hn, Nat.add_mul_mod_self_left, Nat.mod_eq_of_lt (by omega)]
  exact ⟨h1, by omega⟩

/-- After the last point of a run the next row block begins. -/
theorem ends {s n : Nat} (hs : 0 < s) (h : n % s + 1 = s) : (n + 1) / s = n / s + 1 ∧ (n + 1) % s = 0 := by
  have e := Nat.div_add_mod n s
  have hn : n + 1 = s * (n / s + 1) := by rw [Nat.mul_add, Nat.mul_one]; omega
  rw [hn]
  exact ⟨Nat.mul_div_cancel_left _ hs, Nat.mul_mod_right _ _⟩

/-- Within a run, not at its end, the number of finished blocks is the row block's. -/
theorem goes {s n : Nat} (hs : 0 < s) (h : n % s + 1 ≠ s) : (n + 1) / s = n / s := by
  have hl := Nat.mod_lt n hs
  have e := Nat.div_add_mod n s
  have hn : n + 1 = (n % s + 1) + s * (n / s) := by omega
  rw [hn, Nat.add_mul_div_left _ _ hs, Nat.div_eq_of_lt (by omega), Nat.zero_add]

section Product

open Cert.Blocks (Mat)

variable {K : Nat} (u : Mat 4096 K) (w : Mat 2048 K)

/-- The gradient of the normalised rows, as a product. -/
def dn (a : Fin 4096) (b : Fin 2048) : EReal := ∑ c : Fin K, u (ix2 a c) * w (ix2 b c)
/-- Column `e` of column block `k` (numbered without a bound: the column is taken within the array). -/
def colAt (hK : 0 < K) (W k : Nat) (e : Fin W) : Fin K := ⟨(k * W + e.val) % K, Nat.mod_lt _ hK⟩
/-- Column block `k`'s part of one entry. -/
def cell (hK : 0 < K) (W : Nat) (a : Fin 4096) (b : Fin 2048) (k : Nat) : EReal := ∑ e : Fin W, u (ix2 a (colAt hK W k e)) * w (ix2 b (colAt hK W k e))

theorem dn_eq (hK : 0 < K) {s W : Nat} (h : s * W = K) (a : Fin 4096) (b : Fin 2048) : dn u w a b = ∑ k ∈ Finset.range s, cell u w hK W a b k := by
  subst h
  unfold dn cell
  rw [Finset.sum_range]
  refine (Fin.sum_univ_tiles s W rfl fun c => u (ix2 a c) * w (ix2 b c)).trans ?_
  refine Finset.sum_congr rfl fun k _ => Finset.sum_congr rfl fun e _ => ?_
  have hl : k.val * W + e.val < s * W := calc
    k.val * W + e.val < k.val * W + W := Nat.add_lt_add_left e.isLt _
    _ = (k.val + 1) * W := (Nat.succ_mul _ _).symm
    _ ≤ s * W := Nat.mul_le_mul_right _ k.isLt
  have h : colAt hK W k.val e = ⟨k.val * W + e.val, hl⟩ := Fin.ext (Nat.mod_eq_of_lt hl)
  rw [h]

end Product

section Points

variable (cell : Fin 4096 → Fin 2048 → Nat → EReal) (s : Nat)

/-- A point's own part. -/
def part (n : Nat) : Block := fun y => cell (rowAt (n / s) (y 0)) (y 1) (n % s)
/-- The sum over the column blocks up to a point's own. -/
def upTo (n : Nat) : Block := fun y => ∑ k ∈ Finset.range (n % s + 1), cell (rowAt (n / s) (y 0)) (y 1) k

theorem upTo_first {n : Nat} (h : n % s = 0) : part cell s n = upTo cell s n := by
  funext y
  unfold part upTo
  rw [h]
  exact (Finset.sum_range_one _).symm

theorem upTo_step {n : Nat} (hs : 0 < s) (h : (n + 1) % s ≠ 0) : (fun y => upTo cell s n y + part cell s (n + 1) y) = upTo cell s (n + 1) := by
  obtain ⟨h1, h2⟩ := within hs h
  funext y
  unfold upTo part
  rw [h1, h2, Finset.sum_range_succ _ (n % s + 1)]

theorem upTo_full (hd : ∀ a b, d a b = ∑ k ∈ Finset.range s, cell a b k) {n : Nat} (h : n % s + 1 = s) : upTo cell s n = full d (n / s) := by
  funext y
  unfold upTo full
  rw [h]
  exact (hd _ _).symm

/-- What a point leaves: the rows' gradient twice, the gain's gradient, the sum. -/
abbrev Left := Block × Half × Gain × Block

/-- What is claimed of the point `n`. -/
def Holds (n : Nat) (p : Left) : Prop :=
  (n % s + 1 ≠ s → p.2.2.2 = upTo cell s n)
  ∧ (n % s + 1 = s → p.1 = blockRows d x g dh (n / s) ∧ p.2.1 = blockRows d x g dh (n / s))
  ∧ (s ≤ n + 1 → p.2.2.1 = gainUpTo d x ((n + 1) / s))

/-- What the points do, one after the other, to what the point before left. -/
structure Steps (N : Nat) (p : (n : Nat) → n < N → Left) : Prop where
  first : ∀ n h, n % s = 0 → (p n h).2.2.2 = part cell s n
  keep : ∀ n (h : n + 1 < N), (n + 1) % s + 1 ≠ s → (p (n + 1) h).2.2.1 = (p n (Nat.lt_of_succ_lt h)).2.2.1
  next : ∀ n (h : n + 1 < N), (n + 1) % s ≠ 0 → (n + 1) % s + 1 ≠ s → (p (n + 1) h).2.2.2 = fun y => (p n (Nat.lt_of_succ_lt h)).2.2.2 y + part cell s (n + 1) y
  last : ∀ n (h : n + 1 < N), (n + 1) % s + 1 = s →
    (p (n + 1) h).1 = rows (fun y => (p n (Nat.lt_of_succ_lt h)).2.2.2 y + part cell s (n + 1) y) (xAt x ((n + 1) / s)) (scaleAt x ((n + 1) / s)) g (xAt dh ((n + 1) / s))
    ∧ (p (n + 1) h).2.1 = rows (fun y => (p n (Nat.lt_of_succ_lt h)).2.2.2 y + part cell s (n + 1) y) (xAt x ((n + 1) / s)) (scaleAt x ((n + 1) / s)) g (xAt dh ((n + 1) / s))
  start : ∀ n (h : n + 1 < N), n + 1 + 1 = s →
    (p (n + 1) h).2.2.1 = gain (fun y => (p n (Nat.lt_of_succ_lt h)).2.2.2 y + part cell s (n + 1) y) (xAt x ((n + 1) / s)) (scaleAt x ((n + 1) / s))
  more : ∀ n (h : n + 1 < N), (n + 1) % s + 1 = s → s ≤ n + 1 →
    (p (n + 1) h).2.2.1 = fun y => (p n (Nat.lt_of_succ_lt h)).2.2.1 y
      + gain (fun y => (p n (Nat.lt_of_succ_lt h)).2.2.2 y + part cell s (n + 1) y) (xAt x ((n + 1) / s)) (scaleAt x ((n + 1) / s)) y

variable {d x g dh cell s}

theorem holds_next (hs : 1 < s) (hd : ∀ a b, d a b = ∑ k ∈ Finset.range s, cell a b k) {N : Nat} {p : (n : Nat) → n < N → Left}
    (st : Steps x g dh cell s N p) (n : Nat) (h : n + 1 < N) (ih : Holds d x g dh cell s n (p n (Nat.lt_of_succ_lt h))) : Holds d x g dh cell s (n + 1) (p (n + 1) h) := by
  have hs0 : 0 < s := by omega
  by_cases hl : (n + 1) % s + 1 = s
  · have h0 : (n + 1) % s ≠ 0 := by omega
    obtain ⟨e1, e2⟩ := within hs0 h0
    have hsum : (fun y => (p n (Nat.lt_of_succ_lt h)).2.2.2 y + part cell s (n + 1) y) = full d ((n + 1) / s) := by
      rw [ih.1 (by omega), upTo_step cell s hs0 h0, upTo_full d cell s hd hl]
    obtain ⟨hr, hh⟩ := st.last n h hl
    rw [hsum, rows_full] at hr hh
    refine ⟨fun hn => absurd hl hn, fun _ => ⟨hr, hh⟩, fun hle => ?_⟩
    obtain ⟨f1, f2⟩ := ends hs0 hl
    by_cases hf : n + 1 < s
    · have hz : (n + 1) / s = 0 := Nat.div_eq_of_lt hf
      rw [st.start n h (by omega), hsum, gain_block, f1, hz]
      funext y
      unfold gainUpTo
      rw [Finset.sum_range_one]
    · rw [st.more n h hl (by omega), hsum, gain_block, f1, ih.2.2 (by omega)]
      funext y
      unfold gainUpTo
      rw [Finset.sum_range_succ _ ((n + 1) / s)]
  · refine ⟨fun _ => ?_, fun h1 => absurd h1 hl, fun hle => ?_⟩
    · by_cases h0 : (n + 1) % s = 0
      · rw [st.first _ h h0, upTo_first cell s h0]
      · rw [st.next n h h0 hl, ih.1 (by have := within hs0 h0; have := Nat.mod_lt (n + 1) hs0; omega), upTo_step cell s hs0 h0]
    · have hlt : s ≤ n + 1 := by
        by_contra hc
        have : n + 1 + 1 = s := by omega
        exact hl (by rw [Nat.mod_eq_of_lt (by omega)]; exact this)
      rw [st.keep n h hl, ih.2.2 hlt, goes hs0 hl]

/-- What every point leaves. -/
theorem holds (hs : 1 < s) (hd : ∀ a b, d a b = ∑ k ∈ Finset.range s, cell a b k) {N : Nat} {p : (n : Nat) → n < N → Left}
    (st : Steps x g dh cell s N p) : ∀ (n : Nat) (h : n < N), Holds d x g dh cell s n (p n h) := by
  intro n
  induction n with
  | zero =>
    intro h
    have h0 : 0 % s = 0 := Nat.zero_mod s
    exact ⟨fun _ => (st.first 0 h h0).trans (upTo_first cell s h0), fun hl => by rw [h0] at hl; omega, fun hl => by omega⟩
  | succ n ih => exact fun h => holds_next hs hd st n h (ih _)

end Points

end Cert.NormSums
-- ==== Proof.Norm.MixBlock.lean ====
/-
  ONE GRID POINT OF THE MIXER'S INPUT GRADIENT, CARRIED THROUGH THE NORM: one column block's part
  of the gradient of the normalised rows, and what the last point of a run makes of the finished sum.
-/
module

public import proofs.«01_k».proof.Proof.Gen.MixDxIdeal.Value
public import proofs.«01_k».proof.Proof.Norm.Shared
public import proofs.«01_k».proof.Proof.Common.Blocks

@[expose] public section

set_option maxRecDepth 16384

noncomputable section

namespace Cert.MixNorm

open Idealize.ShloMosaic Idealize.ShloMosaic.Tactic Cert.MixDxIdeal Cert.MixDxIdeal.Gen Idealize.SL.Sem Cert.Blocks
open Cert.NormGrad (two rows gain)

theorem pay1_eq (u : Vec Ideal S512x1280 .bf16) (w : Vec Ideal S2048x1280 .bf16) : k0_pay1 u w = nt u w := by
  funext y
  obtain ⟨a, b, rfl⟩ := two y
  pointwise [k0_pay1]
  rfl

theorem pay4_eq (acc : Vec Ideal S512x2048 .f32) (u : Vec Ideal S512x1280 .bf16) (w : Vec Ideal S2048x1280 .bf16) : k0_pay4 acc u w = fun y => acc y + nt u w y := by
  funext y
  obtain ⟨a, b, rfl⟩ := two y
  pointwise [k0_pay4]
  rfl

theorem pay2_eq (acc : Vec Ideal S512x2048 .f32) (u : Vec Ideal S512x1280 .bf16) (w : Vec Ideal S2048x1280 .bf16) : k0_pay2 acc u w = fun y => acc y + nt u w y := by
  rw [← pay4_eq]
  funext y
  obtain ⟨a, b, rfl⟩ := two y
  pointwise [k0_pay2, k0_pay4]

theorem pay5_at (x : Vec Ideal S512x2048 .f32) (r : Vec Ideal S512x1 .f32) (a : Fin 512) (b : Fin 2048) : k0_pay5 x r (ix2 a b) = x (ix2 a b) * r (ix2 a 0) := by
  pointwise [k0_pay5]

variable (acc : Vec Ideal S512x2048 .f32) (u : Vec Ideal S512x1280 .bf16) (w : Vec Ideal S2048x1280 .bf16) (x : Vec Ideal S512x2048 .f32) (r : Vec Ideal S512x1 .f32) (g : Vec Ideal S1x2048 .f32) (dh : Vec Ideal S512x2048 .f32)

theorem pay6_eq : k0_pay6 acc u w x r g dh r = rows (fun y => acc y + nt u w y) x r g dh := by
  rw [← pay4_eq]
  funext y
  obtain ⟨a, b, rfl⟩ := two y
  pointwise [k0_pay6]
  simp only [pay5_at]
  rfl

theorem pay7_eq : k0_pay7 acc u w x r g dh r = rows (fun y => acc y + nt u w y) x r g dh := by
  rw [← pay6_eq]
  funext y
  obtain ⟨a, b, rfl⟩ := two y
  pointwise [k0_pay7]

theorem pay8_eq : k0_pay8 acc u w x r = gain (fun y => acc y + nt u w y) x r := by
  rw [← pay4_eq]
  funext y
  obtain ⟨a, b, rfl⟩ := two y
  pointwise [k0_pay8]
  simp only [pay5_at]
  rfl

theorem pay3_eq (prev : Vec Ideal S1x2048 .f32) : k0_pay3 (k0_pay8 acc u w x r) prev = fun y => prev y + gain (fun y => acc y + nt u w y) x r y := by
  rw [← pay8_eq]
  funext y
  obtain ⟨a, b, rfl⟩ := two y
  pointwise [k0_pay3]

variable (c : Dev nD) (i : grid0.Coords) (arg2 : Memref sig .tc .vmem S512x1280 .bf16) (harg2 : arg2.IsWhole) (arg3 : Memref sig .tc .vmem S2048x1280 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S512x2048 .f32) (harg11 : arg11.IsWhole)
  (x0 : Vec Ideal S512x1280 .bf16) (x1 : Vec Ideal S2048x1280 .bf16) (x2 : Vec Ideal S512x2048 .f32) (x3 : Vec Ideal S512x1 .f32) (x4 : Vec Ideal S1x2048 .f32) (x5 : Vec Ideal S512x2048 .f32)

/-- The first point of a run leaves its own nt in the sum. -/
theorem soutA (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 arg11 harg11 hc0 hc1 hc2 x0 x1 x2 x3 x4 x5 = nt x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4 x5)]
  unfold kernelRun0_A
  sl_unfold_words
  dsimp only
  simp only [View.readAt_eq_ld, harg2.read_unread, harg3.read_unread]
  rw [View.canon_cons_unit_lit _ _ _ (by decide), View.ld_unit_lit _ _ (by decide), View.ld_unit_lit _ _ (by decide)]
  exact pay1_eq x0 x1

/-- A point within a run adds its nt to the sum. -/
theorem soutB (hc0 : ¬cond0_0 i) (hc1 : cond0_1 i) (hc2 : ¬cond0_2 i) (xs : Vec Ideal S512x2048 .f32) :
    sout0_B_0 c i arg2 harg2 arg3 harg3 arg4 harg4 arg5 harg5 arg6 harg6 arg7 harg7 arg8 harg8 arg9 harg9 arg10 harg10 arg11 harg11 hc0 hc1 hc2 x0 x1 x2 x3 x4 x5 xs = fun y => xs y + nt x0 x1 y := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 hc2 x0 x1 x2 x3 x4 x5 xs)]
  unfold kernelRun0_B
  sl_unfold_words
  dsimp only
  simp only [View.readAt_eq_ld, harg11.read_unread, harg2.read_unread, harg3.read_unread]
  rw [View.canon_cons_unit_lit _ _ _ (by decide), View.ld_unit_lit _ _ (by decide), View.ld_unit_lit _ _ (by decide), View.ld_unit_lit _ _ (by decide)]
  exact pay2_eq xs x0 x1

/-- The last point of a run stores its rows' gradient (the first run, whole width). -/
theorem outC6 (hc0 : ¬cond0_0 i) (hc1 : ¬cond0_1 i) (hc2 : cond0_2 i) (hc3 : cond0_3 i) (hc4 : ¬cond0_4 i) (xs : Vec Ideal S512x2048 .f32) :
    out0_C_6 c i arg2 harg2 arg3 harg3 arg4 harg4 arg5 harg5 arg6 harg6 arg7 harg7 arg8 harg8 arg9 harg9 arg10 harg10 arg11 harg11 hc0 hc1 hc2 hc3 hc4 x0 x1 x2 x3 x4 x5 xs = rows (fun y => xs y + nt x0 x1 y) x2 x3 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 hc2 hc3 hc4 x0 x1 x2 x3 x4 x5 xs)]
  unfold kernelRun0_C
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay6_eq xs x0 x1 x2 x3 x4 x5

/-- The last point of a run stores its rows' gradient (the first run, half width). -/
theorem outC7 (hc0 : ¬cond0_0 i) (hc1 : ¬cond0_1 i) (hc2 : cond0_2 i) (hc3 : cond0_3 i) (hc4 : ¬cond0_4 i) (xs : Vec Ideal S512x2048 .f32) :
    out0_C_7 c i arg2 harg2 arg3 harg3 arg4 harg4 arg5 harg5 arg6 harg6 arg7 harg7 arg8 harg8 arg9 harg9 arg10 harg10 arg11 harg11 hc0 hc1 hc2 hc3 hc4 x0 x1 x2 x3 x4 x5 xs = rows (fun y => xs y + nt x0 x1 y) x2 x3 x4 x5 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 hc2 hc3 hc4 x0 x1 x2 x3 x4 x5 xs)]
  unfold kernelRun0_C
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay7_eq xs x0 x1 x2 x3 x4 x5

/-- The last point of a run stores its rows' gradient (a later run, whole width). -/
theorem outD6 (hc0 : ¬cond0_0 i) (hc1 : ¬cond0_1 i) (hc2 : cond0_2 i) (hc3 : ¬cond0_3 i) (hc4 : cond0_4 i) (xo : Vec Ideal S1x2048 .f32) (xs : Vec Ideal S512x2048 .f32) :
    out0_D_6 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs = rows (fun y => xs y + nt x0 x1 y) x2 x3 x4 x5 := by
  unfold out0_D_6
  rw [View.read_writes_eq_canon _ _ _ (cover0_D_6 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs)]
  unfold kernelRun0_D
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay6_eq xs x0 x1 x2 x3 x4 x5

/-- The last point of a run stores its rows' gradient (a later run, half width). -/
theorem outD7 (hc0 : ¬cond0_0 i) (hc1 : ¬cond0_1 i) (hc2 : cond0_2 i) (hc3 : ¬cond0_3 i) (hc4 : cond0_4 i) (xo : Vec Ideal S1x2048 .f32) (xs : Vec Ideal S512x2048 .f32) :
    out0_D_7 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs = rows (fun y => xs y + nt x0 x1 y) x2 x3 x4 x5 := by
  unfold out0_D_7
  rw [View.read_writes_eq_canon _ _ _ (cover0_D_7 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs)]
  unfold kernelRun0_D
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay7_eq xs x0 x1 x2 x3 x4 x5

/-- The first run starts the gain's gradient. -/
theorem outC8 (hc0 : ¬cond0_0 i) (hc1 : ¬cond0_1 i) (hc2 : cond0_2 i) (hc3 : cond0_3 i) (hc4 : ¬cond0_4 i) (xs : Vec Ideal S512x2048 .f32) :
    out0_C_8 c i arg2 harg2 arg3 harg3 arg4 harg4 arg5 harg5 arg6 harg6 arg7 harg7 arg8 harg8 arg9 harg9 arg10 harg10 arg11 harg11 hc0 hc1 hc2 hc3 hc4 x0 x1 x2 x3 x4 x5 xs = gain (fun y => xs y + nt x0 x1 y) x2 x3 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 hc2 hc3 hc4 x0 x1 x2 x3 x4 x5 xs)]
  unfold kernelRun0_C
  sl_unfold_words
  dsimp only
  simp only [View.readAt_eq_ld, harg11.read_unread, harg2.read_unread, harg3.read_unread, harg4.read_unread, harg5.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]
  exact pay8_eq xs x0 x1 x2 x3

/-- A later run adds to the gain's gradient. -/
theorem outD8 (hc0 : ¬cond0_0 i) (hc1 : ¬cond0_1 i) (hc2 : cond0_2 i) (hc3 : ¬cond0_3 i) (hc4 : cond0_4 i) (xo : Vec Ideal S1x2048 .f32) (xs : Vec Ideal S512x2048 .f32) :
    out0_D_8 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs = fun y => xo y + gain (fun y => xs y + nt x0 x1 y) x2 x3 y := by
  unfold out0_D_8
  rw [View.read_writes_eq_canon _ _ _ (cover0_D_8 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs)]
  unfold kernelRun0_D
  sl_unfold_words
  dsimp only
  simp only [View.readAt_eq_ld, harg11.read_unread, harg2.read_unread, harg3.read_unread, harg4.read_unread, harg5.read_unread, harg10.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay3_eq xs x0 x1 x2 x3 xo

end Cert.MixNorm
-- ==== Proof.Norm.MixArray.lean ====
/-
  THE MIXER'S INPUT GRADIENT THROUGH ITS NORM, AS WHOLE ARRAYS. 32 grid points: 8 blocks of rows, each a sum of four
  column blocks' parts.
-/
module

public import proofs.«01_k».proof.Defs
public import proofs.«01_k».proof.Proof.Norm.MixBlock
public import proofs.«01_k».proof.Proof.Norm.Claim
public import proofs.«01_k».proof.Proof.Gen.MixDxRefIdeal.Run
public import proofs.«01_k».proof.Proof.Gen.MixDxRefIdeal.Read
public import Idealize.ShloMosaic.Lib.Pipeline.ValueKit

@[expose] public section

set_option maxRecDepth 16384

noncomputable section

namespace Cert.MixNorm

open Idealize.ShloMosaic Idealize.ShloMosaic.TcCoe Idealize.ShloMosaic.Tactic Cert.MixDxIdeal Cert.MixDxIdeal.Gen Idealize.SL.Sem Cert.Blocks
open Cert.NormGrad (Rows Gain scale meanSq width through rows gain rowAt two)
open Cert.NormSums

abbrev Inner := Vec Ideal S4096x5120 .bf16
abbrev Weight := Vec Ideal S2048x5120 .bf16

/-- The gradient's columns are taken in 4 blocks of 1280. -/
abbrev colOf (k : Nat) (e : Fin 1280) : Fin 5120 := colAt (K := 5120) (by decide) 1280 k e
/-- Column block `k`'s part of one entry. -/
abbrev parts (u : Inner) (w : Weight) : Fin 4096 → Fin 2048 → Nat → EReal := cell (K := 5120) u w (by decide) 1280

variable (m : (ℓ : Loc nD τ sig) → Buf (Elt Ideal) ℓ)

abbrev au (c : Dev nD) : Inner := m ((c : Thread nD τ).loc main_arg0)
abbrev aw (c : Dev nD) : Weight := m ((c : Thread nD τ).loc main_arg1)
abbrev ax (c : Dev nD) : Rows := m ((c : Thread nD τ).loc main_arg2)
abbrev ag (c : Dev nD) : Gain := m ((c : Thread nD τ).loc main_arg3)
abbrev ah (c : Dev nD) : Rows := m ((c : Thread nD τ).loc main_arg4)

/-- The rows' scale is computed before the kernel as the reference of the other norm computes it. -/
theorem scale_host (c : Dev nD) : V m c main_v7 = Cert.NormRefIdeal.Read.val_main_v10 (F := Ideal) (ax m c) := by
  show StableHlo.after hostOps0 _ (Proc.devRef .tc main_v7) = _
  unfold hostOps0
  after_results_simp
  rfl

theorem index : ∀ t : Fin cfg0.N, (win0_0.index t = ![t.val / 4, t.val % 4] ∧ win0_1.index t = ![0, t.val % 4]) ∧ (win0_2.index t = ![t.val / 4, 0] ∧ win0_3.index t = ![t.val / 4, 0])
    ∧ (win0_4.index t = ![0, 0] ∧ win0_5.index t = ![t.val / 4, 0]) ∧ (win0_6.index t = ![t.val / 4, 0] ∧ win0_7.index t = ![t.val / 4, 0]) ∧ win0_8.index t = ![0, 0] :=
  (by decide +kernel : ∀ t : Fin grid0.N, (win0_0.index t = ![t.val / 4, t.val % 4] ∧ win0_1.index t = ![0, t.val % 4]) ∧ (win0_2.index t = ![t.val / 4, 0] ∧ win0_3.index t = ![t.val / 4, 0])
    ∧ (win0_4.index t = ![0, 0] ∧ win0_5.index t = ![t.val / 4, 0]) ∧ (win0_6.index t = ![t.val / 4, 0] ∧ win0_7.index t = ![t.val / 4, 0]) ∧ win0_8.index t = ![0, 0])

theorem lt_N (t : Fin cfg0.N) : t.val < 32 := by have := t.isLt; have hN : cfg0.N = 32 := N_0; omega

theorem iblk0 (c : Dev nD) (t : Fin cfg0.N) : (iblk m c 0 t : Vec Ideal S512x1280 .bf16) = fun j => au m c (ix2 (rowAt (t.val / 4) (j 0)) (colOf (t.val % 4) (j 1))) := by
  funext j
  unfold iblk
  rw [View.read_apply]
  show V m c main_arg0 _ = m ((c : Thread nD τ).loc main_arg0) _
  rw [V_main_arg0]
  congr 1
  funext a
  apply Fin.ext
  have ht := lt_N t
  have h0 : (j 0 : Nat) < 512 := (j 0).isLt
  have h1 : (j 1 : Nat) < 1280 := (j 1).isLt
  match a with
  | ⟨0, _⟩ => show win0_0.index t 0 * 512 + 1 * (j 0).val = (t.val / 4 * 512 + (j 0).val) % 4096; rw [(index t).1.1]; show t.val / 4 * 512 + _ = _; omega
  | ⟨1, _⟩ => show win0_0.index t 1 * 1280 + 1 * (j 1).val = (t.val % 4 * 1280 + (j 1).val) % 5120; rw [(index t).1.1]; show t.val % 4 * 1280 + _ = _; omega

theorem iblk1 (c : Dev nD) (t : Fin cfg0.N) : (iblk m c 1 t : Vec Ideal S2048x1280 .bf16) = fun j => aw m c (ix2 (j 0) (colOf (t.val % 4) (j 1))) := by
  funext j
  unfold iblk
  rw [View.read_apply]
  show V m c main_arg1 _ = m ((c : Thread nD τ).loc main_arg1) _
  rw [V_main_arg1]
  congr 1
  funext a
  apply Fin.ext
  have h1 : (j 1 : Nat) < 1280 := (j 1).isLt
  match a with
  | ⟨0, _⟩ => show win0_1.index t 0 * 2048 + 1 * (j 0).val = (j 0).val; rw [(index t).1.2]; show 0 * 2048 + _ = _; omega
  | ⟨1, _⟩ => show win0_1.index t 1 * 1280 + 1 * (j 1).val = (t.val % 4 * 1280 + (j 1).val) % 5120; rw [(index t).1.2]; show t.val % 4 * 1280 + _ = _; omega

/-- A block of 512 whole rows read at the row block's own number. -/
theorem place {t : Fin cfg0.N} {f : Fin 2 → Nat} (h : f = ![t.val / 4, 0]) (p : Fin 512) :
    f 0 * 512 + 1 * p.val = (t.val / 4 * 512 + p.val) % 4096 := by
  subst h
  have ht := lt_N t
  show t.val / 4 * 512 + 1 * p.val = _
  omega

theorem iblk2 (c : Dev nD) (t : Fin cfg0.N) : (iblk m c 2 t : Vec Ideal S512x2048 .f32) = xAt (ax m c) (t.val / 4) := by
  funext j
  unfold iblk
  rw [View.read_apply]
  show V m c main_arg2 _ = m ((c : Thread nD τ).loc main_arg2) _
  rw [V_main_arg2]
  congr 1
  funext a
  apply Fin.ext
  match a with
  | ⟨0, _⟩ => exact place (index t).2.1.1 (j 0)
  | ⟨1, _⟩ => show win0_2.index t 1 * 2048 + 1 * (j 1).val = (j 1).val; rw [(index t).2.1.1]; show 0 * 2048 + _ = _; omega

theorem iblk3 (c : Dev nD) (t : Fin cfg0.N) : (iblk m c 3 t : Vec Ideal S512x1 .f32) = scaleAt (ax m c) (t.val / 4) := by
  funext j
  unfold iblk scaleAt
  rw [View.read_apply, ← Cert.NormGrad.v10_at]
  show V m c main_v7 _ = _
  rw [scale_host m c]
  congr 1
  funext a
  apply Fin.ext
  have h1 : (j 1 : Nat) < 1 := (j 1).isLt
  match a with
  | ⟨0, _⟩ => exact place (index t).2.1.2 (j 0)
  | ⟨1, _⟩ => show win0_3.index t 1 * 1 + 1 * (j 1).val = 0; rw [(index t).2.1.2]; show 0 * 1 + _ = _; omega

theorem iblk4 (c : Dev nD) (t : Fin cfg0.N) : (iblk m c 4 t : Vec Ideal S1x2048 .f32) = ag m c := by
  funext j
  unfold iblk
  rw [View.read_apply]
  show V m c main_arg3 _ = m ((c : Thread nD τ).loc main_arg3) _
  rw [V_main_arg3]
  congr 1
  funext a
  apply Fin.ext
  match a with
  | ⟨0, _⟩ => show win0_4.index t 0 * 1 + 1 * (j 0).val = (j 0).val; rw [(index t).2.2.1.1]; show 0 * 1 + _ = _; omega
  | ⟨1, _⟩ => show win0_4.index t 1 * 2048 + 1 * (j 1).val = (j 1).val; rw [(index t).2.2.1.1]; show 0 * 2048 + _ = _; omega

theorem iblk5 (c : Dev nD) (t : Fin cfg0.N) : (iblk m c 5 t : Vec Ideal S512x2048 .f32) = xAt (ah m c) (t.val / 4) := by
  funext j
  unfold iblk
  rw [View.read_apply]
  show V m c main_arg4 _ = m ((c : Thread nD τ).loc main_arg4) _
  rw [V_main_arg4]
  congr 1
  funext a
  apply Fin.ext
  match a with
  | ⟨0, _⟩ => exact place (index t).2.2.1.2 (j 0)
  | ⟨1, _⟩ => show win0_5.index t 1 * 2048 + 1 * (j 1).val = (j 1).val; rw [(index t).2.2.1.2]; show 0 * 2048 + _ = _; omega

/-- A point's part of the product is its column block's. -/
theorem part_eq (c : Dev nD) (t : Fin cfg0.N) : nt (iblk m c 0 t : Vec Ideal S512x1280 .bf16) (iblk m c 1 t : Vec Ideal S2048x1280 .bf16) = part (parts (au m c) (aw m c)) 4 t.val := by
  rw [iblk0, iblk1]
  rfl

theorem steps (c : Dev nD) : Steps (ax m c) (ag m c) (ah m c) (parts (au m c) (aw m c)) 4 cfg0.N (outsAt0 m c) where
  first n h h0 := by
    have e := outsAt0_A m c ⟨n, h⟩ h0 (by dsimp only; omega) (by dsimp only; omega)
    dsimp only at e
    rw [e]
    dsimp only
    rw [soutA]
    exact part_eq m c ⟨n, h⟩
  keep n h hl := by
    by_cases h0 : (n + 1) % 4 = 0
    · have e := outsAt0_A m c ⟨n + 1, h⟩ h0 (by dsimp only; omega) (by dsimp only; omega)
      dsimp only at e
      rw [e]
      rfl
    · have e := outsAt0_B m c ⟨n + 1, h⟩ h0 (by dsimp only; omega) (by dsimp only; omega)
      dsimp only at e
      rw [e]
      rfl
  next n h h0 hl := by
    have e := outsAt0_B m c ⟨n + 1, h⟩ h0 (by dsimp only; omega) (by dsimp only; omega)
    dsimp only at e
    rw [e]
    dsimp only
    rw [soutB, part_eq]
    rfl
  last n h hl := by
    have h7 : (n + 1) % 4 = 3 := by omega
    by_cases hf : n + 1 < 4
    · have e := outsAt0_C m c ⟨n + 1, h⟩ (by dsimp only; omega) (by dsimp only; omega) h7 hf (by dsimp only; omega)
      dsimp only at e
      rw [e]
      dsimp only
      rw [outC6, outC7, part_eq, iblk2, iblk3, iblk4, iblk5]
      exact ⟨rfl, rfl⟩
    · have e := outsAt0_D m c ⟨n + 1, h⟩ (by dsimp only; omega) (by dsimp only; omega) h7 hf (by dsimp only; omega)
      dsimp only at e
      rw [e]
      dsimp only
      rw [outD6, outD7, part_eq, iblk2, iblk3, iblk4, iblk5]
      exact ⟨rfl, rfl⟩
  start n h hs := by
    have e := outsAt0_C m c ⟨n + 1, h⟩ (by dsimp only; omega) (by dsimp only; omega) (by dsimp only; omega) (by dsimp only; omega) (by dsimp only; omega)
    dsimp only at e
    rw [e]
    dsimp only
    rw [outC8, part_eq, iblk2, iblk3]
    rfl
  more n h hl hs := by
    have e := outsAt0_D m c ⟨n + 1, h⟩ (by dsimp only; omega) (by dsimp only; omega) (by dsimp only; omega) (by dsimp only; omega) hs
    dsimp only at e
    rw [e]
    dsimp only
    rw [outD8, part_eq, iblk2, iblk3]
    rfl

theorem left (c : Dev nD) (n : Nat) (h : n < cfg0.N) : Holds (dn (au m c) (aw m c)) (ax m c) (ag m c) (ah m c) (parts (au m c) (aw m c)) 4 n (outsAt0 m c n h) :=
  holds (by decide) (dn_eq (K := 5120) (au m c) (aw m c) (by decide) (W := 1280) (by decide)) (steps m c) n h

theorem final6 (c : Dev nD) : (dats m 0 c).arrAt 6 cfg0.N = allRows (dn (au m c) (aw m c)) (ax m c) (ag m c) (ah m c) := by
  refine (dats m 0 c).arrAt_eq_of_covers 6 _ (by decide +kernel) fun t hf y => ?_
  blk_simp
  rw [after0_6, ((left m c t.val t.isLt).2.1 (by have := (flush0_6 t).mp hf; omega)).1]
  refine congrArg (allRows (dn (au m c) (aw m c)) (ax m c) (ag m c) (ah m c)) ?_
  blk_ext [(index t).2.2.2.1.1]
  show (t.val / 4 * 512 + (y 0).val) % 4096 = _
  omega

theorem final7 (c : Dev nD) : (dats m 0 c).arrAt 7 cfg0.N = allRows (dn (au m c) (aw m c)) (ax m c) (ag m c) (ah m c) := by
  refine (dats m 0 c).arrAt_eq_of_covers 7 _ (by decide +kernel) fun t hf y => ?_
  blk_simp
  rw [after0_7, ((left m c t.val t.isLt).2.1 (by have := (flush0_7 t).mp hf; omega)).2]
  refine congrArg (allRows (dn (au m c) (aw m c)) (ax m c) (ag m c) (ah m c)) ?_
  blk_ext [(index t).2.2.2.1.2]
  show (t.val / 4 * 512 + (y 0).val) % 4096 = _
  omega

theorem final8 (c : Dev nD) : (dats m 0 c).arrAt 8 cfg0.N = allGain (dn (au m c) (aw m c)) (ax m c) := by
  refine (dats m 0 c).arrAt_eq_of_covers 8 _ (by decide +kernel) fun t hf y => ?_
  have h31 : t.val = 31 := by have := (flush0_8 t).mp hf; have := lt_N t; omega
  blk_simp
  rw [after0_8, (left m c t.val t.isLt).2.2 (by omega), show (t.val + 1) / 4 = 8 by omega, gain_full]
  refine congrArg (allGain (dn (au m c) (aw m c)) (ax m c)) ?_
  blk_ext [(index t).2.2.2.2]

section Reference

open Cert.MixDxRefIdeal Cert.MixDxRefIdeal.Read

variable (u : Inner) (w : Weight) (x : Rows) (g : Gain) (dh : Rows)

theorem v9_at (a : Fin 4096) : val_main_v9 (F := Ideal) x (ix2 a 0) = meanSq x a := Cert.NormGrad.v9_at x a
theorem v10_at (a : Fin 4096) : val_main_v10 (F := Ideal) x (ix2 a 0) = scale x a := Cert.NormGrad.v10_at x a
theorem v13_at (a : Fin 4096) : val_main_v13 (F := Ideal) x (ix2 a 0) = Ideal.ofBits .f32 0xBF000000#32 * Ideal.div (scale x a) (meanSq x a) := Cert.NormGrad.v13_at x a

theorem v20_at (a : Fin 4096) (b : Fin 2048) : val_main_v20 (F := Ideal) u w (ix2 a b) = dn u w a b := by
  pointwise [val_main_v20, val_main_v1, val_main_v0]
  rfl

theorem v25_at (a : Fin 4096) (b : Fin 2048) : val_main_v25 (F := Ideal) u w g (ix2 a b) = dn u w a b * g (ix2 0 b) := by
  pointwise [val_main_v25, val_main_v24, val_main_v16, val_main_v2]
  rw [v20_at]

theorem v34_at (a : Fin 4096) : val_main_v34 (F := Ideal) u w x g (ix2 a 0)
    = Ideal.div ((∑ k : Fin 2048, x (ix2 a k) * (dn u w a k * g (ix2 0 k))) * (Ideal.ofBits .f32 0xBF000000#32 * Ideal.div (scale x a) (meanSq x a))) width := by
  pointwise [val_main_v34, val_main_v32, val_main_v33, val_main_cst_6, val_main_v29, val_main_v28, val_main_v27, val_main_cst_5]
  simp only [v25_at]
  rw [v13_at]
  rfl

theorem v35_at (a : Fin 4096) : val_main_v35 (F := Ideal) u w x g (ix1 a) = val_main_v34 (F := Ideal) u w x g (ix2 a 0) := by
  pointwise [val_main_v35, val_main_cst_7]
  exact Fin.sum_univ_one fun k => val_main_v34 (F := Ideal) u w x g (ix2 a k)

theorem ref_rows : val_main_v42 (F := Ideal) u w x g dh = allRows (dn u w) x g dh := by
  funext y
  obtain ⟨a, b, rfl⟩ := two y
  pointwise [val_main_v42, val_main_v40, val_main_v38, val_main_v31, val_main_v37, val_main_v39, val_main_v36, val_main_v30]
  rw [v25_at, v35_at, v34_at, v10_at]
  exact congrArg (dh (ix2 a b) + ·) (entry (dn u w) x g a b)

theorem ref_rows_half : val_main_v44 (F := Ideal) u w x g dh = allRows (dn u w) x g dh := by
  rw [← ref_rows]
  funext y
  obtain ⟨a, b, rfl⟩ := two y
  pointwise [val_main_v44, val_main_v43, val_main_v42]

theorem v21_at (a : Fin 4096) (b : Fin 2048) : val_main_v21 (F := Ideal) u w x (ix2 a b) = gainRow (dn u w) x b a := by
  pointwise [val_main_v21, val_main_v15, val_main_v14]
  rw [v20_at, v10_at, mul_comm]
  rfl

theorem ref_gain : val_main_v41 (F := Ideal) u w x = allGain (dn u w) x := by
  funext y
  obtain ⟨a, b, rfl⟩ := two y
  pointwise [val_main_v41, val_main_v26, val_main_v23, val_main_v22, val_main_cst_3, val_main_cst_4]
  simp only [v21_at]
  exact Fin.sum_univ_one fun _ => ∑ r : Fin 4096, gainRow (dn u w) x b r

end Reference

theorem algebraic : Cert.algebraic_MixDxIdeal_MixDxRefIdeal := by
  intro m g m' g' _ hargs
  refine ⟨fun c => allRows (dn (au m c) (aw m c)) (ax m c) (ag m c) (ah m c), fun c => allRows (dn (au m c) (aw m c)) (ax m c) (ag m c) (ah m c), fun c => allGain (dn (au m c) (aw m c)) (ax m c), ?_, ?_⟩
  · refine (θ_run _ _ _).mono (fun r h c => ?_) (Cert.MixDxIdeal.Value.run_blocks m g)
    obtain ⟨h6, h7, h8, hk⟩ := h c
    exact ⟨h6.trans (final6 m c), h7.trans (final7 m c), h8.trans (final8 m c), hk⟩
  · refine (θ_run _ _ _).mono (fun r h c => ?_) (Cert.MixDxRefIdeal.Value.run m' g')
    obtain ⟨h42, h44, h41, hk⟩ := h c
    obtain ⟨e0, e1, e2, e3, e4⟩ := hargs c
    refine ⟨h42.trans ?_, h44.trans ?_, h41.trans ?_, hk⟩
    · rw [Cert.MixDxRefIdeal.Read.val_main_v42_eq, e0, e1, e2, e3, e4]
      exact ref_rows _ _ _ _ _
    · rw [Cert.MixDxRefIdeal.Read.val_main_v44_eq, e0, e1, e2, e3, e4]
      exact ref_rows_half _ _ _ _ _
    · rw [Cert.MixDxRefIdeal.Read.val_main_v41_eq, e0, e1, e2]
      exact ref_gain _ _ _

/-- The reference runs, leaves its arguments, and declares no semaphore. -/
theorem frame_ref : Cert.quiescent_MixDxRefIdeal := fun m g _ =>
  (θ_run _ _ _).mono (fun r h => ⟨fun c => (h c).2.2.2, sem_eq_zero_of_no_sems (by decide) r.2⟩) (Cert.MixDxRefIdeal.Value.run m g)

end Cert.MixNorm
-- ==== Proof.Norm.QueryBlock.lean ====
/-
  ONE GRID POINT OF THE QUERIES' INPUT GRADIENT, CARRIED THROUGH THE NORM: one column block's part
  of the gradient of the normalised rows, and what the last point of a run makes of the finished sum.
-/
module

public import proofs.«01_k».proof.Proof.Gen.QueryDxIdeal.Value
public import proofs.«01_k».proof.Proof.Norm.Shared
public import proofs.«01_k».proof.Proof.Common.Blocks

@[expose] public section

set_option maxRecDepth 16384

noncomputable section

namespace Cert.QueryNorm

open Idealize.ShloMosaic Idealize.ShloMosaic.Tactic Cert.QueryDxIdeal Cert.QueryDxIdeal.Gen Idealize.SL.Sem Cert.Blocks
open Cert.NormGrad (two rows gain)

theorem pay1_eq (u : Vec Ideal S512x1024 .bf16) (w : Vec Ideal S2048x1024 .bf16) : k0_pay1 u w = nt u w := by
  funext y
  obtain ⟨a, b, rfl⟩ := two y
  pointwise [k0_pay1]
  rfl

theorem pay4_eq (acc : Vec Ideal S512x2048 .f32) (u : Vec Ideal S512x1024 .bf16) (w : Vec Ideal S2048x1024 .bf16) : k0_pay4 acc u w = fun y => acc y + nt u w y := by
  funext y
  obtain ⟨a, b, rfl⟩ := two y
  pointwise [k0_pay4]
  rfl

theorem pay2_eq (acc : Vec Ideal S512x2048 .f32) (u : Vec Ideal S512x1024 .bf16) (w : Vec Ideal S2048x1024 .bf16) : k0_pay2 acc u w = fun y => acc y + nt u w y := by
  rw [← pay4_eq]
  funext y
  obtain ⟨a, b, rfl⟩ := two y
  pointwise [k0_pay2, k0_pay4]

theorem pay5_at (x : Vec Ideal S512x2048 .f32) (r : Vec Ideal S512x1 .f32) (a : Fin 512) (b : Fin 2048) : k0_pay5 x r (ix2 a b) = x (ix2 a b) * r (ix2 a 0) := by
  pointwise [k0_pay5]

variable (acc : Vec Ideal S512x2048 .f32) (u : Vec Ideal S512x1024 .bf16) (w : Vec Ideal S2048x1024 .bf16) (x : Vec Ideal S512x2048 .f32) (r : Vec Ideal S512x1 .f32) (g : Vec Ideal S1x2048 .f32) (dh : Vec Ideal S512x2048 .f32)

theorem pay6_eq : k0_pay6 acc u w x r g dh r = rows (fun y => acc y + nt u w y) x r g dh := by
  rw [← pay4_eq]
  funext y
  obtain ⟨a, b, rfl⟩ := two y
  pointwise [k0_pay6]
  simp only [pay5_at]
  rfl

theorem pay7_eq : k0_pay7 acc u w x r g dh r = rows (fun y => acc y + nt u w y) x r g dh := by
  rw [← pay6_eq]
  funext y
  obtain ⟨a, b, rfl⟩ := two y
  pointwise [k0_pay7]

theorem pay8_eq : k0_pay8 acc u w x r = gain (fun y => acc y + nt u w y) x r := by
  rw [← pay4_eq]
  funext y
  obtain ⟨a, b, rfl⟩ := two y
  pointwise [k0_pay8]
  simp only [pay5_at]
  rfl

theorem pay3_eq (prev : Vec Ideal S1x2048 .f32) : k0_pay3 (k0_pay8 acc u w x r) prev = fun y => prev y + gain (fun y => acc y + nt u w y) x r y := by
  rw [← pay8_eq]
  funext y
  obtain ⟨a, b, rfl⟩ := two y
  pointwise [k0_pay3]

variable (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S512x2048 .f32) (harg11 : arg11.IsWhole)
  (x0 : Vec Ideal S512x1024 .bf16) (x1 : Vec Ideal S2048x1024 .bf16) (x2 : Vec Ideal S512x2048 .f32) (x3 : Vec Ideal S512x1 .f32) (x4 : Vec Ideal S1x2048 .f32) (x5 : Vec Ideal S512x2048 .f32)

/-- The first point of a run leaves its own nt in the sum. -/
theorem soutA (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 arg11 harg11 hc0 hc1 hc2 x0 x1 x2 x3 x4 x5 = nt x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4 x5)]
  unfold kernelRun0_A
  sl_unfold_words
  dsimp only
  simp only [View.readAt_eq_ld, harg2.read_unread, harg3.read_unread]
  rw [View.canon_cons_unit_lit _ _ _ (by decide), View.ld_unit_lit _ _ (by decide), View.ld_unit_lit _ _ (by decide)]
  exact pay1_eq x0 x1

/-- The last point of a run stores its rows' gradient (the first run, whole width). -/
theorem outB6 (hc0 : ¬cond0_0 i) (hc1 : ¬cond0_1 i) (hc2 : cond0_2 i) (hc3 : cond0_3 i) (hc4 : ¬cond0_4 i) (xs : Vec Ideal S512x2048 .f32) :
    out0_B_6 c i arg2 harg2 arg3 harg3 arg4 harg4 arg5 harg5 arg6 harg6 arg7 harg7 arg8 harg8 arg9 harg9 arg10 harg10 arg11 harg11 hc0 hc1 hc2 hc3 hc4 x0 x1 x2 x3 x4 x5 xs = rows (fun y => xs y + nt x0 x1 y) x2 x3 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 hc1 hc2 hc3 hc4 x0 x1 x2 x3 x4 x5 xs)]
  unfold kernelRun0_B
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay6_eq xs x0 x1 x2 x3 x4 x5

/-- The last point of a run stores its rows' gradient (the first run, half width). -/
theorem outB7 (hc0 : ¬cond0_0 i) (hc1 : ¬cond0_1 i) (hc2 : cond0_2 i) (hc3 : cond0_3 i) (hc4 : ¬cond0_4 i) (xs : Vec Ideal S512x2048 .f32) :
    out0_B_7 c i arg2 harg2 arg3 harg3 arg4 harg4 arg5 harg5 arg6 harg6 arg7 harg7 arg8 harg8 arg9 harg9 arg10 harg10 arg11 harg11 hc0 hc1 hc2 hc3 hc4 x0 x1 x2 x3 x4 x5 xs = rows (fun y => xs y + nt x0 x1 y) x2 x3 x4 x5 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 hc2 hc3 hc4 x0 x1 x2 x3 x4 x5 xs)]
  unfold kernelRun0_B
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay7_eq xs x0 x1 x2 x3 x4 x5

/-- The last point of a run stores its rows' gradient (a later run, whole width). -/
theorem outC6 (hc0 : ¬cond0_0 i) (hc1 : ¬cond0_1 i) (hc2 : cond0_2 i) (hc3 : ¬cond0_3 i) (hc4 : cond0_4 i) (xo : Vec Ideal S1x2048 .f32) (xs : Vec Ideal S512x2048 .f32) :
    out0_C_6 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs = rows (fun y => xs y + nt x0 x1 y) x2 x3 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs)]
  unfold kernelRun0_C
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay6_eq xs x0 x1 x2 x3 x4 x5

/-- The last point of a run stores its rows' gradient (a later run, half width). -/
theorem outC7 (hc0 : ¬cond0_0 i) (hc1 : ¬cond0_1 i) (hc2 : cond0_2 i) (hc3 : ¬cond0_3 i) (hc4 : cond0_4 i) (xo : Vec Ideal S1x2048 .f32) (xs : Vec Ideal S512x2048 .f32) :
    out0_C_7 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs = rows (fun y => xs y + nt x0 x1 y) x2 x3 x4 x5 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs)]
  unfold kernelRun0_C
  sl_unfold_words
  dsimp only
  simp only [View.readAt_eq_ld, harg11.read_unread, harg2.read_unread, harg3.read_unread, harg4.read_unread, harg5.read_unread, harg6.read_unread, harg7.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay7_eq xs x0 x1 x2 x3 x4 x5

/-- The first run starts the gain's gradient. -/
theorem outB8 (hc0 : ¬cond0_0 i) (hc1 : ¬cond0_1 i) (hc2 : cond0_2 i) (hc3 : cond0_3 i) (hc4 : ¬cond0_4 i) (xs : Vec Ideal S512x2048 .f32) :
    out0_B_8 c i arg2 harg2 arg3 harg3 arg4 harg4 arg5 harg5 arg6 harg6 arg7 harg7 arg8 harg8 arg9 harg9 arg10 harg10 arg11 harg11 hc0 hc1 hc2 hc3 hc4 x0 x1 x2 x3 x4 x5 xs = gain (fun y => xs y + nt x0 x1 y) x2 x3 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 hc1 hc2 hc3 hc4 x0 x1 x2 x3 x4 x5 xs)]
  unfold kernelRun0_B
  sl_unfold_words
  dsimp only
  simp only [View.readAt_eq_ld, harg11.read_unread, harg2.read_unread, harg3.read_unread, harg4.read_unread, harg5.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]
  exact pay8_eq xs x0 x1 x2 x3

/-- A later run adds to the gain's gradient. -/
theorem outC8 (hc0 : ¬cond0_0 i) (hc1 : ¬cond0_1 i) (hc2 : cond0_2 i) (hc3 : ¬cond0_3 i) (hc4 : cond0_4 i) (xo : Vec Ideal S1x2048 .f32) (xs : Vec Ideal S512x2048 .f32) :
    out0_C_8 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs = fun y => xo y + gain (fun y => xs y + nt x0 x1 y) x2 x3 y := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 hc2 hc3 hc4 x0 x1 x2 x3 x4 x5 xo xs)]
  unfold kernelRun0_C
  sl_unfold_words
  dsimp only
  simp only [View.readAt_eq_ld, harg11.read_unread, harg2.read_unread, harg3.read_unread, harg4.read_unread, harg5.read_unread, harg10.read_unread]
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact pay3_eq xs x0 x1 x2 x3 xo

end Cert.QueryNorm
-- ==== Proof.Norm.QueryArray.lean ====
/-
  THE QUERIES' INPUT GRADIENT THROUGH ITS NORM, AS WHOLE ARRAYS. 16 grid points: 8 blocks of rows, each a sum of two
  column blocks' parts; a run has a first and a last point and none between.
-/
module

public import proofs.«01_k».proof.Defs
public import proofs.«01_k».proof.Proof.Norm.QueryBlock
public import proofs.«01_k».proof.Proof.Norm.Claim
public import proofs.«01_k».proof.Proof.Gen.QueryDxRefIdeal.Run
public import proofs.«01_k».proof.Proof.Gen.QueryDxRefIdeal.Read
public import Idealize.ShloMosaic.Lib.Pipeline.ValueKit

@[expose] public section

set_option maxRecDepth 16384

noncomputable section

namespace Cert.QueryNorm

open Idealize.ShloMosaic Idealize.ShloMosaic.TcCoe Idealize.ShloMosaic.Tactic Cert.QueryDxIdeal Cert.QueryDxIdeal.Gen Idealize.SL.Sem Cert.Blocks
open Cert.NormGrad (Rows Gain scale meanSq width through rows gain rowAt two)
open Cert.NormSums

abbrev Inner := Vec Ideal S4096x2048 .bf16
abbrev Weight := Vec Ideal S2048x2048 .bf16

/-- The gradient's columns are taken in 2 blocks of 1024. -/
abbrev colOf (k : Nat) (e : Fin 1024) : Fin 2048 := colAt (K := 2048) (by decide) 1024 k e
/-- Column block `k`'s part of one entry. -/
abbrev parts (u : Inner) (w : Weight) : Fin 4096 → Fin 2048 → Nat → EReal := cell (K := 2048) u w (by decide) 1024

variable (m : (ℓ : Loc nD τ sig) → Buf (Elt Ideal) ℓ)

abbrev au (c : Dev nD) : Inner := m ((c : Thread nD τ).loc main_arg0)
abbrev aw (c : Dev nD) : Weight := m ((c : Thread nD τ).loc main_arg1)
abbrev ax (c : Dev nD) : Rows := m ((c : Thread nD τ).loc main_arg2)
abbrev ag (c : Dev nD) : Gain := m ((c : Thread nD τ).loc main_arg3)
abbrev ah (c : Dev nD) : Rows := m ((c : Thread nD τ).loc main_arg4)

/-- The rows' scale is computed before the kernel as the reference of the other norm computes it. -/
theorem scale_host (c : Dev nD) : V m c main_v7 = Cert.NormRefIdeal.Read.val_main_v10 (F := Ideal) (ax m c) := by
  show StableHlo.after hostOps0 _ (Proc.devRef .tc main_v7) = _
  unfold hostOps0
  after_results_simp
  rfl

theorem index : ∀ t : Fin cfg0.N, (win0_0.index t = ![t.val / 2, t.val % 2] ∧ win0_1.index t = ![0, t.val % 2]) ∧ (win0_2.index t = ![t.val / 2, 0] ∧ win0_3.index t = ![t.val / 2, 0])
    ∧ (win0_4.index t = ![0, 0] ∧ win0_5.index t = ![t.val / 2, 0]) ∧ (win0_6.index t = ![t.val / 2, 0] ∧ win0_7.index t = ![t.val / 2, 0]) ∧ win0_8.index t = ![0, 0] :=
  (by decide +kernel : ∀ t : Fin grid0.N, (win0_0.index t = ![t.val / 2, t.val % 2] ∧ win0_1.index t = ![0, t.val % 2]) ∧ (win0_2.index t = ![t.val / 2, 0] ∧ win0_3.index t = ![t.val / 2, 0])
    ∧ (win0_4.index t = ![0, 0] ∧ win0_5.index t = ![t.val / 2, 0]) ∧ (win0_6.index t = ![t.val / 2, 0] ∧ win0_7.index t = ![t.val / 2, 0]) ∧ win0_8.index t = ![0, 0])

theorem lt_N (t : Fin cfg0.N) : t.val < 16 := by have := t.isLt; have hN : cfg0.N = 16 := N_0; omega

theorem iblk0 (c : Dev nD) (t : Fin cfg0.N) : (iblk m c 0 t : Vec Ideal S512x1024 .bf16) = fun j => au m c (ix2 (rowAt (t.val / 2) (j 0)) (colOf (t.val % 2) (j 1))) := by
  funext j
  unfold iblk
  rw [View.read_apply]
  show V m c main_arg0 _ = m ((c : Thread nD τ).loc main_arg0) _
  rw [V_main_arg0]
  congr 1
  funext a
  apply Fin.ext
  have ht := lt_N t
  have h0 : (j 0 : Nat) < 512 := (j 0).isLt
  have h1 : (j 1 : Nat) < 1024 := (j 1).isLt
  match a with
  | ⟨0, _⟩ => show win0_0.index t 0 * 512 + 1 * (j 0).val = (t.val / 2 * 512 + (j 0).val) % 4096; rw [(index t).1.1]; show t.val / 2 * 512 + _ = _; omega
  | ⟨1, _⟩ => show win0_0.index t 1 * 1024 + 1 * (j 1).val = (t.val % 2 * 1024 + (j 1).val) % 2048; rw [(index t).1.1]; show t.val % 2 * 1024 + _ = _; omega

theorem iblk1 (c : Dev nD) (t : Fin cfg0.N) : (iblk m c 1 t : Vec Ideal S2048x1024 .bf16) = fun j => aw m c (ix2 (j 0) (colOf (t.val % 2) (j 1))) := by
  funext j
  unfold iblk
  rw [View.read_apply]
  show V m c main_arg1 _ = m ((c : Thread nD τ).loc main_arg1) _
  rw [V_main_arg1]
  congr 1
  funext a
  apply Fin.ext
  have h1 : (j 1 : Nat) < 1024 := (j 1).isLt
  match a with
  | ⟨0, _⟩ => show win0_1.index t 0 * 2048 + 1 * (j 0).val = (j 0).val; rw [(index t).1.2]; show 0 * 2048 + _ = _; omega
  | ⟨1, _⟩ => show win0_1.index t 1 * 1024 + 1 * (j 1).val = (t.val % 2 * 1024 + (j 1).val) % 2048; rw [(index t).1.2]; show t.val % 2 * 1024 + _ = _; omega

/-- A block of 512 whole rows read at the row block's own number. -/
theorem place {t : Fin cfg0.N} {f : Fin 2 → Nat} (h : f = ![t.val / 2, 0]) (p : Fin 512) :
    f 0 * 512 + 1 * p.val = (t.val / 2 * 512 + p.val) % 4096 := by
  subst h
  have ht := lt_N t
  show t.val / 2 * 512 + 1 * p.val = _
  omega

theorem iblk2 (c : Dev nD) (t : Fin cfg0.N) : (iblk m c 2 t : Vec Ideal S512x2048 .f32) = xAt (ax m c) (t.val / 2) := by
  funext j
  unfold iblk
  rw [View.read_apply]
  show V m c main_arg2 _ = m ((c : Thread nD τ).loc main_arg2) _
  rw [V_main_arg2]
  congr 1
  funext a
  apply Fin.ext
  match a with
  | ⟨0, _⟩ => exact place (index t).2.1.1 (j 0)
  | ⟨1, _⟩ => show win0_2.index t 1 * 2048 + 1 * (j 1).val = (j 1).val; rw [(index t).2.1.1]; show 0 * 2048 + _ = _; omega

theorem iblk3 (c : Dev nD) (t : Fin cfg0.N) : (iblk m c 3 t : Vec Ideal S512x1 .f32) = scaleAt (ax m c) (t.val / 2) := by
  funext j
  unfold iblk scaleAt
  rw [View.read_apply, ← Cert.NormGrad.v10_at]
  show V m c main_v7 _ = _
  rw [scale_host m c]
  congr 1
  funext a
  apply Fin.ext
  have h1 : (j 1 : Nat) < 1 := (j 1).isLt
  match a with
  | ⟨0, _⟩ => exact place (index t).2.1.2 (j 0)
  | ⟨1, _⟩ => show win0_3.index t 1 * 1 + 1 * (j 1).val = 0; rw [(index t).2.1.2]; show 0 * 1 + _ = _; omega

theorem iblk4 (c : Dev nD) (t : Fin cfg0.N) : (iblk m c 4 t : Vec Ideal S1x2048 .f32) = ag m c := by
  funext j
  unfold iblk
  rw [View.read_apply]
  show V m c main_arg3 _ = m ((c : Thread nD τ).loc main_arg3) _
  rw [V_main_arg3]
  congr 1
  funext a
  apply Fin.ext
  match a with
  | ⟨0, _⟩ => show win0_4.index t 0 * 1 + 1 * (j 0).val = (j 0).val; rw [(index t).2.2.1.1]; show 0 * 1 + _ = _; omega
  | ⟨1, _⟩ => show win0_4.index t 1 * 2048 + 1 * (j 1).val = (j 1).val; rw [(index t).2.2.1.1]; show 0 * 2048 + _ = _; omega

theorem iblk5 (c : Dev nD) (t : Fin cfg0.N) : (iblk m c 5 t : Vec Ideal S512x2048 .f32) = xAt (ah m c) (t.val / 2) := by
  funext j
  unfold iblk
  rw [View.read_apply]
  show V m c main_arg4 _ = m ((c : Thread nD τ).loc main_arg4) _
  rw [V_main_arg4]
  congr 1
  funext a
  apply Fin.ext
  match a with
  | ⟨0, _⟩ => exact place (index t).2.2.1.2 (j 0)
  | ⟨1, _⟩ => show win0_5.index t 1 * 2048 + 1 * (j 1).val = (j 1).val; rw [(index t).2.2.1.2]; show 0 * 2048 + _ = _; omega

/-- A point's part of the product is its column block's. -/
theorem part_eq (c : Dev nD) (t : Fin cfg0.N) : nt (iblk m c 0 t : Vec Ideal S512x1024 .bf16) (iblk m c 1 t : Vec Ideal S2048x1024 .bf16) = part (parts (au m c) (aw m c)) 2 t.val := by
  rw [iblk0, iblk1]
  rfl

theorem steps (c : Dev nD) : Steps (ax m c) (ag m c) (ah m c) (parts (au m c) (aw m c)) 2 cfg0.N (outsAt0 m c) where
  first n h h0 := by
    have e := outsAt0_A m c ⟨n, h⟩ h0 (by dsimp only; omega)
    dsimp only at e
    rw [e]
    dsimp only
    rw [soutA]
    exact part_eq m c ⟨n, h⟩
  keep n h hl := by
    have e := outsAt0_A m c ⟨n + 1, h⟩ (by dsimp only; omega) (by dsimp only; omega)
    dsimp only at e
    rw [e]
    rfl
  next n h h0 hl := by omega
  last n h hl := by
    have h7 : (n + 1) % 2 = 1 := by omega
    by_cases hf : n + 1 < 2
    · have e := outsAt0_B m c ⟨n + 1, h⟩ (by dsimp only; omega) h7 hf (by dsimp only; omega)
      dsimp only at e
      rw [e]
      dsimp only
      rw [outB6, outB7, part_eq, iblk2, iblk3, iblk4, iblk5]
      exact ⟨rfl, rfl⟩
    · have e := outsAt0_C m c ⟨n + 1, h⟩ (by dsimp only; omega) h7 hf (by dsimp only; omega)
      dsimp only at e
      rw [e]
      dsimp only
      rw [outC6, outC7, part_eq, iblk2, iblk3, iblk4, iblk5]
      exact ⟨rfl, rfl⟩
  start n h hs := by
    have e := outsAt0_B m c ⟨n + 1, h⟩ (by dsimp only; omega) (by dsimp only; omega) (by dsimp only; omega) (by dsimp only; omega)
    dsimp only at e
    rw [e]
    dsimp only
    rw [outB8, part_eq, iblk2, iblk3]
    rfl
  more n h hl hs := by
    have e := outsAt0_C m c ⟨n + 1, h⟩ (by dsimp only; omega) (by dsimp only; omega) (by dsimp only; omega) hs
    dsimp only at e
    rw [e]
    dsimp only
    rw [outC8, part_eq, iblk2, iblk3]
    rfl

theorem left (c : Dev nD) (n : Nat) (h : n < cfg0.N) : Holds (dn (au m c) (aw m c)) (ax m c) (ag m c) (ah m c) (parts (au m c) (aw m c)) 2 n (outsAt0 m c n h) :=
  holds (by decide) (dn_eq (K := 2048) (au m c) (aw m c) (by decide) (W := 1024) (by decide)) (steps m c) n h

theorem final6 (c : Dev nD) : (dats m 0 c).arrAt 6 cfg0.N = allRows (dn (au m c) (aw m c)) (ax m c) (ag m c) (ah m c) := by
  refine (dats m 0 c).arrAt_eq_of_covers 6 _ (by decide +kernel) fun t hf y => ?_
  blk_simp
  rw [after0_6, ((left m c t.val t.isLt).2.1 (by have := (flush0_6 t).mp hf; omega)).1]
  refine congrArg (allRows (dn (au m c) (aw m c)) (ax m c) (ag m c) (ah m c)) ?_
  blk_ext [(index t).2.2.2.1.1]
  show (t.val / 2 * 512 + (y 0).val) % 4096 = _
  omega

theorem final7 (c : Dev nD) : (dats m 0 c).arrAt 7 cfg0.N = allRows (dn (au m c) (aw m c)) (ax m c) (ag m c) (ah m c) := by
  refine (dats m 0 c).arrAt_eq_of_covers 7 _ (by decide +kernel) fun t hf y => ?_
  blk_simp
  rw [after0_7, ((left m c t.val t.isLt).2.1 (by have := (flush0_7 t).mp hf; omega)).2]
  refine congrArg (allRows (dn (au m c) (aw m c)) (ax m c) (ag m c) (ah m c)) ?_
  blk_ext [(index t).2.2.2.1.2]
  show (t.val / 2 * 512 + (y 0).val) % 4096 = _
  omega

theorem final8 (c : Dev nD) : (dats m 0 c).arrAt 8 cfg0.N = allGain (dn (au m c) (aw m c)) (ax m c) := by
  refine (dats m 0 c).arrAt_eq_of_covers 8 _ (by decide +kernel) fun t hf y => ?_
  have h15 : t.val = 15 := by have := (flush0_8 t).mp hf; have := lt_N t; omega
  blk_simp
  rw [after0_8, (left m c t.val t.isLt).2.2 (by omega), show (t.val + 1) / 2 = 8 by omega, gain_full]
  refine congrArg (allGain (dn (au m c) (aw m c)) (ax m c)) ?_
  blk_ext [(index t).2.2.2.2]

section Reference

open Cert.QueryDxRefIdeal Cert.QueryDxRefIdeal.Read

variable (u : Inner) (w : Weight) (x : Rows) (g : Gain) (dh : Rows)

theorem v9_at (a : Fin 4096) : val_main_v9 (F := Ideal) x (ix2 a 0) = meanSq x a := Cert.NormGrad.v9_at x a
theorem v10_at (a : Fin 4096) : val_main_v10 (F := Ideal) x (ix2 a 0) = scale x a := Cert.NormGrad.v10_at x a
theorem v13_at (a : Fin 4096) : val_main_v13 (F := Ideal) x (ix2 a 0) = Ideal.ofBits .f32 0xBF000000#32 * Ideal.div (scale x a) (meanSq x a) := Cert.NormGrad.v13_at x a

theorem v20_at (a : Fin 4096) (b : Fin 2048) : val_main_v20 (F := Ideal) u w (ix2 a b) = dn u w a b := by
  pointwise [val_main_v20, val_main_v1, val_main_v0]
  rfl

theorem v25_at (a : Fin 4096) (b : Fin 2048) : val_main_v25 (F := Ideal) u w g (ix2 a b) = dn u w a b * g (ix2 0 b) := by
  pointwise [val_main_v25, val_main_v24, val_main_v16, val_main_v2]
  rw [v20_at]

theorem v34_at (a : Fin 4096) : val_main_v34 (F := Ideal) u w x g (ix2 a 0)
    = Ideal.div ((∑ k : Fin 2048, x (ix2 a k) * (dn u w a k * g (ix2 0 k))) * (Ideal.ofBits .f32 0xBF000000#32 * Ideal.div (scale x a) (meanSq x a))) width := by
  pointwise [val_main_v34, val_main_v32, val_main_v33, val_main_cst_6, val_main_v29, val_main_v28, val_main_v27, val_main_cst_5]
  simp only [v25_at]
  rw [v13_at]
  rfl

theorem v35_at (a : Fin 4096) : val_main_v35 (F := Ideal) u w x g (ix1 a) = val_main_v34 (F := Ideal) u w x g (ix2 a 0) := by
  pointwise [val_main_v35, val_main_cst_7]
  exact Fin.sum_univ_one fun k => val_main_v34 (F := Ideal) u w x g (ix2 a k)

theorem ref_rows : val_main_v42 (F := Ideal) u w x g dh = allRows (dn u w) x g dh := by
  funext y
  obtain ⟨a, b, rfl⟩ := two y
  pointwise [val_main_v42, val_main_v40, val_main_v38, val_main_v31, val_main_v37, val_main_v39, val_main_v36, val_main_v30]
  rw [v25_at, v35_at, v34_at, v10_at]
  exact congrArg (dh (ix2 a b) + ·) (entry (dn u w) x g a b)

theorem ref_rows_half : val_main_v44 (F := Ideal) u w x g dh = allRows (dn u w) x g dh := by
  rw [← ref_rows]
  funext y
  obtain ⟨a, b, rfl⟩ := two y
  pointwise [val_main_v44, val_main_v43, val_main_v42]

theorem v21_at (a : Fin 4096) (b : Fin 2048) : val_main_v21 (F := Ideal) u w x (ix2 a b) = gainRow (dn u w) x b a := by
  pointwise [val_main_v21, val_main_v15, val_main_v14]
  rw [v20_at, v10_at, mul_comm]
  rfl

theorem ref_gain : val_main_v41 (F := Ideal) u w x = allGain (dn u w) x := by
  funext y
  obtain ⟨a, b, rfl⟩ := two y
  pointwise [val_main_v41, val_main_v26, val_main_v23, val_main_v22, val_main_cst_3, val_main_cst_4]
  simp only [v21_at]
  exact Fin.sum_univ_one fun _ => ∑ r : Fin 4096, gainRow (dn u w) x b r

end Reference

theorem algebraic : Cert.algebraic_QueryDxIdeal_QueryDxRefIdeal := by
  intro m g m' g' _ hargs
  refine ⟨fun c => allRows (dn (au m c) (aw m c)) (ax m c) (ag m c) (ah m c), fun c => allRows (dn (au m c) (aw m c)) (ax m c) (ag m c) (ah m c), fun c => allGain (dn (au m c) (aw m c)) (ax m c), ?_, ?_⟩
  · refine (θ_run _ _ _).mono (fun r h c => ?_) (Cert.QueryDxIdeal.Value.run_blocks m g)
    obtain ⟨h6, h7, h8, hk⟩ := h c
    exact ⟨h6.trans (final6 m c), h7.trans (final7 m c), h8.trans (final8 m c), hk⟩
  · refine (θ_run _ _ _).mono (fun r h c => ?_) (Cert.QueryDxRefIdeal.Value.run m' g')
    obtain ⟨h42, h44, h41, hk⟩ := h c
    obtain ⟨e0, e1, e2, e3, e4⟩ := hargs c
    refine ⟨h42.trans ?_, h44.trans ?_, h41.trans ?_, hk⟩
    · rw [Cert.QueryDxRefIdeal.Read.val_main_v42_eq, e0, e1, e2, e3, e4]
      exact ref_rows _ _ _ _ _
    · rw [Cert.QueryDxRefIdeal.Read.val_main_v44_eq, e0, e1, e2, e3, e4]
      exact ref_rows_half _ _ _ _ _
    · rw [Cert.QueryDxRefIdeal.Read.val_main_v41_eq, e0, e1, e2]
      exact ref_gain _ _ _

/-- The reference runs, leaves its arguments, and declares no semaphore. -/
theorem frame_ref : Cert.quiescent_QueryDxRefIdeal := fun m g _ =>
  (θ_run _ _ _).mono (fun r h => ⟨fun c => (h c).2.2.2, sem_eq_zero_of_no_sems (by decide) r.2⟩) (Cert.QueryDxRefIdeal.Value.run m g)

end Cert.QueryNorm
-- ==== Proof.Product.MemIn.lean ====
/-
  THE MEMORY'S KEYS AND VALUES: rows of the normalised memory by columns of the weight. Both grid points write all rows of
  half of the columns, their sums whole.
-/
module

public import proofs.«01_k».proof.Defs
public import proofs.«01_k».proof.Proof.Gen.MemInIdeal.Value
public import proofs.«01_k».proof.Proof.Gen.MemInRefIdeal.Run
public import proofs.«01_k».proof.Proof.Gen.MemInRefIdeal.Read
public import proofs.«01_k».proof.Proof.Common.Blocks
public import Idealize.ShloMosaic.Lib.Pointwise
public import Idealize.ShloMosaic.Lib.Pipeline.ValueKit

@[expose] public section

set_option maxRecDepth 16384

noncomputable section

namespace Cert.MemoryInput

open Idealize.ShloMosaic Idealize.ShloMosaic.TcCoe Idealize.ShloMosaic.Tactic Cert.MemInIdeal Cert.MemInIdeal.Gen Idealize.SL.Sem Cert.Blocks

theorem pay1_at (a : Vec Ideal S256x2048 .bf16) (w : Vec Ideal S2048x1024 .bf16) (i : Fin 256) (j : Fin 1024) :
    k0_pay1 a w (ix2 i j) = ∑ k : Fin 2048, a (ix2 i k) * w (ix2 k j) := by
  pointwise [k0_pay1]

variable (m : (ℓ : Loc nD τ sig) → Buf (Elt Ideal) ℓ)

abbrev an (c : Dev nD) : Vec Ideal S256x2048 .bf16 := m ((c : Thread nD τ).loc main_arg0)
abbrev aw (c : Dev nD) : Vec Ideal S2048x2048 .bf16 := m ((c : Thread nD τ).loc main_arg1)

theorem index : ∀ t : Fin cfg0.N, win0_0.index t = ![0, 0] ∧ win0_1.index t = ![0, t.val] ∧ win0_2.index t = ![0, t.val] :=
  (by decide +kernel : ∀ t : Fin grid0.N, win0_0.index t = ![0, 0] ∧ win0_1.index t = ![0, t.val] ∧ win0_2.index t = ![0, t.val])

theorem final (c : Dev nD) : (dats m 0 c).arrAt 2 cfg0.N = nn (an m c) (aw m c) := by
  refine (dats m 0 c).arrAt_eq_of_covers 2 _ (by decide +kernel) fun t hf y => ?_
  blk_simp
  rw [after0_2]
  frame_out
  refine (congrArg (k0_pay1 _ _) (eq_ix2 y)).trans ((pay1_at _ _ _ _).trans ?_)
  refine Finset.sum_congr rfl fun k _ => congrArg₂ (· * ·) ?_ ?_
  · blk_ext [iblk, V, (index t).1, (index t).2.2]
  · blk_ext [iblk, V, (index t).2.1, (index t).2.2]

theorem ref_eq (n : Vec Ideal S256x2048 .bf16) (w : Vec Ideal S2048x2048 .bf16) : Cert.MemInRefIdeal.Read.val_main_v3 (F := Ideal) n w = nn n w := by
  funext y
  rw [show y = ix2 (y 0) (y 1) from eq_ix2 y]
  pointwise [Cert.MemInRefIdeal.Read.val_main_v3, Cert.MemInRefIdeal.Read.val_main_v2, Cert.MemInRefIdeal.Read.val_main_v1, Cert.MemInRefIdeal.Read.val_main_v0]
  rfl

theorem algebraic : Cert.algebraic_MemInIdeal_MemInRefIdeal := by
  pair_intro
  · run_from Cert.MemInIdeal.Value.run_blocks m g
  · run_from Cert.MemInRefIdeal.Value.run m' g'
    rw [final m c, Cert.MemInRefIdeal.Read.val_main_v3_eq]
    exact ref_eq _ _

/-- The reference runs, leaves its arguments, and declares no semaphore. -/
theorem frame_ref : Cert.quiescent_MemInRefIdeal := fun m g _ =>
  (θ_run _ _ _).mono (fun r h => ⟨fun c => (h c).2, sem_eq_zero_of_no_sems (by decide) r.2⟩) (Cert.MemInRefIdeal.Value.run m g)

end Cert.MemoryInput
-- ==== Proof.Product.MemDx.lean ====
/-
  THE GRADIENT OF THE NORMALISED MEMORY, from the gradient of its keys or of its values: rows of that by rows of the weight.
  Both grid points write all rows of half of the columns, their sums whole.
-/
module

public import proofs.«01_k».proof.Defs
public import proofs.«01_k».proof.Proof.Gen.MemDxIdeal.Value
public import proofs.«01_k».proof.Proof.Gen.MemDxRefIdeal.Run
public import proofs.«01_k».proof.Proof.Gen.MemDxRefIdeal.Read
public import proofs.«01_k».proof.Proof.Common.Blocks
public import Idealize.ShloMosaic.Lib.Pointwise
public import Idealize.ShloMosaic.Lib.Pipeline.ValueKit

@[expose] public section

set_option maxRecDepth 16384

noncomputable section

namespace Cert.MemoryBack

open Idealize.ShloMosaic Idealize.ShloMosaic.TcCoe Idealize.ShloMosaic.Tactic Cert.MemDxIdeal Cert.MemDxIdeal.Gen Idealize.SL.Sem Cert.Blocks

theorem pay1_at (h : Vec Ideal S256x2048 .bf16) (w : Vec Ideal S1024x2048 .bf16) (i : Fin 256) (j : Fin 1024) :
    k0_pay1 h w (ix2 i j) = ∑ k : Fin 2048, h (ix2 i k) * w (ix2 j k) := by
  pointwise [k0_pay1]

variable (m : (ℓ : Loc nD τ sig) → Buf (Elt Ideal) ℓ)

abbrev ah (c : Dev nD) : Vec Ideal S256x2048 .bf16 := m ((c : Thread nD τ).loc main_arg0)
abbrev aw (c : Dev nD) : Vec Ideal S2048x2048 .bf16 := m ((c : Thread nD τ).loc main_arg1)

theorem index : ∀ t : Fin cfg0.N, win0_0.index t = ![0, 0] ∧ win0_1.index t = ![t.val, 0] ∧ win0_2.index t = ![0, t.val] :=
  (by decide +kernel : ∀ t : Fin grid0.N, win0_0.index t = ![0, 0] ∧ win0_1.index t = ![t.val, 0] ∧ win0_2.index t = ![0, t.val])

theorem final (c : Dev nD) : (dats m 0 c).arrAt 2 cfg0.N = nt (ah m c) (aw m c) := by
  refine (dats m 0 c).arrAt_eq_of_covers 2 _ (by decide +kernel) fun t hf y => ?_
  blk_simp
  rw [after0_2]
  frame_out
  refine (congrArg (k0_pay1 _ _) (eq_ix2 y)).trans ((pay1_at _ _ _ _).trans ?_)
  refine Finset.sum_congr rfl fun k _ => congrArg₂ (· * ·) ?_ ?_
  · blk_ext [iblk, V, (index t).1, (index t).2.2]
  · blk_ext [iblk, V, (index t).2.1, (index t).2.2]

theorem ref_eq (h : Vec Ideal S256x2048 .bf16) (w : Vec Ideal S2048x2048 .bf16) : Cert.MemDxRefIdeal.Read.val_main_v4 (F := Ideal) h w = nt h w := by
  funext y
  rw [show y = ix2 (y 0) (y 1) from eq_ix2 y]
  pointwise [Cert.MemDxRefIdeal.Read.val_main_v4, Cert.MemDxRefIdeal.Read.val_main_v1, Cert.MemDxRefIdeal.Read.val_main_v0]
  rfl

theorem algebraic : Cert.algebraic_MemDxIdeal_MemDxRefIdeal := by
  pair_intro
  · run_from Cert.MemDxIdeal.Value.run_blocks m g
  · run_from Cert.MemDxRefIdeal.Value.run m' g'
    rw [final m c]
    exact ref_eq _ _

/-- The reference runs, leaves its arguments, and declares no semaphore. -/
theorem frame_ref : Cert.quiescent_MemDxRefIdeal := fun m g _ =>
  (θ_run _ _ _).mono (fun r h => ⟨fun c => (h c).2, sem_eq_zero_of_no_sems (by decide) r.2⟩) (Cert.MemDxRefIdeal.Value.run m g)

end Cert.MemoryBack
-- ==== Proof.Product.MemDw.lean ====
/-
  THE GRADIENT OF THE WEIGHT OF THE MEMORY'S KEYS OR VALUES: columns of the normalised memory by columns of the gradient.
  Every grid point writes one block, its sums whole.
-/
module

public import proofs.«01_k».proof.Defs
public import proofs.«01_k».proof.Proof.Gen.MemDwIdeal.Value
public import proofs.«01_k».proof.Proof.Gen.MemDwRefIdeal.Run
public import proofs.«01_k».proof.Proof.Gen.MemDwRefIdeal.Read
public import proofs.«01_k».proof.Proof.Common.Blocks
public import Idealize.ShloMosaic.Lib.Pointwise
public import Idealize.ShloMosaic.Lib.Pipeline.ValueKit

@[expose] public section

set_option maxRecDepth 16384

noncomputable section

namespace Cert.MemoryGrad

open Idealize.ShloMosaic Idealize.ShloMosaic.TcCoe Idealize.ShloMosaic.Tactic Cert.MemDwIdeal Cert.MemDwIdeal.Gen Idealize.SL.Sem Cert.Blocks

theorem pay1_at (a : Vec Ideal S256x1024 .bf16) (b : Vec Ideal S256x1024 .bf16) (i j : Fin 1024) :
    k0_pay1 a b (ix2 i j) = ∑ k : Fin 256, a (ix2 k i) * b (ix2 k j) := by
  pointwise [k0_pay1]

variable (m : (ℓ : Loc nD τ sig) → Buf (Elt Ideal) ℓ)

abbrev an (c : Dev nD) : Vec Ideal S256x2048 .bf16 := m ((c : Thread nD τ).loc main_arg0)
abbrev ad (c : Dev nD) : Vec Ideal S256x2048 .bf16 := m ((c : Thread nD τ).loc main_arg1)

theorem index : ∀ t : Fin cfg0.N, win0_0.index t = ![0, t.val % 2] ∧ win0_1.index t = ![0, t.val / 2] ∧ win0_2.index t = ![t.val % 2, t.val / 2] :=
  (by decide +kernel : ∀ t : Fin grid0.N, win0_0.index t = ![0, t.val % 2] ∧ win0_1.index t = ![0, t.val / 2] ∧ win0_2.index t = ![t.val % 2, t.val / 2])

theorem final (c : Dev nD) : (dats m 0 c).arrAt 2 cfg0.N = tn (an m c) (ad m c) := by
  refine (dats m 0 c).arrAt_eq_of_covers 2 _ (by decide +kernel) fun t hf y => ?_
  blk_simp
  rw [after0_2]
  frame_out
  refine (congrArg (k0_pay1 _ _) (eq_ix2 y)).trans ((pay1_at _ _ _ _).trans ?_)
  refine Finset.sum_congr rfl fun k _ => congrArg₂ (· * ·) ?_ ?_
  · blk_ext [iblk, V, (index t).1, (index t).2.2]
  · blk_ext [iblk, V, (index t).2.1, (index t).2.2]

theorem ref_eq (n : Vec Ideal S256x2048 .bf16) (d : Vec Ideal S256x2048 .bf16) : Cert.MemDwRefIdeal.Read.val_main_v6 (F := Ideal) n d = tn n d := by
  funext y
  rw [show y = ix2 (y 0) (y 1) from eq_ix2 y]
  pointwise [Cert.MemDwRefIdeal.Read.val_main_v6, Cert.MemDwRefIdeal.Read.val_main_v5, Cert.MemDwRefIdeal.Read.val_main_v4, Cert.MemDwRefIdeal.Read.val_main_v1, Cert.MemDwRefIdeal.Read.val_main_v0]
  exact Finset.sum_congr rfl fun _ _ => mul_comm _ _

theorem algebraic : Cert.algebraic_MemDwIdeal_MemDwRefIdeal := by
  pair_intro
  · run_from Cert.MemDwIdeal.Value.run_blocks m g
  · run_from Cert.MemDwRefIdeal.Value.run m' g'
    rw [final m c, Cert.MemDwRefIdeal.Read.val_main_v6_eq]
    exact ref_eq _ _

/-- The reference runs, leaves its arguments, and declares no semaphore. -/
theorem frame_ref : Cert.quiescent_MemDwRefIdeal := fun m g _ =>
  (θ_run _ _ _).mono (fun r h => ⟨fun c => (h c).2, sem_eq_zero_of_no_sems (by decide) r.2⟩) (Cert.MemDwRefIdeal.Value.run m g)

end Cert.MemoryGrad
-- ==== Proof.Norm.FirstBlock.lean ====
/-
  ONE GRID POINT OF THE GRADIENT THROUGH THE FIRST NORM: a block of rows, and its part of the gain's gradient.
-/
module

public import proofs.«01_k».proof.Proof.Gen.NormBwdIdeal.Value
public import proofs.«01_k».proof.Proof.Norm.Shared

@[expose] public section

set_option maxRecDepth 16384

noncomputable section

namespace Cert.FirstNorm

open Idealize.ShloMosaic Idealize.ShloMosaic.Tactic Cert.NormBwdIdeal Cert.NormBwdIdeal.Gen Idealize.SL.Sem
open Cert.NormGrad (two rows gain)

variable (dn x : Vec Ideal S512x2048 .f32) (r : Vec Ideal S512x1 .f32) (g : Vec Ideal S1x2048 .f32) (dh : Vec Ideal S512x2048 .f32)

theorem pay2_at (a : Fin 512) (b : Fin 2048) : k0_pay2 x r (ix2 a b) = x (ix2 a b) * r (ix2 a 0) := by
  pointwise [k0_pay2]

theorem pay3_eq : k0_pay3 x r dn g r dh = rows dn x r g dh := by
  funext y
  obtain ⟨a, b, rfl⟩ := two y
  pointwise [k0_pay3]
  simp only [pay2_at]
  rfl

theorem pay4_eq : k0_pay4 x r dn g r dh = rows dn x r g dh := by
  rw [← pay3_eq]
  funext y
  obtain ⟨a, b, rfl⟩ := two y
  pointwise [k0_pay4]

theorem pay5_eq : k0_pay5 x r dn = gain dn x r := by
  funext y
  obtain ⟨a, b, rfl⟩ := two y
  pointwise [k0_pay5]
  simp only [pay2_at]
  rfl

theorem pay1_eq (prev : Vec Ideal S1x2048 .f32) : k0_pay1 (k0_pay5 x r dn) prev = fun y => prev y + gain dn x r y := by
  rw [pay5_eq]
  funext y
  obtain ⟨a, b, rfl⟩ := two y
  pointwise [k0_pay1]

variable (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x1 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S512x2048 .bf16) (harg7 : arg7.IsWhole) (arg8 : Memref sig .tc .vmem S1x2048 .f32) (harg8 : arg8.IsWhole)

/-- The first point's rows, whole width. -/
theorem outA5 (hc0 : cond0_0 i) (hc1 : ¬cond0_1 i) :
    out0_A_5 c i arg1 harg1 arg2 harg2 arg3 harg3 arg4 harg4 arg5 harg5 arg6 harg6 arg7 harg7 arg8 harg8 hc0 hc1 dn x r g dh = rows dn x r g dh := by
  unfold out0_A_5
  rw [View.read_writes_eq_canon _ _ _ (cover0_A_5 c i arg1 harg1 arg2 harg2 arg3 harg3 arg4 harg4 arg5 harg5 arg6 harg6 arg7 harg7 arg8 harg8 hc0 hc1 dn x r g dh)]
  unfold kernelRun0_A
  sl_unfold_words
  dsimp only
  simp only [View.readAt_eq_ld, harg1.read_unread, harg2.read_unread, harg3.read_unread, harg4.read_unread, harg5.read_unread]
  rw [View.canon_cons_unit_lit _ _ _ (by decide)]
  repeat rw [View.ld_unit_lit _ _ (by decide)]
  exact pay3_eq dn x r g dh

/-- The first point's rows, half width. -/
theorem outA6 (hc0 : cond0_0 i) (hc1 : ¬cond0_1 i) :
    out0_A_6 c i arg1 harg1 arg2 harg2 arg3 harg3 arg4 harg4 arg5 harg5 arg6 harg6 arg7 harg7 arg8 harg8 hc0 hc1 dn x r g dh = rows dn x r g dh := by
  unfold out0_A_6
  rw [View.read_writes_eq_canon _ _ _ (cover0_A_6 c i arg1 harg1 arg2 harg2 arg3 harg3 arg4 harg4 arg5 harg5 arg6 harg6 arg7 harg7 arg8 harg8 hc0 hc1 dn x r g dh)]
  unfold kernelRun0_A
  sl_unfold_words
  dsimp only
  simp only [View.readAt_eq_ld, harg1.read_unread, harg2.read_unread, harg3.read_unread, harg4.read_unread, harg5.read_unread]
  rw [View.canon_cons_unit_lit _ _ _ (by decide)]
  repeat rw [View.ld_unit_lit _ _ (by decide)]
  exact pay4_eq dn x r g dh

/-- The first point starts the gain's gradient. -/
theorem outA7 (hc0 : cond0_0 i) (hc1 : ¬cond0_1 i) :
    out0_A_7 c i arg1 harg1 arg2 harg2 arg3 harg3 arg4 harg4 arg5 harg5 arg6 harg6 arg7 harg7 arg8 harg8 hc0 hc1 dn x r g dh = gain dn x r := by
  unfold out0_A_7
  rw [View.read_writes_eq_canon _ _ _ (cover0_A_7 c i arg1 harg1 arg2 harg2 arg3 harg3 arg4 harg4 arg5 harg5 arg6 harg6 arg7 harg7 arg8 harg8 hc0 hc1 dn x r g dh)]
  unfold kernelRun0_A
  sl_unfold_words
  dsimp only
  simp only [View.readAt_eq_ld, harg1.read_unread, harg2.read_unread, harg3.read_unread]
  rw [View.canon_cons_unit_lit _ _ _ (by decide)]
  repeat rw [View.ld_unit_lit _ _ (by decide)]
  exact pay5_eq dn x r

variable (prev : Vec Ideal S1x2048 .f32)

/-- A later point's rows, whole width. -/
theorem outB5 (hc0 : ¬cond0_0 i) (hc1 : cond0_1 i) :
    out0_B_5 c i arg1 harg1 arg2 harg2 arg3 harg3 arg4 harg4 arg5 harg5 arg6 harg6 arg7 harg7 arg8 harg8 hc0 hc1 dn x r g dh prev = rows dn x r g dh := by
  unfold out0_B_5
  rw [View.read_writes_eq_canon _ _ _ (cover0_B_5 c i arg1 harg1 arg2 harg2 arg3 harg3 arg4 harg4 arg5 harg5 arg6 harg6 arg7 harg7 arg8 harg8 hc0 hc1 dn x r g dh prev)]
  unfold kernelRun0_B
  sl_unfold_words
  dsimp only
  simp only [View.readAt_eq_ld, harg1.read_unread, harg2.read_unread, harg3.read_unread, harg4.read_unread, harg5.read_unread]
  rw [View.canon_cons_unit_lit _ _ _ (by decide)]
  repeat rw [View.ld_unit_lit _ _ (by decide)]
  exact pay3_eq dn x r g dh

/-- A later point's rows, half width. -/
theorem outB6 (hc0 : ¬cond0_0 i) (hc1 : cond0_1 i) :
    out0_B_6 c i arg1 harg1 arg2 harg2 arg3 harg3 arg4 harg4 arg5 harg5 arg6 harg6 arg7 harg7 arg8 harg8 hc0 hc1 dn x r g dh prev = rows dn x r g dh := by
  unfold out0_B_6
  rw [View.read_writes_eq_canon _ _ _ (cover0_B_6 c i arg1 harg1 arg2 harg2 arg3 harg3 arg4 harg4 arg5 harg5 arg6 harg6 arg7 harg7 arg8 harg8 hc0 hc1 dn x r g dh prev)]
  unfold kernelRun0_B
  sl_unfold_words
  dsimp only
  simp only [View.readAt_eq_ld, harg1.read_unread, harg2.read_unread, harg3.read_unread, harg4.read_unread, harg5.read_unread]
  rw [View.canon_cons_unit_lit _ _ _ (by decide)]
  repeat rw [View.ld_unit_lit _ _ (by decide)]
  exact pay4_eq dn x r g dh

/-- A later point adds to the gain's gradient. -/
theorem outB7 (hc0 : ¬cond0_0 i) (hc1 : cond0_1 i) :
    out0_B_7 c i arg1 harg1 arg2 harg2 arg3 harg3 arg4 harg4 arg5 harg5 arg6 harg6 arg7 harg7 arg8 harg8 hc0 hc1 dn x r g dh prev = fun y => prev y + gain dn x r y := by
  unfold out0_B_7
  rw [View.read_writes_eq_canon _ _ _ (cover0_B_7 c i arg1 harg1 arg2 harg2 arg3 harg3 arg4 harg4 arg5 harg5 arg6 harg6 arg7 harg7 arg8 harg8 hc0 hc1 dn x r g dh prev)]
  unfold kernelRun0_B
  sl_unfold_words
  dsimp only
  simp only [View.readAt_eq_ld, harg1.read_unread, harg2.read_unread, harg3.read_unread, harg8.read_unread]
  rw [View.canon_cons_unit_lit _ _ _ (by decide)]
  repeat rw [View.ld_unit_lit _ _ (by decide)]
  exact pay1_eq dn x r prev

end Cert.FirstNorm
-- ==== Proof.Norm.FirstArray.lean ====
/-
  THE GRADIENT THROUGH THE FIRST NORM, AS WHOLE ARRAYS. 8 grid points, each a block of rows; the gain's gradient is added
  up over them. The gradient of the normalised rows is given; the rows' scale is computed before the kernel.
-/
module

public import proofs.«01_k».proof.Defs
public import proofs.«01_k».proof.Proof.Norm.FirstBlock
public import proofs.«01_k».proof.Proof.Norm.Claim
public import proofs.«01_k».proof.Proof.Gen.NormBwdRefIdeal.Run
public import proofs.«01_k».proof.Proof.Gen.NormBwdRefIdeal.Read
public import Idealize.ShloMosaic.Lib.Pipeline.ValueKit

@[expose] public section

set_option maxRecDepth 16384

noncomputable section

namespace Cert.FirstNorm

open Idealize.ShloMosaic Idealize.ShloMosaic.TcCoe Idealize.ShloMosaic.Tactic Cert.NormBwdIdeal Cert.NormBwdIdeal.Gen Idealize.SL.Sem
open Cert.NormGrad (Rows Gain scale meanSq width through rows gain rowAt two)
open Cert.NormSums

/-- The given gradient of the normalised rows, by row and column. -/
abbrev given (dn : Rows) : Fin 4096 → Fin 2048 → EReal := fun a b => dn (ix2 a b)

variable (m : (ℓ : Loc nD τ sig) → Buf (Elt Ideal) ℓ)

abbrev ad (c : Dev nD) : Rows := m ((c : Thread nD τ).loc main_arg0)
abbrev ax (c : Dev nD) : Rows := m ((c : Thread nD τ).loc main_arg1)
abbrev ag (c : Dev nD) : Gain := m ((c : Thread nD τ).loc main_arg2)
abbrev ah (c : Dev nD) : Rows := m ((c : Thread nD τ).loc main_arg3)

/-- The rows' scale is computed before the kernel as the reference of the other norm computes it. -/
theorem scale_host (c : Dev nD) : V m c main_v7 = Cert.NormRefIdeal.Read.val_main_v10 (F := Ideal) (ax m c) := by
  show StableHlo.after hostOps0 _ (Proc.devRef .tc main_v7) = _
  unfold hostOps0
  after_results_simp
  rfl

theorem index : ∀ t : Fin cfg0.N, (win0_0.index t = ![t.val, 0] ∧ win0_1.index t = ![t.val, 0]) ∧ (win0_2.index t = ![t.val, 0] ∧ win0_3.index t = ![0, 0])
    ∧ (win0_4.index t = ![t.val, 0] ∧ win0_5.index t = ![t.val, 0]) ∧ (win0_6.index t = ![t.val, 0] ∧ win0_7.index t = ![0, 0]) :=
  (by decide +kernel : ∀ t : Fin grid0.N, (win0_0.index t = ![t.val, 0] ∧ win0_1.index t = ![t.val, 0]) ∧ (win0_2.index t = ![t.val, 0] ∧ win0_3.index t = ![0, 0])
    ∧ (win0_4.index t = ![t.val, 0] ∧ win0_5.index t = ![t.val, 0]) ∧ (win0_6.index t = ![t.val, 0] ∧ win0_7.index t = ![0, 0]))

theorem lt_N (t : Fin cfg0.N) : t.val < 8 := by have := t.isLt; have hN : cfg0.N = 8 := N_0; omega

/-- A block of 512 whole rows read at its own number. -/
theorem place {t : Fin cfg0.N} {f : Fin 2 → Nat} (h : f = ![t.val, 0]) (p : Fin 512) : f 0 * 512 + 1 * p.val = (t.val * 512 + p.val) % 4096 := by
  subst h
  have ht := lt_N t
  show t.val * 512 + 1 * p.val = _
  omega
theorem along {t : Fin cfg0.N} {f : Fin 2 → Nat} (h : f = ![t.val, 0]) (p : Fin 2048) : f 1 * 2048 + 1 * p.val = p.val := by
  subst h
  show 0 * 2048 + 1 * p.val = _
  omega

theorem iblk0 (c : Dev nD) (t : Fin cfg0.N) : (iblk m c 0 t : Vec Ideal S512x2048 .f32) = xAt (ad m c) t.val := by
  funext j
  unfold iblk
  rw [View.read_apply]
  show V m c main_arg0 _ = m ((c : Thread nD τ).loc main_arg0) _
  rw [V_main_arg0]
  congr 1
  funext a
  apply Fin.ext
  match a with
  | ⟨0, _⟩ => exact place (index t).1.1 (j 0)
  | ⟨1, _⟩ => exact along (index t).1.1 (j 1)

theorem iblk1 (c : Dev nD) (t : Fin cfg0.N) : (iblk m c 1 t : Vec Ideal S512x2048 .f32) = xAt (ax m c) t.val := by
  funext j
  unfold iblk
  rw [View.read_apply]
  show V m c main_arg1 _ = m ((c : Thread nD τ).loc main_arg1) _
  rw [V_main_arg1]
  congr 1
  funext a
  apply Fin.ext
  match a with
  | ⟨0, _⟩ => exact place (index t).1.2 (j 0)
  | ⟨1, _⟩ => exact along (index t).1.2 (j 1)

theorem iblk2 (c : Dev nD) (t : Fin cfg0.N) : (iblk m c 2 t : Vec Ideal S512x1 .f32) = scaleAt (ax m c) t.val := by
  funext j
  unfold iblk scaleAt
  rw [View.read_apply, ← Cert.NormGrad.v10_at]
  show V m c main_v7 _ = _
  rw [scale_host m c]
  congr 1
  funext a
  apply Fin.ext
  have h1 : (j 1 : Nat) < 1 := (j 1).isLt
  match a with
  | ⟨0, _⟩ => exact place (index t).2.1.1 (j 0)
  | ⟨1, _⟩ => show win0_2.index t 1 * 1 + 1 * (j 1).val = 0; rw [(index t).2.1.1]; show 0 * 1 + _ = _; omega

theorem iblk3 (c : Dev nD) (t : Fin cfg0.N) : (iblk m c 3 t : Vec Ideal S1x2048 .f32) = ag m c := by
  funext j
  unfold iblk
  rw [View.read_apply]
  show V m c main_arg2 _ = m ((c : Thread nD τ).loc main_arg2) _
  rw [V_main_arg2]
  congr 1
  funext a
  apply Fin.ext
  match a with
  | ⟨0, _⟩ => show win0_3.index t 0 * 1 + 1 * (j 0).val = (j 0).val; rw [(index t).2.1.2]; show 0 * 1 + _ = _; omega
  | ⟨1, _⟩ => show win0_3.index t 1 * 2048 + 1 * (j 1).val = (j 1).val; rw [(index t).2.1.2]; show 0 * 2048 + _ = _; omega

theorem iblk4 (c : Dev nD) (t : Fin cfg0.N) : (iblk m c 4 t : Vec Ideal S512x2048 .f32) = xAt (ah m c) t.val := by
  funext j
  unfold iblk
  rw [View.read_apply]
  show V m c main_arg3 _ = m ((c : Thread nD τ).loc main_arg3) _
  rw [V_main_arg3]
  congr 1
  funext a
  apply Fin.ext
  match a with
  | ⟨0, _⟩ => exact place (index t).2.2.1.1 (j 0)
  | ⟨1, _⟩ => exact along (index t).2.2.1.1 (j 1)

/-- What every point leaves: its block of rows twice, and the gain's gradient so far. -/
theorem left (c : Dev nD) : ∀ (n : Nat) (h : n < cfg0.N), outsAt0 m c n h
    = (blockRows (given (ad m c)) (ax m c) (ag m c) (ah m c) n, blockRows (given (ad m c)) (ax m c) (ag m c) (ah m c) n, gainUpTo (given (ad m c)) (ax m c) (n + 1)) := by
  intro n
  induction n with
  | zero =>
    intro h
    have e := outsAt0_A m c ⟨0, h⟩ (by dsimp only) (by dsimp only; omega)
    dsimp only at e
    rw [e, outA5, outA6, outA7, iblk0, iblk1, iblk2, iblk3, iblk4]
    refine congrArg₂ Prod.mk rfl (congrArg₂ Prod.mk rfl ?_)
    funext y
    unfold gainUpTo
    rw [Finset.sum_range_one]
    rfl
  | succ n ih =>
    intro h
    have hl := lt_N ⟨n + 1, h⟩
    dsimp only at hl
    have e := outsAt0_B m c ⟨n + 1, h⟩ (by dsimp only; omega) (by dsimp only; omega)
    dsimp only at e
    rw [e, outB5, outB6, outB7, iblk0, iblk1, iblk2, iblk3, iblk4]
    refine congrArg₂ Prod.mk rfl (congrArg₂ Prod.mk rfl ?_)
    funext y
    have hp := congrArg (fun p => p.2.2 y) (ih (Nat.lt_of_succ_lt h))
    dsimp only at hp
    refine (congrArg (· + _) hp).trans ?_
    unfold gainUpTo
    rw [Finset.sum_range_succ _ (n + 1)]
    rfl

theorem final5 (c : Dev nD) : (dats m 0 c).arrAt 5 cfg0.N = allRows (given (ad m c)) (ax m c) (ag m c) (ah m c) := by
  refine (dats m 0 c).arrAt_eq_of_covers 5 _ (by decide +kernel) fun t hf y => ?_
  have ht := lt_N t
  blk_simp
  rw [after0_5, left m c t.val t.isLt]
  refine congrArg (allRows (given (ad m c)) (ax m c) (ag m c) (ah m c)) ?_
  blk_ext [(index t).2.2.1.2]
  show (t.val * 512 + (y 0).val) % 4096 = _
  omega

theorem final6 (c : Dev nD) : (dats m 0 c).arrAt 6 cfg0.N = allRows (given (ad m c)) (ax m c) (ag m c) (ah m c) := by
  refine (dats m 0 c).arrAt_eq_of_covers 6 _ (by decide +kernel) fun t hf y => ?_
  have ht := lt_N t
  blk_simp
  rw [after0_6, left m c t.val t.isLt]
  refine congrArg (allRows (given (ad m c)) (ax m c) (ag m c) (ah m c)) ?_
  blk_ext [(index t).2.2.2.1]
  show (t.val * 512 + (y 0).val) % 4096 = _
  omega

theorem final7 (c : Dev nD) : (dats m 0 c).arrAt 7 cfg0.N = allGain (given (ad m c)) (ax m c) := by
  refine (dats m 0 c).arrAt_eq_of_covers 7 _ (by decide +kernel) fun t hf y => ?_
  have h7 : t.val = 7 := by have := (flush0_7 t).mp hf; have := lt_N t; omega
  blk_simp
  rw [after0_7, left m c t.val t.isLt, show t.val + 1 = 8 by omega]
  dsimp only
  rw [gain_full]
  refine congrArg (allGain (given (ad m c)) (ax m c)) ?_
  blk_ext [(index t).2.2.2.2]

section Reference

open Cert.NormBwdRefIdeal Cert.NormBwdRefIdeal.Read

variable (dn : Rows) (x : Rows) (g : Gain) (dh : Rows)

theorem v7_at (a : Fin 4096) : val_main_v7 (F := Ideal) x (ix2 a 0) = meanSq x a := Cert.NormGrad.v9_at x a
theorem v8_at (a : Fin 4096) : val_main_v8 (F := Ideal) x (ix2 a 0) = scale x a := Cert.NormGrad.v10_at x a
theorem v11_at (a : Fin 4096) : val_main_v11 (F := Ideal) x (ix2 a 0) = Ideal.ofBits .f32 0xBF000000#32 * Ideal.div (scale x a) (meanSq x a) := Cert.NormGrad.v13_at x a

theorem v21_at (a : Fin 4096) (b : Fin 2048) : val_main_v21 (F := Ideal) dn g (ix2 a b) = dn (ix2 a b) * g (ix2 0 b) := by
  pointwise [val_main_v21, val_main_v20, val_main_v14, val_main_v0]

theorem v30_at (a : Fin 4096) : val_main_v30 (F := Ideal) dn x g (ix2 a 0)
    = Ideal.div ((∑ k : Fin 2048, x (ix2 a k) * (dn (ix2 a k) * g (ix2 0 k))) * (Ideal.ofBits .f32 0xBF000000#32 * Ideal.div (scale x a) (meanSq x a))) width := by
  pointwise [val_main_v30, val_main_v28, val_main_v29, val_main_cst_6, val_main_v25, val_main_v24, val_main_v23, val_main_cst_5]
  simp only [v21_at]
  rw [v11_at]
  rfl

theorem v31_at (a : Fin 4096) : val_main_v31 (F := Ideal) dn x g (ix1 a) = val_main_v30 (F := Ideal) dn x g (ix2 a 0) := by
  pointwise [val_main_v31, val_main_cst_7]
  exact Fin.sum_univ_one fun k => val_main_v30 (F := Ideal) dn x g (ix2 a k)

theorem ref_rows : val_main_v38 (F := Ideal) dn x g dh = allRows (given dn) x g dh := by
  funext y
  obtain ⟨a, b, rfl⟩ := two y
  pointwise [val_main_v38, val_main_v36, val_main_v34, val_main_v27, val_main_v33, val_main_v35, val_main_v32, val_main_v26]
  rw [v21_at, v31_at, v30_at, v8_at]
  exact congrArg (dh (ix2 a b) + ·) (entry (given dn) x g a b)

theorem ref_rows_half : val_main_v40 (F := Ideal) dn x g dh = allRows (given dn) x g dh := by
  rw [← ref_rows]
  funext y
  obtain ⟨a, b, rfl⟩ := two y
  pointwise [val_main_v40, val_main_v39, val_main_v38]

theorem v17_at (a : Fin 4096) (b : Fin 2048) : val_main_v17 (F := Ideal) dn x (ix2 a b) = gainRow (given dn) x b a := by
  pointwise [val_main_v17, val_main_v13, val_main_v12]
  rw [v8_at, mul_comm]
  rfl

theorem ref_gain : val_main_v37 (F := Ideal) dn x = allGain (given dn) x := by
  funext y
  obtain ⟨a, b, rfl⟩ := two y
  pointwise [val_main_v37, val_main_v22, val_main_v19, val_main_v18, val_main_cst_3, val_main_cst_4]
  simp only [v17_at]
  exact Fin.sum_univ_one fun _ => ∑ r : Fin 4096, gainRow (given dn) x b r

end Reference

theorem algebraic : Cert.algebraic_NormBwdIdeal_NormBwdRefIdeal := by
  intro m g m' g' _ hargs
  refine ⟨fun c => allRows (given (ad m c)) (ax m c) (ag m c) (ah m c), fun c => allRows (given (ad m c)) (ax m c) (ag m c) (ah m c), fun c => allGain (given (ad m c)) (ax m c), ?_, ?_⟩
  · refine (θ_run _ _ _).mono (fun r h c => ?_) (Cert.NormBwdIdeal.Value.run_blocks m g)
    obtain ⟨h5, h6, h7, hk⟩ := h c
    exact ⟨h5.trans (final5 m c), h6.trans (final6 m c), h7.trans (final7 m c), hk⟩
  · refine (θ_run _ _ _).mono (fun r h c => ?_) (Cert.NormBwdRefIdeal.Value.run m' g')
    obtain ⟨h38, h40, h37, hk⟩ := h c
    obtain ⟨e0, e1, e2, e3⟩ := hargs c
    refine ⟨h38.trans ?_, h40.trans ?_, h37.trans ?_, hk⟩
    · rw [Cert.NormBwdRefIdeal.Read.val_main_v38_eq, e0, e1, e2, e3]
      exact ref_rows _ _ _ _
    · rw [Cert.NormBwdRefIdeal.Read.val_main_v40_eq, e0, e1, e2, e3]
      exact ref_rows_half _ _ _ _
    · rw [Cert.NormBwdRefIdeal.Read.val_main_v37_eq, e0, e1]
      exact ref_gain _ _

/-- The reference runs, leaves its arguments, and declares no semaphore. -/
theorem frame_ref : Cert.quiescent_NormBwdRefIdeal := fun m g _ =>
  (θ_run _ _ _).mono (fun r h => ⟨fun c => (h c).2.2.2, sem_eq_zero_of_no_sems (by decide) r.2⟩) (Cert.NormBwdRefIdeal.Value.run m g)

end Cert.FirstNorm
-- ==== Proof.Norm.Forward.lean ====
/-
  THE NORM ITSELF, ROW BY ROW: a row's scale, and the normalised rows.
-/
module

public import Idealize.ShloMosaic.Lib.Pointwise
public import proofs.«01_k».proof.Proof.Common.Blocks

@[expose] public section

noncomputable section

namespace Cert.NormRows

open Idealize.ShloMosaic

/-- A row's scale: one over the root of its mean square with the small constant added. -/
def scaleOf (x : Fin 2048 → EReal) : EReal :=
  Ideal.rsqrt (Ideal.div (∑ k : Fin 2048, x k * x k) (Ideal.ofBits .f32 0x45000000#32) + Ideal.ofBits .f32 0x358637BD#32)

variable {n : Nat}

/-- The rows' scales. -/
def scales (x : Vec Ideal ⟨2, ![n, 2048]⟩ .f32) : Vec Ideal ⟨2, ![n, 1]⟩ .f32 := fun y => scaleOf fun k => x (ix2 (y 0) k)
/-- The normalised rows. -/
def normed (x : Vec Ideal ⟨2, ![n, 2048]⟩ .f32) (g : Vec Ideal ⟨2, ![1, 2048]⟩ .f32) : Vec Ideal ⟨2, ![n, 2048]⟩ .bf16 :=
  fun y => x y * (scaleOf fun k => x (ix2 (y 0) k)) * g (ix2 0 (y 1))

end Cert.NormRows
-- ==== Proof.Norm.FirstForward.lean ====
/-
  THE FORWARD NORMS' CALL: 8 grid points, each normalising a block of rows and keeping the rows' scales.
-/
module

public import proofs.«01_k».proof.Defs
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Norm.Forward
public import Idealize.ShloMosaic.Lib.Pipeline.ValueKit

@[expose] public section

set_option maxRecDepth 16384

noncomputable section

namespace Cert.NormForward

open Idealize.ShloMosaic Idealize.ShloMosaic.TcCoe Idealize.ShloMosaic.Tactic Cert.NormFwdIdeal Cert.NormFwdIdeal.Gen Idealize.SL.Sem Cert.Blocks Cert.NormRows

theorem pay1_at (x : Vec Ideal S512x2048 .f32) (i : Fin 512) (j : Fin 1) : k0_pay1 x (ix2 i j) = scaleOf fun k => x (ix2 i k) := by
  pointwise [k0_pay1]
  rfl

theorem pay2_at (x : Vec Ideal S512x2048 .f32) (g : Vec Ideal S1x2048 .f32) (i : Fin 512) (j : Fin 2048) :
    k0_pay2 x g (ix2 i j) = x (ix2 i j) * (scaleOf fun k => x (ix2 i k)) * g (ix2 0 j) := by
  pointwise [k0_pay2]
  rw [pay1_at]

variable (m : (ℓ : Loc nD τ sig) → Buf (Elt Ideal) ℓ)

abbrev ax (c : Dev nD) : Vec Ideal S4096x2048 .f32 := m ((c : Thread nD τ).loc main_arg0)
abbrev ag (c : Dev nD) : Vec Ideal S1x2048 .f32 := m ((c : Thread nD τ).loc main_arg1)

theorem index : ∀ t : Fin cfg0.N, (win0_0.index t = ![t.val, 0] ∧ win0_1.index t = ![0, 0]) ∧ (win0_2.index t = ![t.val, 0] ∧ win0_3.index t = ![t.val, 0]) :=
  (by decide +kernel : ∀ t : Fin grid0.N, (win0_0.index t = ![t.val, 0] ∧ win0_1.index t = ![0, 0]) ∧ (win0_2.index t = ![t.val, 0] ∧ win0_3.index t = ![t.val, 0]))

theorem final2 (c : Dev nD) : (dats m 0 c).arrAt 2 cfg0.N = normed (n := 4096) (ax m c) (ag m c) := by
  refine (dats m 0 c).arrAt_eq_of_covers 2 _ (by decide +kernel) fun t hf y => ?_
  blk_simp
  rw [after0_2]
  frame_out
  refine (congrArg (k0_pay2 _ _) (eq_ix2 y)).trans ((pay2_at _ _ _ _).trans ?_)
  refine congrArg₂ (· * ·) (congrArg₂ (· * ·) ?_ (congrArg scaleOf (funext fun k => ?_))) ?_
  · blk_ext [iblk, V, (index t).1.1, (index t).2.1]
  · blk_ext [iblk, V, (index t).1.1, (index t).2.1]
  · blk_ext [iblk, V, (index t).1.2, (index t).2.1]

theorem final3 (c : Dev nD) : (dats m 0 c).arrAt 3 cfg0.N = scales (n := 4096) (ax m c) := by
  refine (dats m 0 c).arrAt_eq_of_covers 3 _ (by decide +kernel) fun t hf y => ?_
  blk_simp
  rw [after0_3]
  frame_out
  refine (congrArg (k0_pay1 _) (eq_ix2 y)).trans ((pay1_at _ _ _).trans ?_)
  refine congrArg scaleOf (funext fun k => ?_)
  blk_ext [iblk, V, (index t).1.1, (index t).2.2]

section Reference

open Cert.NormFwdRefIdeal Cert.NormFwdRefIdeal.Read

variable (x : Vec Ideal Cert.NormFwdIdeal.S4096x2048 .f32) (g : Vec Ideal Cert.NormFwdIdeal.S1x2048 .f32)

theorem v8_at (a : Fin 4096) (b : Fin 1) : val_main_v8 (F := Ideal) x (ix2 a b) = scaleOf fun k => x (ix2 a k) := by
  pointwise [val_main_v8, val_main_v7, val_main_v6, val_main_v5, val_main_v4, val_main_v3, val_main_v2, val_main_v1, val_main_cst, val_main_cst_0, val_main_cst_1]
  rfl

theorem ref_scales : val_main_v22 (F := Ideal) x = scales (n := 4096) x := by
  funext y
  exact (congrArg (val_main_v8 (F := Ideal) x) (eq_ix2 y)).trans (v8_at x _ _)

theorem ref_normed : val_main_v14 (F := Ideal) x g = normed (n := 4096) x g := by
  funext y
  refine (congrArg (val_main_v14 (F := Ideal) x g) (eq_ix2 y)).trans ?_
  pointwise [val_main_v14, val_main_v13, val_main_v12, val_main_v11, val_main_v10, val_main_v9, val_main_v0]
  exact congrArg (fun s => x y * s * g (ix2 0 (y 1))) (v8_at x (y 0) 0)

end Reference

theorem algebraic : Cert.algebraic_NormFwdIdeal_NormFwdRefIdeal := by
  intro m g m' g' _ hargs
  refine ⟨fun c => normed (n := 4096) (ax m c) (ag m c), fun c => scales (n := 4096) (ax m c), ?_, ?_⟩
  · refine (θ_run _ _ _).mono (fun r h c => ?_) (Cert.NormFwdIdeal.Value.run_blocks m g)
    obtain ⟨h2, h3, hk⟩ := h c
    exact ⟨h2.trans (final2 m c), h3.trans (final3 m c), hk⟩
  · refine (θ_run _ _ _).mono (fun r h c => ?_) (Cert.NormFwdRefIdeal.Value.run m' g')
    obtain ⟨h14, h22, hk⟩ := h c
    obtain ⟨e0, e1⟩ := hargs c
    refine ⟨h14.trans ?_, h22.trans ?_, hk⟩
    · rw [Cert.NormFwdRefIdeal.Read.val_main_v14_eq, e0, e1]
      exact ref_normed _ _
    · rw [Cert.NormFwdRefIdeal.Read.val_main_v22_eq, e0]
      exact ref_scales _

/-- The reference runs, leaves its arguments, and declares no semaphore. -/
theorem frame_ref : Cert.quiescent_NormFwdRefIdeal := fun m g _ =>
  (θ_run _ _ _).mono (fun r h => ⟨fun c => (h c).2.2, sem_eq_zero_of_no_sems (by decide) r.2⟩) (Cert.NormFwdRefIdeal.Value.run m g)

end Cert.NormForward
-- ==== Proof.Norm.MemoryForward.lean ====
/-
  THE FORWARD NORM OF THE MEMORY: one grid point normalises all 256 rows and keeps their scales.
-/
module

public import proofs.«01_k».proof.Defs
public import proofs.«01_k».proof.Proof.Gen.MemNormIdeal.Value
public import proofs.«01_k».proof.Proof.Gen.MemNormRefIdeal.Run
public import proofs.«01_k».proof.Proof.Gen.MemNormRefIdeal.Read
public import proofs.«01_k».proof.Proof.Norm.Forward
public import Idealize.ShloMosaic.Lib.Pipeline.ValueKit

@[expose] public section

set_option maxRecDepth 16384

noncomputable section

namespace Cert.MemoryNorm

open Idealize.ShloMosaic Idealize.ShloMosaic.TcCoe Idealize.ShloMosaic.Tactic Cert.MemNormIdeal Cert.MemNormIdeal.Gen Idealize.SL.Sem Cert.Blocks Cert.NormRows

theorem pay1_at (x : Vec Ideal S256x2048 .f32) (i : Fin 256) (j : Fin 1) : k0_pay1 x (ix2 i j) = scaleOf fun k => x (ix2 i k) := by
  pointwise [k0_pay1]
  rfl

theorem pay2_at (x : Vec Ideal S256x2048 .f32) (g : Vec Ideal S1x2048 .f32) (i : Fin 256) (j : Fin 2048) :
    k0_pay2 x g (ix2 i j) = x (ix2 i j) * (scaleOf fun k => x (ix2 i k)) * g (ix2 0 j) := by
  pointwise [k0_pay2]
  rw [pay1_at]

variable (m : (ℓ : Loc nD τ sig) → Buf (Elt Ideal) ℓ)

abbrev ax (c : Dev nD) : Vec Ideal S256x2048 .f32 := m ((c : Thread nD τ).loc main_arg0)
abbrev ag (c : Dev nD) : Vec Ideal S1x2048 .f32 := m ((c : Thread nD τ).loc main_arg1)

theorem index : ∀ t : Fin cfg0.N, (win0_0.index t = ![0, 0] ∧ win0_1.index t = ![0, 0]) ∧ (win0_2.index t = ![0, 0] ∧ win0_3.index t = ![0, 0]) :=
  (by decide +kernel : ∀ t : Fin grid0.N, (win0_0.index t = ![0, 0] ∧ win0_1.index t = ![0, 0]) ∧ (win0_2.index t = ![0, 0] ∧ win0_3.index t = ![0, 0]))

theorem final2 (c : Dev nD) : (dats m 0 c).arrAt 2 cfg0.N = normed (n := 256) (ax m c) (ag m c) := by
  refine (dats m 0 c).arrAt_eq_of_covers 2 _ (by decide +kernel) fun t hf y => ?_
  blk_simp
  rw [after0_2]
  frame_out
  refine (congrArg (k0_pay2 _ _) (eq_ix2 y)).trans ((pay2_at _ _ _ _).trans ?_)
  refine congrArg₂ (· * ·) (congrArg₂ (· * ·) ?_ (congrArg scaleOf (funext fun k => ?_))) ?_
  · blk_ext [iblk, V, (index t).1.1, (index t).2.1]
  · blk_ext [iblk, V, (index t).1.1, (index t).2.1]
  · blk_ext [iblk, V, (index t).1.2, (index t).2.1]

theorem final3 (c : Dev nD) : (dats m 0 c).arrAt 3 cfg0.N = scales (n := 256) (ax m c) := by
  refine (dats m 0 c).arrAt_eq_of_covers 3 _ (by decide +kernel) fun t hf y => ?_
  blk_simp
  rw [after0_3]
  frame_out
  refine (congrArg (k0_pay1 _) (eq_ix2 y)).trans ((pay1_at _ _ _).trans ?_)
  refine congrArg scaleOf (funext fun k => ?_)
  blk_ext [iblk, V, (index t).1.1, (index t).2.2]

section Reference

open Cert.MemNormRefIdeal Cert.MemNormRefIdeal.Read

variable (x : Vec Ideal Cert.MemNormIdeal.S256x2048 .f32) (g : Vec Ideal Cert.MemNormIdeal.S1x2048 .f32)

theorem v8_at (a : Fin 256) (b : Fin 1) : val_main_v8 (F := Ideal) x (ix2 a b) = scaleOf fun k => x (ix2 a k) := by
  pointwise [val_main_v8, val_main_v7, val_main_v6, val_main_v5, val_main_v4, val_main_v3, val_main_v2, val_main_v1, val_main_cst, val_main_cst_0, val_main_cst_1]
  rfl

theorem ref_scales : val_main_v22 (F := Ideal) x = scales (n := 256) x := by
  funext y
  exact (congrArg (val_main_v8 (F := Ideal) x) (eq_ix2 y)).trans (v8_at x _ _)

theorem ref_normed : val_main_v14 (F := Ideal) x g = normed (n := 256) x g := by
  funext y
  refine (congrArg (val_main_v14 (F := Ideal) x g) (eq_ix2 y)).trans ?_
  pointwise [val_main_v14, val_main_v13, val_main_v12, val_main_v11, val_main_v10, val_main_v9, val_main_v0]
  exact congrArg (fun s => x y * s * g (ix2 0 (y 1))) (v8_at x (y 0) 0)

end Reference

theorem algebraic : Cert.algebraic_MemNormIdeal_MemNormRefIdeal := by
  intro m g m' g' _ hargs
  refine ⟨fun c => normed (n := 256) (ax m c) (ag m c), fun c => scales (n := 256) (ax m c), ?_, ?_⟩
  · refine (θ_run _ _ _).mono (fun r h c => ?_) (Cert.MemNormIdeal.Value.run_blocks m g)
    obtain ⟨h2, h3, hk⟩ := h c
    exact ⟨h2.trans (final2 m c), h3.trans (final3 m c), hk⟩
  · refine (θ_run _ _ _).mono (fun r h c => ?_) (Cert.MemNormRefIdeal.Value.run m' g')
    obtain ⟨h14, h22, hk⟩ := h c
    obtain ⟨e0, e1⟩ := hargs c
    refine ⟨h14.trans ?_, h22.trans ?_, hk⟩
    · rw [Cert.MemNormRefIdeal.Read.val_main_v14_eq, e0, e1]
      exact ref_normed _ _
    · rw [Cert.MemNormRefIdeal.Read.val_main_v22_eq, e0]
      exact ref_scales _

/-- The reference runs, leaves its arguments, and declares no semaphore. -/
theorem frame_ref : Cert.quiescent_MemNormRefIdeal := fun m g _ =>
  (θ_run _ _ _).mono (fun r h => ⟨fun c => (h c).2.2, sem_eq_zero_of_no_sems (by decide) r.2⟩) (Cert.MemNormRefIdeal.Value.run m g)

end Cert.MemoryNorm
-- ==== Proof.Norm.MemoryGain.lean ====
/-
  THE GRADIENT OF THE MEMORY'S NORM GAIN: one grid point adds the gradients from the keys and from the values, and sums
  over the rows. The rows' scale is computed before the kernel by the reference's own lines.
-/
module

public import proofs.«01_k».proof.Defs
public import proofs.«01_k».proof.Proof.Gen.GainGradIdeal.Value
public import proofs.«01_k».proof.Proof.Gen.GainGradRefIdeal.Run
public import proofs.«01_k».proof.Proof.Gen.GainGradRefIdeal.Read
public import proofs.«01_k».proof.Proof.Norm.Forward
public import Idealize.ShloMosaic.Lib.Pipeline.ValueKit

@[expose] public section

set_option maxRecDepth 16384

noncomputable section

namespace Cert.MemoryGain

open Idealize.ShloMosaic Idealize.ShloMosaic.TcCoe Idealize.ShloMosaic.Tactic Cert.GainGradIdeal Cert.GainGradIdeal.Gen Idealize.SL.Sem Cert.Blocks Cert.NormRows

abbrev Rows := Vec Ideal S256x2048 .f32

/-- The gain's gradient at one column, from the two gradients, the memory and its rows' scales. -/
def gainAt (p q x : Rows) (r : Fin 256 → EReal) (b : Fin 2048) : EReal := ∑ a : Fin 256, (p (ix2 a b) + q (ix2 a b)) * (x (ix2 a b) * r a)
/-- The gain's gradient. -/
def allGain (p q x : Rows) : Vec Ideal S1x2048 .f32 := fun y => gainAt p q x (fun a => scaleOf fun k => x (ix2 a k)) (y 1)

theorem pay1_at (p q x : Rows) (r : Vec Ideal S256x1 .f32) (i : Fin 1) (j : Fin 2048) : k0_pay1 p q x r (ix2 i j) = gainAt p q x (fun a => r (ix2 a 0)) j := by
  pointwise [k0_pay1]
  rfl

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S1x2048 .f32) (harg5 : arg5.IsWhole) (p q x : Rows) (r : Vec Ideal S256x1 .f32)

/-- What the one point leaves. -/
theorem outA4 (hc0 : cond0_0 i) (hc1 : ¬cond0_1 i) : out0_A_4 c i arg1 harg1 arg2 harg2 arg3 harg3 arg4 harg4 arg5 harg5 hc0 hc1 p q x r = k0_pay1 p q x r := by
  unfold out0_A_4
  rw [View.read_writes_eq_canon _ _ _ (cover0_A_4 c i arg1 harg1 arg2 harg2 arg3 harg3 arg4 harg4 arg5 harg5 hc0 hc1 p q x r)]
  unfold kernelRun0_A
  sl_unfold_words
  dsimp only
  simp only [View.readAt_eq_ld, harg1.read_unread, harg2.read_unread, harg3.read_unread, harg4.read_unread]
  rw [View.canon_cons_unit_lit _ _ _ (by decide)]
  repeat rw [View.ld_unit_lit _ _ (by decide)]

variable (m : (ℓ : Loc nD τ sig) → Buf (Elt Ideal) ℓ)

abbrev ap (c : Dev nD) : Rows := m ((c : Thread nD τ).loc main_arg0)
abbrev aq (c : Dev nD) : Rows := m ((c : Thread nD τ).loc main_arg1)
abbrev ax (c : Dev nD) : Rows := m ((c : Thread nD τ).loc main_arg2)

/-- The reference's scale of a row. -/
theorem v9_at (x : Rows) (a : Fin 256) : Cert.GainGradRefIdeal.Read.val_main_v9 (F := Ideal) x (ix2 a 0) = scaleOf fun k => x (ix2 a k) := by
  pointwise [Cert.GainGradRefIdeal.Read.val_main_v9, Cert.GainGradRefIdeal.Read.val_main_v8, Cert.GainGradRefIdeal.Read.val_main_v7, Cert.GainGradRefIdeal.Read.val_main_v6, Cert.GainGradRefIdeal.Read.val_main_v5, Cert.GainGradRefIdeal.Read.val_main_v4, Cert.GainGradRefIdeal.Read.val_main_v3, Cert.GainGradRefIdeal.Read.val_main_v2, Cert.GainGradRefIdeal.Read.val_main_cst_0, Cert.GainGradRefIdeal.Read.val_main_cst_1, Cert.GainGradRefIdeal.Read.val_main_cst_2]
  rfl

/-- The rows' scale is computed before the kernel as the reference computes it. -/
theorem scale_host (c : Dev nD) : V m c main_v7 = Cert.GainGradRefIdeal.Read.val_main_v9 (F := Ideal) (ax m c) := by
  show StableHlo.after hostOps0 _ (Proc.devRef .tc main_v7) = _
  unfold hostOps0
  after_results_simp
  rfl

theorem index : ∀ t : Fin cfg0.N, (win0_0.index t = ![0, 0] ∧ win0_1.index t = ![0, 0]) ∧ (win0_2.index t = ![0, 0] ∧ win0_3.index t = ![0, 0]) ∧ win0_4.index t = ![0, 0] :=
  (by decide +kernel : ∀ t : Fin grid0.N, (win0_0.index t = ![0, 0] ∧ win0_1.index t = ![0, 0]) ∧ (win0_2.index t = ![0, 0] ∧ win0_3.index t = ![0, 0]) ∧ win0_4.index t = ![0, 0])

/-- A block that is the whole array, read in place. -/
theorem whole {f : Fin 2 → Nat} (h : f = ![0, 0]) (A B p q : Nat) : f 0 * A + 1 * p = p ∧ f 1 * B + 1 * q = q := by
  subst h
  exact ⟨by show 0 * A + 1 * p = p; omega, by show 0 * B + 1 * q = q; omega⟩

theorem iblk0 (c : Dev nD) (t : Fin cfg0.N) : (iblk m c 0 t : Rows) = ap m c := by
  funext j
  unfold iblk
  rw [View.read_apply]
  show V m c main_arg0 _ = m ((c : Thread nD τ).loc main_arg0) _
  rw [V_main_arg0]
  congr 1
  funext a
  apply Fin.ext
  match a with
  | ⟨0, _⟩ => exact (whole (index t).1.1 256 2048 (j 0).val (j 1).val).1
  | ⟨1, _⟩ => exact (whole (index t).1.1 256 2048 (j 0).val (j 1).val).2

theorem iblk1 (c : Dev nD) (t : Fin cfg0.N) : (iblk m c 1 t : Rows) = aq m c := by
  funext j
  unfold iblk
  rw [View.read_apply]
  show V m c main_arg1 _ = m ((c : Thread nD τ).loc main_arg1) _
  rw [V_main_arg1]
  congr 1
  funext a
  apply Fin.ext
  match a with
  | ⟨0, _⟩ => exact (whole (index t).1.2 256 2048 (j 0).val (j 1).val).1
  | ⟨1, _⟩ => exact (whole (index t).1.2 256 2048 (j 0).val (j 1).val).2

theorem iblk2 (c : Dev nD) (t : Fin cfg0.N) : (iblk m c 2 t : Rows) = ax m c := by
  funext j
  unfold iblk
  rw [View.read_apply]
  show V m c main_arg2 _ = m ((c : Thread nD τ).loc main_arg2) _
  rw [V_main_arg2]
  congr 1
  funext a
  apply Fin.ext
  match a with
  | ⟨0, _⟩ => exact (whole (index t).2.1.1 256 2048 (j 0).val (j 1).val).1
  | ⟨1, _⟩ => exact (whole (index t).2.1.1 256 2048 (j 0).val (j 1).val).2

theorem iblk3 (c : Dev nD) (t : Fin cfg0.N) : (iblk m c 3 t : Vec Ideal S256x1 .f32) = Cert.GainGradRefIdeal.Read.val_main_v9 (F := Ideal) (ax m c) := by
  funext j
  unfold iblk
  rw [View.read_apply]
  show V m c main_v7 _ = _
  rw [scale_host m c]
  congr 1
  funext a
  apply Fin.ext
  match a with
  | ⟨0, _⟩ => exact (whole (index t).2.1.2 256 1 (j 0).val (j 1).val).1
  | ⟨1, _⟩ => exact (whole (index t).2.1.2 256 1 (j 0).val (j 1).val).2

theorem final (c : Dev nD) : (dats m 0 c).arrAt 4 cfg0.N = allGain (ap m c) (aq m c) (ax m c) := by
  refine (dats m 0 c).arrAt_eq_of_covers 4 _ (by decide +kernel) fun t hf y => ?_
  blk_simp
  rw [after0_4]
  unfold outsAt0
  rw [outA4, iblk0, iblk1, iblk2, iblk3]
  refine (congrArg (k0_pay1 _ _ _ _) (eq_ix2 y)).trans ((pay1_at _ _ _ _ _ _).trans ?_)
  simp only [v9_at]
  refine congrArg (gainAt (ap m c) (aq m c) (ax m c) fun a => scaleOf fun k => ax m c (ix2 a k)) (Fin.ext ?_)
  exact (whole (index t).2.2 1 2048 (y 0).val (y 1).val).2.symm

section Reference

open Cert.GainGradRefIdeal Cert.GainGradRefIdeal.Read

theorem v16_at (p q x : Rows) (a : Fin 256) (b : Fin 2048) :
    val_main_v16 (F := Ideal) p q x (ix2 a b) = (p (ix2 a b) + q (ix2 a b)) * (x (ix2 a b) * scaleOf fun k => x (ix2 a k)) := by
  pointwise [val_main_v16, val_main_v15, val_main_v11, val_main_v10]
  rw [v9_at, mul_comm]

theorem v20_at (p q x : Rows) (i : Fin 1) (j : Fin 2048) : val_main_v20 (F := Ideal) p q x (ix2 i j) = gainAt p q x (fun a => scaleOf fun k => x (ix2 a k)) j := by
  pointwise [val_main_v20, val_main_v19, val_main_v18, val_main_v17, val_main_cst_3, val_main_cst_4]
  simp only [v16_at]
  exact Fin.sum_univ_one fun _ => gainAt p q x (fun a => scaleOf fun k => x (ix2 a k)) j

theorem ref_gain (p q x : Rows) : val_main_v20 (F := Ideal) p q x = allGain p q x := by
  funext y
  exact (congrArg (val_main_v20 (F := Ideal) p q x) (eq_ix2 y)).trans (v20_at p q x _ _)

end Reference

theorem algebraic : Cert.algebraic_GainGradIdeal_GainGradRefIdeal := by
  pair_intro
  · run_from Cert.GainGradIdeal.Value.run_blocks m g
  · run_from Cert.GainGradRefIdeal.Value.run m' g'
    rw [final m c, Cert.GainGradRefIdeal.Read.val_main_v20_eq]
    exact ref_gain _ _ _

/-- The reference runs, leaves its arguments, and declares no semaphore. -/
theorem frame_ref : Cert.quiescent_GainGradRefIdeal := fun m g _ =>
  (θ_run _ _ _).mono (fun r h => ⟨fun c => (h c).2, sem_eq_zero_of_no_sems (by decide) r.2⟩) (Cert.GainGradRefIdeal.Value.run m g)

end Cert.MemoryGain
-- ==== Proof.Attn.Forward.lean ====
/-
  THE ATTENTION ITSELF. Every grid point takes 512 rows of queries and writes, head by head, the softmax of the scores
  against the memory's keys times the memory's values. The reference does the same to all rows at once.
-/
module

public import proofs.«01_k».proof.Defs
public import proofs.«01_k».proof.Proof.Attn.Ref
public import proofs.«01_k».proof.Proof.Common.Blocks
public import proofs.«01_k».proof.Proof.Gen.AttnFwdIdeal.Value
public import proofs.«01_k».proof.Proof.Gen.AttnFwdRefIdeal.Run
public import proofs.«01_k».proof.Proof.Gen.AttnFwdRefIdeal.Read
public import Idealize.ShloMosaic.Lib.Pipeline.ValueKit

@[expose] public section

set_option maxRecDepth 16384

noncomputable section

namespace Cert.AttnForward

open Idealize.ShloMosaic Idealize.ShloMosaic.TcCoe Idealize.ShloMosaic.Tactic Cert.AttnFwdIdeal Cert.AttnFwdIdeal.Gen Idealize.SL.Sem Cert.Blocks
open Cert.Attn (scale pr zz ex top col head head_col score scoreF rowAt blk ldRow ldMem col_split rowAt_lt)

/-- One head's columns of a block of rows, and of the memory. -/
abbrev HeadRows := Vec Ideal S512x512 .bf16
abbrev HeadMem := Vec Ideal S256x512 .bf16
abbrev Rows := Vec Ideal S4096x2048 .bf16
abbrev Mems := Vec Ideal S256x2048 .bf16

/-- One head's result at a row and a column. -/
def headOut (q : HeadRows) (k v : HeadMem) (r d : Fin 512) : EReal :=
  ∑ m : Fin 256, pr (fun m => (∑ d : Fin 512, q (ix2 r d) * k (ix2 m d)) * scale) m * v (ix2 m d)

theorem pay2_at (q : HeadRows) (k v : HeadMem) (r d : Fin 512) : k0_pay2 q k v (ix2 r d) = headOut q k v r d := by
  pointwise [k0_pay2]
  rfl

theorem pay3_at (q : HeadRows) (k : HeadMem) (r : Fin 512) (m : Fin 256) :
    k0_pay3 q k (ix2 r m) = pr (fun m => (∑ d : Fin 512, q (ix2 r d) * k (ix2 m d)) * scale) m := by
  pointwise [k0_pay3]
  rfl

theorem pay4_at (q : HeadRows) (k v : HeadMem) (r d : Fin 512) : k0_pay4 (k0_pay3 q k) v (ix2 r d) = headOut q k v r d := by
  pointwise [k0_pay4]
  simp only [pay3_at]
  rfl

theorem pay5_at (q : HeadRows) (k v : HeadMem) (r d : Fin 512) : k0_pay5 q k v (ix2 r d) = headOut q k v r d := by
  pointwise [k0_pay5]
  rfl

theorem pay6_at (q : HeadRows) (k : HeadMem) (r : Fin 512) (m : Fin 256) :
    k0_pay6 q k (ix2 r m) = ex (fun m => (∑ d : Fin 512, q (ix2 r d) * k (ix2 m d)) * scale) m := by
  pointwise [k0_pay6]
  rfl

theorem pay7_at (q : HeadRows) (k : HeadMem) (r : Fin 512) (j : Fin 1) :
    k0_pay7 q k (ix2 r j) = zz (fun m => (∑ d : Fin 512, q (ix2 r d) * k (ix2 m d)) * scale) := by
  pointwise [k0_pay7]
  simp only [pay6_at]
  rfl

theorem pay1_at (q : HeadRows) (k v : HeadMem) (r d : Fin 512) : k0_pay1 (k0_pay6 q k) (k0_pay7 q k) v (ix2 r d) = headOut q k v r d := by
  pointwise [k0_pay1]
  simp only [pay6_at, pay7_at]
  rfl

/-- What a grid point writes. -/
def blockOut (x0 : Vec Ideal S512x2048 .bf16) (x1 x2 : Mems) : Vec Ideal S512x2048 .bf16 :=
  fun y => ∑ m : Fin 256, pr (score x0 x1 (head (y 1)) (y 0)) m * x2 (ix2 m (y 1))
/-- The result. -/
def allOut (q : Rows) (k v : Mems) : Rows := fun y => ∑ m : Fin 256, pr (scoreF q k (head (y 1)) (y 0)) m * v (ix2 m (y 1))

/-- One head's store is a piece of the block. -/
theorem piece (x0 : Vec Ideal S512x2048 .bf16) (x1 x2 : Mems) (h : Fin 4) {o : Nat} (ho : o = 512 * h.val)
    (i : ∀ a, (![0, o] : Fin 2 → Nat) a + S512x512.size a ≤ S512x2048.size a) (i' : ∀ a, (![0, o] : Fin 2 → Nat) a + S256x512.size a ≤ S256x2048.size a)
    (p : HeadRows → HeadMem → HeadMem → HeadRows) (hp : ∀ q k v r d, p q k v (ix2 r d) = headOut q k v r d) (x : (Rect.unit (s := S512x2048) ![0, o] S512x512.size i).shape.Idx) :
    p (View.ld (Val := Elt Ideal) x0 (Rect.unit (s := S512x2048) ![0, o] S512x512.size i))
        (View.ld (Val := Elt Ideal) x1 (Rect.unit (s := S256x2048) ![0, o] S256x512.size i')) (View.ld (Val := Elt Ideal) x2 (Rect.unit (s := S256x2048) ![0, o] S256x512.size i')) x
      = blockOut x0 x1 x2 ((Rect.unit (s := S512x2048) ![0, o] S512x512.size i).emb x) := by
  obtain ⟨r, d, rfl⟩ : ∃ (r d : Fin 512), x = ix2 r d := ⟨x 0, x 1, by funext a; match a with | ⟨0, _⟩ => rfl | ⟨1, _⟩ => rfl⟩
  have e : (Rect.unit (s := S512x2048) ![0, o] S512x512.size i).emb (ix2 r d) = ix2 r (col h d) := by
    subst ho; funext a; apply Fin.ext
    match a with
    | ⟨0, _⟩ => show 0 + 1 * r.val = r.val; omega
    | ⟨1, _⟩ => show 512 * h.val + 1 * d.val = 512 * h.val + d.val; omega
  refine (hp _ _ _ r d).trans ?_
  rw [e]
  unfold headOut
  simp only [ldRow x0 h ho, ldMem x1 h ho, ldMem x2 h ho]
  show _ = ∑ m : Fin 256, pr (score x0 x1 (head (col h d)) r) m * x2 (ix2 m (col h d))
  rw [head_col]
  rfl

theorem out3 (x0 : Vec Ideal S512x2048 .bf16) (x1 x2 : Mems) : out0_3 (F := Ideal) x0 x1 x2 = blockOut x0 x1 x2 := by
  unfold out0_3
  funext y
  refine View.canon_apply_of_pieces (blockOut x0 x1 x2) _ (View.PiecesOf.mem ?_) y (cover0_3 _ _ _ _ y)
  exact And.intro (fun x => piece x0 x1 x2 3 rfl _ _ (fun q k v => k0_pay1 (k0_pay6 q k) (k0_pay7 q k) v) pay1_at x) <|
    And.intro (fun x => piece x0 x1 x2 2 rfl _ _ k0_pay5 pay5_at x) <|
    And.intro (fun x => piece x0 x1 x2 1 rfl _ _ (fun q k v => k0_pay4 (k0_pay3 q k) v) pay4_at x) <|
    And.intro (fun x => piece x0 x1 x2 0 rfl _ _ k0_pay2 pay2_at x) <| trivial

variable (m : (ℓ : Loc nD τ sig) → Buf (Elt Ideal) ℓ)

abbrev aq (c : Dev nD) : Rows := m ((c : Thread nD τ).loc main_arg0)
abbrev ak (c : Dev nD) : Mems := m ((c : Thread nD τ).loc main_arg1)
abbrev av (c : Dev nD) : Mems := m ((c : Thread nD τ).loc main_arg2)

theorem index : ∀ t : Fin cfg0.N, (win0_0.index t = ![t.val, 0] ∧ win0_1.index t = ![0, 0]) ∧ (win0_2.index t = ![0, 0] ∧ win0_3.index t = ![t.val, 0]) :=
  (by decide +kernel : ∀ t : Fin grid0.N, (win0_0.index t = ![t.val, 0] ∧ win0_1.index t = ![0, 0]) ∧ (win0_2.index t = ![0, 0] ∧ win0_3.index t = ![t.val, 0]))

theorem lt_N (t : Fin cfg0.N) : t.val < 8 := by have := t.isLt; have hN : cfg0.N = 8 := N_0; omega

theorem iblk0 (c : Dev nD) (t : Fin cfg0.N) : (iblk m c 0 t : Vec Ideal S512x2048 .bf16) = blk (aq m c) t.val := by
  funext j
  have ht := lt_N t
  refine congrArg (aq m c) (funext fun a => Fin.ext ?_)
  match a with
  | ⟨0, _⟩ => refine Eq.trans ?_ (rowAt_lt ht (j 0)).symm; show win0_0.index t 0 * 512 + 1 * (j 0).val = 512 * t.val + (j 0).val; rw [(index t).1.1]; show t.val * 512 + _ = _; omega
  | ⟨1, _⟩ => show win0_0.index t 1 * 2048 + 1 * (j 1).val = (j 1).val; rw [(index t).1.1]; show 0 * 2048 + _ = _; omega

theorem iblk1 (c : Dev nD) (t : Fin cfg0.N) : (iblk m c 1 t : Mems) = ak m c := by
  funext j
  refine congrArg (ak m c) (funext fun a => Fin.ext ?_)
  match a with
  | ⟨0, _⟩ => show win0_1.index t 0 * 256 + 1 * (j 0).val = (j 0).val; rw [(index t).1.2]; show 0 * 256 + _ = _; omega
  | ⟨1, _⟩ => show win0_1.index t 1 * 2048 + 1 * (j 1).val = (j 1).val; rw [(index t).1.2]; show 0 * 2048 + _ = _; omega

theorem iblk2 (c : Dev nD) (t : Fin cfg0.N) : (iblk m c 2 t : Mems) = av m c := by
  funext j
  refine congrArg (av m c) (funext fun a => Fin.ext ?_)
  match a with
  | ⟨0, _⟩ => show win0_2.index t 0 * 256 + 1 * (j 0).val = (j 0).val; rw [(index t).2.1]; show 0 * 256 + _ = _; omega
  | ⟨1, _⟩ => show win0_2.index t 1 * 2048 + 1 * (j 1).val = (j 1).val; rw [(index t).2.1]; show 0 * 2048 + _ = _; omega

theorem final (c : Dev nD) : (dats m 0 c).arrAt 3 cfg0.N = allOut (aq m c) (ak m c) (av m c) := by
  refine (dats m 0 c).arrAt_eq_of_covers 3 _ (by decide +kernel) fun t hf y => ?_
  have ht := lt_N t
  blk_simp
  rw [after0_3, out3, iblk0, iblk1, iblk2]
  show allOut (aq m c) (ak m c) (av m c) (ix2 (rowAt t.val (y 0)) (y 1)) = _
  refine congrArg (allOut (aq m c) (ak m c) (av m c)) ?_
  blk_ext [(index t).2.2]
  show (512 * t.val + (y 0).val) % 4096 = _
  omega

section Reference

open Cert.AttnFwdRefIdeal Cert.AttnFwdRefIdeal.Read

variable (q : Rows) (k v : Mems)

/-- The reference's softmax is the one the attention's gradient is taken of. -/
theorem v19_at (h : Fin 4) (r : Fin 4096) (m : Fin 256) : val_main_v19 (F := Ideal) q k (ix4 0 h r m) = pr (scoreF q k h r) m := Cert.Attn.v34_at q k h r m
theorem v5_at (m : Fin 256) (h : Fin 4) (d : Fin 512) : val_main_v5 (F := Ideal) v (ix4 0 m h d) = v (ix2 m (col h d)) := Cert.Attn.v6_at v m h d

theorem v23_at (r : Fin 4096) (c : Fin 2048) : val_main_v23 (F := Ideal) q k v (ix2 r c) = ∑ m : Fin 256, pr (scoreF q k (head c) r) m * v (ix2 m c) := by
  pointwise [val_main_v23, val_main_v22, val_main_v21, val_main_v20]
  simp only [v19_at, v5_at, col_split]
  exact Finset.sum_congr rfl fun m _ => mul_comm _ _

theorem ref_eq : val_main_v23 (F := Ideal) q k v = allOut q k v := by
  funext y
  exact (congrArg (val_main_v23 (F := Ideal) q k v) (eq_ix2 y)).trans (v23_at q k v _ _)

end Reference

theorem algebraic : Cert.algebraic_AttnFwdIdeal_AttnFwdRefIdeal := by
  pair_intro
  · run_from Cert.AttnFwdIdeal.Value.run_blocks m g
  · run_from Cert.AttnFwdRefIdeal.Value.run m' g'
    rw [final m c, Cert.AttnFwdRefIdeal.Read.val_main_v23_eq]
    exact ref_eq _ _ _

/-- The reference runs, leaves its arguments, and declares no semaphore. -/
theorem frame_ref : Cert.quiescent_AttnFwdRefIdeal := fun m g _ =>
  (θ_run _ _ _).mono (fun r h => ⟨fun c => (h c).2, sem_eq_zero_of_no_sems (by decide) r.2⟩) (Cert.AttnFwdRefIdeal.Value.run m g)

end Cert.AttnForward
-- ==== Proof.Mixer.ForwardBlock.lean ====
/-
  THE MIXER ITSELF, AND WHAT ONE GRID POINT WRITES. Of 256 rows of `z` a point writes the gated convolution into the first 1024
  columns, and head by head and group by group the spatially gated product into the others. Every store is the part of the
  mixer's result that lies at its place.
-/
module

public import proofs.«01_k».proof.Proof.Mixer.Block
public import proofs.«01_k».proof.Proof.Gen.MixFwdIdeal.Value
public import Idealize.ShloMosaic.Lib.Pipeline.ReadBack

@[expose] public section

set_option maxRecDepth 16384

noncomputable section

namespace Cert.MixForward

open Cert.MixFwdIdeal Cert.MixFwdIdeal.Gen Idealize.ShloMosaic Idealize.ShloMosaic.Tactic
open Cert.MixerGrad (width small row col root cin before val nrm tri half nrmB triB mulB num select_row select_le ix2_mk ld2 emb2 idx2
  scales weights scales_at tri_at)

section Result

variable (z : Vec Ideal S4096x5120 .bf16) (taps : Vec Ideal S3x1024 .f32) (cb g : Vec Ideal S1x1024 .f32) (w : Vec Ideal S8x128x128 .f32)
  (b : Vec Ideal S8x128 .f32)

/-- The convolution. -/
def conv (R : Fin 4096) (q : Fin 1024) : EReal :=
  ((cb (ix2 0 q) + taps (ix2 2 q) * cin z R q) + taps (ix2 1 q) * before z 1 R q) + taps (ix2 0 q) * before z 2 R q
/-- The spatial gate. -/
def gate (N : Fin 32) (h : Fin 8) (k d : Fin 128) : EReal :=
  (∑ j, tri w h k j * (nrm z N h j d * g (ix2 0 (col h d)))) + b (ix2 h k)

/-- The mixer's result. -/
def yAll : Vec Ideal S4096x2048 .bf16 := fun y =>
  if h1 : (y 1).val < 1024 then z (ix2 (y 0) ⟨(y 1).val, by omega⟩) * conv z taps cb (y 0) ⟨(y 1).val, h1⟩
  else
    have hr : (y 0).val < 4096 := (y 0).isLt
    have hc : (y 1).val < 2048 := (y 1).isLt
    z (ix2 (y 0) ⟨2048 + (y 1).val, by omega⟩)
      * gate z g w b ⟨(y 0).val / 128, by omega⟩ ⟨((y 1).val - 1024) / 128, by omega⟩ ⟨(y 0).val % 128, by omega⟩ ⟨((y 1).val - 1024) % 128, by omega⟩

theorem yAll_conv (R : Fin 4096) (q : Fin 1024) :
    yAll z taps cb g w b (ix2 R ⟨q.val, by omega⟩) = z (ix2 R ⟨q.val, by omega⟩) * conv z taps cb R q := dif_pos q.isLt

theorem yAll_gate (N : Fin 32) (h : Fin 8) (k d : Fin 128) : yAll z taps cb g w b (ix2 (row N k) ⟨1024 + (col h d).val, by omega⟩)
    = z (ix2 (row N k) ⟨3072 + (col h d).val, by omega⟩) * gate z g w b N h k d := by
  have hc : (col h d).val = 128 * h.val + d.val := rfl
  refine (dif_neg (show ¬ 1024 + (col h d).val < 1024 by omega)).trans (congrArg₂ (· * ·) ?_ ?_)
  · exact congrArg z (ix2_mk rfl (show 2048 + (1024 + (col h d).val) = 3072 + (col h d).val by omega))
  · congr 1
    · exact Fin.ext (show (128 * N.val + k.val) / 128 = N.val by omega)
    · exact Fin.ext (show (1024 + (col h d).val - 1024) / 128 = h.val by omega)
    · exact Fin.ext (show (128 * N.val + k.val) % 128 = k.val by omega)
    · exact Fin.ext (show (1024 + (col h d).val - 1024) % 128 = d.val by omega)

end Result

/-! The stores, read at an index. -/

/-- Whether the point is not the first. -/
abbrev notFirst (i : grid0.Coords) : BitVec 1 := Scalar.cmpi CmpIPredicate.sgt (BitVec.ofNat 32 (i 0).val) 0#32

section Cells

variable (i : grid0.Coords) (zg gc hc : Vec Ideal S256x1024 .bf16) (hg hh : Vec Ideal S16x1024 .bf16) (w0 w1 w2 cb : Vec Ideal S1x1024 .f32)
  (r : Fin 256) (q : Fin 1024)

theorem prev1 : k0_pay4 i gc hc hg hh (ix2 r q) = if r.val = 0 then hg (ix2 15 q) * hh (ix2 15 q) * num (notFirst i)
      else gc (ix2 ⟨(r.val + 256 - 1) % 256, Nat.mod_lt _ (by decide)⟩ q) * hc (ix2 ⟨(r.val + 256 - 1) % 256, Nat.mod_lt _ (by decide)⟩ q) := by
  pointwise [k0_pay4, k0_pay3, k0_pay2]
  exact select_row r 0 (by decide) _ _

theorem prev2 : k0_pay5 i gc hc hg hh (ix2 r q) = if r.val = 0 then hg (ix2 14 q) * hh (ix2 14 q) * num (notFirst i)
      else if r.val = 1 then hg (ix2 15 q) * hh (ix2 15 q) * num (notFirst i)
      else gc (ix2 ⟨(r.val + 256 - 2) % 256, Nat.mod_lt _ (by decide)⟩ q) * hc (ix2 ⟨(r.val + 256 - 2) % 256, Nat.mod_lt _ (by decide)⟩ q) := by
  pointwise [k0_pay5, k0_pay3, k0_pay2]
  refine (select_row r 0 (by decide) _ _).trans ?_
  rw [show ∀ a b : EReal, Scalar.select (IntOp.cmpi CmpIPredicate.eq (BitVec.ofNat 32 r.val) 1#32) a b = _ from select_row r 1 (by decide)]

theorem conv_cell (a1 a2 : FVec Ideal S256x1024 .f32) :
    k0_pay7 a1 a2 cb (k0_pay6 gc hc w2) w1 w0 zg (ix2 r q)
      = zg (ix2 r q) * (((cb (ix2 0 q) + w2 (ix2 0 q) * (gc (ix2 r q) * hc (ix2 r q))) + w1 (ix2 0 q) * a1 (ix2 r q)) + w0 (ix2 0 q) * a2 (ix2 r q)) := by
  pointwise [k0_pay7, k0_pay6, k0_pay2]

variable (vg : Vec Ideal S256x128 .bf16) (g : Vec Ideal S1x128 .f32) (w : Vec Ideal S1x128x128 .f32) (b : Vec Ideal S128x1 .f32)
  (u : Vec Ideal S128x128 .bf16) (k d : Fin 128)

theorem tri_cell (i j : Fin 128) : k0_pay27 w (ix2 i j) = triB w i j := by
  pointwise [k0_pay27]
  exact select_le i j _ _

theorem nrm_cell (r : Fin 256) : k0_pay26 vg g (ix2 r d) = nrmB vg r d * g (ix2 0 d) := by
  unfold nrmB
  pointwise [k0_pay26]
  rfl

theorem first_cell : k0_pay28 vg g w b u (ix2 k d) = mulB vg g w b u 0 k d := by
  pointwise [k0_pay28]
  refine congrArg (u (ix2 k d) * ·) (congrArg (· + b (ix2 k 0)) (Finset.sum_congr rfl fun x _ => ?_))
  refine congr (congrArg _ (tri_cell w k x)) ((congrArg (fun r : Fin 256 => k0_pay26 vg g (ix2 r d)) (Fin.ext ?_)).trans (nrm_cell vg g d (half 0 x)))
  show x.val = 128 * 0 + x.val; omega

theorem second_cell : k0_pay30 (k0_pay27 w) (k0_pay29 vg g) b u (ix2 k d) = mulB vg g w b u 1 k d := by
  pointwise [k0_pay30, k0_pay29]
  refine congrArg (u (ix2 k d) * ·) (congrArg (· + b (ix2 k 0)) (Finset.sum_congr rfl fun x _ => ?_))
  exact congr (congrArg _ (tri_cell w k x)) (nrm_cell vg g d (half 1 x))

end Cells

theorem point_lt (i : grid0.Coords) : (i 0).val < 16 := (i 0).isLt
/-- Row `r` of point `i`'s block. -/
def rowAt (i : grid0.Coords) (r : Fin 256) : Fin 4096 := ⟨256 * (i 0).val + r.val, by have := point_lt i; omega⟩
/-- The group of rows that half `n` of point `i`'s block is. -/
def group (i : grid0.Coords) (n : Fin 2) : Fin 32 := ⟨2 * (i 0).val + n.val, by have := point_lt i; omega⟩
theorem rowAt_val (i : grid0.Coords) (r : Fin 256) : (rowAt i r).val = 256 * (i 0).val + r.val := rfl
theorem rowAt_half (i : grid0.Coords) (n : Fin 2) (k : Fin 128) : rowAt i (half n k) = row (group i n) k :=
  Fin.ext (show 256 * (i 0).val + (128 * n.val + k.val) = 128 * (2 * (i 0).val + n.val) + k.val by omega)

theorem num_notFirst (i : grid0.Coords) : num (notFirst i) = if 0 < (i 0).val then 1 else 0 := by
  have e : ∀ k : Fin 16, (Scalar.extui (Scalar.cmpi CmpIPredicate.sgt (BitVec.ofNat 32 k.val) 0#32) : BitVec 32).toInt = if 0 < k.val then 1 else 0 := by
    decide +kernel
  have := e ⟨(i 0).val, point_lt i⟩
  unfold num notFirst
  rw [this]
  split <;> simp

/-- The blocks that point `i` reads are its parts of the arrays. -/
structure Parts (i : grid0.Coords) (z : Vec Ideal S4096x5120 .bf16) (taps : Vec Ideal S3x1024 .f32) (b : Vec Ideal S8x128 .f32)
    (x0 : Vec Ideal S256x5120 .bf16) (x1 x2 : Vec Ideal S16x1024 .bf16) (x3 : Vec Ideal S8x1024 .f32) (x7 : Vec Ideal S128x8 .f32) : Prop where
  h0 : ∀ r c, x0 (ix2 r c) = z (ix2 (rowAt i r) c)
  h1 : 0 < (i 0).val → ∀ (k : Fin 16) (q : Fin 1024),
    x1 (ix2 k q) = z (ix2 ⟨256 * (i 0).val + k.val - 16, by have := point_lt i; omega⟩ ⟨1024 + q.val, by omega⟩)
  h2 : 0 < (i 0).val → ∀ (k : Fin 16) (q : Fin 1024),
    x2 (ix2 k q) = z (ix2 ⟨256 * (i 0).val + k.val - 16, by have := point_lt i; omega⟩ ⟨2048 + q.val, by omega⟩)
  h3 : ∀ (k : Fin 3) (q : Fin 1024), x3 (ix2 ⟨k.val, by omega⟩ q) = taps (ix2 k q)
  h7 : ∀ (k : Fin 128) (h : Fin 8), x7 (ix2 k h) = b (ix2 h k)

/-- A part of an array of two axes. -/
abbrev part {n p : Nat} {e : EltTy} (X : Vec Ideal ⟨2, ![n, p]⟩ e) (o o' n' p' : Nat)
    (i : ∀ a, (![o, o'] : Fin 2 → Nat) a + (![n', p'] : Fin 2 → Nat) a ≤ (⟨2, ![n, p]⟩ : Shape).size a) : Vec Ideal ⟨2, ![n', p']⟩ e :=
  View.ld (Val := Elt Ideal) X (Rect.unit (s := ⟨2, ![n, p]⟩) ![o, o'] ![n', p'] i)

/-- The part of the mixer's result that point `i` fills. -/
def yPart (i : grid0.Coords) (z : Vec Ideal S4096x5120 .bf16) (taps : Vec Ideal S3x1024 .f32) (b : Vec Ideal S8x128 .f32)
    (x4 x5 : Vec Ideal S1x1024 .f32) (x6 : Vec Ideal S8x128x128 .f32) : Vec Ideal S256x2048 .bf16 :=
  fun y => yAll z taps x4 x5 x6 b (ix2 (rowAt i (y 0)) (y 1))

section Pieces

variable {i : grid0.Coords} {z : Vec Ideal S4096x5120 .bf16} {taps : Vec Ideal S3x1024 .f32} {b : Vec Ideal S8x128 .f32} {x0 : Vec Ideal S256x5120 .bf16}
  {x1 x2 : Vec Ideal S16x1024 .bf16} {x3 : Vec Ideal S8x1024 .f32} {x7 : Vec Ideal S128x8 .f32} (H : Parts i z taps b x0 x1 x2 x3 x7)
  (x4 x5 : Vec Ideal S1x1024 .f32) (x6 : Vec Ideal S8x128x128 .f32)

/-! The convolution's parts of the blocks. -/
abbrev gateB (x0 : Vec Ideal S256x5120 .bf16) : Vec Ideal S256x1024 .bf16 := part x0 0 0 256 1024 inb_S256x5120_S256x1024_0_0
abbrev oneB (x0 : Vec Ideal S256x5120 .bf16) : Vec Ideal S256x1024 .bf16 := part x0 0 1024 256 1024 inb_S256x5120_S256x1024_0_1024
abbrev twoB (x0 : Vec Ideal S256x5120 .bf16) : Vec Ideal S256x1024 .bf16 := part x0 0 2048 256 1024 inb_S256x5120_S256x1024_0_2048
abbrev halo (x : Vec Ideal S16x1024 .bf16) : Vec Ideal S16x1024 .bf16 := part x 0 0 16 1024 inb_S16x1024_S16x1024_0_0
abbrev tap0 (x3 : Vec Ideal S8x1024 .f32) : Vec Ideal S1x1024 .f32 := part x3 0 0 1 1024 inb_S8x1024_S1x1024_0_0
abbrev tap1 (x3 : Vec Ideal S8x1024 .f32) : Vec Ideal S1x1024 .f32 := part x3 1 0 1 1024 inb_S8x1024_S1x1024_1_0
abbrev tap2 (x3 : Vec Ideal S8x1024 .f32) : Vec Ideal S1x1024 .f32 := part x3 2 0 1 1024 inb_S8x1024_S1x1024_2_0
abbrev bias (x4 : Vec Ideal S1x1024 .f32) : Vec Ideal S1x1024 .f32 := part x4 0 0 1 1024 inb_S1x1024_S1x1024_0_0

include H in
theorem oneB_at (r : Fin 256) (q : Fin 1024) : oneB x0 (ix2 r q) = z (ix2 (rowAt i r) ⟨1024 + q.val, by omega⟩) :=
  (ld2 x0 _ r q r ⟨1024 + q.val, by omega⟩ (by omega) rfl).trans (H.h0 _ _)
include H in
theorem twoB_at (r : Fin 256) (q : Fin 1024) : twoB x0 (ix2 r q) = z (ix2 (rowAt i r) ⟨2048 + q.val, by omega⟩) :=
  (ld2 x0 _ r q r ⟨2048 + q.val, by omega⟩ (by omega) rfl).trans (H.h0 _ _)
include H in
theorem gateB_at (r : Fin 256) (q : Fin 1024) : gateB x0 (ix2 r q) = z (ix2 (rowAt i r) ⟨q.val, by omega⟩) :=
  (ld2 x0 _ r q r ⟨q.val, by omega⟩ (by omega) (by show q.val = 0 + q.val; omega)).trans (H.h0 _ _)
theorem halo_at (x : Vec Ideal S16x1024 .bf16) (k : Fin 16) (q : Fin 1024) : halo x (ix2 k q) = x (ix2 k q) :=
  ld2 x _ k q k q (by omega) (by omega)
include H in
theorem tap0_at (q : Fin 1024) : tap0 x3 (ix2 0 q) = taps (ix2 0 q) := (ld2 x3 _ (0 : Fin 1) q (0 : Fin 8) q rfl (by omega)).trans (H.h3 0 q)
include H in
theorem tap1_at (q : Fin 1024) : tap1 x3 (ix2 0 q) = taps (ix2 1 q) := (ld2 x3 _ (0 : Fin 1) q (1 : Fin 8) q rfl (by omega)).trans (H.h3 1 q)
include H in
theorem tap2_at (q : Fin 1024) : tap2 x3 (ix2 0 q) = taps (ix2 2 q) := (ld2 x3 _ (0 : Fin 1) q (2 : Fin 8) q rfl (by omega)).trans (H.h3 2 q)
theorem bias_at (q : Fin 1024) : bias x4 (ix2 0 q) = x4 (ix2 0 q) := ld2 x4 _ (0 : Fin 1) q (0 : Fin 1) q rfl (by omega)

include H in
/-- The rows before the block, zero before the first. -/
theorem halo_prev (k : Fin 16) (j : Nat) (hj : j + k.val = 16) (q : Fin 1024) (r : Fin 256) (n : Nat) (hn : n = j + r.val) (hk : r.val < n) :
    halo x1 (ix2 k q) * halo x2 (ix2 k q) * num (notFirst i) = before z n (rowAt i r) q := by
  have hi := point_lt i
  rw [halo_at, halo_at, num_notFirst]
  unfold before
  by_cases h : 0 < (i 0).val
  · rw [if_pos h, if_neg (show ¬ (rowAt i r).val < n by rw [rowAt_val]; omega), mul_one, H.h1 h, H.h2 h]
    unfold cin
    congr 1 <;> refine congrArg z (ix2_mk ?_ rfl) <;> (show 256 * (i 0).val + k.val - 16 = 256 * (i 0).val + r.val - n; omega)
  · rw [if_neg h, if_pos (show (rowAt i r).val < n by rw [rowAt_val]; omega), mul_zero]

include H in
/-- The rows before, within the block. -/
theorem in_prev (n : Nat) (hn : n ≤ 2) (r : Fin 256) (q : Fin 1024) (hr : n ≤ r.val) :
    oneB x0 (ix2 ⟨(r.val + 256 - n) % 256, Nat.mod_lt _ (by decide)⟩ q) * twoB x0 (ix2 ⟨(r.val + 256 - n) % 256, Nat.mod_lt _ (by decide)⟩ q)
      = before z n (rowAt i r) q := by
  rw [oneB_at H, twoB_at H]
  unfold before
  rw [if_neg (show ¬ (rowAt i r).val < n by rw [rowAt_val]; omega)]
  unfold cin
  congr 1 <;> refine congrArg z (ix2_mk ?_ rfl) <;>
    (show 256 * (i 0).val + (r.val + 256 - n) % 256 = 256 * (i 0).val + r.val - n; omega)

include H in
theorem prev1_at (r : Fin 256) (q : Fin 1024) : k0_pay4 i (oneB x0) (twoB x0) (halo x1) (halo x2) (ix2 r q) = before z 1 (rowAt i r) q := by
  rw [prev1]
  split
  · next h => exact halo_prev H 15 1 rfl q r 1 (by omega) (by omega)
  · next h => exact in_prev H 1 (by omega) r q (by omega)

include H in
theorem prev2_at (r : Fin 256) (q : Fin 1024) : k0_pay5 i (oneB x0) (twoB x0) (halo x1) (halo x2) (ix2 r q) = before z 2 (rowAt i r) q := by
  rw [prev2]
  split
  · next h => exact halo_prev H 14 2 rfl q r 2 (by omega) (by omega)
  split
  · next h => exact halo_prev H 15 1 rfl q r 2 (by omega) (by omega)
  · next h => exact in_prev H 2 (by omega) r q (by omega)

include H in
theorem conv_piece (x : (Rect.unit (s := S256x2048) ![0, 0] ![256, 1024] inb_S256x2048_S256x1024_0_0).shape.Idx) :
    k0_pay7 (k0_pay4 i (oneB x0) (twoB x0) (halo x1) (halo x2)) (k0_pay5 i (oneB x0) (twoB x0) (halo x1) (halo x2)) (bias x4)
        (k0_pay6 (oneB x0) (twoB x0) (tap2 x3)) (tap1 x3) (tap0 x3) (gateB x0) x
      = yPart i z taps b x4 x5 x6 ((Rect.unit (s := S256x2048) ![0, 0] ![256, 1024] inb_S256x2048_S256x1024_0_0).emb x) := by
  obtain ⟨r, q, rfl⟩ : ∃ (r : Fin 256) (q : Fin 1024), x = ix2 r q := idx2 x
  refine (conv_cell _ _ _ _ _ _ _ r q _ _).trans ?_
  rw [emb2 _ r q r (⟨q.val, by omega⟩ : Fin 2048) (by omega) (by show q.val = 0 + q.val; omega)]
  refine Eq.trans ?_ (yAll_conv z taps x4 x5 x6 b (rowAt i r) q).symm
  rw [prev1_at H, prev2_at H, tap0_at H, tap1_at H, tap2_at H, bias_at, gateB_at H, oneB_at H, twoB_at H]
  rfl

/-! Head `h`'s parts of the blocks: its values, its scale, its weights, its bias, and in half `n` its rows of the multiplier. -/
section Heads

variable (h : Fin 8) (n : Fin 2)

include H in
theorem nrm_at {ov : Nat} (hv : ov = 4096 + 128 * h.val)
    (iv : ∀ a, (![0, ov] : Fin 2 → Nat) a + (![256, 128] : Fin 2 → Nat) a ≤ S256x5120.size a)
    (k d : Fin 128) : nrmB (part x0 0 ov 256 128 iv) (half n k) d = nrm z (group i n) h k d := by
  have e : ∀ d : Fin 128, part x0 0 ov 256 128 iv (ix2 (half n k) d) = val z (group i n) h k d := fun d => by
    refine (ld2 x0 iv (half n k) d (half n k) ⟨4096 + (col h d).val, by omega⟩ (by omega)
      (by show 4096 + (128 * h.val + d.val) = ov + d.val; omega)).trans ?_
    rw [H.h0, rowAt_half]; rfl
  unfold nrmB nrm
  simp only [e]

include H in
theorem head_at {ov og ow ob ou on : Nat} (hv : ov = 4096 + 128 * h.val) (hg : og = 128 * h.val) (hw : ow = h.val)
    (hb : ob = h.val) (hu : ou = 3072 + 128 * h.val) (hn : on = 128 * n.val)
    (iv : ∀ a, (![0, ov] : Fin 2 → Nat) a + (![256, 128] : Fin 2 → Nat) a ≤ S256x5120.size a)
    (ig : ∀ a, (![0, og] : Fin 2 → Nat) a + (![1, 128] : Fin 2 → Nat) a ≤ S1x1024.size a)
    (iw : ∀ a, (![ow, 0, 0] : Fin 3 → Nat) a + (![1, 128, 128] : Fin 3 → Nat) a ≤ S8x128x128.size a)
    (ib : ∀ a, (![0, ob] : Fin 2 → Nat) a + (![128, 1] : Fin 2 → Nat) a ≤ S128x8.size a)
    (iu : ∀ a, (![on, ou] : Fin 2 → Nat) a + (![128, 128] : Fin 2 → Nat) a ≤ S256x5120.size a)
    (k d : Fin 128) : mulB (part x0 0 ov 256 128 iv) (scales x5 ig) (weights x6 iw) (part x7 0 ob 128 1 ib) (part x0 on ou 128 128 iu) n k d
    = z (ix2 (row (group i n) k) ⟨3072 + (col h d).val, by have := (col h d).isLt; omega⟩) * gate z x5 x6 b (group i n) h k d := by
  have eu : part x0 on ou 128 128 iu (ix2 k d) = z (ix2 (row (group i n) k) ⟨3072 + (col h d).val, by have := (col h d).isLt; omega⟩) := by
    refine (ld2 x0 iu k d (half n k) ⟨3072 + (col h d).val, by omega⟩ (by show 128 * n.val + k.val = on + k.val; omega)
      (by show 3072 + (128 * h.val + d.val) = ou + d.val; omega)).trans ?_
    rw [H.h0, rowAt_half]
  have eb : part x7 0 ob 128 1 ib (ix2 k 0) = b (ix2 h k) :=
    (ld2 x7 ib k (0 : Fin 1) k h (by omega) (by show h.val = ob + 0; omega)).trans (H.h7 k h)
  unfold mulB gate
  rw [eu, eb]
  simp only [tri_at x6 h hw, nrm_at H h n hv, scales_at x5 h hg]

theorem head_place {oy on : Nat} (hy : oy = 1024 + 128 * h.val) (hn : on = 128 * n.val)
    (iy : ∀ a, (![on, oy] : Fin 2 → Nat) a + (![128, 128] : Fin 2 → Nat) a ≤ S256x2048.size a) (k d : Fin 128) : yPart i z taps b x4 x5 x6 ((Rect.unit (s := S256x2048) ![on, oy] ![128, 128] iy).emb (ix2 k d))
    = z (ix2 (row (group i n) k) ⟨3072 + (col h d).val, by have := (col h d).isLt; omega⟩) * gate z x5 x6 b (group i n) h k d := by
  rw [emb2 iy k d (half n k) (⟨1024 + (col h d).val, by have := (col h d).isLt; omega⟩ : Fin 2048) (by show 128 * n.val + k.val = on + k.val; omega)
    (by show 1024 + (128 * h.val + d.val) = oy + d.val; omega)]
  show yAll z taps x4 x5 x6 b (ix2 (rowAt i (half n k)) ⟨1024 + (col h d).val, by have := (col h d).isLt; omega⟩) = _
  rw [rowAt_half, yAll_gate]

end Heads

include H in
/-- Head `h`'s two stores, for any two functions that compute what head 3's do. -/
theorem head_pieces (h : Fin 8) {ov og ow ob ou oy : Nat}
    (f s : Vec Ideal S256x128 .bf16 → Vec Ideal S1x128 .f32 → Vec Ideal S1x128x128 .f32 → Vec Ideal S128x1 .f32 → Vec Ideal S128x128 .bf16 → FVec Ideal S128x128 .bf16)
    (hf : f = k0_pay28) (hs : s = fun vg g w b u => k0_pay30 (k0_pay27 w) (k0_pay29 vg g) b u)
    (iv : ∀ a, (![0, ov] : Fin 2 → Nat) a + (![256, 128] : Fin 2 → Nat) a ≤ S256x5120.size a)
    (ig : ∀ a, (![0, og] : Fin 2 → Nat) a + (![1, 128] : Fin 2 → Nat) a ≤ S1x1024.size a)
    (iw : ∀ a, (![ow, 0, 0] : Fin 3 → Nat) a + (![1, 128, 128] : Fin 3 → Nat) a ≤ S8x128x128.size a)
    (ib : ∀ a, (![0, ob] : Fin 2 → Nat) a + (![128, 1] : Fin 2 → Nat) a ≤ S128x8.size a)
    (iu : ∀ a, (![0, ou] : Fin 2 → Nat) a + (![128, 128] : Fin 2 → Nat) a ≤ S256x5120.size a)
    (iy : ∀ a, (![0, oy] : Fin 2 → Nat) a + (![128, 128] : Fin 2 → Nat) a ≤ S256x2048.size a)
    (ju : ∀ a, (![128, ou] : Fin 2 → Nat) a + (![128, 128] : Fin 2 → Nat) a ≤ S256x5120.size a)
    (jy : ∀ a, (![128, oy] : Fin 2 → Nat) a + (![128, 128] : Fin 2 → Nat) a ≤ S256x2048.size a)
    (hv : ov = 4096 + 128 * h.val) (hg : og = 128 * h.val) (hw : ow = h.val) (hb : ob = h.val) (hu : ou = 3072 + 128 * h.val)
    (hy : oy = 1024 + 128 * h.val) {T : Prop} (rest : T) :
    (∀ x, s (part x0 0 ov 256 128 iv) (scales x5 ig) (weights x6 iw) (part x7 0 ob 128 1 ib) (part x0 128 ou 128 128 ju) x
        = yPart i z taps b x4 x5 x6 ((Rect.unit (s := S256x2048) ![128, oy] ![128, 128] jy).emb x))
    ∧ (∀ x, f (part x0 0 ov 256 128 iv) (scales x5 ig) (weights x6 iw) (part x7 0 ob 128 1 ib) (part x0 0 ou 128 128 iu) x
        = yPart i z taps b x4 x5 x6 ((Rect.unit (s := S256x2048) ![0, oy] ![128, 128] iy).emb x))
    ∧ T := by
  subst hf hs
  refine ⟨fun x => ?_, fun x => ?_, rest⟩
  · obtain ⟨k, d, rfl⟩ : ∃ (k d : Fin 128), x = ix2 k d := idx2 x
    exact (second_cell _ _ _ _ _ k d).trans ((head_at H x5 x6 h 1 (on := 128) hv hg hw hb hu rfl iv ig iw ib ju k d).trans (head_place (on := 128) x4 x5 x6 h 1 hy rfl jy k d).symm)
  · obtain ⟨k, d, rfl⟩ : ∃ (k d : Fin 128), x = ix2 k d := idx2 x
    exact (first_cell _ _ _ _ _ k d).trans ((head_at H x5 x6 h 0 (on := 0) hv hg hw hb hu rfl iv ig iw ib iu k d).trans (head_place (on := 0) x4 x5 x6 h 0 hy rfl iy k d).symm)

end Pieces

end Cert.MixForward
-- ==== Proof.Mixer.Forward.lean ====
/-
  THE MIXER AS A WHOLE ARRAY. 16 grid points, each a block of 256 rows of `z` with sixteen rows of the block before; each
  writes its own rows of the result. The reference's lines are those whose transposes the mixer's gradient reads, so the
  convolution and the gate are read there.
-/
module

public import proofs.«01_k».proof.Defs
public import proofs.«01_k».proof.Proof.Mixer.ForwardBlock
public import proofs.«01_k».proof.Proof.Mixer.Ref
public import proofs.«01_k».proof.Proof.Common.Blocks
public import proofs.«01_k».proof.Proof.Gen.MixFwdRefIdeal.Run
public import proofs.«01_k».proof.Proof.Gen.MixFwdRefIdeal.Read
public import Idealize.ShloMosaic.Lib.KernelVsHost
public import Idealize.ShloMosaic.Lib.Pipeline.ValueKit

@[expose] public section

set_option maxRecDepth 16384

noncomputable section

namespace Cert.MixForward

open Cert.MixFwdIdeal Cert.MixFwdIdeal.Gen Idealize.ShloMosaic Idealize.ShloMosaic.TcCoe Idealize.ShloMosaic.Tactic Idealize.SL.Sem
open Idealize.ShloMosaic.Pipeline (Dat Cfg Window)
open Cert.MixerGrad (row col)

variable (m : (ℓ : Loc nD τ sig) → Buf (Elt Ideal) ℓ)

set_option maxHeartbeats 4000000 in
theorem block_eq (c : Dev nD) (t : Fin cfg0.N) (z : Vec Ideal S4096x5120 .bf16) (taps : Vec Ideal S3x1024 .f32) (b : Vec Ideal S8x128 .f32)
    (H : Parts (grid0.coords t) z taps b (iblk m c 0 t) (iblk m c 1 t) (iblk m c 2 t) (iblk m c 3 t) (iblk m c 7 t)) :
    outsAt0 m c t = yPart (grid0.coords t) z taps b (iblk m c 4 t) (iblk m c 5 t) (iblk m c 6 t) := by
  unfold outsAt0 out0_A_8
  rw [View.read_writes_eq_canon _ _ _ (cover0_A_8 c _ _ _ _ _ _ _ _ _ _ _ _ _ _ _ _ _ _ _ _ _ _ _ _ _ _ _)]
  funext y
  refine View.canon_apply_of_pieces (yPart (grid0.coords t) z taps b (iblk m c 4 t) (iblk m c 5 t) (iblk m c 6 t)) _ (View.PiecesOf.mem ?_) y
    (cover0_A_8 c _ _ _ _ _ _ _ _ _ _ _ _ _ _ _ _ _ _ _ _ _ _ _ _ _ _ _ y)
  unfold kernelRun0_A
  sl_unfold_words
  dsimp only
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  exact head_pieces H _ _ _ 7 (fun vg g w b u => k0_pay50 vg g w b u)
      (fun vg g w b u => k0_pay1 (k0_pay51 vg g w b) u) rfl rfl
      inb_S256x5120_S256x128_0_4992 inb_S1x1024_S1x128_0_896 inb_S8x128x128_S1x128x128_7_0_0 inb_S128x8_S128x1_0_7
      inb_S256x5120_S128x128_0_3968 inb_S256x2048_S128x128_0_1920 inb_S256x5120_S128x128_128_3968 inb_S256x2048_S128x128_128_1920
      rfl rfl rfl rfl rfl rfl <|
    head_pieces H _ _ _ 6 (fun vg g w b u => k0_pay46 (k0_pay42 vg) (k0_pay43 vg) g w b u)
      (fun vg g w b u => k0_pay47 (k0_pay42 vg) (k0_pay43 vg) g w b u) rfl rfl
      inb_S256x5120_S256x128_0_4864 inb_S1x1024_S1x128_0_768 inb_S8x128x128_S1x128x128_6_0_0 inb_S128x8_S128x1_0_6
      inb_S256x5120_S128x128_0_3840 inb_S256x2048_S128x128_0_1792 inb_S256x5120_S128x128_128_3840 inb_S256x2048_S128x128_128_1792
      rfl rfl rfl rfl rfl rfl <|
    head_pieces H _ _ _ 5 (fun vg g w b u => k0_pay40 (k0_pay37 vg g) (k0_pay38 w) (iota .tc S128x128 32 [0] iota_S128x128_d0_w32) b u)
      (fun vg g w b u => k0_pay41 (k0_pay37 vg g) (k0_pay38 w) (iota .tc S128x128 32 [0] iota_S128x128_d0_w32) b u) rfl rfl
      inb_S256x5120_S256x128_0_4736 inb_S1x1024_S1x128_0_640 inb_S8x128x128_S1x128x128_5_0_0 inb_S128x8_S128x1_0_5
      inb_S256x5120_S128x128_0_3712 inb_S256x2048_S128x128_0_1664 inb_S256x5120_S128x128_128_3712 inb_S256x2048_S128x128_128_1664
      rfl rfl rfl rfl rfl rfl <|
    head_pieces H _ _ _ 4 (fun vg g w b u => k0_pay35 (k0_pay33 vg g w) (k0_pay34 b) u)
      (fun vg g w b u => k0_pay36 (k0_pay31 vg g) (k0_pay32 w) b u) rfl rfl
      inb_S256x5120_S256x128_0_4608 inb_S1x1024_S1x128_0_512 inb_S8x128x128_S1x128x128_4_0_0 inb_S128x8_S128x1_0_4
      inb_S256x5120_S128x128_0_3584 inb_S256x2048_S128x128_0_1536 inb_S256x5120_S128x128_128_3584 inb_S256x2048_S128x128_128_1536
      rfl rfl rfl rfl rfl rfl <|
    head_pieces H _ _ _ 3 (fun vg g w b u => k0_pay28 vg g w b u)
      (fun vg g w b u => k0_pay30 (k0_pay27 w) (k0_pay29 vg g) b u) rfl rfl
      inb_S256x5120_S256x128_0_4480 inb_S1x1024_S1x128_0_384 inb_S8x128x128_S1x128x128_3_0_0 inb_S128x8_S128x1_0_3
      inb_S256x5120_S128x128_0_3456 inb_S256x2048_S128x128_0_1408 inb_S256x5120_S128x128_128_3456 inb_S256x2048_S128x128_128_1408
      rfl rfl rfl rfl rfl rfl <|
    head_pieces H _ _ _ 2 (fun vg g w b u => k0_pay23 (k0_pay19 vg) (k0_pay20 vg) g w b u)
      (fun vg g w b u => k0_pay25 (k0_pay24 (k0_pay19 vg) (k0_pay20 vg) g w b u)) rfl rfl
      inb_S256x5120_S256x128_0_4352 inb_S1x1024_S1x128_0_256 inb_S8x128x128_S1x128x128_2_0_0 inb_S128x8_S128x1_0_2
      inb_S256x5120_S128x128_0_3328 inb_S256x2048_S128x128_0_1280 inb_S256x5120_S128x128_128_3328 inb_S256x2048_S128x128_128_1280
      rfl rfl rfl rfl rfl rfl <|
    head_pieces H _ _ _ 1 (fun vg g w b u => k0_pay17 (k0_pay13 vg) (k0_pay14 g) w b u)
      (fun vg g w b u => k0_pay18 (k0_pay13 vg) (k0_pay14 g) w b u) rfl rfl
      inb_S256x5120_S256x128_0_4224 inb_S1x1024_S1x128_0_128 inb_S8x128x128_S1x128x128_1_0_0 inb_S128x8_S128x1_0_1
      inb_S256x5120_S128x128_0_3200 inb_S256x2048_S128x128_0_1152 inb_S256x5120_S128x128_128_3200 inb_S256x2048_S128x128_128_1152
      rfl rfl rfl rfl rfl rfl <|
    head_pieces H _ _ _ 0 (fun vg g w b u => k0_pay11 (k0_pay8 vg g) (k0_pay9 w) b u)
      (fun vg g w b u => k0_pay12 (k0_pay8 vg g) (k0_pay9 w) b u) rfl rfl
      inb_S256x5120_S256x128_0_4096 inb_S1x1024_S1x128_0_0 inb_S8x128x128_S1x128x128_0_0_0 inb_S128x8_S128x1_0_0
      inb_S256x5120_S128x128_0_3072 inb_S256x2048_S128x128_0_1024 inb_S256x5120_S128x128_128_3072 inb_S256x2048_S128x128_128_1024
      rfl rfl rfl rfl rfl rfl <|
    And.intro (fun x => conv_piece H _ _ _ x) <| trivial

abbrev az (c : Dev nD) : Vec Ideal S4096x5120 .bf16 := m ((c : Thread nD τ).loc main_arg0)
abbrev at' (c : Dev nD) : Vec Ideal S3x1024 .f32 := m ((c : Thread nD τ).loc main_arg1)
abbrev acb (c : Dev nD) : Vec Ideal S1x1024 .f32 := m ((c : Thread nD τ).loc main_arg2)
abbrev ag (c : Dev nD) : Vec Ideal S1x1024 .f32 := m ((c : Thread nD τ).loc main_arg3)
abbrev aw (c : Dev nD) : Vec Ideal S8x128x128 .f32 := m ((c : Thread nD τ).loc main_arg4)
abbrev ab (c : Dev nD) : Vec Ideal S8x128 .f32 := m ((c : Thread nD τ).loc main_arg5)

theorem point : ∀ t : Fin cfg0.N, (grid0.coords t 0).val = t.val :=
  (by decide +kernel : ∀ t : Fin grid0.N, (grid0.coords t 0).val = t.val)
theorem place0 : ∀ t : Fin cfg0.N, win0_0.index t 0 = t.val ∧ win0_0.index t 1 = 0 :=
  (by decide +kernel : ∀ t : Fin grid0.N, win0_0.index t 0 = t.val ∧ win0_0.index t 1 = 0)
theorem place1 : ∀ t : Fin cfg0.N, win0_1.index t 0 = 16 * t.val - 1 ∧ win0_1.index t 1 = 1 :=
  (by decide +kernel : ∀ t : Fin grid0.N, win0_1.index t 0 = 16 * t.val - 1 ∧ win0_1.index t 1 = 1)
theorem place2 : ∀ t : Fin cfg0.N, win0_2.index t 0 = 16 * t.val - 1 ∧ win0_2.index t 1 = 2 :=
  (by decide +kernel : ∀ t : Fin grid0.N, win0_2.index t 0 = 16 * t.val - 1 ∧ win0_2.index t 1 = 2)
theorem place3 : ∀ t : Fin cfg0.N, win0_3.index t 0 = 0 ∧ win0_3.index t 1 = 0 :=
  (by decide +kernel : ∀ t : Fin grid0.N, win0_3.index t 0 = 0 ∧ win0_3.index t 1 = 0)
theorem place4 : ∀ t : Fin cfg0.N, win0_4.index t 0 = 0 ∧ win0_4.index t 1 = 0 :=
  (by decide +kernel : ∀ t : Fin grid0.N, win0_4.index t 0 = 0 ∧ win0_4.index t 1 = 0)
theorem place5 : ∀ t : Fin cfg0.N, win0_5.index t 0 = 0 ∧ win0_5.index t 1 = 0 :=
  (by decide +kernel : ∀ t : Fin grid0.N, win0_5.index t 0 = 0 ∧ win0_5.index t 1 = 0)
theorem place7 : ∀ t : Fin cfg0.N, win0_7.index t 0 = 0 ∧ win0_7.index t 1 = 0 :=
  (by decide +kernel : ∀ t : Fin grid0.N, win0_7.index t 0 = 0 ∧ win0_7.index t 1 = 0)
theorem place8 : ∀ t : Fin cfg0.N, win0_8.index t 0 = t.val ∧ win0_8.index t 1 = 0 :=
  (by decide +kernel : ∀ t : Fin grid0.N, win0_8.index t 0 = t.val ∧ win0_8.index t 1 = 0)
theorem place6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

theorem taps_host (c : Dev nD) : V m c main_v0
    = (pad S8x1024 ![0, 0] ![5, 0] ![0, 0] (at' m c) (sitofp (F := Ideal) .f32 (constantI S_ 32 0#32)) pads_S3x1024_S8x1024_050_000 h_S_ : Vec Ideal S8x1024 .f32) := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append]
  after_results_simp
  rfl
theorem bias_host (c : Dev nD) : V m c main_v1 = (transpose S128x8 [1, 0] (ab m c) transposes_S8x128_S128x8_1_0 : Vec Ideal S128x8 .f32) := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results_simp

theorem iblk0 (c : Dev nD) (t : Fin cfg0.N) (r : Fin 256) (q : Fin 5120) :
    (iblk m c 0 t : Vec Ideal S256x5120 .bf16) (ix2 r q) = az m c (ix2 (rowAt (grid0.coords t) r) q) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 256 + 1 * r.val = 256 * (grid0.coords t 0).val + r.val; rw [(place0 t).1, point t]; omega
  | ⟨1, _⟩ => show win0_0.index t 1 * 5120 + 1 * q.val = q.val; rw [(place0 t).2]; omega

theorem iblk1 (c : Dev nD) (t : Fin cfg0.N) (h : 0 < (grid0.coords t 0).val) (k : Fin 16) (q : Fin 1024) : (iblk m c 1 t : Vec Ideal S16x1024 .bf16) (ix2 k q)
    = az m c (ix2 ⟨256 * (grid0.coords t 0).val + k.val - 16, by have := point_lt (grid0.coords t); omega⟩ ⟨1024 + q.val, by omega⟩) := by
  unfold iblk
  rw [View.read_apply]
  show V m c main_arg0 _ = m ((c : Thread nD τ).loc main_arg0) _
  rw [V_main_arg0]
  congr 1
  funext a
  apply Fin.ext
  rw [point t] at h
  match a with
  | ⟨0, _⟩ => show win0_1.index t 0 * 16 + 1 * k.val = 256 * (grid0.coords t 0).val + k.val - 16; rw [(place1 t).1, point t]; omega
  | ⟨1, _⟩ => show win0_1.index t 1 * 1024 + 1 * q.val = 1024 + q.val; rw [(place1 t).2]; omega

theorem iblk2 (c : Dev nD) (t : Fin cfg0.N) (h : 0 < (grid0.coords t 0).val) (k : Fin 16) (q : Fin 1024) : (iblk m c 2 t : Vec Ideal S16x1024 .bf16) (ix2 k q)
    = az m c (ix2 ⟨256 * (grid0.coords t 0).val + k.val - 16, by have := point_lt (grid0.coords t); omega⟩ ⟨2048 + q.val, by omega⟩) := by
  unfold iblk
  rw [View.read_apply]
  show V m c main_arg0 _ = m ((c : Thread nD τ).loc main_arg0) _
  rw [V_main_arg0]
  congr 1
  funext a
  apply Fin.ext
  rw [point t] at h
  match a with
  | ⟨0, _⟩ => show win0_2.index t 0 * 16 + 1 * k.val = 256 * (grid0.coords t 0).val + k.val - 16; rw [(place2 t).1, point t]; omega
  | ⟨1, _⟩ => show win0_2.index t 1 * 1024 + 1 * q.val = 2048 + q.val; rw [(place2 t).2]; omega

/-- The padded taps' first three rows are the taps. -/
theorem iblk3 (c : Dev nD) (t : Fin cfg0.N) (k : Fin 3) (q : Fin 1024) :
    (iblk m c 3 t : Vec Ideal S8x1024 .f32) (ix2 ⟨k.val, by omega⟩ q) = at' m c (ix2 k q) := by
  unfold iblk
  rw [View.read_apply]
  show V m c main_v0 _ = _
  rw [taps_host]
  refine pad_apply_of_inside ![0, 0] ![5, 0] ![0, 0] (at' m c) _ _ _ _ (ix2 k q) fun a => ?_
  match a with
  | ⟨0, _⟩ => show win0_3.index t 0 * 8 + 1 * k.val = 0 + k.val * (0 + 1); rw [(place3 t).1]; omega
  | ⟨1, _⟩ => show win0_3.index t 1 * 1024 + 1 * q.val = 0 + q.val * (0 + 1); rw [(place3 t).2]; omega

theorem iblk4 (c : Dev nD) (t : Fin cfg0.N) : (iblk m c 4 t : Vec Ideal S1x1024 .f32) = acb m c := by
  funext j
  unfold iblk
  rw [View.read_apply]
  show V m c main_arg2 _ = m ((c : Thread nD τ).loc main_arg2) _
  rw [V_main_arg2]
  congr 1
  funext a
  apply Fin.ext
  match a with
  | ⟨0, _⟩ => show win0_4.index t 0 * 1 + 1 * (j 0).val = (j 0).val; rw [(place4 t).1]; omega
  | ⟨1, _⟩ => show win0_4.index t 1 * 1024 + 1 * (j 1).val = (j 1).val; rw [(place4 t).2]; omega

theorem iblk5 (c : Dev nD) (t : Fin cfg0.N) : (iblk m c 5 t : Vec Ideal S1x1024 .f32) = ag m c := by
  funext j
  unfold iblk
  rw [View.read_apply]
  show V m c main_arg3 _ = m ((c : Thread nD τ).loc main_arg3) _
  rw [V_main_arg3]
  congr 1
  funext a
  apply Fin.ext
  match a with
  | ⟨0, _⟩ => show win0_5.index t 0 * 1 + 1 * (j 0).val = (j 0).val; rw [(place5 t).1]; omega
  | ⟨1, _⟩ => show win0_5.index t 1 * 1024 + 1 * (j 1).val = (j 1).val; rw [(place5 t).2]; omega

theorem iblk6 (c : Dev nD) (t : Fin cfg0.N) : (iblk m c 6 t : Vec Ideal S8x128x128 .f32) = aw m c := by
  funext j
  unfold iblk
  rw [View.read_apply]
  show V m c main_arg4 _ = m ((c : Thread nD τ).loc main_arg4) _
  rw [V_main_arg4]
  congr 1
  funext a
  apply Fin.ext
  match a with
  | ⟨0, _⟩ => show win0_6.index t 0 * 8 + 1 * (j 0).val = (j 0).val; rw [(place6 t).1]; omega
  | ⟨1, _⟩ => show win0_6.index t 1 * 128 + 1 * (j 1).val = (j 1).val; rw [(place6 t).2.1]; omega
  | ⟨2, _⟩ => show win0_6.index t 2 * 128 + 1 * (j 2).val = (j 2).val; rw [(place6 t).2.2]; omega

theorem iblk7 (c : Dev nD) (t : Fin cfg0.N) (k : Fin 128) (h : Fin 8) : (iblk m c 7 t : Vec Ideal S128x8 .f32) (ix2 k h) = ab m c (ix2 h k) := by
  have e : (transpose S128x8 [1, 0] (ab m c) transposes_S8x128_S128x8_1_0 : Vec Ideal S128x8 .f32) (ix2 k h) = ab m c (ix2 h k) := by pointwise []
  rw [← e, ← bias_host]
  unfold iblk
  rw [View.read_apply]
  show V m c main_v1 _ = V m c main_v1 _
  congr 1
  funext a
  apply Fin.ext
  match a with
  | ⟨0, _⟩ => show win0_7.index t 0 * 128 + 1 * k.val = k.val; rw [(place7 t).1]; omega
  | ⟨1, _⟩ => show win0_7.index t 1 * 8 + 1 * h.val = h.val; rw [(place7 t).2]; omega

theorem parts (c : Dev nD) (t : Fin cfg0.N) :
    Parts (grid0.coords t) (az m c) (at' m c) (ab m c) (iblk m c 0 t) (iblk m c 1 t) (iblk m c 2 t) (iblk m c 3 t) (iblk m c 7 t) where
  h0 := iblk0 m c t
  h1 := iblk1 m c t
  h2 := iblk2 m c t
  h3 := iblk3 m c t
  h7 := iblk7 m c t

theorem final (c : Dev nD) : (dats m 0 c).arrAt 8 cfg0.N = yAll (az m c) (at' m c) (acb m c) (ag m c) (aw m c) (ab m c) := by
  refine (dats m 0 c).arrAt_eq_of_covers 8 _ (by decide +kernel) fun t hf y => ?_
  blk_simp
  rw [after0_8, block_eq m c t _ _ _ (parts m c t), iblk4, iblk5, iblk6]
  show yAll (az m c) (at' m c) (acb m c) (ag m c) (aw m c) (ab m c) (ix2 (rowAt (grid0.coords t) (y 0)) (y 1)) = _
  refine congrArg (yAll (az m c) (at' m c) (acb m c) (ag m c) (aw m c) (ab m c)) ?_
  blk_ext [place8 t]
  show 256 * (grid0.coords t 0).val + (y 0).val = _
  rw [point t]; omega

section Reference

open Cert.MixFwdRefIdeal.Read

variable (z : Vec Ideal S4096x5120 .bf16) (taps : Vec Ideal S3x1024 .f32) (cb g : Vec Ideal S1x1024 .f32) (w : Vec Ideal S8x128x128 .f32)
  (b : Vec Ideal S8x128 .f32)

theorem v33_at (R : Fin 4096) (q : Fin 1024) : val_main_v33 (F := Ideal) z taps cb (ix3 0 R q) = conv z taps cb R q :=
  Cert.MixerGrad.Ref.v35_at z taps cb R q
theorem v61_at (N : Fin 32) (h : Fin 8) (k d : Fin 128) : val_main_v61 (F := Ideal) z g w b (ix3 0 (row N k) (col h d)) = gate z g w b N h k d :=
  Cert.MixerGrad.Ref.v66_at z g w b N h k d
theorem v34_at (R : Fin 4096) (q : Fin 1024) : val_main_v34 (F := Ideal) z taps cb (ix3 0 R q) = z (ix2 R ⟨q.val, by omega⟩) * conv z taps cb R q := by
  pointwise [val_main_v34, val_main_v4, val_main_v2, val_main_v1, val_main_v0]
  rw [v33_at]
theorem v62_at (N : Fin 32) (h : Fin 8) (k d : Fin 128) : val_main_v62 (F := Ideal) z g w b (ix3 0 (row N k) (col h d))
    = z (ix2 (row N k) ⟨3072 + (col h d).val, by omega⟩) * gate z g w b N h k d := by
  pointwise [val_main_v62, val_main_v7, val_main_v2, val_main_v1, val_main_v0]
  rw [v61_at]
theorem v65_at (R : Fin 4096) (q : Fin 2048) : val_main_v65 (F := Ideal) z taps cb g w b (ix2 R q)
    = if h : q.val < 1024 then val_main_v34 (F := Ideal) z taps cb (ix3 0 R ⟨q.val, h⟩)
      else val_main_v62 (F := Ideal) z g w b (ix3 0 R ⟨q.val - 1024, by omega⟩) := by
  pointwise [val_main_v65, val_main_v64, val_main_v63]

theorem ref_eq : val_main_v65 (F := Ideal) z taps cb g w b = yAll z taps cb g w b := by
  funext y
  obtain ⟨R, q, rfl⟩ : ∃ (R : Fin 4096) (q : Fin 2048), y = ix2 R q := Cert.MixerGrad.idx2 y
  rw [v65_at]
  by_cases h1 : q.val < 1024
  · rw [dif_pos h1, v34_at]
    exact (yAll_conv z taps cb g w b R ⟨q.val, h1⟩).symm
  · rw [dif_neg h1, Cert.MixerGrad.Ref.rowOf R, Cert.MixerGrad.Ref.colOf ⟨q.val - 1024, by omega⟩, v62_at]
    refine (yAll_gate z taps cb g w b _ _ _ _).symm.trans (congrArg (fun k => yAll z taps cb g w b (ix2 (row _ _) k)) (Fin.ext ?_))
    show 1024 + (128 * ((q.val - 1024) / 128) + (q.val - 1024) % 128) = q.val
    omega

end Reference

theorem algebraic : Cert.algebraic_MixFwdIdeal_MixFwdRefIdeal := by
  intro m g m' g' _ hargs
  refine ⟨fun c => yAll (az m c) (at' m c) (acb m c) (ag m c) (aw m c) (ab m c), ?_, ?_⟩
  · refine (θ_run _ _ _).mono (fun r h c => ?_) (Cert.MixFwdIdeal.Value.run_blocks m g)
    obtain ⟨hy, hk⟩ := h c
    exact ⟨hy.trans (final m c), hk⟩
  · refine (θ_run _ _ _).mono (fun r h c => ?_) (Cert.MixFwdRefIdeal.Value.run m' g')
    obtain ⟨hy, hk⟩ := h c
    obtain ⟨e0, e1, e2, e3, e4, e5⟩ := hargs c
    refine ⟨hy.trans ?_, hk⟩
    rw [Cert.MixFwdRefIdeal.Read.val_main_v65_eq, e0, e1, e2, e3, e4, e5]
    exact ref_eq _ _ _ _ _ _

/-- The reference runs, leaves its arguments, and declares no semaphore. -/
theorem frame_ref : Cert.quiescent_MixFwdRefIdeal := fun m g _ =>
  (θ_run _ _ _).mono (fun r h => ⟨fun c => (h c).2, sem_eq_zero_of_no_sems (by decide) r.2⟩) (Cert.MixFwdRefIdeal.Value.run m g)

end Cert.MixForward
-- ==== Proof.lean ====
/-
  The certificate's claim, put together from the runs of the programs and the modules under `Proof/`.
-/
module

public import proofs.«01_k».proof.Defs
public import proofs.«01_k».proof.Proof.Gen.Kernel.Frame
public import proofs.«01_k».proof.Proof.Gen.KernelIdeal.Frame
public import proofs.«01_k».proof.Proof.Attn.Claim

public import proofs.«01_k».proof.Proof.Gen.GateIdeal.Value
public import proofs.«01_k».proof.Proof.Gen.GateRefIdeal.Run
public import proofs.«01_k».proof.Proof.Gen.GateRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.DnHalvesIdeal.Value
public import proofs.«01_k».proof.Proof.Gen.DnHalvesRefIdeal.Run
public import proofs.«01_k».proof.Proof.Gen.DnHalvesRefIdeal.Read
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.Gate.Claim
public import proofs.«01_k».proof.Proof.Gate.Forward
public import proofs.«01_k».proof.Proof.Norm.Claim
public import proofs.«01_k».proof.Proof.Product.DwIn
public import proofs.«01_k».proof.Proof.Product.DwOut
public import proofs.«01_k».proof.Proof.Product.FfnOut
public import proofs.«01_k».proof.Proof.DnHalves.Array
public import proofs.«01_k».proof.Proof.Gen.Gate.Frame
public import proofs.«01_k».proof.Proof.Gen.Norm.Frame
public import proofs.«01_k».proof.Proof.Gen.DwIn.Frame
public import proofs.«01_k».proof.Proof.Gen.DwOut.Frame
public import proofs.«01_k».proof.Proof.Gen.DnHalves.Frame
public import proofs.«01_k».proof.Proof.Gen.GateFwd.Frame
public import proofs.«01_k».proof.Proof.Gen.FfnOut.Frame
public import proofs.«01_k».proof.Proof.Mixer.Claim
public import proofs.«01_k».proof.Proof.Product.MixIn
public import proofs.«01_k».proof.Proof.Gen.MixIn.Frame
public import proofs.«01_k».proof.Proof.Product.MixDw
public import proofs.«01_k».proof.Proof.Gen.MixDw.Frame
public import proofs.«01_k».proof.Proof.Product.OutDw
public import proofs.«01_k».proof.Proof.Gen.OutDw.Frame
public import proofs.«01_k».proof.Proof.Product.OutDx
public import proofs.«01_k».proof.Proof.Gen.OutDx.Frame
public import proofs.«01_k».proof.Proof.Product.OutSum
public import proofs.«01_k».proof.Proof.Gen.OutSum.Frame
public import proofs.«01_k».proof.Proof.Product.Query
public import proofs.«01_k».proof.Proof.Gen.Query.Frame
public import proofs.«01_k».proof.Proof.Gate.Halves
public import proofs.«01_k».proof.Proof.Gen.FfnHalves.Frame
public import proofs.«01_k».proof.Proof.Product.Half
public import proofs.«01_k».proof.Proof.Product.Kept
public import proofs.«01_k».proof.Proof.Product.Sent
public import proofs.«01_k».proof.Proof.Norm.MixArray
public import proofs.«01_k».proof.Proof.Gen.MixDx.Frame
public import proofs.«01_k».proof.Proof.Norm.QueryArray
public import proofs.«01_k».proof.Proof.Gen.QueryDx.Frame
public import proofs.«01_k».proof.Proof.Product.MemIn
public import proofs.«01_k».proof.Proof.Gen.MemIn.Frame
public import proofs.«01_k».proof.Proof.Product.MemDx
public import proofs.«01_k».proof.Proof.Gen.MemDx.Frame
public import proofs.«01_k».proof.Proof.Product.MemDw
public import proofs.«01_k».proof.Proof.Gen.MemDw.Frame
public import proofs.«01_k».proof.Proof.Norm.FirstArray
public import proofs.«01_k».proof.Proof.Gen.NormBwd.Frame
public import proofs.«01_k».proof.Proof.Norm.FirstForward
public import proofs.«01_k».proof.Proof.Gen.NormFwd.Frame
public import proofs.«01_k».proof.Proof.Norm.MemoryForward
public import proofs.«01_k».proof.Proof.Gen.MemNorm.Frame
public import proofs.«01_k».proof.Proof.Norm.MemoryGain
public import proofs.«01_k».proof.Proof.Gen.GainGrad.Frame
public import proofs.«01_k».proof.Proof.Attn.Forward
public import proofs.«01_k».proof.Proof.Gen.AttnFwd.Frame
public import proofs.«01_k».proof.Proof.Gen.MixFwd.Frame
public import proofs.«01_k».proof.Proof.Gen.MixFwdRefIdeal.Run
public import proofs.«01_k».proof.Proof.Gen.MixFwdRefIdeal.Read
public import proofs.«01_k».proof.Proof.Mixer.Forward

@[expose] public section

noncomputable section

namespace Cert.Proof

theorem claim : Cert.Claim := ⟨Cert.Kernel.Gen.facts, Cert.KernelIdeal.Gen.facts, Cert.ReferenceIdeal.Gen.facts, Cert.Gate.Gen.facts, Cert.GateIdeal.Gen.facts, Cert.GateRefIdeal.Gen.facts, Cert.Norm.Gen.facts, Cert.NormIdeal.Gen.facts, Cert.NormRefIdeal.Gen.facts, Cert.DwIn.Gen.facts, Cert.DwInIdeal.Gen.facts, Cert.DwInRefIdeal.Gen.facts, Cert.DwOut.Gen.facts, Cert.DwOutIdeal.Gen.facts, Cert.DwOutRefIdeal.Gen.facts, Cert.DnHalves.Gen.facts, Cert.DnHalvesIdeal.Gen.facts, Cert.DnHalvesRefIdeal.Gen.facts, Cert.GateFwd.Gen.facts, Cert.GateFwdIdeal.Gen.facts, Cert.GateFwdRefIdeal.Gen.facts, Cert.FfnOut.Gen.facts, Cert.FfnOutIdeal.Gen.facts, Cert.FfnOutRefIdeal.Gen.facts, Cert.Mixer.Gen.facts, Cert.MixerIdeal.Gen.facts, Cert.MixerRefIdeal.Gen.facts, Cert.MixIn.Gen.facts, Cert.MixInIdeal.Gen.facts, Cert.MixInRefIdeal.Gen.facts, Cert.MixDw.Gen.facts, Cert.MixDwIdeal.Gen.facts, Cert.MixDwRefIdeal.Gen.facts, Cert.MixDx.Gen.facts, Cert.MixDxIdeal.Gen.facts, Cert.MixDxRefIdeal.Gen.facts, Cert.Query.Gen.facts, Cert.QueryIdeal.Gen.facts, Cert.QueryRefIdeal.Gen.facts, Cert.QueryDx.Gen.facts, Cert.QueryDxIdeal.Gen.facts, Cert.QueryDxRefIdeal.Gen.facts, Cert.OutSum.Gen.facts, Cert.OutSumIdeal.Gen.facts, Cert.OutSumRefIdeal.Gen.facts, Cert.OutDx.Gen.facts, Cert.OutDxIdeal.Gen.facts, Cert.OutDxRefIdeal.Gen.facts, Cert.OutDw.Gen.facts, Cert.OutDwIdeal.Gen.facts, Cert.OutDwRefIdeal.Gen.facts, Cert.FfnHalves.Gen.facts, Cert.FfnHalvesIdeal.Gen.facts, Cert.FfnHalvesRefIdeal.Gen.facts, Cert.DwMine.Gen.facts, Cert.DwMineIdeal.Gen.facts, Cert.DwMineRefIdeal.Gen.facts, Cert.DwTheirs.Gen.facts, Cert.DwTheirsIdeal.Gen.facts, Cert.DwTheirsRefIdeal.Gen.facts, Cert.NormBwd.Gen.facts, Cert.NormBwdIdeal.Gen.facts, Cert.NormBwdRefIdeal.Gen.facts, Cert.GainGrad.Gen.facts, Cert.GainGradIdeal.Gen.facts, Cert.GainGradRefIdeal.Gen.facts, Cert.MemDw.Gen.facts, Cert.MemDwIdeal.Gen.facts, Cert.MemDwRefIdeal.Gen.facts, Cert.MemDx.Gen.facts, Cert.MemDxIdeal.Gen.facts, Cert.MemDxRefIdeal.Gen.facts, Cert.MemIn.Gen.facts, Cert.MemInIdeal.Gen.facts, Cert.MemInRefIdeal.Gen.facts, Cert.AttnFwd.Gen.facts, Cert.AttnFwdIdeal.Gen.facts, Cert.AttnFwdRefIdeal.Gen.facts, Cert.MixFwd.Gen.facts, Cert.MixFwdIdeal.Gen.facts, Cert.MixFwdRefIdeal.Gen.facts, Cert.NormFwd.Gen.facts, Cert.NormFwdIdeal.Gen.facts, Cert.NormFwdRefIdeal.Gen.facts, Cert.MemNorm.Gen.facts, Cert.MemNormIdeal.Gen.facts, Cert.MemNormRefIdeal.Gen.facts, Cert.Attn.preFacts, Cert.GateGrad.preFacts, Cert.HalfGrad.preFacts,
  fun m g _ => Cert.Kernel.Gen.frame m g,
  fun m g _ => Cert.KernelIdeal.Gen.frame m g,
  fun m g _ => Cert.KernelIdeal.Gen.frame m g,
  Cert.Attn.frame_ref,
  fun m g _ => Cert.Attn.frame_ref m g trivial,
  fun m g _ => Cert.Gate.Gen.frame m g,
  fun m g _ => Cert.GateIdeal.Gen.frame m g,
  fun m g _ => Cert.GateIdeal.Gen.frame m g,
  Cert.GateGrad.frame_ref,
  fun m g _ => Cert.GateGrad.frame_ref m g trivial,
  fun m g _ => Cert.Norm.Gen.frame m g,
  fun m g _ => Cert.NormIdeal.Gen.frame m g,
  Cert.NormGrad.frame_ref,
  fun m g _ => Cert.DwIn.Gen.frame m g,
  fun m g _ => Cert.DwInIdeal.Gen.frame m g,
  Cert.DwInGrad.frame_ref,
  fun m g _ => Cert.DwOut.Gen.frame m g,
  fun m g _ => Cert.DwOutIdeal.Gen.frame m g,
  Cert.DwOutGrad.frame_ref,
  fun m g _ => Cert.DnHalves.Gen.frame m g,
  fun m g _ => Cert.DnHalvesIdeal.Gen.frame m g,
  Cert.DnFromHalves.frame_ref,
  fun m g _ => Cert.GateFwd.Gen.frame m g,
  fun m g _ => Cert.GateFwdIdeal.Gen.frame m g,
  Cert.GateForward.frame_ref,
  fun m g _ => Cert.FfnOut.Gen.frame m g,
  fun m g _ => Cert.FfnOutIdeal.Gen.frame m g,
  Cert.FfnSum.frame_ref,
  Cert.MixerGrad.frame_word,
  fun m g _ => Cert.MixerGrad.frame m g,
  Cert.MixerGrad.frame_ref,
  fun m g _ => Cert.MixIn.Gen.frame m g,
  fun m g _ => Cert.MixInIdeal.Gen.frame m g,
  Cert.MixInput.frame_ref,
  fun m g _ => Cert.MixDw.Gen.frame m g,
  fun m g _ => Cert.MixDwIdeal.Gen.frame m g,
  Cert.MixInGrad.frame_ref,
  fun m g _ => Cert.MixDx.Gen.frame m g,
  fun m g _ => Cert.MixDxIdeal.Gen.frame m g,
  Cert.MixNorm.frame_ref,
  fun m g _ => Cert.Query.Gen.frame m g,
  fun m g _ => Cert.QueryIdeal.Gen.frame m g,
  Cert.QueryInput.frame_ref,
  fun m g _ => Cert.QueryDx.Gen.frame m g,
  fun m g _ => Cert.QueryDxIdeal.Gen.frame m g,
  Cert.QueryNorm.frame_ref,
  fun m g _ => Cert.OutSum.Gen.frame m g,
  fun m g _ => Cert.OutSumIdeal.Gen.frame m g,
  Cert.SquareSum.frame_ref,
  fun m g _ => Cert.OutDx.Gen.frame m g,
  fun m g _ => Cert.OutDxIdeal.Gen.frame m g,
  Cert.SquareBack.frame_ref,
  fun m g _ => Cert.OutDw.Gen.frame m g,
  fun m g _ => Cert.OutDwIdeal.Gen.frame m g,
  Cert.SquareGrad.frame_ref,
  fun m g _ => Cert.FfnHalves.Gen.frame m g,
  fun m g _ => Cert.FfnHalvesIdeal.Gen.frame m g,
  Cert.FfnTwoHalves.frame_ref,
  Cert.KeptHalf.frame_word,
  Cert.KeptHalf.frame_ideal,
  Cert.KeptHalf.frame_ref,
  fun m g _ => Cert.KeptHalf.frame_ref m g trivial,
  Cert.SentHalf.frame_word,
  Cert.SentHalf.frame_ideal,
  Cert.SentHalf.frame_ref,
  fun m g _ => Cert.SentHalf.frame_ref m g trivial,
  fun m g _ => Cert.NormBwd.Gen.frame m g,
  fun m g _ => Cert.NormBwdIdeal.Gen.frame m g,
  Cert.FirstNorm.frame_ref,
  fun m g _ => Cert.GainGrad.Gen.frame m g,
  fun m g _ => Cert.GainGradIdeal.Gen.frame m g,
  Cert.MemoryGain.frame_ref,
  fun m g _ => Cert.MemDw.Gen.frame m g,
  fun m g _ => Cert.MemDwIdeal.Gen.frame m g,
  Cert.MemoryGrad.frame_ref,
  fun m g _ => Cert.MemDx.Gen.frame m g,
  fun m g _ => Cert.MemDxIdeal.Gen.frame m g,
  Cert.MemoryBack.frame_ref,
  fun m g _ => Cert.MemIn.Gen.frame m g,
  fun m g _ => Cert.MemInIdeal.Gen.frame m g,
  Cert.MemoryInput.frame_ref,
  fun m g _ => Cert.AttnFwd.Gen.frame m g,
  fun m g _ => Cert.AttnFwdIdeal.Gen.frame m g,
  Cert.AttnForward.frame_ref,
  fun m g _ => Cert.MixFwd.Gen.frame m g,
  fun m g _ => Cert.MixFwdIdeal.Gen.frame m g,
  Cert.MixForward.frame_ref,
  fun m g _ => Cert.NormFwd.Gen.frame m g,
  fun m g _ => Cert.NormFwdIdeal.Gen.frame m g,
  Cert.NormForward.frame_ref,
  fun m g _ => Cert.MemNorm.Gen.frame m g,
  fun m g _ => Cert.MemNormIdeal.Gen.frame m g,
  Cert.MemoryNorm.frame_ref,
  trivial,
  Cert.Attn.algebraic,
  trivial,
  Cert.GateGrad.algebraic,
  trivial,
  Cert.NormGrad.algebraic,
  trivial,
  Cert.DwInGrad.algebraic,
  trivial,
  Cert.DwOutGrad.algebraic,
  trivial,
  Cert.DnFromHalves.algebraic,
  trivial,
  Cert.GateForward.algebraic,
  trivial,
  Cert.FfnSum.algebraic,
  trivial,
  Cert.MixerGrad.algebraic,
  trivial,
  Cert.MixInput.algebraic,
  trivial,
  Cert.MixInGrad.algebraic,
  trivial,
  Cert.MixNorm.algebraic,
  trivial,
  Cert.QueryInput.algebraic,
  trivial,
  Cert.QueryNorm.algebraic,
  trivial,
  Cert.SquareSum.algebraic,
  trivial,
  Cert.SquareBack.algebraic,
  trivial,
  Cert.SquareGrad.algebraic,
  trivial,
  Cert.FfnTwoHalves.algebraic,
  trivial,
  Cert.KeptHalf.algebraic,
  trivial,
  Cert.SentHalf.algebraic,
  trivial,
  Cert.FirstNorm.algebraic,
  trivial,
  Cert.MemoryGain.algebraic,
  trivial,
  Cert.MemoryGrad.algebraic,
  trivial,
  Cert.MemoryBack.algebraic,
  trivial,
  Cert.MemoryInput.algebraic,
  trivial,
  Cert.AttnForward.algebraic,
  trivial,
  Cert.MixForward.algebraic,
  trivial,
  Cert.NormForward.algebraic,
  trivial,
  Cert.MemoryNorm.algebraic⟩

end Cert.Proof

end
